-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelDownLat (m : (ℓ : Loc Cert.KernelDownLat.nD Cert.KernelDownLat.τ Cert.KernelDownLat.sig) → Buf (Elt Bits) ℓ) : Prop :=
  True

def Pre_KernelDownLatIdeal (m : (ℓ : Loc Cert.KernelDownLatIdeal.nD Cert.KernelDownLatIdeal.τ Cert.KernelDownLatIdeal.sig) → Buf (Elt Ideal) ℓ) : Prop :=
  True

def Pre_ReferenceDownLatIdeal (m : (ℓ : Loc Cert.ReferenceDownLatIdeal.nD Cert.ReferenceDownLatIdeal.τ Cert.ReferenceDownLatIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelMlaOut (m : (ℓ : Loc Cert.KernelMlaOut.nD Cert.KernelMlaOut.τ Cert.KernelMlaOut.sig) → Buf (Elt Bits) ℓ) : Prop :=
  True

def Pre_KernelMlaOutIdeal (m : (ℓ : Loc Cert.KernelMlaOutIdeal.nD Cert.KernelMlaOutIdeal.τ Cert.KernelMlaOutIdeal.sig) → Buf (Elt Ideal) ℓ) : Prop :=
  True

def Pre_ReferenceMlaOutIdeal (m : (ℓ : Loc Cert.ReferenceMlaOutIdeal.nD Cert.ReferenceMlaOutIdeal.τ Cert.ReferenceMlaOutIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelUpLat (m : (ℓ : Loc Cert.KernelUpLat.nD Cert.KernelUpLat.τ Cert.KernelUpLat.sig) → Buf (Elt Bits) ℓ) : Prop :=
  True

def Pre_KernelUpLatIdeal (m : (ℓ : Loc Cert.KernelUpLatIdeal.nD Cert.KernelUpLatIdeal.τ Cert.KernelUpLatIdeal.sig) → Buf (Elt Ideal) ℓ) : Prop :=
  True

def Pre_ReferenceUpLatIdeal (m : (ℓ : Loc Cert.ReferenceUpLatIdeal.nD Cert.ReferenceUpLatIdeal.τ Cert.ReferenceUpLatIdeal.sig) → Buf (Elt Ideal) ℓ) : Prop :=
  True

def Pre_KernelRkv (m : (ℓ : Loc Cert.KernelRkv.nD Cert.KernelRkv.τ Cert.KernelRkv.sig) → Buf (Elt Bits) ℓ) : Prop :=
  True

def Pre_KernelRkvIdeal (m : (ℓ : Loc Cert.KernelRkvIdeal.nD Cert.KernelRkvIdeal.τ Cert.KernelRkvIdeal.sig) → Buf (Elt Ideal) ℓ) : Prop :=
  True

def Pre_ReferenceRkvIdeal (m : (ℓ : Loc Cert.ReferenceRkvIdeal.nD Cert.ReferenceRkvIdeal.τ Cert.ReferenceRkvIdeal.sig) → Buf (Elt Ideal) ℓ) : Prop :=
  True

def Pre_KernelKvUp (m : (ℓ : Loc Cert.KernelKvUp.nD Cert.KernelKvUp.τ Cert.KernelKvUp.sig) → Buf (Elt Bits) ℓ) : Prop :=
  True

def Pre_KernelKvUpIdeal (m : (ℓ : Loc Cert.KernelKvUpIdeal.nD Cert.KernelKvUpIdeal.τ Cert.KernelKvUpIdeal.sig) → Buf (Elt Ideal) ℓ) : Prop :=
  True

def Pre_ReferenceKvUpIdeal (m : (ℓ : Loc Cert.ReferenceKvUpIdeal.nD Cert.ReferenceKvUpIdeal.τ Cert.ReferenceKvUpIdeal.sig) → Buf (Elt Ideal) ℓ) : Prop :=
  True

def Pre_KernelGate (m : (ℓ : Loc Cert.KernelGate.nD Cert.KernelGate.τ Cert.KernelGate.sig) → Buf (Elt Bits) ℓ) : Prop :=
  True

def Pre_KernelGateIdeal (m : (ℓ : Loc Cert.KernelGateIdeal.nD Cert.KernelGateIdeal.τ Cert.KernelGateIdeal.sig) → Buf (Elt Ideal) ℓ) : Prop :=
  True

def Pre_ReferenceGateIdeal (m : (ℓ : Loc Cert.ReferenceGateIdeal.nD Cert.ReferenceGateIdeal.τ Cert.ReferenceGateIdeal.sig) → Buf (Elt Ideal) ℓ) : Prop :=
  True

def Pre_KernelMlaDown (m : (ℓ : Loc Cert.KernelMlaDown.nD Cert.KernelMlaDown.τ Cert.KernelMlaDown.sig) → Buf (Elt Bits) ℓ) : Prop :=
  True

def Pre_KernelMlaDownIdeal (m : (ℓ : Loc Cert.KernelMlaDownIdeal.nD Cert.KernelMlaDownIdeal.τ Cert.KernelMlaDownIdeal.sig) → Buf (Elt Ideal) ℓ) : Prop :=
  True

def Pre_ReferenceMlaDownIdeal (m : (ℓ : Loc Cert.ReferenceMlaDownIdeal.nD Cert.ReferenceMlaDownIdeal.τ Cert.ReferenceMlaDownIdeal.sig) → Buf (Elt Ideal) ℓ) : Prop :=
  True

def Pre_KernelQUp (m : (ℓ : Loc Cert.KernelQUp.nD Cert.KernelQUp.τ Cert.KernelQUp.sig) → Buf (Elt Bits) ℓ) : Prop :=
  True

def Pre_KernelQUpIdeal (m : (ℓ : Loc Cert.KernelQUpIdeal.nD Cert.KernelQUpIdeal.τ Cert.KernelQUpIdeal.sig) → Buf (Elt Ideal) ℓ) : Prop :=
  True

def Pre_ReferenceQUpIdeal (m : (ℓ : Loc Cert.ReferenceQUpIdeal.nD Cert.ReferenceQUpIdeal.τ Cert.ReferenceQUpIdeal.sig) → Buf (Elt Ideal) ℓ) : Prop :=
  True

def Pre_KernelDecay (m : (ℓ : Loc Cert.KernelDecay.nD Cert.KernelDecay.τ Cert.KernelDecay.sig) → Buf (Elt Bits) ℓ) : Prop :=
  True

def Pre_KernelDecayIdeal (m : (ℓ : Loc Cert.KernelDecayIdeal.nD Cert.KernelDecayIdeal.τ Cert.KernelDecayIdeal.sig) → Buf (Elt Ideal) ℓ) : Prop :=
  True

def Pre_ReferenceDecayIdeal (m : (ℓ : Loc Cert.ReferenceDecayIdeal.nD Cert.ReferenceDecayIdeal.τ Cert.ReferenceDecayIdeal.sig) → Buf (Elt Ideal) ℓ) : Prop :=
  True

def Pre_KernelIclr (m : (ℓ : Loc Cert.KernelIclr.nD Cert.KernelIclr.τ Cert.KernelIclr.sig) → Buf (Elt Bits) ℓ) : Prop :=
  True

def Pre_KernelIclrIdeal (m : (ℓ : Loc Cert.KernelIclrIdeal.nD Cert.KernelIclrIdeal.τ Cert.KernelIclrIdeal.sig) → Buf (Elt Ideal) ℓ) : Prop :=
  True

def Pre_ReferenceIclrIdeal (m : (ℓ : Loc Cert.ReferenceIclrIdeal.nD Cert.ReferenceIclrIdeal.τ Cert.ReferenceIclrIdeal.sig) → Buf (Elt Ideal) ℓ) : Prop :=
  True

def Pre_KernelLora (m : (ℓ : Loc Cert.KernelLora.nD Cert.KernelLora.τ Cert.KernelLora.sig) → Buf (Elt Bits) ℓ) : Prop :=
  True

def Pre_KernelLoraIdeal (m : (ℓ : Loc Cert.KernelLoraIdeal.nD Cert.KernelLoraIdeal.τ Cert.KernelLoraIdeal.sig) → Buf (Elt Ideal) ℓ) : Prop :=
  True

def Pre_ReferenceLoraIdeal (m : (ℓ : Loc Cert.ReferenceLoraIdeal.nD Cert.ReferenceLoraIdeal.τ Cert.ReferenceLoraIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2)
      ∧ r.2.mem ((c.tc : Thread Cert.KernelDown.nD Cert.KernelDown.τ).loc Cert.KernelDown.main_arg3) = m ((c.tc : Thread Cert.KernelDown.nD Cert.KernelDown.τ).loc Cert.KernelDown.main_arg3))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3))
      ∧ r.2.sem = fun _ => 0)

def quiescent_KernelDownLat [hKernelDownLat : Cert.KernelDownLat.Facts] : Prop :=
  ∀ (m : (ℓ : Loc Cert.KernelDownLat.nD Cert.KernelDownLat.τ Cert.KernelDownLat.sig) → Buf (Elt Bits) ℓ) (g : Dev Cert.KernelDownLat.nD → PrngReg), Pre_KernelDownLat m →
    θ_run (Cert.KernelDownLat.defs (F := Bits)) (onTc (τ := Cert.KernelDownLat.τ) (Cert.KernelDownLat.main (F := Bits))) ⟨m, fun _ => 0, g⟩ (fun r => (∀ c : Dev Cert.KernelDownLat.nD,
      r.2.mem ((c.tc : Thread Cert.KernelDownLat.nD Cert.KernelDownLat.τ).loc Cert.KernelDownLat.main_arg0) = m ((c.tc : Thread Cert.KernelDownLat.nD Cert.KernelDownLat.τ).loc Cert.KernelDownLat.main_arg0)
      ∧ r.2.mem ((c.tc : Thread Cert.KernelDownLat.nD Cert.KernelDownLat.τ).loc Cert.KernelDownLat.main_arg1) = m ((c.tc : Thread Cert.KernelDownLat.nD Cert.KernelDownLat.τ).loc Cert.KernelDownLat.main_arg1)
      ∧ r.2.mem ((c.tc : Thread Cert.KernelDownLat.nD Cert.KernelDownLat.τ).loc Cert.KernelDownLat.main_arg2) = m ((c.tc : Thread Cert.KernelDownLat.nD Cert.KernelDownLat.τ).loc Cert.KernelDownLat.main_arg2)
      ∧ r.2.mem ((c.tc : Thread Cert.KernelDownLat.nD Cert.KernelDownLat.τ).loc Cert.KernelDownLat.main_arg3) = m ((c.tc : Thread Cert.KernelDownLat.nD Cert.KernelDownLat.τ).loc Cert.KernelDownLat.main_arg3))
      ∧ r.2.sem = fun _ => 0)

def quiescent_KernelDownLatIdeal [hKernelDownLatIdeal : Cert.KernelDownLatIdeal.Facts] : Prop :=
  ∀ (m : (ℓ : Loc Cert.KernelDownLatIdeal.nD Cert.KernelDownLatIdeal.τ Cert.KernelDownLatIdeal.sig) → Buf (Elt Ideal) ℓ) (g : Dev Cert.KernelDownLatIdeal.nD → PrngReg), Pre_KernelDownLatIdeal m →
    θ_run (Cert.KernelDownLatIdeal.defs (F := Ideal)) (onTc (τ := Cert.KernelDownLatIdeal.τ) (Cert.KernelDownLatIdeal.main (F := Ideal))) ⟨m, fun _ => 0, g⟩ (fun r => (∀ c : Dev Cert.KernelDownLatIdeal.nD,
      r.2.mem ((c.tc : Thread Cert.KernelDownLatIdeal.nD Cert.KernelDownLatIdeal.τ).loc Cert.KernelDownLatIdeal.main_arg0) = m ((c.tc : Thread Cert.KernelDownLatIdeal.nD Cert.KernelDownLatIdeal.τ).loc Cert.KernelDownLatIdeal.main_arg0)
      ∧ r.2.mem ((c.tc : Thread Cert.KernelDownLatIdeal.nD Cert.KernelDownLatIdeal.τ).loc Cert.KernelDownLatIdeal.main_arg1) = m ((c.tc : Thread Cert.KernelDownLatIdeal.nD Cert.KernelDownLatIdeal.τ).loc Cert.KernelDownLatIdeal.main_arg1)
      ∧ r.2.mem ((c.tc : Thread Cert.KernelDownLatIdeal.nD Cert.KernelDownLatIdeal.τ).loc Cert.KernelDownLatIdeal.main_arg2) = m ((c.tc : Thread Cert.KernelDownLatIdeal.nD Cert.KernelDownLatIdeal.τ).loc Cert.KernelDownLatIdeal.main_arg2)
      ∧ r.2.mem ((c.tc : Thread Cert.KernelDownLatIdeal.nD Cert.KernelDownLatIdeal.τ).loc Cert.KernelDownLatIdeal.main_arg3) = m ((c.tc : Thread Cert.KernelDownLatIdeal.nD Cert.KernelDownLatIdeal.τ).loc Cert.KernelDownLatIdeal.main_arg3))
      ∧ r.2.sem = fun _ => 0)

def quiescent_ReferenceDownLatIdeal [hReferenceDownLatIdeal : Cert.ReferenceDownLatIdeal.Facts] : Prop :=
  ∀ (m : (ℓ : Loc Cert.ReferenceDownLatIdeal.nD Cert.ReferenceDownLatIdeal.τ Cert.ReferenceDownLatIdeal.sig) → Buf (Elt Ideal) ℓ) (g : Dev Cert.ReferenceDownLatIdeal.nD → PrngReg), Pre_ReferenceDownLatIdeal m →
    θ_run (Cert.ReferenceDownLatIdeal.defs (F := Ideal)) (onTc (τ := Cert.ReferenceDownLatIdeal.τ) (Cert.ReferenceDownLatIdeal.main (F := Ideal))) ⟨m, fun _ => 0, g⟩ (fun r => (∀ c : Dev Cert.ReferenceDownLatIdeal.nD,
      r.2.mem ((c.tc : Thread Cert.ReferenceDownLatIdeal.nD Cert.ReferenceDownLatIdeal.τ).loc Cert.ReferenceDownLatIdeal.main_arg0) = m ((c.tc : Thread Cert.ReferenceDownLatIdeal.nD Cert.ReferenceDownLatIdeal.τ).loc Cert.ReferenceDownLatIdeal.main_arg0)
      ∧ r.2.mem ((c.tc : Thread Cert.ReferenceDownLatIdeal.nD Cert.ReferenceDownLatIdeal.τ).loc Cert.ReferenceDownLatIdeal.main_arg1) = m ((c.tc : Thread Cert.ReferenceDownLatIdeal.nD Cert.ReferenceDownLatIdeal.τ).loc Cert.ReferenceDownLatIdeal.main_arg1)
      ∧ r.2.mem ((c.tc : Thread Cert.ReferenceDownLatIdeal.nD Cert.ReferenceDownLatIdeal.τ).loc Cert.ReferenceDownLatIdeal.main_arg2) = m ((c.tc : Thread Cert.ReferenceDownLatIdeal.nD Cert.ReferenceDownLatIdeal.τ).loc Cert.ReferenceDownLatIdeal.main_arg2)
      ∧ r.2.mem ((c.tc : Thread Cert.ReferenceDownLatIdeal.nD Cert.ReferenceDownLatIdeal.τ).loc Cert.ReferenceDownLatIdeal.main_arg3) = m ((c.tc : Thread Cert.ReferenceDownLatIdeal.nD Cert.ReferenceDownLatIdeal.τ).loc Cert.ReferenceDownLatIdeal.main_arg3))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3))
      ∧ r.2.sem = fun _ => 0)

def quiescent_KernelMlaOut [hKernelMlaOut : Cert.KernelMlaOut.Facts] : Prop :=
  ∀ (m : (ℓ : Loc Cert.KernelMlaOut.nD Cert.KernelMlaOut.τ Cert.KernelMlaOut.sig) → Buf (Elt Bits) ℓ) (g : Dev Cert.KernelMlaOut.nD → PrngReg), Pre_KernelMlaOut m →
    θ_run (Cert.KernelMlaOut.defs (F := Bits)) (onTc (τ := Cert.KernelMlaOut.τ) (Cert.KernelMlaOut.main (F := Bits))) ⟨m, fun _ => 0, g⟩ (fun r => (∀ c : Dev Cert.KernelMlaOut.nD,
      r.2.mem ((c.tc : Thread Cert.KernelMlaOut.nD Cert.KernelMlaOut.τ).loc Cert.KernelMlaOut.main_arg0) = m ((c.tc : Thread Cert.KernelMlaOut.nD Cert.KernelMlaOut.τ).loc Cert.KernelMlaOut.main_arg0)
      ∧ r.2.mem ((c.tc : Thread Cert.KernelMlaOut.nD Cert.KernelMlaOut.τ).loc Cert.KernelMlaOut.main_arg1) = m ((c.tc : Thread Cert.KernelMlaOut.nD Cert.KernelMlaOut.τ).loc Cert.KernelMlaOut.main_arg1)
      ∧ r.2.mem ((c.tc : Thread Cert.KernelMlaOut.nD Cert.KernelMlaOut.τ).loc Cert.KernelMlaOut.main_arg2) = m ((c.tc : Thread Cert.KernelMlaOut.nD Cert.KernelMlaOut.τ).loc Cert.KernelMlaOut.main_arg2)
      ∧ r.2.mem ((c.tc : Thread Cert.KernelMlaOut.nD Cert.KernelMlaOut.τ).loc Cert.KernelMlaOut.main_arg3) = m ((c.tc : Thread Cert.KernelMlaOut.nD Cert.KernelMlaOut.τ).loc Cert.KernelMlaOut.main_arg3))
      ∧ r.2.sem = fun _ => 0)

def quiescent_KernelMlaOutIdeal [hKernelMlaOutIdeal : Cert.KernelMlaOutIdeal.Facts] : Prop :=
  ∀ (m : (ℓ : Loc Cert.KernelMlaOutIdeal.nD Cert.KernelMlaOutIdeal.τ Cert.KernelMlaOutIdeal.sig) → Buf (Elt Ideal) ℓ) (g : Dev Cert.KernelMlaOutIdeal.nD → PrngReg), Pre_KernelMlaOutIdeal m →
    θ_run (Cert.KernelMlaOutIdeal.defs (F := Ideal)) (onTc (τ := Cert.KernelMlaOutIdeal.τ) (Cert.KernelMlaOutIdeal.main (F := Ideal))) ⟨m, fun _ => 0, g⟩ (fun r => (∀ c : Dev Cert.KernelMlaOutIdeal.nD,
      r.2.mem ((c.tc : Thread Cert.KernelMlaOutIdeal.nD Cert.KernelMlaOutIdeal.τ).loc Cert.KernelMlaOutIdeal.main_arg0) = m ((c.tc : Thread Cert.KernelMlaOutIdeal.nD Cert.KernelMlaOutIdeal.τ).loc Cert.KernelMlaOutIdeal.main_arg0)
      ∧ r.2.mem ((c.tc : Thread Cert.KernelMlaOutIdeal.nD Cert.KernelMlaOutIdeal.τ).loc Cert.KernelMlaOutIdeal.main_arg1) = m ((c.tc : Thread Cert.KernelMlaOutIdeal.nD Cert.KernelMlaOutIdeal.τ).loc Cert.KernelMlaOutIdeal.main_arg1)
      ∧ r.2.mem ((c.tc : Thread Cert.KernelMlaOutIdeal.nD Cert.KernelMlaOutIdeal.τ).loc Cert.KernelMlaOutIdeal.main_arg2) = m ((c.tc : Thread Cert.KernelMlaOutIdeal.nD Cert.KernelMlaOutIdeal.τ).loc Cert.KernelMlaOutIdeal.main_arg2)
      ∧ r.2.mem ((c.tc : Thread Cert.KernelMlaOutIdeal.nD Cert.KernelMlaOutIdeal.τ).loc Cert.KernelMlaOutIdeal.main_arg3) = m ((c.tc : Thread Cert.KernelMlaOutIdeal.nD Cert.KernelMlaOutIdeal.τ).loc Cert.KernelMlaOutIdeal.main_arg3))
      ∧ r.2.sem = fun _ => 0)

def quiescent_ReferenceMlaOutIdeal [hReferenceMlaOutIdeal : Cert.ReferenceMlaOutIdeal.Facts] : Prop :=
  ∀ (m : (ℓ : Loc Cert.ReferenceMlaOutIdeal.nD Cert.ReferenceMlaOutIdeal.τ Cert.ReferenceMlaOutIdeal.sig) → Buf (Elt Ideal) ℓ) (g : Dev Cert.ReferenceMlaOutIdeal.nD → PrngReg), Pre_ReferenceMlaOutIdeal m →
    θ_run (Cert.ReferenceMlaOutIdeal.defs (F := Ideal)) (onTc (τ := Cert.ReferenceMlaOutIdeal.τ) (Cert.ReferenceMlaOutIdeal.main (F := Ideal))) ⟨m, fun _ => 0, g⟩ (fun r => (∀ c : Dev Cert.ReferenceMlaOutIdeal.nD,
      r.2.mem ((c.tc : Thread Cert.ReferenceMlaOutIdeal.nD Cert.ReferenceMlaOutIdeal.τ).loc Cert.ReferenceMlaOutIdeal.main_arg0) = m ((c.tc : Thread Cert.ReferenceMlaOutIdeal.nD Cert.ReferenceMlaOutIdeal.τ).loc Cert.ReferenceMlaOutIdeal.main_arg0)
      ∧ r.2.mem ((c.tc : Thread Cert.ReferenceMlaOutIdeal.nD Cert.ReferenceMlaOutIdeal.τ).loc Cert.ReferenceMlaOutIdeal.main_arg1) = m ((c.tc : Thread Cert.ReferenceMlaOutIdeal.nD Cert.ReferenceMlaOutIdeal.τ).loc Cert.ReferenceMlaOutIdeal.main_arg1)
      ∧ r.2.mem ((c.tc : Thread Cert.ReferenceMlaOutIdeal.nD Cert.ReferenceMlaOutIdeal.τ).loc Cert.ReferenceMlaOutIdeal.main_arg2) = m ((c.tc : Thread Cert.ReferenceMlaOutIdeal.nD Cert.ReferenceMlaOutIdeal.τ).loc Cert.ReferenceMlaOutIdeal.main_arg2)
      ∧ r.2.mem ((c.tc : Thread Cert.ReferenceMlaOutIdeal.nD Cert.ReferenceMlaOutIdeal.τ).loc Cert.ReferenceMlaOutIdeal.main_arg3) = m ((c.tc : Thread Cert.ReferenceMlaOutIdeal.nD Cert.ReferenceMlaOutIdeal.τ).loc Cert.ReferenceMlaOutIdeal.main_arg3))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2)
      ∧ r.2.mem ((c.tc : Thread Cert.KernelUp.nD Cert.KernelUp.τ).loc Cert.KernelUp.main_arg3) = m ((c.tc : Thread Cert.KernelUp.nD Cert.KernelUp.τ).loc Cert.KernelUp.main_arg3))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
      ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2)
      ∧ r.2.mem ((c.tc : Thread Cert.ReferenceUpIdeal.nD Cert.ReferenceUpIdeal.τ).loc Cert.ReferenceUpIdeal.main_arg3) = m ((c.tc : Thread Cert.ReferenceUpIdeal.nD Cert.ReferenceUpIdeal.τ).loc Cert.ReferenceUpIdeal.main_arg3))
      ∧ r.2.sem = fun _ => 0)

def quiescent_KernelUpLat [hKernelUpLat : Cert.KernelUpLat.Facts] : Prop :=
  ∀ (m : (ℓ : Loc Cert.KernelUpLat.nD Cert.KernelUpLat.τ Cert.KernelUpLat.sig) → Buf (Elt Bits) ℓ) (g : Dev Cert.KernelUpLat.nD → PrngReg), Pre_KernelUpLat m →
    θ_run (Cert.KernelUpLat.defs (F := Bits)) (onTc (τ := Cert.KernelUpLat.τ) (Cert.KernelUpLat.main (F := Bits))) ⟨m, fun _ => 0, g⟩ (fun r => (∀ c : Dev Cert.KernelUpLat.nD,
      r.2.mem ((c.tc : Thread Cert.KernelUpLat.nD Cert.KernelUpLat.τ).loc Cert.KernelUpLat.main_arg0) = m ((c.tc : Thread Cert.KernelUpLat.nD Cert.KernelUpLat.τ).loc Cert.KernelUpLat.main_arg0)
      ∧ r.2.mem ((c.tc : Thread Cert.KernelUpLat.nD Cert.KernelUpLat.τ).loc Cert.KernelUpLat.main_arg1) = m ((c.tc : Thread Cert.KernelUpLat.nD Cert.KernelUpLat.τ).loc Cert.KernelUpLat.main_arg1)
      ∧ r.2.mem ((c.tc : Thread Cert.KernelUpLat.nD Cert.KernelUpLat.τ).loc Cert.KernelUpLat.main_arg2) = m ((c.tc : Thread Cert.KernelUpLat.nD Cert.KernelUpLat.τ).loc Cert.KernelUpLat.main_arg2)
      ∧ r.2.mem ((c.tc : Thread Cert.KernelUpLat.nD Cert.KernelUpLat.τ).loc Cert.KernelUpLat.main_arg3) = m ((c.tc : Thread Cert.KernelUpLat.nD Cert.KernelUpLat.τ).loc Cert.KernelUpLat.main_arg3))
      ∧ r.2.sem = fun _ => 0)

def quiescent_KernelUpLatIdeal [hKernelUpLatIdeal : Cert.KernelUpLatIdeal.Facts] : Prop :=
  ∀ (m : (ℓ : Loc Cert.KernelUpLatIdeal.nD Cert.KernelUpLatIdeal.τ Cert.KernelUpLatIdeal.sig) → Buf (Elt Ideal) ℓ) (g : Dev Cert.KernelUpLatIdeal.nD → PrngReg), Pre_KernelUpLatIdeal m →
    θ_run (Cert.KernelUpLatIdeal.defs (F := Ideal)) (onTc (τ := Cert.KernelUpLatIdeal.τ) (Cert.KernelUpLatIdeal.main (F := Ideal))) ⟨m, fun _ => 0, g⟩ (fun r => (∀ c : Dev Cert.KernelUpLatIdeal.nD,
      r.2.mem ((c.tc : Thread Cert.KernelUpLatIdeal.nD Cert.KernelUpLatIdeal.τ).loc Cert.KernelUpLatIdeal.main_arg0) = m ((c.tc : Thread Cert.KernelUpLatIdeal.nD Cert.KernelUpLatIdeal.τ).loc Cert.KernelUpLatIdeal.main_arg0)
      ∧ r.2.mem ((c.tc : Thread Cert.KernelUpLatIdeal.nD Cert.KernelUpLatIdeal.τ).loc Cert.KernelUpLatIdeal.main_arg1) = m ((c.tc : Thread Cert.KernelUpLatIdeal.nD Cert.KernelUpLatIdeal.τ).loc Cert.KernelUpLatIdeal.main_arg1)
      ∧ r.2.mem ((c.tc : Thread Cert.KernelUpLatIdeal.nD Cert.KernelUpLatIdeal.τ).loc Cert.KernelUpLatIdeal.main_arg2) = m ((c.tc : Thread Cert.KernelUpLatIdeal.nD Cert.KernelUpLatIdeal.τ).loc Cert.KernelUpLatIdeal.main_arg2)
      ∧ r.2.mem ((c.tc : Thread Cert.KernelUpLatIdeal.nD Cert.KernelUpLatIdeal.τ).loc Cert.KernelUpLatIdeal.main_arg3) = m ((c.tc : Thread Cert.KernelUpLatIdeal.nD Cert.KernelUpLatIdeal.τ).loc Cert.KernelUpLatIdeal.main_arg3))
      ∧ r.2.sem = fun _ => 0)

def quiescent_ReferenceUpLatIdeal [hReferenceUpLatIdeal : Cert.ReferenceUpLatIdeal.Facts] : Prop :=
  ∀ (m : (ℓ : Loc Cert.ReferenceUpLatIdeal.nD Cert.ReferenceUpLatIdeal.τ Cert.ReferenceUpLatIdeal.sig) → Buf (Elt Ideal) ℓ) (g : Dev Cert.ReferenceUpLatIdeal.nD → PrngReg), Pre_ReferenceUpLatIdeal m →
    θ_run (Cert.ReferenceUpLatIdeal.defs (F := Ideal)) (onTc (τ := Cert.ReferenceUpLatIdeal.τ) (Cert.ReferenceUpLatIdeal.main (F := Ideal))) ⟨m, fun _ => 0, g⟩ (fun r => (∀ c : Dev Cert.ReferenceUpLatIdeal.nD,
      r.2.mem ((c.tc : Thread Cert.ReferenceUpLatIdeal.nD Cert.ReferenceUpLatIdeal.τ).loc Cert.ReferenceUpLatIdeal.main_arg0) = m ((c.tc : Thread Cert.ReferenceUpLatIdeal.nD Cert.ReferenceUpLatIdeal.τ).loc Cert.ReferenceUpLatIdeal.main_arg0)
      ∧ r.2.mem ((c.tc : Thread Cert.ReferenceUpLatIdeal.nD Cert.ReferenceUpLatIdeal.τ).loc Cert.ReferenceUpLatIdeal.main_arg1) = m ((c.tc : Thread Cert.ReferenceUpLatIdeal.nD Cert.ReferenceUpLatIdeal.τ).loc Cert.ReferenceUpLatIdeal.main_arg1)
      ∧ r.2.mem ((c.tc : Thread Cert.ReferenceUpLatIdeal.nD Cert.ReferenceUpLatIdeal.τ).loc Cert.ReferenceUpLatIdeal.main_arg2) = m ((c.tc : Thread Cert.ReferenceUpLatIdeal.nD Cert.ReferenceUpLatIdeal.τ).loc Cert.ReferenceUpLatIdeal.main_arg2)
      ∧ r.2.mem ((c.tc : Thread Cert.ReferenceUpLatIdeal.nD Cert.ReferenceUpLatIdeal.τ).loc Cert.ReferenceUpLatIdeal.main_arg3) = m ((c.tc : Thread Cert.ReferenceUpLatIdeal.nD Cert.ReferenceUpLatIdeal.τ).loc Cert.ReferenceUpLatIdeal.main_arg3))
      ∧ r.2.sem = fun _ => 0)

def quiescent_KernelRkv [hKernelRkv : Cert.KernelRkv.Facts] : Prop :=
  ∀ (m : (ℓ : Loc Cert.KernelRkv.nD Cert.KernelRkv.τ Cert.KernelRkv.sig) → Buf (Elt Bits) ℓ) (g : Dev Cert.KernelRkv.nD → PrngReg), Pre_KernelRkv m →
    θ_run (Cert.KernelRkv.defs (F := Bits)) (onTc (τ := Cert.KernelRkv.τ) (Cert.KernelRkv.main (F := Bits))) ⟨m, fun _ => 0, g⟩ (fun r => (∀ c : Dev Cert.KernelRkv.nD,
      r.2.mem ((c.tc : Thread Cert.KernelRkv.nD Cert.KernelRkv.τ).loc Cert.KernelRkv.main_arg0) = m ((c.tc : Thread Cert.KernelRkv.nD Cert.KernelRkv.τ).loc Cert.KernelRkv.main_arg0)
      ∧ r.2.mem ((c.tc : Thread Cert.KernelRkv.nD Cert.KernelRkv.τ).loc Cert.KernelRkv.main_arg1) = m ((c.tc : Thread Cert.KernelRkv.nD Cert.KernelRkv.τ).loc Cert.KernelRkv.main_arg1)
      ∧ r.2.mem ((c.tc : Thread Cert.KernelRkv.nD Cert.KernelRkv.τ).loc Cert.KernelRkv.main_arg2) = m ((c.tc : Thread Cert.KernelRkv.nD Cert.KernelRkv.τ).loc Cert.KernelRkv.main_arg2)
      ∧ r.2.mem ((c.tc : Thread Cert.KernelRkv.nD Cert.KernelRkv.τ).loc Cert.KernelRkv.main_arg3) = m ((c.tc : Thread Cert.KernelRkv.nD Cert.KernelRkv.τ).loc Cert.KernelRkv.main_arg3)
      ∧ r.2.mem ((c.tc : Thread Cert.KernelRkv.nD Cert.KernelRkv.τ).loc Cert.KernelRkv.main_arg4) = m ((c.tc : Thread Cert.KernelRkv.nD Cert.KernelRkv.τ).loc Cert.KernelRkv.main_arg4)
      ∧ r.2.mem ((c.tc : Thread Cert.KernelRkv.nD Cert.KernelRkv.τ).loc Cert.KernelRkv.main_arg5) = m ((c.tc : Thread Cert.KernelRkv.nD Cert.KernelRkv.τ).loc Cert.KernelRkv.main_arg5))
      ∧ r.2.sem = fun _ => 0)

def quiescent_KernelRkvIdeal [hKernelRkvIdeal : Cert.KernelRkvIdeal.Facts] : Prop :=
  ∀ (m : (ℓ : Loc Cert.KernelRkvIdeal.nD Cert.KernelRkvIdeal.τ Cert.KernelRkvIdeal.sig) → Buf (Elt Ideal) ℓ) (g : Dev Cert.KernelRkvIdeal.nD → PrngReg), Pre_KernelRkvIdeal m →
    θ_run (Cert.KernelRkvIdeal.defs (F := Ideal)) (onTc (τ := Cert.KernelRkvIdeal.τ) (Cert.KernelRkvIdeal.main (F := Ideal))) ⟨m, fun _ => 0, g⟩ (fun r => (∀ c : Dev Cert.KernelRkvIdeal.nD,
      r.2.mem ((c.tc : Thread Cert.KernelRkvIdeal.nD Cert.KernelRkvIdeal.τ).loc Cert.KernelRkvIdeal.main_arg0) = m ((c.tc : Thread Cert.KernelRkvIdeal.nD Cert.KernelRkvIdeal.τ).loc Cert.KernelRkvIdeal.main_arg0)
      ∧ r.2.mem ((c.tc : Thread Cert.KernelRkvIdeal.nD Cert.KernelRkvIdeal.τ).loc Cert.KernelRkvIdeal.main_arg1) = m ((c.tc : Thread Cert.KernelRkvIdeal.nD Cert.KernelRkvIdeal.τ).loc Cert.KernelRkvIdeal.main_arg1)
      ∧ r.2.mem ((c.tc : Thread Cert.KernelRkvIdeal.nD Cert.KernelRkvIdeal.τ).loc Cert.KernelRkvIdeal.main_arg2) = m ((c.tc : Thread Cert.KernelRkvIdeal.nD Cert.KernelRkvIdeal.τ).loc Cert.KernelRkvIdeal.main_arg2)
      ∧ r.2.mem ((c.tc : Thread Cert.KernelRkvIdeal.nD Cert.KernelRkvIdeal.τ).loc Cert.KernelRkvIdeal.main_arg3) = m ((c.tc : Thread Cert.KernelRkvIdeal.nD Cert.KernelRkvIdeal.τ).loc Cert.KernelRkvIdeal.main_arg3)
      ∧ r.2.mem ((c.tc : Thread Cert.KernelRkvIdeal.nD Cert.KernelRkvIdeal.τ).loc Cert.KernelRkvIdeal.main_arg4) = m ((c.tc : Thread Cert.KernelRkvIdeal.nD Cert.KernelRkvIdeal.τ).loc Cert.KernelRkvIdeal.main_arg4)
      ∧ r.2.mem ((c.tc : Thread Cert.KernelRkvIdeal.nD Cert.KernelRkvIdeal.τ).loc Cert.KernelRkvIdeal.main_arg5) = m ((c.tc : Thread Cert.KernelRkvIdeal.nD Cert.KernelRkvIdeal.τ).loc Cert.KernelRkvIdeal.main_arg5))
      ∧ r.2.sem = fun _ => 0)

def quiescent_ReferenceRkvIdeal [hReferenceRkvIdeal : Cert.ReferenceRkvIdeal.Facts] : Prop :=
  ∀ (m : (ℓ : Loc Cert.ReferenceRkvIdeal.nD Cert.ReferenceRkvIdeal.τ Cert.ReferenceRkvIdeal.sig) → Buf (Elt Ideal) ℓ) (g : Dev Cert.ReferenceRkvIdeal.nD → PrngReg), Pre_ReferenceRkvIdeal m →
    θ_run (Cert.ReferenceRkvIdeal.defs (F := Ideal)) (onTc (τ := Cert.ReferenceRkvIdeal.τ) (Cert.ReferenceRkvIdeal.main (F := Ideal))) ⟨m, fun _ => 0, g⟩ (fun r => (∀ c : Dev Cert.ReferenceRkvIdeal.nD,
      r.2.mem ((c.tc : Thread Cert.ReferenceRkvIdeal.nD Cert.ReferenceRkvIdeal.τ).loc Cert.ReferenceRkvIdeal.main_arg0) = m ((c.tc : Thread Cert.ReferenceRkvIdeal.nD Cert.ReferenceRkvIdeal.τ).loc Cert.ReferenceRkvIdeal.main_arg0)
      ∧ r.2.mem ((c.tc : Thread Cert.ReferenceRkvIdeal.nD Cert.ReferenceRkvIdeal.τ).loc Cert.ReferenceRkvIdeal.main_arg1) = m ((c.tc : Thread Cert.ReferenceRkvIdeal.nD Cert.ReferenceRkvIdeal.τ).loc Cert.ReferenceRkvIdeal.main_arg1)
      ∧ r.2.mem ((c.tc : Thread Cert.ReferenceRkvIdeal.nD Cert.ReferenceRkvIdeal.τ).loc Cert.ReferenceRkvIdeal.main_arg2) = m ((c.tc : Thread Cert.ReferenceRkvIdeal.nD Cert.ReferenceRkvIdeal.τ).loc Cert.ReferenceRkvIdeal.main_arg2)
      ∧ r.2.mem ((c.tc : Thread Cert.ReferenceRkvIdeal.nD Cert.ReferenceRkvIdeal.τ).loc Cert.ReferenceRkvIdeal.main_arg3) = m ((c.tc : Thread Cert.ReferenceRkvIdeal.nD Cert.ReferenceRkvIdeal.τ).loc Cert.ReferenceRkvIdeal.main_arg3)
      ∧ r.2.mem ((c.tc : Thread Cert.ReferenceRkvIdeal.nD Cert.ReferenceRkvIdeal.τ).loc Cert.ReferenceRkvIdeal.main_arg4) = m ((c.tc : Thread Cert.ReferenceRkvIdeal.nD Cert.ReferenceRkvIdeal.τ).loc Cert.ReferenceRkvIdeal.main_arg4)
      ∧ r.2.mem ((c.tc : Thread Cert.ReferenceRkvIdeal.nD Cert.ReferenceRkvIdeal.τ).loc Cert.ReferenceRkvIdeal.main_arg5) = m ((c.tc : Thread Cert.ReferenceRkvIdeal.nD Cert.ReferenceRkvIdeal.τ).loc Cert.ReferenceRkvIdeal.main_arg5))
      ∧ r.2.sem = fun _ => 0)

def quiescent_KernelKvUp [hKernelKvUp : Cert.KernelKvUp.Facts] : Prop :=
  ∀ (m : (ℓ : Loc Cert.KernelKvUp.nD Cert.KernelKvUp.τ Cert.KernelKvUp.sig) → Buf (Elt Bits) ℓ) (g : Dev Cert.KernelKvUp.nD → PrngReg), Pre_KernelKvUp m →
    θ_run (Cert.KernelKvUp.defs (F := Bits)) (onTc (τ := Cert.KernelKvUp.τ) (Cert.KernelKvUp.main (F := Bits))) ⟨m, fun _ => 0, g⟩ (fun r => (∀ c : Dev Cert.KernelKvUp.nD,
      r.2.mem ((c.tc : Thread Cert.KernelKvUp.nD Cert.KernelKvUp.τ).loc Cert.KernelKvUp.main_arg0) = m ((c.tc : Thread Cert.KernelKvUp.nD Cert.KernelKvUp.τ).loc Cert.KernelKvUp.main_arg0)
      ∧ r.2.mem ((c.tc : Thread Cert.KernelKvUp.nD Cert.KernelKvUp.τ).loc Cert.KernelKvUp.main_arg1) = m ((c.tc : Thread Cert.KernelKvUp.nD Cert.KernelKvUp.τ).loc Cert.KernelKvUp.main_arg1)
      ∧ r.2.mem ((c.tc : Thread Cert.KernelKvUp.nD Cert.KernelKvUp.τ).loc Cert.KernelKvUp.main_arg2) = m ((c.tc : Thread Cert.KernelKvUp.nD Cert.KernelKvUp.τ).loc Cert.KernelKvUp.main_arg2))
      ∧ r.2.sem = fun _ => 0)

def quiescent_KernelKvUpIdeal [hKernelKvUpIdeal : Cert.KernelKvUpIdeal.Facts] : Prop :=
  ∀ (m : (ℓ : Loc Cert.KernelKvUpIdeal.nD Cert.KernelKvUpIdeal.τ Cert.KernelKvUpIdeal.sig) → Buf (Elt Ideal) ℓ) (g : Dev Cert.KernelKvUpIdeal.nD → PrngReg), Pre_KernelKvUpIdeal m →
    θ_run (Cert.KernelKvUpIdeal.defs (F := Ideal)) (onTc (τ := Cert.KernelKvUpIdeal.τ) (Cert.KernelKvUpIdeal.main (F := Ideal))) ⟨m, fun _ => 0, g⟩ (fun r => (∀ c : Dev Cert.KernelKvUpIdeal.nD,
      r.2.mem ((c.tc : Thread Cert.KernelKvUpIdeal.nD Cert.KernelKvUpIdeal.τ).loc Cert.KernelKvUpIdeal.main_arg0) = m ((c.tc : Thread Cert.KernelKvUpIdeal.nD Cert.KernelKvUpIdeal.τ).loc Cert.KernelKvUpIdeal.main_arg0)
      ∧ r.2.mem ((c.tc : Thread Cert.KernelKvUpIdeal.nD Cert.KernelKvUpIdeal.τ).loc Cert.KernelKvUpIdeal.main_arg1) = m ((c.tc : Thread Cert.KernelKvUpIdeal.nD Cert.KernelKvUpIdeal.τ).loc Cert.KernelKvUpIdeal.main_arg1)
      ∧ r.2.mem ((c.tc : Thread Cert.KernelKvUpIdeal.nD Cert.KernelKvUpIdeal.τ).loc Cert.KernelKvUpIdeal.main_arg2) = m ((c.tc : Thread Cert.KernelKvUpIdeal.nD Cert.KernelKvUpIdeal.τ).loc Cert.KernelKvUpIdeal.main_arg2))
      ∧ r.2.sem = fun _ => 0)

def quiescent_ReferenceKvUpIdeal [hReferenceKvUpIdeal : Cert.ReferenceKvUpIdeal.Facts] : Prop :=
  ∀ (m : (ℓ : Loc Cert.ReferenceKvUpIdeal.nD Cert.ReferenceKvUpIdeal.τ Cert.ReferenceKvUpIdeal.sig) → Buf (Elt Ideal) ℓ) (g : Dev Cert.ReferenceKvUpIdeal.nD → PrngReg), Pre_ReferenceKvUpIdeal m →
    θ_run (Cert.ReferenceKvUpIdeal.defs (F := Ideal)) (onTc (τ := Cert.ReferenceKvUpIdeal.τ) (Cert.ReferenceKvUpIdeal.main (F := Ideal))) ⟨m, fun _ => 0, g⟩ (fun r => (∀ c : Dev Cert.ReferenceKvUpIdeal.nD,
      r.2.mem ((c.tc : Thread Cert.ReferenceKvUpIdeal.nD Cert.ReferenceKvUpIdeal.τ).loc Cert.ReferenceKvUpIdeal.main_arg0) = m ((c.tc : Thread Cert.ReferenceKvUpIdeal.nD Cert.ReferenceKvUpIdeal.τ).loc Cert.ReferenceKvUpIdeal.main_arg0)
      ∧ r.2.mem ((c.tc : Thread Cert.ReferenceKvUpIdeal.nD Cert.ReferenceKvUpIdeal.τ).loc Cert.ReferenceKvUpIdeal.main_arg1) = m ((c.tc : Thread Cert.ReferenceKvUpIdeal.nD Cert.ReferenceKvUpIdeal.τ).loc Cert.ReferenceKvUpIdeal.main_arg1)
      ∧ r.2.mem ((c.tc : Thread Cert.ReferenceKvUpIdeal.nD Cert.ReferenceKvUpIdeal.τ).loc Cert.ReferenceKvUpIdeal.main_arg2) = m ((c.tc : Thread Cert.ReferenceKvUpIdeal.nD Cert.ReferenceKvUpIdeal.τ).loc Cert.ReferenceKvUpIdeal.main_arg2))
      ∧ r.2.sem = fun _ => 0)

def quiescent_KernelGate [hKernelGate : Cert.KernelGate.Facts] : Prop :=
  ∀ (m : (ℓ : Loc Cert.KernelGate.nD Cert.KernelGate.τ Cert.KernelGate.sig) → Buf (Elt Bits) ℓ) (g : Dev Cert.KernelGate.nD → PrngReg), Pre_KernelGate m →
    θ_run (Cert.KernelGate.defs (F := Bits)) (onTc (τ := Cert.KernelGate.τ) (Cert.KernelGate.main (F := Bits))) ⟨m, fun _ => 0, g⟩ (fun r => (∀ c : Dev Cert.KernelGate.nD,
      r.2.mem ((c.tc : Thread Cert.KernelGate.nD Cert.KernelGate.τ).loc Cert.KernelGate.main_arg0) = m ((c.tc : Thread Cert.KernelGate.nD Cert.KernelGate.τ).loc Cert.KernelGate.main_arg0)
      ∧ r.2.mem ((c.tc : Thread Cert.KernelGate.nD Cert.KernelGate.τ).loc Cert.KernelGate.main_arg1) = m ((c.tc : Thread Cert.KernelGate.nD Cert.KernelGate.τ).loc Cert.KernelGate.main_arg1))
      ∧ r.2.sem = fun _ => 0)

def quiescent_KernelGateIdeal [hKernelGateIdeal : Cert.KernelGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1))
      ∧ r.2.sem = fun _ => 0)

def quiescent_ReferenceGateIdeal [hReferenceGateIdeal : Cert.ReferenceGateIdeal.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1))
      ∧ r.2.sem = fun _ => 0)

def quiescent_KernelMlaDown [hKernelMlaDown : Cert.KernelMlaDown.Facts] : Prop :=
  ∀ (m : (ℓ : Loc Cert.KernelMlaDown.nD Cert.KernelMlaDown.τ Cert.KernelMlaDown.sig) → Buf (Elt Bits) ℓ) (g : Dev Cert.KernelMlaDown.nD → PrngReg), Pre_KernelMlaDown m →
    θ_run (Cert.KernelMlaDown.defs (F := Bits)) (onTc (τ := Cert.KernelMlaDown.τ) (Cert.KernelMlaDown.main (F := Bits))) ⟨m, fun _ => 0, g⟩ (fun r => (∀ c : Dev Cert.KernelMlaDown.nD,
      r.2.mem ((c.tc : Thread Cert.KernelMlaDown.nD Cert.KernelMlaDown.τ).loc Cert.KernelMlaDown.main_arg0) = m ((c.tc : Thread Cert.KernelMlaDown.nD Cert.KernelMlaDown.τ).loc Cert.KernelMlaDown.main_arg0)
      ∧ r.2.mem ((c.tc : Thread Cert.KernelMlaDown.nD Cert.KernelMlaDown.τ).loc Cert.KernelMlaDown.main_arg1) = m ((c.tc : Thread Cert.KernelMlaDown.nD Cert.KernelMlaDown.τ).loc Cert.KernelMlaDown.main_arg1)
      ∧ r.2.mem ((c.tc : Thread Cert.KernelMlaDown.nD Cert.KernelMlaDown.τ).loc Cert.KernelMlaDown.main_arg2) = m ((c.tc : Thread Cert.KernelMlaDown.nD Cert.KernelMlaDown.τ).loc Cert.KernelMlaDown.main_arg2)
      ∧ r.2.mem ((c.tc : Thread Cert.KernelMlaDown.nD Cert.KernelMlaDown.τ).loc Cert.KernelMlaDown.main_arg3) = m ((c.tc : Thread Cert.KernelMlaDown.nD Cert.KernelMlaDown.τ).loc Cert.KernelMlaDown.main_arg3)
      ∧ r.2.mem ((c.tc : Thread Cert.KernelMlaDown.nD Cert.KernelMlaDown.τ).loc Cert.KernelMlaDown.main_arg4) = m ((c.tc : Thread Cert.KernelMlaDown.nD Cert.KernelMlaDown.τ).loc Cert.KernelMlaDown.main_arg4)
      ∧ r.2.mem ((c.tc : Thread Cert.KernelMlaDown.nD Cert.KernelMlaDown.τ).loc Cert.KernelMlaDown.main_arg5) = m ((c.tc : Thread Cert.KernelMlaDown.nD Cert.KernelMlaDown.τ).loc Cert.KernelMlaDown.main_arg5))
      ∧ r.2.sem = fun _ => 0)

def quiescent_KernelMlaDownIdeal [hKernelMlaDownIdeal : Cert.KernelMlaDownIdeal.Facts] : Prop :=
  ∀ (m : (ℓ : Loc Cert.KernelMlaDownIdeal.nD Cert.KernelMlaDownIdeal.τ Cert.KernelMlaDownIdeal.sig) → Buf (Elt Ideal) ℓ) (g : Dev Cert.KernelMlaDownIdeal.nD → PrngReg), Pre_KernelMlaDownIdeal m →
    θ_run (Cert.KernelMlaDownIdeal.defs (F := Ideal)) (onTc (τ := Cert.KernelMlaDownIdeal.τ) (Cert.KernelMlaDownIdeal.main (F := Ideal))) ⟨m, fun _ => 0, g⟩ (fun r => (∀ c : Dev Cert.KernelMlaDownIdeal.nD,
      r.2.mem ((c.tc : Thread Cert.KernelMlaDownIdeal.nD Cert.KernelMlaDownIdeal.τ).loc Cert.KernelMlaDownIdeal.main_arg0) = m ((c.tc : Thread Cert.KernelMlaDownIdeal.nD Cert.KernelMlaDownIdeal.τ).loc Cert.KernelMlaDownIdeal.main_arg0)
      ∧ r.2.mem ((c.tc : Thread Cert.KernelMlaDownIdeal.nD Cert.KernelMlaDownIdeal.τ).loc Cert.KernelMlaDownIdeal.main_arg1) = m ((c.tc : Thread Cert.KernelMlaDownIdeal.nD Cert.KernelMlaDownIdeal.τ).loc Cert.KernelMlaDownIdeal.main_arg1)
      ∧ r.2.mem ((c.tc : Thread Cert.KernelMlaDownIdeal.nD Cert.KernelMlaDownIdeal.τ).loc Cert.KernelMlaDownIdeal.main_arg2) = m ((c.tc : Thread Cert.KernelMlaDownIdeal.nD Cert.KernelMlaDownIdeal.τ).loc Cert.KernelMlaDownIdeal.main_arg2)
      ∧ r.2.mem ((c.tc : Thread Cert.KernelMlaDownIdeal.nD Cert.KernelMlaDownIdeal.τ).loc Cert.KernelMlaDownIdeal.main_arg3) = m ((c.tc : Thread Cert.KernelMlaDownIdeal.nD Cert.KernelMlaDownIdeal.τ).loc Cert.KernelMlaDownIdeal.main_arg3)
      ∧ r.2.mem ((c.tc : Thread Cert.KernelMlaDownIdeal.nD Cert.KernelMlaDownIdeal.τ).loc Cert.KernelMlaDownIdeal.main_arg4) = m ((c.tc : Thread Cert.KernelMlaDownIdeal.nD Cert.KernelMlaDownIdeal.τ).loc Cert.KernelMlaDownIdeal.main_arg4)
      ∧ r.2.mem ((c.tc : Thread Cert.KernelMlaDownIdeal.nD Cert.KernelMlaDownIdeal.τ).loc Cert.KernelMlaDownIdeal.main_arg5) = m ((c.tc : Thread Cert.KernelMlaDownIdeal.nD Cert.KernelMlaDownIdeal.τ).loc Cert.KernelMlaDownIdeal.main_arg5))
      ∧ r.2.sem = fun _ => 0)

def quiescent_ReferenceMlaDownIdeal [hReferenceMlaDownIdeal : Cert.ReferenceMlaDownIdeal.Facts] : Prop :=
  ∀ (m : (ℓ : Loc Cert.ReferenceMlaDownIdeal.nD Cert.ReferenceMlaDownIdeal.τ Cert.ReferenceMlaDownIdeal.sig) → Buf (Elt Ideal) ℓ) (g : Dev Cert.ReferenceMlaDownIdeal.nD → PrngReg), Pre_ReferenceMlaDownIdeal m →
    θ_run (Cert.ReferenceMlaDownIdeal.defs (F := Ideal)) (onTc (τ := Cert.ReferenceMlaDownIdeal.τ) (Cert.ReferenceMlaDownIdeal.main (F := Ideal))) ⟨m, fun _ => 0, g⟩ (fun r => (∀ c : Dev Cert.ReferenceMlaDownIdeal.nD,
      r.2.mem ((c.tc : Thread Cert.ReferenceMlaDownIdeal.nD Cert.ReferenceMlaDownIdeal.τ).loc Cert.ReferenceMlaDownIdeal.main_arg0) = m ((c.tc : Thread Cert.ReferenceMlaDownIdeal.nD Cert.ReferenceMlaDownIdeal.τ).loc Cert.ReferenceMlaDownIdeal.main_arg0)
      ∧ r.2.mem ((c.tc : Thread Cert.ReferenceMlaDownIdeal.nD Cert.ReferenceMlaDownIdeal.τ).loc Cert.ReferenceMlaDownIdeal.main_arg1) = m ((c.tc : Thread Cert.ReferenceMlaDownIdeal.nD Cert.ReferenceMlaDownIdeal.τ).loc Cert.ReferenceMlaDownIdeal.main_arg1)
      ∧ r.2.mem ((c.tc : Thread Cert.ReferenceMlaDownIdeal.nD Cert.ReferenceMlaDownIdeal.τ).loc Cert.ReferenceMlaDownIdeal.main_arg2) = m ((c.tc : Thread Cert.ReferenceMlaDownIdeal.nD Cert.ReferenceMlaDownIdeal.τ).loc Cert.ReferenceMlaDownIdeal.main_arg2)
      ∧ r.2.mem ((c.tc : Thread Cert.ReferenceMlaDownIdeal.nD Cert.ReferenceMlaDownIdeal.τ).loc Cert.ReferenceMlaDownIdeal.main_arg3) = m ((c.tc : Thread Cert.ReferenceMlaDownIdeal.nD Cert.ReferenceMlaDownIdeal.τ).loc Cert.ReferenceMlaDownIdeal.main_arg3)
      ∧ r.2.mem ((c.tc : Thread Cert.ReferenceMlaDownIdeal.nD Cert.ReferenceMlaDownIdeal.τ).loc Cert.ReferenceMlaDownIdeal.main_arg4) = m ((c.tc : Thread Cert.ReferenceMlaDownIdeal.nD Cert.ReferenceMlaDownIdeal.τ).loc Cert.ReferenceMlaDownIdeal.main_arg4)
      ∧ r.2.mem ((c.tc : Thread Cert.ReferenceMlaDownIdeal.nD Cert.ReferenceMlaDownIdeal.τ).loc Cert.ReferenceMlaDownIdeal.main_arg5) = m ((c.tc : Thread Cert.ReferenceMlaDownIdeal.nD Cert.ReferenceMlaDownIdeal.τ).loc Cert.ReferenceMlaDownIdeal.main_arg5))
      ∧ r.2.sem = fun _ => 0)

def quiescent_KernelQUp [hKernelQUp : Cert.KernelQUp.Facts] : Prop :=
  ∀ (m : (ℓ : Loc Cert.KernelQUp.nD Cert.KernelQUp.τ Cert.KernelQUp.sig) → Buf (Elt Bits) ℓ) (g : Dev Cert.KernelQUp.nD → PrngReg), Pre_KernelQUp m →
    θ_run (Cert.KernelQUp.defs (F := Bits)) (onTc (τ := Cert.KernelQUp.τ) (Cert.KernelQUp.main (F := Bits))) ⟨m, fun _ => 0, g⟩ (fun r => (∀ c : Dev Cert.KernelQUp.nD,
      r.2.mem ((c.tc : Thread Cert.KernelQUp.nD Cert.KernelQUp.τ).loc Cert.KernelQUp.main_arg0) = m ((c.tc : Thread Cert.KernelQUp.nD Cert.KernelQUp.τ).loc Cert.KernelQUp.main_arg0)
      ∧ r.2.mem ((c.tc : Thread Cert.KernelQUp.nD Cert.KernelQUp.τ).loc Cert.KernelQUp.main_arg1) = m ((c.tc : Thread Cert.KernelQUp.nD Cert.KernelQUp.τ).loc Cert.KernelQUp.main_arg1)
      ∧ r.2.mem ((c.tc : Thread Cert.KernelQUp.nD Cert.KernelQUp.τ).loc Cert.KernelQUp.main_arg2) = m ((c.tc : Thread Cert.KernelQUp.nD Cert.KernelQUp.τ).loc Cert.KernelQUp.main_arg2)
      ∧ r.2.mem ((c.tc : Thread Cert.KernelQUp.nD Cert.KernelQUp.τ).loc Cert.KernelQUp.main_arg3) = m ((c.tc : Thread Cert.KernelQUp.nD Cert.KernelQUp.τ).loc Cert.KernelQUp.main_arg3))
      ∧ r.2.sem = fun _ => 0)

def quiescent_KernelQUpIdeal [hKernelQUpIdeal : Cert.KernelQUpIdeal.Facts] : Prop :=
  ∀ (m : (ℓ : Loc Cert.KernelQUpIdeal.nD Cert.KernelQUpIdeal.τ Cert.KernelQUpIdeal.sig) → Buf (Elt Ideal) ℓ) (g : Dev Cert.KernelQUpIdeal.nD → PrngReg), Pre_KernelQUpIdeal m →
    θ_run (Cert.KernelQUpIdeal.defs (F := Ideal)) (onTc (τ := Cert.KernelQUpIdeal.τ) (Cert.KernelQUpIdeal.main (F := Ideal))) ⟨m, fun _ => 0, g⟩ (fun r => (∀ c : Dev Cert.KernelQUpIdeal.nD,
      r.2.mem ((c.tc : Thread Cert.KernelQUpIdeal.nD Cert.KernelQUpIdeal.τ).loc Cert.KernelQUpIdeal.main_arg0) = m ((c.tc : Thread Cert.KernelQUpIdeal.nD Cert.KernelQUpIdeal.τ).loc Cert.KernelQUpIdeal.main_arg0)
      ∧ r.2.mem ((c.tc : Thread Cert.KernelQUpIdeal.nD Cert.KernelQUpIdeal.τ).loc Cert.KernelQUpIdeal.main_arg1) = m ((c.tc : Thread Cert.KernelQUpIdeal.nD Cert.KernelQUpIdeal.τ).loc Cert.KernelQUpIdeal.main_arg1)
      ∧ r.2.mem ((c.tc : Thread Cert.KernelQUpIdeal.nD Cert.KernelQUpIdeal.τ).loc Cert.KernelQUpIdeal.main_arg2) = m ((c.tc : Thread Cert.KernelQUpIdeal.nD Cert.KernelQUpIdeal.τ).loc Cert.KernelQUpIdeal.main_arg2)
      ∧ r.2.mem ((c.tc : Thread Cert.KernelQUpIdeal.nD Cert.KernelQUpIdeal.τ).loc Cert.KernelQUpIdeal.main_arg3) = m ((c.tc : Thread Cert.KernelQUpIdeal.nD Cert.KernelQUpIdeal.τ).loc Cert.KernelQUpIdeal.main_arg3))
      ∧ r.2.sem = fun _ => 0)

def quiescent_ReferenceQUpIdeal [hReferenceQUpIdeal : Cert.ReferenceQUpIdeal.Facts] : Prop :=
  ∀ (m : (ℓ : Loc Cert.ReferenceQUpIdeal.nD Cert.ReferenceQUpIdeal.τ Cert.ReferenceQUpIdeal.sig) → Buf (Elt Ideal) ℓ) (g : Dev Cert.ReferenceQUpIdeal.nD → PrngReg), Pre_ReferenceQUpIdeal m →
    θ_run (Cert.ReferenceQUpIdeal.defs (F := Ideal)) (onTc (τ := Cert.ReferenceQUpIdeal.τ) (Cert.ReferenceQUpIdeal.main (F := Ideal))) ⟨m, fun _ => 0, g⟩ (fun r => (∀ c : Dev Cert.ReferenceQUpIdeal.nD,
      r.2.mem ((c.tc : Thread Cert.ReferenceQUpIdeal.nD Cert.ReferenceQUpIdeal.τ).loc Cert.ReferenceQUpIdeal.main_arg0) = m ((c.tc : Thread Cert.ReferenceQUpIdeal.nD Cert.ReferenceQUpIdeal.τ).loc Cert.ReferenceQUpIdeal.main_arg0)
      ∧ r.2.mem ((c.tc : Thread Cert.ReferenceQUpIdeal.nD Cert.ReferenceQUpIdeal.τ).loc Cert.ReferenceQUpIdeal.main_arg1) = m ((c.tc : Thread Cert.ReferenceQUpIdeal.nD Cert.ReferenceQUpIdeal.τ).loc Cert.ReferenceQUpIdeal.main_arg1)
      ∧ r.2.mem ((c.tc : Thread Cert.ReferenceQUpIdeal.nD Cert.ReferenceQUpIdeal.τ).loc Cert.ReferenceQUpIdeal.main_arg2) = m ((c.tc : Thread Cert.ReferenceQUpIdeal.nD Cert.ReferenceQUpIdeal.τ).loc Cert.ReferenceQUpIdeal.main_arg2)
      ∧ r.2.mem ((c.tc : Thread Cert.ReferenceQUpIdeal.nD Cert.ReferenceQUpIdeal.τ).loc Cert.ReferenceQUpIdeal.main_arg3) = m ((c.tc : Thread Cert.ReferenceQUpIdeal.nD Cert.ReferenceQUpIdeal.τ).loc Cert.ReferenceQUpIdeal.main_arg3))
      ∧ r.2.sem = fun _ => 0)

def quiescent_KernelDecay [hKernelDecay : Cert.KernelDecay.Facts] : Prop :=
  ∀ (m : (ℓ : Loc Cert.KernelDecay.nD Cert.KernelDecay.τ Cert.KernelDecay.sig) → Buf (Elt Bits) ℓ) (g : Dev Cert.KernelDecay.nD → PrngReg), Pre_KernelDecay m →
    θ_run (Cert.KernelDecay.defs (F := Bits)) (onTc (τ := Cert.KernelDecay.τ) (Cert.KernelDecay.main (F := Bits))) ⟨m, fun _ => 0, g⟩ (fun r => (∀ c : Dev Cert.KernelDecay.nD,
      r.2.mem ((c.tc : Thread Cert.KernelDecay.nD Cert.KernelDecay.τ).loc Cert.KernelDecay.main_arg0) = m ((c.tc : Thread Cert.KernelDecay.nD Cert.KernelDecay.τ).loc Cert.KernelDecay.main_arg0)
      ∧ r.2.mem ((c.tc : Thread Cert.KernelDecay.nD Cert.KernelDecay.τ).loc Cert.KernelDecay.main_arg1) = m ((c.tc : Thread Cert.KernelDecay.nD Cert.KernelDecay.τ).loc Cert.KernelDecay.main_arg1)
      ∧ r.2.mem ((c.tc : Thread Cert.KernelDecay.nD Cert.KernelDecay.τ).loc Cert.KernelDecay.main_arg2) = m ((c.tc : Thread Cert.KernelDecay.nD Cert.KernelDecay.τ).loc Cert.KernelDecay.main_arg2))
      ∧ r.2.sem = fun _ => 0)

def quiescent_KernelDecayIdeal [hKernelDecayIdeal : Cert.KernelDecayIdeal.Facts] : Prop :=
  ∀ (m : (ℓ : Loc Cert.KernelDecayIdeal.nD Cert.KernelDecayIdeal.τ Cert.KernelDecayIdeal.sig) → Buf (Elt Ideal) ℓ) (g : Dev Cert.KernelDecayIdeal.nD → PrngReg), Pre_KernelDecayIdeal m →
    θ_run (Cert.KernelDecayIdeal.defs (F := Ideal)) (onTc (τ := Cert.KernelDecayIdeal.τ) (Cert.KernelDecayIdeal.main (F := Ideal))) ⟨m, fun _ => 0, g⟩ (fun r => (∀ c : Dev Cert.KernelDecayIdeal.nD,
      r.2.mem ((c.tc : Thread Cert.KernelDecayIdeal.nD Cert.KernelDecayIdeal.τ).loc Cert.KernelDecayIdeal.main_arg0) = m ((c.tc : Thread Cert.KernelDecayIdeal.nD Cert.KernelDecayIdeal.τ).loc Cert.KernelDecayIdeal.main_arg0)
      ∧ r.2.mem ((c.tc : Thread Cert.KernelDecayIdeal.nD Cert.KernelDecayIdeal.τ).loc Cert.KernelDecayIdeal.main_arg1) = m ((c.tc : Thread Cert.KernelDecayIdeal.nD Cert.KernelDecayIdeal.τ).loc Cert.KernelDecayIdeal.main_arg1)
      ∧ r.2.mem ((c.tc : Thread Cert.KernelDecayIdeal.nD Cert.KernelDecayIdeal.τ).loc Cert.KernelDecayIdeal.main_arg2) = m ((c.tc : Thread Cert.KernelDecayIdeal.nD Cert.KernelDecayIdeal.τ).loc Cert.KernelDecayIdeal.main_arg2))
      ∧ r.2.sem = fun _ => 0)

def quiescent_ReferenceDecayIdeal [hReferenceDecayIdeal : Cert.ReferenceDecayIdeal.Facts] : Prop :=
  ∀ (m : (ℓ : Loc Cert.ReferenceDecayIdeal.nD Cert.ReferenceDecayIdeal.τ Cert.ReferenceDecayIdeal.sig) → Buf (Elt Ideal) ℓ) (g : Dev Cert.ReferenceDecayIdeal.nD → PrngReg), Pre_ReferenceDecayIdeal m →
    θ_run (Cert.ReferenceDecayIdeal.defs (F := Ideal)) (onTc (τ := Cert.ReferenceDecayIdeal.τ) (Cert.ReferenceDecayIdeal.main (F := Ideal))) ⟨m, fun _ => 0, g⟩ (fun r => (∀ c : Dev Cert.ReferenceDecayIdeal.nD,
      r.2.mem ((c.tc : Thread Cert.ReferenceDecayIdeal.nD Cert.ReferenceDecayIdeal.τ).loc Cert.ReferenceDecayIdeal.main_arg0) = m ((c.tc : Thread Cert.ReferenceDecayIdeal.nD Cert.ReferenceDecayIdeal.τ).loc Cert.ReferenceDecayIdeal.main_arg0)
      ∧ r.2.mem ((c.tc : Thread Cert.ReferenceDecayIdeal.nD Cert.ReferenceDecayIdeal.τ).loc Cert.ReferenceDecayIdeal.main_arg1) = m ((c.tc : Thread Cert.ReferenceDecayIdeal.nD Cert.ReferenceDecayIdeal.τ).loc Cert.ReferenceDecayIdeal.main_arg1)
      ∧ r.2.mem ((c.tc : Thread Cert.ReferenceDecayIdeal.nD Cert.ReferenceDecayIdeal.τ).loc Cert.ReferenceDecayIdeal.main_arg2) = m ((c.tc : Thread Cert.ReferenceDecayIdeal.nD Cert.ReferenceDecayIdeal.τ).loc Cert.ReferenceDecayIdeal.main_arg2))
      ∧ r.2.sem = fun _ => 0)

def quiescent_KernelIclr [hKernelIclr : Cert.KernelIclr.Facts] : Prop :=
  ∀ (m : (ℓ : Loc Cert.KernelIclr.nD Cert.KernelIclr.τ Cert.KernelIclr.sig) → Buf (Elt Bits) ℓ) (g : Dev Cert.KernelIclr.nD → PrngReg), Pre_KernelIclr m →
    θ_run (Cert.KernelIclr.defs (F := Bits)) (onTc (τ := Cert.KernelIclr.τ) (Cert.KernelIclr.main (F := Bits))) ⟨m, fun _ => 0, g⟩ (fun r => (∀ c : Dev Cert.KernelIclr.nD,
      r.2.mem ((c.tc : Thread Cert.KernelIclr.nD Cert.KernelIclr.τ).loc Cert.KernelIclr.main_arg0) = m ((c.tc : Thread Cert.KernelIclr.nD Cert.KernelIclr.τ).loc Cert.KernelIclr.main_arg0)
      ∧ r.2.mem ((c.tc : Thread Cert.KernelIclr.nD Cert.KernelIclr.τ).loc Cert.KernelIclr.main_arg1) = m ((c.tc : Thread Cert.KernelIclr.nD Cert.KernelIclr.τ).loc Cert.KernelIclr.main_arg1)
      ∧ r.2.mem ((c.tc : Thread Cert.KernelIclr.nD Cert.KernelIclr.τ).loc Cert.KernelIclr.main_arg2) = m ((c.tc : Thread Cert.KernelIclr.nD Cert.KernelIclr.τ).loc Cert.KernelIclr.main_arg2))
      ∧ r.2.sem = fun _ => 0)

def quiescent_KernelIclrIdeal [hKernelIclrIdeal : Cert.KernelIclrIdeal.Facts] : Prop :=
  ∀ (m : (ℓ : Loc Cert.KernelIclrIdeal.nD Cert.KernelIclrIdeal.τ Cert.KernelIclrIdeal.sig) → Buf (Elt Ideal) ℓ) (g : Dev Cert.KernelIclrIdeal.nD → PrngReg), Pre_KernelIclrIdeal m →
    θ_run (Cert.KernelIclrIdeal.defs (F := Ideal)) (onTc (τ := Cert.KernelIclrIdeal.τ) (Cert.KernelIclrIdeal.main (F := Ideal))) ⟨m, fun _ => 0, g⟩ (fun r => (∀ c : Dev Cert.KernelIclrIdeal.nD,
      r.2.mem ((c.tc : Thread Cert.KernelIclrIdeal.nD Cert.KernelIclrIdeal.τ).loc Cert.KernelIclrIdeal.main_arg0) = m ((c.tc : Thread Cert.KernelIclrIdeal.nD Cert.KernelIclrIdeal.τ).loc Cert.KernelIclrIdeal.main_arg0)
      ∧ r.2.mem ((c.tc : Thread Cert.KernelIclrIdeal.nD Cert.KernelIclrIdeal.τ).loc Cert.KernelIclrIdeal.main_arg1) = m ((c.tc : Thread Cert.KernelIclrIdeal.nD Cert.KernelIclrIdeal.τ).loc Cert.KernelIclrIdeal.main_arg1)
      ∧ r.2.mem ((c.tc : Thread Cert.KernelIclrIdeal.nD Cert.KernelIclrIdeal.τ).loc Cert.KernelIclrIdeal.main_arg2) = m ((c.tc : Thread Cert.KernelIclrIdeal.nD Cert.KernelIclrIdeal.τ).loc Cert.KernelIclrIdeal.main_arg2))
      ∧ r.2.sem = fun _ => 0)

def quiescent_ReferenceIclrIdeal [hReferenceIclrIdeal : Cert.ReferenceIclrIdeal.Facts] : Prop :=
  ∀ (m : (ℓ : Loc Cert.ReferenceIclrIdeal.nD Cert.ReferenceIclrIdeal.τ Cert.ReferenceIclrIdeal.sig) → Buf (Elt Ideal) ℓ) (g : Dev Cert.ReferenceIclrIdeal.nD → PrngReg), Pre_ReferenceIclrIdeal m →
    θ_run (Cert.ReferenceIclrIdeal.defs (F := Ideal)) (onTc (τ := Cert.ReferenceIclrIdeal.τ) (Cert.ReferenceIclrIdeal.main (F := Ideal))) ⟨m, fun _ => 0, g⟩ (fun r => (∀ c : Dev Cert.ReferenceIclrIdeal.nD,
      r.2.mem ((c.tc : Thread Cert.ReferenceIclrIdeal.nD Cert.ReferenceIclrIdeal.τ).loc Cert.ReferenceIclrIdeal.main_arg0) = m ((c.tc : Thread Cert.ReferenceIclrIdeal.nD Cert.ReferenceIclrIdeal.τ).loc Cert.ReferenceIclrIdeal.main_arg0)
      ∧ r.2.mem ((c.tc : Thread Cert.ReferenceIclrIdeal.nD Cert.ReferenceIclrIdeal.τ).loc Cert.ReferenceIclrIdeal.main_arg1) = m ((c.tc : Thread Cert.ReferenceIclrIdeal.nD Cert.ReferenceIclrIdeal.τ).loc Cert.ReferenceIclrIdeal.main_arg1)
      ∧ r.2.mem ((c.tc : Thread Cert.ReferenceIclrIdeal.nD Cert.ReferenceIclrIdeal.τ).loc Cert.ReferenceIclrIdeal.main_arg2) = m ((c.tc : Thread Cert.ReferenceIclrIdeal.nD Cert.ReferenceIclrIdeal.τ).loc Cert.ReferenceIclrIdeal.main_arg2))
      ∧ r.2.sem = fun _ => 0)

def quiescent_KernelLora [hKernelLora : Cert.KernelLora.Facts] : Prop :=
  ∀ (m : (ℓ : Loc Cert.KernelLora.nD Cert.KernelLora.τ Cert.KernelLora.sig) → Buf (Elt Bits) ℓ) (g : Dev Cert.KernelLora.nD → PrngReg), Pre_KernelLora m →
    θ_run (Cert.KernelLora.defs (F := Bits)) (onTc (τ := Cert.KernelLora.τ) (Cert.KernelLora.main (F := Bits))) ⟨m, fun _ => 0, g⟩ (fun r => (∀ c : Dev Cert.KernelLora.nD,
      r.2.mem ((c.tc : Thread Cert.KernelLora.nD Cert.KernelLora.τ).loc Cert.KernelLora.main_arg0) = m ((c.tc : Thread Cert.KernelLora.nD Cert.KernelLora.τ).loc Cert.KernelLora.main_arg0)
      ∧ r.2.mem ((c.tc : Thread Cert.KernelLora.nD Cert.KernelLora.τ).loc Cert.KernelLora.main_arg1) = m ((c.tc : Thread Cert.KernelLora.nD Cert.KernelLora.τ).loc Cert.KernelLora.main_arg1)
      ∧ r.2.mem ((c.tc : Thread Cert.KernelLora.nD Cert.KernelLora.τ).loc Cert.KernelLora.main_arg2) = m ((c.tc : Thread Cert.KernelLora.nD Cert.KernelLora.τ).loc Cert.KernelLora.main_arg2)
      ∧ r.2.mem ((c.tc : Thread Cert.KernelLora.nD Cert.KernelLora.τ).loc Cert.KernelLora.main_arg3) = m ((c.tc : Thread Cert.KernelLora.nD Cert.KernelLora.τ).loc Cert.KernelLora.main_arg3)
      ∧ r.2.mem ((c.tc : Thread Cert.KernelLora.nD Cert.KernelLora.τ).loc Cert.KernelLora.main_arg4) = m ((c.tc : Thread Cert.KernelLora.nD Cert.KernelLora.τ).loc Cert.KernelLora.main_arg4)
      ∧ r.2.mem ((c.tc : Thread Cert.KernelLora.nD Cert.KernelLora.τ).loc Cert.KernelLora.main_arg5) = m ((c.tc : Thread Cert.KernelLora.nD Cert.KernelLora.τ).loc Cert.KernelLora.main_arg5))
      ∧ r.2.sem = fun _ => 0)

def quiescent_KernelLoraIdeal [hKernelLoraIdeal : Cert.KernelLoraIdeal.Facts] : Prop :=
  ∀ (m : (ℓ : Loc Cert.KernelLoraIdeal.nD Cert.KernelLoraIdeal.τ Cert.KernelLoraIdeal.sig) → Buf (Elt Ideal) ℓ) (g : Dev Cert.KernelLoraIdeal.nD → PrngReg), Pre_KernelLoraIdeal m →
    θ_run (Cert.KernelLoraIdeal.defs (F := Ideal)) (onTc (τ := Cert.KernelLoraIdeal.τ) (Cert.KernelLoraIdeal.main (F := Ideal))) ⟨m, fun _ => 0, g⟩ (fun r => (∀ c : Dev Cert.KernelLoraIdeal.nD,
      r.2.mem ((c.tc : Thread Cert.KernelLoraIdeal.nD Cert.KernelLoraIdeal.τ).loc Cert.KernelLoraIdeal.main_arg0) = m ((c.tc : Thread Cert.KernelLoraIdeal.nD Cert.KernelLoraIdeal.τ).loc Cert.KernelLoraIdeal.main_arg0)
      ∧ r.2.mem ((c.tc : Thread Cert.KernelLoraIdeal.nD Cert.KernelLoraIdeal.τ).loc Cert.KernelLoraIdeal.main_arg1) = m ((c.tc : Thread Cert.KernelLoraIdeal.nD Cert.KernelLoraIdeal.τ).loc Cert.KernelLoraIdeal.main_arg1)
      ∧ r.2.mem ((c.tc : Thread Cert.KernelLoraIdeal.nD Cert.KernelLoraIdeal.τ).loc Cert.KernelLoraIdeal.main_arg2) = m ((c.tc : Thread Cert.KernelLoraIdeal.nD Cert.KernelLoraIdeal.τ).loc Cert.KernelLoraIdeal.main_arg2)
      ∧ r.2.mem ((c.tc : Thread Cert.KernelLoraIdeal.nD Cert.KernelLoraIdeal.τ).loc Cert.KernelLoraIdeal.main_arg3) = m ((c.tc : Thread Cert.KernelLoraIdeal.nD Cert.KernelLoraIdeal.τ).loc Cert.KernelLoraIdeal.main_arg3)
      ∧ r.2.mem ((c.tc : Thread Cert.KernelLoraIdeal.nD Cert.KernelLoraIdeal.τ).loc Cert.KernelLoraIdeal.main_arg4) = m ((c.tc : Thread Cert.KernelLoraIdeal.nD Cert.KernelLoraIdeal.τ).loc Cert.KernelLoraIdeal.main_arg4)
      ∧ r.2.mem ((c.tc : Thread Cert.KernelLoraIdeal.nD Cert.KernelLoraIdeal.τ).loc Cert.KernelLoraIdeal.main_arg5) = m ((c.tc : Thread Cert.KernelLoraIdeal.nD Cert.KernelLoraIdeal.τ).loc Cert.KernelLoraIdeal.main_arg5))
      ∧ r.2.sem = fun _ => 0)

def quiescent_ReferenceLoraIdeal [hReferenceLoraIdeal : Cert.ReferenceLoraIdeal.Facts] : Prop :=
  ∀ (m : (ℓ : Loc Cert.ReferenceLoraIdeal.nD Cert.ReferenceLoraIdeal.τ Cert.ReferenceLoraIdeal.sig) → Buf (Elt Ideal) ℓ) (g : Dev Cert.ReferenceLoraIdeal.nD → PrngReg), Pre_ReferenceLoraIdeal m →
    θ_run (Cert.ReferenceLoraIdeal.defs (F := Ideal)) (onTc (τ := Cert.ReferenceLoraIdeal.τ) (Cert.ReferenceLoraIdeal.main (F := Ideal))) ⟨m, fun _ => 0, g⟩ (fun r => (∀ c : Dev Cert.ReferenceLoraIdeal.nD,
      r.2.mem ((c.tc : Thread Cert.ReferenceLoraIdeal.nD Cert.ReferenceLoraIdeal.τ).loc Cert.ReferenceLoraIdeal.main_arg0) = m ((c.tc : Thread Cert.ReferenceLoraIdeal.nD Cert.ReferenceLoraIdeal.τ).loc Cert.ReferenceLoraIdeal.main_arg0)
      ∧ r.2.mem ((c.tc : Thread Cert.ReferenceLoraIdeal.nD Cert.ReferenceLoraIdeal.τ).loc Cert.ReferenceLoraIdeal.main_arg1) = m ((c.tc : Thread Cert.ReferenceLoraIdeal.nD Cert.ReferenceLoraIdeal.τ).loc Cert.ReferenceLoraIdeal.main_arg1)
      ∧ r.2.mem ((c.tc : Thread Cert.ReferenceLoraIdeal.nD Cert.ReferenceLoraIdeal.τ).loc Cert.ReferenceLoraIdeal.main_arg2) = m ((c.tc : Thread Cert.ReferenceLoraIdeal.nD Cert.ReferenceLoraIdeal.τ).loc Cert.ReferenceLoraIdeal.main_arg2)
      ∧ r.2.mem ((c.tc : Thread Cert.ReferenceLoraIdeal.nD Cert.ReferenceLoraIdeal.τ).loc Cert.ReferenceLoraIdeal.main_arg3) = m ((c.tc : Thread Cert.ReferenceLoraIdeal.nD Cert.ReferenceLoraIdeal.τ).loc Cert.ReferenceLoraIdeal.main_arg3)
      ∧ r.2.mem ((c.tc : Thread Cert.ReferenceLoraIdeal.nD Cert.ReferenceLoraIdeal.τ).loc Cert.ReferenceLoraIdeal.main_arg4) = m ((c.tc : Thread Cert.ReferenceLoraIdeal.nD Cert.ReferenceLoraIdeal.τ).loc Cert.ReferenceLoraIdeal.main_arg4)
      ∧ r.2.mem ((c.tc : Thread Cert.ReferenceLoraIdeal.nD Cert.ReferenceLoraIdeal.τ).loc Cert.ReferenceLoraIdeal.main_arg5) = m ((c.tc : Thread Cert.ReferenceLoraIdeal.nD Cert.ReferenceLoraIdeal.τ).loc Cert.ReferenceLoraIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)
      ∧ m' ((c.tc : Thread Cert.ReferenceDownIdeal.nD Cert.ReferenceDownIdeal.τ).loc Cert.ReferenceDownIdeal.main_arg3) = m ((c.tc : Thread Cert.KernelDownIdeal.nD Cert.KernelDownIdeal.τ).loc Cert.KernelDownIdeal.main_arg3)) →
    ∃ (v0 : (c : Dev Cert.KernelDownIdeal.nD) → Buf (Elt Ideal) ((c.tc : Thread Cert.KernelDownIdeal.nD Cert.KernelDownIdeal.τ).loc Cert.KernelDownIdeal.main_v1)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v1) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
          ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v33) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2)
          ∧ r.2.mem ((c.tc : Thread Cert.ReferenceDownIdeal.nD Cert.ReferenceDownIdeal.τ).loc Cert.ReferenceDownIdeal.main_arg3) = m' ((c.tc : Thread Cert.ReferenceDownIdeal.nD Cert.ReferenceDownIdeal.τ).loc Cert.ReferenceDownIdeal.main_arg3))

def preserves_KernelDownLat_KernelDownLatIdeal : Prop :=
  True

def algebraic_KernelDownLatIdeal_ReferenceDownLatIdeal [hKernelDownLatIdeal : Cert.KernelDownLatIdeal.Facts] [hReferenceDownLatIdeal : Cert.ReferenceDownLatIdeal.Facts] : Prop :=
  ∀ (m : (ℓ : Loc Cert.KernelDownLatIdeal.nD Cert.KernelDownLatIdeal.τ Cert.KernelDownLatIdeal.sig) → Buf (Elt Ideal) ℓ) (g : Dev Cert.KernelDownLatIdeal.nD → PrngReg)
    (m' : (ℓ : Loc Cert.ReferenceDownLatIdeal.nD Cert.ReferenceDownLatIdeal.τ Cert.ReferenceDownLatIdeal.sig) → Buf (Elt Ideal) ℓ) (g' : Dev Cert.ReferenceDownLatIdeal.nD → PrngReg), Pre_KernelDownLatIdeal m →
    (∀ c : Dev Cert.KernelDownLatIdeal.nD,
      m' ((c.tc : Thread Cert.ReferenceDownLatIdeal.nD Cert.ReferenceDownLatIdeal.τ).loc Cert.ReferenceDownLatIdeal.main_arg0) = m ((c.tc : Thread Cert.KernelDownLatIdeal.nD Cert.KernelDownLatIdeal.τ).loc Cert.KernelDownLatIdeal.main_arg0)
      ∧ m' ((c.tc : Thread Cert.ReferenceDownLatIdeal.nD Cert.ReferenceDownLatIdeal.τ).loc Cert.ReferenceDownLatIdeal.main_arg1) = m ((c.tc : Thread Cert.KernelDownLatIdeal.nD Cert.KernelDownLatIdeal.τ).loc Cert.KernelDownLatIdeal.main_arg1)
      ∧ m' ((c.tc : Thread Cert.ReferenceDownLatIdeal.nD Cert.ReferenceDownLatIdeal.τ).loc Cert.ReferenceDownLatIdeal.main_arg2) = m ((c.tc : Thread Cert.KernelDownLatIdeal.nD Cert.KernelDownLatIdeal.τ).loc Cert.KernelDownLatIdeal.main_arg2)
      ∧ m' ((c.tc : Thread Cert.ReferenceDownLatIdeal.nD Cert.ReferenceDownLatIdeal.τ).loc Cert.ReferenceDownLatIdeal.main_arg3) = m ((c.tc : Thread Cert.KernelDownLatIdeal.nD Cert.KernelDownLatIdeal.τ).loc Cert.KernelDownLatIdeal.main_arg3)) →
    ∃ (v0 : (c : Dev Cert.KernelDownLatIdeal.nD) → Buf (Elt Ideal) ((c.tc : Thread Cert.KernelDownLatIdeal.nD Cert.KernelDownLatIdeal.τ).loc Cert.KernelDownLatIdeal.main_v1)),
      θ_run (Cert.KernelDownLatIdeal.defs (F := Ideal)) (onTc (τ := Cert.KernelDownLatIdeal.τ) (Cert.KernelDownLatIdeal.main (F := Ideal))) ⟨m, fun _ => 0, g⟩ (fun r => ∀ c : Dev Cert.KernelDownLatIdeal.nD,
          r.2.mem ((c.tc : Thread Cert.KernelDownLatIdeal.nD Cert.KernelDownLatIdeal.τ).loc Cert.KernelDownLatIdeal.main_v1) = v0 c
          ∧ r.2.mem ((c.tc : Thread Cert.KernelDownLatIdeal.nD Cert.KernelDownLatIdeal.τ).loc Cert.KernelDownLatIdeal.main_arg0) = m ((c.tc : Thread Cert.KernelDownLatIdeal.nD Cert.KernelDownLatIdeal.τ).loc Cert.KernelDownLatIdeal.main_arg0)
          ∧ r.2.mem ((c.tc : Thread Cert.KernelDownLatIdeal.nD Cert.KernelDownLatIdeal.τ).loc Cert.KernelDownLatIdeal.main_arg1) = m ((c.tc : Thread Cert.KernelDownLatIdeal.nD Cert.KernelDownLatIdeal.τ).loc Cert.KernelDownLatIdeal.main_arg1)
          ∧ r.2.mem ((c.tc : Thread Cert.KernelDownLatIdeal.nD Cert.KernelDownLatIdeal.τ).loc Cert.KernelDownLatIdeal.main_arg2) = m ((c.tc : Thread Cert.KernelDownLatIdeal.nD Cert.KernelDownLatIdeal.τ).loc Cert.KernelDownLatIdeal.main_arg2)
          ∧ r.2.mem ((c.tc : Thread Cert.KernelDownLatIdeal.nD Cert.KernelDownLatIdeal.τ).loc Cert.KernelDownLatIdeal.main_arg3) = m ((c.tc : Thread Cert.KernelDownLatIdeal.nD Cert.KernelDownLatIdeal.τ).loc Cert.KernelDownLatIdeal.main_arg3))
      ∧ θ_run (Cert.ReferenceDownLatIdeal.defs (F := Ideal)) (onTc (τ := Cert.ReferenceDownLatIdeal.τ) (Cert.ReferenceDownLatIdeal.main (F := Ideal))) ⟨m', fun _ => 0, g'⟩ (fun r => ∀ c : Dev Cert.ReferenceDownLatIdeal.nD,
          r.2.mem ((c.tc : Thread Cert.ReferenceDownLatIdeal.nD Cert.ReferenceDownLatIdeal.τ).loc Cert.ReferenceDownLatIdeal.main_v15) = v0 c
          ∧ r.2.mem ((c.tc : Thread Cert.ReferenceDownLatIdeal.nD Cert.ReferenceDownLatIdeal.τ).loc Cert.ReferenceDownLatIdeal.main_arg0) = m' ((c.tc : Thread Cert.ReferenceDownLatIdeal.nD Cert.ReferenceDownLatIdeal.τ).loc Cert.ReferenceDownLatIdeal.main_arg0)
          ∧ r.2.mem ((c.tc : Thread Cert.ReferenceDownLatIdeal.nD Cert.ReferenceDownLatIdeal.τ).loc Cert.ReferenceDownLatIdeal.main_arg1) = m' ((c.tc : Thread Cert.ReferenceDownLatIdeal.nD Cert.ReferenceDownLatIdeal.τ).loc Cert.ReferenceDownLatIdeal.main_arg1)
          ∧ r.2.mem ((c.tc : Thread Cert.ReferenceDownLatIdeal.nD Cert.ReferenceDownLatIdeal.τ).loc Cert.ReferenceDownLatIdeal.main_arg2) = m' ((c.tc : Thread Cert.ReferenceDownLatIdeal.nD Cert.ReferenceDownLatIdeal.τ).loc Cert.ReferenceDownLatIdeal.main_arg2)
          ∧ r.2.mem ((c.tc : Thread Cert.ReferenceDownLatIdeal.nD Cert.ReferenceDownLatIdeal.τ).loc Cert.ReferenceDownLatIdeal.main_arg3) = m' ((c.tc : Thread Cert.ReferenceDownLatIdeal.nD Cert.ReferenceDownLatIdeal.τ).loc Cert.ReferenceDownLatIdeal.main_arg3))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)) →
    ∃ (v0 : (c : Dev Cert.KernelOutIdeal.nD) → Buf (Elt Ideal) ((c.tc : Thread Cert.KernelOutIdeal.nD Cert.KernelOutIdeal.τ).loc Cert.KernelOutIdeal.main_v1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v1) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v33) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3))

def preserves_KernelMlaOut_KernelMlaOutIdeal : Prop :=
  True

def algebraic_KernelMlaOutIdeal_ReferenceMlaOutIdeal [hKernelMlaOutIdeal : Cert.KernelMlaOutIdeal.Facts] [hReferenceMlaOutIdeal : Cert.ReferenceMlaOutIdeal.Facts] : Prop :=
  ∀ (m : (ℓ : Loc Cert.KernelMlaOutIdeal.nD Cert.KernelMlaOutIdeal.τ Cert.KernelMlaOutIdeal.sig) → Buf (Elt Ideal) ℓ) (g : Dev Cert.KernelMlaOutIdeal.nD → PrngReg)
    (m' : (ℓ : Loc Cert.ReferenceMlaOutIdeal.nD Cert.ReferenceMlaOutIdeal.τ Cert.ReferenceMlaOutIdeal.sig) → Buf (Elt Ideal) ℓ) (g' : Dev Cert.ReferenceMlaOutIdeal.nD → PrngReg), Pre_KernelMlaOutIdeal m →
    (∀ c : Dev Cert.KernelMlaOutIdeal.nD,
      m' ((c.tc : Thread Cert.ReferenceMlaOutIdeal.nD Cert.ReferenceMlaOutIdeal.τ).loc Cert.ReferenceMlaOutIdeal.main_arg0) = m ((c.tc : Thread Cert.KernelMlaOutIdeal.nD Cert.KernelMlaOutIdeal.τ).loc Cert.KernelMlaOutIdeal.main_arg0)
      ∧ m' ((c.tc : Thread Cert.ReferenceMlaOutIdeal.nD Cert.ReferenceMlaOutIdeal.τ).loc Cert.ReferenceMlaOutIdeal.main_arg1) = m ((c.tc : Thread Cert.KernelMlaOutIdeal.nD Cert.KernelMlaOutIdeal.τ).loc Cert.KernelMlaOutIdeal.main_arg1)
      ∧ m' ((c.tc : Thread Cert.ReferenceMlaOutIdeal.nD Cert.ReferenceMlaOutIdeal.τ).loc Cert.ReferenceMlaOutIdeal.main_arg2) = m ((c.tc : Thread Cert.KernelMlaOutIdeal.nD Cert.KernelMlaOutIdeal.τ).loc Cert.KernelMlaOutIdeal.main_arg2)
      ∧ m' ((c.tc : Thread Cert.ReferenceMlaOutIdeal.nD Cert.ReferenceMlaOutIdeal.τ).loc Cert.ReferenceMlaOutIdeal.main_arg3) = m ((c.tc : Thread Cert.KernelMlaOutIdeal.nD Cert.KernelMlaOutIdeal.τ).loc Cert.KernelMlaOutIdeal.main_arg3)) →
    ∃ (v0 : (c : Dev Cert.KernelMlaOutIdeal.nD) → Buf (Elt Ideal) ((c.tc : Thread Cert.KernelMlaOutIdeal.nD Cert.KernelMlaOutIdeal.τ).loc Cert.KernelMlaOutIdeal.main_v2)),
      θ_run (Cert.KernelMlaOutIdeal.defs (F := Ideal)) (onTc (τ := Cert.KernelMlaOutIdeal.τ) (Cert.KernelMlaOutIdeal.main (F := Ideal))) ⟨m, fun _ => 0, g⟩ (fun r => ∀ c : Dev Cert.KernelMlaOutIdeal.nD,
          r.2.mem ((c.tc : Thread Cert.KernelMlaOutIdeal.nD Cert.KernelMlaOutIdeal.τ).loc Cert.KernelMlaOutIdeal.main_v2) = v0 c
          ∧ r.2.mem ((c.tc : Thread Cert.KernelMlaOutIdeal.nD Cert.KernelMlaOutIdeal.τ).loc Cert.KernelMlaOutIdeal.main_arg0) = m ((c.tc : Thread Cert.KernelMlaOutIdeal.nD Cert.KernelMlaOutIdeal.τ).loc Cert.KernelMlaOutIdeal.main_arg0)
          ∧ r.2.mem ((c.tc : Thread Cert.KernelMlaOutIdeal.nD Cert.KernelMlaOutIdeal.τ).loc Cert.KernelMlaOutIdeal.main_arg1) = m ((c.tc : Thread Cert.KernelMlaOutIdeal.nD Cert.KernelMlaOutIdeal.τ).loc Cert.KernelMlaOutIdeal.main_arg1)
          ∧ r.2.mem ((c.tc : Thread Cert.KernelMlaOutIdeal.nD Cert.KernelMlaOutIdeal.τ).loc Cert.KernelMlaOutIdeal.main_arg2) = m ((c.tc : Thread Cert.KernelMlaOutIdeal.nD Cert.KernelMlaOutIdeal.τ).loc Cert.KernelMlaOutIdeal.main_arg2)
          ∧ r.2.mem ((c.tc : Thread Cert.KernelMlaOutIdeal.nD Cert.KernelMlaOutIdeal.τ).loc Cert.KernelMlaOutIdeal.main_arg3) = m ((c.tc : Thread Cert.KernelMlaOutIdeal.nD Cert.KernelMlaOutIdeal.τ).loc Cert.KernelMlaOutIdeal.main_arg3))
      ∧ θ_run (Cert.ReferenceMlaOutIdeal.defs (F := Ideal)) (onTc (τ := Cert.ReferenceMlaOutIdeal.τ) (Cert.ReferenceMlaOutIdeal.main (F := Ideal))) ⟨m', fun _ => 0, g'⟩ (fun r => ∀ c : Dev Cert.ReferenceMlaOutIdeal.nD,
          r.2.mem ((c.tc : Thread Cert.ReferenceMlaOutIdeal.nD Cert.ReferenceMlaOutIdeal.τ).loc Cert.ReferenceMlaOutIdeal.main_v14) = v0 c
          ∧ r.2.mem ((c.tc : Thread Cert.ReferenceMlaOutIdeal.nD Cert.ReferenceMlaOutIdeal.τ).loc Cert.ReferenceMlaOutIdeal.main_arg0) = m' ((c.tc : Thread Cert.ReferenceMlaOutIdeal.nD Cert.ReferenceMlaOutIdeal.τ).loc Cert.ReferenceMlaOutIdeal.main_arg0)
          ∧ r.2.mem ((c.tc : Thread Cert.ReferenceMlaOutIdeal.nD Cert.ReferenceMlaOutIdeal.τ).loc Cert.ReferenceMlaOutIdeal.main_arg1) = m' ((c.tc : Thread Cert.ReferenceMlaOutIdeal.nD Cert.ReferenceMlaOutIdeal.τ).loc Cert.ReferenceMlaOutIdeal.main_arg1)
          ∧ r.2.mem ((c.tc : Thread Cert.ReferenceMlaOutIdeal.nD Cert.ReferenceMlaOutIdeal.τ).loc Cert.ReferenceMlaOutIdeal.main_arg2) = m' ((c.tc : Thread Cert.ReferenceMlaOutIdeal.nD Cert.ReferenceMlaOutIdeal.τ).loc Cert.ReferenceMlaOutIdeal.main_arg2)
          ∧ r.2.mem ((c.tc : Thread Cert.ReferenceMlaOutIdeal.nD Cert.ReferenceMlaOutIdeal.τ).loc Cert.ReferenceMlaOutIdeal.main_arg3) = m' ((c.tc : Thread Cert.ReferenceMlaOutIdeal.nD Cert.ReferenceMlaOutIdeal.τ).loc Cert.ReferenceMlaOutIdeal.main_arg3))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)
      ∧ m' ((c.tc : Thread Cert.ReferenceUpIdeal.nD Cert.ReferenceUpIdeal.τ).loc Cert.ReferenceUpIdeal.main_arg3) = m ((c.tc : Thread Cert.KernelUpIdeal.nD Cert.KernelUpIdeal.τ).loc Cert.KernelUpIdeal.main_arg3)) →
    ∃ (v0 : (c : Dev Cert.KernelUpIdeal.nD) → Buf (Elt Ideal) ((c.tc : Thread Cert.KernelUpIdeal.nD Cert.KernelUpIdeal.τ).loc Cert.KernelUpIdeal.main_v5)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v5) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
          ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v68) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2)
          ∧ r.2.mem ((c.tc : Thread Cert.ReferenceUpIdeal.nD Cert.ReferenceUpIdeal.τ).loc Cert.ReferenceUpIdeal.main_arg3) = m' ((c.tc : Thread Cert.ReferenceUpIdeal.nD Cert.ReferenceUpIdeal.τ).loc Cert.ReferenceUpIdeal.main_arg3))

def preserves_KernelUpLat_KernelUpLatIdeal : Prop :=
  True

def algebraic_KernelUpLatIdeal_ReferenceUpLatIdeal [hKernelUpLatIdeal : Cert.KernelUpLatIdeal.Facts] [hReferenceUpLatIdeal : Cert.ReferenceUpLatIdeal.Facts] : Prop :=
  ∀ (m : (ℓ : Loc Cert.KernelUpLatIdeal.nD Cert.KernelUpLatIdeal.τ Cert.KernelUpLatIdeal.sig) → Buf (Elt Ideal) ℓ) (g : Dev Cert.KernelUpLatIdeal.nD → PrngReg)
    (m' : (ℓ : Loc Cert.ReferenceUpLatIdeal.nD Cert.ReferenceUpLatIdeal.τ Cert.ReferenceUpLatIdeal.sig) → Buf (Elt Ideal) ℓ) (g' : Dev Cert.ReferenceUpLatIdeal.nD → PrngReg), Pre_KernelUpLatIdeal m →
    (∀ c : Dev Cert.KernelUpLatIdeal.nD,
      m' ((c.tc : Thread Cert.ReferenceUpLatIdeal.nD Cert.ReferenceUpLatIdeal.τ).loc Cert.ReferenceUpLatIdeal.main_arg0) = m ((c.tc : Thread Cert.KernelUpLatIdeal.nD Cert.KernelUpLatIdeal.τ).loc Cert.KernelUpLatIdeal.main_arg0)
      ∧ m' ((c.tc : Thread Cert.ReferenceUpLatIdeal.nD Cert.ReferenceUpLatIdeal.τ).loc Cert.ReferenceUpLatIdeal.main_arg1) = m ((c.tc : Thread Cert.KernelUpLatIdeal.nD Cert.KernelUpLatIdeal.τ).loc Cert.KernelUpLatIdeal.main_arg1)
      ∧ m' ((c.tc : Thread Cert.ReferenceUpLatIdeal.nD Cert.ReferenceUpLatIdeal.τ).loc Cert.ReferenceUpLatIdeal.main_arg2) = m ((c.tc : Thread Cert.KernelUpLatIdeal.nD Cert.KernelUpLatIdeal.τ).loc Cert.KernelUpLatIdeal.main_arg2)
      ∧ m' ((c.tc : Thread Cert.ReferenceUpLatIdeal.nD Cert.ReferenceUpLatIdeal.τ).loc Cert.ReferenceUpLatIdeal.main_arg3) = m ((c.tc : Thread Cert.KernelUpLatIdeal.nD Cert.KernelUpLatIdeal.τ).loc Cert.KernelUpLatIdeal.main_arg3)) →
    ∃ (v0 : (c : Dev Cert.KernelUpLatIdeal.nD) → Buf (Elt Ideal) ((c.tc : Thread Cert.KernelUpLatIdeal.nD Cert.KernelUpLatIdeal.τ).loc Cert.KernelUpLatIdeal.main_v5)),
      θ_run (Cert.KernelUpLatIdeal.defs (F := Ideal)) (onTc (τ := Cert.KernelUpLatIdeal.τ) (Cert.KernelUpLatIdeal.main (F := Ideal))) ⟨m, fun _ => 0, g⟩ (fun r => ∀ c : Dev Cert.KernelUpLatIdeal.nD,
          r.2.mem ((c.tc : Thread Cert.KernelUpLatIdeal.nD Cert.KernelUpLatIdeal.τ).loc Cert.KernelUpLatIdeal.main_v5) = v0 c
          ∧ r.2.mem ((c.tc : Thread Cert.KernelUpLatIdeal.nD Cert.KernelUpLatIdeal.τ).loc Cert.KernelUpLatIdeal.main_arg0) = m ((c.tc : Thread Cert.KernelUpLatIdeal.nD Cert.KernelUpLatIdeal.τ).loc Cert.KernelUpLatIdeal.main_arg0)
          ∧ r.2.mem ((c.tc : Thread Cert.KernelUpLatIdeal.nD Cert.KernelUpLatIdeal.τ).loc Cert.KernelUpLatIdeal.main_arg1) = m ((c.tc : Thread Cert.KernelUpLatIdeal.nD Cert.KernelUpLatIdeal.τ).loc Cert.KernelUpLatIdeal.main_arg1)
          ∧ r.2.mem ((c.tc : Thread Cert.KernelUpLatIdeal.nD Cert.KernelUpLatIdeal.τ).loc Cert.KernelUpLatIdeal.main_arg2) = m ((c.tc : Thread Cert.KernelUpLatIdeal.nD Cert.KernelUpLatIdeal.τ).loc Cert.KernelUpLatIdeal.main_arg2)
          ∧ r.2.mem ((c.tc : Thread Cert.KernelUpLatIdeal.nD Cert.KernelUpLatIdeal.τ).loc Cert.KernelUpLatIdeal.main_arg3) = m ((c.tc : Thread Cert.KernelUpLatIdeal.nD Cert.KernelUpLatIdeal.τ).loc Cert.KernelUpLatIdeal.main_arg3))
      ∧ θ_run (Cert.ReferenceUpLatIdeal.defs (F := Ideal)) (onTc (τ := Cert.ReferenceUpLatIdeal.τ) (Cert.ReferenceUpLatIdeal.main (F := Ideal))) ⟨m', fun _ => 0, g'⟩ (fun r => ∀ c : Dev Cert.ReferenceUpLatIdeal.nD,
          r.2.mem ((c.tc : Thread Cert.ReferenceUpLatIdeal.nD Cert.ReferenceUpLatIdeal.τ).loc Cert.ReferenceUpLatIdeal.main_v34) = v0 c
          ∧ r.2.mem ((c.tc : Thread Cert.ReferenceUpLatIdeal.nD Cert.ReferenceUpLatIdeal.τ).loc Cert.ReferenceUpLatIdeal.main_arg0) = m' ((c.tc : Thread Cert.ReferenceUpLatIdeal.nD Cert.ReferenceUpLatIdeal.τ).loc Cert.ReferenceUpLatIdeal.main_arg0)
          ∧ r.2.mem ((c.tc : Thread Cert.ReferenceUpLatIdeal.nD Cert.ReferenceUpLatIdeal.τ).loc Cert.ReferenceUpLatIdeal.main_arg1) = m' ((c.tc : Thread Cert.ReferenceUpLatIdeal.nD Cert.ReferenceUpLatIdeal.τ).loc Cert.ReferenceUpLatIdeal.main_arg1)
          ∧ r.2.mem ((c.tc : Thread Cert.ReferenceUpLatIdeal.nD Cert.ReferenceUpLatIdeal.τ).loc Cert.ReferenceUpLatIdeal.main_arg2) = m' ((c.tc : Thread Cert.ReferenceUpLatIdeal.nD Cert.ReferenceUpLatIdeal.τ).loc Cert.ReferenceUpLatIdeal.main_arg2)
          ∧ r.2.mem ((c.tc : Thread Cert.ReferenceUpLatIdeal.nD Cert.ReferenceUpLatIdeal.τ).loc Cert.ReferenceUpLatIdeal.main_arg3) = m' ((c.tc : Thread Cert.ReferenceUpLatIdeal.nD Cert.ReferenceUpLatIdeal.τ).loc Cert.ReferenceUpLatIdeal.main_arg3))

def preserves_KernelRkv_KernelRkvIdeal : Prop :=
  True

def algebraic_KernelRkvIdeal_ReferenceRkvIdeal [hKernelRkvIdeal : Cert.KernelRkvIdeal.Facts] [hReferenceRkvIdeal : Cert.ReferenceRkvIdeal.Facts] : Prop :=
  ∀ (m : (ℓ : Loc Cert.KernelRkvIdeal.nD Cert.KernelRkvIdeal.τ Cert.KernelRkvIdeal.sig) → Buf (Elt Ideal) ℓ) (g : Dev Cert.KernelRkvIdeal.nD → PrngReg)
    (m' : (ℓ : Loc Cert.ReferenceRkvIdeal.nD Cert.ReferenceRkvIdeal.τ Cert.ReferenceRkvIdeal.sig) → Buf (Elt Ideal) ℓ) (g' : Dev Cert.ReferenceRkvIdeal.nD → PrngReg), Pre_KernelRkvIdeal m →
    (∀ c : Dev Cert.KernelRkvIdeal.nD,
      m' ((c.tc : Thread Cert.ReferenceRkvIdeal.nD Cert.ReferenceRkvIdeal.τ).loc Cert.ReferenceRkvIdeal.main_arg0) = m ((c.tc : Thread Cert.KernelRkvIdeal.nD Cert.KernelRkvIdeal.τ).loc Cert.KernelRkvIdeal.main_arg0)
      ∧ m' ((c.tc : Thread Cert.ReferenceRkvIdeal.nD Cert.ReferenceRkvIdeal.τ).loc Cert.ReferenceRkvIdeal.main_arg1) = m ((c.tc : Thread Cert.KernelRkvIdeal.nD Cert.KernelRkvIdeal.τ).loc Cert.KernelRkvIdeal.main_arg1)
      ∧ m' ((c.tc : Thread Cert.ReferenceRkvIdeal.nD Cert.ReferenceRkvIdeal.τ).loc Cert.ReferenceRkvIdeal.main_arg2) = m ((c.tc : Thread Cert.KernelRkvIdeal.nD Cert.KernelRkvIdeal.τ).loc Cert.KernelRkvIdeal.main_arg2)
      ∧ m' ((c.tc : Thread Cert.ReferenceRkvIdeal.nD Cert.ReferenceRkvIdeal.τ).loc Cert.ReferenceRkvIdeal.main_arg3) = m ((c.tc : Thread Cert.KernelRkvIdeal.nD Cert.KernelRkvIdeal.τ).loc Cert.KernelRkvIdeal.main_arg3)
      ∧ m' ((c.tc : Thread Cert.ReferenceRkvIdeal.nD Cert.ReferenceRkvIdeal.τ).loc Cert.ReferenceRkvIdeal.main_arg4) = m ((c.tc : Thread Cert.KernelRkvIdeal.nD Cert.KernelRkvIdeal.τ).loc Cert.KernelRkvIdeal.main_arg4)
      ∧ m' ((c.tc : Thread Cert.ReferenceRkvIdeal.nD Cert.ReferenceRkvIdeal.τ).loc Cert.ReferenceRkvIdeal.main_arg5) = m ((c.tc : Thread Cert.KernelRkvIdeal.nD Cert.KernelRkvIdeal.τ).loc Cert.KernelRkvIdeal.main_arg5)) →
    ∃ (v0 : (c : Dev Cert.KernelRkvIdeal.nD) → Buf (Elt Ideal) ((c.tc : Thread Cert.KernelRkvIdeal.nD Cert.KernelRkvIdeal.τ).loc Cert.KernelRkvIdeal.main_v12)),
      θ_run (Cert.KernelRkvIdeal.defs (F := Ideal)) (onTc (τ := Cert.KernelRkvIdeal.τ) (Cert.KernelRkvIdeal.main (F := Ideal))) ⟨m, fun _ => 0, g⟩ (fun r => ∀ c : Dev Cert.KernelRkvIdeal.nD,
          r.2.mem ((c.tc : Thread Cert.KernelRkvIdeal.nD Cert.KernelRkvIdeal.τ).loc Cert.KernelRkvIdeal.main_v12) = v0 c
          ∧ r.2.mem ((c.tc : Thread Cert.KernelRkvIdeal.nD Cert.KernelRkvIdeal.τ).loc Cert.KernelRkvIdeal.main_arg0) = m ((c.tc : Thread Cert.KernelRkvIdeal.nD Cert.KernelRkvIdeal.τ).loc Cert.KernelRkvIdeal.main_arg0)
          ∧ r.2.mem ((c.tc : Thread Cert.KernelRkvIdeal.nD Cert.KernelRkvIdeal.τ).loc Cert.KernelRkvIdeal.main_arg1) = m ((c.tc : Thread Cert.KernelRkvIdeal.nD Cert.KernelRkvIdeal.τ).loc Cert.KernelRkvIdeal.main_arg1)
          ∧ r.2.mem ((c.tc : Thread Cert.KernelRkvIdeal.nD Cert.KernelRkvIdeal.τ).loc Cert.KernelRkvIdeal.main_arg2) = m ((c.tc : Thread Cert.KernelRkvIdeal.nD Cert.KernelRkvIdeal.τ).loc Cert.KernelRkvIdeal.main_arg2)
          ∧ r.2.mem ((c.tc : Thread Cert.KernelRkvIdeal.nD Cert.KernelRkvIdeal.τ).loc Cert.KernelRkvIdeal.main_arg3) = m ((c.tc : Thread Cert.KernelRkvIdeal.nD Cert.KernelRkvIdeal.τ).loc Cert.KernelRkvIdeal.main_arg3)
          ∧ r.2.mem ((c.tc : Thread Cert.KernelRkvIdeal.nD Cert.KernelRkvIdeal.τ).loc Cert.KernelRkvIdeal.main_arg4) = m ((c.tc : Thread Cert.KernelRkvIdeal.nD Cert.KernelRkvIdeal.τ).loc Cert.KernelRkvIdeal.main_arg4)
          ∧ r.2.mem ((c.tc : Thread Cert.KernelRkvIdeal.nD Cert.KernelRkvIdeal.τ).loc Cert.KernelRkvIdeal.main_arg5) = m ((c.tc : Thread Cert.KernelRkvIdeal.nD Cert.KernelRkvIdeal.τ).loc Cert.KernelRkvIdeal.main_arg5))
      ∧ θ_run (Cert.ReferenceRkvIdeal.defs (F := Ideal)) (onTc (τ := Cert.ReferenceRkvIdeal.τ) (Cert.ReferenceRkvIdeal.main (F := Ideal))) ⟨m', fun _ => 0, g'⟩ (fun r => ∀ c : Dev Cert.ReferenceRkvIdeal.nD,
          r.2.mem ((c.tc : Thread Cert.ReferenceRkvIdeal.nD Cert.ReferenceRkvIdeal.τ).loc Cert.ReferenceRkvIdeal.main_v21) = v0 c
          ∧ r.2.mem ((c.tc : Thread Cert.ReferenceRkvIdeal.nD Cert.ReferenceRkvIdeal.τ).loc Cert.ReferenceRkvIdeal.main_arg0) = m' ((c.tc : Thread Cert.ReferenceRkvIdeal.nD Cert.ReferenceRkvIdeal.τ).loc Cert.ReferenceRkvIdeal.main_arg0)
          ∧ r.2.mem ((c.tc : Thread Cert.ReferenceRkvIdeal.nD Cert.ReferenceRkvIdeal.τ).loc Cert.ReferenceRkvIdeal.main_arg1) = m' ((c.tc : Thread Cert.ReferenceRkvIdeal.nD Cert.ReferenceRkvIdeal.τ).loc Cert.ReferenceRkvIdeal.main_arg1)
          ∧ r.2.mem ((c.tc : Thread Cert.ReferenceRkvIdeal.nD Cert.ReferenceRkvIdeal.τ).loc Cert.ReferenceRkvIdeal.main_arg2) = m' ((c.tc : Thread Cert.ReferenceRkvIdeal.nD Cert.ReferenceRkvIdeal.τ).loc Cert.ReferenceRkvIdeal.main_arg2)
          ∧ r.2.mem ((c.tc : Thread Cert.ReferenceRkvIdeal.nD Cert.ReferenceRkvIdeal.τ).loc Cert.ReferenceRkvIdeal.main_arg3) = m' ((c.tc : Thread Cert.ReferenceRkvIdeal.nD Cert.ReferenceRkvIdeal.τ).loc Cert.ReferenceRkvIdeal.main_arg3)
          ∧ r.2.mem ((c.tc : Thread Cert.ReferenceRkvIdeal.nD Cert.ReferenceRkvIdeal.τ).loc Cert.ReferenceRkvIdeal.main_arg4) = m' ((c.tc : Thread Cert.ReferenceRkvIdeal.nD Cert.ReferenceRkvIdeal.τ).loc Cert.ReferenceRkvIdeal.main_arg4)
          ∧ r.2.mem ((c.tc : Thread Cert.ReferenceRkvIdeal.nD Cert.ReferenceRkvIdeal.τ).loc Cert.ReferenceRkvIdeal.main_arg5) = m' ((c.tc : Thread Cert.ReferenceRkvIdeal.nD Cert.ReferenceRkvIdeal.τ).loc Cert.ReferenceRkvIdeal.main_arg5))

def preserves_KernelKvUp_KernelKvUpIdeal : Prop :=
  True

def algebraic_KernelKvUpIdeal_ReferenceKvUpIdeal [hKernelKvUpIdeal : Cert.KernelKvUpIdeal.Facts] [hReferenceKvUpIdeal : Cert.ReferenceKvUpIdeal.Facts] : Prop :=
  ∀ (m : (ℓ : Loc Cert.KernelKvUpIdeal.nD Cert.KernelKvUpIdeal.τ Cert.KernelKvUpIdeal.sig) → Buf (Elt Ideal) ℓ) (g : Dev Cert.KernelKvUpIdeal.nD → PrngReg)
    (m' : (ℓ : Loc Cert.ReferenceKvUpIdeal.nD Cert.ReferenceKvUpIdeal.τ Cert.ReferenceKvUpIdeal.sig) → Buf (Elt Ideal) ℓ) (g' : Dev Cert.ReferenceKvUpIdeal.nD → PrngReg), Pre_KernelKvUpIdeal m →
    (∀ c : Dev Cert.KernelKvUpIdeal.nD,
      m' ((c.tc : Thread Cert.ReferenceKvUpIdeal.nD Cert.ReferenceKvUpIdeal.τ).loc Cert.ReferenceKvUpIdeal.main_arg0) = m ((c.tc : Thread Cert.KernelKvUpIdeal.nD Cert.KernelKvUpIdeal.τ).loc Cert.KernelKvUpIdeal.main_arg0)
      ∧ m' ((c.tc : Thread Cert.ReferenceKvUpIdeal.nD Cert.ReferenceKvUpIdeal.τ).loc Cert.ReferenceKvUpIdeal.main_arg1) = m ((c.tc : Thread Cert.KernelKvUpIdeal.nD Cert.KernelKvUpIdeal.τ).loc Cert.KernelKvUpIdeal.main_arg1)
      ∧ m' ((c.tc : Thread Cert.ReferenceKvUpIdeal.nD Cert.ReferenceKvUpIdeal.τ).loc Cert.ReferenceKvUpIdeal.main_arg2) = m ((c.tc : Thread Cert.KernelKvUpIdeal.nD Cert.KernelKvUpIdeal.τ).loc Cert.KernelKvUpIdeal.main_arg2)) →
    ∃ (v0 : (c : Dev Cert.KernelKvUpIdeal.nD) → Buf (Elt Ideal) ((c.tc : Thread Cert.KernelKvUpIdeal.nD Cert.KernelKvUpIdeal.τ).loc Cert.KernelKvUpIdeal.main_v7_0)) (v1 : (c : Dev Cert.KernelKvUpIdeal.nD) → Buf (Elt Ideal) ((c.tc : Thread Cert.KernelKvUpIdeal.nD Cert.KernelKvUpIdeal.τ).loc Cert.KernelKvUpIdeal.main_v7_1)),
      θ_run (Cert.KernelKvUpIdeal.defs (F := Ideal)) (onTc (τ := Cert.KernelKvUpIdeal.τ) (Cert.KernelKvUpIdeal.main (F := Ideal))) ⟨m, fun _ => 0, g⟩ (fun r => ∀ c : Dev Cert.KernelKvUpIdeal.nD,
          r.2.mem ((c.tc : Thread Cert.KernelKvUpIdeal.nD Cert.KernelKvUpIdeal.τ).loc Cert.KernelKvUpIdeal.main_v7_0) = v0 c
          ∧ r.2.mem ((c.tc : Thread Cert.KernelKvUpIdeal.nD Cert.KernelKvUpIdeal.τ).loc Cert.KernelKvUpIdeal.main_v7_1) = v1 c
          ∧ r.2.mem ((c.tc : Thread Cert.KernelKvUpIdeal.nD Cert.KernelKvUpIdeal.τ).loc Cert.KernelKvUpIdeal.main_arg0) = m ((c.tc : Thread Cert.KernelKvUpIdeal.nD Cert.KernelKvUpIdeal.τ).loc Cert.KernelKvUpIdeal.main_arg0)
          ∧ r.2.mem ((c.tc : Thread Cert.KernelKvUpIdeal.nD Cert.KernelKvUpIdeal.τ).loc Cert.KernelKvUpIdeal.main_arg1) = m ((c.tc : Thread Cert.KernelKvUpIdeal.nD Cert.KernelKvUpIdeal.τ).loc Cert.KernelKvUpIdeal.main_arg1)
          ∧ r.2.mem ((c.tc : Thread Cert.KernelKvUpIdeal.nD Cert.KernelKvUpIdeal.τ).loc Cert.KernelKvUpIdeal.main_arg2) = m ((c.tc : Thread Cert.KernelKvUpIdeal.nD Cert.KernelKvUpIdeal.τ).loc Cert.KernelKvUpIdeal.main_arg2))
      ∧ θ_run (Cert.ReferenceKvUpIdeal.defs (F := Ideal)) (onTc (τ := Cert.ReferenceKvUpIdeal.τ) (Cert.ReferenceKvUpIdeal.main (F := Ideal))) ⟨m', fun _ => 0, g'⟩ (fun r => ∀ c : Dev Cert.ReferenceKvUpIdeal.nD,
          r.2.mem ((c.tc : Thread Cert.ReferenceKvUpIdeal.nD Cert.ReferenceKvUpIdeal.τ).loc Cert.ReferenceKvUpIdeal.main_v10) = v0 c
          ∧ r.2.mem ((c.tc : Thread Cert.ReferenceKvUpIdeal.nD Cert.ReferenceKvUpIdeal.τ).loc Cert.ReferenceKvUpIdeal.main_v12) = v1 c
          ∧ r.2.mem ((c.tc : Thread Cert.ReferenceKvUpIdeal.nD Cert.ReferenceKvUpIdeal.τ).loc Cert.ReferenceKvUpIdeal.main_arg0) = m' ((c.tc : Thread Cert.ReferenceKvUpIdeal.nD Cert.ReferenceKvUpIdeal.τ).loc Cert.ReferenceKvUpIdeal.main_arg0)
          ∧ r.2.mem ((c.tc : Thread Cert.ReferenceKvUpIdeal.nD Cert.ReferenceKvUpIdeal.τ).loc Cert.ReferenceKvUpIdeal.main_arg1) = m' ((c.tc : Thread Cert.ReferenceKvUpIdeal.nD Cert.ReferenceKvUpIdeal.τ).loc Cert.ReferenceKvUpIdeal.main_arg1)
          ∧ r.2.mem ((c.tc : Thread Cert.ReferenceKvUpIdeal.nD Cert.ReferenceKvUpIdeal.τ).loc Cert.ReferenceKvUpIdeal.main_arg2) = m' ((c.tc : Thread Cert.ReferenceKvUpIdeal.nD Cert.ReferenceKvUpIdeal.τ).loc Cert.ReferenceKvUpIdeal.main_arg2))

def preserves_KernelGate_KernelGateIdeal : Prop :=
  True

def algebraic_KernelGateIdeal_ReferenceGateIdeal [hKernelGateIdeal : Cert.KernelGateIdeal.Facts] [hReferenceGateIdeal : Cert.ReferenceGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg)
    (m' : (ℓ : Loc Cert.ReferenceGateIdeal.nD Cert.ReferenceGateIdeal.τ Cert.ReferenceGateIdeal.sig) → Buf (Elt Ideal) ℓ) (g' : Dev Cert.ReferenceGateIdeal.nD → PrngReg), Pre_KernelGateIdeal m →
    (∀ c : Dev Cert.KernelGateIdeal.nD,
      m' ((c.tc : Thread Cert.ReferenceGateIdeal.nD Cert.ReferenceGateIdeal.τ).loc Cert.ReferenceGateIdeal.main_arg0) = m ((c.tc : Thread Cert.KernelGateIdeal.nD Cert.KernelGateIdeal.τ).loc Cert.KernelGateIdeal.main_arg0)
      ∧ m' ((c.tc : Thread Cert.ReferenceGateIdeal.nD Cert.ReferenceGateIdeal.τ).loc Cert.ReferenceGateIdeal.main_arg1) = m ((c.tc : Thread Cert.KernelGateIdeal.nD Cert.KernelGateIdeal.τ).loc Cert.KernelGateIdeal.main_arg1)) →
    ∃ (v0 : (c : Dev Cert.KernelGateIdeal.nD) → Buf (Elt Ideal) ((c.tc : Thread Cert.KernelGateIdeal.nD Cert.KernelGateIdeal.τ).loc Cert.KernelGateIdeal.main_v3)),
      θ_run (Cert.KernelGateIdeal.defs (F := Ideal)) (onTc (τ := Cert.KernelGateIdeal.τ) (Cert.KernelGateIdeal.main (F := Ideal))) ⟨m, fun _ => 0, g⟩ (fun r => ∀ c : Dev Cert.KernelGateIdeal.nD,
          r.2.mem ((c.tc : Thread Cert.KernelGateIdeal.nD Cert.KernelGateIdeal.τ).loc Cert.KernelGateIdeal.main_v3) = v0 c
          ∧ r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
          ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1))
      ∧ θ_run (Cert.ReferenceGateIdeal.defs (F := Ideal)) (onTc (τ := Cert.ReferenceGateIdeal.τ) (Cert.ReferenceGateIdeal.main (F := Ideal))) ⟨m', fun _ => 0, g'⟩ (fun r => ∀ c : Dev Cert.ReferenceGateIdeal.nD,
          r.2.mem ((c.tc : Thread Cert.ReferenceGateIdeal.nD Cert.ReferenceGateIdeal.τ).loc Cert.ReferenceGateIdeal.main_v2) = v0 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1))

def preserves_KernelMlaDown_KernelMlaDownIdeal : Prop :=
  True

def algebraic_KernelMlaDownIdeal_ReferenceMlaDownIdeal [hKernelMlaDownIdeal : Cert.KernelMlaDownIdeal.Facts] [hReferenceMlaDownIdeal : Cert.ReferenceMlaDownIdeal.Facts] : Prop :=
  ∀ (m : (ℓ : Loc Cert.KernelMlaDownIdeal.nD Cert.KernelMlaDownIdeal.τ Cert.KernelMlaDownIdeal.sig) → Buf (Elt Ideal) ℓ) (g : Dev Cert.KernelMlaDownIdeal.nD → PrngReg)
    (m' : (ℓ : Loc Cert.ReferenceMlaDownIdeal.nD Cert.ReferenceMlaDownIdeal.τ Cert.ReferenceMlaDownIdeal.sig) → Buf (Elt Ideal) ℓ) (g' : Dev Cert.ReferenceMlaDownIdeal.nD → PrngReg), Pre_KernelMlaDownIdeal m →
    (∀ c : Dev Cert.KernelMlaDownIdeal.nD,
      m' ((c.tc : Thread Cert.ReferenceMlaDownIdeal.nD Cert.ReferenceMlaDownIdeal.τ).loc Cert.ReferenceMlaDownIdeal.main_arg0) = m ((c.tc : Thread Cert.KernelMlaDownIdeal.nD Cert.KernelMlaDownIdeal.τ).loc Cert.KernelMlaDownIdeal.main_arg0)
      ∧ m' ((c.tc : Thread Cert.ReferenceMlaDownIdeal.nD Cert.ReferenceMlaDownIdeal.τ).loc Cert.ReferenceMlaDownIdeal.main_arg1) = m ((c.tc : Thread Cert.KernelMlaDownIdeal.nD Cert.KernelMlaDownIdeal.τ).loc Cert.KernelMlaDownIdeal.main_arg1)
      ∧ m' ((c.tc : Thread Cert.ReferenceMlaDownIdeal.nD Cert.ReferenceMlaDownIdeal.τ).loc Cert.ReferenceMlaDownIdeal.main_arg2) = m ((c.tc : Thread Cert.KernelMlaDownIdeal.nD Cert.KernelMlaDownIdeal.τ).loc Cert.KernelMlaDownIdeal.main_arg2)
      ∧ m' ((c.tc : Thread Cert.ReferenceMlaDownIdeal.nD Cert.ReferenceMlaDownIdeal.τ).loc Cert.ReferenceMlaDownIdeal.main_arg3) = m ((c.tc : Thread Cert.KernelMlaDownIdeal.nD Cert.KernelMlaDownIdeal.τ).loc Cert.KernelMlaDownIdeal.main_arg3)
      ∧ m' ((c.tc : Thread Cert.ReferenceMlaDownIdeal.nD Cert.ReferenceMlaDownIdeal.τ).loc Cert.ReferenceMlaDownIdeal.main_arg4) = m ((c.tc : Thread Cert.KernelMlaDownIdeal.nD Cert.KernelMlaDownIdeal.τ).loc Cert.KernelMlaDownIdeal.main_arg4)
      ∧ m' ((c.tc : Thread Cert.ReferenceMlaDownIdeal.nD Cert.ReferenceMlaDownIdeal.τ).loc Cert.ReferenceMlaDownIdeal.main_arg5) = m ((c.tc : Thread Cert.KernelMlaDownIdeal.nD Cert.KernelMlaDownIdeal.τ).loc Cert.KernelMlaDownIdeal.main_arg5)) →
    ∃ (v0 : (c : Dev Cert.KernelMlaDownIdeal.nD) → Buf (Elt Ideal) ((c.tc : Thread Cert.KernelMlaDownIdeal.nD Cert.KernelMlaDownIdeal.τ).loc Cert.KernelMlaDownIdeal.main_v22_0)) (v1 : (c : Dev Cert.KernelMlaDownIdeal.nD) → Buf (Elt Ideal) ((c.tc : Thread Cert.KernelMlaDownIdeal.nD Cert.KernelMlaDownIdeal.τ).loc Cert.KernelMlaDownIdeal.main_v22_1)) (v2 : (c : Dev Cert.KernelMlaDownIdeal.nD) → Buf (Elt Ideal) ((c.tc : Thread Cert.KernelMlaDownIdeal.nD Cert.KernelMlaDownIdeal.τ).loc Cert.KernelMlaDownIdeal.main_v22_2)),
      θ_run (Cert.KernelMlaDownIdeal.defs (F := Ideal)) (onTc (τ := Cert.KernelMlaDownIdeal.τ) (Cert.KernelMlaDownIdeal.main (F := Ideal))) ⟨m, fun _ => 0, g⟩ (fun r => ∀ c : Dev Cert.KernelMlaDownIdeal.nD,
          r.2.mem ((c.tc : Thread Cert.KernelMlaDownIdeal.nD Cert.KernelMlaDownIdeal.τ).loc Cert.KernelMlaDownIdeal.main_v22_0) = v0 c
          ∧ r.2.mem ((c.tc : Thread Cert.KernelMlaDownIdeal.nD Cert.KernelMlaDownIdeal.τ).loc Cert.KernelMlaDownIdeal.main_v22_1) = v1 c
          ∧ r.2.mem ((c.tc : Thread Cert.KernelMlaDownIdeal.nD Cert.KernelMlaDownIdeal.τ).loc Cert.KernelMlaDownIdeal.main_v22_2) = v2 c
          ∧ r.2.mem ((c.tc : Thread Cert.KernelMlaDownIdeal.nD Cert.KernelMlaDownIdeal.τ).loc Cert.KernelMlaDownIdeal.main_arg0) = m ((c.tc : Thread Cert.KernelMlaDownIdeal.nD Cert.KernelMlaDownIdeal.τ).loc Cert.KernelMlaDownIdeal.main_arg0)
          ∧ r.2.mem ((c.tc : Thread Cert.KernelMlaDownIdeal.nD Cert.KernelMlaDownIdeal.τ).loc Cert.KernelMlaDownIdeal.main_arg1) = m ((c.tc : Thread Cert.KernelMlaDownIdeal.nD Cert.KernelMlaDownIdeal.τ).loc Cert.KernelMlaDownIdeal.main_arg1)
          ∧ r.2.mem ((c.tc : Thread Cert.KernelMlaDownIdeal.nD Cert.KernelMlaDownIdeal.τ).loc Cert.KernelMlaDownIdeal.main_arg2) = m ((c.tc : Thread Cert.KernelMlaDownIdeal.nD Cert.KernelMlaDownIdeal.τ).loc Cert.KernelMlaDownIdeal.main_arg2)
          ∧ r.2.mem ((c.tc : Thread Cert.KernelMlaDownIdeal.nD Cert.KernelMlaDownIdeal.τ).loc Cert.KernelMlaDownIdeal.main_arg3) = m ((c.tc : Thread Cert.KernelMlaDownIdeal.nD Cert.KernelMlaDownIdeal.τ).loc Cert.KernelMlaDownIdeal.main_arg3)
          ∧ r.2.mem ((c.tc : Thread Cert.KernelMlaDownIdeal.nD Cert.KernelMlaDownIdeal.τ).loc Cert.KernelMlaDownIdeal.main_arg4) = m ((c.tc : Thread Cert.KernelMlaDownIdeal.nD Cert.KernelMlaDownIdeal.τ).loc Cert.KernelMlaDownIdeal.main_arg4)
          ∧ r.2.mem ((c.tc : Thread Cert.KernelMlaDownIdeal.nD Cert.KernelMlaDownIdeal.τ).loc Cert.KernelMlaDownIdeal.main_arg5) = m ((c.tc : Thread Cert.KernelMlaDownIdeal.nD Cert.KernelMlaDownIdeal.τ).loc Cert.KernelMlaDownIdeal.main_arg5))
      ∧ θ_run (Cert.ReferenceMlaDownIdeal.defs (F := Ideal)) (onTc (τ := Cert.ReferenceMlaDownIdeal.τ) (Cert.ReferenceMlaDownIdeal.main (F := Ideal))) ⟨m', fun _ => 0, g'⟩ (fun r => ∀ c : Dev Cert.ReferenceMlaDownIdeal.nD,
          r.2.mem ((c.tc : Thread Cert.ReferenceMlaDownIdeal.nD Cert.ReferenceMlaDownIdeal.τ).loc Cert.ReferenceMlaDownIdeal.main_v79) = v0 c
          ∧ r.2.mem ((c.tc : Thread Cert.ReferenceMlaDownIdeal.nD Cert.ReferenceMlaDownIdeal.τ).loc Cert.ReferenceMlaDownIdeal.main_v80) = v1 c
          ∧ r.2.mem ((c.tc : Thread Cert.ReferenceMlaDownIdeal.nD Cert.ReferenceMlaDownIdeal.τ).loc Cert.ReferenceMlaDownIdeal.main_v81) = v2 c
          ∧ r.2.mem ((c.tc : Thread Cert.ReferenceMlaDownIdeal.nD Cert.ReferenceMlaDownIdeal.τ).loc Cert.ReferenceMlaDownIdeal.main_arg0) = m' ((c.tc : Thread Cert.ReferenceMlaDownIdeal.nD Cert.ReferenceMlaDownIdeal.τ).loc Cert.ReferenceMlaDownIdeal.main_arg0)
          ∧ r.2.mem ((c.tc : Thread Cert.ReferenceMlaDownIdeal.nD Cert.ReferenceMlaDownIdeal.τ).loc Cert.ReferenceMlaDownIdeal.main_arg1) = m' ((c.tc : Thread Cert.ReferenceMlaDownIdeal.nD Cert.ReferenceMlaDownIdeal.τ).loc Cert.ReferenceMlaDownIdeal.main_arg1)
          ∧ r.2.mem ((c.tc : Thread Cert.ReferenceMlaDownIdeal.nD Cert.ReferenceMlaDownIdeal.τ).loc Cert.ReferenceMlaDownIdeal.main_arg2) = m' ((c.tc : Thread Cert.ReferenceMlaDownIdeal.nD Cert.ReferenceMlaDownIdeal.τ).loc Cert.ReferenceMlaDownIdeal.main_arg2)
          ∧ r.2.mem ((c.tc : Thread Cert.ReferenceMlaDownIdeal.nD Cert.ReferenceMlaDownIdeal.τ).loc Cert.ReferenceMlaDownIdeal.main_arg3) = m' ((c.tc : Thread Cert.ReferenceMlaDownIdeal.nD Cert.ReferenceMlaDownIdeal.τ).loc Cert.ReferenceMlaDownIdeal.main_arg3)
          ∧ r.2.mem ((c.tc : Thread Cert.ReferenceMlaDownIdeal.nD Cert.ReferenceMlaDownIdeal.τ).loc Cert.ReferenceMlaDownIdeal.main_arg4) = m' ((c.tc : Thread Cert.ReferenceMlaDownIdeal.nD Cert.ReferenceMlaDownIdeal.τ).loc Cert.ReferenceMlaDownIdeal.main_arg4)
          ∧ r.2.mem ((c.tc : Thread Cert.ReferenceMlaDownIdeal.nD Cert.ReferenceMlaDownIdeal.τ).loc Cert.ReferenceMlaDownIdeal.main_arg5) = m' ((c.tc : Thread Cert.ReferenceMlaDownIdeal.nD Cert.ReferenceMlaDownIdeal.τ).loc Cert.ReferenceMlaDownIdeal.main_arg5))

def preserves_KernelQUp_KernelQUpIdeal : Prop :=
  IdealRules.named_const.Statement Cert.KernelQUpIdeal.κ "qscale" .f32 0x3DD53B95#32 (((Real.sqrt 192)⁻¹ * (Real.log 2)⁻¹ : ℝ) : EReal)

def algebraic_KernelQUpIdeal_ReferenceQUpIdeal [hKernelQUpIdeal : Cert.KernelQUpIdeal.Facts] [hReferenceQUpIdeal : Cert.ReferenceQUpIdeal.Facts] : Prop :=
  ∀ (m : (ℓ : Loc Cert.KernelQUpIdeal.nD Cert.KernelQUpIdeal.τ Cert.KernelQUpIdeal.sig) → Buf (Elt Ideal) ℓ) (g : Dev Cert.KernelQUpIdeal.nD → PrngReg)
    (m' : (ℓ : Loc Cert.ReferenceQUpIdeal.nD Cert.ReferenceQUpIdeal.τ Cert.ReferenceQUpIdeal.sig) → Buf (Elt Ideal) ℓ) (g' : Dev Cert.ReferenceQUpIdeal.nD → PrngReg), Pre_KernelQUpIdeal m →
    (∀ c : Dev Cert.KernelQUpIdeal.nD,
      m' ((c.tc : Thread Cert.ReferenceQUpIdeal.nD Cert.ReferenceQUpIdeal.τ).loc Cert.ReferenceQUpIdeal.main_arg0) = m ((c.tc : Thread Cert.KernelQUpIdeal.nD Cert.KernelQUpIdeal.τ).loc Cert.KernelQUpIdeal.main_arg0)
      ∧ m' ((c.tc : Thread Cert.ReferenceQUpIdeal.nD Cert.ReferenceQUpIdeal.τ).loc Cert.ReferenceQUpIdeal.main_arg1) = m ((c.tc : Thread Cert.KernelQUpIdeal.nD Cert.KernelQUpIdeal.τ).loc Cert.KernelQUpIdeal.main_arg1)
      ∧ m' ((c.tc : Thread Cert.ReferenceQUpIdeal.nD Cert.ReferenceQUpIdeal.τ).loc Cert.ReferenceQUpIdeal.main_arg2) = m ((c.tc : Thread Cert.KernelQUpIdeal.nD Cert.KernelQUpIdeal.τ).loc Cert.KernelQUpIdeal.main_arg2)
      ∧ m' ((c.tc : Thread Cert.ReferenceQUpIdeal.nD Cert.ReferenceQUpIdeal.τ).loc Cert.ReferenceQUpIdeal.main_arg3) = m ((c.tc : Thread Cert.KernelQUpIdeal.nD Cert.KernelQUpIdeal.τ).loc Cert.KernelQUpIdeal.main_arg3)) →
    ∃ (v0 : (c : Dev Cert.KernelQUpIdeal.nD) → Buf (Elt Ideal) ((c.tc : Thread Cert.KernelQUpIdeal.nD Cert.KernelQUpIdeal.τ).loc Cert.KernelQUpIdeal.main_v22)),
      θ_run (Cert.KernelQUpIdeal.defs (F := Ideal)) (onTc (τ := Cert.KernelQUpIdeal.τ) (Cert.KernelQUpIdeal.main (F := Ideal))) ⟨m, fun _ => 0, g⟩ (fun r => ∀ c : Dev Cert.KernelQUpIdeal.nD,
          r.2.mem ((c.tc : Thread Cert.KernelQUpIdeal.nD Cert.KernelQUpIdeal.τ).loc Cert.KernelQUpIdeal.main_v22) = v0 c
          ∧ r.2.mem ((c.tc : Thread Cert.KernelQUpIdeal.nD Cert.KernelQUpIdeal.τ).loc Cert.KernelQUpIdeal.main_arg0) = m ((c.tc : Thread Cert.KernelQUpIdeal.nD Cert.KernelQUpIdeal.τ).loc Cert.KernelQUpIdeal.main_arg0)
          ∧ r.2.mem ((c.tc : Thread Cert.KernelQUpIdeal.nD Cert.KernelQUpIdeal.τ).loc Cert.KernelQUpIdeal.main_arg1) = m ((c.tc : Thread Cert.KernelQUpIdeal.nD Cert.KernelQUpIdeal.τ).loc Cert.KernelQUpIdeal.main_arg1)
          ∧ r.2.mem ((c.tc : Thread Cert.KernelQUpIdeal.nD Cert.KernelQUpIdeal.τ).loc Cert.KernelQUpIdeal.main_arg2) = m ((c.tc : Thread Cert.KernelQUpIdeal.nD Cert.KernelQUpIdeal.τ).loc Cert.KernelQUpIdeal.main_arg2)
          ∧ r.2.mem ((c.tc : Thread Cert.KernelQUpIdeal.nD Cert.KernelQUpIdeal.τ).loc Cert.KernelQUpIdeal.main_arg3) = m ((c.tc : Thread Cert.KernelQUpIdeal.nD Cert.KernelQUpIdeal.τ).loc Cert.KernelQUpIdeal.main_arg3))
      ∧ θ_run (Cert.ReferenceQUpIdeal.defs (F := Ideal)) (onTc (τ := Cert.ReferenceQUpIdeal.τ) (Cert.ReferenceQUpIdeal.main (F := Ideal))) ⟨m', fun _ => 0, g'⟩ (fun r => ∀ c : Dev Cert.ReferenceQUpIdeal.nD,
          r.2.mem ((c.tc : Thread Cert.ReferenceQUpIdeal.nD Cert.ReferenceQUpIdeal.τ).loc Cert.ReferenceQUpIdeal.main_v62) = v0 c
          ∧ r.2.mem ((c.tc : Thread Cert.ReferenceQUpIdeal.nD Cert.ReferenceQUpIdeal.τ).loc Cert.ReferenceQUpIdeal.main_arg0) = m' ((c.tc : Thread Cert.ReferenceQUpIdeal.nD Cert.ReferenceQUpIdeal.τ).loc Cert.ReferenceQUpIdeal.main_arg0)
          ∧ r.2.mem ((c.tc : Thread Cert.ReferenceQUpIdeal.nD Cert.ReferenceQUpIdeal.τ).loc Cert.ReferenceQUpIdeal.main_arg1) = m' ((c.tc : Thread Cert.ReferenceQUpIdeal.nD Cert.ReferenceQUpIdeal.τ).loc Cert.ReferenceQUpIdeal.main_arg1)
          ∧ r.2.mem ((c.tc : Thread Cert.ReferenceQUpIdeal.nD Cert.ReferenceQUpIdeal.τ).loc Cert.ReferenceQUpIdeal.main_arg2) = m' ((c.tc : Thread Cert.ReferenceQUpIdeal.nD Cert.ReferenceQUpIdeal.τ).loc Cert.ReferenceQUpIdeal.main_arg2)
          ∧ r.2.mem ((c.tc : Thread Cert.ReferenceQUpIdeal.nD Cert.ReferenceQUpIdeal.τ).loc Cert.ReferenceQUpIdeal.main_arg3) = m' ((c.tc : Thread Cert.ReferenceQUpIdeal.nD Cert.ReferenceQUpIdeal.τ).loc Cert.ReferenceQUpIdeal.main_arg3))

def preserves_KernelDecay_KernelDecayIdeal : Prop :=
  True

def algebraic_KernelDecayIdeal_ReferenceDecayIdeal [hKernelDecayIdeal : Cert.KernelDecayIdeal.Facts] [hReferenceDecayIdeal : Cert.ReferenceDecayIdeal.Facts] : Prop :=
  ∀ (m : (ℓ : Loc Cert.KernelDecayIdeal.nD Cert.KernelDecayIdeal.τ Cert.KernelDecayIdeal.sig) → Buf (Elt Ideal) ℓ) (g : Dev Cert.KernelDecayIdeal.nD → PrngReg)
    (m' : (ℓ : Loc Cert.ReferenceDecayIdeal.nD Cert.ReferenceDecayIdeal.τ Cert.ReferenceDecayIdeal.sig) → Buf (Elt Ideal) ℓ) (g' : Dev Cert.ReferenceDecayIdeal.nD → PrngReg), Pre_KernelDecayIdeal m →
    (∀ c : Dev Cert.KernelDecayIdeal.nD,
      m' ((c.tc : Thread Cert.ReferenceDecayIdeal.nD Cert.ReferenceDecayIdeal.τ).loc Cert.ReferenceDecayIdeal.main_arg0) = m ((c.tc : Thread Cert.KernelDecayIdeal.nD Cert.KernelDecayIdeal.τ).loc Cert.KernelDecayIdeal.main_arg0)
      ∧ m' ((c.tc : Thread Cert.ReferenceDecayIdeal.nD Cert.ReferenceDecayIdeal.τ).loc Cert.ReferenceDecayIdeal.main_arg1) = m ((c.tc : Thread Cert.KernelDecayIdeal.nD Cert.KernelDecayIdeal.τ).loc Cert.KernelDecayIdeal.main_arg1)
      ∧ m' ((c.tc : Thread Cert.ReferenceDecayIdeal.nD Cert.ReferenceDecayIdeal.τ).loc Cert.ReferenceDecayIdeal.main_arg2) = m ((c.tc : Thread Cert.KernelDecayIdeal.nD Cert.KernelDecayIdeal.τ).loc Cert.KernelDecayIdeal.main_arg2)) →
    ∃ (v0 : (c : Dev Cert.KernelDecayIdeal.nD) → Buf (Elt Ideal) ((c.tc : Thread Cert.KernelDecayIdeal.nD Cert.KernelDecayIdeal.τ).loc Cert.KernelDecayIdeal.main_v15)),
      θ_run (Cert.KernelDecayIdeal.defs (F := Ideal)) (onTc (τ := Cert.KernelDecayIdeal.τ) (Cert.KernelDecayIdeal.main (F := Ideal))) ⟨m, fun _ => 0, g⟩ (fun r => ∀ c : Dev Cert.KernelDecayIdeal.nD,
          r.2.mem ((c.tc : Thread Cert.KernelDecayIdeal.nD Cert.KernelDecayIdeal.τ).loc Cert.KernelDecayIdeal.main_v15) = v0 c
          ∧ r.2.mem ((c.tc : Thread Cert.KernelDecayIdeal.nD Cert.KernelDecayIdeal.τ).loc Cert.KernelDecayIdeal.main_arg0) = m ((c.tc : Thread Cert.KernelDecayIdeal.nD Cert.KernelDecayIdeal.τ).loc Cert.KernelDecayIdeal.main_arg0)
          ∧ r.2.mem ((c.tc : Thread Cert.KernelDecayIdeal.nD Cert.KernelDecayIdeal.τ).loc Cert.KernelDecayIdeal.main_arg1) = m ((c.tc : Thread Cert.KernelDecayIdeal.nD Cert.KernelDecayIdeal.τ).loc Cert.KernelDecayIdeal.main_arg1)
          ∧ r.2.mem ((c.tc : Thread Cert.KernelDecayIdeal.nD Cert.KernelDecayIdeal.τ).loc Cert.KernelDecayIdeal.main_arg2) = m ((c.tc : Thread Cert.KernelDecayIdeal.nD Cert.KernelDecayIdeal.τ).loc Cert.KernelDecayIdeal.main_arg2))
      ∧ θ_run (Cert.ReferenceDecayIdeal.defs (F := Ideal)) (onTc (τ := Cert.ReferenceDecayIdeal.τ) (Cert.ReferenceDecayIdeal.main (F := Ideal))) ⟨m', fun _ => 0, g'⟩ (fun r => ∀ c : Dev Cert.ReferenceDecayIdeal.nD,
          r.2.mem ((c.tc : Thread Cert.ReferenceDecayIdeal.nD Cert.ReferenceDecayIdeal.τ).loc Cert.ReferenceDecayIdeal.main_v34) = v0 c
          ∧ r.2.mem ((c.tc : Thread Cert.ReferenceDecayIdeal.nD Cert.ReferenceDecayIdeal.τ).loc Cert.ReferenceDecayIdeal.main_arg0) = m' ((c.tc : Thread Cert.ReferenceDecayIdeal.nD Cert.ReferenceDecayIdeal.τ).loc Cert.ReferenceDecayIdeal.main_arg0)
          ∧ r.2.mem ((c.tc : Thread Cert.ReferenceDecayIdeal.nD Cert.ReferenceDecayIdeal.τ).loc Cert.ReferenceDecayIdeal.main_arg1) = m' ((c.tc : Thread Cert.ReferenceDecayIdeal.nD Cert.ReferenceDecayIdeal.τ).loc Cert.ReferenceDecayIdeal.main_arg1)
          ∧ r.2.mem ((c.tc : Thread Cert.ReferenceDecayIdeal.nD Cert.ReferenceDecayIdeal.τ).loc Cert.ReferenceDecayIdeal.main_arg2) = m' ((c.tc : Thread Cert.ReferenceDecayIdeal.nD Cert.ReferenceDecayIdeal.τ).loc Cert.ReferenceDecayIdeal.main_arg2))

def preserves_KernelIclr_KernelIclrIdeal : Prop :=
  True

def algebraic_KernelIclrIdeal_ReferenceIclrIdeal [hKernelIclrIdeal : Cert.KernelIclrIdeal.Facts] [hReferenceIclrIdeal : Cert.ReferenceIclrIdeal.Facts] : Prop :=
  ∀ (m : (ℓ : Loc Cert.KernelIclrIdeal.nD Cert.KernelIclrIdeal.τ Cert.KernelIclrIdeal.sig) → Buf (Elt Ideal) ℓ) (g : Dev Cert.KernelIclrIdeal.nD → PrngReg)
    (m' : (ℓ : Loc Cert.ReferenceIclrIdeal.nD Cert.ReferenceIclrIdeal.τ Cert.ReferenceIclrIdeal.sig) → Buf (Elt Ideal) ℓ) (g' : Dev Cert.ReferenceIclrIdeal.nD → PrngReg), Pre_KernelIclrIdeal m →
    (∀ c : Dev Cert.KernelIclrIdeal.nD,
      m' ((c.tc : Thread Cert.ReferenceIclrIdeal.nD Cert.ReferenceIclrIdeal.τ).loc Cert.ReferenceIclrIdeal.main_arg0) = m ((c.tc : Thread Cert.KernelIclrIdeal.nD Cert.KernelIclrIdeal.τ).loc Cert.KernelIclrIdeal.main_arg0)
      ∧ m' ((c.tc : Thread Cert.ReferenceIclrIdeal.nD Cert.ReferenceIclrIdeal.τ).loc Cert.ReferenceIclrIdeal.main_arg1) = m ((c.tc : Thread Cert.KernelIclrIdeal.nD Cert.KernelIclrIdeal.τ).loc Cert.KernelIclrIdeal.main_arg1)
      ∧ m' ((c.tc : Thread Cert.ReferenceIclrIdeal.nD Cert.ReferenceIclrIdeal.τ).loc Cert.ReferenceIclrIdeal.main_arg2) = m ((c.tc : Thread Cert.KernelIclrIdeal.nD Cert.KernelIclrIdeal.τ).loc Cert.KernelIclrIdeal.main_arg2)) →
    ∃ (v0 : (c : Dev Cert.KernelIclrIdeal.nD) → Buf (Elt Ideal) ((c.tc : Thread Cert.KernelIclrIdeal.nD Cert.KernelIclrIdeal.τ).loc Cert.KernelIclrIdeal.main_v15)),
      θ_run (Cert.KernelIclrIdeal.defs (F := Ideal)) (onTc (τ := Cert.KernelIclrIdeal.τ) (Cert.KernelIclrIdeal.main (F := Ideal))) ⟨m, fun _ => 0, g⟩ (fun r => ∀ c : Dev Cert.KernelIclrIdeal.nD,
          r.2.mem ((c.tc : Thread Cert.KernelIclrIdeal.nD Cert.KernelIclrIdeal.τ).loc Cert.KernelIclrIdeal.main_v15) = v0 c
          ∧ r.2.mem ((c.tc : Thread Cert.KernelIclrIdeal.nD Cert.KernelIclrIdeal.τ).loc Cert.KernelIclrIdeal.main_arg0) = m ((c.tc : Thread Cert.KernelIclrIdeal.nD Cert.KernelIclrIdeal.τ).loc Cert.KernelIclrIdeal.main_arg0)
          ∧ r.2.mem ((c.tc : Thread Cert.KernelIclrIdeal.nD Cert.KernelIclrIdeal.τ).loc Cert.KernelIclrIdeal.main_arg1) = m ((c.tc : Thread Cert.KernelIclrIdeal.nD Cert.KernelIclrIdeal.τ).loc Cert.KernelIclrIdeal.main_arg1)
          ∧ r.2.mem ((c.tc : Thread Cert.KernelIclrIdeal.nD Cert.KernelIclrIdeal.τ).loc Cert.KernelIclrIdeal.main_arg2) = m ((c.tc : Thread Cert.KernelIclrIdeal.nD Cert.KernelIclrIdeal.τ).loc Cert.KernelIclrIdeal.main_arg2))
      ∧ θ_run (Cert.ReferenceIclrIdeal.defs (F := Ideal)) (onTc (τ := Cert.ReferenceIclrIdeal.τ) (Cert.ReferenceIclrIdeal.main (F := Ideal))) ⟨m', fun _ => 0, g'⟩ (fun r => ∀ c : Dev Cert.ReferenceIclrIdeal.nD,
          r.2.mem ((c.tc : Thread Cert.ReferenceIclrIdeal.nD Cert.ReferenceIclrIdeal.τ).loc Cert.ReferenceIclrIdeal.main_v32) = v0 c
          ∧ r.2.mem ((c.tc : Thread Cert.ReferenceIclrIdeal.nD Cert.ReferenceIclrIdeal.τ).loc Cert.ReferenceIclrIdeal.main_arg0) = m' ((c.tc : Thread Cert.ReferenceIclrIdeal.nD Cert.ReferenceIclrIdeal.τ).loc Cert.ReferenceIclrIdeal.main_arg0)
          ∧ r.2.mem ((c.tc : Thread Cert.ReferenceIclrIdeal.nD Cert.ReferenceIclrIdeal.τ).loc Cert.ReferenceIclrIdeal.main_arg1) = m' ((c.tc : Thread Cert.ReferenceIclrIdeal.nD Cert.ReferenceIclrIdeal.τ).loc Cert.ReferenceIclrIdeal.main_arg1)
          ∧ r.2.mem ((c.tc : Thread Cert.ReferenceIclrIdeal.nD Cert.ReferenceIclrIdeal.τ).loc Cert.ReferenceIclrIdeal.main_arg2) = m' ((c.tc : Thread Cert.ReferenceIclrIdeal.nD Cert.ReferenceIclrIdeal.τ).loc Cert.ReferenceIclrIdeal.main_arg2))

def preserves_KernelLora_KernelLoraIdeal : Prop :=
  True

def algebraic_KernelLoraIdeal_ReferenceLoraIdeal [hKernelLoraIdeal : Cert.KernelLoraIdeal.Facts] [hReferenceLoraIdeal : Cert.ReferenceLoraIdeal.Facts] : Prop :=
  ∀ (m : (ℓ : Loc Cert.KernelLoraIdeal.nD Cert.KernelLoraIdeal.τ Cert.KernelLoraIdeal.sig) → Buf (Elt Ideal) ℓ) (g : Dev Cert.KernelLoraIdeal.nD → PrngReg)
    (m' : (ℓ : Loc Cert.ReferenceLoraIdeal.nD Cert.ReferenceLoraIdeal.τ Cert.ReferenceLoraIdeal.sig) → Buf (Elt Ideal) ℓ) (g' : Dev Cert.ReferenceLoraIdeal.nD → PrngReg), Pre_KernelLoraIdeal m →
    (∀ c : Dev Cert.KernelLoraIdeal.nD,
      m' ((c.tc : Thread Cert.ReferenceLoraIdeal.nD Cert.ReferenceLoraIdeal.τ).loc Cert.ReferenceLoraIdeal.main_arg0) = m ((c.tc : Thread Cert.KernelLoraIdeal.nD Cert.KernelLoraIdeal.τ).loc Cert.KernelLoraIdeal.main_arg0)
      ∧ m' ((c.tc : Thread Cert.ReferenceLoraIdeal.nD Cert.ReferenceLoraIdeal.τ).loc Cert.ReferenceLoraIdeal.main_arg1) = m ((c.tc : Thread Cert.KernelLoraIdeal.nD Cert.KernelLoraIdeal.τ).loc Cert.KernelLoraIdeal.main_arg1)
      ∧ m' ((c.tc : Thread Cert.ReferenceLoraIdeal.nD Cert.ReferenceLoraIdeal.τ).loc Cert.ReferenceLoraIdeal.main_arg2) = m ((c.tc : Thread Cert.KernelLoraIdeal.nD Cert.KernelLoraIdeal.τ).loc Cert.KernelLoraIdeal.main_arg2)
      ∧ m' ((c.tc : Thread Cert.ReferenceLoraIdeal.nD Cert.ReferenceLoraIdeal.τ).loc Cert.ReferenceLoraIdeal.main_arg3) = m ((c.tc : Thread Cert.KernelLoraIdeal.nD Cert.KernelLoraIdeal.τ).loc Cert.KernelLoraIdeal.main_arg3)
      ∧ m' ((c.tc : Thread Cert.ReferenceLoraIdeal.nD Cert.ReferenceLoraIdeal.τ).loc Cert.ReferenceLoraIdeal.main_arg4) = m ((c.tc : Thread Cert.KernelLoraIdeal.nD Cert.KernelLoraIdeal.τ).loc Cert.KernelLoraIdeal.main_arg4)
      ∧ m' ((c.tc : Thread Cert.ReferenceLoraIdeal.nD Cert.ReferenceLoraIdeal.τ).loc Cert.ReferenceLoraIdeal.main_arg5) = m ((c.tc : Thread Cert.KernelLoraIdeal.nD Cert.KernelLoraIdeal.τ).loc Cert.KernelLoraIdeal.main_arg5)) →
    ∃ (v0 : (c : Dev Cert.KernelLoraIdeal.nD) → Buf (Elt Ideal) ((c.tc : Thread Cert.KernelLoraIdeal.nD Cert.KernelLoraIdeal.τ).loc Cert.KernelLoraIdeal.main_v25)),
      θ_run (Cert.KernelLoraIdeal.defs (F := Ideal)) (onTc (τ := Cert.KernelLoraIdeal.τ) (Cert.KernelLoraIdeal.main (F := Ideal))) ⟨m, fun _ => 0, g⟩ (fun r => ∀ c : Dev Cert.KernelLoraIdeal.nD,
          r.2.mem ((c.tc : Thread Cert.KernelLoraIdeal.nD Cert.KernelLoraIdeal.τ).loc Cert.KernelLoraIdeal.main_v25) = v0 c
          ∧ r.2.mem ((c.tc : Thread Cert.KernelLoraIdeal.nD Cert.KernelLoraIdeal.τ).loc Cert.KernelLoraIdeal.main_arg0) = m ((c.tc : Thread Cert.KernelLoraIdeal.nD Cert.KernelLoraIdeal.τ).loc Cert.KernelLoraIdeal.main_arg0)
          ∧ r.2.mem ((c.tc : Thread Cert.KernelLoraIdeal.nD Cert.KernelLoraIdeal.τ).loc Cert.KernelLoraIdeal.main_arg1) = m ((c.tc : Thread Cert.KernelLoraIdeal.nD Cert.KernelLoraIdeal.τ).loc Cert.KernelLoraIdeal.main_arg1)
          ∧ r.2.mem ((c.tc : Thread Cert.KernelLoraIdeal.nD Cert.KernelLoraIdeal.τ).loc Cert.KernelLoraIdeal.main_arg2) = m ((c.tc : Thread Cert.KernelLoraIdeal.nD Cert.KernelLoraIdeal.τ).loc Cert.KernelLoraIdeal.main_arg2)
          ∧ r.2.mem ((c.tc : Thread Cert.KernelLoraIdeal.nD Cert.KernelLoraIdeal.τ).loc Cert.KernelLoraIdeal.main_arg3) = m ((c.tc : Thread Cert.KernelLoraIdeal.nD Cert.KernelLoraIdeal.τ).loc Cert.KernelLoraIdeal.main_arg3)
          ∧ r.2.mem ((c.tc : Thread Cert.KernelLoraIdeal.nD Cert.KernelLoraIdeal.τ).loc Cert.KernelLoraIdeal.main_arg4) = m ((c.tc : Thread Cert.KernelLoraIdeal.nD Cert.KernelLoraIdeal.τ).loc Cert.KernelLoraIdeal.main_arg4)
          ∧ r.2.mem ((c.tc : Thread Cert.KernelLoraIdeal.nD Cert.KernelLoraIdeal.τ).loc Cert.KernelLoraIdeal.main_arg5) = m ((c.tc : Thread Cert.KernelLoraIdeal.nD Cert.KernelLoraIdeal.τ).loc Cert.KernelLoraIdeal.main_arg5))
      ∧ θ_run (Cert.ReferenceLoraIdeal.defs (F := Ideal)) (onTc (τ := Cert.ReferenceLoraIdeal.τ) (Cert.ReferenceLoraIdeal.main (F := Ideal))) ⟨m', fun _ => 0, g'⟩ (fun r => ∀ c : Dev Cert.ReferenceLoraIdeal.nD,
          r.2.mem ((c.tc : Thread Cert.ReferenceLoraIdeal.nD Cert.ReferenceLoraIdeal.τ).loc Cert.ReferenceLoraIdeal.main_v41) = v0 c
          ∧ r.2.mem ((c.tc : Thread Cert.ReferenceLoraIdeal.nD Cert.ReferenceLoraIdeal.τ).loc Cert.ReferenceLoraIdeal.main_arg0) = m' ((c.tc : Thread Cert.ReferenceLoraIdeal.nD Cert.ReferenceLoraIdeal.τ).loc Cert.ReferenceLoraIdeal.main_arg0)
          ∧ r.2.mem ((c.tc : Thread Cert.ReferenceLoraIdeal.nD Cert.ReferenceLoraIdeal.τ).loc Cert.ReferenceLoraIdeal.main_arg1) = m' ((c.tc : Thread Cert.ReferenceLoraIdeal.nD Cert.ReferenceLoraIdeal.τ).loc Cert.ReferenceLoraIdeal.main_arg1)
          ∧ r.2.mem ((c.tc : Thread Cert.ReferenceLoraIdeal.nD Cert.ReferenceLoraIdeal.τ).loc Cert.ReferenceLoraIdeal.main_arg2) = m' ((c.tc : Thread Cert.ReferenceLoraIdeal.nD Cert.ReferenceLoraIdeal.τ).loc Cert.ReferenceLoraIdeal.main_arg2)
          ∧ r.2.mem ((c.tc : Thread Cert.ReferenceLoraIdeal.nD Cert.ReferenceLoraIdeal.τ).loc Cert.ReferenceLoraIdeal.main_arg3) = m' ((c.tc : Thread Cert.ReferenceLoraIdeal.nD Cert.ReferenceLoraIdeal.τ).loc Cert.ReferenceLoraIdeal.main_arg3)
          ∧ r.2.mem ((c.tc : Thread Cert.ReferenceLoraIdeal.nD Cert.ReferenceLoraIdeal.τ).loc Cert.ReferenceLoraIdeal.main_arg4) = m' ((c.tc : Thread Cert.ReferenceLoraIdeal.nD Cert.ReferenceLoraIdeal.τ).loc Cert.ReferenceLoraIdeal.main_arg4)
          ∧ r.2.mem ((c.tc : Thread Cert.ReferenceLoraIdeal.nD Cert.ReferenceLoraIdeal.τ).loc Cert.ReferenceLoraIdeal.main_arg5) = m' ((c.tc : Thread Cert.ReferenceLoraIdeal.nD Cert.ReferenceLoraIdeal.τ).loc Cert.ReferenceLoraIdeal.main_arg5))

def Claim : Prop :=
  ∃ (hKernel : Cert.Kernel.Facts) (hKernelIdeal : Cert.KernelIdeal.Facts) (hReferenceIdeal : Cert.ReferenceIdeal.Facts) (hKernelDown : Cert.KernelDown.Facts) (hKernelDownIdeal : Cert.KernelDownIdeal.Facts) (hReferenceDownIdeal : Cert.ReferenceDownIdeal.Facts) (hKernelDownLat : Cert.KernelDownLat.Facts) (hKernelDownLatIdeal : Cert.KernelDownLatIdeal.Facts) (hReferenceDownLatIdeal : Cert.ReferenceDownLatIdeal.Facts) (hKernelOut : Cert.KernelOut.Facts) (hKernelOutIdeal : Cert.KernelOutIdeal.Facts) (hReferenceOutIdeal : Cert.ReferenceOutIdeal.Facts) (hKernelMlaOut : Cert.KernelMlaOut.Facts) (hKernelMlaOutIdeal : Cert.KernelMlaOutIdeal.Facts) (hReferenceMlaOutIdeal : Cert.ReferenceMlaOutIdeal.Facts) (hKernelUp : Cert.KernelUp.Facts) (hKernelUpIdeal : Cert.KernelUpIdeal.Facts) (hReferenceUpIdeal : Cert.ReferenceUpIdeal.Facts) (hKernelUpLat : Cert.KernelUpLat.Facts) (hKernelUpLatIdeal : Cert.KernelUpLatIdeal.Facts) (hReferenceUpLatIdeal : Cert.ReferenceUpLatIdeal.Facts) (hKernelRkv : Cert.KernelRkv.Facts) (hKernelRkvIdeal : Cert.KernelRkvIdeal.Facts) (hReferenceRkvIdeal : Cert.ReferenceRkvIdeal.Facts) (hKernelKvUp : Cert.KernelKvUp.Facts) (hKernelKvUpIdeal : Cert.KernelKvUpIdeal.Facts) (hReferenceKvUpIdeal : Cert.ReferenceKvUpIdeal.Facts) (hKernelGate : Cert.KernelGate.Facts) (hKernelGateIdeal : Cert.KernelGateIdeal.Facts) (hReferenceGateIdeal : Cert.ReferenceGateIdeal.Facts) (hKernelMlaDown : Cert.KernelMlaDown.Facts) (hKernelMlaDownIdeal : Cert.KernelMlaDownIdeal.Facts) (hReferenceMlaDownIdeal : Cert.ReferenceMlaDownIdeal.Facts) (hKernelQUp : Cert.KernelQUp.Facts) (hKernelQUpIdeal : Cert.KernelQUpIdeal.Facts) (hReferenceQUpIdeal : Cert.ReferenceQUpIdeal.Facts) (hKernelDecay : Cert.KernelDecay.Facts) (hKernelDecayIdeal : Cert.KernelDecayIdeal.Facts) (hReferenceDecayIdeal : Cert.ReferenceDecayIdeal.Facts) (hKernelIclr : Cert.KernelIclr.Facts) (hKernelIclrIdeal : Cert.KernelIclrIdeal.Facts) (hReferenceIclrIdeal : Cert.ReferenceIclrIdeal.Facts) (hKernelLora : Cert.KernelLora.Facts) (hKernelLoraIdeal : Cert.KernelLoraIdeal.Facts) (hReferenceLoraIdeal : Cert.ReferenceLoraIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelDownLat (hKernelDownLat := hKernelDownLat)
    ∧ quiescent_KernelDownLatIdeal (hKernelDownLatIdeal := hKernelDownLatIdeal)
    ∧ quiescent_ReferenceDownLatIdeal (hReferenceDownLatIdeal := hReferenceDownLatIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelMlaOut (hKernelMlaOut := hKernelMlaOut)
    ∧ quiescent_KernelMlaOutIdeal (hKernelMlaOutIdeal := hKernelMlaOutIdeal)
    ∧ quiescent_ReferenceMlaOutIdeal (hReferenceMlaOutIdeal := hReferenceMlaOutIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelUpLat (hKernelUpLat := hKernelUpLat)
    ∧ quiescent_KernelUpLatIdeal (hKernelUpLatIdeal := hKernelUpLatIdeal)
    ∧ quiescent_ReferenceUpLatIdeal (hReferenceUpLatIdeal := hReferenceUpLatIdeal)
    ∧ quiescent_KernelRkv (hKernelRkv := hKernelRkv)
    ∧ quiescent_KernelRkvIdeal (hKernelRkvIdeal := hKernelRkvIdeal)
    ∧ quiescent_ReferenceRkvIdeal (hReferenceRkvIdeal := hReferenceRkvIdeal)
    ∧ quiescent_KernelKvUp (hKernelKvUp := hKernelKvUp)
    ∧ quiescent_KernelKvUpIdeal (hKernelKvUpIdeal := hKernelKvUpIdeal)
    ∧ quiescent_ReferenceKvUpIdeal (hReferenceKvUpIdeal := hReferenceKvUpIdeal)
    ∧ quiescent_KernelGate (hKernelGate := hKernelGate)
    ∧ quiescent_KernelGateIdeal (hKernelGateIdeal := hKernelGateIdeal)
    ∧ quiescent_ReferenceGateIdeal (hReferenceGateIdeal := hReferenceGateIdeal)
    ∧ quiescent_KernelMlaDown (hKernelMlaDown := hKernelMlaDown)
    ∧ quiescent_KernelMlaDownIdeal (hKernelMlaDownIdeal := hKernelMlaDownIdeal)
    ∧ quiescent_ReferenceMlaDownIdeal (hReferenceMlaDownIdeal := hReferenceMlaDownIdeal)
    ∧ quiescent_KernelQUp (hKernelQUp := hKernelQUp)
    ∧ quiescent_KernelQUpIdeal (hKernelQUpIdeal := hKernelQUpIdeal)
    ∧ quiescent_ReferenceQUpIdeal (hReferenceQUpIdeal := hReferenceQUpIdeal)
    ∧ quiescent_KernelDecay (hKernelDecay := hKernelDecay)
    ∧ quiescent_KernelDecayIdeal (hKernelDecayIdeal := hKernelDecayIdeal)
    ∧ quiescent_ReferenceDecayIdeal (hReferenceDecayIdeal := hReferenceDecayIdeal)
    ∧ quiescent_KernelIclr (hKernelIclr := hKernelIclr)
    ∧ quiescent_KernelIclrIdeal (hKernelIclrIdeal := hKernelIclrIdeal)
    ∧ quiescent_ReferenceIclrIdeal (hReferenceIclrIdeal := hReferenceIclrIdeal)
    ∧ quiescent_KernelLora (hKernelLora := hKernelLora)
    ∧ quiescent_KernelLoraIdeal (hKernelLoraIdeal := hKernelLoraIdeal)
    ∧ quiescent_ReferenceLoraIdeal (hReferenceLoraIdeal := hReferenceLoraIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelDown_KernelDownIdeal
    ∧ algebraic_KernelDownIdeal_ReferenceDownIdeal (hKernelDownIdeal := hKernelDownIdeal) (hReferenceDownIdeal := hReferenceDownIdeal)
    ∧ preserves_KernelDownLat_KernelDownLatIdeal
    ∧ algebraic_KernelDownLatIdeal_ReferenceDownLatIdeal (hKernelDownLatIdeal := hKernelDownLatIdeal) (hReferenceDownLatIdeal := hReferenceDownLatIdeal)
    ∧ preserves_KernelOut_KernelOutIdeal
    ∧ algebraic_KernelOutIdeal_ReferenceOutIdeal (hKernelOutIdeal := hKernelOutIdeal) (hReferenceOutIdeal := hReferenceOutIdeal)
    ∧ preserves_KernelMlaOut_KernelMlaOutIdeal
    ∧ algebraic_KernelMlaOutIdeal_ReferenceMlaOutIdeal (hKernelMlaOutIdeal := hKernelMlaOutIdeal) (hReferenceMlaOutIdeal := hReferenceMlaOutIdeal)
    ∧ preserves_KernelUp_KernelUpIdeal
    ∧ algebraic_KernelUpIdeal_ReferenceUpIdeal (hKernelUpIdeal := hKernelUpIdeal) (hReferenceUpIdeal := hReferenceUpIdeal)
    ∧ preserves_KernelUpLat_KernelUpLatIdeal
    ∧ algebraic_KernelUpLatIdeal_ReferenceUpLatIdeal (hKernelUpLatIdeal := hKernelUpLatIdeal) (hReferenceUpLatIdeal := hReferenceUpLatIdeal)
    ∧ preserves_KernelRkv_KernelRkvIdeal
    ∧ algebraic_KernelRkvIdeal_ReferenceRkvIdeal (hKernelRkvIdeal := hKernelRkvIdeal) (hReferenceRkvIdeal := hReferenceRkvIdeal)
    ∧ preserves_KernelKvUp_KernelKvUpIdeal
    ∧ algebraic_KernelKvUpIdeal_ReferenceKvUpIdeal (hKernelKvUpIdeal := hKernelKvUpIdeal) (hReferenceKvUpIdeal := hReferenceKvUpIdeal)
    ∧ preserves_KernelGate_KernelGateIdeal
    ∧ algebraic_KernelGateIdeal_ReferenceGateIdeal (hKernelGateIdeal := hKernelGateIdeal) (hReferenceGateIdeal := hReferenceGateIdeal)
    ∧ preserves_KernelMlaDown_KernelMlaDownIdeal
    ∧ algebraic_KernelMlaDownIdeal_ReferenceMlaDownIdeal (hKernelMlaDownIdeal := hKernelMlaDownIdeal) (hReferenceMlaDownIdeal := hReferenceMlaDownIdeal)
    ∧ preserves_KernelQUp_KernelQUpIdeal
    ∧ algebraic_KernelQUpIdeal_ReferenceQUpIdeal (hKernelQUpIdeal := hKernelQUpIdeal) (hReferenceQUpIdeal := hReferenceQUpIdeal)
    ∧ preserves_KernelDecay_KernelDecayIdeal
    ∧ algebraic_KernelDecayIdeal_ReferenceDecayIdeal (hKernelDecayIdeal := hKernelDecayIdeal) (hReferenceDecayIdeal := hReferenceDecayIdeal)
    ∧ preserves_KernelIclr_KernelIclrIdeal
    ∧ algebraic_KernelIclrIdeal_ReferenceIclrIdeal (hKernelIclrIdeal := hKernelIclrIdeal) (hReferenceIclrIdeal := hReferenceIclrIdeal)
    ∧ preserves_KernelLora_KernelLoraIdeal
    ∧ algebraic_KernelLoraIdeal_ReferenceLoraIdeal (hKernelLoraIdeal := hKernelLoraIdeal) (hReferenceLoraIdeal := hReferenceLoraIdeal)
-- ==== Pre_finite.lean ====
abbrev S4x4352x16x128 : Shape := ⟨4, ![4, 4352, 16, 128]⟩
abbrev S4x4352x16x64 : Shape := ⟨4, ![4, 4352, 16, 64]⟩
abbrev S4x4352x64 : Shape := ⟨3, ![4, 4352, 64]⟩
abbrev S_ : Shape := ⟨0, ![]⟩

class Facts : Prop where
  bcast_S_S4x4352x16x128 : S_.BroadcastsInDim S4x4352x16x128 (![] : Fin 0 → Fin S4x4352x16x128.rank)
  bcast_S_S4x4352x16x64 : S_.BroadcastsInDim S4x4352x16x64 (![] : Fin 0 → Fin S4x4352x16x64.rank)
  bcast_S_S4x4352x64 : S_.BroadcastsInDim S4x4352x64 (![] : Fin 0 → Fin S4x4352x64.rank)

variable [Facts]

def fn {F : FTy → Type} [FloatOps F] (main_arg0 : FVec F S4x4352x16x128 .f32) (main_arg1 : FVec F S4x4352x16x64 .f32) (main_arg2 : FVec F S4x4352x16x128 .f32) (main_arg3 : FVec F S4x4352x64 .f32) (main_arg4 : FVec F S4x4352x16x128 .f32) : IVec S4x4352x16x128 1 × IVec S4x4352x16x64 1 × IVec S4x4352x16x128 1 × IVec S4x4352x64 1 × IVec S4x4352x16x128 1 :=
  let main_v0 : FVec F S4x4352x16x128 .f32 := Host.absf main_arg0
  let main_cst : FVec F S_ .f32 := constant S_ .f32 0x7F800000#32
  let main_v1 : FVec F S4x4352x16x128 .f32 := broadcastInDim S4x4352x16x128 ![] bcast_S_S4x4352x16x128 main_cst
  let main_v2 : IVec S4x4352x16x128 1 := cmpf .olt main_v0 main_v1
  let main_v3 : FVec F S4x4352x16x64 .f32 := Host.absf main_arg1
  let main_cst_0 : FVec F S_ .f32 := constant S_ .f32 0x7F800000#32
  let main_v4 : FVec F S4x4352x16x64 .f32 := broadcastInDim S4x4352x16x64 ![] bcast_S_S4x4352x16x64 main_cst_0
  let main_v5 : IVec S4x4352x16x64 1 := cmpf .olt main_v3 main_v4
  let main_v6 : FVec F S4x4352x16x128 .f32 := Host.absf main_arg2
  let main_cst_1 : FVec F S_ .f32 := constant S_ .f32 0x7F800000#32
  let main_v7 : FVec F S4x4352x16x128 .f32 := broadcastInDim S4x4352x16x128 ![] bcast_S_S4x4352x16x128 main_cst_1
  let main_v8 : IVec S4x4352x16x128 1 := cmpf .olt main_v6 main_v7
  let main_v9 : FVec F S4x4352x64 .f32 := Host.absf main_arg3
  let main_cst_2 : FVec F S_ .f32 := constant S_ .f32 0x7F800000#32
  let main_v10 : FVec F S4x4352x64 .f32 := broadcastInDim S4x4352x64 ![] bcast_S_S4x4352x64 main_cst_2
  let main_v11 : IVec S4x4352x64 1 := cmpf .olt main_v9 main_v10
  let main_v12 : FVec F S4x4352x16x128 .f32 := Host.absf main_arg4
  let main_cst_3 : FVec F S_ .f32 := constant S_ .f32 0x7F800000#32
  let main_v13 : FVec F S4x4352x16x128 .f32 := broadcastInDim S4x4352x16x128 ![] bcast_S_S4x4352x16x128 main_cst_3
  let main_v14 : IVec S4x4352x16x128 1 := cmpf .olt main_v12 main_v13
  (main_v2, main_v5, main_v8, main_v11, main_v14)
-- ==== Kernel.lean ====
abbrev S4x4352x16x128 : Shape := ⟨4, ![4, 4352, 16, 128]⟩
abbrev S4x4352x16x64 : Shape := ⟨4, ![4, 4352, 16, 64]⟩
abbrev S4x4352x64 : Shape := ⟨3, ![4, 4352, 64]⟩
abbrev S_ : Shape := ⟨0, ![]⟩
abbrev S4x4352x1x64 : Shape := ⟨4, ![4, 4352, 1, 64]⟩
abbrev S4x4352x16x256 : Shape := ⟨4, ![4, 4352, 16, 256]⟩
abbrev S4x4352x4096 : Shape := ⟨3, ![4, 4352, 4096]⟩
abbrev S4x4352x2048 : Shape := ⟨3, ![4, 4352, 2048]⟩
abbrev S4x4096x2048 : Shape := ⟨3, ![4, 4096, 2048]⟩
abbrev S1x256x512 : Shape := ⟨3, ![1, 256, 512]⟩
abbrev S1x4352x512 : Shape := ⟨3, ![1, 4352, 512]⟩
abbrev S1x4352x256 : Shape := ⟨3, ![1, 4352, 256]⟩
abbrev S1x256x256 : Shape := ⟨3, ![1, 256, 256]⟩
abbrev S256x256 : Shape := ⟨2, ![256, 256]⟩
abbrev S4352x256 : Shape := ⟨2, ![4352, 256]⟩
abbrev S256x4352 : Shape := ⟨2, ![256, 4352]⟩
abbrev S256 : Shape := ⟨1, ![256]⟩
abbrev S256x1 : Shape := ⟨2, ![256, 1]⟩
abbrev S1x4352x128 : Shape := ⟨3, ![1, 4352, 128]⟩
abbrev S4352x128 : Shape := ⟨2, ![4352, 128]⟩
abbrev S256x128 : Shape := ⟨2, ![256, 128]⟩
abbrev S1x256x128 : Shape := ⟨3, ![1, 256, 128]⟩

abbrev nBuf : Space → Nat
  | .hbm => 27
  | .vmem => 8
  | .smem => 0
  | _ => 0

abbrev bufTy : (tb : Table) → Fin (tcTables nBuf tb) → BufTy
  | .hbm, ⟨0, _⟩ => ⟨S4x4352x16x128, .f32⟩
  | .hbm, ⟨1, _⟩ => ⟨S4x4352x16x64, .f32⟩
  | .hbm, ⟨2, _⟩ => ⟨S4x4352x16x128, .f32⟩
  | .hbm, ⟨3, _⟩ => ⟨S4x4352x64, .f32⟩
  | .hbm, ⟨4, _⟩ => ⟨S4x4352x16x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4x4352x16x64, .f32⟩
  | .hbm, ⟨14, _⟩ => ⟨S4x4352x1x64, .f32⟩
  | .hbm, ⟨15, _⟩ => ⟨S4x4352x16x64, .f32⟩
  | .hbm, ⟨16, _⟩ => ⟨S4x4352x16x256, .f32⟩
  | .hbm, ⟨17, _⟩ => ⟨S4x4352x16x256, .f32⟩
  | .hbm, ⟨18, _⟩ => ⟨S4x4352x16x256, .f32⟩
  | .hbm, ⟨19, _⟩ => ⟨S4x4352x16x256, .bf16⟩
  | .hbm, ⟨20, _⟩ => ⟨S4x4352x16x256, .f32⟩
  | .hbm, ⟨21, _⟩ => ⟨S4x4352x16x256, .bf16⟩
  | .hbm, ⟨22, _⟩ => ⟨S4x4352x16x128, .bf16⟩
  | .hbm, ⟨23, _⟩ => ⟨S4x4352x4096, .bf16⟩
  | .hbm, ⟨24, _⟩ => ⟨S4x4352x4096, .bf16⟩
  | .hbm, ⟨25, _⟩ => ⟨S4x4352x2048, .bf16⟩
  | .hbm, ⟨26, _⟩ => ⟨S4x4096x2048, .bf16⟩
  | .local _ .vmem, ⟨0, _⟩ => ⟨S1x256x512, .bf16⟩
  | .local _ .vmem, ⟨1, _⟩ => ⟨S1x256x512, .bf16⟩
  | .local _ .vmem, ⟨2, _⟩ => ⟨S1x4352x512, .bf16⟩
  | .local _ .vmem, ⟨3, _⟩ => ⟨S1x4352x512, .bf16⟩
  | .local _ .vmem, ⟨4, _⟩ => ⟨S1x4352x256, .bf16⟩
  | .local _ .vmem, ⟨5, _⟩ => ⟨S1x4352x256, .bf16⟩
  | .local _ .vmem, ⟨6, _⟩ => ⟨S1x256x256, .bf16⟩
  | .local _ .vmem, ⟨7, _⟩ => ⟨S1x256x256, .bf16⟩
  | _, _ => ⟨S4x4352x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg2
  let c0_i32 : BitVec 32 := 0#32
  ![arg0.toNat, v0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4352x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S4x4352x16x128 : Shape := ⟨4, ![4, 4352, 16, 128]⟩
abbrev S4x4352x16x64 : Shape := ⟨4, ![4, 4352, 16, 64]⟩
abbrev S4x4352x64 : Shape := ⟨3, ![4, 4352, 64]⟩
abbrev S4x4096x16x128 : Shape := ⟨4, ![4, 4096, 16, 128]⟩
abbrev S4x4096x16x64 : Shape := ⟨4, ![4, 4096, 16, 64]⟩
abbrev S4x16x4096x4352 : Shape := ⟨4, ![4, 16, 4096, 4352]⟩
abbrev S4x4352x4096x16 : Shape := ⟨4, ![4, 4352, 4096, 16]⟩
abbrev S_ : Shape := ⟨0, ![]⟩
abbrev S4x16x4096 : Shape := ⟨3, ![4, 16, 4096]⟩
abbrev S4x16x4096x1 : Shape := ⟨4, ![4, 16, 4096, 1]⟩
abbrev S4x16x128x4096 : Shape := ⟨4, ![4, 16, 128, 4096]⟩
abbrev S4x4096x2048 : Shape := ⟨3, ![4, 4096, 2048]⟩

abbrev nBuf : Space → Nat
  | .hbm => 33
  | .vmem => 0
  | .smem => 0
  | _ => 0

abbrev bufTy : (tb : Table) → Fin (tcTables nBuf tb) → BufTy
  | .hbm, ⟨0, _⟩ => ⟨S4x4352x16x128, .f32⟩
  | .hbm, ⟨1, _⟩ => ⟨S4x4352x16x64, .f32⟩
  | .hbm, ⟨2, _⟩ => ⟨S4x4352x16x128, .f32⟩
  | .hbm, ⟨3, _⟩ => ⟨S4x4352x64, .f32⟩
  | .hbm, ⟨4, _⟩ => ⟨S4x4352x16x128, .f32⟩
  | .hbm, ⟨5, _⟩ => ⟨S4x4096x16x128, .f32⟩
  | .hbm, ⟨6, _⟩ => ⟨S4x4096x16x64, .f32⟩
  | .hbm, ⟨7, _⟩ => ⟨S4x16x4096x4352, .f32⟩
  | .hbm, ⟨8, _⟩ => ⟨S4x4352x4096x16, .f32⟩
  | .hbm, ⟨9, _⟩ => ⟨S4x16x4096x4352, .f32⟩
  | .hbm, ⟨10, _⟩ => ⟨S4x16x4096x4352, .f32⟩
  | .hbm, ⟨11, _⟩ => ⟨S_, .f32⟩
  | .hbm, ⟨12, _⟩ => ⟨S_, .f32⟩
  | .hbm, ⟨13, _⟩ => ⟨S4x16x4096x4352, .f32⟩
  | .hbm, ⟨14, _⟩ => ⟨S4x16x4096x4352, .f32⟩
  | .hbm, ⟨15, _⟩ => ⟨S_, .f32⟩
  | .hbm, ⟨16, _⟩ => ⟨S4x16x4096, .f32⟩
  | .hbm, ⟨17, _⟩ => ⟨S_, .f32⟩
  | .hbm, ⟨18, _⟩ => ⟨S4x16x4096, .f32⟩
  | .hbm, ⟨19, _⟩ => ⟨S4x16x4096, .f32⟩
  | .hbm, ⟨20, _⟩ => ⟨S4x16x4096x1, .f32⟩
  | .hbm, ⟨21, _⟩ => ⟨S4x16x4096x4352, .f32⟩
  | .hbm, ⟨22, _⟩ => ⟨S4x16x4096x4352, .f32⟩
  | .hbm, ⟨23, _⟩ => ⟨S4x16x4096x4352, .f32⟩
  | .hbm, ⟨24, _⟩ => ⟨S_, .f32⟩
  | .hbm, ⟨25, _⟩ => ⟨S4x16x4096, .f32⟩
  | .hbm, ⟨26, _⟩ => ⟨S4x16x4096x1, .f32⟩
  | .hbm, ⟨27, _⟩ => ⟨S4x16x4096x4352, .f32⟩
  | .hbm, ⟨28, _⟩ => ⟨S4x16x4096x4352, .f32⟩
  | .hbm, ⟨29, _⟩ => ⟨S4x16x128x4096, .f32⟩
  | .hbm, ⟨30, _⟩ => ⟨S4x4096x16x128, .f32⟩
  | .hbm, ⟨31, _⟩ => ⟨S4x4096x2048, .f32⟩
  | .hbm, ⟨32, _⟩ => ⟨S4x4096x2048, .bf16⟩
  | _, _ => ⟨S4x4352x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== KernelDown.lean ====
abbrev S17408x5632 : Shape := ⟨2, ![17408, 5632]⟩
abbrev S5632x2048 : Shape := ⟨2, ![5632, 2048]⟩
abbrev S17408x2048 : Shape := ⟨2, ![17408, 2048]⟩
abbrev S8x12288 : Shape := ⟨2, ![8, 12288]⟩
abbrev S1024x5632 : Shape := ⟨2, ![1024, 5632]⟩
abbrev S5632x512 : Shape := ⟨2, ![5632, 512]⟩
abbrev S1024x512 : Shape := ⟨2, ![1024, 512]⟩
abbrev S8x512 : Shape := ⟨2, ![8, 512]⟩
abbrev S256x512 : Shape := ⟨2, ![256, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S17408x5632, .bf16⟩
  | .hbm, ⟨1, _⟩ => ⟨S5632x2048, .f32⟩
  | .hbm, ⟨2, _⟩ => ⟨S17408x2048, .f32⟩
  | .hbm, ⟨3, _⟩ => ⟨S8x12288, .f32⟩
  | .hbm, ⟨4, _⟩ => ⟨S5632x2048, .bf16⟩
  | .hbm, ⟨5, _⟩ => ⟨S17408x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S8x512, .f32⟩
  | .local _ .vmem, ⟨7, _⟩ => ⟨S8x512, .f32⟩
  | .local _ .vmem, ⟨8, _⟩ => ⟨S1024x512, .f32⟩
  | .local _ .vmem, ⟨9, _⟩ => ⟨S1024x512, .f32⟩
  | _, _ => ⟨S17408x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![17, 4], ![false, false]⟩

def k0_off1 (i : grid0.Coords) (c0_i32 : BitVec 32) : Fin 2 → Nat :=
  let arg0 : BitVec 32 := BitVec.ofNat 32 (i 0).val
  let c4_i32 : BitVec 32 := 4#32
  let v4 : BitVec 32 := Scalar.muli arg0 c4_i32
  let v5 : BitVec 32 := Scalar.addi v4 c0_i32
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c17_i32 : BitVec 32 := 17#32
  let c0_i32_5 : BitVec 32 := 0#32
  let v12 : BitVec 1 := Scalar.cmpi .sgt c17_i32 c0_i32_5
  let v13 : BitVec 32 := Scalar.extui v12
  let c0_i32_6 : BitVec 32 := 0#32
  let v14 : BitVec 1 := Scalar.cmpi .slt c17_i32 c0_i32_6
  let v15 : BitVec 32 := Scalar.extui v14
  let v16 : BitVec 32 := Scalar.subi v13 v15
  let v17 : BitVec 1 := Scalar.cmpi .ne v11 v16
  let v18 : BitVec 32 := Scalar.remsi v5 c17_i32
  let c0_i32_7 : BitVec 32 := 0#32
  let v19 : BitVec 1 := Scalar.cmpi .ne v18 c0_i32_7
  let v20 : BitVec 1 := Scalar.andi v17 v19
  let v6 : BitVec 32 := Scalar.divsi v5 c17_i32
  let c1_i32 : BitVec 32 := 1#32
  let v21 : BitVec 32 := Scalar.subi v6 c1_i32
  let v22 : BitVec 32 := Scalar.select v20 v21 v6
  let c17_i32_8 : BitVec 32 := 17#32
  let v23 : BitVec 32 := Scalar.muli v22 c17_i32_8
  let v24 : BitVec 32 := Scalar.subi v5 v23
  let c1_i32_9 : BitVec 32 := 1#32
  let v25 : BitVec 1 := Scalar.cmpi .slt v24 c1_i32_9
  let c4_i32_10 : BitVec 32 := 4#32
  let v26 : BitVec 32 := Scalar.select v25 c4_i32_10 v22
  let v28 : Index := Scalar.indexCast v26
  let c0_13 : Index := 0#32
  ![v28.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceDownIdeal.lean ====
abbrev S17408x5632 : Shape := ⟨2, ![17408, 5632]⟩
abbrev S5632x2048 : Shape := ⟨2, ![5632, 2048]⟩
abbrev S17408x2048 : Shape := ⟨2, ![17408, 2048]⟩
abbrev S8x12288 : Shape := ⟨2, ![8, 12288]⟩
abbrev S4x4352x5632 : Shape := ⟨3, ![4, 4352, 5632]⟩
abbrev S4x4352x2048 : Shape := ⟨3, ![4, 4352, 2048]⟩
abbrev S4x12288 : Shape := ⟨2, ![4, 12288]⟩
abbrev S1x12288 : Shape := ⟨2, ![1, 12288]⟩
abbrev S12288 : Shape := ⟨1, ![12288]⟩
abbrev S4x2048 : Shape := ⟨2, ![4, 2048]⟩
abbrev S4x1x2048 : Shape := ⟨3, ![4, 1, 2048]⟩
abbrev S2048 : Shape := ⟨1, ![2048]⟩
abbrev S4x256x2048 : Shape := ⟨3, ![4, 256, 2048]⟩
abbrev S4x256x5632 : Shape := ⟨3, ![4, 256, 5632]⟩
abbrev S1x1x2048 : Shape := ⟨3, ![1, 1, 2048]⟩
abbrev S4x4096x2048 : Shape := ⟨3, ![4, 4096, 2048]⟩
abbrev S4x4096x5632 : Shape := ⟨3, ![4, 4096, 5632]⟩

abbrev nBuf : Space → Nat
  | .hbm => 38
  | .vmem => 0
  | .smem => 0
  | _ => 0

abbrev bufTy : (tb : Table) → Fin (tcTables nBuf tb) → BufTy
  | .hbm, ⟨0, _⟩ => ⟨S17408x5632, .bf16⟩
  | .hbm, ⟨1, _⟩ => ⟨S5632x2048, .f32⟩
  | .hbm, ⟨2, _⟩ => ⟨S17408x2048, .f32⟩
  | .hbm, ⟨3, _⟩ => ⟨S8x12288, .f32⟩
  | .hbm, ⟨4, _⟩ => ⟨S17408x5632, .f32⟩
  | .hbm, ⟨5, _⟩ => ⟨S4x4352x5632, .f32⟩
  | .hbm, ⟨6, _⟩ => ⟨S4x4352x2048, .f32⟩
  | .hbm, ⟨7, _⟩ => ⟨S4x12288, .f32⟩
  | .hbm, ⟨8, _⟩ => ⟨S1x12288, .f32⟩
  | .hbm, ⟨9, _⟩ => ⟨S12288, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S4x2048, .f32⟩
  | .hbm, ⟨14, _⟩ => ⟨S4x2048, .f32⟩
  | .hbm, ⟨15, _⟩ => ⟨S4x2048, .f32⟩
  | .hbm, ⟨16, _⟩ => ⟨S4x1x2048, .f32⟩
  | .hbm, ⟨17, _⟩ => ⟨S2048, .f32⟩
  | .hbm, ⟨18, _⟩ => ⟨S2048, .f32⟩
  | .hbm, ⟨19, _⟩ => ⟨S2048, .f32⟩
  | .hbm, ⟨20, _⟩ => ⟨S2048, .f32⟩
  | .hbm, ⟨21, _⟩ => ⟨S2048, .f32⟩
  | .hbm, ⟨22, _⟩ => ⟨S2048, .f32⟩
  | .hbm, ⟨23, _⟩ => ⟨S4x256x2048, .f32⟩
  | .hbm, ⟨24, _⟩ => ⟨S4x256x5632, .f32⟩
  | .hbm, ⟨25, _⟩ => ⟨S4x256x2048, .f32⟩
  | .hbm, ⟨26, _⟩ => ⟨S1x1x2048, .f32⟩
  | .hbm, ⟨27, _⟩ => ⟨S4x256x2048, .f32⟩
  | .hbm, ⟨28, _⟩ => ⟨S4x256x2048, .f32⟩
  | .hbm, ⟨29, _⟩ => ⟨S4x256x2048, .f32⟩
  | .hbm, ⟨30, _⟩ => ⟨S4x4096x2048, .f32⟩
  | .hbm, ⟨31, _⟩ => ⟨S4x4096x5632, .f32⟩
  | .hbm, ⟨32, _⟩ => ⟨S4x4096x2048, .f32⟩
  | .hbm, ⟨33, _⟩ => ⟨S4x4096x2048, .f32⟩
  | .hbm, ⟨34, _⟩ => ⟨S4x4096x2048, .f32⟩
  | .hbm, ⟨35, _⟩ => ⟨S4x4096x2048, .f32⟩
  | .hbm, ⟨36, _⟩ => ⟨S4x4352x2048, .f32⟩
  | .hbm, ⟨37, _⟩ => ⟨S17408x2048, .f32⟩
  | _, _ => ⟨S17408x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩

abbrev nD : Nat := 1
abbrev τ : Topo := Topo.v7x

variable {F : FTy → Type} [FloatOps F]
-- ==== KernelDownLat.lean ====
abbrev S16384x5632 : Shape := ⟨2, ![16384, 5632]⟩
abbrev S5632x2048 : Shape := ⟨2, ![5632, 2048]⟩
abbrev S16384x2048 : Shape := ⟨2, ![16384, 2048]⟩
abbrev S8x12288 : Shape := ⟨2, ![8, 12288]⟩
abbrev S1024x5632 : Shape := ⟨2, ![1024, 5632]⟩
abbrev S5632x512 : Shape := ⟨2, ![5632, 512]⟩
abbrev S1024x512 : Shape := ⟨2, ![1024, 512]⟩
abbrev S8x512 : Shape := ⟨2, ![8, 512]⟩
abbrev S256x512 : Shape := ⟨2, ![256, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S16384x5632, .bf16⟩
  | .hbm, ⟨1, _⟩ => ⟨S5632x2048, .f32⟩
  | .hbm, ⟨2, _⟩ => ⟨S16384x2048, .f32⟩
  | .hbm, ⟨3, _⟩ => ⟨S8x12288, .f32⟩
  | .hbm, ⟨4, _⟩ => ⟨S5632x2048, .bf16⟩
  | .hbm, ⟨5, _⟩ => ⟨S16384x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S8x512, .f32⟩
  | .local _ .vmem, ⟨7, _⟩ => ⟨S8x512, .f32⟩
  | .local _ .vmem, ⟨8, _⟩ => ⟨S1024x512, .f32⟩
  | .local _ .vmem, ⟨9, _⟩ => ⟨S1024x512, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def k0_off1 (i : grid0.Coords) (c0_i32 : BitVec 32) : Fin 2 → Nat :=
  let arg0 : BitVec 32 := BitVec.ofNat 32 (i 0).val
  let c4_i32 : BitVec 32 := 4#32
  let v4 : BitVec 32 := Scalar.muli arg0 c4_i32
  let v5 : BitVec 32 := Scalar.addi v4 c0_i32
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c16_i32 : BitVec 32 := 16#32
  let c0_i32_5 : BitVec 32 := 0#32
  let v12 : BitVec 1 := Scalar.cmpi .sgt c16_i32 c0_i32_5
  let v13 : BitVec 32 := Scalar.extui v12
  let c0_i32_6 : BitVec 32 := 0#32
  let v14 : BitVec 1 := Scalar.cmpi .slt c16_i32 c0_i32_6
  let v15 : BitVec 32 := Scalar.extui v14
  let v16 : BitVec 32 := Scalar.subi v13 v15
  let v17 : BitVec 1 := Scalar.cmpi .ne v11 v16
  let v18 : BitVec 32 := Scalar.remsi v5 c16_i32
  let c0_i32_7 : BitVec 32 := 0#32
  let v19 : BitVec 1 := Scalar.cmpi .ne v18 c0_i32_7
  let v20 : BitVec 1 := Scalar.andi v17 v19
  let v6 : BitVec 32 := Scalar.divsi v5 c16_i32
  let c1_i32 : BitVec 32 := 1#32
  let v21 : BitVec 32 := Scalar.subi v6 c1_i32
  let v22 : BitVec 32 := Scalar.select v20 v21 v6
  let v24 : Index := Scalar.indexCast v22
  let c0_10 : Index := 0#32
  ![v24.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceDownLatIdeal.lean ====
abbrev S16384x5632 : Shape := ⟨2, ![16384, 5632]⟩
abbrev S5632x2048 : Shape := ⟨2, ![5632, 2048]⟩
abbrev S16384x2048 : Shape := ⟨2, ![16384, 2048]⟩
abbrev S8x12288 : Shape := ⟨2, ![8, 12288]⟩
abbrev S4x4096x5632 : Shape := ⟨3, ![4, 4096, 5632]⟩
abbrev S4x4096x2048 : Shape := ⟨3, ![4, 4096, 2048]⟩
abbrev S4x12288 : Shape := ⟨2, ![4, 12288]⟩
abbrev S4x2048 : Shape := ⟨2, ![4, 2048]⟩
abbrev S4x1x2048 : Shape := ⟨3, ![4, 1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S5632x2048, .f32⟩
  | .hbm, ⟨2, _⟩ => ⟨S16384x2048, .f32⟩
  | .hbm, ⟨3, _⟩ => ⟨S8x12288, .f32⟩
  | .hbm, ⟨4, _⟩ => ⟨S16384x5632, .f32⟩
  | .hbm, ⟨5, _⟩ => ⟨S4x4096x5632, .f32⟩
  | .hbm, ⟨6, _⟩ => ⟨S4x4096x2048, .f32⟩
  | .hbm, ⟨7, _⟩ => ⟨S4x12288, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S4x2048, .f32⟩
  | .hbm, ⟨14, _⟩ => ⟨S4x1x2048, .f32⟩
  | .hbm, ⟨15, _⟩ => ⟨S4x4096x2048, .f32⟩
  | .hbm, ⟨16, _⟩ => ⟨S4x4096x2048, .f32⟩
  | .hbm, ⟨17, _⟩ => ⟨S4x4096x2048, .f32⟩
  | .hbm, ⟨18, _⟩ => ⟨S4x4096x2048, .f32⟩
  | .hbm, ⟨19, _⟩ => ⟨S16384x2048, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== KernelOut.lean ====
abbrev S17408x2048 : Shape := ⟨2, ![17408, 2048]⟩
abbrev S2048x2048 : Shape := ⟨2, ![2048, 2048]⟩
abbrev S8x12288 : Shape := ⟨2, ![8, 12288]⟩
abbrev S1024x2048 : Shape := ⟨2, ![1024, 2048]⟩
abbrev S2048x512 : Shape := ⟨2, ![2048, 512]⟩
abbrev S1024x512 : Shape := ⟨2, ![1024, 512]⟩
abbrev S8x512 : Shape := ⟨2, ![8, 512]⟩
abbrev S256x512 : Shape := ⟨2, ![256, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S17408x2048, .bf16⟩
  | .hbm, ⟨1, _⟩ => ⟨S2048x2048, .f32⟩
  | .hbm, ⟨2, _⟩ => ⟨S17408x2048, .f32⟩
  | .hbm, ⟨3, _⟩ => ⟨S8x12288, .f32⟩
  | .hbm, ⟨4, _⟩ => ⟨S2048x2048, .bf16⟩
  | .hbm, ⟨5, _⟩ => ⟨S17408x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S8x512, .f32⟩
  | .local _ .vmem, ⟨7, _⟩ => ⟨S8x512, .f32⟩
  | .local _ .vmem, ⟨8, _⟩ => ⟨S1024x512, .f32⟩
  | .local _ .vmem, ⟨9, _⟩ => ⟨S1024x512, .f32⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![17, 4], ![false, false]⟩

def k0_off1 (i : grid0.Coords) (c0_i32 : BitVec 32) : Fin 2 → Nat :=
  let arg0 : BitVec 32 := BitVec.ofNat 32 (i 0).val
  let c4_i32 : BitVec 32 := 4#32
  let v4 : BitVec 32 := Scalar.muli arg0 c4_i32
  let v5 : BitVec 32 := Scalar.addi v4 c0_i32
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c17_i32 : BitVec 32 := 17#32
  let c0_i32_5 : BitVec 32 := 0#32
  let v12 : BitVec 1 := Scalar.cmpi .sgt c17_i32 c0_i32_5
  let v13 : BitVec 32 := Scalar.extui v12
  let c0_i32_6 : BitVec 32 := 0#32
  let v14 : BitVec 1 := Scalar.cmpi .slt c17_i32 c0_i32_6
  let v15 : BitVec 32 := Scalar.extui v14
  let v16 : BitVec 32 := Scalar.subi v13 v15
  let v17 : BitVec 1 := Scalar.cmpi .ne v11 v16
  let v18 : BitVec 32 := Scalar.remsi v5 c17_i32
  let c0_i32_7 : BitVec 32 := 0#32
  let v19 : BitVec 1 := Scalar.cmpi .ne v18 c0_i32_7
  let v20 : BitVec 1 := Scalar.andi v17 v19
  let v6 : BitVec 32 := Scalar.divsi v5 c17_i32
  let c1_i32 : BitVec 32 := 1#32
  let v21 : BitVec 32 := Scalar.subi v6 c1_i32
  let v22 : BitVec 32 := Scalar.select v20 v21 v6
  let c17_i32_8 : BitVec 32 := 17#32
  let v23 : BitVec 32 := Scalar.muli v22 c17_i32_8
  let v24 : BitVec 32 := Scalar.subi v5 v23
  let c1_i32_9 : BitVec 32 := 1#32
  let v25 : BitVec 1 := Scalar.cmpi .slt v24 c1_i32_9
  let c4_i32_10 : BitVec 32 := 4#32
  let v26 : BitVec 32 := Scalar.select v25 c4_i32_10 v22
  let v28 : Index := Scalar.indexCast v26
  let c0_13 : Index := 0#32
  ![v28.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceOutIdeal.lean ====
abbrev S17408x2048 : Shape := ⟨2, ![17408, 2048]⟩
abbrev S2048x2048 : Shape := ⟨2, ![2048, 2048]⟩
abbrev S8x12288 : Shape := ⟨2, ![8, 12288]⟩
abbrev S4x4352x2048 : Shape := ⟨3, ![4, 4352, 2048]⟩
abbrev S4x12288 : Shape := ⟨2, ![4, 12288]⟩
abbrev S1x12288 : Shape := ⟨2, ![1, 12288]⟩
abbrev S12288 : Shape := ⟨1, ![12288]⟩
abbrev S4x2048 : Shape := ⟨2, ![4, 2048]⟩
abbrev S4x1x2048 : Shape := ⟨3, ![4, 1, 2048]⟩
abbrev S2048 : Shape := ⟨1, ![2048]⟩
abbrev S4x256x2048 : Shape := ⟨3, ![4, 256, 2048]⟩
abbrev S1x1x2048 : Shape := ⟨3, ![1, 1, 2048]⟩
abbrev S4x4096x2048 : Shape := ⟨3, ![4, 4096, 2048]⟩

abbrev nBuf : Space → Nat
  | .hbm => 38
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S2048x2048, .f32⟩
  | .hbm, ⟨2, _⟩ => ⟨S17408x2048, .f32⟩
  | .hbm, ⟨3, _⟩ => ⟨S8x12288, .f32⟩
  | .hbm, ⟨4, _⟩ => ⟨S17408x2048, .f32⟩
  | .hbm, ⟨5, _⟩ => ⟨S4x4352x2048, .f32⟩
  | .hbm, ⟨6, _⟩ => ⟨S4x4352x2048, .f32⟩
  | .hbm, ⟨7, _⟩ => ⟨S4x12288, .f32⟩
  | .hbm, ⟨8, _⟩ => ⟨S1x12288, .f32⟩
  | .hbm, ⟨9, _⟩ => ⟨S12288, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S4x2048, .f32⟩
  | .hbm, ⟨14, _⟩ => ⟨S4x2048, .f32⟩
  | .hbm, ⟨15, _⟩ => ⟨S4x2048, .f32⟩
  | .hbm, ⟨16, _⟩ => ⟨S4x1x2048, .f32⟩
  | .hbm, ⟨17, _⟩ => ⟨S2048, .f32⟩
  | .hbm, ⟨18, _⟩ => ⟨S2048, .f32⟩
  | .hbm, ⟨19, _⟩ => ⟨S2048, .f32⟩
  | .hbm, ⟨20, _⟩ => ⟨S2048, .f32⟩
  | .hbm, ⟨21, _⟩ => ⟨S2048, .f32⟩
  | .hbm, ⟨22, _⟩ => ⟨S2048, .f32⟩
  | .hbm, ⟨23, _⟩ => ⟨S4x256x2048, .f32⟩
  | .hbm, ⟨24, _⟩ => ⟨S4x256x2048, .f32⟩
  | .hbm, ⟨25, _⟩ => ⟨S4x256x2048, .f32⟩
  | .hbm, ⟨26, _⟩ => ⟨S1x1x2048, .f32⟩
  | .hbm, ⟨27, _⟩ => ⟨S4x256x2048, .f32⟩
  | .hbm, ⟨28, _⟩ => ⟨S4x256x2048, .f32⟩
  | .hbm, ⟨29, _⟩ => ⟨S4x256x2048, .f32⟩
  | .hbm, ⟨30, _⟩ => ⟨S4x4096x2048, .f32⟩
  | .hbm, ⟨31, _⟩ => ⟨S4x4096x2048, .f32⟩
  | .hbm, ⟨32, _⟩ => ⟨S4x4096x2048, .f32⟩
  | .hbm, ⟨33, _⟩ => ⟨S4x4096x2048, .f32⟩
  | .hbm, ⟨34, _⟩ => ⟨S4x4096x2048, .f32⟩
  | .hbm, ⟨35, _⟩ => ⟨S4x4096x2048, .f32⟩
  | .hbm, ⟨36, _⟩ => ⟨S4x4352x2048, .f32⟩
  | .hbm, ⟨37, _⟩ => ⟨S17408x2048, .f32⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩

abbrev nD : Nat := 1
abbrev τ : Topo := Topo.v7x

variable {F : FTy → Type} [FloatOps F]
-- ==== KernelMlaOut.lean ====
abbrev S4x4096x2048 : Shape := ⟨3, ![4, 4096, 2048]⟩
abbrev S2048x2048 : Shape := ⟨2, ![2048, 2048]⟩
abbrev S16384x2048 : Shape := ⟨2, ![16384, 2048]⟩
abbrev S8x12288 : Shape := ⟨2, ![8, 12288]⟩
abbrev S1024x2048 : Shape := ⟨2, ![1024, 2048]⟩
abbrev S2048x512 : Shape := ⟨2, ![2048, 512]⟩
abbrev S1024x512 : Shape := ⟨2, ![1024, 512]⟩
abbrev S8x512 : Shape := ⟨2, ![8, 512]⟩
abbrev S256x512 : Shape := ⟨2, ![256, 512]⟩
abbrev S1x512 : Shape := ⟨2, ![1, 512]⟩

abbrev nBuf : Space → Nat
  | .hbm => 7
  | .vmem => 10
  | .smem => 0
  | _ => 0

abbrev bufTy : (tb : Table) → Fin (tcTables nBuf tb) → BufTy
  | .hbm, ⟨0, _⟩ => ⟨S4x4096x2048, .bf16⟩
  | .hbm, ⟨1, _⟩ => ⟨S2048x2048, .f32⟩
  | .hbm, ⟨2, _⟩ => ⟨S16384x2048, .f32⟩
  | .hbm, ⟨3, _⟩ => ⟨S8x12288, .f32⟩
  | .hbm, ⟨4, _⟩ => ⟨S16384x2048, .bf16⟩
  | .hbm, ⟨5, _⟩ => ⟨S2048x2048, .bf16⟩
  | .hbm, ⟨6, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S8x512, .f32⟩
  | .local _ .vmem, ⟨7, _⟩ => ⟨S8x512, .f32⟩
  | .local _ .vmem, ⟨8, _⟩ => ⟨S1024x512, .f32⟩
  | .local _ .vmem, ⟨9, _⟩ => ⟨S1024x512, .f32⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def k0_off1 (i : grid0.Coords) (c0_i32 : BitVec 32) : Fin 2 → Nat :=
  let arg0 : BitVec 32 := BitVec.ofNat 32 (i 0).val
  let c4_i32 : BitVec 32 := 4#32
  let v5 : BitVec 32 := Scalar.muli arg0 c4_i32
  let v6 : BitVec 32 := Scalar.addi v5 c0_i32
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c16_i32 : BitVec 32 := 16#32
  let c0_i32_5 : BitVec 32 := 0#32
  let v13 : BitVec 1 := Scalar.cmpi .sgt c16_i32 c0_i32_5
  let v14 : BitVec 32 := Scalar.extui v13
  let c0_i32_6 : BitVec 32 := 0#32
  let v15 : BitVec 1 := Scalar.cmpi .slt c16_i32 c0_i32_6
  let v16 : BitVec 32 := Scalar.extui v15
  let v17 : BitVec 32 := Scalar.subi v14 v16
  let v18 : BitVec 1 := Scalar.cmpi .ne v12 v17
  let v19 : BitVec 32 := Scalar.remsi v6 c16_i32
  let c0_i32_7 : BitVec 32 := 0#32
  let v20 : BitVec 1 := Scalar.cmpi .ne v19 c0_i32_7
  let v21 : BitVec 1 := Scalar.andi v18 v20
  let v7 : BitVec 32 := Scalar.divsi v6 c16_i32
  let c1_i32 : BitVec 32 := 1#32
  let v22 : BitVec 32 := Scalar.subi v7 c1_i32
  let v23 : BitVec 32 := Scalar.select v21 v22 v7
  let v25 : Index := Scalar.indexCast v23
  let c0_10 : Index := 0#32
  ![v25.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceMlaOutIdeal.lean ====
abbrev S4x4096x2048 : Shape := ⟨3, ![4, 4096, 2048]⟩
abbrev S2048x2048 : Shape := ⟨2, ![2048, 2048]⟩
abbrev S16384x2048 : Shape := ⟨2, ![16384, 2048]⟩
abbrev S8x12288 : Shape := ⟨2, ![8, 12288]⟩
abbrev S4x12288 : Shape := ⟨2, ![4, 12288]⟩
abbrev S4x2048 : Shape := ⟨2, ![4, 2048]⟩
abbrev S4x1x2048 : Shape := ⟨3, ![4, 1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S2048x2048, .f32⟩
  | .hbm, ⟨2, _⟩ => ⟨S16384x2048, .f32⟩
  | .hbm, ⟨3, _⟩ => ⟨S8x12288, .f32⟩
  | .hbm, ⟨4, _⟩ => ⟨S4x4096x2048, .f32⟩
  | .hbm, ⟨5, _⟩ => ⟨S4x12288, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x1x2048, .f32⟩
  | .hbm, ⟨13, _⟩ => ⟨S4x4096x2048, .f32⟩
  | .hbm, ⟨14, _⟩ => ⟨S4x4096x2048, .f32⟩
  | .hbm, ⟨15, _⟩ => ⟨S4x4096x2048, .f32⟩
  | .hbm, ⟨16, _⟩ => ⟨S4x4096x2048, .f32⟩
  | .hbm, ⟨17, _⟩ => ⟨S4x4096x2048, .f32⟩
  | .hbm, ⟨18, _⟩ => ⟨S16384x2048, .f32⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== KernelUp.lean ====
abbrev S17408x2048 : Shape := ⟨2, ![17408, 2048]⟩
abbrev S2048x11264 : Shape := ⟨2, ![2048, 11264]⟩
abbrev S3x5632 : Shape := ⟨2, ![3, 5632]⟩
abbrev S5632 : Shape := ⟨1, ![5632]⟩
abbrev S_ : Shape := ⟨0, ![]⟩
abbrev S8x5632 : Shape := ⟨2, ![8, 5632]⟩
abbrev S1 : Shape := ⟨1, ![1]⟩
abbrev S1x5632 : Shape := ⟨2, ![1, 5632]⟩
abbrev S17408x5632 : Shape := ⟨2, ![17408, 5632]⟩
abbrev S1024x2048 : Shape := ⟨2, ![1024, 2048]⟩
abbrev S16x2048 : Shape := ⟨2, ![16, 2048]⟩
abbrev S2048x512 : Shape := ⟨2, ![2048, 512]⟩
abbrev S8x512 : Shape := ⟨2, ![8, 512]⟩
abbrev S1x512 : Shape := ⟨2, ![1, 512]⟩
abbrev S1024x512 : Shape := ⟨2, ![1024, 512]⟩
abbrev S1056x2048 : Shape := ⟨2, ![1056, 2048]⟩
abbrev S1056x512 : Shape := ⟨2, ![1056, 512]⟩
abbrev S1024x1 : Shape := ⟨2, ![1024, 1]⟩

abbrev nBuf : Space → Nat
  | .hbm => 12
  | .vmem => 17
  | .smem => 0
  | _ => 0

abbrev bufTy : (tb : Table) → Fin (tcTables nBuf tb) → BufTy
  | .hbm, ⟨0, _⟩ => ⟨S17408x2048, .bf16⟩
  | .hbm, ⟨1, _⟩ => ⟨S2048x11264, .f32⟩
  | .hbm, ⟨2, _⟩ => ⟨S3x5632, .f32⟩
  | .hbm, ⟨3, _⟩ => ⟨S5632, .f32⟩
  | .hbm, ⟨4, _⟩ => ⟨S2048x11264, .bf16⟩
  | .hbm, ⟨5, _⟩ => ⟨S_, .f32⟩
  | .hbm, ⟨6, _⟩ => ⟨S8x5632, .f32⟩
  | .hbm, ⟨7, _⟩ => ⟨S_, .i32⟩
  | .hbm, ⟨8, _⟩ => ⟨S1, .i32⟩
  | .hbm, ⟨9, _⟩ => ⟨S8x5632, .f32⟩
  | .hbm, ⟨10, _⟩ => ⟨S1x5632, .f32⟩
  | .hbm, ⟨11, _⟩ => ⟨S17408x5632, .bf16⟩
  | .local _ .vmem, ⟨0, _⟩ => ⟨S1024x2048, .bf16⟩
  | .local _ .vmem, ⟨1, _⟩ => ⟨S1024x2048, .bf16⟩
  | .local _ .vmem, ⟨2, _⟩ => ⟨S16x2048, .bf16⟩
  | .local _ .vmem, ⟨3, _⟩ => ⟨S16x2048, .bf16⟩
  | .local _ .vmem, ⟨4, _⟩ => ⟨S16x2048, .bf16⟩
  | .local _ .vmem, ⟨5, _⟩ => ⟨S16x2048, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S8x512, .f32⟩
  | .local _ .vmem, ⟨11, _⟩ => ⟨S8x512, .f32⟩
  | .local _ .vmem, ⟨12, _⟩ => ⟨S1x512, .f32⟩
  | .local _ .vmem, ⟨13, _⟩ => ⟨S1x512, .f32⟩
  | .local _ .vmem, ⟨14, _⟩ => ⟨S1024x512, .bf16⟩
  | .local _ .vmem, ⟨15, _⟩ => ⟨S1024x512, .bf16⟩
  | .local _ .vmem, ⟨16, _⟩ => ⟨S1056x2048, .bf16⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![17, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c1087_i32 : BitVec 32 := 1087#32
  let v2 : BitVec 32 := Scalar.minsi v1 c1087_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceUpIdeal.lean ====
abbrev S17408x2048 : Shape := ⟨2, ![17408, 2048]⟩
abbrev S2048x11264 : Shape := ⟨2, ![2048, 11264]⟩
abbrev S3x5632 : Shape := ⟨2, ![3, 5632]⟩
abbrev S5632 : Shape := ⟨1, ![5632]⟩
abbrev S4x4352x2048 : Shape := ⟨3, ![4, 4352, 2048]⟩
abbrev S4x256x2048 : Shape := ⟨3, ![4, 256, 2048]⟩
abbrev S4x256x11264 : Shape := ⟨3, ![4, 256, 11264]⟩
abbrev S4x256x5632 : Shape := ⟨3, ![4, 256, 5632]⟩
abbrev S4x1x5632 : Shape := ⟨3, ![4, 1, 5632]⟩
abbrev S_ : Shape := ⟨0, ![]⟩
abbrev S4x255x5632 : Shape := ⟨3, ![4, 255, 5632]⟩
abbrev S1x5632 : Shape := ⟨2, ![1, 5632]⟩
abbrev S1x1x5632 : Shape := ⟨3, ![1, 1, 5632]⟩
abbrev S4x4096x2048 : Shape := ⟨3, ![4, 4096, 2048]⟩
abbrev S4x4096x11264 : Shape := ⟨3, ![4, 4096, 11264]⟩
abbrev S4x4096x5632 : Shape := ⟨3, ![4, 4096, 5632]⟩
abbrev S4x4095x5632 : Shape := ⟨3, ![4, 4095, 5632]⟩
abbrev S4x4352x5632 : Shape := ⟨3, ![4, 4352, 5632]⟩
abbrev S17408x5632 : Shape := ⟨2, ![17408, 5632]⟩

abbrev nBuf : Space → Nat
  | .hbm => 91
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S2048x11264, .f32⟩
  | .hbm, ⟨2, _⟩ => ⟨S3x5632, .f32⟩
  | .hbm, ⟨3, _⟩ => ⟨S5632, .f32⟩
  | .hbm, ⟨4, _⟩ => ⟨S17408x2048, .f32⟩
  | .hbm, ⟨5, _⟩ => ⟨S4x4352x2048, .f32⟩
  | .hbm, ⟨6, _⟩ => ⟨S4x256x2048, .f32⟩
  | .hbm, ⟨7, _⟩ => ⟨S4x256x11264, .f32⟩
  | .hbm, ⟨8, _⟩ => ⟨S4x256x5632, .f32⟩
  | .hbm, ⟨9, _⟩ => ⟨S4x256x5632, .f32⟩
  | .hbm, ⟨10, _⟩ => ⟨S4x1x5632, .f32⟩
  | .hbm, ⟨11, _⟩ => ⟨S_, .f32⟩
  | .hbm, ⟨12, _⟩ => ⟨S4x1x5632, .f32⟩
  | .hbm, ⟨13, _⟩ => ⟨S4x255x5632, .f32⟩
  | .hbm, ⟨14, _⟩ => ⟨S4x256x5632, .f32⟩
  | .hbm, ⟨15, _⟩ => ⟨S4x255x5632, .f32⟩
  | .hbm, ⟨16, _⟩ => ⟨S4x256x5632, .f32⟩
  | .hbm, ⟨17, _⟩ => ⟨S1x5632, .f32⟩
  | .hbm, ⟨18, _⟩ => ⟨S5632, .f32⟩
  | .hbm, ⟨19, _⟩ => ⟨S1x1x5632, .f32⟩
  | .hbm, ⟨20, _⟩ => ⟨S4x256x5632, .f32⟩
  | .hbm, ⟨21, _⟩ => ⟨S4x256x5632, .f32⟩
  | .hbm, ⟨22, _⟩ => ⟨S1x5632, .f32⟩
  | .hbm, ⟨23, _⟩ => ⟨S5632, .f32⟩
  | .hbm, ⟨24, _⟩ => ⟨S1x1x5632, .f32⟩
  | .hbm, ⟨25, _⟩ => ⟨S4x256x5632, .f32⟩
  | .hbm, ⟨26, _⟩ => ⟨S4x256x5632, .f32⟩
  | .hbm, ⟨27, _⟩ => ⟨S4x256x5632, .f32⟩
  | .hbm, ⟨28, _⟩ => ⟨S1x5632, .f32⟩
  | .hbm, ⟨29, _⟩ => ⟨S5632, .f32⟩
  | .hbm, ⟨30, _⟩ => ⟨S1x1x5632, .f32⟩
  | .hbm, ⟨31, _⟩ => ⟨S4x256x5632, .f32⟩
  | .hbm, ⟨32, _⟩ => ⟨S4x256x5632, .f32⟩
  | .hbm, ⟨33, _⟩ => ⟨S4x256x5632, .f32⟩
  | .hbm, ⟨34, _⟩ => ⟨S1x1x5632, .f32⟩
  | .hbm, ⟨35, _⟩ => ⟨S4x256x5632, .f32⟩
  | .hbm, ⟨36, _⟩ => ⟨S4x256x5632, .f32⟩
  | .hbm, ⟨37, _⟩ => ⟨S4x256x5632, .f32⟩
  | .hbm, ⟨38, _⟩ => ⟨S4x256x5632, .f32⟩
  | .hbm, ⟨39, _⟩ => ⟨S_, .f32⟩
  | .hbm, ⟨40, _⟩ => ⟨S4x256x5632, .f32⟩
  | .hbm, ⟨41, _⟩ => ⟨S4x256x5632, .f32⟩
  | .hbm, ⟨42, _⟩ => ⟨S_, .f32⟩
  | .hbm, ⟨43, _⟩ => ⟨S4x256x5632, .f32⟩
  | .hbm, ⟨44, _⟩ => ⟨S4x256x5632, .f32⟩
  | .hbm, ⟨45, _⟩ => ⟨S4x256x5632, .f32⟩
  | .hbm, ⟨46, _⟩ => ⟨S4x256x5632, .f32⟩
  | .hbm, ⟨47, _⟩ => ⟨S4x4096x2048, .f32⟩
  | .hbm, ⟨48, _⟩ => ⟨S4x4096x11264, .f32⟩
  | .hbm, ⟨49, _⟩ => ⟨S4x4096x5632, .f32⟩
  | .hbm, ⟨50, _⟩ => ⟨S4x4096x5632, .f32⟩
  | .hbm, ⟨51, _⟩ => ⟨S4x1x5632, .f32⟩
  | .hbm, ⟨52, _⟩ => ⟨S_, .f32⟩
  | .hbm, ⟨53, _⟩ => ⟨S4x1x5632, .f32⟩
  | .hbm, ⟨54, _⟩ => ⟨S4x4095x5632, .f32⟩
  | .hbm, ⟨55, _⟩ => ⟨S4x4096x5632, .f32⟩
  | .hbm, ⟨56, _⟩ => ⟨S4x4095x5632, .f32⟩
  | .hbm, ⟨57, _⟩ => ⟨S4x4096x5632, .f32⟩
  | .hbm, ⟨58, _⟩ => ⟨S1x5632, .f32⟩
  | .hbm, ⟨59, _⟩ => ⟨S5632, .f32⟩
  | .hbm, ⟨60, _⟩ => ⟨S1x1x5632, .f32⟩
  | .hbm, ⟨61, _⟩ => ⟨S4x4096x5632, .f32⟩
  | .hbm, ⟨62, _⟩ => ⟨S4x4096x5632, .f32⟩
  | .hbm, ⟨63, _⟩ => ⟨S1x5632, .f32⟩
  | .hbm, ⟨64, _⟩ => ⟨S5632, .f32⟩
  | .hbm, ⟨65, _⟩ => ⟨S1x1x5632, .f32⟩
  | .hbm, ⟨66, _⟩ => ⟨S4x4096x5632, .f32⟩
  | .hbm, ⟨67, _⟩ => ⟨S4x4096x5632, .f32⟩
  | .hbm, ⟨68, _⟩ => ⟨S4x4096x5632, .f32⟩
  | .hbm, ⟨69, _⟩ => ⟨S1x5632, .f32⟩
  | .hbm, ⟨70, _⟩ => ⟨S5632, .f32⟩
  | .hbm, ⟨71, _⟩ => ⟨S1x1x5632, .f32⟩
  | .hbm, ⟨72, _⟩ => ⟨S4x4096x5632, .f32⟩
  | .hbm, ⟨73, _⟩ => ⟨S4x4096x5632, .f32⟩
  | .hbm, ⟨74, _⟩ => ⟨S4x4096x5632, .f32⟩
  | .hbm, ⟨75, _⟩ => ⟨S1x1x5632, .f32⟩
  | .hbm, ⟨76, _⟩ => ⟨S4x4096x5632, .f32⟩
  | .hbm, ⟨77, _⟩ => ⟨S4x4096x5632, .f32⟩
  | .hbm, ⟨78, _⟩ => ⟨S4x4096x5632, .f32⟩
  | .hbm, ⟨79, _⟩ => ⟨S4x4096x5632, .f32⟩
  | .hbm, ⟨80, _⟩ => ⟨S_, .f32⟩
  | .hbm, ⟨81, _⟩ => ⟨S4x4096x5632, .f32⟩
  | .hbm, ⟨82, _⟩ => ⟨S4x4096x5632, .f32⟩
  | .hbm, ⟨83, _⟩ => ⟨S_, .f32⟩
  | .hbm, ⟨84, _⟩ => ⟨S4x4096x5632, .f32⟩
  | .hbm, ⟨85, _⟩ => ⟨S4x4096x5632, .f32⟩
  | .hbm, ⟨86, _⟩ => ⟨S4x4096x5632, .f32⟩
  | .hbm, ⟨87, _⟩ => ⟨S4x4096x5632, .f32⟩
  | .hbm, ⟨88, _⟩ => ⟨S4x4352x5632, .f32⟩
  | .hbm, ⟨89, _⟩ => ⟨S17408x5632, .f32⟩
  | .hbm, ⟨90, _⟩ => ⟨S17408x5632, .bf16⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_0 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_call1_v0 : Ref sig .tc := ⟨.hbm, 78, rfl⟩
abbrev main_call1_v1 : Ref sig .tc := ⟨.hbm, 79, rfl⟩
abbrev main_call1_cst : Ref sig .tc := ⟨.hbm, 80, rfl⟩
abbrev main_call1_v2 : Ref sig .tc := ⟨.hbm, 81, rfl⟩
abbrev main_call1_v3 : Ref sig .tc := ⟨.hbm, 82, rfl⟩
abbrev main_call1_cst_0 : Ref sig .tc := ⟨.hbm, 83, rfl⟩
abbrev main_call1_v4 : Ref sig .tc := ⟨.hbm, 84, rfl⟩
abbrev main_call1_v5 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩

abbrev nD : Nat := 1
abbrev τ : Topo := Topo.v7x

variable {F : FTy → Type} [FloatOps F]
-- ==== KernelUpLat.lean ====
abbrev S16384x2048 : Shape := ⟨2, ![16384, 2048]⟩
abbrev S2048x11264 : Shape := ⟨2, ![2048, 11264]⟩
abbrev S3x5632 : Shape := ⟨2, ![3, 5632]⟩
abbrev S5632 : Shape := ⟨1, ![5632]⟩
abbrev S_ : Shape := ⟨0, ![]⟩
abbrev S8x5632 : Shape := ⟨2, ![8, 5632]⟩
abbrev S1 : Shape := ⟨1, ![1]⟩
abbrev S1x5632 : Shape := ⟨2, ![1, 5632]⟩
abbrev S16384x5632 : Shape := ⟨2, ![16384, 5632]⟩
abbrev S1024x2048 : Shape := ⟨2, ![1024, 2048]⟩
abbrev S16x2048 : Shape := ⟨2, ![16, 2048]⟩
abbrev S2048x512 : Shape := ⟨2, ![2048, 512]⟩
abbrev S8x512 : Shape := ⟨2, ![8, 512]⟩
abbrev S1x512 : Shape := ⟨2, ![1, 512]⟩
abbrev S1024x512 : Shape := ⟨2, ![1024, 512]⟩
abbrev S1056x2048 : Shape := ⟨2, ![1056, 2048]⟩
abbrev S1056x512 : Shape := ⟨2, ![1056, 512]⟩
abbrev S1024x1 : Shape := ⟨2, ![1024, 1]⟩

abbrev nBuf : Space → Nat
  | .hbm => 12
  | .vmem => 17
  | .smem => 0
  | _ => 0

abbrev bufTy : (tb : Table) → Fin (tcTables nBuf tb) → BufTy
  | .hbm, ⟨0, _⟩ => ⟨S16384x2048, .bf16⟩
  | .hbm, ⟨1, _⟩ => ⟨S2048x11264, .f32⟩
  | .hbm, ⟨2, _⟩ => ⟨S3x5632, .f32⟩
  | .hbm, ⟨3, _⟩ => ⟨S5632, .f32⟩
  | .hbm, ⟨4, _⟩ => ⟨S2048x11264, .bf16⟩
  | .hbm, ⟨5, _⟩ => ⟨S_, .f32⟩
  | .hbm, ⟨6, _⟩ => ⟨S8x5632, .f32⟩
  | .hbm, ⟨7, _⟩ => ⟨S_, .i32⟩
  | .hbm, ⟨8, _⟩ => ⟨S1, .i32⟩
  | .hbm, ⟨9, _⟩ => ⟨S8x5632, .f32⟩
  | .hbm, ⟨10, _⟩ => ⟨S1x5632, .f32⟩
  | .hbm, ⟨11, _⟩ => ⟨S16384x5632, .bf16⟩
  | .local _ .vmem, ⟨0, _⟩ => ⟨S1024x2048, .bf16⟩
  | .local _ .vmem, ⟨1, _⟩ => ⟨S1024x2048, .bf16⟩
  | .local _ .vmem, ⟨2, _⟩ => ⟨S16x2048, .bf16⟩
  | .local _ .vmem, ⟨3, _⟩ => ⟨S16x2048, .bf16⟩
  | .local _ .vmem, ⟨4, _⟩ => ⟨S16x2048, .bf16⟩
  | .local _ .vmem, ⟨5, _⟩ => ⟨S16x2048, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S8x512, .f32⟩
  | .local _ .vmem, ⟨11, _⟩ => ⟨S8x512, .f32⟩
  | .local _ .vmem, ⟨12, _⟩ => ⟨S1x512, .f32⟩
  | .local _ .vmem, ⟨13, _⟩ => ⟨S1x512, .f32⟩
  | .local _ .vmem, ⟨14, _⟩ => ⟨S1024x512, .bf16⟩
  | .local _ .vmem, ⟨15, _⟩ => ⟨S1024x512, .bf16⟩
  | .local _ .vmem, ⟨16, _⟩ => ⟨S1056x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceUpLatIdeal.lean ====
abbrev S16384x2048 : Shape := ⟨2, ![16384, 2048]⟩
abbrev S2048x11264 : Shape := ⟨2, ![2048, 11264]⟩
abbrev S3x5632 : Shape := ⟨2, ![3, 5632]⟩
abbrev S5632 : Shape := ⟨1, ![5632]⟩
abbrev S4x4096x2048 : Shape := ⟨3, ![4, 4096, 2048]⟩
abbrev S4x4096x11264 : Shape := ⟨3, ![4, 4096, 11264]⟩
abbrev S4x4096x5632 : Shape := ⟨3, ![4, 4096, 5632]⟩
abbrev S4x1x5632 : Shape := ⟨3, ![4, 1, 5632]⟩
abbrev S_ : Shape := ⟨0, ![]⟩
abbrev S4x4095x5632 : Shape := ⟨3, ![4, 4095, 5632]⟩
abbrev S1x5632 : Shape := ⟨2, ![1, 5632]⟩
abbrev S1x1x5632 : Shape := ⟨3, ![1, 1, 5632]⟩
abbrev S16384x5632 : Shape := ⟨2, ![16384, 5632]⟩

abbrev nBuf : Space → Nat
  | .hbm => 48
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x11264, .f32⟩
  | .hbm, ⟨2, _⟩ => ⟨S3x5632, .f32⟩
  | .hbm, ⟨3, _⟩ => ⟨S5632, .f32⟩
  | .hbm, ⟨4, _⟩ => ⟨S16384x2048, .f32⟩
  | .hbm, ⟨5, _⟩ => ⟨S4x4096x2048, .f32⟩
  | .hbm, ⟨6, _⟩ => ⟨S4x4096x11264, .f32⟩
  | .hbm, ⟨7, _⟩ => ⟨S4x4096x5632, .f32⟩
  | .hbm, ⟨8, _⟩ => ⟨S4x4096x5632, .f32⟩
  | .hbm, ⟨9, _⟩ => ⟨S4x1x5632, .f32⟩
  | .hbm, ⟨10, _⟩ => ⟨S_, .f32⟩
  | .hbm, ⟨11, _⟩ => ⟨S4x1x5632, .f32⟩
  | .hbm, ⟨12, _⟩ => ⟨S4x4095x5632, .f32⟩
  | .hbm, ⟨13, _⟩ => ⟨S4x4096x5632, .f32⟩
  | .hbm, ⟨14, _⟩ => ⟨S4x4095x5632, .f32⟩
  | .hbm, ⟨15, _⟩ => ⟨S4x4096x5632, .f32⟩
  | .hbm, ⟨16, _⟩ => ⟨S1x5632, .f32⟩
  | .hbm, ⟨17, _⟩ => ⟨S5632, .f32⟩
  | .hbm, ⟨18, _⟩ => ⟨S1x1x5632, .f32⟩
  | .hbm, ⟨19, _⟩ => ⟨S4x4096x5632, .f32⟩
  | .hbm, ⟨20, _⟩ => ⟨S4x4096x5632, .f32⟩
  | .hbm, ⟨21, _⟩ => ⟨S1x5632, .f32⟩
  | .hbm, ⟨22, _⟩ => ⟨S5632, .f32⟩
  | .hbm, ⟨23, _⟩ => ⟨S1x1x5632, .f32⟩
  | .hbm, ⟨24, _⟩ => ⟨S4x4096x5632, .f32⟩
  | .hbm, ⟨25, _⟩ => ⟨S4x4096x5632, .f32⟩
  | .hbm, ⟨26, _⟩ => ⟨S4x4096x5632, .f32⟩
  | .hbm, ⟨27, _⟩ => ⟨S1x5632, .f32⟩
  | .hbm, ⟨28, _⟩ => ⟨S5632, .f32⟩
  | .hbm, ⟨29, _⟩ => ⟨S1x1x5632, .f32⟩
  | .hbm, ⟨30, _⟩ => ⟨S4x4096x5632, .f32⟩
  | .hbm, ⟨31, _⟩ => ⟨S4x4096x5632, .f32⟩
  | .hbm, ⟨32, _⟩ => ⟨S4x4096x5632, .f32⟩
  | .hbm, ⟨33, _⟩ => ⟨S1x1x5632, .f32⟩
  | .hbm, ⟨34, _⟩ => ⟨S4x4096x5632, .f32⟩
  | .hbm, ⟨35, _⟩ => ⟨S4x4096x5632, .f32⟩
  | .hbm, ⟨36, _⟩ => ⟨S4x4096x5632, .f32⟩
  | .hbm, ⟨37, _⟩ => ⟨S4x4096x5632, .f32⟩
  | .hbm, ⟨38, _⟩ => ⟨S_, .f32⟩
  | .hbm, ⟨39, _⟩ => ⟨S4x4096x5632, .f32⟩
  | .hbm, ⟨40, _⟩ => ⟨S4x4096x5632, .f32⟩
  | .hbm, ⟨41, _⟩ => ⟨S_, .f32⟩
  | .hbm, ⟨42, _⟩ => ⟨S4x4096x5632, .f32⟩
  | .hbm, ⟨43, _⟩ => ⟨S4x4096x5632, .f32⟩
  | .hbm, ⟨44, _⟩ => ⟨S4x4096x5632, .f32⟩
  | .hbm, ⟨45, _⟩ => ⟨S4x4096x5632, .f32⟩
  | .hbm, ⟨46, _⟩ => ⟨S16384x5632, .f32⟩
  | .hbm, ⟨47, _⟩ => ⟨S16384x5632, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== KernelRkv.lean ====
abbrev S17408x2048 : Shape := ⟨2, ![17408, 2048]⟩
abbrev S6x2048 : Shape := ⟨2, ![6, 2048]⟩
abbrev S2048x2048 : Shape := ⟨2, ![2048, 2048]⟩
abbrev S3 : Shape := ⟨1, ![3]⟩
abbrev S2048x6144 : Shape := ⟨2, ![2048, 6144]⟩
abbrev S_ : Shape := ⟨0, ![]⟩
abbrev S3x1 : Shape := ⟨2, ![3, 1]⟩
abbrev S3x2048 : Shape := ⟨2, ![3, 2048]⟩
abbrev S8x2048 : Shape := ⟨2, ![8, 2048]⟩
abbrev S1 : Shape := ⟨1, ![1]⟩
abbrev S17408x6144 : Shape := ⟨2, ![17408, 6144]⟩
abbrev S1024x2048 : Shape := ⟨2, ![1024, 2048]⟩
abbrev S2048x512 : Shape := ⟨2, ![2048, 512]⟩
abbrev S1024x512 : Shape := ⟨2, ![1024, 512]⟩
abbrev S1x2048 : Shape := ⟨2, ![1, 2048]⟩

abbrev nBuf : Space → Nat
  | .hbm => 24
  | .vmem => 10
  | .smem => 0
  | _ => 0

abbrev bufTy : (tb : Table) → Fin (tcTables nBuf tb) → BufTy
  | .hbm, ⟨0, _⟩ => ⟨S17408x2048, .f32⟩
  | .hbm, ⟨1, _⟩ => ⟨S17408x2048, .f32⟩
  | .hbm, ⟨2, _⟩ => ⟨S6x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S3, .i32⟩
  | .hbm, ⟨7, _⟩ => ⟨S2048x6144, .f32⟩
  | .hbm, ⟨8, _⟩ => ⟨S2048x6144, .bf16⟩
  | .hbm, ⟨9, _⟩ => ⟨S_, .i32⟩
  | .hbm, ⟨10, _⟩ => ⟨S3, .i32⟩
  | .hbm, ⟨11, _⟩ => ⟨S3, .i1⟩
  | .hbm, ⟨12, _⟩ => ⟨S_, .i32⟩
  | .hbm, ⟨13, _⟩ => ⟨S3, .i32⟩
  | .hbm, ⟨14, _⟩ => ⟨S3, .i32⟩
  | .hbm, ⟨15, _⟩ => ⟨S3, .i32⟩
  | .hbm, ⟨16, _⟩ => ⟨S3x1, .i32⟩
  | .hbm, ⟨17, _⟩ => ⟨S3x2048, .f32⟩
  | .hbm, ⟨18, _⟩ => ⟨S_, .f32⟩
  | .hbm, ⟨19, _⟩ => ⟨S8x2048, .f32⟩
  | .hbm, ⟨20, _⟩ => ⟨S_, .i32⟩
  | .hbm, ⟨21, _⟩ => ⟨S1, .i32⟩
  | .hbm, ⟨22, _⟩ => ⟨S8x2048, .f32⟩
  | .hbm, ⟨23, _⟩ => ⟨S17408x6144, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S8x2048, .f32⟩
  | .local _ .vmem, ⟨5, _⟩ => ⟨S2048x512, .bf16⟩
  | .local _ .vmem, ⟨6, _⟩ => ⟨S2048x512, .bf16⟩
  | .local _ .vmem, ⟨7, _⟩ => ⟨S1024x512, .f32⟩
  | .local _ .vmem, ⟨8, _⟩ => ⟨S1024x512, .f32⟩
  | .local _ .vmem, ⟨9, _⟩ => ⟨S1024x2048, .bf16⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![17, 12], ![false, false]⟩

def k0_cond1 (i : grid0.Coords) : BitVec 1 :=
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v11 : BitVec 32 := Scalar.extui v10
  let c0_i32_4 : BitVec 32 := 0#32
  let v12 : BitVec 1 := Scalar.cmpi .ne v11 c0_i32_4
  v12

def k0_off1 (i : grid0.Coords) : Fin 2 → Nat :=
  let arg1 : BitVec 32 := BitVec.ofNat 32 (i 1).val
  let c0_i32_11 : BitVec 32 := 0#32
  let v19 : BitVec 1 := Scalar.cmpi .sgt arg1 c0_i32_11
  let v20 : BitVec 32 := Scalar.extui v19
  let c0_i32_12 : BitVec 32 := 0#32
  let v21 : BitVec 1 := Scalar.cmpi .slt arg1 c0_i32_12
  let v22 : BitVec 32 := Scalar.extui v21
  let v23 : BitVec 32 := Scalar.subi v20 v22
  let c4_i32_10 : BitVec 32 := 4#32
  let c0_i32_13 : BitVec 32 := 0#32
  let v24 : BitVec 1 := Scalar.cmpi .sgt c4_i32_10 c0_i32_13
  let v25 : BitVec 32 := Scalar.extui v24
  let c0_i32_14 : BitVec 32 := 0#32
  let v26 : BitVec 1 := Scalar.cmpi .slt c4_i32_10 c0_i32_14
  let v27 : BitVec 32 := Scalar.extui v26
  let v28 : BitVec 32 := Scalar.subi v25 v27
  let v29 : BitVec 1 := Scalar.cmpi .ne v23 v28
  let v30 : BitVec 32 := Scalar.remsi arg1 c4_i32_10
  let c0_i32_15 : BitVec 32 := 0#32
  let v31 : BitVec 1 := Scalar.cmpi .ne v30 c0_i32_15
  let v32 : BitVec 1 := Scalar.andi v29 v31
  let v18 : BitVec 32 := Scalar.divsi arg1 c4_i32_10
  let c1_i32_16 : BitVec 32 := 1#32
  let v33 : BitVec 32 := Scalar.subi v18 c1_i32_16
  let v34 : BitVec 32 := Scalar.select v32 v33 v18
  let v37 : Index := Scalar.indexCast v34
  let c0_21 : Index := 0#32
  ![v37.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceRkvIdeal.lean ====
abbrev S17408x2048 : Shape := ⟨2, ![17408, 2048]⟩
abbrev S6x2048 : Shape := ⟨2, ![6, 2048]⟩
abbrev S2048x2048 : Shape := ⟨2, ![2048, 2048]⟩
abbrev S1x2048 : Shape := ⟨2, ![1, 2048]⟩
abbrev S2048 : Shape := ⟨1, ![2048]⟩
abbrev S17408x6144 : Shape := ⟨2, ![17408, 6144]⟩

abbrev nBuf : Space → Nat
  | .hbm => 28
  | .vmem => 0
  | .smem => 0
  | _ => 0

abbrev bufTy : (tb : Table) → Fin (tcTables nBuf tb) → BufTy
  | .hbm, ⟨0, _⟩ => ⟨S17408x2048, .f32⟩
  | .hbm, ⟨1, _⟩ => ⟨S17408x2048, .f32⟩
  | .hbm, ⟨2, _⟩ => ⟨S6x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S17408x2048, .f32⟩
  | .hbm, ⟨10, _⟩ => ⟨S17408x2048, .f32⟩
  | .hbm, ⟨11, _⟩ => ⟨S17408x2048, .f32⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S17408x2048, .f32⟩
  | .hbm, ⟨16, _⟩ => ⟨S17408x2048, .f32⟩
  | .hbm, ⟨17, _⟩ => ⟨S17408x2048, .f32⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S17408x2048, .f32⟩
  | .hbm, ⟨22, _⟩ => ⟨S17408x2048, .f32⟩
  | .hbm, ⟨23, _⟩ => ⟨S17408x2048, .f32⟩
  | .hbm, ⟨24, _⟩ => ⟨S17408x2048, .f32⟩
  | .hbm, ⟨25, _⟩ => ⟨S17408x2048, .f32⟩
  | .hbm, ⟨26, _⟩ => ⟨S17408x2048, .f32⟩
  | .hbm, ⟨27, _⟩ => ⟨S17408x6144, .f32⟩
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== KernelKvUp.lean ====
abbrev S17408x512 : Shape := ⟨2, ![17408, 512]⟩
abbrev S512x4096 : Shape := ⟨2, ![512, 4096]⟩
abbrev S17408x128 : Shape := ⟨2, ![17408, 128]⟩
abbrev S512x16x256 : Shape := ⟨3, ![512, 16, 256]⟩
abbrev S512x16x128 : Shape := ⟨3, ![512, 16, 128]⟩
abbrev S512x2048 : Shape := ⟨2, ![512, 2048]⟩
abbrev S17408x4096 : Shape := ⟨2, ![17408, 4096]⟩
abbrev S17408x2048 : Shape := ⟨2, ![17408, 2048]⟩
abbrev S1024x512 : Shape := ⟨2, ![1024, 512]⟩
abbrev S512x512 : Shape := ⟨2, ![512, 512]⟩
abbrev S1024x128 : Shape := ⟨2, ![1024, 128]⟩
abbrev S1024x1024 : Shape := ⟨2, ![1024, 1024]⟩

abbrev nBuf : Space → Nat
  | .hbm => 12
  | .vmem => 12
  | .smem => 0
  | _ => 0

abbrev bufTy : (tb : Table) → Fin (tcTables nBuf tb) → BufTy
  | .hbm, ⟨0, _⟩ => ⟨S17408x512, .bf16⟩
  | .hbm, ⟨1, _⟩ => ⟨S512x4096, .f32⟩
  | .hbm, ⟨2, _⟩ => ⟨S17408x128, .bf16⟩
  | .hbm, ⟨3, _⟩ => ⟨S512x16x256, .f32⟩
  | .hbm, ⟨4, _⟩ => ⟨S512x16x128, .f32⟩
  | .hbm, ⟨5, _⟩ => ⟨S512x2048, .f32⟩
  | .hbm, ⟨6, _⟩ => ⟨S512x2048, .bf16⟩
  | .hbm, ⟨7, _⟩ => ⟨S512x16x128, .f32⟩
  | .hbm, ⟨8, _⟩ => ⟨S512x2048, .f32⟩
  | .hbm, ⟨9, _⟩ => ⟨S512x2048, .bf16⟩
  | .hbm, ⟨10, _⟩ => ⟨S17408x4096, .bf16⟩
  | .hbm, ⟨11, _⟩ => ⟨S17408x2048, .bf16⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x128, .bf16⟩
  | .local _ .vmem, ⟨7, _⟩ => ⟨S1024x128, .bf16⟩
  | .local _ .vmem, ⟨8, _⟩ => ⟨S1024x1024, .bf16⟩
  | .local _ .vmem, ⟨9, _⟩ => ⟨S1024x1024, .bf16⟩
  | .local _ .vmem, ⟨10, _⟩ => ⟨S1024x512, .bf16⟩
  | .local _ .vmem, ⟨11, _⟩ => ⟨S1024x512, .bf16⟩
  | _, _ => ⟨S17408x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![17, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceKvUpIdeal.lean ====
abbrev S17408x512 : Shape := ⟨2, ![17408, 512]⟩
abbrev S512x4096 : Shape := ⟨2, ![512, 4096]⟩
abbrev S17408x128 : Shape := ⟨2, ![17408, 128]⟩
abbrev S17408x4096 : Shape := ⟨2, ![17408, 4096]⟩
abbrev S17408x16x256 : Shape := ⟨3, ![17408, 16, 256]⟩
abbrev S17408x16x128 : Shape := ⟨3, ![17408, 16, 128]⟩
abbrev S17408x1x128 : Shape := ⟨3, ![17408, 1, 128]⟩
abbrev S17408x2048 : Shape := ⟨2, ![17408, 2048]⟩

abbrev nBuf : Space → Nat
  | .hbm => 16
  | .vmem => 0
  | .smem => 0
  | _ => 0

abbrev bufTy : (tb : Table) → Fin (tcTables nBuf tb) → BufTy
  | .hbm, ⟨0, _⟩ => ⟨S17408x512, .bf16⟩
  | .hbm, ⟨1, _⟩ => ⟨S512x4096, .f32⟩
  | .hbm, ⟨2, _⟩ => ⟨S17408x128, .bf16⟩
  | .hbm, ⟨3, _⟩ => ⟨S17408x512, .f32⟩
  | .hbm, ⟨4, _⟩ => ⟨S17408x4096, .f32⟩
  | .hbm, ⟨5, _⟩ => ⟨S17408x16x256, .f32⟩
  | .hbm, ⟨6, _⟩ => ⟨S17408x16x128, .f32⟩
  | .hbm, ⟨7, _⟩ => ⟨S17408x16x128, .f32⟩
  | .hbm, ⟨8, _⟩ => ⟨S17408x128, .f32⟩
  | .hbm, ⟨9, _⟩ => ⟨S17408x1x128, .f32⟩
  | .hbm, ⟨10, _⟩ => ⟨S17408x16x128, .f32⟩
  | .hbm, ⟨11, _⟩ => ⟨S17408x16x256, .f32⟩
  | .hbm, ⟨12, _⟩ => ⟨S17408x4096, .f32⟩
  | .hbm, ⟨13, _⟩ => ⟨S17408x4096, .bf16⟩
  | .hbm, ⟨14, _⟩ => ⟨S17408x2048, .f32⟩
  | .hbm, ⟨15, _⟩ => ⟨S17408x2048, .bf16⟩
  | _, _ => ⟨S17408x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== KernelGate.lean ====
abbrev S17408x768 : Shape := ⟨2, ![17408, 768]⟩
abbrev S256x2048 : Shape := ⟨2, ![256, 2048]⟩
abbrev S0 : Shape := ⟨1, ![0]⟩
abbrev S_ : Shape := ⟨0, ![]⟩
abbrev S17408x2048 : Shape := ⟨2, ![17408, 2048]⟩
abbrev S1024x256 : Shape := ⟨2, ![1024, 256]⟩
abbrev S256x512 : Shape := ⟨2, ![256, 512]⟩
abbrev S1024x512 : Shape := ⟨2, ![1024, 512]⟩

abbrev nBuf : Space → Nat
  | .hbm => 8
  | .vmem => 6
  | .smem => 0
  | _ => 0

abbrev bufTy : (tb : Table) → Fin (tcTables nBuf tb) → BufTy
  | .hbm, ⟨0, _⟩ => ⟨S17408x768, .bf16⟩
  | .hbm, ⟨1, _⟩ => ⟨S256x2048, .f32⟩
  | .hbm, ⟨2, _⟩ => ⟨S0, .i32⟩
  | .hbm, ⟨3, _⟩ => ⟨S_, .f32⟩
  | .hbm, ⟨4, _⟩ => ⟨S256x2048, .f32⟩
  | .hbm, ⟨5, _⟩ => ⟨S256x2048, .f32⟩
  | .hbm, ⟨6, _⟩ => ⟨S256x2048, .bf16⟩
  | .hbm, ⟨7, _⟩ => ⟨S17408x2048, .f32⟩
  | .local _ .vmem, ⟨0, _⟩ => ⟨S1024x256, .bf16⟩
  | .local _ .vmem, ⟨1, _⟩ => ⟨S1024x256, .bf16⟩
  | .local _ .vmem, ⟨2, _⟩ => ⟨S256x512, .bf16⟩
  | .local _ .vmem, ⟨3, _⟩ => ⟨S256x512, .bf16⟩
  | .local _ .vmem, ⟨4, _⟩ => ⟨S1024x512, .f32⟩
  | .local _ .vmem, ⟨5, _⟩ => ⟨S1024x512, .f32⟩
  | _, _ => ⟨S17408x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![17, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceGateIdeal.lean ====
abbrev S17408x768 : Shape := ⟨2, ![17408, 768]⟩
abbrev S256x2048 : Shape := ⟨2, ![256, 2048]⟩
abbrev S17408x256 : Shape := ⟨2, ![17408, 256]⟩
abbrev S17408x2048 : Shape := ⟨2, ![17408, 2048]⟩

abbrev nBuf : Space → Nat
  | .hbm => 5
  | .vmem => 0
  | .smem => 0
  | _ => 0

abbrev bufTy : (tb : Table) → Fin (tcTables nBuf tb) → BufTy
  | .hbm, ⟨0, _⟩ => ⟨S17408x768, .bf16⟩
  | .hbm, ⟨1, _⟩ => ⟨S256x2048, .f32⟩
  | .hbm, ⟨2, _⟩ => ⟨S17408x256, .bf16⟩
  | .hbm, ⟨3, _⟩ => ⟨S17408x256, .f32⟩
  | .hbm, ⟨4, _⟩ => ⟨S17408x2048, .f32⟩
  | _, _ => ⟨S17408x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelMlaDown.lean ====
abbrev S17408x2048 : Shape := ⟨2, ![17408, 2048]⟩
abbrev S2048x1088 : Shape := ⟨2, ![2048, 1088]⟩
abbrev S512 : Shape := ⟨1, ![512]⟩
abbrev S4096x16 : Shape := ⟨2, ![4096, 16]⟩
abbrev S4096x64 : Shape := ⟨2, ![4096, 64]⟩
abbrev S_ : Shape := ⟨0, ![]⟩
abbrev S4352x128 : Shape := ⟨2, ![4352, 128]⟩
abbrev S1x4352x1x128 : Shape := ⟨4, ![1, 4352, 1, 128]⟩
abbrev S4x4352x1x128 : Shape := ⟨4, ![4, 4352, 1, 128]⟩
abbrev S17408x128 : Shape := ⟨2, ![17408, 128]⟩
abbrev S2048x1152 : Shape := ⟨2, ![2048, 1152]⟩
abbrev S1x512 : Shape := ⟨2, ![1, 512]⟩
abbrev S17408x512 : Shape := ⟨2, ![17408, 512]⟩
abbrev S1024x2048 : Shape := ⟨2, ![1024, 2048]⟩
abbrev S1024x128 : Shape := ⟨2, ![1024, 128]⟩
abbrev S1024x512 : Shape := ⟨2, ![1024, 512]⟩
abbrev S1024x1152 : Shape := ⟨2, ![1024, 1152]⟩
abbrev S1024 : Shape := ⟨1, ![1024]⟩
abbrev S1024x1 : Shape := ⟨2, ![1024, 1]⟩

abbrev nBuf : Space → Nat
  | .hbm => 37
  | .vmem => 15
  | .smem => 0
  | _ => 0

abbrev bufTy : (tb : Table) → Fin (tcTables nBuf tb) → BufTy
  | .hbm, ⟨0, _⟩ => ⟨S17408x2048, .bf16⟩
  | .hbm, ⟨1, _⟩ => ⟨S2048x1088, .f32⟩
  | .hbm, ⟨2, _⟩ => ⟨S512, .f32⟩
  | .hbm, ⟨3, _⟩ => ⟨S512, .f32⟩
  | .hbm, ⟨4, _⟩ => ⟨S4096x16, .f32⟩
  | .hbm, ⟨5, _⟩ => ⟨S4096x16, .f32⟩
  | .hbm, ⟨6, _⟩ => ⟨S4096x16, .f32⟩
  | .hbm, ⟨7, _⟩ => ⟨S4096x16, .f32⟩
  | .hbm, ⟨8, _⟩ => ⟨S4096x64, .f32⟩
  | .hbm, ⟨9, _⟩ => ⟨S4096x16, .f32⟩
  | .hbm, ⟨10, _⟩ => ⟨S4096x16, .f32⟩
  | .hbm, ⟨11, _⟩ => ⟨S4096x16, .f32⟩
  | .hbm, ⟨12, _⟩ => ⟨S4096x16, .f32⟩
  | .hbm, ⟨13, _⟩ => ⟨S4096x16, .f32⟩
  | .hbm, ⟨14, _⟩ => ⟨S4096x16, .f32⟩
  | .hbm, ⟨15, _⟩ => ⟨S4096x64, .f32⟩
  | .hbm, ⟨16, _⟩ => ⟨S_, .f32⟩
  | .hbm, ⟨17, _⟩ => ⟨S_, .f32⟩
  | .hbm, ⟨18, _⟩ => ⟨S4352x128, .f32⟩
  | .hbm, ⟨19, _⟩ => ⟨S1x4352x1x128, .f32⟩
  | .hbm, ⟨20, _⟩ => ⟨S4x4352x1x128, .f32⟩
  | .hbm, ⟨21, _⟩ => ⟨S17408x128, .f32⟩
  | .hbm, ⟨22, _⟩ => ⟨S_, .i32⟩
  | .hbm, ⟨23, _⟩ => ⟨S_, .f32⟩
  | .hbm, ⟨24, _⟩ => ⟨S4352x128, .f32⟩
  | .hbm, ⟨25, _⟩ => ⟨S1x4352x1x128, .f32⟩
  | .hbm, ⟨26, _⟩ => ⟨S4x4352x1x128, .f32⟩
  | .hbm, ⟨27, _⟩ => ⟨S17408x128, .f32⟩
  | .hbm, ⟨28, _⟩ => ⟨S_, .i32⟩
  | .hbm, ⟨29, _⟩ => ⟨S_, .f32⟩
  | .hbm, ⟨30, _⟩ => ⟨S2048x1152, .f32⟩
  | .hbm, ⟨31, _⟩ => ⟨S2048x1152, .bf16⟩
  | .hbm, ⟨32, _⟩ => ⟨S1x512, .f32⟩
  | .hbm, ⟨33, _⟩ => ⟨S1x512, .f32⟩
  | .hbm, ⟨34, _⟩ => ⟨S17408x512, .bf16⟩
  | .hbm, ⟨35, _⟩ => ⟨S17408x512, .bf16⟩
  | .hbm, ⟨36, _⟩ => ⟨S17408x128, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1152, .bf16⟩
  | .local _ .vmem, ⟨3, _⟩ => ⟨S1x512, .f32⟩
  | .local _ .vmem, ⟨4, _⟩ => ⟨S1x512, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x128, .bf16⟩
  | .local _ .vmem, ⟨14, _⟩ => ⟨S1024x128, .bf16⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_call1_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_0 : Ref sig .tc := ⟨.hbm, 28, rfl⟩
abbrev main_call2_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22_0 : Ref sig .tc := ⟨.hbm, 34, rfl⟩
abbrev main_v22_1 : Ref sig .tc := ⟨.hbm, 35, rfl⟩
abbrev main_v22_2 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![17, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceMlaDownIdeal.lean ====
abbrev S17408x2048 : Shape := ⟨2, ![17408, 2048]⟩
abbrev S2048x1088 : Shape := ⟨2, ![2048, 1088]⟩
abbrev S512 : Shape := ⟨1, ![512]⟩
abbrev S4096x16 : Shape := ⟨2, ![4096, 16]⟩
abbrev S17408x1088 : Shape := ⟨2, ![17408, 1088]⟩
abbrev S17408x512 : Shape := ⟨2, ![17408, 512]⟩
abbrev S17408x64 : Shape := ⟨2, ![17408, 64]⟩
abbrev S4x4352x64 : Shape := ⟨3, ![4, 4352, 64]⟩
abbrev S4x4096x64 : Shape := ⟨3, ![4, 4096, 64]⟩
abbrev S4x4096x32 : Shape := ⟨3, ![4, 4096, 32]⟩
abbrev S4x4096x16 : Shape := ⟨3, ![4, 4096, 16]⟩
abbrev S1x4096x16 : Shape := ⟨3, ![1, 4096, 16]⟩
abbrev S4x256x64 : Shape := ⟨3, ![4, 256, 64]⟩
abbrev S_ : Shape := ⟨0, ![]⟩
abbrev S17408x128 : Shape := ⟨2, ![17408, 128]⟩
abbrev S17408 : Shape := ⟨1, ![17408]⟩
abbrev S17408x1 : Shape := ⟨2, ![17408, 1]⟩
abbrev S1x512 : Shape := ⟨2, ![1, 512]⟩

abbrev nBuf : Space → Nat
  | .hbm => 95
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S2048x1088, .f32⟩
  | .hbm, ⟨2, _⟩ => ⟨S512, .f32⟩
  | .hbm, ⟨3, _⟩ => ⟨S512, .f32⟩
  | .hbm, ⟨4, _⟩ => ⟨S4096x16, .f32⟩
  | .hbm, ⟨5, _⟩ => ⟨S4096x16, .f32⟩
  | .hbm, ⟨6, _⟩ => ⟨S17408x2048, .f32⟩
  | .hbm, ⟨7, _⟩ => ⟨S17408x1088, .f32⟩
  | .hbm, ⟨8, _⟩ => ⟨S17408x512, .f32⟩
  | .hbm, ⟨9, _⟩ => ⟨S17408x512, .f32⟩
  | .hbm, ⟨10, _⟩ => ⟨S17408x64, .f32⟩
  | .hbm, ⟨11, _⟩ => ⟨S4x4352x64, .f32⟩
  | .hbm, ⟨12, _⟩ => ⟨S4x4096x64, .f32⟩
  | .hbm, ⟨13, _⟩ => ⟨S4096x16, .f32⟩
  | .hbm, ⟨14, _⟩ => ⟨S4096x16, .f32⟩
  | .hbm, ⟨15, _⟩ => ⟨S4096x16, .f32⟩
  | .hbm, ⟨16, _⟩ => ⟨S4096x16, .f32⟩
  | .hbm, ⟨17, _⟩ => ⟨S4x4096x32, .f32⟩
  | .hbm, ⟨18, _⟩ => ⟨S4x4096x32, .f32⟩
  | .hbm, ⟨19, _⟩ => ⟨S4x4096x16, .f32⟩
  | .hbm, ⟨20, _⟩ => ⟨S4x4096x16, .f32⟩
  | .hbm, ⟨21, _⟩ => ⟨S1x4096x16, .f32⟩
  | .hbm, ⟨22, _⟩ => ⟨S4x4096x16, .f32⟩
  | .hbm, ⟨23, _⟩ => ⟨S4x4096x16, .f32⟩
  | .hbm, ⟨24, _⟩ => ⟨S1x4096x16, .f32⟩
  | .hbm, ⟨25, _⟩ => ⟨S4x4096x16, .f32⟩
  | .hbm, ⟨26, _⟩ => ⟨S4x4096x16, .f32⟩
  | .hbm, ⟨27, _⟩ => ⟨S4x4096x16, .f32⟩
  | .hbm, ⟨28, _⟩ => ⟨S1x4096x16, .f32⟩
  | .hbm, ⟨29, _⟩ => ⟨S4x4096x16, .f32⟩
  | .hbm, ⟨30, _⟩ => ⟨S4x4096x16, .f32⟩
  | .hbm, ⟨31, _⟩ => ⟨S1x4096x16, .f32⟩
  | .hbm, ⟨32, _⟩ => ⟨S4x4096x16, .f32⟩
  | .hbm, ⟨33, _⟩ => ⟨S4x4096x16, .f32⟩
  | .hbm, ⟨34, _⟩ => ⟨S4x4096x16, .f32⟩
  | .hbm, ⟨35, _⟩ => ⟨S4x4096x32, .f32⟩
  | .hbm, ⟨36, _⟩ => ⟨S4x4096x16, .f32⟩
  | .hbm, ⟨37, _⟩ => ⟨S4x4096x16, .f32⟩
  | .hbm, ⟨38, _⟩ => ⟨S1x4096x16, .f32⟩
  | .hbm, ⟨39, _⟩ => ⟨S4x4096x16, .f32⟩
  | .hbm, ⟨40, _⟩ => ⟨S4x4096x16, .f32⟩
  | .hbm, ⟨41, _⟩ => ⟨S1x4096x16, .f32⟩
  | .hbm, ⟨42, _⟩ => ⟨S4x4096x16, .f32⟩
  | .hbm, ⟨43, _⟩ => ⟨S4x4096x16, .f32⟩
  | .hbm, ⟨44, _⟩ => ⟨S4x4096x16, .f32⟩
  | .hbm, ⟨45, _⟩ => ⟨S1x4096x16, .f32⟩
  | .hbm, ⟨46, _⟩ => ⟨S4x4096x16, .f32⟩
  | .hbm, ⟨47, _⟩ => ⟨S4x4096x16, .f32⟩
  | .hbm, ⟨48, _⟩ => ⟨S1x4096x16, .f32⟩
  | .hbm, ⟨49, _⟩ => ⟨S4x4096x16, .f32⟩
  | .hbm, ⟨50, _⟩ => ⟨S4x4096x16, .f32⟩
  | .hbm, ⟨51, _⟩ => ⟨S4x4096x16, .f32⟩
  | .hbm, ⟨52, _⟩ => ⟨S4x4096x32, .f32⟩
  | .hbm, ⟨53, _⟩ => ⟨S4x4096x64, .f32⟩
  | .hbm, ⟨54, _⟩ => ⟨S4x256x64, .f32⟩
  | .hbm, ⟨55, _⟩ => ⟨S4x4352x64, .f32⟩
  | .hbm, ⟨56, _⟩ => ⟨S17408x64, .f32⟩
  | .hbm, ⟨57, _⟩ => ⟨S_, .f32⟩
  | .hbm, ⟨58, _⟩ => ⟨S17408x64, .f32⟩
  | .hbm, ⟨59, _⟩ => ⟨S17408x128, .f32⟩
  | .hbm, ⟨60, _⟩ => ⟨S17408x512, .f32⟩
  | .hbm, ⟨61, _⟩ => ⟨S_, .f32⟩
  | .hbm, ⟨62, _⟩ => ⟨S17408, .f32⟩
  | .hbm, ⟨63, _⟩ => ⟨S17408x1, .f32⟩
  | .hbm, ⟨64, _⟩ => ⟨S_, .f32⟩
  | .hbm, ⟨65, _⟩ => ⟨S17408x1, .f32⟩
  | .hbm, ⟨66, _⟩ => ⟨S17408x1, .f32⟩
  | .hbm, ⟨67, _⟩ => ⟨S_, .f32⟩
  | .hbm, ⟨68, _⟩ => ⟨S17408x1, .f32⟩
  | .hbm, ⟨69, _⟩ => ⟨S17408x1, .f32⟩
  | .hbm, ⟨70, _⟩ => ⟨S17408x1, .f32⟩
  | .hbm, ⟨71, _⟩ => ⟨S17408x512, .f32⟩
  | .hbm, ⟨72, _⟩ => ⟨S17408x512, .f32⟩
  | .hbm, ⟨73, _⟩ => ⟨S1x512, .f32⟩
  | .hbm, ⟨74, _⟩ => ⟨S17408x512, .f32⟩
  | .hbm, ⟨75, _⟩ => ⟨S17408x512, .f32⟩
  | .hbm, ⟨76, _⟩ => ⟨S17408x512, .f32⟩
  | .hbm, ⟨77, _⟩ => ⟨S_, .f32⟩
  | .hbm, ⟨78, _⟩ => ⟨S17408, .f32⟩
  | .hbm, ⟨79, _⟩ => ⟨S17408x1, .f32⟩
  | .hbm, ⟨80, _⟩ => ⟨S_, .f32⟩
  | .hbm, ⟨81, _⟩ => ⟨S17408x1, .f32⟩
  | .hbm, ⟨82, _⟩ => ⟨S17408x1, .f32⟩
  | .hbm, ⟨83, _⟩ => ⟨S_, .f32⟩
  | .hbm, ⟨84, _⟩ => ⟨S17408x1, .f32⟩
  | .hbm, ⟨85, _⟩ => ⟨S17408x1, .f32⟩
  | .hbm, ⟨86, _⟩ => ⟨S17408x1, .f32⟩
  | .hbm, ⟨87, _⟩ => ⟨S17408x512, .f32⟩
  | .hbm, ⟨88, _⟩ => ⟨S17408x512, .f32⟩
  | .hbm, ⟨89, _⟩ => ⟨S1x512, .f32⟩
  | .hbm, ⟨90, _⟩ => ⟨S17408x512, .f32⟩
  | .hbm, ⟨91, _⟩ => ⟨S17408x512, .f32⟩
  | .hbm, ⟨92, _⟩ => ⟨S17408x512, .bf16⟩
  | .hbm, ⟨93, _⟩ => ⟨S17408x512, .bf16⟩
  | .hbm, ⟨94, _⟩ => ⟨S17408x128, .bf16⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_cst : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_cst_0 : Ref sig .tc := ⟨.hbm, 61, rfl⟩
abbrev main_v54 : Ref sig .tc := ⟨.hbm, 62, rfl⟩
abbrev main_v55 : Ref sig .tc := ⟨.hbm, 63, rfl⟩
abbrev main_cst_1 : Ref sig .tc := ⟨.hbm, 64, rfl⟩
abbrev main_v56 : Ref sig .tc := ⟨.hbm, 65, rfl⟩
abbrev main_v57 : Ref sig .tc := ⟨.hbm, 66, rfl⟩
abbrev main_cst_2 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_cst_3 : Ref sig .tc := ⟨.hbm, 77, rfl⟩
abbrev main_v67 : Ref sig .tc := ⟨.hbm, 78, rfl⟩
abbrev main_v68 : Ref sig .tc := ⟨.hbm, 79, rfl⟩
abbrev main_cst_4 : Ref sig .tc := ⟨.hbm, 80, rfl⟩
abbrev main_v69 : Ref sig .tc := ⟨.hbm, 81, rfl⟩
abbrev main_v70 : Ref sig .tc := ⟨.hbm, 82, rfl⟩
abbrev main_cst_5 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩

abbrev nD : Nat := 1
abbrev τ : Topo := Topo.v7x

variable {F : FTy → Type} [FloatOps F]
-- ==== KernelQUp.lean ====
abbrev S17408x512 : Shape := ⟨2, ![17408, 512]⟩
abbrev S512x3072 : Shape := ⟨2, ![512, 3072]⟩
abbrev S4096x16 : Shape := ⟨2, ![4096, 16]⟩
abbrev S4096x64 : Shape := ⟨2, ![4096, 64]⟩
abbrev S_ : Shape := ⟨0, ![]⟩
abbrev S4352x128 : Shape := ⟨2, ![4352, 128]⟩
abbrev S1x4352x1x128 : Shape := ⟨4, ![1, 4352, 1, 128]⟩
abbrev S4x4352x1x128 : Shape := ⟨4, ![4, 4352, 1, 128]⟩
abbrev S17408x128 : Shape := ⟨2, ![17408, 128]⟩
abbrev S512x16x192 : Shape := ⟨3, ![512, 16, 192]⟩
abbrev S512x16x256 : Shape := ⟨3, ![512, 16, 256]⟩
abbrev S512x4096 : Shape := ⟨2, ![512, 4096]⟩
abbrev S17408x4096 : Shape := ⟨2, ![17408, 4096]⟩
abbrev S1024x512 : Shape := ⟨2, ![1024, 512]⟩
abbrev S512x1024 : Shape := ⟨2, ![512, 1024]⟩
abbrev S1024x128 : Shape := ⟨2, ![1024, 128]⟩
abbrev S1024x1024 : Shape := ⟨2, ![1024, 1024]⟩

abbrev nBuf : Space → Nat
  | .hbm => 33
  | .vmem => 10
  | .smem => 0
  | _ => 0

abbrev bufTy : (tb : Table) → Fin (tcTables nBuf tb) → BufTy
  | .hbm, ⟨0, _⟩ => ⟨S17408x512, .bf16⟩
  | .hbm, ⟨1, _⟩ => ⟨S512x3072, .f32⟩
  | .hbm, ⟨2, _⟩ => ⟨S4096x16, .f32⟩
  | .hbm, ⟨3, _⟩ => ⟨S4096x16, .f32⟩
  | .hbm, ⟨4, _⟩ => ⟨S4096x16, .f32⟩
  | .hbm, ⟨5, _⟩ => ⟨S4096x16, .f32⟩
  | .hbm, ⟨6, _⟩ => ⟨S4096x64, .f32⟩
  | .hbm, ⟨7, _⟩ => ⟨S4096x16, .f32⟩
  | .hbm, ⟨8, _⟩ => ⟨S4096x16, .f32⟩
  | .hbm, ⟨9, _⟩ => ⟨S4096x16, .f32⟩
  | .hbm, ⟨10, _⟩ => ⟨S4096x16, .f32⟩
  | .hbm, ⟨11, _⟩ => ⟨S4096x16, .f32⟩
  | .hbm, ⟨12, _⟩ => ⟨S4096x16, .f32⟩
  | .hbm, ⟨13, _⟩ => ⟨S4096x64, .f32⟩
  | .hbm, ⟨14, _⟩ => ⟨S_, .f32⟩
  | .hbm, ⟨15, _⟩ => ⟨S_, .f32⟩
  | .hbm, ⟨16, _⟩ => ⟨S4352x128, .f32⟩
  | .hbm, ⟨17, _⟩ => ⟨S1x4352x1x128, .f32⟩
  | .hbm, ⟨18, _⟩ => ⟨S4x4352x1x128, .f32⟩
  | .hbm, ⟨19, _⟩ => ⟨S17408x128, .f32⟩
  | .hbm, ⟨20, _⟩ => ⟨S_, .i32⟩
  | .hbm, ⟨21, _⟩ => ⟨S_, .f32⟩
  | .hbm, ⟨22, _⟩ => ⟨S4352x128, .f32⟩
  | .hbm, ⟨23, _⟩ => ⟨S1x4352x1x128, .f32⟩
  | .hbm, ⟨24, _⟩ => ⟨S4x4352x1x128, .f32⟩
  | .hbm, ⟨25, _⟩ => ⟨S17408x128, .f32⟩
  | .hbm, ⟨26, _⟩ => ⟨S512x16x192, .f32⟩
  | .hbm, ⟨27, _⟩ => ⟨S_, .i32⟩
  | .hbm, ⟨28, _⟩ => ⟨S_, .f32⟩
  | .hbm, ⟨29, _⟩ => ⟨S512x16x256, .f32⟩
  | .hbm, ⟨30, _⟩ => ⟨S512x4096, .f32⟩
  | .hbm, ⟨31, _⟩ => ⟨S512x4096, .bf16⟩
  | .hbm, ⟨32, _⟩ => ⟨S17408x4096, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1024, .bf16⟩
  | .local _ .vmem, ⟨9, _⟩ => ⟨S1024x1024, .bf16⟩
  | _, _ => ⟨S17408x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_call0_v0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call1_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_0 : Ref sig .tc := ⟨.hbm, 27, rfl⟩
abbrev main_call2_v0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![17, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelQUpIdeal.lean ====
variable {F : FTy → Type} [FloatOps F] [Named F]
def κ : String → Option EReal := fun
  | "qscale" => some (((Real.sqrt 192)⁻¹ * (Real.log 2)⁻¹ : ℝ) : EReal)
  | _ => none
-- ==== ReferenceQUpIdeal.lean ====
abbrev S17408x512 : Shape := ⟨2, ![17408, 512]⟩
abbrev S512x3072 : Shape := ⟨2, ![512, 3072]⟩
abbrev S4096x16 : Shape := ⟨2, ![4096, 16]⟩
abbrev S17408x3072 : Shape := ⟨2, ![17408, 3072]⟩
abbrev S4x4352x16x192 : Shape := ⟨4, ![4, 4352, 16, 192]⟩
abbrev S4x4352x16x128 : Shape := ⟨4, ![4, 4352, 16, 128]⟩
abbrev S4x4352x16x64 : Shape := ⟨4, ![4, 4352, 16, 64]⟩
abbrev S4x4096x16x64 : Shape := ⟨4, ![4, 4096, 16, 64]⟩
abbrev S4096x1x16 : Shape := ⟨3, ![4096, 1, 16]⟩
abbrev S4x4096x16x32 : Shape := ⟨4, ![4, 4096, 16, 32]⟩
abbrev S4x4096x16x16 : Shape := ⟨4, ![4, 4096, 16, 16]⟩
abbrev S1x4096x1x16 : Shape := ⟨4, ![1, 4096, 1, 16]⟩
abbrev S4x256x16x64 : Shape := ⟨4, ![4, 256, 16, 64]⟩
abbrev S_ : Shape := ⟨0, ![]⟩
abbrev S4x4352x16x256 : Shape := ⟨4, ![4, 4352, 16, 256]⟩
abbrev S17408x4096 : Shape := ⟨2, ![17408, 4096]⟩

abbrev nBuf : Space → Nat
  | .hbm => 70
  | .vmem => 0
  | .smem => 0
  | _ => 0

abbrev bufTy : (tb : Table) → Fin (tcTables nBuf tb) → BufTy
  | .hbm, ⟨0, _⟩ => ⟨S17408x512, .bf16⟩
  | .hbm, ⟨1, _⟩ => ⟨S512x3072, .f32⟩
  | .hbm, ⟨2, _⟩ => ⟨S4096x16, .f32⟩
  | .hbm, ⟨3, _⟩ => ⟨S4096x16, .f32⟩
  | .hbm, ⟨4, _⟩ => ⟨S17408x512, .f32⟩
  | .hbm, ⟨5, _⟩ => ⟨S17408x3072, .f32⟩
  | .hbm, ⟨6, _⟩ => ⟨S4x4352x16x192, .f32⟩
  | .hbm, ⟨7, _⟩ => ⟨S4x4352x16x128, .f32⟩
  | .hbm, ⟨8, _⟩ => ⟨S4x4352x16x64, .f32⟩
  | .hbm, ⟨9, _⟩ => ⟨S4096x16, .f32⟩
  | .hbm, ⟨10, _⟩ => ⟨S4096x16, .f32⟩
  | .hbm, ⟨11, _⟩ => ⟨S4096x16, .f32⟩
  | .hbm, ⟨12, _⟩ => ⟨S4096x16, .f32⟩
  | .hbm, ⟨13, _⟩ => ⟨S4x4096x16x64, .f32⟩
  | .hbm, ⟨14, _⟩ => ⟨S4096x1x16, .f32⟩
  | .hbm, ⟨15, _⟩ => ⟨S4096x1x16, .f32⟩
  | .hbm, ⟨16, _⟩ => ⟨S4096x1x16, .f32⟩
  | .hbm, ⟨17, _⟩ => ⟨S4096x1x16, .f32⟩
  | .hbm, ⟨18, _⟩ => ⟨S4x4096x16x32, .f32⟩
  | .hbm, ⟨19, _⟩ => ⟨S4x4096x16x32, .f32⟩
  | .hbm, ⟨20, _⟩ => ⟨S4x4096x16x16, .f32⟩
  | .hbm, ⟨21, _⟩ => ⟨S4x4096x16x16, .f32⟩
  | .hbm, ⟨22, _⟩ => ⟨S1x4096x1x16, .f32⟩
  | .hbm, ⟨23, _⟩ => ⟨S4x4096x16x16, .f32⟩
  | .hbm, ⟨24, _⟩ => ⟨S4x4096x16x16, .f32⟩
  | .hbm, ⟨25, _⟩ => ⟨S1x4096x1x16, .f32⟩
  | .hbm, ⟨26, _⟩ => ⟨S4x4096x16x16, .f32⟩
  | .hbm, ⟨27, _⟩ => ⟨S4x4096x16x16, .f32⟩
  | .hbm, ⟨28, _⟩ => ⟨S4x4096x16x16, .f32⟩
  | .hbm, ⟨29, _⟩ => ⟨S1x4096x1x16, .f32⟩
  | .hbm, ⟨30, _⟩ => ⟨S4x4096x16x16, .f32⟩
  | .hbm, ⟨31, _⟩ => ⟨S4x4096x16x16, .f32⟩
  | .hbm, ⟨32, _⟩ => ⟨S1x4096x1x16, .f32⟩
  | .hbm, ⟨33, _⟩ => ⟨S4x4096x16x16, .f32⟩
  | .hbm, ⟨34, _⟩ => ⟨S4x4096x16x16, .f32⟩
  | .hbm, ⟨35, _⟩ => ⟨S4x4096x16x16, .f32⟩
  | .hbm, ⟨36, _⟩ => ⟨S4x4096x16x32, .f32⟩
  | .hbm, ⟨37, _⟩ => ⟨S4x4096x16x16, .f32⟩
  | .hbm, ⟨38, _⟩ => ⟨S4x4096x16x16, .f32⟩
  | .hbm, ⟨39, _⟩ => ⟨S1x4096x1x16, .f32⟩
  | .hbm, ⟨40, _⟩ => ⟨S4x4096x16x16, .f32⟩
  | .hbm, ⟨41, _⟩ => ⟨S4x4096x16x16, .f32⟩
  | .hbm, ⟨42, _⟩ => ⟨S1x4096x1x16, .f32⟩
  | .hbm, ⟨43, _⟩ => ⟨S4x4096x16x16, .f32⟩
  | .hbm, ⟨44, _⟩ => ⟨S4x4096x16x16, .f32⟩
  | .hbm, ⟨45, _⟩ => ⟨S4x4096x16x16, .f32⟩
  | .hbm, ⟨46, _⟩ => ⟨S1x4096x1x16, .f32⟩
  | .hbm, ⟨47, _⟩ => ⟨S4x4096x16x16, .f32⟩
  | .hbm, ⟨48, _⟩ => ⟨S4x4096x16x16, .f32⟩
  | .hbm, ⟨49, _⟩ => ⟨S1x4096x1x16, .f32⟩
  | .hbm, ⟨50, _⟩ => ⟨S4x4096x16x16, .f32⟩
  | .hbm, ⟨51, _⟩ => ⟨S4x4096x16x16, .f32⟩
  | .hbm, ⟨52, _⟩ => ⟨S4x4096x16x16, .f32⟩
  | .hbm, ⟨53, _⟩ => ⟨S4x4096x16x32, .f32⟩
  | .hbm, ⟨54, _⟩ => ⟨S4x4096x16x64, .f32⟩
  | .hbm, ⟨55, _⟩ => ⟨S4x256x16x64, .f32⟩
  | .hbm, ⟨56, _⟩ => ⟨S4x4352x16x64, .f32⟩
  | .hbm, ⟨57, _⟩ => ⟨S_, .f32⟩
  | .hbm, ⟨58, _⟩ => ⟨S4x4352x16x64, .f32⟩
  | .hbm, ⟨59, _⟩ => ⟨S4x4352x16x256, .f32⟩
  | .hbm, ⟨60, _⟩ => ⟨S_, .f32⟩
  | .hbm, ⟨61, _⟩ => ⟨S_, .f32⟩
  | .hbm, ⟨62, _⟩ => ⟨S4x4352x16x256, .f32⟩
  | .hbm, ⟨63, _⟩ => ⟨S4x4352x16x256, .f32⟩
  | .hbm, ⟨64, _⟩ => ⟨S_, .f32⟩
  | .hbm, ⟨65, _⟩ => ⟨S_, .f32⟩
  | .hbm, ⟨66, _⟩ => ⟨S4x4352x16x256, .f32⟩
  | .hbm, ⟨67, _⟩ => ⟨S4x4352x16x256, .f32⟩
  | .hbm, ⟨68, _⟩ => ⟨S17408x4096, .f32⟩
  | .hbm, ⟨69, _⟩ => ⟨S17408x4096, .bf16⟩
  | _, _ => ⟨S17408x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_cst : Ref sig .tc := ⟨.hbm, 57, rfl⟩
abbrev main_v53 : Ref sig .tc := ⟨.hbm, 58, rfl⟩
abbrev main_v54 : Ref sig .tc := ⟨.hbm, 59, rfl⟩
abbrev main_cst_0 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_cst_1 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩

abbrev nD : Nat := 1
abbrev τ : Topo := Topo.v7x

variable {F : FTy → Type} [FloatOps F]
-- ==== KernelDecay.lean ====
abbrev S17408x768 : Shape := ⟨2, ![17408, 768]⟩
abbrev S2x96x2048 : Shape := ⟨3, ![2, 96, 2048]⟩
abbrev S2x2048 : Shape := ⟨2, ![2, 2048]⟩
abbrev S_ : Shape := ⟨0, ![]⟩
abbrev S256x4096 : Shape := ⟨2, ![256, 4096]⟩
abbrev S1x96x2048 : Shape := ⟨3, ![1, 96, 2048]⟩
abbrev S96x2048 : Shape := ⟨2, ![96, 2048]⟩
abbrev S1 : Shape := ⟨1, ![1]⟩
abbrev S2 : Shape := ⟨1, ![2]⟩
abbrev S1x4096 : Shape := ⟨2, ![1, 4096]⟩
abbrev S17408x4096 : Shape := ⟨2, ![17408, 4096]⟩
abbrev S1024x256 : Shape := ⟨2, ![1024, 256]⟩
abbrev S256x512 : Shape := ⟨2, ![256, 512]⟩
abbrev S1x512 : Shape := ⟨2, ![1, 512]⟩
abbrev S1024x512 : Shape := ⟨2, ![1024, 512]⟩

abbrev nBuf : Space → Nat
  | .hbm => 24
  | .vmem => 8
  | .smem => 0
  | _ => 0

abbrev bufTy : (tb : Table) → Fin (tcTables nBuf tb) → BufTy
  | .hbm, ⟨0, _⟩ => ⟨S17408x768, .bf16⟩
  | .hbm, ⟨1, _⟩ => ⟨S2x96x2048, .f32⟩
  | .hbm, ⟨2, _⟩ => ⟨S2x2048, .f32⟩
  | .hbm, ⟨3, _⟩ => ⟨S_, .f32⟩
  | .hbm, ⟨4, _⟩ => ⟨S256x4096, .f32⟩
  | .hbm, ⟨5, _⟩ => ⟨S1x96x2048, .f32⟩
  | .hbm, ⟨6, _⟩ => ⟨S96x2048, .f32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2, .i32⟩
  | .hbm, ⟨12, _⟩ => ⟨S256x4096, .f32⟩
  | .hbm, ⟨13, _⟩ => ⟨S1x96x2048, .f32⟩
  | .hbm, ⟨14, _⟩ => ⟨S96x2048, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S256x4096, .f32⟩
  | .hbm, ⟨21, _⟩ => ⟨S256x4096, .bf16⟩
  | .hbm, ⟨22, _⟩ => ⟨S1x4096, .f32⟩
  | .hbm, ⟨23, _⟩ => ⟨S17408x4096, .f32⟩
  | .local _ .vmem, ⟨0, _⟩ => ⟨S1024x256, .bf16⟩
  | .local _ .vmem, ⟨1, _⟩ => ⟨S1024x256, .bf16⟩
  | .local _ .vmem, ⟨2, _⟩ => ⟨S256x512, .bf16⟩
  | .local _ .vmem, ⟨3, _⟩ => ⟨S256x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S17408x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![17, 8], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceDecayIdeal.lean ====
abbrev S17408x768 : Shape := ⟨2, ![17408, 768]⟩
abbrev S2x96x2048 : Shape := ⟨3, ![2, 96, 2048]⟩
abbrev S2x2048 : Shape := ⟨2, ![2, 2048]⟩
abbrev S17408x192 : Shape := ⟨2, ![17408, 192]⟩
abbrev S1x2048 : Shape := ⟨2, ![1, 2048]⟩
abbrev S2048 : Shape := ⟨1, ![2048]⟩
abbrev S17408x96 : Shape := ⟨2, ![17408, 96]⟩
abbrev S1x96x2048 : Shape := ⟨3, ![1, 96, 2048]⟩
abbrev S96x2048 : Shape := ⟨2, ![96, 2048]⟩
abbrev S17408x2048 : Shape := ⟨2, ![17408, 2048]⟩
abbrev S_ : Shape := ⟨0, ![]⟩
abbrev S17408x4096 : Shape := ⟨2, ![17408, 4096]⟩

abbrev nBuf : Space → Nat
  | .hbm => 66
  | .vmem => 0
  | .smem => 0
  | _ => 0

abbrev bufTy : (tb : Table) → Fin (tcTables nBuf tb) → BufTy
  | .hbm, ⟨0, _⟩ => ⟨S17408x768, .bf16⟩
  | .hbm, ⟨1, _⟩ => ⟨S2x96x2048, .f32⟩
  | .hbm, ⟨2, _⟩ => ⟨S2x2048, .f32⟩
  | .hbm, ⟨3, _⟩ => ⟨S17408x768, .f32⟩
  | .hbm, ⟨4, _⟩ => ⟨S17408x192, .f32⟩
  | .hbm, ⟨5, _⟩ => ⟨S1x2048, .f32⟩
  | .hbm, ⟨6, _⟩ => ⟨S2048, .f32⟩
  | .hbm, ⟨7, _⟩ => ⟨S17408x96, .f32⟩
  | .hbm, ⟨8, _⟩ => ⟨S1x96x2048, .f32⟩
  | .hbm, ⟨9, _⟩ => ⟨S96x2048, .f32⟩
  | .hbm, ⟨10, _⟩ => ⟨S17408x2048, .f32⟩
  | .hbm, ⟨11, _⟩ => ⟨S1x2048, .f32⟩
  | .hbm, ⟨12, _⟩ => ⟨S17408x2048, .f32⟩
  | .hbm, ⟨13, _⟩ => ⟨S17408x2048, .f32⟩
  | .hbm, ⟨14, _⟩ => ⟨S17408x2048, .f32⟩
  | .hbm, ⟨15, _⟩ => ⟨S_, .f32⟩
  | .hbm, ⟨16, _⟩ => ⟨S17408x2048, .f32⟩
  | .hbm, ⟨17, _⟩ => ⟨S17408x2048, .f32⟩
  | .hbm, ⟨18, _⟩ => ⟨S17408x2048, .f32⟩
  | .hbm, ⟨19, _⟩ => ⟨S17408x2048, .f32⟩
  | .hbm, ⟨20, _⟩ => ⟨S17408x2048, .i1⟩
  | .hbm, ⟨21, _⟩ => ⟨S17408x2048, .f32⟩
  | .hbm, ⟨22, _⟩ => ⟨S17408x2048, .f32⟩
  | .hbm, ⟨23, _⟩ => ⟨S17408x2048, .f32⟩
  | .hbm, ⟨24, _⟩ => ⟨S17408x2048, .f32⟩
  | .hbm, ⟨25, _⟩ => ⟨S17408x2048, .f32⟩
  | .hbm, ⟨26, _⟩ => ⟨S17408x2048, .f32⟩
  | .hbm, ⟨27, _⟩ => ⟨S17408x2048, .f32⟩
  | .hbm, ⟨28, _⟩ => ⟨S17408x2048, .f32⟩
  | .hbm, ⟨29, _⟩ => ⟨S17408x2048, .f32⟩
  | .hbm, ⟨30, _⟩ => ⟨S_, .f32⟩
  | .hbm, ⟨31, _⟩ => ⟨S17408x2048, .f32⟩
  | .hbm, ⟨32, _⟩ => ⟨S17408x2048, .f32⟩
  | .hbm, ⟨33, _⟩ => ⟨S17408x2048, .f32⟩
  | .hbm, ⟨34, _⟩ => ⟨S17408x2048, .f32⟩
  | .hbm, ⟨35, _⟩ => ⟨S1x2048, .f32⟩
  | .hbm, ⟨36, _⟩ => ⟨S2048, .f32⟩
  | .hbm, ⟨37, _⟩ => ⟨S17408x96, .f32⟩
  | .hbm, ⟨38, _⟩ => ⟨S1x96x2048, .f32⟩
  | .hbm, ⟨39, _⟩ => ⟨S96x2048, .f32⟩
  | .hbm, ⟨40, _⟩ => ⟨S17408x2048, .f32⟩
  | .hbm, ⟨41, _⟩ => ⟨S1x2048, .f32⟩
  | .hbm, ⟨42, _⟩ => ⟨S17408x2048, .f32⟩
  | .hbm, ⟨43, _⟩ => ⟨S17408x2048, .f32⟩
  | .hbm, ⟨44, _⟩ => ⟨S17408x2048, .f32⟩
  | .hbm, ⟨45, _⟩ => ⟨S_, .f32⟩
  | .hbm, ⟨46, _⟩ => ⟨S17408x2048, .f32⟩
  | .hbm, ⟨47, _⟩ => ⟨S17408x2048, .f32⟩
  | .hbm, ⟨48, _⟩ => ⟨S17408x2048, .f32⟩
  | .hbm, ⟨49, _⟩ => ⟨S17408x2048, .f32⟩
  | .hbm, ⟨50, _⟩ => ⟨S17408x2048, .i1⟩
  | .hbm, ⟨51, _⟩ => ⟨S17408x2048, .f32⟩
  | .hbm, ⟨52, _⟩ => ⟨S17408x2048, .f32⟩
  | .hbm, ⟨53, _⟩ => ⟨S17408x2048, .f32⟩
  | .hbm, ⟨54, _⟩ => ⟨S17408x2048, .f32⟩
  | .hbm, ⟨55, _⟩ => ⟨S17408x2048, .f32⟩
  | .hbm, ⟨56, _⟩ => ⟨S17408x2048, .f32⟩
  | .hbm, ⟨57, _⟩ => ⟨S17408x2048, .f32⟩
  | .hbm, ⟨58, _⟩ => ⟨S17408x2048, .f32⟩
  | .hbm, ⟨59, _⟩ => ⟨S17408x2048, .f32⟩
  | .hbm, ⟨60, _⟩ => ⟨S_, .f32⟩
  | .hbm, ⟨61, _⟩ => ⟨S17408x2048, .f32⟩
  | .hbm, ⟨62, _⟩ => ⟨S17408x2048, .f32⟩
  | .hbm, ⟨63, _⟩ => ⟨S17408x2048, .f32⟩
  | .hbm, ⟨64, _⟩ => ⟨S17408x2048, .f32⟩
  | .hbm, ⟨65, _⟩ => ⟨S17408x4096, .f32⟩
  | _, _ => ⟨S17408x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call1_cst : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_v28 : Ref sig .tc := ⟨.hbm, 58, rfl⟩
abbrev main_v29 : Ref sig .tc := ⟨.hbm, 59, rfl⟩
abbrev main_cst_0 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩

abbrev nD : Nat := 1
abbrev τ : Topo := Topo.v7x

variable {F : FTy → Type} [FloatOps F]
-- ==== KernelIclr.lean ====
abbrev S17408x768 : Shape := ⟨2, ![17408, 768]⟩
abbrev S2x96x2048 : Shape := ⟨3, ![2, 96, 2048]⟩
abbrev S2x2048 : Shape := ⟨2, ![2, 2048]⟩
abbrev S_ : Shape := ⟨0, ![]⟩
abbrev S256x4096 : Shape := ⟨2, ![256, 4096]⟩
abbrev S1x96x2048 : Shape := ⟨3, ![1, 96, 2048]⟩
abbrev S96x2048 : Shape := ⟨2, ![96, 2048]⟩
abbrev S1 : Shape := ⟨1, ![1]⟩
abbrev S2 : Shape := ⟨1, ![2]⟩
abbrev S1x4096 : Shape := ⟨2, ![1, 4096]⟩
abbrev S17408x4096 : Shape := ⟨2, ![17408, 4096]⟩
abbrev S1024x256 : Shape := ⟨2, ![1024, 256]⟩
abbrev S256x512 : Shape := ⟨2, ![256, 512]⟩
abbrev S1x512 : Shape := ⟨2, ![1, 512]⟩
abbrev S1024x512 : Shape := ⟨2, ![1024, 512]⟩

abbrev nBuf : Space → Nat
  | .hbm => 24
  | .vmem => 8
  | .smem => 0
  | _ => 0

abbrev bufTy : (tb : Table) → Fin (tcTables nBuf tb) → BufTy
  | .hbm, ⟨0, _⟩ => ⟨S17408x768, .bf16⟩
  | .hbm, ⟨1, _⟩ => ⟨S2x96x2048, .f32⟩
  | .hbm, ⟨2, _⟩ => ⟨S2x2048, .f32⟩
  | .hbm, ⟨3, _⟩ => ⟨S_, .f32⟩
  | .hbm, ⟨4, _⟩ => ⟨S256x4096, .f32⟩
  | .hbm, ⟨5, _⟩ => ⟨S1x96x2048, .f32⟩
  | .hbm, ⟨6, _⟩ => ⟨S96x2048, .f32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2, .i32⟩
  | .hbm, ⟨12, _⟩ => ⟨S256x4096, .f32⟩
  | .hbm, ⟨13, _⟩ => ⟨S1x96x2048, .f32⟩
  | .hbm, ⟨14, _⟩ => ⟨S96x2048, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S256x4096, .f32⟩
  | .hbm, ⟨21, _⟩ => ⟨S256x4096, .bf16⟩
  | .hbm, ⟨22, _⟩ => ⟨S1x4096, .f32⟩
  | .hbm, ⟨23, _⟩ => ⟨S17408x4096, .f32⟩
  | .local _ .vmem, ⟨0, _⟩ => ⟨S1024x256, .bf16⟩
  | .local _ .vmem, ⟨1, _⟩ => ⟨S1024x256, .bf16⟩
  | .local _ .vmem, ⟨2, _⟩ => ⟨S256x512, .bf16⟩
  | .local _ .vmem, ⟨3, _⟩ => ⟨S256x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S17408x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![17, 8], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIclrIdeal.lean ====
abbrev S17408x768 : Shape := ⟨2, ![17408, 768]⟩
abbrev S2x96x2048 : Shape := ⟨3, ![2, 96, 2048]⟩
abbrev S2x2048 : Shape := ⟨2, ![2, 2048]⟩
abbrev S17408x192 : Shape := ⟨2, ![17408, 192]⟩
abbrev S1x2048 : Shape := ⟨2, ![1, 2048]⟩
abbrev S2048 : Shape := ⟨1, ![2048]⟩
abbrev S17408x96 : Shape := ⟨2, ![17408, 96]⟩
abbrev S1x96x2048 : Shape := ⟨3, ![1, 96, 2048]⟩
abbrev S96x2048 : Shape := ⟨2, ![96, 2048]⟩
abbrev S17408x2048 : Shape := ⟨2, ![17408, 2048]⟩
abbrev S_ : Shape := ⟨0, ![]⟩
abbrev S17408x4096 : Shape := ⟨2, ![17408, 4096]⟩

abbrev nBuf : Space → Nat
  | .hbm => 40
  | .vmem => 0
  | .smem => 0
  | _ => 0

abbrev bufTy : (tb : Table) → Fin (tcTables nBuf tb) → BufTy
  | .hbm, ⟨0, _⟩ => ⟨S17408x768, .bf16⟩
  | .hbm, ⟨1, _⟩ => ⟨S2x96x2048, .f32⟩
  | .hbm, ⟨2, _⟩ => ⟨S2x2048, .f32⟩
  | .hbm, ⟨3, _⟩ => ⟨S17408x768, .f32⟩
  | .hbm, ⟨4, _⟩ => ⟨S17408x192, .f32⟩
  | .hbm, ⟨5, _⟩ => ⟨S1x2048, .f32⟩
  | .hbm, ⟨6, _⟩ => ⟨S2048, .f32⟩
  | .hbm, ⟨7, _⟩ => ⟨S17408x96, .f32⟩
  | .hbm, ⟨8, _⟩ => ⟨S1x96x2048, .f32⟩
  | .hbm, ⟨9, _⟩ => ⟨S96x2048, .f32⟩
  | .hbm, ⟨10, _⟩ => ⟨S17408x2048, .f32⟩
  | .hbm, ⟨11, _⟩ => ⟨S1x2048, .f32⟩
  | .hbm, ⟨12, _⟩ => ⟨S17408x2048, .f32⟩
  | .hbm, ⟨13, _⟩ => ⟨S17408x2048, .f32⟩
  | .hbm, ⟨14, _⟩ => ⟨S17408x2048, .f32⟩
  | .hbm, ⟨15, _⟩ => ⟨S17408x2048, .f32⟩
  | .hbm, ⟨16, _⟩ => ⟨S_, .f32⟩
  | .hbm, ⟨17, _⟩ => ⟨S17408x2048, .f32⟩
  | .hbm, ⟨18, _⟩ => ⟨S17408x2048, .f32⟩
  | .hbm, ⟨19, _⟩ => ⟨S_, .f32⟩
  | .hbm, ⟨20, _⟩ => ⟨S17408x2048, .f32⟩
  | .hbm, ⟨21, _⟩ => ⟨S17408x2048, .f32⟩
  | .hbm, ⟨22, _⟩ => ⟨S1x2048, .f32⟩
  | .hbm, ⟨23, _⟩ => ⟨S2048, .f32⟩
  | .hbm, ⟨24, _⟩ => ⟨S17408x96, .f32⟩
  | .hbm, ⟨25, _⟩ => ⟨S1x96x2048, .f32⟩
  | .hbm, ⟨26, _⟩ => ⟨S96x2048, .f32⟩
  | .hbm, ⟨27, _⟩ => ⟨S17408x2048, .f32⟩
  | .hbm, ⟨28, _⟩ => ⟨S1x2048, .f32⟩
  | .hbm, ⟨29, _⟩ => ⟨S17408x2048, .f32⟩
  | .hbm, ⟨30, _⟩ => ⟨S17408x2048, .f32⟩
  | .hbm, ⟨31, _⟩ => ⟨S17408x2048, .f32⟩
  | .hbm, ⟨32, _⟩ => ⟨S17408x2048, .f32⟩
  | .hbm, ⟨33, _⟩ => ⟨S_, .f32⟩
  | .hbm, ⟨34, _⟩ => ⟨S17408x2048, .f32⟩
  | .hbm, ⟨35, _⟩ => ⟨S17408x2048, .f32⟩
  | .hbm, ⟨36, _⟩ => ⟨S_, .f32⟩
  | .hbm, ⟨37, _⟩ => ⟨S17408x2048, .f32⟩
  | .hbm, ⟨38, _⟩ => ⟨S17408x2048, .f32⟩
  | .hbm, ⟨39, _⟩ => ⟨S17408x4096, .f32⟩
  | _, _ => ⟨S17408x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst_1 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩

abbrev nD : Nat := 1
abbrev τ : Topo := Topo.v7x

variable {F : FTy → Type} [FloatOps F]
-- ==== KernelLora.lean ====
abbrev S17408x2048 : Shape := ⟨2, ![17408, 2048]⟩
abbrev S6x2048 : Shape := ⟨2, ![6, 2048]⟩
abbrev S2x2048x96 : Shape := ⟨3, ![2, 2048, 96]⟩
abbrev S2048x256 : Shape := ⟨2, ![2048, 256]⟩
abbrev S3 : Shape := ⟨1, ![3]⟩
abbrev S_ : Shape := ⟨0, ![]⟩
abbrev S1x2048x96 : Shape := ⟨3, ![1, 2048, 96]⟩
abbrev S2048x96 : Shape := ⟨2, ![2048, 96]⟩
abbrev S2048x192 : Shape := ⟨2, ![2048, 192]⟩
abbrev S2048x768 : Shape := ⟨2, ![2048, 768]⟩
abbrev S3x1 : Shape := ⟨2, ![3, 1]⟩
abbrev S3x2048 : Shape := ⟨2, ![3, 2048]⟩
abbrev S8x2048 : Shape := ⟨2, ![8, 2048]⟩
abbrev S1 : Shape := ⟨1, ![1]⟩
abbrev S17408x768 : Shape := ⟨2, ![17408, 768]⟩
abbrev S1024x2048 : Shape := ⟨2, ![1024, 2048]⟩
abbrev S1024x256 : Shape := ⟨2, ![1024, 256]⟩
abbrev S1x2048 : Shape := ⟨2, ![1, 2048]⟩

abbrev nBuf : Space → Nat
  | .hbm => 43
  | .vmem => 10
  | .smem => 0
  | _ => 0

abbrev bufTy : (tb : Table) → Fin (tcTables nBuf tb) → BufTy
  | .hbm, ⟨0, _⟩ => ⟨S17408x2048, .f32⟩
  | .hbm, ⟨1, _⟩ => ⟨S17408x2048, .f32⟩
  | .hbm, ⟨2, _⟩ => ⟨S6x2048, .f32⟩
  | .hbm, ⟨3, _⟩ => ⟨S2x2048x96, .f32⟩
  | .hbm, ⟨4, _⟩ => ⟨S2x2048x96, .f32⟩
  | .hbm, ⟨5, _⟩ => ⟨S2048x256, .f32⟩
  | .hbm, ⟨6, _⟩ => ⟨S3, .i32⟩
  | .hbm, ⟨7, _⟩ => ⟨S_, .i32⟩
  | .hbm, ⟨8, _⟩ => ⟨S_, .f32⟩
  | .hbm, ⟨9, _⟩ => ⟨S2048x256, .f32⟩
  | .hbm, ⟨10, _⟩ => ⟨S1x2048x96, .f32⟩
  | .hbm, ⟨11, _⟩ => ⟨S2048x96, .f32⟩
  | .hbm, ⟨12, _⟩ => ⟨S1x2048x96, .f32⟩
  | .hbm, ⟨13, _⟩ => ⟨S2048x96, .f32⟩
  | .hbm, ⟨14, _⟩ => ⟨S2048x192, .f32⟩
  | .hbm, ⟨15, _⟩ => ⟨S_, .i32⟩
  | .hbm, ⟨16, _⟩ => ⟨S_, .f32⟩
  | .hbm, ⟨17, _⟩ => ⟨S2048x256, .f32⟩
  | .hbm, ⟨18, _⟩ => ⟨S1x2048x96, .f32⟩
  | .hbm, ⟨19, _⟩ => ⟨S2048x96, .f32⟩
  | .hbm, ⟨20, _⟩ => ⟨S1x2048x96, .f32⟩
  | .hbm, ⟨21, _⟩ => ⟨S2048x96, .f32⟩
  | .hbm, ⟨22, _⟩ => ⟨S2048x192, .f32⟩
  | .hbm, ⟨23, _⟩ => ⟨S_, .i32⟩
  | .hbm, ⟨24, _⟩ => ⟨S_, .f32⟩
  | .hbm, ⟨25, _⟩ => ⟨S2048x256, .f32⟩
  | .hbm, ⟨26, _⟩ => ⟨S2048x768, .f32⟩
  | .hbm, ⟨27, _⟩ => ⟨S2048x768, .bf16⟩
  | .hbm, ⟨28, _⟩ => ⟨S_, .i32⟩
  | .hbm, ⟨29, _⟩ => ⟨S3, .i32⟩
  | .hbm, ⟨30, _⟩ => ⟨S3, .i1⟩
  | .hbm, ⟨31, _⟩ => ⟨S_, .i32⟩
  | .hbm, ⟨32, _⟩ => ⟨S3, .i32⟩
  | .hbm, ⟨33, _⟩ => ⟨S3, .i32⟩
  | .hbm, ⟨34, _⟩ => ⟨S3, .i32⟩
  | .hbm, ⟨35, _⟩ => ⟨S3x1, .i32⟩
  | .hbm, ⟨36, _⟩ => ⟨S3x2048, .f32⟩
  | .hbm, ⟨37, _⟩ => ⟨S_, .f32⟩
  | .hbm, ⟨38, _⟩ => ⟨S8x2048, .f32⟩
  | .hbm, ⟨39, _⟩ => ⟨S_, .i32⟩
  | .hbm, ⟨40, _⟩ => ⟨S1, .i32⟩
  | .hbm, ⟨41, _⟩ => ⟨S8x2048, .f32⟩
  | .hbm, ⟨42, _⟩ => ⟨S17408x768, .bf16⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S8x2048, .f32⟩
  | .local _ .vmem, ⟨5, _⟩ => ⟨S2048x256, .bf16⟩
  | .local _ .vmem, ⟨6, _⟩ => ⟨S2048x256, .bf16⟩
  | .local _ .vmem, ⟨7, _⟩ => ⟨S1024x256, .bf16⟩
  | .local _ .vmem, ⟨8, _⟩ => ⟨S1024x256, .bf16⟩
  | .local _ .vmem, ⟨9, _⟩ => ⟨S1024x2048, .bf16⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_call1_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_call2_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_c_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![17, 3], ![false, false]⟩

def k0_cond1 (i : grid0.Coords) : BitVec 1 :=
  let arg1 : BitVec 32 := BitVec.ofNat 32 (i 1).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg1 v1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let c0_i32_1 : BitVec 32 := 0#32
  let v3 : BitVec 1 := Scalar.cmpi .ne v2 c0_i32_1
  let v7 : BitVec 1 := Scalar.andi v6 v3
  let v8 : BitVec 32 := Scalar.addi v2 v1
  let v9 : BitVec 32 := Scalar.select v7 v8 v2
  let c0_i32_4 : BitVec 32 := 0#32
  let v10 : BitVec 1 := Scalar.cmpi .eq v9 c0_i32_4
  let v11 : BitVec 32 := Scalar.extui v10
  let c0_i32_5 : BitVec 32 := 0#32
  let v12 : BitVec 1 := Scalar.cmpi .ne v11 c0_i32_5
  v12

def k0_off1 (i : grid0.Coords) : Fin 2 → Nat :=
  let arg1 : BitVec 32 := BitVec.ofNat 32 (i 1).val
  let c0_i32_14 : BitVec 32 := 0#32
  let v26 : BitVec 1 := Scalar.cmpi .sgt arg1 c0_i32_14
  let v27 : BitVec 32 := Scalar.extui v26
  let c0_i32_15 : BitVec 32 := 0#32
  let v28 : BitVec 1 := Scalar.cmpi .slt arg1 c0_i32_15
  let v29 : BitVec 32 := Scalar.extui v28
  let v30 : BitVec 32 := Scalar.subi v27 v29
  let c1_i32_13 : BitVec 32 := 1#32
  let c0_i32_16 : BitVec 32 := 0#32
  let v31 : BitVec 1 := Scalar.cmpi .sgt c1_i32_13 c0_i32_16
  let v32 : BitVec 32 := Scalar.extui v31
  let c0_i32_17 : BitVec 32 := 0#32
  let v33 : BitVec 1 := Scalar.cmpi .slt c1_i32_13 c0_i32_17
  let v34 : BitVec 32 := Scalar.extui v33
  let v35 : BitVec 32 := Scalar.subi v32 v34
  let v36 : BitVec 1 := Scalar.cmpi .ne v30 v35
  let v37 : BitVec 32 := Scalar.remsi arg1 c1_i32_13
  let c0_i32_18 : BitVec 32 := 0#32
  let v38 : BitVec 1 := Scalar.cmpi .ne v37 c0_i32_18
  let v39 : BitVec 1 := Scalar.andi v36 v38
  let v25 : BitVec 32 := Scalar.divsi arg1 c1_i32_13
  let c1_i32_19 : BitVec 32 := 1#32
  let v40 : BitVec 32 := Scalar.subi v25 c1_i32_19
  let v41 : BitVec 32 := Scalar.select v39 v40 v25
  let v44 : Index := Scalar.indexCast v41
  let c0_24 : Index := 0#32
  ![v44.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceLoraIdeal.lean ====
abbrev S17408x2048 : Shape := ⟨2, ![17408, 2048]⟩
abbrev S6x2048 : Shape := ⟨2, ![6, 2048]⟩
abbrev S2x2048x96 : Shape := ⟨3, ![2, 2048, 96]⟩
abbrev S2048x256 : Shape := ⟨2, ![2048, 256]⟩
abbrev S1x2048 : Shape := ⟨2, ![1, 2048]⟩
abbrev S2048 : Shape := ⟨1, ![2048]⟩
abbrev S_ : Shape := ⟨0, ![]⟩
abbrev S17408x64 : Shape := ⟨2, ![17408, 64]⟩
abbrev S17408x256 : Shape := ⟨2, ![17408, 256]⟩
abbrev S1x2048x96 : Shape := ⟨3, ![1, 2048, 96]⟩
abbrev S2048x96 : Shape := ⟨2, ![2048, 96]⟩
abbrev S17408x96 : Shape := ⟨2, ![17408, 96]⟩
abbrev S17408x768 : Shape := ⟨2, ![17408, 768]⟩

abbrev nBuf : Space → Nat
  | .hbm => 51
  | .vmem => 0
  | .smem => 0
  | _ => 0

abbrev bufTy : (tb : Table) → Fin (tcTables nBuf tb) → BufTy
  | .hbm, ⟨0, _⟩ => ⟨S17408x2048, .f32⟩
  | .hbm, ⟨1, _⟩ => ⟨S17408x2048, .f32⟩
  | .hbm, ⟨2, _⟩ => ⟨S6x2048, .f32⟩
  | .hbm, ⟨3, _⟩ => ⟨S2x2048x96, .f32⟩
  | .hbm, ⟨4, _⟩ => ⟨S2x2048x96, .f32⟩
  | .hbm, ⟨5, _⟩ => ⟨S2048x256, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S17408x2048, .f32⟩
  | .hbm, ⟨10, _⟩ => ⟨S17408x2048, .f32⟩
  | .hbm, ⟨11, _⟩ => ⟨S17408x2048, .f32⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S17408x2048, .f32⟩
  | .hbm, ⟨16, _⟩ => ⟨S17408x2048, .f32⟩
  | .hbm, ⟨17, _⟩ => ⟨S17408x2048, .f32⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S17408x2048, .f32⟩
  | .hbm, ⟨22, _⟩ => ⟨S17408x2048, .f32⟩
  | .hbm, ⟨23, _⟩ => ⟨S17408x2048, .f32⟩
  | .hbm, ⟨24, _⟩ => ⟨S_, .f32⟩
  | .hbm, ⟨25, _⟩ => ⟨S17408x64, .f32⟩
  | .hbm, ⟨26, _⟩ => ⟨S17408x256, .f32⟩
  | .hbm, ⟨27, _⟩ => ⟨S17408x256, .f32⟩
  | .hbm, ⟨28, _⟩ => ⟨S17408x256, .f32⟩
  | .hbm, ⟨29, _⟩ => ⟨S_, .f32⟩
  | .hbm, ⟨30, _⟩ => ⟨S17408x256, .f32⟩
  | .hbm, ⟨31, _⟩ => ⟨S17408x256, .f32⟩
  | .hbm, ⟨32, _⟩ => ⟨S_, .f32⟩
  | .hbm, ⟨33, _⟩ => ⟨S17408x256, .f32⟩
  | .hbm, ⟨34, _⟩ => ⟨S17408x256, .f32⟩
  | .hbm, ⟨35, _⟩ => ⟨S1x2048x96, .f32⟩
  | .hbm, ⟨36, _⟩ => ⟨S2048x96, .f32⟩
  | .hbm, ⟨37, _⟩ => ⟨S17408x96, .f32⟩
  | .hbm, ⟨38, _⟩ => ⟨S17408x96, .f32⟩
  | .hbm, ⟨39, _⟩ => ⟨S1x2048x96, .f32⟩
  | .hbm, ⟨40, _⟩ => ⟨S2048x96, .f32⟩
  | .hbm, ⟨41, _⟩ => ⟨S17408x96, .f32⟩
  | .hbm, ⟨42, _⟩ => ⟨S17408x96, .f32⟩
  | .hbm, ⟨43, _⟩ => ⟨S1x2048x96, .f32⟩
  | .hbm, ⟨44, _⟩ => ⟨S2048x96, .f32⟩
  | .hbm, ⟨45, _⟩ => ⟨S17408x96, .f32⟩
  | .hbm, ⟨46, _⟩ => ⟨S1x2048x96, .f32⟩
  | .hbm, ⟨47, _⟩ => ⟨S2048x96, .f32⟩
  | .hbm, ⟨48, _⟩ => ⟨S17408x96, .f32⟩
  | .hbm, ⟨49, _⟩ => ⟨S17408x768, .f32⟩
  | .hbm, ⟨50, _⟩ => ⟨S17408x768, .bf16⟩
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩

abbrev nD : Nat := 1
abbrev τ : Topo := Topo.v7x

variable {F : FTy → Type} [FloatOps F]
-- ==== Proof.AttnMath.lean ====
module

public import Idealize.ShloMosaic.Lib.Pointwise
public import Idealize.ShloMosaic.PureOps.Ideal.Laws
public import Idealize.ShloMosaic.Lib.IdealHost

/-! The arithmetic behind one row of the attention: scores and values are real numbers, so the row maximum is a real
    number, every weight is a positive real number, and both ways of normalising give one quotient of real sums. -/

@[expose] public section

noncomputable section

namespace Cert.Attn

open Idealize.ShloMosaic

/-- The pattern of minus infinity denotes the least extended real. -/
theorem ofBits_negInf : Ideal.ofBits .f32 0xFF800000#32 = ⊥ := by simp [Ideal.ofBits, Ideal.ieee]

/-- A finite sum of real numbers, read in the extended reals. -/
theorem coe_sum {ι : Type} (S : Finset ι) (f : ι → ℝ) : ((∑ k ∈ S, f k : ℝ) : EReal) = ∑ k ∈ S, (f k : EReal) := by
  classical
  induction S using Finset.induction_on with
  | empty => simp
  | insert a S h ih => rw [Finset.sum_insert h, Finset.sum_insert h, EReal.coe_add, ih]

/-- The maximum of a nonempty row of real numbers, started from minus infinity, is a real number. -/
theorem fold_max_real {n : Nat} (hn : 0 < n) (r : Fin n → ℝ) :
    ∃ M : ℝ, Finset.univ.fold max (⊥ : EReal) (fun k => ((r k : ℝ) : EReal)) = (M : EReal) := by
  classical
  have gen : ∀ S : Finset (Fin n), S = ∅ ∨ ∃ M : ℝ, S.fold max (⊥ : EReal) (fun k => ((r k : ℝ) : EReal)) = (M : EReal) := by
    intro S
    induction S using Finset.induction_on with
    | empty => exact Or.inl rfl
    | insert a S h ih =>
      refine Or.inr ?_
      rw [Finset.fold_insert h]
      rcases ih with rfl | ⟨M, hM⟩
      · exact ⟨r a, by simp⟩
      · exact ⟨max (r a) M, by rw [hM]; exact (EReal.coe_strictMono.monotone.map_max).symm⟩
  rcases gen Finset.univ with h | h
  · exact absurd h (Finset.univ_nonempty_iff.mpr ⟨⟨0, hn⟩⟩).ne_empty
  · exact h

/-- Division by a nonzero real number. -/
theorem div_real (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- The normalised weighted sum a row of real scores `r` and values `w` stands for. -/
def softRow {n : Nat} (r w : Fin n → ℝ) : ℝ := (∑ k, Real.exp (r k) * w k) / ∑ k, Real.exp (r k)

theorem exp_sum_pos {n : Nat} (hn : 0 < n) (r : Fin n → ℝ) : 0 < ∑ k, Real.exp (r k) :=
  Finset.sum_pos (fun k _ => Real.exp_pos _) ⟨⟨0, hn⟩, Finset.mem_univ _⟩

/-- Two to the power `r` is the exponential of `r * log 2`. -/
theorem two_rpow (r : ℝ) : Real.rpow 2 r = Real.exp (r * Real.log 2) := by
  show (2 : ℝ) ^ r = _
  rw [Real.rpow_def_of_pos (by norm_num : (0 : ℝ) < 2), mul_comm]

/-- A row normalised after the weighted sum, with weights in base two and the row maximum subtracted. -/
theorem row_after {n : Nat} (hn : 0 < n) (s v : Fin n → EReal) (r w : Fin n → ℝ)
    (hs : ∀ k, s k = ((r k : ℝ) : EReal)) (hv : ∀ k, v k = ((w k : ℝ) : EReal)) :
    Ideal.div (∑ k, Ideal.exp2 (s k - Finset.univ.fold max (⊥ : EReal) s) * v k)
        (∑ k, Ideal.exp2 (s k - Finset.univ.fold max (⊥ : EReal) s))
      = ((softRow (fun k => r k * Real.log 2) w : ℝ) : EReal) := by
  obtain rfl : s = fun k => ((r k : ℝ) : EReal) := funext hs
  obtain rfl : v = fun k => ((w k : ℝ) : EReal) := funext hv
  obtain ⟨M, hM⟩ := fold_max_real hn r
  rw [hM]
  have e (k : Fin n) : Ideal.exp2 (((r k : ℝ) : EReal) - (M : EReal))
      = ((Real.exp (r k * Real.log 2) * Real.exp (-(M * Real.log 2)) : ℝ) : EReal) := by
    rw [← EReal.coe_sub]
    show ((Real.rpow 2 (r k - M) : ℝ) : EReal) = _
    rw [two_rpow, ← Real.exp_add]
    congr 2; ring
  simp only [e, ← EReal.coe_mul, ← coe_sum]
  have hp := exp_sum_pos hn (fun k => r k * Real.log 2)
  have hc := Real.exp_pos (-(M * Real.log 2))
  have hd : ∑ k, Real.exp (r k * Real.log 2) * Real.exp (-(M * Real.log 2))
      = (∑ k, Real.exp (r k * Real.log 2)) * Real.exp (-(M * Real.log 2)) := by rw [Finset.sum_mul]
  have hn' : ∑ k, Real.exp (r k * Real.log 2) * Real.exp (-(M * Real.log 2)) * w k
      = (∑ k, Real.exp (r k * Real.log 2) * w k) * Real.exp (-(M * Real.log 2)) := by
    rw [Finset.sum_mul]; exact Finset.sum_congr rfl fun k _ => by ring
  rw [hd, hn', div_real _ _ (mul_pos hp hc).ne', mul_div_mul_right _ _ hc.ne']
  rfl

/-- A row normalised weight by weight before the weighted sum, with the row maximum subtracted. -/
theorem row_before {n : Nat} (hn : 0 < n) (s v : Fin n → EReal) (r w : Fin n → ℝ)
    (hs : ∀ k, s k = ((r k : ℝ) : EReal)) (hv : ∀ k, v k = ((w k : ℝ) : EReal)) :
    ∑ k, Ideal.div (Ideal.exp (s k - Finset.univ.fold max (⊥ : EReal) s))
        (∑ l, Ideal.exp (s l - Finset.univ.fold max (⊥ : EReal) s)) * v k
      = ((softRow r w : ℝ) : EReal) := by
  obtain rfl : s = fun k => ((r k : ℝ) : EReal) := funext hs
  obtain rfl : v = fun k => ((w k : ℝ) : EReal) := funext hv
  obtain ⟨M, hM⟩ := fold_max_real hn r
  rw [hM]
  have e (k : Fin n) : Ideal.exp (((r k : ℝ) : EReal) - (M : EReal)) = ((Real.exp (r k) * Real.exp (-M) : ℝ) : EReal) := by
    rw [← EReal.coe_sub]
    show ((Real.exp (r k - M) : ℝ) : EReal) = _
    rw [← Real.exp_add]
    congr 2
  simp only [e, ← coe_sum]
  have hp := exp_sum_pos hn r
  have hc := Real.exp_pos (-M)
  have hd : ∑ k, Real.exp (r k) * Real.exp (-M) = (∑ k, Real.exp (r k)) * Real.exp (-M) := by rw [Finset.sum_mul]
  rw [hd]
  have q (k : Fin n) : Ideal.div ((Real.exp (r k) * Real.exp (-M) : ℝ) : EReal) (((∑ k, Real.exp (r k)) * Real.exp (-M) : ℝ) : EReal)
      = ((Real.exp (r k) / ∑ k, Real.exp (r k) : ℝ) : EReal) := by
    rw [div_real _ _ (mul_pos hp hc).ne', mul_div_mul_right _ _ hc.ne']
  simp only [q, ← EReal.coe_mul, ← coe_sum]
  congr 1
  unfold softRow
  rw [Finset.sum_div]
  exact Finset.sum_congr rfl fun k _ => by ring

end Cert.Attn

end
-- ==== Proof.AttnConst.lean ====
module

public import proofs.«01_k».proof.Proof.AttnMath

/-! The constants the attention scales by, as real numbers, and arguments of finite magnitude as real numbers. -/

@[expose] public section

noncomputable section

namespace Cert.Attn

open Idealize.ShloMosaic

theorem ofBits_192 : Ideal.ofBits .f32 0x43400000#32 = ((192 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_inf : Ideal.ofBits .f32 0x7F800000#32 = ⊤ := by simp [Ideal.ofBits, Ideal.ieee]

theorem sqrt_192 : Ideal.sqrt (Ideal.ofBits .f32 0x43400000#32) = ((Real.sqrt 192 : ℝ) : EReal) := by
  rw [ofBits_192]
  show (if (192 : ℝ) < 0 then (⊥ : EReal) else ((Real.sqrt 192 : ℝ) : EReal)) = _
  rw [if_neg (by norm_num)]

theorem log_two : Ideal.log (Ideal.ofBits .f32 0x40000000#32) = ((Real.log 2 : ℝ) : EReal) := by
  rw [ofBits_two]
  show (if (2 : ℝ) ≤ 0 then (⊥ : EReal) else ((Real.log 2 : ℝ) : EReal)) = _
  rw [if_neg (by norm_num)]

/-- An extended real of magnitude below infinity is a real number. -/
theorem real_of_abs_lt (x : EReal) (h : max x (-x) < ⊤) : x = ((x.toReal : ℝ) : EReal) := by
  refine (EReal.coe_toReal ?_ ?_).symm
  · rintro rfl; simp at h
  · rintro rfl; simp at h

end Cert.Attn

end
-- ==== Proof.AttnBlock.lean ====
module

public import proofs.«01_k».proof.Proof.Gen.KernelIdeal.Frame
public import proofs.«01_k».proof.Proof.AttnMath

/-! What one grid point of the attention computes from the blocks it loads: for each of the two heads in the block, a row
    of scores by a contraction over 256 lanes, the weights in base two, and the quotient of the two sums. -/

@[expose] public section

set_option maxRecDepth 16384

noncomputable section

namespace Cert.Attn

open Idealize.ShloMosaic Cert.KernelIdeal Cert.KernelIdeal.Gen

/-- The score row of query row `i` of head `h` (0 or 1) in a block: queries and keys meet over the head's 256 lanes. -/
def scoreB (x : Vec Ideal S1x256x512 .bf16) (y : Vec Ideal S1x4352x512 .bf16) (h : Fin 2) (i : Fin 256) (l : Fin 4352) : EReal :=
  ∑ e : Fin 256, x (ix3 0 i ⟨h.val * 256 + e.val, by omega⟩) * y (ix3 0 l ⟨h.val * 256 + e.val, by omega⟩)

/-- One entry of the attention from a score row and a column of values. -/
def rowOut (s v : Fin 4352 → EReal) : EReal :=
  Ideal.div (∑ k, Ideal.exp2 (s k - Finset.univ.fold max (⊥ : EReal) s) * v k)
    (∑ k, Ideal.exp2 (s k - Finset.univ.fold max (⊥ : EReal) s))

theorem pay2_apply (q : Vec Ideal S1x256x256 .bf16) (k : Vec Ideal S1x4352x256 .bf16) (i : Fin 256) (l : Fin 4352) :
    k0_pay2 (F := Ideal) q k (ix2 i l) = Ideal.exp2 (∑ e : Fin 256, q (ix3 0 i e) * k (ix3 0 l e)
      - Finset.univ.fold max (⊥ : EReal) fun l' : Fin 4352 => ∑ e : Fin 256, q (ix3 0 i e) * k (ix3 0 l' e)) := by
  rw [← ofBits_negInf]
  pointwise [k0_pay2]
  rfl

theorem pay1_apply (p : FVec Ideal S256x4352 .f32) (v : Vec Ideal S1x4352x128 .bf16) (i : Fin 256) (j : Fin 128) :
    k0_pay1 (F := Ideal) p v (ix3 0 i j)
      = Ideal.div (∑ l : Fin 4352, p (ix2 i l) * v (ix3 0 l j)) (∑ l : Fin 4352, p (ix2 i l)) := by
  pointwise [k0_pay1]

theorem pay3_eq (q : Vec Ideal S1x256x256 .bf16) (k : Vec Ideal S1x4352x256 .bf16) (v : Vec Ideal S1x4352x128 .bf16) :
    k0_pay3 (F := Ideal) q k v = k0_pay1 (k0_pay2 q k) v := rfl

/-- The result block of one grid point, entry by entry: head `j / 128` of the block, lane `j` of its values. -/
def outB (x : Vec Ideal S1x256x512 .bf16) (y : Vec Ideal S1x4352x512 .bf16) (z : Vec Ideal S1x4352x256 .bf16)
    (i : Fin 256) (j : Fin 256) : EReal :=
  rowOut (scoreB x y ⟨j.val / 128, by omega⟩ i) (fun l => z (ix3 0 l j))

theorem piece0 (x : Vec Ideal S1x256x512 .bf16) (y : Vec Ideal S1x4352x512 .bf16) (z : Vec Ideal S1x4352x256 .bf16)
    (i : Fin 256) (j : Fin 128) :
    k0_pay3 (F := Ideal) (View.ld x r0_0) (View.ld y r0_1) (View.ld z r0_4) (ix3 0 i j) = outB x y z i ⟨j.val, by omega⟩ := by
  rw [pay3_eq, pay1_apply]
  simp only [pay2_apply]
  unfold outB rowOut scoreB
  pointwise
  simp only [Nat.div_eq_of_lt j.isLt, Nat.zero_mul, Nat.zero_add]

theorem piece1 (x : Vec Ideal S1x256x512 .bf16) (y : Vec Ideal S1x4352x512 .bf16) (z : Vec Ideal S1x4352x256 .bf16)
    (i : Fin 256) (j : Fin 128) :
    k0_pay1 (F := Ideal) (k0_pay2 (View.ld x r0_2) (View.ld y r0_3)) (View.ld z r0_6) (ix3 0 i j) = outB x y z i ⟨128 + j.val, by omega⟩ := by
  rw [pay1_apply]
  simp only [pay2_apply]
  have e : (128 + j.val) / 128 = 1 := by omega
  unfold outB rowOut scoreB
  pointwise
  simp only [e, Nat.one_mul]

theorem out_apply (x : Vec Ideal S1x256x512 .bf16) (y : Vec Ideal S1x4352x512 .bf16) (z : Vec Ideal S1x4352x256 .bf16)
    (i : Fin 256) (j : Fin 256) :
    out0_3 (F := Ideal) x y z (ix3 0 i j) = outB x y z i j := by
  unfold out0_3
  rw [View.canon_apply_of_pieces (fun u : S1x256x256.Idx => outB x y z (u 1) (u 2)) _ ?_ _ (cover0_3 _ _ _)]
  · rfl
  · intro p hp
    rcases List.mem_cons.mp hp with rfl | hp
    · intro u
      idx_vars u
      obtain rfl : u0 = 0 := Subsingleton.elim _ _
      refine (piece1 x y z u1 u2).trans ?_
      congr 1 <;> apply Fin.ext
      · show u1.val = 0 + 1 * u1.val; omega
      · show 128 + u2.val = 128 + 1 * u2.val; omega
    · rcases List.mem_cons.mp hp with rfl | hp
      · intro u
        idx_vars u
        obtain rfl : u0 = 0 := Subsingleton.elim _ _
        refine (piece0 x y z u1 u2).trans ?_
        congr 1 <;> apply Fin.ext
        · show u1.val = 0 + 1 * u1.val; omega
        · show u2.val = 0 + 1 * u2.val; omega
      · exact absurd hp (List.not_mem_nil)

end Cert.Attn

end
-- ==== Proof.AttnArray.lean ====
module

public import proofs.«01_k».proof.Proof.Gen.KernelIdeal.Value
public import proofs.«01_k».proof.Proof.AttnBlock

/-! The attention's result array as one function of the three arrays the kernel is launched on: every block of every grid
    point is a block of that function, and the blocks fill the array. -/

@[expose] public section

set_option maxRecDepth 16384

noncomputable section

namespace Cert.Attn

open Idealize.ShloMosaic Idealize.ShloMosaic.TcCoe Idealize.SL.Sem Cert.KernelIdeal Cert.KernelIdeal.Gen
open Idealize.ShloMosaic.Pipeline (Dat)

/-- Where each window's block lies at a grid point: batch, row block and head pair from the point's position. -/
theorem index0 : ∀ t : Fin grid0.N, win0_0.index t = ![t.val / 128, 1 + t.val % 16, t.val / 16 % 8] := by decide +kernel
theorem index1 : ∀ t : Fin grid0.N, win0_1.index t = ![t.val / 128, 0, t.val / 16 % 8] := by decide +kernel
theorem index2 : ∀ t : Fin grid0.N, win0_2.index t = ![t.val / 128, 0, t.val / 16 % 8] := by decide +kernel
theorem index3 : ∀ t : Fin grid0.N, win0_3.index t = ![t.val / 128, t.val % 16, t.val / 16 % 8] := by decide +kernel

theorem t_lt (t : Fin grid0.N) : t.val < 512 := by have h := t.isLt; simpa only [Gen.N_0] using h

/-- The array index of a block index, window by window. -/
theorem emb0 (t : Fin grid0.N) (i : Fin 256) (e : Fin 512) :
    (win0_0.blk t).view.emb (ix3 0 i e)
      = (ix3 ⟨t.val / 128, by have := t_lt t; omega⟩ ⟨(1 + t.val % 16) * 256 + i.val, by omega⟩
          ⟨t.val / 16 % 8 * 512 + e.val, by omega⟩ : S4x4352x4096.Idx) := by
  funext a; apply Fin.ext
  have h := congrFun (index0 t)
  match a with
  | ⟨0, _⟩ => show win0_0.index t 0 * 1 + 1 * 0 = t.val / 128; rw [h 0]; show t.val / 128 * 1 + 1 * 0 = _; omega
  | ⟨1, _⟩ => show win0_0.index t 1 * 256 + 1 * i.val = (1 + t.val % 16) * 256 + i.val; rw [h 1]; show (1 + t.val % 16) * 256 + 1 * i.val = _; omega
  | ⟨2, _⟩ => show win0_0.index t 2 * 512 + 1 * e.val = t.val / 16 % 8 * 512 + e.val; rw [h 2]; show t.val / 16 % 8 * 512 + 1 * e.val = _; omega

theorem emb1 (t : Fin grid0.N) (i : Fin 4352) (e : Fin 512) :
    (win0_1.blk t).view.emb (ix3 0 i e)
      = (ix3 ⟨t.val / 128, by have := t_lt t; omega⟩ i ⟨t.val / 16 % 8 * 512 + e.val, by omega⟩ : S4x4352x4096.Idx) := by
  funext a; apply Fin.ext
  have h := congrFun (index1 t)
  match a with
  | ⟨0, _⟩ => show win0_1.index t 0 * 1 + 1 * 0 = t.val / 128; rw [h 0]; show t.val / 128 * 1 + 1 * 0 = _; omega
  | ⟨1, _⟩ => show win0_1.index t 1 * 4352 + 1 * i.val = i.val; rw [h 1]; show 0 * 4352 + 1 * i.val = _; omega
  | ⟨2, _⟩ => show win0_1.index t 2 * 512 + 1 * e.val = t.val / 16 % 8 * 512 + e.val; rw [h 2]; show t.val / 16 % 8 * 512 + 1 * e.val = _; omega

theorem emb2 (t : Fin grid0.N) (i : Fin 4352) (e : Fin 256) :
    (win0_2.blk t).view.emb (ix3 0 i e)
      = (ix3 ⟨t.val / 128, by have := t_lt t; omega⟩ i ⟨t.val / 16 % 8 * 256 + e.val, by omega⟩ : S4x4352x2048.Idx) := by
  funext a; apply Fin.ext
  have h := congrFun (index2 t)
  match a with
  | ⟨0, _⟩ => show win0_2.index t 0 * 1 + 1 * 0 = t.val / 128; rw [h 0]; show t.val / 128 * 1 + 1 * 0 = _; omega
  | ⟨1, _⟩ => show win0_2.index t 1 * 4352 + 1 * i.val = i.val; rw [h 1]; show 0 * 4352 + 1 * i.val = _; omega
  | ⟨2, _⟩ => show win0_2.index t 2 * 256 + 1 * e.val = t.val / 16 % 8 * 256 + e.val; rw [h 2]; show t.val / 16 % 8 * 256 + 1 * e.val = _; omega

theorem emb3 (t : Fin grid0.N) (i : Fin 256) (e : Fin 256) :
    (win0_3.blk t).view.emb (ix3 0 i e)
      = (ix3 ⟨t.val / 128, by have := t_lt t; omega⟩ ⟨t.val % 16 * 256 + i.val, by omega⟩
          ⟨t.val / 16 % 8 * 256 + e.val, by omega⟩ : S4x4096x2048.Idx) := by
  funext a; apply Fin.ext
  have h := congrFun (index3 t)
  match a with
  | ⟨0, _⟩ => show win0_3.index t 0 * 1 + 1 * 0 = t.val / 128; rw [h 0]; show t.val / 128 * 1 + 1 * 0 = _; omega
  | ⟨1, _⟩ => show win0_3.index t 1 * 256 + 1 * i.val = t.val % 16 * 256 + i.val; rw [h 1]; show t.val % 16 * 256 + 1 * i.val = _; omega
  | ⟨2, _⟩ => show win0_3.index t 2 * 256 + 1 * e.val = t.val / 16 % 8 * 256 + e.val; rw [h 2]; show t.val / 16 % 8 * 256 + 1 * e.val = _; omega

/-- The score row of query row `r` of head `h`, batch `b`. -/
def scoreA (Q K : Vec Ideal S4x4352x4096 .bf16) (b : Fin 4) (h : Fin 16) (r : Fin 4352) (l : Fin 4352) : EReal :=
  ∑ e : Fin 256, Q (ix3 b r ⟨h.val * 256 + e.val, by omega⟩) * K (ix3 b l ⟨h.val * 256 + e.val, by omega⟩)

/-- The attention at batch `b`, query row `256 + i`, lane `n` (head `n / 128`). -/
def outA (Q K : Vec Ideal S4x4352x4096 .bf16) (W : Vec Ideal S4x4352x2048 .bf16) (b : Fin 4) (i : Fin 4096) (n : Fin 2048) : EReal :=
  rowOut (scoreA Q K b ⟨n.val / 128, by omega⟩ ⟨256 + i.val, by omega⟩) (fun l => W (ix3 b l n))

/-- The whole result array. -/
def whole (Q K : Vec Ideal S4x4352x4096 .bf16) (W : Vec Ideal S4x4352x2048 .bf16) : Vec Ideal S4x4096x2048 .bf16 :=
  fun u => outA Q K W (u 0) (u 1) (u 2)

/-- The blocks a grid point loads from three arrays. -/
abbrev blk0 (t : Fin grid0.N) (Q : Vec Ideal S4x4352x4096 .bf16) : Vec Ideal S1x256x512 .bf16 := (win0_0.blk t).view.read (Elt Ideal) Q
abbrev blk1 (t : Fin grid0.N) (K : Vec Ideal S4x4352x4096 .bf16) : Vec Ideal S1x4352x512 .bf16 := (win0_1.blk t).view.read (Elt Ideal) K
abbrev blk2 (t : Fin grid0.N) (W : Vec Ideal S4x4352x2048 .bf16) : Vec Ideal S1x4352x256 .bf16 := (win0_2.blk t).view.read (Elt Ideal) W

/-- A grid point's block is a block of the whole function. -/
theorem outB_eq (Q K : Vec Ideal S4x4352x4096 .bf16) (W : Vec Ideal S4x4352x2048 .bf16) (t : Fin grid0.N) (i j : Fin 256) :
    outB (blk0 t Q) (blk1 t K) (blk2 t W) i j
      = outA Q K W ⟨t.val / 128, by have := t_lt t; omega⟩ ⟨t.val % 16 * 256 + i.val, by omega⟩
          ⟨t.val / 16 % 8 * 256 + j.val, by omega⟩ := by
  have hv : (fun l => blk2 t W (ix3 0 l j))
      = fun l => W (ix3 ⟨t.val / 128, by have := t_lt t; omega⟩ l ⟨t.val / 16 % 8 * 256 + j.val, by omega⟩) :=
    funext fun l => congrArg W (emb2 t l j)
  have hs : scoreB (blk0 t Q) (blk1 t K) ⟨j.val / 128, by omega⟩ i
      = scoreA Q K ⟨t.val / 128, by have := t_lt t; omega⟩ ⟨(t.val / 16 % 8 * 256 + j.val) / 128, by omega⟩
          ⟨256 + (t.val % 16 * 256 + i.val), by omega⟩ := by
    funext l
    unfold scoreB scoreA
    refine Finset.sum_congr rfl fun e _ => ?_
    have hl : t.val / 16 % 8 * 512 + (j.val / 128 * 256 + e.val) = (t.val / 16 % 8 * 256 + j.val) / 128 * 256 + e.val := by omega
    refine congrArg₂ (· * ·) ((congrArg Q (emb0 t i _)).trans (congrArg Q ?_)) ((congrArg K (emb1 t l _)).trans (congrArg K ?_))
    · exact congrArg₂ (fun x y => ix3 _ x y) (Fin.ext (by show (1 + t.val % 16) * 256 + i.val = 256 + (t.val % 16 * 256 + i.val); omega)) (Fin.ext hl)
    · exact congrArg (fun y => ix3 _ l y) (Fin.ext hl)
  unfold outB outA
  rw [hv, hs]

/-- What a grid point writes back, for any three arrays. -/
theorem read_whole (Q K : Vec Ideal S4x4352x4096 .bf16) (W : Vec Ideal S4x4352x2048 .bf16) (t : Fin grid0.N) :
    out0_3 (F := Ideal) (blk0 t Q) (blk1 t K) (blk2 t W) = (win0_3.blk t).view.read (Elt Ideal) (whole Q K W) := by
  funext y
  have key : ∀ y : S1x256x256.Idx, out0_3 (F := Ideal) (blk0 t Q) (blk1 t K) (blk2 t W) y = whole Q K W ((win0_3.blk t).view.emb y) := by
    intro y
    idx_vars y
    obtain rfl : y0 = 0 := Subsingleton.elim _ _
    rw [out_apply, outB_eq, emb3]
    rfl
  exact key y

variable (m : (ℓ : Loc nD τ sig) → Buf (Elt Ideal) ℓ)

/-- The arrays of scaled queries, keys and values the kernel is launched on. -/
def arrQ (c : Dev nD) : Vec Ideal S4x4352x4096 .bf16 := V m c main_v14
def arrK (c : Dev nD) : Vec Ideal S4x4352x4096 .bf16 := V m c main_v15
def arrV (c : Dev nD) : Vec Ideal S4x4352x2048 .bf16 := V m c main_v16

/-- The result array. -/
def G (c : Dev nD) : Buf (Elt Ideal) ((c : Thread nD τ).loc main_v17) := whole (arrQ m c) (arrK m c) (arrV m c)

/-- What a grid point writes back is its block of the whole array. -/
theorem flushed_eq (c : Dev nD) (t : Fin cfg0.N) :
    (dats m 0 c).flushed 3 t = (win0_3.blk t).view.read (Elt Ideal) (G m c) := by
  rw [Value.flushed3]
  exact read_whole (arrQ m c) (arrK m c) (arrV m c) t

/-- Every index of the result lies in the block of some grid point. -/
theorem cover (i : S4x4096x2048.Idx) :
    ∃ t : Fin cfg0.N, (cfg0.win 3).flush t = true ∧ i ∈ ((cfg0.win 3).blk t).view.set := by
  have h0 : (i 0 : Nat) < 4 := (i 0).isLt
  have h1 : (i 1 : Nat) < 4096 := (i 1).isLt
  have h2 : (i 2 : Nat) < 2048 := (i 2).isLt
  refine ⟨⟨(i 0 : Nat) * 128 + (i 2 : Nat) / 256 * 16 + (i 1 : Nat) / 256, by show _ < grid0.N; rw [Gen.N_0]; omega⟩, flush0_3 _, ?_⟩
  generalize ht : (⟨(i 0 : Nat) * 128 + (i 2 : Nat) / 256 * 16 + (i 1 : Nat) / 256, by show _ < grid0.N; rw [Gen.N_0]; omega⟩ : Fin grid0.N) = t
  have hv : t.val = (i 0 : Nat) * 128 + (i 2 : Nat) / 256 * 16 + (i 1 : Nat) / 256 := by rw [← ht]
  show i ∈ ((View.whole main_v17).slice (win0_3.rect t)).set
  rw [View.set_slice_whole, Rect.mem_set_unit]
  have h := congrFun (index3 t)
  intro a
  match a with
  | ⟨0, _⟩ => show win0_3.index t 0 * 1 ≤ (i 0 : Nat) ∧ (i 0 : Nat) < win0_3.index t 0 * 1 + 1
              rw [h 0]; show t.val / 128 * 1 ≤ (i 0 : Nat) ∧ (i 0 : Nat) < t.val / 128 * 1 + 1; omega
  | ⟨1, _⟩ => show win0_3.index t 1 * 256 ≤ (i 1 : Nat) ∧ (i 1 : Nat) < win0_3.index t 1 * 256 + 256
              rw [h 1]; show t.val % 16 * 256 ≤ (i 1 : Nat) ∧ (i 1 : Nat) < t.val % 16 * 256 + 256; omega
  | ⟨2, _⟩ => show win0_3.index t 2 * 256 ≤ (i 2 : Nat) ∧ (i 2 : Nat) < win0_3.index t 2 * 256 + 256
              rw [h 2]; show t.val / 16 % 8 * 256 ≤ (i 2 : Nat) ∧ (i 2 : Nat) < t.val / 16 % 8 * 256 + 256; omega

/-- So the result array ends as the whole function. -/
theorem final (c : Dev nD) : (dats m 0 c).arrAt 3 cfg0.N = G m c :=
  (dats m 0 c).arrAt_eq_of_cover 3 (G m c) (fun t _ => flushed_eq m c t) cover

end Cert.Attn

end
-- ==== Proof.AttnLaunch.lean ====
module

public import proofs.«01_k».proof.Proof.AttnArray
public import Idealize.ShloMosaic.Lib.StableHlo.ReadAt

/-! The three arrays the attention is launched on, element by element, as the host lines build them from the arguments:
    queries scaled and padded to 256 lanes a head, keys with the shared rotary part padded the same way, values as given. -/

@[expose] public section

set_option maxRecDepth 16384

noncomputable section

namespace Cert.Attn

open Idealize.ShloMosaic Idealize.ShloMosaic.TcCoe Idealize.SL.Sem Cert.KernelIdeal Cert.KernelIdeal.Gen

/-- The factor the host multiplies the queries with: one over the root of 192 times the logarithm of two. -/
def qscale : EReal :=
  Ideal.div 1 (Ideal.sqrt (Ideal.ofBits .f32 0x43400000#32) * Ideal.log (Ideal.ofBits .f32 0x40000000#32))

variable (m : (ℓ : Loc nD τ sig) → Buf (Elt Ideal) ℓ)

/-- The five argument arrays: queries without and with rotation, keys without and with rotation, values. -/
def argQn (c : Dev nD) : Vec Ideal S4x4352x16x128 .f32 := m ((c.tc : Thread nD τ).loc main_arg0)
def argQr (c : Dev nD) : Vec Ideal S4x4352x16x64 .f32 := m ((c.tc : Thread nD τ).loc main_arg1)
def argKn (c : Dev nD) : Vec Ideal S4x4352x16x128 .f32 := m ((c.tc : Thread nD τ).loc main_arg2)
def argKr (c : Dev nD) : Vec Ideal S4x4352x64 .f32 := m ((c.tc : Thread nD τ).loc main_arg3)
def argV (c : Dev nD) : Vec Ideal S4x4352x16x128 .f32 := m ((c.tc : Thread nD τ).loc main_arg4)

theorem arrQ_nope (c : Dev nD) (b : Fin 4) (r : Fin 4352) (h : Fin 16) (e : Fin 128) :
    arrQ m c (ix3 b r ⟨h.val * 256 + e.val, by omega⟩) = argQn m c (ix4 b r h e) * qscale := by
  unfold arrQ V
  after_reads_at
  rw [dif_pos (by show (h.val * 256 + e.val) % 256 < 128; omega)]
  after_reads_at
  have i2 : (⟨(h.val * 256 + e.val) % 256, by omega⟩ : Fin 128) = e := Fin.ext (by show (h.val * 256 + e.val) % 256 = e.val; omega)
  rw [i2]
  rfl

theorem arrQ_rope (c : Dev nD) (b : Fin 4) (r : Fin 4352) (h : Fin 16) (e : Fin 64) :
    arrQ m c (ix3 b r ⟨h.val * 256 + 128 + e.val, by omega⟩) = argQr m c (ix4 b r h e) * qscale := by
  unfold arrQ V
  after_reads_at
  rw [dif_neg (by show ¬ (h.val * 256 + 128 + e.val) % 256 < 128; omega),
    dif_pos (by show (h.val * 256 + 128 + e.val) % 256 - 128 < 64; omega)]
  after_reads_at
  have i2 : (⟨(h.val * 256 + 128 + e.val) % 256 - 128, by omega⟩ : Fin 64) = e := Fin.ext (by show (h.val * 256 + 128 + e.val) % 256 - 128 = e.val; omega)
  rw [i2]
  rfl

theorem arrQ_pad (c : Dev nD) (b : Fin 4) (r : Fin 4352) (h : Fin 16) (e : Fin 64) :
    arrQ m c (ix3 b r ⟨h.val * 256 + 192 + e.val, by omega⟩) = 0 := by
  unfold arrQ V
  after_reads_at
  rw [dif_neg (by show ¬ (h.val * 256 + 192 + e.val) % 256 < 128; omega),
    dif_neg (by show ¬ (h.val * 256 + 192 + e.val) % 256 - 128 < 64; omega)]
  after_reads_at
  exact zero_mul _

theorem arrK_nope (c : Dev nD) (b : Fin 4) (r : Fin 4352) (h : Fin 16) (e : Fin 128) :
    arrK m c (ix3 b r ⟨h.val * 256 + e.val, by omega⟩) = argKn m c (ix4 b r h e) := by
  unfold arrK V
  after_reads_at
  rw [dif_pos (by show (h.val * 256 + e.val) % 256 < 128; omega)]
  after_reads_at
  have i2 : (⟨(h.val * 256 + e.val) % 256, by omega⟩ : Fin 128) = e := Fin.ext (by show (h.val * 256 + e.val) % 256 = e.val; omega)
  rw [i2]
  rfl

theorem arrK_rope (c : Dev nD) (b : Fin 4) (r : Fin 4352) (h : Fin 16) (e : Fin 64) :
    arrK m c (ix3 b r ⟨h.val * 256 + 128 + e.val, by omega⟩) = argKr m c (ix3 b r e) := by
  unfold arrK V
  after_reads_at
  rw [dif_neg (by show ¬ (h.val * 256 + 128 + e.val) % 256 < 128; omega),
    dif_pos (by show (h.val * 256 + 128 + e.val) % 256 - 128 < 64; omega)]
  after_reads_at
  have i2 : (⟨(h.val * 256 + 128 + e.val) % 256 - 128, by omega⟩ : Fin 64) = e := Fin.ext (by show (h.val * 256 + 128 + e.val) % 256 - 128 = e.val; omega)
  rw [i2]
  rfl

theorem arrK_pad (c : Dev nD) (b : Fin 4) (r : Fin 4352) (h : Fin 16) (e : Fin 64) :
    arrK m c (ix3 b r ⟨h.val * 256 + 192 + e.val, by omega⟩) = 0 := by
  unfold arrK V
  after_reads_at
  rw [dif_neg (by show ¬ (h.val * 256 + 192 + e.val) % 256 < 128; omega),
    dif_neg (by show ¬ (h.val * 256 + 192 + e.val) % 256 - 128 < 64; omega)]
  after_reads_at

theorem arrV_apply (c : Dev nD) (b : Fin 4) (r : Fin 4352) (h : Fin 16) (e : Fin 128) :
    arrV m c (ix3 b r ⟨h.val * 128 + e.val, by omega⟩) = argV m c (ix4 b r h e) := by
  unfold arrV V
  after_reads_at
  rfl

end Cert.Attn
-- ==== Proof.AttnRef.lean ====
module

public import proofs.«01_k».proof.Proof.Gen.ReferenceIdeal.Read
public import proofs.«01_k».proof.Proof.AttnMath

/-! The reference attention at one element: a softmax row over all keys of one head, normalised weight by weight, times the
    values. -/

@[expose] public section

set_option maxRecDepth 16384

noncomputable section

namespace Cert.Attn

open Idealize.ShloMosaic Cert.ReferenceIdeal Cert.ReferenceIdeal.Gen Cert.ReferenceIdeal.Read

/-- A row's maximum, reduced along the keys. -/
theorem row_max (S : FVec Ideal S4x16x4096x4352 .f32) (b : Fin 4) (h : Fin 16) (i : Fin 4096)
    (hr : S4x16x4096x4352.ReducesTo [3] S4x16x4096) (hu : 0 < S_.numel) :
    Host.reduce FloatOps.maximumf S (constant (F := Ideal) S_ .f32 0xFF800000#32) hr hu (ix3 b h i)
      = Finset.univ.fold max (Ideal.ofBits .f32 0xFF800000#32) (fun l : Fin 4352 => S (ix4 b h i l)) := by
  pointwise []

variable (x0 : Vec Ideal S4x4352x16x128 .f32) (x1 : Vec Ideal S4x4352x16x64 .f32) (x2 : Vec Ideal S4x4352x16x128 .f32)
  (x3 : Vec Ideal S4x4352x64 .f32) (x4 : Vec Ideal S4x4352x16x128 .f32)

/-- The score of latent query `i` against key `l`: both products, over the root of 192. -/
def refScore (b : Fin 4) (h : Fin 16) (i : Fin 4096) (l : Fin 4352) : EReal :=
  Ideal.div ((∑ e : Fin 128, x0 (ix4 b ⟨256 + i.val, by omega⟩ h e) * x2 (ix4 b l h e))
      + ∑ e : Fin 64, x3 (ix3 b l e) * x1 (ix4 b ⟨256 + i.val, by omega⟩ h e))
    (Ideal.sqrt (Ideal.ofBits .f32 0x43400000#32))

theorem v8_apply (b : Fin 4) (h : Fin 16) (i : Fin 4096) (l : Fin 4352) :
    val_main_v8 (F := Ideal) x0 x1 x2 x3 (ix4 b h i l) = refScore x0 x1 x2 x3 b h i l := by
  pointwise [val_main_v0, val_main_v1, val_main_v2, val_main_v3, val_main_v4, val_main_v5, val_main_cst, val_main_v6,
    val_main_v7, val_main_v8]
  rfl

theorem v11_apply (b : Fin 4) (h : Fin 16) (i : Fin 4096) :
    val_main_v11 (F := Ideal) x0 x1 x2 x3 (ix3 b h i) = Finset.univ.fold max ⊥ (refScore x0 x1 x2 x3 b h i) := by
  rw [val_main_v11_apply, val_main_v10_apply, val_main_cst_1_apply]
  show max (Ideal.ofBits .f32 0xFF800000#32) (val_main_v9 (F := Ideal) x0 x1 x2 x3 (ix3 b h i)) = _
  have e : val_main_v9 (F := Ideal) x0 x1 x2 x3 (ix3 b h i) = _ :=
    row_max (val_main_v8 (F := Ideal) x0 x1 x2 x3) b h i reducesTo_S4x16x4096x4352_S4x16x4096_d3 h_S_
  rw [e, ofBits_negInf, max_eq_right bot_le]
  exact congrArg (Finset.univ.fold max ⊥) (funext fun l => v8_apply x0 x1 x2 x3 b h i l)

theorem v15_apply (b : Fin 4) (h : Fin 16) (i : Fin 4096) (l : Fin 4352) :
    val_main_v15 (F := Ideal) x0 x1 x2 x3 (ix4 b h i l)
      = Ideal.exp (refScore x0 x1 x2 x3 b h i l - Finset.univ.fold max ⊥ (refScore x0 x1 x2 x3 b h i)) := by
  rw [← v8_apply, ← v11_apply]
  unfold val_main_v15 val_main_v14 val_main_v13 val_main_v12
  generalize val_main_v11 (F := Ideal) x0 x1 x2 x3 = M
  generalize val_main_v8 (F := Ideal) x0 x1 x2 x3 = S
  pointwise []

theorem v19_apply (b : Fin 4) (h : Fin 16) (i : Fin 4096) (l : Fin 4352) :
    val_main_v19 (F := Ideal) x0 x1 x2 x3 (ix4 b h i l)
      = Ideal.div (val_main_v15 (F := Ideal) x0 x1 x2 x3 (ix4 b h i l))
          (∑ k : Fin 4352, val_main_v15 (F := Ideal) x0 x1 x2 x3 (ix4 b h i k)) := by
  unfold val_main_v19 val_main_v18 val_main_v17 val_main_v16
  generalize val_main_v15 (F := Ideal) x0 x1 x2 x3 = E
  pointwise [val_main_cst_2]

theorem v23_apply (b : Fin 4) (i : Fin 4096) (h : Fin 16) (e : Fin 128) :
    val_main_v23 (F := Ideal) x0 x1 x2 x3 x4 (ix3 b i ⟨h.val * 128 + e.val, by omega⟩)
      = ∑ l : Fin 4352, x4 (ix4 b l h e) * val_main_v19 (F := Ideal) x0 x1 x2 x3 (ix4 b h i l) := by
  unfold val_main_v23 val_main_v22 val_main_v21 val_main_v20
  generalize val_main_v19 (F := Ideal) x0 x1 x2 x3 = P
  pointwise []

/-- One element of the reference's result. -/
theorem ref_apply (b : Fin 4) (i : Fin 4096) (h : Fin 16) (e : Fin 128) :
    val_main_v23 (F := Ideal) x0 x1 x2 x3 x4 (ix3 b i ⟨h.val * 128 + e.val, by omega⟩)
      = ∑ l : Fin 4352,
          Ideal.div (Ideal.exp (refScore x0 x1 x2 x3 b h i l - Finset.univ.fold max ⊥ (refScore x0 x1 x2 x3 b h i)))
            (∑ k : Fin 4352, Ideal.exp (refScore x0 x1 x2 x3 b h i k - Finset.univ.fold max ⊥ (refScore x0 x1 x2 x3 b h i)))
          * x4 (ix4 b l h e) := by
  rw [v23_apply]
  refine Finset.sum_congr rfl fun l _ => ?_
  rw [v19_apply, mul_comm]
  simp only [v15_apply]

end Cert.Attn

end
-- ==== Proof.AttnEq.lean ====
module

public import proofs.«01_k».proof.Proof.AttnConst
public import proofs.«01_k».proof.Proof.AttnLaunch
public import proofs.«01_k».proof.Proof.AttnRef

/-! The attention's two results are one array when every argument is a real number. -/

@[expose] public section

set_option maxRecDepth 16384

noncomputable section

namespace Cert.Attn

open Idealize.ShloMosaic Idealize.ShloMosaic.TcCoe Idealize.SL.Sem Cert.KernelIdeal

/-- Arrays of real numbers in place of the arguments. -/
structure RealArgs (m : (ℓ : Loc nD τ sig) → Buf (Elt Ideal) ℓ) (c : Dev nD) where
  qn : S4x4352x16x128.Idx → ℝ
  qr : S4x4352x16x64.Idx → ℝ
  kn : S4x4352x16x128.Idx → ℝ
  kr : S4x4352x64.Idx → ℝ
  w : S4x4352x16x128.Idx → ℝ
  hqn : ∀ i, argQn m c i = ((qn i : ℝ) : EReal)
  hqr : ∀ i, argQr m c i = ((qr i : ℝ) : EReal)
  hkn : ∀ i, argKn m c i = ((kn i : ℝ) : EReal)
  hkr : ∀ i, argKr m c i = ((kr i : ℝ) : EReal)
  hw : ∀ i, argV m c i = ((w i : ℝ) : EReal)

/-- The unscaled score: the plain product and the rotary product, summed. -/
def dotR {m : (ℓ : Loc nD τ sig) → Buf (Elt Ideal) ℓ} {c : Dev nD} (R : RealArgs m c) (b : Fin 4) (h : Fin 16)
    (r l : Fin 4352) : ℝ :=
  (∑ e : Fin 128, R.qn (ix4 b r h e) * R.kn (ix4 b l h e)) + ∑ e : Fin 64, R.kr (ix3 b l e) * R.qr (ix4 b r h e)

theorem sqrt_ne : Real.sqrt 192 ≠ 0 := (Real.sqrt_pos.mpr (by norm_num)).ne'
theorem log_ne : Real.log 2 ≠ 0 := (Real.log_pos (by norm_num)).ne'

theorem qscale_real : qscale = ((1 / (Real.sqrt 192 * Real.log 2) : ℝ) : EReal) := by
  unfold qscale
  rw [sqrt_192, log_two, ← EReal.coe_mul, ← EReal.coe_one, div_real _ _ (mul_ne_zero sqrt_ne log_ne)]

variable {m : (ℓ : Loc nD τ sig) → Buf (Elt Ideal) ℓ} {c : Dev nD} (R : RealArgs m c)

/-- A sum over 256 lanes, cut at lanes 128 and 192. -/
theorem sum_lanes (f : Fin 256 → EReal) :
    ∑ k, f k = (∑ e : Fin 128, f ⟨e.val, by omega⟩) + (∑ e : Fin 64, f ⟨128 + e.val, by omega⟩)
      + ∑ e : Fin 64, f ⟨192 + e.val, by omega⟩ := by
  rw [Fin.sum_univ_two_halves 192 64 rfl f, Fin.sum_univ_two_halves 128 64 rfl fun k : Fin 192 => f ⟨k.val, by omega⟩]

/-- The kernel's score over 256 lanes: 128 plain lanes, 64 rotary lanes, 64 lanes of zeros. -/
theorem score_kernel (b : Fin 4) (h : Fin 16) (r l : Fin 4352) :
    scoreA (arrQ m c) (arrK m c) b h r l = ((dotR R b h r l * (1 / (Real.sqrt 192 * Real.log 2)) : ℝ) : EReal) := by
  unfold scoreA
  rw [sum_lanes]
  have a1 (e : Fin 128) : arrQ m c (ix3 b r ⟨h.val * 256 + e.val, by omega⟩) * arrK m c (ix3 b l ⟨h.val * 256 + e.val, by omega⟩)
      = ((R.qn (ix4 b r h e) * R.kn (ix4 b l h e) * (1 / (Real.sqrt 192 * Real.log 2)) : ℝ) : EReal) := by
    rw [arrQ_nope, arrK_nope, R.hqn, R.hkn, qscale_real, ← EReal.coe_mul, ← EReal.coe_mul]
    congr 1; ring
  have a2 (e : Fin 64) : arrQ m c (ix3 b r ⟨h.val * 256 + (128 + e.val), by omega⟩)
        * arrK m c (ix3 b l ⟨h.val * 256 + (128 + e.val), by omega⟩)
      = ((R.kr (ix3 b l e) * R.qr (ix4 b r h e) * (1 / (Real.sqrt 192 * Real.log 2)) : ℝ) : EReal) := by
    have p : h.val * 256 + (128 + e.val) = h.val * 256 + 128 + e.val := by omega
    simp only [p]
    rw [arrQ_rope, arrK_rope, R.hqr, R.hkr, qscale_real, ← EReal.coe_mul, ← EReal.coe_mul]
    congr 1; ring
  have a3 (e : Fin 64) : arrQ m c (ix3 b r ⟨h.val * 256 + (192 + e.val), by omega⟩)
        * arrK m c (ix3 b l ⟨h.val * 256 + (192 + e.val), by omega⟩) = 0 := by
    have p : h.val * 256 + (192 + e.val) = h.val * 256 + 192 + e.val := by omega
    simp only [p]
    rw [arrQ_pad, arrK_pad]
    exact zero_mul _
  rw [Finset.sum_congr rfl fun e _ => a1 e, Finset.sum_congr rfl fun e _ => a2 e, Finset.sum_congr rfl fun e _ => a3 e,
    Finset.sum_const_zero, add_zero, ← coe_sum, ← coe_sum, ← EReal.coe_add]
  congr 1
  unfold dotR
  rw [add_mul, Finset.sum_mul, Finset.sum_mul]

/-- The reference's score. -/
theorem score_ref (b : Fin 4) (h : Fin 16) (i : Fin 4096) (l : Fin 4352) :
    refScore (argQn m c) (argQr m c) (argKn m c) (argKr m c) b h i l
      = ((dotR R b h ⟨256 + i.val, by omega⟩ l / Real.sqrt 192 : ℝ) : EReal) := by
  unfold refScore dotR
  simp only [R.hqn, R.hqr, R.hkn, R.hkr, ← EReal.coe_mul, ← coe_sum, ← EReal.coe_add]
  rw [sqrt_192, div_real _ _ sqrt_ne]

include R

/-- The two results at one element. -/
theorem result_apply (b : Fin 4) (i : Fin 4096) (h : Fin 16) (e : Fin 128) :
    ReferenceIdeal.Read.val_main_v23 (F := Ideal) (argQn m c) (argQr m c) (argKn m c) (argKr m c) (argV m c)
        (ix3 b i ⟨h.val * 128 + e.val, by omega⟩)
      = outA (arrQ m c) (arrK m c) (arrV m c) b i ⟨h.val * 128 + e.val, by omega⟩ := by
  rw [ref_apply]
  have hh : (⟨(h.val * 128 + e.val) / 128, by omega⟩ : Fin 16) = h := Fin.ext (by show (h.val * 128 + e.val) / 128 = h.val; omega)
  unfold outA rowOut
  simp only [hh, arrV_apply]
  rw [row_before (by norm_num) _ _ _ (fun l => R.w (ix4 b l h e)) (score_ref R b h i) (fun l => R.hw _),
    row_after (by norm_num) _ _ _ (fun l => R.w (ix4 b l h e)) (score_kernel R b h ⟨256 + i.val, by omega⟩) (fun l => R.hw _)]
  congr 2
  funext l
  have := sqrt_ne
  have := log_ne
  field_simp

/-- The two results are one array. -/
theorem result_eq :
    ReferenceIdeal.Read.val_main_v23 (F := Ideal) (argQn m c) (argQr m c) (argKn m c) (argKr m c) (argV m c) = G m c := by
  funext u
  have key : ∀ u : S4x4096x2048.Idx,
      ReferenceIdeal.Read.val_main_v23 (F := Ideal) (argQn m c) (argQr m c) (argKn m c) (argKr m c) (argV m c) u
        = whole (arrQ m c) (arrK m c) (arrV m c) u := by
    intro u
    idx_vars u
    have hn : u2 = ⟨u2.val / 128 * 128 + u2.val % 128, by omega⟩ := Fin.ext (by show u2.val = u2.val / 128 * 128 + u2.val % 128; omega)
    rw [hn]
    exact result_apply R u0 u1 ⟨u2.val / 128, by omega⟩ ⟨u2.val % 128, by omega⟩
  exact key u

end Cert.Attn

end
-- ==== Proof.AttnClaims.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_finite
public import proofs.«01_k».proof.Proof.AttnEq
public import Idealize.ShloMosaic.Adequacy
public import Idealize.ShloMosaic.Init

/-! The claims about the attention. -/

@[expose] public section

set_option maxRecDepth 16384

noncomputable section

namespace Cert.Attn

open Idealize.ShloMosaic Idealize.ShloMosaic.TcCoe Idealize.SL.Sem Cert.KernelIdeal

/-- An element whose magnitude tests below infinity is a real number. -/
theorem real_of_test (x : EReal) (h : Ideal.cmp .olt (max x (-x)) (Ideal.ofBits .f32 0x7F800000#32) = 1#1) :
    x = ((x.toReal : ℝ) : EReal) := by
  refine real_of_abs_lt x ?_
  rw [ofBits_inf] at h
  by_contra hn
  simp [Ideal.cmp, hn] at h

/-- Under the precondition every argument element is a real number. -/
def realArgs (m : (ℓ : Loc nD τ sig) → Buf (Elt Ideal) ℓ) (hpre : Pre_KernelIdeal_finite m) (c : Dev nD) :
    RealArgs m c where
  qn i := (argQn m c i).toReal
  qr i := (argQr m c i).toReal
  kn i := (argKn m c i).toReal
  kr i := (argKr m c i).toReal
  w i := (argV m c i).toReal
  hqn i := real_of_test _ (congrFun (hpre c).1 i)
  hqr i := real_of_test _ (congrFun (hpre c).2.1 i)
  hkn i := real_of_test _ (congrFun (hpre c).2.2.1 i)
  hkr i := real_of_test _ (congrFun (hpre c).2.2.2.1 i)
  hw i := real_of_test _ (congrFun (hpre c).2.2.2.2 i)

theorem frame_reference : Cert.quiescent_ReferenceIdeal := fun m ρ _ =>
  (θ_run Cert.ReferenceIdeal.defs _ _).mono
    (fun r h => ⟨fun c => ⟨(h c).2.1, (h c).2.2.1, (h c).2.2.2.1, (h c).2.2.2.2.1, (h c).2.2.2.2.2⟩,
      Idealize.ShloMosaic.sem_eq_zero_of_no_sems (by decide) r.2⟩)
    (Cert.ReferenceIdeal.Value.run (F := Ideal) m ρ)

theorem algebraic : Cert.algebraic_KernelIdeal_ReferenceIdeal_pre_finite := by
  intro m ρ m' ρ' hpre hagree
  refine ⟨fun c => G m c, ?_, ?_⟩
  · exact (θ_run Cert.KernelIdeal.defs _ _).mono (fun r h c => ⟨(h c).1.trans (final m c), (h c).2⟩)
      (Cert.KernelIdeal.Value.run_blocks m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v23_eq]
    obtain ⟨e0, e1, e2, e3, e4⟩ := hagree c
    rw [e0, e1, e2, e3, e4]
    exact result_eq (realArgs m hpre c)

end Cert.Attn

end
-- ==== Proof.Rows.lean ====
module

public import Idealize.ShloMosaic.Lib.Pointwise
public import Idealize.ShloMosaic.PureOps.Ideal.Laws
public import Idealize.ShloMosaic.Lib.Pipeline.Value

/-! Facts shared by the calls that end in a gated residual: which row of gates a stretch of 256 rows takes, and the load of
    one such row. -/

@[expose] public section

noncomputable section

namespace Cert.Rows

open Idealize.ShloMosaic

/-- The gate row of the `q`-th stretch of 256 rows: each batch has one stretch of context, then sixteen of its own. -/
def gateRow (q : Nat) : Nat := if q % 17 = 0 then 4 else q / 17

theorem gateRow_lt (q : Nat) (h : q < 68) : gateRow q < 8 := by unfold gateRow; split <;> omega

theorem hz : (![0, 0] : Fin 2 → Nat) = fun _ => 0 := by funext a; match a with | ⟨0, _⟩ => rfl | ⟨1, _⟩ => rfl

/-- A row loaded at a computed offset. -/
theorem row_ld (g : Vec Ideal ⟨2, ![8, 512]⟩ .f32) (o : Fin 2 → Nat) (h : ∀ a, o a + ![1, 512] a ≤ (⟨2, ![8, 512]⟩ : Shape).size a)
    (r : Fin 8) (ho : o = ![r.val, 0]) (j : Fin 512) : View.ld g (Rect.unit o ![1, 512] h) (ix2 0 j) = g (ix2 r j) := by
  subst ho
  refine congrArg g (funext fun a => Fin.ext ?_)
  match a with
  | ⟨0, _⟩ => show r.val + 1 * 0 = r.val; omega
  | ⟨1, _⟩ => show 0 + 1 * j.val = j.val; omega

end Cert.Rows

end
-- ==== Proof.DownBlock.lean ====
module

public import proofs.«01_k».proof.Proof.Gen.KernelDownIdeal.Value
public import proofs.«01_k».proof.Proof.Rows

/-! What one grid point of the feed-forward's second projection computes from the blocks it loads: the residual plus the
    gate row of the point's batch (or of the context) times the product of the activations with the weights. -/

@[expose] public section

set_option maxRecDepth 16384

noncomputable section

namespace Cert.Down

open Idealize.ShloMosaic Idealize.ShloMosaic.TcCoe Idealize.SL.Sem Cert.KernelDownIdeal Cert.KernelDownIdeal.Gen Cert.Rows

/-- The row of gates the kernel reads for each quarter of its block. -/
theorem gate_off : ∀ (t : Fin grid0.N) (s : Fin 4),
    k0_off1 (grid0.coords t) (BitVec.ofNat 32 s.val) = ![gateRow (t.val / 4 * 4 + s.val), 0] := by decide +kernel

theorem t_lt (t : Fin grid0.N) : t.val < 68 := by have h := t.isLt; simpa only [Gen.N_0] using h

/-- The result block of one grid point, entry by entry. -/
def outB (t : Fin grid0.N) (a : Vec Ideal S1024x5632 .bf16) (w : Vec Ideal S5632x512 .bf16) (x : Vec Ideal S1024x512 .f32)
    (g : Vec Ideal S8x512 .f32) (i : Fin 1024) (j : Fin 512) : EReal :=
  x (ix2 i j) + g (ix2 ⟨gateRow (t.val / 4 * 4 + i.val / 256), gateRow_lt _ (by have := t_lt t; omega)⟩ j)
    * ∑ k : Fin 5632, a (ix2 i k) * w (ix2 k j)

theorem pay2_apply (a : Vec Ideal S1024x5632 .bf16) (w : Vec Ideal S5632x512 .bf16) (i : Fin 1024) (j : Fin 512) :
    k0_pay2 (F := Ideal) a w (ix2 i j) = ∑ k : Fin 5632, a (ix2 i k) * w (ix2 k j) := by
  pointwise [k0_pay2]

theorem pay3_apply (a : Vec Ideal S1024x5632 .bf16) (w : Vec Ideal S5632x512 .bf16) (x : Vec Ideal S256x512 .f32)
    (g : Vec Ideal S1x512 .f32) (i : Fin 256) (j : Fin 512) :
    k0_pay3 (F := Ideal) a w x g (ix2 i j) = x (ix2 i j) + g (ix2 0 j) * k0_pay2 (F := Ideal) a w (ix2 ⟨0 * 256 + i.val, by omega⟩ j) := by
  rw [show (⟨0 * 256 + i.val, by omega⟩ : Fin 1024) = ⟨i.val, by omega⟩ from Fin.ext (by show 0 * 256 + i.val = i.val; omega)]
  unfold k0_pay3
  generalize k0_pay2 (F := Ideal) a w = y
  pointwise []

theorem pay4_apply (y : FVec Ideal S1024x512 .f32) (x : Vec Ideal S256x512 .f32) (g : Vec Ideal S1x512 .f32) (i : Fin 256) (j : Fin 512) :
    k0_pay4 (F := Ideal) y x g (ix2 i j) = x (ix2 i j) + g (ix2 0 j) * y (ix2 ⟨256 + i.val, by omega⟩ j) := by
  pointwise [k0_pay4]

theorem pay5_apply (y : FVec Ideal S1024x512 .f32) (x : Vec Ideal S256x512 .f32) (g : Vec Ideal S1x512 .f32) (i : Fin 256) (j : Fin 512) :
    k0_pay5 (F := Ideal) y x g (ix2 i j) = x (ix2 i j) + g (ix2 0 j) * y (ix2 ⟨512 + i.val, by omega⟩ j) := by
  pointwise [k0_pay5]

theorem pay1_apply (y : FVec Ideal S1024x512 .f32) (x : Vec Ideal S256x512 .f32) (g : Vec Ideal S1x512 .f32) (i : Fin 256) (j : Fin 512) :
    k0_pay1 (F := Ideal) y x g (ix2 i j) = x (ix2 i j) + g (ix2 0 j) * y (ix2 ⟨768 + i.val, by omega⟩ j) := by
  pointwise [k0_pay1]

/-- A quarter of the block, whichever of the four stored values it is, once that value is read at an entry. -/
theorem piece (t : Fin cfg0.N) (a : Vec Ideal S1024x5632 .bf16) (w : Vec Ideal S5632x512 .bf16) (x : Vec Ideal S1024x512 .f32)
    (g : Vec Ideal S8x512 .f32) (s : Fin 4) (h : ∀ a, ![s.val * 256, 0] a + ![256, 512] a ≤ S1024x512.size a)
    (hg : ∀ a, k0_off1 (grid0.coords t) (BitVec.ofNat 32 s.val) a + ![1, 512] a ≤ S8x512.size a) (v : FVec Ideal S256x512 .f32)
    (hv : ∀ (i : Fin 256) (j : Fin 512), v (ix2 i j)
      = View.ld x (Rect.unit (s := S1024x512) ![s.val * 256, 0] ![256, 512] h) (ix2 i j)
        + View.ld g (Rect.unit (s := S8x512) (k0_off1 (grid0.coords t) (BitVec.ofNat 32 s.val)) ![1, 512] hg) (ix2 0 j)
          * k0_pay2 (F := Ideal) a w (ix2 ⟨s.val * 256 + i.val, by omega⟩ j)) (u : S256x512.Idx) :
    v u = outB t a w x g ((Rect.unit (s := S1024x512) ![s.val * 256, 0] ![256, 512] h).emb u 0)
      ((Rect.unit (s := S1024x512) ![s.val * 256, 0] ![256, 512] h).emb u 1) := by
  idx_vars u
  have hlt : s.val * 256 + u0.val < 1024 := by omega
  have e0 : (Rect.unit (s := S1024x512) ![s.val * 256, 0] ![256, 512] h).emb (ix2 u0 u1) 0 = (⟨s.val * 256 + u0.val, hlt⟩ : Fin 1024) :=
    Fin.ext (by show s.val * 256 + 1 * u0.val = s.val * 256 + u0.val; omega)
  have e1 : (Rect.unit (s := S1024x512) ![s.val * 256, 0] ![256, 512] h).emb (ix2 u0 u1) 1 = u1 :=
    Fin.ext (by show 0 + 1 * u1.val = u1.val; omega)
  have hq : (s.val * 256 + u0.val) / 256 = s.val := by omega
  rw [e0, e1, hv, pay2_apply, row_ld g _ hg ⟨gateRow (t.val / 4 * 4 + s.val), gateRow_lt _ (by have := t_lt t; omega)⟩ (gate_off t s)]
  unfold outB
  simp only [hq]
  refine congrArg (· + _) (congrArg x (funext fun a => Fin.ext ?_))
  match a with
  | ⟨0, _⟩ => show s.val * 256 + 1 * u0.val = s.val * 256 + u0.val; omega
  | ⟨1, _⟩ => show 0 + 1 * u1.val = u1.val; omega

theorem out_apply (c : Dev nD) (t : Fin cfg0.N) (a : Vec Ideal S1024x5632 .bf16) (w : Vec Ideal S5632x512 .bf16)
    (x : Vec Ideal S1024x512 .f32) (g : Vec Ideal S8x512 .f32) (i : Fin 1024) (j : Fin 512) :
    out0_A_4 (F := Ideal) c (grid0.coords t) (ms0_0 t) (hs0_0 t) (ms0_1 t) (hs0_1 t) (ms0_2 t) (hs0_2 t) (ms0_3 t) (hs0_3 t)
      (ms0_4 t) (hs0_4 t) a w x g (ix2 i j) = outB t a w x g i j := by
  unfold out0_A_4
  rw [View.read_writes_eq_canon _ _ _ (cover0_A_4 c (grid0.coords t) (ms0_0 t) (hs0_0 t) (ms0_1 t) (hs0_1 t) (ms0_2 t) (hs0_2 t) (ms0_3 t) (hs0_3 t) (ms0_4 t) (hs0_4 t) a w x g)]
  rw [View.canon_apply_of_pieces (fun u : S1024x512.Idx => outB t a w x g (u 0) (u 1)) _ ?_ _ (cover0_A_4 c (grid0.coords t) (ms0_0 t) (hs0_0 t) (ms0_1 t) (hs0_1 t) (ms0_2 t) (hs0_2 t) (ms0_3 t) (hs0_3 t) (ms0_4 t) (hs0_4 t) a w x g _)]
  · rfl
  · unfold kernelRun0_A
    dsimp only
    sl_unfold_run_names
    simp only [View.readAt_eq_ld, (hs0_0 t).read_unread, (hs0_1 t).read_unread, (hs0_2 t).read_unread, (hs0_3 t).read_unread]
    rw [View.ld_unit_zero (S := S1024x5632) hz, View.ld_unit_zero (S := S5632x512) hz]
    intro p hp
    simp only [List.mem_cons, List.not_mem_nil, or_false] at hp
    rcases hp with rfl | rfl | rfl | rfl
    · exact piece t a w x g 3 _ _ _ fun i j => pay1_apply _ _ _ i j
    · exact piece t a w x g 2 _ _ _ fun i j => pay5_apply _ _ _ i j
    · exact piece t a w x g 1 _ _ _ fun i j => pay4_apply _ _ _ i j
    · exact piece t a w x g 0 _ _ _ fun i j => pay3_apply a w _ _ i j

end Cert.Down

end
-- ==== Proof.DownArray.lean ====
module

public import proofs.«01_k».proof.Proof.DownBlock
public import Idealize.ShloMosaic.Lib.StableHlo.ReadAt

/-! The second projection's result array as one function of the arrays the kernel is launched on, and so of the arguments:
    every block of every grid point is a block of that function, and the blocks fill the array. -/

@[expose] public section

set_option maxRecDepth 16384

noncomputable section

namespace Cert.Down

open Idealize.ShloMosaic Idealize.ShloMosaic.TcCoe Idealize.SL.Sem Cert.KernelDownIdeal Cert.KernelDownIdeal.Gen Cert.Rows
open Idealize.ShloMosaic.Pipeline (Dat)

/-- Where each window's block lies at a grid point. -/
theorem index0 : ∀ t : Fin grid0.N, win0_0.index t = ![t.val / 4, 0] := by decide +kernel
theorem index1 : ∀ t : Fin grid0.N, win0_1.index t = ![0, t.val % 4] := by decide +kernel
theorem index2 : ∀ t : Fin grid0.N, win0_2.index t = ![t.val / 4, t.val % 4] := by decide +kernel
theorem index3 : ∀ t : Fin grid0.N, win0_3.index t = ![0, 20 + t.val % 4] := by decide +kernel
theorem index4 : ∀ t : Fin grid0.N, win0_4.index t = ![t.val / 4, t.val % 4] := by decide +kernel

/-- The array index of a block index, window by window. -/
theorem emb0 (t : Fin grid0.N) (i : Fin 1024) (k : Fin 5632) :
    (win0_0.blk t).view.emb (ix2 i k) = (ix2 ⟨t.val / 4 * 1024 + i.val, by have := t_lt t; omega⟩ k : S17408x5632.Idx) := by
  funext a; apply Fin.ext
  have h := congrFun (index0 t)
  match a with
  | ⟨0, _⟩ => show win0_0.index t 0 * 1024 + 1 * i.val = _; rw [h 0]; show t.val / 4 * 1024 + 1 * i.val = t.val / 4 * 1024 + i.val; omega
  | ⟨1, _⟩ => show win0_0.index t 1 * 5632 + 1 * k.val = _; rw [h 1]; show 0 * 5632 + 1 * k.val = k.val; omega

theorem emb1 (t : Fin grid0.N) (k : Fin 5632) (j : Fin 512) :
    (win0_1.blk t).view.emb (ix2 k j) = (ix2 k ⟨t.val % 4 * 512 + j.val, by omega⟩ : S5632x2048.Idx) := by
  funext a; apply Fin.ext
  have h := congrFun (index1 t)
  match a with
  | ⟨0, _⟩ => show win0_1.index t 0 * 5632 + 1 * k.val = _; rw [h 0]; show 0 * 5632 + 1 * k.val = k.val; omega
  | ⟨1, _⟩ => show win0_1.index t 1 * 512 + 1 * j.val = _; rw [h 1]; show t.val % 4 * 512 + 1 * j.val = t.val % 4 * 512 + j.val; omega

theorem emb2 (t : Fin grid0.N) (i : Fin 1024) (j : Fin 512) :
    (win0_2.blk t).view.emb (ix2 i j)
      = (ix2 ⟨t.val / 4 * 1024 + i.val, by have := t_lt t; omega⟩ ⟨t.val % 4 * 512 + j.val, by omega⟩ : S17408x2048.Idx) := by
  funext a; apply Fin.ext
  have h := congrFun (index2 t)
  match a with
  | ⟨0, _⟩ => show win0_2.index t 0 * 1024 + 1 * i.val = _; rw [h 0]; show t.val / 4 * 1024 + 1 * i.val = t.val / 4 * 1024 + i.val; omega
  | ⟨1, _⟩ => show win0_2.index t 1 * 512 + 1 * j.val = _; rw [h 1]; show t.val % 4 * 512 + 1 * j.val = t.val % 4 * 512 + j.val; omega

theorem emb3 (t : Fin grid0.N) (i : Fin 8) (j : Fin 512) :
    (win0_3.blk t).view.emb (ix2 i j) = (ix2 i ⟨10240 + (t.val % 4 * 512 + j.val), by omega⟩ : S8x12288.Idx) := by
  funext a; apply Fin.ext
  have h := congrFun (index3 t)
  match a with
  | ⟨0, _⟩ => show win0_3.index t 0 * 8 + 1 * i.val = _; rw [h 0]; show 0 * 8 + 1 * i.val = i.val; omega
  | ⟨1, _⟩ => show win0_3.index t 1 * 512 + 1 * j.val = _; rw [h 1]; show (20 + t.val % 4) * 512 + 1 * j.val = 10240 + (t.val % 4 * 512 + j.val); omega

theorem emb4 (t : Fin grid0.N) (i : Fin 1024) (j : Fin 512) :
    (win0_4.blk t).view.emb (ix2 i j)
      = (ix2 ⟨t.val / 4 * 1024 + i.val, by have := t_lt t; omega⟩ ⟨t.val % 4 * 512 + j.val, by omega⟩ : S17408x2048.Idx) := by
  funext a; apply Fin.ext
  have h := congrFun (index4 t)
  match a with
  | ⟨0, _⟩ => show win0_4.index t 0 * 1024 + 1 * i.val = _; rw [h 0]; show t.val / 4 * 1024 + 1 * i.val = t.val / 4 * 1024 + i.val; omega
  | ⟨1, _⟩ => show win0_4.index t 1 * 512 + 1 * j.val = _; rw [h 1]; show t.val % 4 * 512 + 1 * j.val = t.val % 4 * 512 + j.val; omega

/-- The result at row `r`, lane `n`. -/
def outA (a : Vec Ideal S17408x5632 .bf16) (w : Vec Ideal S5632x2048 .bf16) (x : Vec Ideal S17408x2048 .f32)
    (g : Vec Ideal S8x12288 .f32) (r : Fin 17408) (n : Fin 2048) : EReal :=
  x (ix2 r n) + g (ix2 ⟨gateRow (r.val / 256), gateRow_lt _ (by omega)⟩ ⟨10240 + n.val, by omega⟩)
    * ∑ k : Fin 5632, a (ix2 r k) * w (ix2 k n)

/-- The whole result array. -/
def whole (a : Vec Ideal S17408x5632 .bf16) (w : Vec Ideal S5632x2048 .bf16) (x : Vec Ideal S17408x2048 .f32)
    (g : Vec Ideal S8x12288 .f32) : Vec Ideal S17408x2048 .f32 := fun u => outA a w x g (u 0) (u 1)

/-- What a grid point writes back, for any four arrays. -/
theorem read_whole (c : Dev nD) (t : Fin cfg0.N) (a : Vec Ideal S17408x5632 .bf16) (w : Vec Ideal S5632x2048 .bf16)
    (x : Vec Ideal S17408x2048 .f32) (g : Vec Ideal S8x12288 .f32) :
    out0_A_4 (F := Ideal) c (grid0.coords t) (ms0_0 t) (hs0_0 t) (ms0_1 t) (hs0_1 t) (ms0_2 t) (hs0_2 t) (ms0_3 t) (hs0_3 t)
        (ms0_4 t) (hs0_4 t) ((win0_0.blk t).view.read (Elt Ideal) a) ((win0_1.blk t).view.read (Elt Ideal) w)
        ((win0_2.blk t).view.read (Elt Ideal) x) ((win0_3.blk t).view.read (Elt Ideal) g)
      = (win0_4.blk t).view.read (Elt Ideal) (whole a w x g) := by
  funext y
  have key : ∀ y : S1024x512.Idx, out0_A_4 (F := Ideal) c (grid0.coords t) (ms0_0 t) (hs0_0 t) (ms0_1 t) (hs0_1 t) (ms0_2 t) (hs0_2 t)
        (ms0_3 t) (hs0_3 t) (ms0_4 t) (hs0_4 t) ((win0_0.blk t).view.read (Elt Ideal) a) ((win0_1.blk t).view.read (Elt Ideal) w)
        ((win0_2.blk t).view.read (Elt Ideal) x) ((win0_3.blk t).view.read (Elt Ideal) g) y
      = whole a w x g ((win0_4.blk t).view.emb y) := by
    intro y
    idx_vars y
    rw [out_apply, emb4]
    have hq : (t.val / 4 * 1024 + y0.val) / 256 = t.val / 4 * 4 + y0.val / 256 := by omega
    show _ = outA a w x g ⟨t.val / 4 * 1024 + y0.val, _⟩ ⟨t.val % 4 * 512 + y1.val, _⟩
    unfold outB outA
    simp only [hq]
    refine congrArg₂ (· + ·) (congrArg x (emb2 t y0 y1)) (congrArg₂ (· * ·) (congrArg g (emb3 t _ y1)) ?_)
    exact Finset.sum_congr rfl fun k _ => congrArg₂ (· * ·) (congrArg a (emb0 t y0 k)) (congrArg w (emb1 t k y1))
  exact key y

variable (m : (ℓ : Loc nD τ sig) → Buf (Elt Ideal) ℓ)

/-- The arrays of activations, weights, residual and gates the kernel is launched on. -/
def arrA (c : Dev nD) : Vec Ideal S17408x5632 .bf16 := V m c main_arg0
def arrW (c : Dev nD) : Vec Ideal S5632x2048 .bf16 := V m c main_v0
def arrX (c : Dev nD) : Vec Ideal S17408x2048 .f32 := V m c main_arg2
def arrG (c : Dev nD) : Vec Ideal S8x12288 .f32 := V m c main_arg3

/-- The four arguments. -/
def argA (c : Dev nD) : Vec Ideal S17408x5632 .bf16 := m ((c.tc : Thread nD τ).loc main_arg0)
def argW (c : Dev nD) : Vec Ideal S5632x2048 .f32 := m ((c.tc : Thread nD τ).loc main_arg1)
def argX (c : Dev nD) : Vec Ideal S17408x2048 .f32 := m ((c.tc : Thread nD τ).loc main_arg2)
def argG (c : Dev nD) : Vec Ideal S8x12288 .f32 := m ((c.tc : Thread nD τ).loc main_arg3)

/-- The weights are launched on as they are, but for their format. -/
theorem arrW_apply (c : Dev nD) (k : Fin 5632) (n : Fin 2048) : arrW m c (ix2 k n) = argW m c (ix2 k n) := by
  unfold arrW V
  after_reads_at
  rfl

/-- The result array. -/
def G (c : Dev nD) : Buf (Elt Ideal) ((c : Thread nD τ).loc main_v1) := whole (arrA m c) (arrW m c) (arrX m c) (arrG m c)

/-- What a grid point writes back is its block of the whole array. -/
theorem flushed_eq (c : Dev nD) (t : Fin cfg0.N) :
    (dats m 0 c).flushed 4 t = (win0_4.blk t).view.read (Elt Ideal) (G m c) := by
  rw [Value.flushed4_A]
  exact read_whole c t (arrA m c) (arrW m c) (arrX m c) (arrG m c)

/-- Every index of the result lies in the block of some grid point. -/
theorem cover (i : S17408x2048.Idx) :
    ∃ t : Fin cfg0.N, (cfg0.win 4).flush t = true ∧ i ∈ ((cfg0.win 4).blk t).view.set := by
  have h0 : (i 0 : Nat) < 17408 := (i 0).isLt
  have h1 : (i 1 : Nat) < 2048 := (i 1).isLt
  refine ⟨⟨(i 0 : Nat) / 1024 * 4 + (i 1 : Nat) / 512, by show _ < grid0.N; rw [Gen.N_0]; omega⟩, flush0_4 _, ?_⟩
  generalize ht : (⟨(i 0 : Nat) / 1024 * 4 + (i 1 : Nat) / 512, by show _ < grid0.N; rw [Gen.N_0]; omega⟩ : Fin grid0.N) = t
  have hv : t.val = (i 0 : Nat) / 1024 * 4 + (i 1 : Nat) / 512 := by rw [← ht]
  show i ∈ ((View.whole main_v1).slice (win0_4.rect t)).set
  rw [View.set_slice_whole, Rect.mem_set_unit]
  have h := congrFun (index4 t)
  intro a
  match a with
  | ⟨0, _⟩ => show win0_4.index t 0 * 1024 ≤ (i 0 : Nat) ∧ (i 0 : Nat) < win0_4.index t 0 * 1024 + 1024
              rw [h 0]; show t.val / 4 * 1024 ≤ (i 0 : Nat) ∧ (i 0 : Nat) < t.val / 4 * 1024 + 1024; omega
  | ⟨1, _⟩ => show win0_4.index t 1 * 512 ≤ (i 1 : Nat) ∧ (i 1 : Nat) < win0_4.index t 1 * 512 + 512
              rw [h 1]; show t.val % 4 * 512 ≤ (i 1 : Nat) ∧ (i 1 : Nat) < t.val % 4 * 512 + 512; omega

/-- So the result array ends as the whole function. -/
theorem final (c : Dev nD) : (dats m 0 c).arrAt 4 cfg0.N = G m c :=
  (dats m 0 c).arrAt_eq_of_cover 4 (G m c) (fun t _ => flushed_eq m c t) cover

/-- The result at a row and a lane, from the arguments. -/
theorem G_apply (c : Dev nD) (r : Fin 17408) (n : Fin 2048) :
    G m c (ix2 r n) = argX m c (ix2 r n)
      + argG m c (ix2 ⟨gateRow (r.val / 256), gateRow_lt _ (by omega)⟩ ⟨10240 + n.val, by omega⟩)
        * ∑ k : Fin 5632, argA m c (ix2 r k) * argW m c (ix2 k n) := by
  show outA (arrA m c) (arrW m c) (arrX m c) (arrG m c) r n = _
  unfold outA
  simp only [arrW_apply]
  rw [show arrA m c = argA m c from V_main_arg0 m c, show arrX m c = argX m c from V_main_arg2 m c,
    show arrG m c = argG m c from V_main_arg3 m c]

end Cert.Down

end
-- ==== Proof.DownRef.lean ====
module

public import proofs.«01_k».proof.Proof.Gen.ReferenceDownIdeal.Read
public import Idealize.ShloMosaic.Lib.Pointwise

/-! The reference of the second projection at one element, for a context row and for a latent row of a batch. -/

@[expose] public section

set_option maxRecDepth 16384

noncomputable section

namespace Cert.Down

open Idealize.ShloMosaic Cert.ReferenceDownIdeal Cert.ReferenceDownIdeal.Gen Cert.ReferenceDownIdeal.Read

variable (x0 : Vec Ideal S17408x5632 .bf16) (x1 : Vec Ideal S5632x2048 .f32) (x2 : Vec Ideal S17408x2048 .f32)
  (x3 : Vec Ideal S8x12288 .f32)

theorem ref_ctx (b : Fin 4) (p : Fin 256) (n : Fin 2048) :
    val_main_v25 (F := Ideal) x0 x1 x2 x3 (ix3 b p n)
      = x2 (ix2 ⟨b.val * 4352 + p.val, by omega⟩ n) + x3 (ix2 4 ⟨10240 + n.val, by omega⟩)
        * ∑ k : Fin 5632, x0 (ix2 ⟨b.val * 4352 + p.val, by omega⟩ k) * x1 (ix2 k n) := by
  pointwise [val_main_v25, val_main_v24, val_main_v23, val_main_v22, val_main_v21, val_main_v20, val_main_v19, val_main_v18,
    val_main_v5, val_main_v4, val_main_v2, val_main_v1, val_main_v0]

theorem ref_lat (b : Fin 4) (p : Fin 4096) (n : Fin 2048) :
    val_main_v31 (F := Ideal) x0 x1 x2 x3 (ix3 b p n)
      = x2 (ix2 ⟨b.val * 4352 + (256 + p.val), by omega⟩ n) + x3 (ix2 ⟨b.val, by omega⟩ ⟨10240 + n.val, by omega⟩)
        * ∑ k : Fin 5632, x0 (ix2 ⟨b.val * 4352 + (256 + p.val), by omega⟩ k) * x1 (ix2 k n) := by
  pointwise [val_main_v31, val_main_v30, val_main_v29, val_main_v28, val_main_v27, val_main_v26, val_main_v12, val_main_v11,
    val_main_v3, val_main_v2, val_main_v1, val_main_v0]

theorem joined (X : FVec Ideal S4x256x2048 .f32) (Y : FVec Ideal S4x4096x2048 .f32) (r : Fin 17408) (n : Fin 2048) :
    (shapeCast S17408x2048 (concatenate S4x4352x2048 1 [⟨S4x256x2048, X⟩, ⟨S4x4096x2048, Y⟩]
        concatenates_S4x256x2048_S4x4096x2048_S4x4352x2048_d1) shapeCasts_S4x4352x2048_S17408x2048 : FVec Ideal S17408x2048 .f32) (ix2 r n)
      = if h : r.val % 4352 < 256 then X (ix3 ⟨r.val / 4352, by omega⟩ ⟨r.val % 4352, h⟩ n)
        else Y (ix3 ⟨r.val / 4352, by omega⟩ ⟨r.val % 4352 - 256, by omega⟩ n) := by
  pointwise []

end Cert.Down

end
-- ==== Proof.DownClaims.lean ====
module

public import proofs.«01_k».proof.Defs
public import proofs.«01_k».proof.Proof.Gen.KernelDown.Frame
public import proofs.«01_k».proof.Proof.DownArray
public import proofs.«01_k».proof.Proof.DownRef
public import Idealize.ShloMosaic.Adequacy
public import Idealize.ShloMosaic.Init

/-! The claims about the feed-forward's second projection. -/

@[expose] public section

set_option maxRecDepth 16384

noncomputable section

namespace Cert.Down

open Idealize.ShloMosaic Idealize.ShloMosaic.TcCoe Idealize.SL.Sem Cert.KernelDownIdeal Cert.Rows

/-- The reference's result, on the kernel's arguments, is the kernel's result array. -/
theorem result_eq (m : (ℓ : Loc nD τ sig) → Buf (Elt Ideal) ℓ) (c : Dev nD) :
    Cert.ReferenceDownIdeal.Read.val_main_v33 (F := Ideal) (argA m c) (argW m c) (argX m c) (argG m c) = G m c := by
  funext u
  idx_vars u
  refine Eq.trans ?_ (G_apply m c u0 u1).symm
  unfold Cert.ReferenceDownIdeal.Read.val_main_v33 Cert.ReferenceDownIdeal.Read.val_main_v32
  refine (joined _ _ u0 u1).trans ?_
  by_cases h : u0.val % 4352 < 256
  · have hr : (⟨u0.val / 4352 * 4352 + u0.val % 4352, by omega⟩ : Fin 17408) = u0 := Fin.ext (by show u0.val / 4352 * 4352 + u0.val % 4352 = u0.val; omega)
    have hg : gateRow (u0.val / 256) = 4 := by unfold gateRow; rw [if_pos (by omega)]
    rw [dif_pos h, ref_ctx]
    simp only [hr, hg]
    rfl
  · have hr : (⟨u0.val / 4352 * 4352 + (256 + (u0.val % 4352 - 256)), by omega⟩ : Fin 17408) = u0 :=
      Fin.ext (by show u0.val / 4352 * 4352 + (256 + (u0.val % 4352 - 256)) = u0.val; omega)
    have hg : gateRow (u0.val / 256) = u0.val / 4352 := by unfold gateRow; rw [if_neg (by omega)]; omega
    rw [dif_neg h, ref_lat]
    simp only [hr, hg]

theorem frame_reference : Cert.quiescent_ReferenceDownIdeal := fun m ρ _ =>
  (θ_run Cert.ReferenceDownIdeal.defs _ _).mono
    (fun r h => ⟨fun c => ⟨(h c).2.1, (h c).2.2.1, (h c).2.2.2.1, (h c).2.2.2.2⟩,
      Idealize.ShloMosaic.sem_eq_zero_of_no_sems (by decide) r.2⟩)
    (Cert.ReferenceDownIdeal.Value.run (F := Ideal) m ρ)

theorem algebraic : Cert.algebraic_KernelDownIdeal_ReferenceDownIdeal := by
  intro m ρ m' ρ' _ hagree
  refine ⟨fun c => G m c, ?_, ?_⟩
  · exact (θ_run Cert.KernelDownIdeal.defs _ _).mono (fun r h c => ⟨(h c).1.trans (final m c), (h c).2⟩)
      (Cert.KernelDownIdeal.Value.run_blocks m ρ)
  · refine (θ_run Cert.ReferenceDownIdeal.defs _ _).mono (fun r h c => ⟨(h c).1.trans ?_, (h c).2⟩)
      (Cert.ReferenceDownIdeal.Value.run (F := Ideal) m' ρ')
    rw [Cert.ReferenceDownIdeal.Read.val_main_v33_eq]
    obtain ⟨e0, e1, e2, e3⟩ := hagree c
    rw [e0, e1, e2, e3]
    exact result_eq m c

end Cert.Down

end
-- ==== Proof.DownLatBlock.lean ====
module

public import proofs.«01_k».proof.Proof.Gen.KernelDownLatIdeal.Value
public import proofs.«01_k».proof.Proof.Rows

/-! What one grid point of the feed-forward's second projection over latent rows computes from the blocks it loads: the residual plus the
    gate row of the point's batch times the product of the activations with the weights. -/

@[expose] public section

set_option maxRecDepth 16384

noncomputable section

namespace Cert.DownLat

open Idealize.ShloMosaic Idealize.ShloMosaic.TcCoe Idealize.SL.Sem Cert.KernelDownLatIdeal Cert.KernelDownLatIdeal.Gen Cert.Rows

/-- The row of gates the kernel reads for each quarter of its block. -/
theorem gate_off : ∀ (t : Fin grid0.N) (s : Fin 4),
    k0_off1 (grid0.coords t) (BitVec.ofNat 32 s.val) = ![(t.val / 4 * 4 + s.val) / 16, 0] := by decide +kernel

theorem t_lt (t : Fin grid0.N) : t.val < 64 := by have h := t.isLt; simpa only [Gen.N_0] using h

/-- The result block of one grid point, entry by entry. -/
def outB (t : Fin grid0.N) (a : Vec Ideal S1024x5632 .bf16) (w : Vec Ideal S5632x512 .bf16) (x : Vec Ideal S1024x512 .f32)
    (g : Vec Ideal S8x512 .f32) (i : Fin 1024) (j : Fin 512) : EReal :=
  x (ix2 i j) + g (ix2 ⟨(t.val / 4 * 4 + i.val / 256) / 16, by have := t_lt t; omega⟩ j)
    * ∑ k : Fin 5632, a (ix2 i k) * w (ix2 k j)

theorem pay1_apply (a : Vec Ideal S1024x5632 .bf16) (w : Vec Ideal S5632x512 .bf16) (i : Fin 1024) (j : Fin 512) :
    k0_pay1 (F := Ideal) a w (ix2 i j) = ∑ k : Fin 5632, a (ix2 i k) * w (ix2 k j) := by
  pointwise [k0_pay1]

theorem pay2_apply (a : Vec Ideal S1024x5632 .bf16) (w : Vec Ideal S5632x512 .bf16) (x : Vec Ideal S256x512 .f32)
    (g : Vec Ideal S1x512 .f32) (i : Fin 256) (j : Fin 512) :
    k0_pay2 (F := Ideal) a w x g (ix2 i j) = x (ix2 i j) + g (ix2 0 j) * k0_pay1 (F := Ideal) a w (ix2 ⟨0 * 256 + i.val, by omega⟩ j) := by
  rw [show (⟨0 * 256 + i.val, by omega⟩ : Fin 1024) = ⟨i.val, by omega⟩ from Fin.ext (by show 0 * 256 + i.val = i.val; omega)]
  unfold k0_pay2
  generalize k0_pay1 (F := Ideal) a w = y
  pointwise []

theorem pay3_apply (y : FVec Ideal S1024x512 .f32) (x : Vec Ideal S256x512 .f32) (g : Vec Ideal S1x512 .f32) (i : Fin 256) (j : Fin 512) :
    k0_pay3 (F := Ideal) y x g (ix2 i j) = x (ix2 i j) + g (ix2 0 j) * y (ix2 ⟨256 + i.val, by omega⟩ j) := by
  pointwise [k0_pay3]

theorem pay4_apply (y : FVec Ideal S1024x512 .f32) (x : Vec Ideal S256x512 .f32) (g : Vec Ideal S1x512 .f32) (i : Fin 256) (j : Fin 512) :
    k0_pay4 (F := Ideal) y x g (ix2 i j) = x (ix2 i j) + g (ix2 0 j) * y (ix2 ⟨512 + i.val, by omega⟩ j) := by
  pointwise [k0_pay4]

theorem pay5_apply (y : FVec Ideal S1024x512 .f32) (x : Vec Ideal S256x512 .f32) (g : Vec Ideal S1x512 .f32) (i : Fin 256) (j : Fin 512) :
    k0_pay5 (F := Ideal) y x g (ix2 i j) = x (ix2 i j) + g (ix2 0 j) * y (ix2 ⟨768 + i.val, by omega⟩ j) := by
  pointwise [k0_pay5]

/-- A quarter of the block, whichever of the four stored values it is, once that value is read at an entry. -/
theorem piece (t : Fin cfg0.N) (a : Vec Ideal S1024x5632 .bf16) (w : Vec Ideal S5632x512 .bf16) (x : Vec Ideal S1024x512 .f32)
    (g : Vec Ideal S8x512 .f32) (s : Fin 4) (h : ∀ a, ![s.val * 256, 0] a + ![256, 512] a ≤ S1024x512.size a)
    (hg : ∀ a, k0_off1 (grid0.coords t) (BitVec.ofNat 32 s.val) a + ![1, 512] a ≤ S8x512.size a) (v : FVec Ideal S256x512 .f32)
    (hv : ∀ (i : Fin 256) (j : Fin 512), v (ix2 i j)
      = View.ld x (Rect.unit (s := S1024x512) ![s.val * 256, 0] ![256, 512] h) (ix2 i j)
        + View.ld g (Rect.unit (s := S8x512) (k0_off1 (grid0.coords t) (BitVec.ofNat 32 s.val)) ![1, 512] hg) (ix2 0 j)
          * k0_pay1 (F := Ideal) a w (ix2 ⟨s.val * 256 + i.val, by omega⟩ j)) (u : S256x512.Idx) :
    v u = outB t a w x g ((Rect.unit (s := S1024x512) ![s.val * 256, 0] ![256, 512] h).emb u 0)
      ((Rect.unit (s := S1024x512) ![s.val * 256, 0] ![256, 512] h).emb u 1) := by
  idx_vars u
  have hlt : s.val * 256 + u0.val < 1024 := by omega
  have e0 : (Rect.unit (s := S1024x512) ![s.val * 256, 0] ![256, 512] h).emb (ix2 u0 u1) 0 = (⟨s.val * 256 + u0.val, hlt⟩ : Fin 1024) :=
    Fin.ext (by show s.val * 256 + 1 * u0.val = s.val * 256 + u0.val; omega)
  have e1 : (Rect.unit (s := S1024x512) ![s.val * 256, 0] ![256, 512] h).emb (ix2 u0 u1) 1 = u1 :=
    Fin.ext (by show 0 + 1 * u1.val = u1.val; omega)
  have hq : (s.val * 256 + u0.val) / 256 = s.val := by omega
  rw [e0, e1, hv, pay1_apply, row_ld g _ hg ⟨(t.val / 4 * 4 + s.val) / 16, by have := t_lt t; omega⟩ (gate_off t s)]
  unfold outB
  simp only [hq]
  refine congrArg (· + _) (congrArg x (funext fun a => Fin.ext ?_))
  match a with
  | ⟨0, _⟩ => show s.val * 256 + 1 * u0.val = s.val * 256 + u0.val; omega
  | ⟨1, _⟩ => show 0 + 1 * u1.val = u1.val; omega

theorem out_apply (c : Dev nD) (t : Fin cfg0.N) (a : Vec Ideal S1024x5632 .bf16) (w : Vec Ideal S5632x512 .bf16)
    (x : Vec Ideal S1024x512 .f32) (g : Vec Ideal S8x512 .f32) (i : Fin 1024) (j : Fin 512) :
    out0_A_4 (F := Ideal) c (grid0.coords t) (ms0_0 t) (hs0_0 t) (ms0_1 t) (hs0_1 t) (ms0_2 t) (hs0_2 t) (ms0_3 t) (hs0_3 t)
      (ms0_4 t) (hs0_4 t) a w x g (ix2 i j) = outB t a w x g i j := by
  unfold out0_A_4
  rw [View.read_writes_eq_canon _ _ _ (cover0_A_4 c (grid0.coords t) (ms0_0 t) (hs0_0 t) (ms0_1 t) (hs0_1 t) (ms0_2 t) (hs0_2 t) (ms0_3 t) (hs0_3 t) (ms0_4 t) (hs0_4 t) a w x g)]
  rw [View.canon_apply_of_pieces (fun u : S1024x512.Idx => outB t a w x g (u 0) (u 1)) _ ?_ _ (cover0_A_4 c (grid0.coords t) (ms0_0 t) (hs0_0 t) (ms0_1 t) (hs0_1 t) (ms0_2 t) (hs0_2 t) (ms0_3 t) (hs0_3 t) (ms0_4 t) (hs0_4 t) a w x g _)]
  · rfl
  · unfold kernelRun0_A
    dsimp only
    sl_unfold_run_names
    simp only [View.readAt_eq_ld, (hs0_0 t).read_unread, (hs0_1 t).read_unread, (hs0_2 t).read_unread, (hs0_3 t).read_unread]
    rw [View.ld_unit_zero (S := S1024x5632) hz, View.ld_unit_zero (S := S5632x512) hz]
    intro p hp
    simp only [List.mem_cons, List.not_mem_nil, or_false] at hp
    rcases hp with rfl | rfl | rfl | rfl
    · exact piece t a w x g 3 _ _ _ fun i j => pay5_apply _ _ _ i j
    · exact piece t a w x g 2 _ _ _ fun i j => pay4_apply _ _ _ i j
    · exact piece t a w x g 1 _ _ _ fun i j => pay3_apply _ _ _ i j
    · exact piece t a w x g 0 _ _ _ fun i j => pay2_apply a w _ _ i j

end Cert.DownLat

end
-- ==== Proof.DownLatArray.lean ====
module

public import proofs.«01_k».proof.Proof.DownLatBlock
public import Idealize.ShloMosaic.Lib.StableHlo.ReadAt

/-! The result array of the feed-forward's second projection over latent rows as one function of the arrays the kernel is launched on, and so of the arguments:
    every block of every grid point is a block of that function, and the blocks fill the array. -/

@[expose] public section

set_option maxRecDepth 16384

noncomputable section

namespace Cert.DownLat

open Idealize.ShloMosaic Idealize.ShloMosaic.TcCoe Idealize.SL.Sem Cert.KernelDownLatIdeal Cert.KernelDownLatIdeal.Gen Cert.Rows
open Idealize.ShloMosaic.Pipeline (Dat)

/-- Where each window's block lies at a grid point. -/
theorem index0 : ∀ t : Fin grid0.N, win0_0.index t = ![t.val / 4, 0] := by decide +kernel
theorem index1 : ∀ t : Fin grid0.N, win0_1.index t = ![0, t.val % 4] := by decide +kernel
theorem index2 : ∀ t : Fin grid0.N, win0_2.index t = ![t.val / 4, t.val % 4] := by decide +kernel
theorem index3 : ∀ t : Fin grid0.N, win0_3.index t = ![0, 20 + t.val % 4] := by decide +kernel
theorem index4 : ∀ t : Fin grid0.N, win0_4.index t = ![t.val / 4, t.val % 4] := by decide +kernel

/-- The array index of a block index, window by window. -/
theorem emb0 (t : Fin grid0.N) (i : Fin 1024) (k : Fin 5632) :
    (win0_0.blk t).view.emb (ix2 i k) = (ix2 ⟨t.val / 4 * 1024 + i.val, by have := t_lt t; omega⟩ k : S16384x5632.Idx) := by
  funext a; apply Fin.ext
  have h := congrFun (index0 t)
  match a with
  | ⟨0, _⟩ => show win0_0.index t 0 * 1024 + 1 * i.val = _; rw [h 0]; show t.val / 4 * 1024 + 1 * i.val = t.val / 4 * 1024 + i.val; omega
  | ⟨1, _⟩ => show win0_0.index t 1 * 5632 + 1 * k.val = _; rw [h 1]; show 0 * 5632 + 1 * k.val = k.val; omega

theorem emb1 (t : Fin grid0.N) (k : Fin 5632) (j : Fin 512) :
    (win0_1.blk t).view.emb (ix2 k j) = (ix2 k ⟨t.val % 4 * 512 + j.val, by omega⟩ : S5632x2048.Idx) := by
  funext a; apply Fin.ext
  have h := congrFun (index1 t)
  match a with
  | ⟨0, _⟩ => show win0_1.index t 0 * 5632 + 1 * k.val = _; rw [h 0]; show 0 * 5632 + 1 * k.val = k.val; omega
  | ⟨1, _⟩ => show win0_1.index t 1 * 512 + 1 * j.val = _; rw [h 1]; show t.val % 4 * 512 + 1 * j.val = t.val % 4 * 512 + j.val; omega

theorem emb2 (t : Fin grid0.N) (i : Fin 1024) (j : Fin 512) :
    (win0_2.blk t).view.emb (ix2 i j)
      = (ix2 ⟨t.val / 4 * 1024 + i.val, by have := t_lt t; omega⟩ ⟨t.val % 4 * 512 + j.val, by omega⟩ : S16384x2048.Idx) := by
  funext a; apply Fin.ext
  have h := congrFun (index2 t)
  match a with
  | ⟨0, _⟩ => show win0_2.index t 0 * 1024 + 1 * i.val = _; rw [h 0]; show t.val / 4 * 1024 + 1 * i.val = t.val / 4 * 1024 + i.val; omega
  | ⟨1, _⟩ => show win0_2.index t 1 * 512 + 1 * j.val = _; rw [h 1]; show t.val % 4 * 512 + 1 * j.val = t.val % 4 * 512 + j.val; omega

theorem emb3 (t : Fin grid0.N) (i : Fin 8) (j : Fin 512) :
    (win0_3.blk t).view.emb (ix2 i j) = (ix2 i ⟨10240 + (t.val % 4 * 512 + j.val), by omega⟩ : S8x12288.Idx) := by
  funext a; apply Fin.ext
  have h := congrFun (index3 t)
  match a with
  | ⟨0, _⟩ => show win0_3.index t 0 * 8 + 1 * i.val = _; rw [h 0]; show 0 * 8 + 1 * i.val = i.val; omega
  | ⟨1, _⟩ => show win0_3.index t 1 * 512 + 1 * j.val = _; rw [h 1]; show (20 + t.val % 4) * 512 + 1 * j.val = 10240 + (t.val % 4 * 512 + j.val); omega

theorem emb4 (t : Fin grid0.N) (i : Fin 1024) (j : Fin 512) :
    (win0_4.blk t).view.emb (ix2 i j)
      = (ix2 ⟨t.val / 4 * 1024 + i.val, by have := t_lt t; omega⟩ ⟨t.val % 4 * 512 + j.val, by omega⟩ : S16384x2048.Idx) := by
  funext a; apply Fin.ext
  have h := congrFun (index4 t)
  match a with
  | ⟨0, _⟩ => show win0_4.index t 0 * 1024 + 1 * i.val = _; rw [h 0]; show t.val / 4 * 1024 + 1 * i.val = t.val / 4 * 1024 + i.val; omega
  | ⟨1, _⟩ => show win0_4.index t 1 * 512 + 1 * j.val = _; rw [h 1]; show t.val % 4 * 512 + 1 * j.val = t.val % 4 * 512 + j.val; omega

/-- The result at row `r`, lane `n`. -/
def outA (a : Vec Ideal S16384x5632 .bf16) (w : Vec Ideal S5632x2048 .bf16) (x : Vec Ideal S16384x2048 .f32)
    (g : Vec Ideal S8x12288 .f32) (r : Fin 16384) (n : Fin 2048) : EReal :=
  x (ix2 r n) + g (ix2 ⟨r.val / 256 / 16, by omega⟩ ⟨10240 + n.val, by omega⟩)
    * ∑ k : Fin 5632, a (ix2 r k) * w (ix2 k n)

/-- The whole result array. -/
def whole (a : Vec Ideal S16384x5632 .bf16) (w : Vec Ideal S5632x2048 .bf16) (x : Vec Ideal S16384x2048 .f32)
    (g : Vec Ideal S8x12288 .f32) : Vec Ideal S16384x2048 .f32 := fun u => outA a w x g (u 0) (u 1)

/-- What a grid point writes back, for any four arrays. -/
theorem read_whole (c : Dev nD) (t : Fin cfg0.N) (a : Vec Ideal S16384x5632 .bf16) (w : Vec Ideal S5632x2048 .bf16)
    (x : Vec Ideal S16384x2048 .f32) (g : Vec Ideal S8x12288 .f32) :
    out0_A_4 (F := Ideal) c (grid0.coords t) (ms0_0 t) (hs0_0 t) (ms0_1 t) (hs0_1 t) (ms0_2 t) (hs0_2 t) (ms0_3 t) (hs0_3 t)
        (ms0_4 t) (hs0_4 t) ((win0_0.blk t).view.read (Elt Ideal) a) ((win0_1.blk t).view.read (Elt Ideal) w)
        ((win0_2.blk t).view.read (Elt Ideal) x) ((win0_3.blk t).view.read (Elt Ideal) g)
      = (win0_4.blk t).view.read (Elt Ideal) (whole a w x g) := by
  funext y
  have key : ∀ y : S1024x512.Idx, out0_A_4 (F := Ideal) c (grid0.coords t) (ms0_0 t) (hs0_0 t) (ms0_1 t) (hs0_1 t) (ms0_2 t) (hs0_2 t)
        (ms0_3 t) (hs0_3 t) (ms0_4 t) (hs0_4 t) ((win0_0.blk t).view.read (Elt Ideal) a) ((win0_1.blk t).view.read (Elt Ideal) w)
        ((win0_2.blk t).view.read (Elt Ideal) x) ((win0_3.blk t).view.read (Elt Ideal) g) y
      = whole a w x g ((win0_4.blk t).view.emb y) := by
    intro y
    idx_vars y
    rw [out_apply, emb4]
    have hq : (t.val / 4 * 1024 + y0.val) / 256 = t.val / 4 * 4 + y0.val / 256 := by omega
    show _ = outA a w x g ⟨t.val / 4 * 1024 + y0.val, _⟩ ⟨t.val % 4 * 512 + y1.val, _⟩
    unfold outB outA
    simp only [hq]
    refine congrArg₂ (· + ·) (congrArg x (emb2 t y0 y1)) (congrArg₂ (· * ·) (congrArg g (emb3 t _ y1)) ?_)
    exact Finset.sum_congr rfl fun k _ => congrArg₂ (· * ·) (congrArg a (emb0 t y0 k)) (congrArg w (emb1 t k y1))
  exact key y

variable (m : (ℓ : Loc nD τ sig) → Buf (Elt Ideal) ℓ)

/-- The arrays of activations, weights, residual and gates the kernel is launched on. -/
def arrA (c : Dev nD) : Vec Ideal S16384x5632 .bf16 := V m c main_arg0
def arrW (c : Dev nD) : Vec Ideal S5632x2048 .bf16 := V m c main_v0
def arrX (c : Dev nD) : Vec Ideal S16384x2048 .f32 := V m c main_arg2
def arrG (c : Dev nD) : Vec Ideal S8x12288 .f32 := V m c main_arg3

/-- The four arguments. -/
def argA (c : Dev nD) : Vec Ideal S16384x5632 .bf16 := m ((c.tc : Thread nD τ).loc main_arg0)
def argW (c : Dev nD) : Vec Ideal S5632x2048 .f32 := m ((c.tc : Thread nD τ).loc main_arg1)
def argX (c : Dev nD) : Vec Ideal S16384x2048 .f32 := m ((c.tc : Thread nD τ).loc main_arg2)
def argG (c : Dev nD) : Vec Ideal S8x12288 .f32 := m ((c.tc : Thread nD τ).loc main_arg3)

/-- The weights are launched on as they are, but for their format. -/
theorem arrW_apply (c : Dev nD) (k : Fin 5632) (n : Fin 2048) : arrW m c (ix2 k n) = argW m c (ix2 k n) := by
  unfold arrW V
  after_reads_at
  rfl

/-- The result array. -/
def G (c : Dev nD) : Buf (Elt Ideal) ((c : Thread nD τ).loc main_v1) := whole (arrA m c) (arrW m c) (arrX m c) (arrG m c)

/-- What a grid point writes back is its block of the whole array. -/
theorem flushed_eq (c : Dev nD) (t : Fin cfg0.N) :
    (dats m 0 c).flushed 4 t = (win0_4.blk t).view.read (Elt Ideal) (G m c) := by
  rw [Value.flushed4_A]
  exact read_whole c t (arrA m c) (arrW m c) (arrX m c) (arrG m c)

/-- Every index of the result lies in the block of some grid point. -/
theorem cover (i : S16384x2048.Idx) :
    ∃ t : Fin cfg0.N, (cfg0.win 4).flush t = true ∧ i ∈ ((cfg0.win 4).blk t).view.set := by
  have h0 : (i 0 : Nat) < 16384 := (i 0).isLt
  have h1 : (i 1 : Nat) < 2048 := (i 1).isLt
  refine ⟨⟨(i 0 : Nat) / 1024 * 4 + (i 1 : Nat) / 512, by show _ < grid0.N; rw [Gen.N_0]; omega⟩, flush0_4 _, ?_⟩
  generalize ht : (⟨(i 0 : Nat) / 1024 * 4 + (i 1 : Nat) / 512, by show _ < grid0.N; rw [Gen.N_0]; omega⟩ : Fin grid0.N) = t
  have hv : t.val = (i 0 : Nat) / 1024 * 4 + (i 1 : Nat) / 512 := by rw [← ht]
  show i ∈ ((View.whole main_v1).slice (win0_4.rect t)).set
  rw [View.set_slice_whole, Rect.mem_set_unit]
  have h := congrFun (index4 t)
  intro a
  match a with
  | ⟨0, _⟩ => show win0_4.index t 0 * 1024 ≤ (i 0 : Nat) ∧ (i 0 : Nat) < win0_4.index t 0 * 1024 + 1024
              rw [h 0]; show t.val / 4 * 1024 ≤ (i 0 : Nat) ∧ (i 0 : Nat) < t.val / 4 * 1024 + 1024; omega
  | ⟨1, _⟩ => show win0_4.index t 1 * 512 ≤ (i 1 : Nat) ∧ (i 1 : Nat) < win0_4.index t 1 * 512 + 512
              rw [h 1]; show t.val % 4 * 512 ≤ (i 1 : Nat) ∧ (i 1 : Nat) < t.val % 4 * 512 + 512; omega

/-- So the result array ends as the whole function. -/
theorem final (c : Dev nD) : (dats m 0 c).arrAt 4 cfg0.N = G m c :=
  (dats m 0 c).arrAt_eq_of_cover 4 (G m c) (fun t _ => flushed_eq m c t) cover

/-- The result at a row and a lane, from the arguments. -/
theorem G_apply (c : Dev nD) (r : Fin 16384) (n : Fin 2048) :
    G m c (ix2 r n) = argX m c (ix2 r n)
      + argG m c (ix2 ⟨r.val / 256 / 16, by omega⟩ ⟨10240 + n.val, by omega⟩)
        * ∑ k : Fin 5632, argA m c (ix2 r k) * argW m c (ix2 k n) := by
  show outA (arrA m c) (arrW m c) (arrX m c) (arrG m c) r n = _
  unfold outA
  simp only [arrW_apply]
  rw [show arrA m c = argA m c from V_main_arg0 m c, show arrX m c = argX m c from V_main_arg2 m c,
    show arrG m c = argG m c from V_main_arg3 m c]

end Cert.DownLat

end
-- ==== Proof.DownLatRef.lean ====
module

public import proofs.«01_k».proof.Proof.Gen.ReferenceDownLatIdeal.Read
public import Idealize.ShloMosaic.Lib.Pointwise

/-! The reference of the feed-forward's second projection over latent rows, at one element. -/

@[expose] public section

set_option maxRecDepth 16384

noncomputable section

namespace Cert.DownLat

open Idealize.ShloMosaic Cert.ReferenceDownLatIdeal Cert.ReferenceDownLatIdeal.Gen Cert.ReferenceDownLatIdeal.Read

variable (x0 : Vec Ideal S16384x5632 .bf16) (x1 : Vec Ideal S5632x2048 .f32) (x2 : Vec Ideal S16384x2048 .f32)
  (x3 : Vec Ideal S8x12288 .f32)

theorem ref_apply (r : Fin 16384) (n : Fin 2048) :
    val_main_v15 (F := Ideal) x0 x1 x2 x3 (ix2 r n)
      = x2 (ix2 r n) + x3 (ix2 ⟨r.val / 4096, by omega⟩ ⟨10240 + n.val, by omega⟩)
        * ∑ k : Fin 5632, x0 (ix2 r k) * x1 (ix2 k n) := by
  pointwise [val_main_v15, val_main_v14, val_main_v13, val_main_v12, val_main_v11, val_main_v10, val_main_v9, val_main_v3,
    val_main_v2, val_main_v1, val_main_v0]

end Cert.DownLat

end
-- ==== Proof.DownLatClaims.lean ====
module

public import proofs.«01_k».proof.Defs
public import proofs.«01_k».proof.Proof.Gen.KernelDownLat.Frame
public import proofs.«01_k».proof.Proof.DownLatArray
public import proofs.«01_k».proof.Proof.DownLatRef
public import Idealize.ShloMosaic.Adequacy
public import Idealize.ShloMosaic.Init

/-! The claims about the feed-forward's second projection over latent rows. -/

@[expose] public section

set_option maxRecDepth 16384

noncomputable section

namespace Cert.DownLat

open Idealize.ShloMosaic Idealize.ShloMosaic.TcCoe Idealize.SL.Sem Cert.KernelDownLatIdeal Cert.Rows

/-- The reference's result, on the kernel's arguments, is the kernel's result array. -/
theorem result_eq (m : (ℓ : Loc nD τ sig) → Buf (Elt Ideal) ℓ) (c : Dev nD) :
    Cert.ReferenceDownLatIdeal.Read.val_main_v15 (F := Ideal) (argA m c) (argW m c) (argX m c) (argG m c) = G m c := by
  funext u
  idx_vars u
  refine Eq.trans ?_ (G_apply m c u0 u1).symm
  have hg : u0.val / 256 / 16 = u0.val / 4096 := by omega
  refine (ref_apply _ _ _ _ u0 u1).trans ?_
  simp only [hg]

theorem frame_reference : Cert.quiescent_ReferenceDownLatIdeal := fun m ρ _ =>
  (θ_run Cert.ReferenceDownLatIdeal.defs _ _).mono
    (fun r h => ⟨fun c => ⟨(h c).2.1, (h c).2.2.1, (h c).2.2.2.1, (h c).2.2.2.2⟩,
      Idealize.ShloMosaic.sem_eq_zero_of_no_sems (by decide) r.2⟩)
    (Cert.ReferenceDownLatIdeal.Value.run (F := Ideal) m ρ)

theorem algebraic : Cert.algebraic_KernelDownLatIdeal_ReferenceDownLatIdeal := by
  intro m ρ m' ρ' _ hagree
  refine ⟨fun c => G m c, ?_, ?_⟩
  · exact (θ_run Cert.KernelDownLatIdeal.defs _ _).mono (fun r h c => ⟨(h c).1.trans (final m c), (h c).2⟩)
      (Cert.KernelDownLatIdeal.Value.run_blocks m ρ)
  · refine (θ_run Cert.ReferenceDownLatIdeal.defs _ _).mono (fun r h c => ⟨(h c).1.trans ?_, (h c).2⟩)
      (Cert.ReferenceDownLatIdeal.Value.run (F := Ideal) m' ρ')
    rw [Cert.ReferenceDownLatIdeal.Read.val_main_v15_eq]
    obtain ⟨e0, e1, e2, e3⟩ := hagree c
    rw [e0, e1, e2, e3]
    exact result_eq m c

end Cert.DownLat

end
-- ==== Proof.OutBlock.lean ====
module

public import proofs.«01_k».proof.Proof.Gen.KernelOutIdeal.Value
public import proofs.«01_k».proof.Proof.Rows

/-! What one grid point of the time mixing's output projection computes from the blocks it loads: the residual plus the
    gate row of the point's batch (or of the context) times the product of the read-outs with the weights. -/

@[expose] public section

set_option maxRecDepth 16384

noncomputable section

namespace Cert.Out

open Idealize.ShloMosaic Idealize.ShloMosaic.TcCoe Idealize.SL.Sem Cert.KernelOutIdeal Cert.KernelOutIdeal.Gen Cert.Rows

/-- The row of gates the kernel reads for each quarter of its block. -/
theorem gate_off : ∀ (t : Fin grid0.N) (s : Fin 4),
    k0_off1 (grid0.coords t) (BitVec.ofNat 32 s.val) = ![gateRow (t.val / 4 * 4 + s.val), 0] := by decide +kernel

theorem t_lt (t : Fin grid0.N) : t.val < 68 := by have h := t.isLt; simpa only [Gen.N_0] using h

/-- The result block of one grid point, entry by entry. -/
def outB (t : Fin grid0.N) (a : Vec Ideal S1024x2048 .bf16) (w : Vec Ideal S2048x512 .bf16) (x : Vec Ideal S1024x512 .f32)
    (g : Vec Ideal S8x512 .f32) (i : Fin 1024) (j : Fin 512) : EReal :=
  x (ix2 i j) + g (ix2 ⟨gateRow (t.val / 4 * 4 + i.val / 256), gateRow_lt _ (by have := t_lt t; omega)⟩ j)
    * ∑ k : Fin 2048, a (ix2 i k) * w (ix2 k j)

theorem pay2_apply (a : Vec Ideal S1024x2048 .bf16) (w : Vec Ideal S2048x512 .bf16) (i : Fin 1024) (j : Fin 512) :
    k0_pay2 (F := Ideal) a w (ix2 i j) = ∑ k : Fin 2048, a (ix2 i k) * w (ix2 k j) := by
  pointwise [k0_pay2]

theorem pay3_apply (a : Vec Ideal S1024x2048 .bf16) (w : Vec Ideal S2048x512 .bf16) (x : Vec Ideal S256x512 .f32)
    (g : Vec Ideal S1x512 .f32) (i : Fin 256) (j : Fin 512) :
    k0_pay3 (F := Ideal) a w x g (ix2 i j) = x (ix2 i j) + g (ix2 0 j) * k0_pay2 (F := Ideal) a w (ix2 ⟨0 * 256 + i.val, by omega⟩ j) := by
  rw [show (⟨0 * 256 + i.val, by omega⟩ : Fin 1024) = ⟨i.val, by omega⟩ from Fin.ext (by show 0 * 256 + i.val = i.val; omega)]
  unfold k0_pay3
  generalize k0_pay2 (F := Ideal) a w = y
  pointwise []

theorem pay4_apply (y : FVec Ideal S1024x512 .f32) (x : Vec Ideal S256x512 .f32) (g : Vec Ideal S1x512 .f32) (i : Fin 256) (j : Fin 512) :
    k0_pay4 (F := Ideal) y x g (ix2 i j) = x (ix2 i j) + g (ix2 0 j) * y (ix2 ⟨256 + i.val, by omega⟩ j) := by
  pointwise [k0_pay4]

theorem pay5_apply (y : FVec Ideal S1024x512 .f32) (x : Vec Ideal S256x512 .f32) (g : Vec Ideal S1x512 .f32) (i : Fin 256) (j : Fin 512) :
    k0_pay5 (F := Ideal) y x g (ix2 i j) = x (ix2 i j) + g (ix2 0 j) * y (ix2 ⟨512 + i.val, by omega⟩ j) := by
  pointwise [k0_pay5]

theorem pay1_apply (y : FVec Ideal S1024x512 .f32) (x : Vec Ideal S256x512 .f32) (g : Vec Ideal S1x512 .f32) (i : Fin 256) (j : Fin 512) :
    k0_pay1 (F := Ideal) y x g (ix2 i j) = x (ix2 i j) + g (ix2 0 j) * y (ix2 ⟨768 + i.val, by omega⟩ j) := by
  pointwise [k0_pay1]

/-- A quarter of the block, whichever of the four stored values it is, once that value is read at an entry. -/
theorem piece (t : Fin cfg0.N) (a : Vec Ideal S1024x2048 .bf16) (w : Vec Ideal S2048x512 .bf16) (x : Vec Ideal S1024x512 .f32)
    (g : Vec Ideal S8x512 .f32) (s : Fin 4) (h : ∀ a, ![s.val * 256, 0] a + ![256, 512] a ≤ S1024x512.size a)
    (hg : ∀ a, k0_off1 (grid0.coords t) (BitVec.ofNat 32 s.val) a + ![1, 512] a ≤ S8x512.size a) (v : FVec Ideal S256x512 .f32)
    (hv : ∀ (i : Fin 256) (j : Fin 512), v (ix2 i j)
      = View.ld x (Rect.unit (s := S1024x512) ![s.val * 256, 0] ![256, 512] h) (ix2 i j)
        + View.ld g (Rect.unit (s := S8x512) (k0_off1 (grid0.coords t) (BitVec.ofNat 32 s.val)) ![1, 512] hg) (ix2 0 j)
          * k0_pay2 (F := Ideal) a w (ix2 ⟨s.val * 256 + i.val, by omega⟩ j)) (u : S256x512.Idx) :
    v u = outB t a w x g ((Rect.unit (s := S1024x512) ![s.val * 256, 0] ![256, 512] h).emb u 0)
      ((Rect.unit (s := S1024x512) ![s.val * 256, 0] ![256, 512] h).emb u 1) := by
  idx_vars u
  have hlt : s.val * 256 + u0.val < 1024 := by omega
  have e0 : (Rect.unit (s := S1024x512) ![s.val * 256, 0] ![256, 512] h).emb (ix2 u0 u1) 0 = (⟨s.val * 256 + u0.val, hlt⟩ : Fin 1024) :=
    Fin.ext (by show s.val * 256 + 1 * u0.val = s.val * 256 + u0.val; omega)
  have e1 : (Rect.unit (s := S1024x512) ![s.val * 256, 0] ![256, 512] h).emb (ix2 u0 u1) 1 = u1 :=
    Fin.ext (by show 0 + 1 * u1.val = u1.val; omega)
  have hq : (s.val * 256 + u0.val) / 256 = s.val := by omega
  rw [e0, e1, hv, pay2_apply, row_ld g _ hg ⟨gateRow (t.val / 4 * 4 + s.val), gateRow_lt _ (by have := t_lt t; omega)⟩ (gate_off t s)]
  unfold outB
  simp only [hq]
  refine congrArg (· + _) (congrArg x (funext fun a => Fin.ext ?_))
  match a with
  | ⟨0, _⟩ => show s.val * 256 + 1 * u0.val = s.val * 256 + u0.val; omega
  | ⟨1, _⟩ => show 0 + 1 * u1.val = u1.val; omega

theorem out_apply (c : Dev nD) (t : Fin cfg0.N) (a : Vec Ideal S1024x2048 .bf16) (w : Vec Ideal S2048x512 .bf16)
    (x : Vec Ideal S1024x512 .f32) (g : Vec Ideal S8x512 .f32) (i : Fin 1024) (j : Fin 512) :
    out0_A_4 (F := Ideal) c (grid0.coords t) (ms0_0 t) (hs0_0 t) (ms0_1 t) (hs0_1 t) (ms0_2 t) (hs0_2 t) (ms0_3 t) (hs0_3 t)
      (ms0_4 t) (hs0_4 t) a w x g (ix2 i j) = outB t a w x g i j := by
  unfold out0_A_4
  rw [View.read_writes_eq_canon _ _ _ (cover0_A_4 c (grid0.coords t) (ms0_0 t) (hs0_0 t) (ms0_1 t) (hs0_1 t) (ms0_2 t) (hs0_2 t) (ms0_3 t) (hs0_3 t) (ms0_4 t) (hs0_4 t) a w x g)]
  rw [View.canon_apply_of_pieces (fun u : S1024x512.Idx => outB t a w x g (u 0) (u 1)) _ ?_ _ (cover0_A_4 c (grid0.coords t) (ms0_0 t) (hs0_0 t) (ms0_1 t) (hs0_1 t) (ms0_2 t) (hs0_2 t) (ms0_3 t) (hs0_3 t) (ms0_4 t) (hs0_4 t) a w x g _)]
  · rfl
  · unfold kernelRun0_A
    dsimp only
    sl_unfold_run_names
    simp only [View.readAt_eq_ld, (hs0_0 t).read_unread, (hs0_1 t).read_unread, (hs0_2 t).read_unread, (hs0_3 t).read_unread]
    rw [View.ld_unit_zero (S := S1024x2048) hz, View.ld_unit_zero (S := S2048x512) hz]
    intro p hp
    simp only [List.mem_cons, List.not_mem_nil, or_false] at hp
    rcases hp with rfl | rfl | rfl | rfl
    · exact piece t a w x g 3 _ _ _ fun i j => pay1_apply _ _ _ i j
    · exact piece t a w x g 2 _ _ _ fun i j => pay5_apply _ _ _ i j
    · exact piece t a w x g 1 _ _ _ fun i j => pay4_apply _ _ _ i j
    · exact piece t a w x g 0 _ _ _ fun i j => pay3_apply a w _ _ i j

end Cert.Out

end
-- ==== Proof.OutArray.lean ====
module

public import proofs.«01_k».proof.Proof.OutBlock
public import Idealize.ShloMosaic.Lib.StableHlo.ReadAt

/-! The time mixing output projection's result array as one function of the arrays the kernel is launched on, and so of the arguments:
    every block of every grid point is a block of that function, and the blocks fill the array. -/

@[expose] public section

set_option maxRecDepth 16384

noncomputable section

namespace Cert.Out

open Idealize.ShloMosaic Idealize.ShloMosaic.TcCoe Idealize.SL.Sem Cert.KernelOutIdeal Cert.KernelOutIdeal.Gen Cert.Rows
open Idealize.ShloMosaic.Pipeline (Dat)

/-- Where each window's block lies at a grid point. -/
theorem index0 : ∀ t : Fin grid0.N, win0_0.index t = ![t.val / 4, 0] := by decide +kernel
theorem index1 : ∀ t : Fin grid0.N, win0_1.index t = ![0, t.val % 4] := by decide +kernel
theorem index2 : ∀ t : Fin grid0.N, win0_2.index t = ![t.val / 4, t.val % 4] := by decide +kernel
theorem index3 : ∀ t : Fin grid0.N, win0_3.index t = ![0, 8 + t.val % 4] := by decide +kernel
theorem index4 : ∀ t : Fin grid0.N, win0_4.index t = ![t.val / 4, t.val % 4] := by decide +kernel

/-- The array index of a block index, window by window. -/
theorem emb0 (t : Fin grid0.N) (i : Fin 1024) (k : Fin 2048) :
    (win0_0.blk t).view.emb (ix2 i k) = (ix2 ⟨t.val / 4 * 1024 + i.val, by have := t_lt t; omega⟩ k : S17408x2048.Idx) := by
  funext a; apply Fin.ext
  have h := congrFun (index0 t)
  match a with
  | ⟨0, _⟩ => show win0_0.index t 0 * 1024 + 1 * i.val = _; rw [h 0]; show t.val / 4 * 1024 + 1 * i.val = t.val / 4 * 1024 + i.val; omega
  | ⟨1, _⟩ => show win0_0.index t 1 * 2048 + 1 * k.val = _; rw [h 1]; show 0 * 2048 + 1 * k.val = k.val; omega

theorem emb1 (t : Fin grid0.N) (k : Fin 2048) (j : Fin 512) :
    (win0_1.blk t).view.emb (ix2 k j) = (ix2 k ⟨t.val % 4 * 512 + j.val, by omega⟩ : S2048x2048.Idx) := by
  funext a; apply Fin.ext
  have h := congrFun (index1 t)
  match a with
  | ⟨0, _⟩ => show win0_1.index t 0 * 2048 + 1 * k.val = _; rw [h 0]; show 0 * 2048 + 1 * k.val = k.val; omega
  | ⟨1, _⟩ => show win0_1.index t 1 * 512 + 1 * j.val = _; rw [h 1]; show t.val % 4 * 512 + 1 * j.val = t.val % 4 * 512 + j.val; omega

theorem emb2 (t : Fin grid0.N) (i : Fin 1024) (j : Fin 512) :
    (win0_2.blk t).view.emb (ix2 i j)
      = (ix2 ⟨t.val / 4 * 1024 + i.val, by have := t_lt t; omega⟩ ⟨t.val % 4 * 512 + j.val, by omega⟩ : S17408x2048.Idx) := by
  funext a; apply Fin.ext
  have h := congrFun (index2 t)
  match a with
  | ⟨0, _⟩ => show win0_2.index t 0 * 1024 + 1 * i.val = _; rw [h 0]; show t.val / 4 * 1024 + 1 * i.val = t.val / 4 * 1024 + i.val; omega
  | ⟨1, _⟩ => show win0_2.index t 1 * 512 + 1 * j.val = _; rw [h 1]; show t.val % 4 * 512 + 1 * j.val = t.val % 4 * 512 + j.val; omega

theorem emb3 (t : Fin grid0.N) (i : Fin 8) (j : Fin 512) :
    (win0_3.blk t).view.emb (ix2 i j) = (ix2 i ⟨4096 + (t.val % 4 * 512 + j.val), by omega⟩ : S8x12288.Idx) := by
  funext a; apply Fin.ext
  have h := congrFun (index3 t)
  match a with
  | ⟨0, _⟩ => show win0_3.index t 0 * 8 + 1 * i.val = _; rw [h 0]; show 0 * 8 + 1 * i.val = i.val; omega
  | ⟨1, _⟩ => show win0_3.index t 1 * 512 + 1 * j.val = _; rw [h 1]; show (8 + t.val % 4) * 512 + 1 * j.val = 4096 + (t.val % 4 * 512 + j.val); omega

theorem emb4 (t : Fin grid0.N) (i : Fin 1024) (j : Fin 512) :
    (win0_4.blk t).view.emb (ix2 i j)
      = (ix2 ⟨t.val / 4 * 1024 + i.val, by have := t_lt t; omega⟩ ⟨t.val % 4 * 512 + j.val, by omega⟩ : S17408x2048.Idx) := by
  funext a; apply Fin.ext
  have h := congrFun (index4 t)
  match a with
  | ⟨0, _⟩ => show win0_4.index t 0 * 1024 + 1 * i.val = _; rw [h 0]; show t.val / 4 * 1024 + 1 * i.val = t.val / 4 * 1024 + i.val; omega
  | ⟨1, _⟩ => show win0_4.index t 1 * 512 + 1 * j.val = _; rw [h 1]; show t.val % 4 * 512 + 1 * j.val = t.val % 4 * 512 + j.val; omega

/-- The result at row `r`, lane `n`. -/
def outA (a : Vec Ideal S17408x2048 .bf16) (w : Vec Ideal S2048x2048 .bf16) (x : Vec Ideal S17408x2048 .f32)
    (g : Vec Ideal S8x12288 .f32) (r : Fin 17408) (n : Fin 2048) : EReal :=
  x (ix2 r n) + g (ix2 ⟨gateRow (r.val / 256), gateRow_lt _ (by omega)⟩ ⟨4096 + n.val, by omega⟩)
    * ∑ k : Fin 2048, a (ix2 r k) * w (ix2 k n)

/-- The whole result array. -/
def whole (a : Vec Ideal S17408x2048 .bf16) (w : Vec Ideal S2048x2048 .bf16) (x : Vec Ideal S17408x2048 .f32)
    (g : Vec Ideal S8x12288 .f32) : Vec Ideal S17408x2048 .f32 := fun u => outA a w x g (u 0) (u 1)

/-- What a grid point writes back, for any four arrays. -/
theorem read_whole (c : Dev nD) (t : Fin cfg0.N) (a : Vec Ideal S17408x2048 .bf16) (w : Vec Ideal S2048x2048 .bf16)
    (x : Vec Ideal S17408x2048 .f32) (g : Vec Ideal S8x12288 .f32) :
    out0_A_4 (F := Ideal) c (grid0.coords t) (ms0_0 t) (hs0_0 t) (ms0_1 t) (hs0_1 t) (ms0_2 t) (hs0_2 t) (ms0_3 t) (hs0_3 t)
        (ms0_4 t) (hs0_4 t) ((win0_0.blk t).view.read (Elt Ideal) a) ((win0_1.blk t).view.read (Elt Ideal) w)
        ((win0_2.blk t).view.read (Elt Ideal) x) ((win0_3.blk t).view.read (Elt Ideal) g)
      = (win0_4.blk t).view.read (Elt Ideal) (whole a w x g) := by
  funext y
  have key : ∀ y : S1024x512.Idx, out0_A_4 (F := Ideal) c (grid0.coords t) (ms0_0 t) (hs0_0 t) (ms0_1 t) (hs0_1 t) (ms0_2 t) (hs0_2 t)
        (ms0_3 t) (hs0_3 t) (ms0_4 t) (hs0_4 t) ((win0_0.blk t).view.read (Elt Ideal) a) ((win0_1.blk t).view.read (Elt Ideal) w)
        ((win0_2.blk t).view.read (Elt Ideal) x) ((win0_3.blk t).view.read (Elt Ideal) g) y
      = whole a w x g ((win0_4.blk t).view.emb y) := by
    intro y
    idx_vars y
    rw [out_apply, emb4]
    have hq : (t.val / 4 * 1024 + y0.val) / 256 = t.val / 4 * 4 + y0.val / 256 := by omega
    show _ = outA a w x g ⟨t.val / 4 * 1024 + y0.val, _⟩ ⟨t.val % 4 * 512 + y1.val, _⟩
    unfold outB outA
    simp only [hq]
    refine congrArg₂ (· + ·) (congrArg x (emb2 t y0 y1)) (congrArg₂ (· * ·) (congrArg g (emb3 t _ y1)) ?_)
    exact Finset.sum_congr rfl fun k _ => congrArg₂ (· * ·) (congrArg a (emb0 t y0 k)) (congrArg w (emb1 t k y1))
  exact key y

variable (m : (ℓ : Loc nD τ sig) → Buf (Elt Ideal) ℓ)

/-- The arrays of read-outs, weights, residual and gates the kernel is launched on. -/
def arrA (c : Dev nD) : Vec Ideal S17408x2048 .bf16 := V m c main_arg0
def arrW (c : Dev nD) : Vec Ideal S2048x2048 .bf16 := V m c main_v0
def arrX (c : Dev nD) : Vec Ideal S17408x2048 .f32 := V m c main_arg2
def arrG (c : Dev nD) : Vec Ideal S8x12288 .f32 := V m c main_arg3

/-- The four arguments. -/
def argA (c : Dev nD) : Vec Ideal S17408x2048 .bf16 := m ((c.tc : Thread nD τ).loc main_arg0)
def argW (c : Dev nD) : Vec Ideal S2048x2048 .f32 := m ((c.tc : Thread nD τ).loc main_arg1)
def argX (c : Dev nD) : Vec Ideal S17408x2048 .f32 := m ((c.tc : Thread nD τ).loc main_arg2)
def argG (c : Dev nD) : Vec Ideal S8x12288 .f32 := m ((c.tc : Thread nD τ).loc main_arg3)

/-- The weights are launched on as they are, but for their format. -/
theorem arrW_apply (c : Dev nD) (k : Fin 2048) (n : Fin 2048) : arrW m c (ix2 k n) = argW m c (ix2 k n) := by
  unfold arrW V
  after_reads_at
  rfl

/-- The result array. -/
def G (c : Dev nD) : Buf (Elt Ideal) ((c : Thread nD τ).loc main_v1) := whole (arrA m c) (arrW m c) (arrX m c) (arrG m c)

/-- What a grid point writes back is its block of the whole array. -/
theorem flushed_eq (c : Dev nD) (t : Fin cfg0.N) :
    (dats m 0 c).flushed 4 t = (win0_4.blk t).view.read (Elt Ideal) (G m c) := by
  rw [Value.flushed4_A]
  exact read_whole c t (arrA m c) (arrW m c) (arrX m c) (arrG m c)

/-- Every index of the result lies in the block of some grid point. -/
theorem cover (i : S17408x2048.Idx) :
    ∃ t : Fin cfg0.N, (cfg0.win 4).flush t = true ∧ i ∈ ((cfg0.win 4).blk t).view.set := by
  have h0 : (i 0 : Nat) < 17408 := (i 0).isLt
  have h1 : (i 1 : Nat) < 2048 := (i 1).isLt
  refine ⟨⟨(i 0 : Nat) / 1024 * 4 + (i 1 : Nat) / 512, by show _ < grid0.N; rw [Gen.N_0]; omega⟩, flush0_4 _, ?_⟩
  generalize ht : (⟨(i 0 : Nat) / 1024 * 4 + (i 1 : Nat) / 512, by show _ < grid0.N; rw [Gen.N_0]; omega⟩ : Fin grid0.N) = t
  have hv : t.val = (i 0 : Nat) / 1024 * 4 + (i 1 : Nat) / 512 := by rw [← ht]
  show i ∈ ((View.whole main_v1).slice (win0_4.rect t)).set
  rw [View.set_slice_whole, Rect.mem_set_unit]
  have h := congrFun (index4 t)
  intro a
  match a with
  | ⟨0, _⟩ => show win0_4.index t 0 * 1024 ≤ (i 0 : Nat) ∧ (i 0 : Nat) < win0_4.index t 0 * 1024 + 1024
              rw [h 0]; show t.val / 4 * 1024 ≤ (i 0 : Nat) ∧ (i 0 : Nat) < t.val / 4 * 1024 + 1024; omega
  | ⟨1, _⟩ => show win0_4.index t 1 * 512 ≤ (i 1 : Nat) ∧ (i 1 : Nat) < win0_4.index t 1 * 512 + 512
              rw [h 1]; show t.val % 4 * 512 ≤ (i 1 : Nat) ∧ (i 1 : Nat) < t.val % 4 * 512 + 512; omega

/-- So the result array ends as the whole function. -/
theorem final (c : Dev nD) : (dats m 0 c).arrAt 4 cfg0.N = G m c :=
  (dats m 0 c).arrAt_eq_of_cover 4 (G m c) (fun t _ => flushed_eq m c t) cover

/-- The result at a row and a lane, from the arguments. -/
theorem G_apply (c : Dev nD) (r : Fin 17408) (n : Fin 2048) :
    G m c (ix2 r n) = argX m c (ix2 r n)
      + argG m c (ix2 ⟨gateRow (r.val / 256), gateRow_lt _ (by omega)⟩ ⟨4096 + n.val, by omega⟩)
        * ∑ k : Fin 2048, argA m c (ix2 r k) * argW m c (ix2 k n) := by
  show outA (arrA m c) (arrW m c) (arrX m c) (arrG m c) r n = _
  unfold outA
  simp only [arrW_apply]
  rw [show arrA m c = argA m c from V_main_arg0 m c, show arrX m c = argX m c from V_main_arg2 m c,
    show arrG m c = argG m c from V_main_arg3 m c]

end Cert.Out

end
-- ==== Proof.OutRef.lean ====
module

public import proofs.«01_k».proof.Proof.Gen.ReferenceOutIdeal.Read
public import Idealize.ShloMosaic.Lib.Pointwise

/-! The reference of the time mixing output projection at one element, for a context row and for a latent row of a batch. -/

@[expose] public section

set_option maxRecDepth 16384

noncomputable section

namespace Cert.Out

open Idealize.ShloMosaic Cert.ReferenceOutIdeal Cert.ReferenceOutIdeal.Gen Cert.ReferenceOutIdeal.Read

variable (x0 : Vec Ideal S17408x2048 .bf16) (x1 : Vec Ideal S2048x2048 .f32) (x2 : Vec Ideal S17408x2048 .f32)
  (x3 : Vec Ideal S8x12288 .f32)

theorem ref_ctx (b : Fin 4) (p : Fin 256) (n : Fin 2048) :
    val_main_v25 (F := Ideal) x0 x1 x2 x3 (ix3 b p n)
      = x2 (ix2 ⟨b.val * 4352 + p.val, by omega⟩ n) + x3 (ix2 4 ⟨4096 + n.val, by omega⟩)
        * ∑ k : Fin 2048, x0 (ix2 ⟨b.val * 4352 + p.val, by omega⟩ k) * x1 (ix2 k n) := by
  pointwise [val_main_v25, val_main_v24, val_main_v23, val_main_v22, val_main_v21, val_main_v20, val_main_v19, val_main_v15,
    val_main_v5, val_main_v4, val_main_v2, val_main_v1, val_main_v0]

theorem ref_lat (b : Fin 4) (p : Fin 4096) (n : Fin 2048) :
    val_main_v31 (F := Ideal) x0 x1 x2 x3 (ix3 b p n)
      = x2 (ix2 ⟨b.val * 4352 + (256 + p.val), by omega⟩ n) + x3 (ix2 ⟨b.val, by omega⟩ ⟨4096 + n.val, by omega⟩)
        * ∑ k : Fin 2048, x0 (ix2 ⟨b.val * 4352 + (256 + p.val), by omega⟩ k) * x1 (ix2 k n) := by
  pointwise [val_main_v31, val_main_v30, val_main_v29, val_main_v28, val_main_v27, val_main_v26, val_main_v12, val_main_v8,
    val_main_v3, val_main_v2, val_main_v1, val_main_v0]

theorem joined (X : FVec Ideal S4x256x2048 .f32) (Y : FVec Ideal S4x4096x2048 .f32) (r : Fin 17408) (n : Fin 2048) :
    (shapeCast S17408x2048 (concatenate S4x4352x2048 1 [⟨S4x256x2048, X⟩, ⟨S4x4096x2048, Y⟩]
        concatenates_S4x256x2048_S4x4096x2048_S4x4352x2048_d1) shapeCasts_S4x4352x2048_S17408x2048 : FVec Ideal S17408x2048 .f32) (ix2 r n)
      = if h : r.val % 4352 < 256 then X (ix3 ⟨r.val / 4352, by omega⟩ ⟨r.val % 4352, h⟩ n)
        else Y (ix3 ⟨r.val / 4352, by omega⟩ ⟨r.val % 4352 - 256, by omega⟩ n) := by
  pointwise []

end Cert.Out

end
-- ==== Proof.OutClaims.lean ====
module

public import proofs.«01_k».proof.Defs
public import proofs.«01_k».proof.Proof.Gen.KernelOut.Frame
public import proofs.«01_k».proof.Proof.OutArray
public import proofs.«01_k».proof.Proof.OutRef
public import Idealize.ShloMosaic.Adequacy
public import Idealize.ShloMosaic.Init

/-! The claims about the time mixing's output projection. -/

@[expose] public section

set_option maxRecDepth 16384

noncomputable section

namespace Cert.Out

open Idealize.ShloMosaic Idealize.ShloMosaic.TcCoe Idealize.SL.Sem Cert.KernelOutIdeal Cert.Rows

/-- The reference's result, on the kernel's arguments, is the kernel's result array. -/
theorem result_eq (m : (ℓ : Loc nD τ sig) → Buf (Elt Ideal) ℓ) (c : Dev nD) :
    Cert.ReferenceOutIdeal.Read.val_main_v33 (F := Ideal) (argA m c) (argW m c) (argX m c) (argG m c) = G m c := by
  funext u
  idx_vars u
  refine Eq.trans ?_ (G_apply m c u0 u1).symm
  unfold Cert.ReferenceOutIdeal.Read.val_main_v33 Cert.ReferenceOutIdeal.Read.val_main_v32
  refine (joined _ _ u0 u1).trans ?_
  by_cases h : u0.val % 4352 < 256
  · have hr : (⟨u0.val / 4352 * 4352 + u0.val % 4352, by omega⟩ : Fin 17408) = u0 := Fin.ext (by show u0.val / 4352 * 4352 + u0.val % 4352 = u0.val; omega)
    have hg : gateRow (u0.val / 256) = 4 := by unfold gateRow; rw [if_pos (by omega)]
    rw [dif_pos h, ref_ctx]
    simp only [hr, hg]
    rfl
  · have hr : (⟨u0.val / 4352 * 4352 + (256 + (u0.val % 4352 - 256)), by omega⟩ : Fin 17408) = u0 :=
      Fin.ext (by show u0.val / 4352 * 4352 + (256 + (u0.val % 4352 - 256)) = u0.val; omega)
    have hg : gateRow (u0.val / 256) = u0.val / 4352 := by unfold gateRow; rw [if_neg (by omega)]; omega
    rw [dif_neg h, ref_lat]
    simp only [hr, hg]

theorem frame_reference : Cert.quiescent_ReferenceOutIdeal := fun m ρ _ =>
  (θ_run Cert.ReferenceOutIdeal.defs _ _).mono
    (fun r h => ⟨fun c => ⟨(h c).2.1, (h c).2.2.1, (h c).2.2.2.1, (h c).2.2.2.2⟩,
      Idealize.ShloMosaic.sem_eq_zero_of_no_sems (by decide) r.2⟩)
    (Cert.ReferenceOutIdeal.Value.run (F := Ideal) m ρ)

theorem algebraic : Cert.algebraic_KernelOutIdeal_ReferenceOutIdeal := by
  intro m ρ m' ρ' _ hagree
  refine ⟨fun c => G m c, ?_, ?_⟩
  · exact (θ_run Cert.KernelOutIdeal.defs _ _).mono (fun r h c => ⟨(h c).1.trans (final m c), (h c).2⟩)
      (Cert.KernelOutIdeal.Value.run_blocks m ρ)
  · refine (θ_run Cert.ReferenceOutIdeal.defs _ _).mono (fun r h c => ⟨(h c).1.trans ?_, (h c).2⟩)
      (Cert.ReferenceOutIdeal.Value.run (F := Ideal) m' ρ')
    rw [Cert.ReferenceOutIdeal.Read.val_main_v33_eq]
    obtain ⟨e0, e1, e2, e3⟩ := hagree c
    rw [e0, e1, e2, e3]
    exact result_eq m c

end Cert.Out

end
-- ==== Proof.MlaOutBlock.lean ====
module

public import proofs.«01_k».proof.Proof.Gen.KernelMlaOutIdeal.Value
public import proofs.«01_k».proof.Proof.Rows

/-! What one grid point of the attention's output projection computes from the blocks it loads: the residual plus the
    gate row of the point's batch times the product of the heads with the weights. -/

@[expose] public section

set_option maxRecDepth 16384

noncomputable section

namespace Cert.MlaOut

open Idealize.ShloMosaic Idealize.ShloMosaic.TcCoe Idealize.SL.Sem Cert.KernelMlaOutIdeal Cert.KernelMlaOutIdeal.Gen Cert.Rows

/-- The row of gates the kernel reads for each quarter of its block. -/
theorem gate_off : ∀ (t : Fin grid0.N) (s : Fin 4),
    k0_off1 (grid0.coords t) (BitVec.ofNat 32 s.val) = ![(t.val / 4 * 4 + s.val) / 16, 0] := by decide +kernel

theorem t_lt (t : Fin grid0.N) : t.val < 64 := by have h := t.isLt; simpa only [Gen.N_0] using h

/-- The result block of one grid point, entry by entry. -/
def outB (t : Fin grid0.N) (a : Vec Ideal S1024x2048 .bf16) (w : Vec Ideal S2048x512 .bf16) (x : Vec Ideal S1024x512 .f32)
    (g : Vec Ideal S8x512 .f32) (i : Fin 1024) (j : Fin 512) : EReal :=
  x (ix2 i j) + g (ix2 ⟨(t.val / 4 * 4 + i.val / 256) / 16, by have := t_lt t; omega⟩ j)
    * ∑ k : Fin 2048, a (ix2 i k) * w (ix2 k j)

theorem pay1_apply (a : Vec Ideal S1024x2048 .bf16) (w : Vec Ideal S2048x512 .bf16) (i : Fin 1024) (j : Fin 512) :
    k0_pay1 (F := Ideal) a w (ix2 i j) = ∑ k : Fin 2048, a (ix2 i k) * w (ix2 k j) := by
  pointwise [k0_pay1]

theorem pay2_apply (a : Vec Ideal S1024x2048 .bf16) (w : Vec Ideal S2048x512 .bf16) (x : Vec Ideal S256x512 .f32)
    (g : Vec Ideal S1x512 .f32) (i : Fin 256) (j : Fin 512) :
    k0_pay2 (F := Ideal) a w x g (ix2 i j) = x (ix2 i j) + g (ix2 0 j) * k0_pay1 (F := Ideal) a w (ix2 ⟨0 * 256 + i.val, by omega⟩ j) := by
  rw [show (⟨0 * 256 + i.val, by omega⟩ : Fin 1024) = ⟨i.val, by omega⟩ from Fin.ext (by show 0 * 256 + i.val = i.val; omega)]
  unfold k0_pay2
  generalize k0_pay1 (F := Ideal) a w = y
  pointwise []

theorem pay3_apply (y : FVec Ideal S1024x512 .f32) (x : Vec Ideal S256x512 .f32) (g : Vec Ideal S1x512 .f32) (i : Fin 256) (j : Fin 512) :
    k0_pay3 (F := Ideal) y x g (ix2 i j) = x (ix2 i j) + g (ix2 0 j) * y (ix2 ⟨256 + i.val, by omega⟩ j) := by
  pointwise [k0_pay3]

theorem pay4_apply (y : FVec Ideal S1024x512 .f32) (x : Vec Ideal S256x512 .f32) (g : Vec Ideal S1x512 .f32) (i : Fin 256) (j : Fin 512) :
    k0_pay4 (F := Ideal) y x g (ix2 i j) = x (ix2 i j) + g (ix2 0 j) * y (ix2 ⟨512 + i.val, by omega⟩ j) := by
  pointwise [k0_pay4]

theorem pay5_apply (y : FVec Ideal S1024x512 .f32) (x : Vec Ideal S256x512 .f32) (g : Vec Ideal S1x512 .f32) (i : Fin 256) (j : Fin 512) :
    k0_pay5 (F := Ideal) y x g (ix2 i j) = x (ix2 i j) + g (ix2 0 j) * y (ix2 ⟨768 + i.val, by omega⟩ j) := by
  pointwise [k0_pay5]

/-- A quarter of the block, whichever of the four stored values it is, once that value is read at an entry. -/
theorem piece (t : Fin cfg0.N) (a : Vec Ideal S1024x2048 .bf16) (w : Vec Ideal S2048x512 .bf16) (x : Vec Ideal S1024x512 .f32)
    (g : Vec Ideal S8x512 .f32) (s : Fin 4) (h : ∀ a, ![s.val * 256, 0] a + ![256, 512] a ≤ S1024x512.size a)
    (hg : ∀ a, k0_off1 (grid0.coords t) (BitVec.ofNat 32 s.val) a + ![1, 512] a ≤ S8x512.size a) (v : FVec Ideal S256x512 .f32)
    (hv : ∀ (i : Fin 256) (j : Fin 512), v (ix2 i j)
      = View.ld x (Rect.unit (s := S1024x512) ![s.val * 256, 0] ![256, 512] h) (ix2 i j)
        + View.ld g (Rect.unit (s := S8x512) (k0_off1 (grid0.coords t) (BitVec.ofNat 32 s.val)) ![1, 512] hg) (ix2 0 j)
          * k0_pay1 (F := Ideal) a w (ix2 ⟨s.val * 256 + i.val, by omega⟩ j)) (u : S256x512.Idx) :
    v u = outB t a w x g ((Rect.unit (s := S1024x512) ![s.val * 256, 0] ![256, 512] h).emb u 0)
      ((Rect.unit (s := S1024x512) ![s.val * 256, 0] ![256, 512] h).emb u 1) := by
  idx_vars u
  have hlt : s.val * 256 + u0.val < 1024 := by omega
  have e0 : (Rect.unit (s := S1024x512) ![s.val * 256, 0] ![256, 512] h).emb (ix2 u0 u1) 0 = (⟨s.val * 256 + u0.val, hlt⟩ : Fin 1024) :=
    Fin.ext (by show s.val * 256 + 1 * u0.val = s.val * 256 + u0.val; omega)
  have e1 : (Rect.unit (s := S1024x512) ![s.val * 256, 0] ![256, 512] h).emb (ix2 u0 u1) 1 = u1 :=
    Fin.ext (by show 0 + 1 * u1.val = u1.val; omega)
  have hq : (s.val * 256 + u0.val) / 256 = s.val := by omega
  rw [e0, e1, hv, pay1_apply, row_ld g _ hg ⟨(t.val / 4 * 4 + s.val) / 16, by have := t_lt t; omega⟩ (gate_off t s)]
  unfold outB
  simp only [hq]
  refine congrArg (· + _) (congrArg x (funext fun a => Fin.ext ?_))
  match a with
  | ⟨0, _⟩ => show s.val * 256 + 1 * u0.val = s.val * 256 + u0.val; omega
  | ⟨1, _⟩ => show 0 + 1 * u1.val = u1.val; omega

theorem out_apply (c : Dev nD) (t : Fin cfg0.N) (a : Vec Ideal S1024x2048 .bf16) (w : Vec Ideal S2048x512 .bf16)
    (x : Vec Ideal S1024x512 .f32) (g : Vec Ideal S8x512 .f32) (i : Fin 1024) (j : Fin 512) :
    out0_A_4 (F := Ideal) c (grid0.coords t) (ms0_0 t) (hs0_0 t) (ms0_1 t) (hs0_1 t) (ms0_2 t) (hs0_2 t) (ms0_3 t) (hs0_3 t)
      (ms0_4 t) (hs0_4 t) a w x g (ix2 i j) = outB t a w x g i j := by
  unfold out0_A_4
  rw [View.read_writes_eq_canon _ _ _ (cover0_A_4 c (grid0.coords t) (ms0_0 t) (hs0_0 t) (ms0_1 t) (hs0_1 t) (ms0_2 t) (hs0_2 t) (ms0_3 t) (hs0_3 t) (ms0_4 t) (hs0_4 t) a w x g)]
  rw [View.canon_apply_of_pieces (fun u : S1024x512.Idx => outB t a w x g (u 0) (u 1)) _ ?_ _ (cover0_A_4 c (grid0.coords t) (ms0_0 t) (hs0_0 t) (ms0_1 t) (hs0_1 t) (ms0_2 t) (hs0_2 t) (ms0_3 t) (hs0_3 t) (ms0_4 t) (hs0_4 t) a w x g _)]
  · rfl
  · unfold kernelRun0_A
    dsimp only
    sl_unfold_run_names
    simp only [View.readAt_eq_ld, (hs0_0 t).read_unread, (hs0_1 t).read_unread, (hs0_2 t).read_unread, (hs0_3 t).read_unread]
    rw [View.ld_unit_zero (S := S1024x2048) hz, View.ld_unit_zero (S := S2048x512) hz]
    intro p hp
    simp only [List.mem_cons, List.not_mem_nil, or_false] at hp
    rcases hp with rfl | rfl | rfl | rfl
    · exact piece t a w x g 3 _ _ _ fun i j => pay5_apply _ _ _ i j
    · exact piece t a w x g 2 _ _ _ fun i j => pay4_apply _ _ _ i j
    · exact piece t a w x g 1 _ _ _ fun i j => pay3_apply _ _ _ i j
    · exact piece t a w x g 0 _ _ _ fun i j => pay2_apply a w _ _ i j

end Cert.MlaOut

end
-- ==== Proof.MlaOutArray.lean ====
module

public import proofs.«01_k».proof.Proof.MlaOutBlock
public import Idealize.ShloMosaic.Lib.StableHlo.ReadAt

/-! The attention's output projection's result array as one function of the arrays the kernel is launched on, and so of the arguments:
    every block of every grid point is a block of that function, and the blocks fill the array. -/

@[expose] public section

set_option maxRecDepth 16384

noncomputable section

namespace Cert.MlaOut

open Idealize.ShloMosaic Idealize.ShloMosaic.TcCoe Idealize.SL.Sem Cert.KernelMlaOutIdeal Cert.KernelMlaOutIdeal.Gen Cert.Rows
open Idealize.ShloMosaic.Pipeline (Dat)

/-- Where each window's block lies at a grid point. -/
theorem index0 : ∀ t : Fin grid0.N, win0_0.index t = ![t.val / 4, 0] := by decide +kernel
theorem index1 : ∀ t : Fin grid0.N, win0_1.index t = ![0, t.val % 4] := by decide +kernel
theorem index2 : ∀ t : Fin grid0.N, win0_2.index t = ![t.val / 4, t.val % 4] := by decide +kernel
theorem index3 : ∀ t : Fin grid0.N, win0_3.index t = ![0, 8 + t.val % 4] := by decide +kernel
theorem index4 : ∀ t : Fin grid0.N, win0_4.index t = ![t.val / 4, t.val % 4] := by decide +kernel

/-- The array index of a block index, window by window. -/
theorem emb0 (t : Fin grid0.N) (i : Fin 1024) (k : Fin 2048) :
    (win0_0.blk t).view.emb (ix2 i k) = (ix2 ⟨t.val / 4 * 1024 + i.val, by have := t_lt t; omega⟩ k : S16384x2048.Idx) := by
  funext a; apply Fin.ext
  have h := congrFun (index0 t)
  match a with
  | ⟨0, _⟩ => show win0_0.index t 0 * 1024 + 1 * i.val = _; rw [h 0]; show t.val / 4 * 1024 + 1 * i.val = t.val / 4 * 1024 + i.val; omega
  | ⟨1, _⟩ => show win0_0.index t 1 * 2048 + 1 * k.val = _; rw [h 1]; show 0 * 2048 + 1 * k.val = k.val; omega

theorem emb1 (t : Fin grid0.N) (k : Fin 2048) (j : Fin 512) :
    (win0_1.blk t).view.emb (ix2 k j) = (ix2 k ⟨t.val % 4 * 512 + j.val, by omega⟩ : S2048x2048.Idx) := by
  funext a; apply Fin.ext
  have h := congrFun (index1 t)
  match a with
  | ⟨0, _⟩ => show win0_1.index t 0 * 2048 + 1 * k.val = _; rw [h 0]; show 0 * 2048 + 1 * k.val = k.val; omega
  | ⟨1, _⟩ => show win0_1.index t 1 * 512 + 1 * j.val = _; rw [h 1]; show t.val % 4 * 512 + 1 * j.val = t.val % 4 * 512 + j.val; omega

theorem emb2 (t : Fin grid0.N) (i : Fin 1024) (j : Fin 512) :
    (win0_2.blk t).view.emb (ix2 i j)
      = (ix2 ⟨t.val / 4 * 1024 + i.val, by have := t_lt t; omega⟩ ⟨t.val % 4 * 512 + j.val, by omega⟩ : S16384x2048.Idx) := by
  funext a; apply Fin.ext
  have h := congrFun (index2 t)
  match a with
  | ⟨0, _⟩ => show win0_2.index t 0 * 1024 + 1 * i.val = _; rw [h 0]; show t.val / 4 * 1024 + 1 * i.val = t.val / 4 * 1024 + i.val; omega
  | ⟨1, _⟩ => show win0_2.index t 1 * 512 + 1 * j.val = _; rw [h 1]; show t.val % 4 * 512 + 1 * j.val = t.val % 4 * 512 + j.val; omega

theorem emb3 (t : Fin grid0.N) (i : Fin 8) (j : Fin 512) :
    (win0_3.blk t).view.emb (ix2 i j) = (ix2 i ⟨4096 + (t.val % 4 * 512 + j.val), by omega⟩ : S8x12288.Idx) := by
  funext a; apply Fin.ext
  have h := congrFun (index3 t)
  match a with
  | ⟨0, _⟩ => show win0_3.index t 0 * 8 + 1 * i.val = _; rw [h 0]; show 0 * 8 + 1 * i.val = i.val; omega
  | ⟨1, _⟩ => show win0_3.index t 1 * 512 + 1 * j.val = _; rw [h 1]; show (8 + t.val % 4) * 512 + 1 * j.val = 4096 + (t.val % 4 * 512 + j.val); omega

theorem emb4 (t : Fin grid0.N) (i : Fin 1024) (j : Fin 512) :
    (win0_4.blk t).view.emb (ix2 i j)
      = (ix2 ⟨t.val / 4 * 1024 + i.val, by have := t_lt t; omega⟩ ⟨t.val % 4 * 512 + j.val, by omega⟩ : S16384x2048.Idx) := by
  funext a; apply Fin.ext
  have h := congrFun (index4 t)
  match a with
  | ⟨0, _⟩ => show win0_4.index t 0 * 1024 + 1 * i.val = _; rw [h 0]; show t.val / 4 * 1024 + 1 * i.val = t.val / 4 * 1024 + i.val; omega
  | ⟨1, _⟩ => show win0_4.index t 1 * 512 + 1 * j.val = _; rw [h 1]; show t.val % 4 * 512 + 1 * j.val = t.val % 4 * 512 + j.val; omega

/-- The result at row `r`, lane `n`. -/
def outA (a : Vec Ideal S16384x2048 .bf16) (w : Vec Ideal S2048x2048 .bf16) (x : Vec Ideal S16384x2048 .f32)
    (g : Vec Ideal S8x12288 .f32) (r : Fin 16384) (n : Fin 2048) : EReal :=
  x (ix2 r n) + g (ix2 ⟨r.val / 256 / 16, by omega⟩ ⟨4096 + n.val, by omega⟩)
    * ∑ k : Fin 2048, a (ix2 r k) * w (ix2 k n)

/-- The whole result array. -/
def whole (a : Vec Ideal S16384x2048 .bf16) (w : Vec Ideal S2048x2048 .bf16) (x : Vec Ideal S16384x2048 .f32)
    (g : Vec Ideal S8x12288 .f32) : Vec Ideal S16384x2048 .f32 := fun u => outA a w x g (u 0) (u 1)

/-- What a grid point writes back, for any four arrays. -/
theorem read_whole (c : Dev nD) (t : Fin cfg0.N) (a : Vec Ideal S16384x2048 .bf16) (w : Vec Ideal S2048x2048 .bf16)
    (x : Vec Ideal S16384x2048 .f32) (g : Vec Ideal S8x12288 .f32) :
    out0_A_4 (F := Ideal) c (grid0.coords t) (ms0_0 t) (hs0_0 t) (ms0_1 t) (hs0_1 t) (ms0_2 t) (hs0_2 t) (ms0_3 t) (hs0_3 t)
        (ms0_4 t) (hs0_4 t) ((win0_0.blk t).view.read (Elt Ideal) a) ((win0_1.blk t).view.read (Elt Ideal) w)
        ((win0_2.blk t).view.read (Elt Ideal) x) ((win0_3.blk t).view.read (Elt Ideal) g)
      = (win0_4.blk t).view.read (Elt Ideal) (whole a w x g) := by
  funext y
  have key : ∀ y : S1024x512.Idx, out0_A_4 (F := Ideal) c (grid0.coords t) (ms0_0 t) (hs0_0 t) (ms0_1 t) (hs0_1 t) (ms0_2 t) (hs0_2 t)
        (ms0_3 t) (hs0_3 t) (ms0_4 t) (hs0_4 t) ((win0_0.blk t).view.read (Elt Ideal) a) ((win0_1.blk t).view.read (Elt Ideal) w)
        ((win0_2.blk t).view.read (Elt Ideal) x) ((win0_3.blk t).view.read (Elt Ideal) g) y
      = whole a w x g ((win0_4.blk t).view.emb y) := by
    intro y
    idx_vars y
    rw [out_apply, emb4]
    have hq : (t.val / 4 * 1024 + y0.val) / 256 = t.val / 4 * 4 + y0.val / 256 := by omega
    show _ = outA a w x g ⟨t.val / 4 * 1024 + y0.val, _⟩ ⟨t.val % 4 * 512 + y1.val, _⟩
    unfold outB outA
    simp only [hq]
    refine congrArg₂ (· + ·) (congrArg x (emb2 t y0 y1)) (congrArg₂ (· * ·) (congrArg g (emb3 t _ y1)) ?_)
    exact Finset.sum_congr rfl fun k _ => congrArg₂ (· * ·) (congrArg a (emb0 t y0 k)) (congrArg w (emb1 t k y1))
  exact key y

variable (m : (ℓ : Loc nD τ sig) → Buf (Elt Ideal) ℓ)

/-- The arrays of heads, weights, residual and gates the kernel is launched on. -/
def arrA (c : Dev nD) : Vec Ideal S16384x2048 .bf16 := V m c main_v0
def arrW (c : Dev nD) : Vec Ideal S2048x2048 .bf16 := V m c main_v1
def arrX (c : Dev nD) : Vec Ideal S16384x2048 .f32 := V m c main_arg2
def arrG (c : Dev nD) : Vec Ideal S8x12288 .f32 := V m c main_arg3

/-- The four arguments. -/
def argA (c : Dev nD) : Vec Ideal S4x4096x2048 .bf16 := m ((c.tc : Thread nD τ).loc main_arg0)
def argW (c : Dev nD) : Vec Ideal S2048x2048 .f32 := m ((c.tc : Thread nD τ).loc main_arg1)
def argX (c : Dev nD) : Vec Ideal S16384x2048 .f32 := m ((c.tc : Thread nD τ).loc main_arg2)
def argG (c : Dev nD) : Vec Ideal S8x12288 .f32 := m ((c.tc : Thread nD τ).loc main_arg3)

/-- The weights are launched on as they are, but for their format. -/
theorem arrW_apply (c : Dev nD) (k : Fin 2048) (n : Fin 2048) : arrW m c (ix2 k n) = argW m c (ix2 k n) := by
  unfold arrW V
  after_reads_at
  rfl

/-- The attention's result, its batches laid one after the other. -/
theorem arrA_apply (c : Dev nD) (r : Fin 16384) (k : Fin 2048) :
    arrA m c (ix2 r k) = argA m c (ix3 ⟨r.val / 4096, by omega⟩ ⟨r.val % 4096, by omega⟩ k) := by
  unfold arrA V
  after_reads_at
  rfl

/-- The result array. -/
def G (c : Dev nD) : Buf (Elt Ideal) ((c : Thread nD τ).loc main_v2) := whole (arrA m c) (arrW m c) (arrX m c) (arrG m c)

/-- What a grid point writes back is its block of the whole array. -/
theorem flushed_eq (c : Dev nD) (t : Fin cfg0.N) :
    (dats m 0 c).flushed 4 t = (win0_4.blk t).view.read (Elt Ideal) (G m c) := by
  rw [Value.flushed4_A]
  exact read_whole c t (arrA m c) (arrW m c) (arrX m c) (arrG m c)

/-- Every index of the result lies in the block of some grid point. -/
theorem cover (i : S16384x2048.Idx) :
    ∃ t : Fin cfg0.N, (cfg0.win 4).flush t = true ∧ i ∈ ((cfg0.win 4).blk t).view.set := by
  have h0 : (i 0 : Nat) < 16384 := (i 0).isLt
  have h1 : (i 1 : Nat) < 2048 := (i 1).isLt
  refine ⟨⟨(i 0 : Nat) / 1024 * 4 + (i 1 : Nat) / 512, by show _ < grid0.N; rw [Gen.N_0]; omega⟩, flush0_4 _, ?_⟩
  generalize ht : (⟨(i 0 : Nat) / 1024 * 4 + (i 1 : Nat) / 512, by show _ < grid0.N; rw [Gen.N_0]; omega⟩ : Fin grid0.N) = t
  have hv : t.val = (i 0 : Nat) / 1024 * 4 + (i 1 : Nat) / 512 := by rw [← ht]
  show i ∈ ((View.whole main_v2).slice (win0_4.rect t)).set
  rw [View.set_slice_whole, Rect.mem_set_unit]
  have h := congrFun (index4 t)
  intro a
  match a with
  | ⟨0, _⟩ => show win0_4.index t 0 * 1024 ≤ (i 0 : Nat) ∧ (i 0 : Nat) < win0_4.index t 0 * 1024 + 1024
              rw [h 0]; show t.val / 4 * 1024 ≤ (i 0 : Nat) ∧ (i 0 : Nat) < t.val / 4 * 1024 + 1024; omega
  | ⟨1, _⟩ => show win0_4.index t 1 * 512 ≤ (i 1 : Nat) ∧ (i 1 : Nat) < win0_4.index t 1 * 512 + 512
              rw [h 1]; show t.val % 4 * 512 ≤ (i 1 : Nat) ∧ (i 1 : Nat) < t.val % 4 * 512 + 512; omega

/-- So the result array ends as the whole function. -/
theorem final (c : Dev nD) : (dats m 0 c).arrAt 4 cfg0.N = G m c :=
  (dats m 0 c).arrAt_eq_of_cover 4 (G m c) (fun t _ => flushed_eq m c t) cover

/-- The result at a row and a lane, from the arguments. -/
theorem G_apply (c : Dev nD) (r : Fin 16384) (n : Fin 2048) :
    G m c (ix2 r n) = argX m c (ix2 r n)
      + argG m c (ix2 ⟨r.val / 256 / 16, by omega⟩ ⟨4096 + n.val, by omega⟩)
        * ∑ k : Fin 2048, argA m c (ix3 ⟨r.val / 4096, by omega⟩ ⟨r.val % 4096, by omega⟩ k) * argW m c (ix2 k n) := by
  show outA (arrA m c) (arrW m c) (arrX m c) (arrG m c) r n = _
  unfold outA
  simp only [arrW_apply, arrA_apply]
  rw [show arrX m c = argX m c from V_main_arg2 m c,
    show arrG m c = argG m c from V_main_arg3 m c]

end Cert.MlaOut

end
-- ==== Proof.MlaOutRef.lean ====
module

public import proofs.«01_k».proof.Proof.Gen.ReferenceMlaOutIdeal.Read
public import Idealize.ShloMosaic.Lib.Pointwise

/-! The reference of the attention's output projection at one element. -/

@[expose] public section

set_option maxRecDepth 16384

noncomputable section

namespace Cert.MlaOut

open Idealize.ShloMosaic Cert.ReferenceMlaOutIdeal Cert.ReferenceMlaOutIdeal.Gen Cert.ReferenceMlaOutIdeal.Read

variable (x0 : Vec Ideal S4x4096x2048 .bf16) (x1 : Vec Ideal S2048x2048 .f32) (x2 : Vec Ideal S16384x2048 .f32)
  (x3 : Vec Ideal S8x12288 .f32)

theorem ref_apply (r : Fin 16384) (n : Fin 2048) :
    val_main_v14 (F := Ideal) x0 x1 x2 x3 (ix2 r n)
      = x2 (ix2 r n) + x3 (ix2 ⟨r.val / 4096, by omega⟩ ⟨4096 + n.val, by omega⟩)
        * ∑ k : Fin 2048, x0 (ix3 ⟨r.val / 4096, by omega⟩ ⟨r.val % 4096, by omega⟩ k) * x1 (ix2 k n) := by
  pointwise [val_main_v14, val_main_v13, val_main_v12, val_main_v11, val_main_v10, val_main_v9, val_main_v8, val_main_v4,
    val_main_v1, val_main_v0]

end Cert.MlaOut

end
-- ==== Proof.MlaOutClaims.lean ====
module

public import proofs.«01_k».proof.Defs
public import proofs.«01_k».proof.Proof.Gen.KernelMlaOut.Frame
public import proofs.«01_k».proof.Proof.MlaOutArray
public import proofs.«01_k».proof.Proof.MlaOutRef
public import Idealize.ShloMosaic.Adequacy
public import Idealize.ShloMosaic.Init

/-! The claims about the attention's output projection. -/

@[expose] public section

set_option maxRecDepth 16384

noncomputable section

namespace Cert.MlaOut

open Idealize.ShloMosaic Idealize.ShloMosaic.TcCoe Idealize.SL.Sem Cert.KernelMlaOutIdeal Cert.Rows

/-- The reference's result, on the kernel's arguments, is the kernel's result array. -/
theorem result_eq (m : (ℓ : Loc nD τ sig) → Buf (Elt Ideal) ℓ) (c : Dev nD) :
    Cert.ReferenceMlaOutIdeal.Read.val_main_v14 (F := Ideal) (argA m c) (argW m c) (argX m c) (argG m c) = G m c := by
  funext u
  idx_vars u
  refine Eq.trans ?_ (G_apply m c u0 u1).symm
  have hg : u0.val / 256 / 16 = u0.val / 4096 := by omega
  refine (ref_apply _ _ _ _ u0 u1).trans ?_
  simp only [hg]

theorem frame_reference : Cert.quiescent_ReferenceMlaOutIdeal := fun m ρ _ =>
  (θ_run Cert.ReferenceMlaOutIdeal.defs _ _).mono
    (fun r h => ⟨fun c => ⟨(h c).2.1, (h c).2.2.1, (h c).2.2.2.1, (h c).2.2.2.2⟩,
      Idealize.ShloMosaic.sem_eq_zero_of_no_sems (by decide) r.2⟩)
    (Cert.ReferenceMlaOutIdeal.Value.run (F := Ideal) m ρ)

theorem algebraic : Cert.algebraic_KernelMlaOutIdeal_ReferenceMlaOutIdeal := by
  intro m ρ m' ρ' _ hagree
  refine ⟨fun c => G m c, ?_, ?_⟩
  · exact (θ_run Cert.KernelMlaOutIdeal.defs _ _).mono (fun r h c => ⟨(h c).1.trans (final m c), (h c).2⟩)
      (Cert.KernelMlaOutIdeal.Value.run_blocks m ρ)
  · refine (θ_run Cert.ReferenceMlaOutIdeal.defs _ _).mono (fun r h c => ⟨(h c).1.trans ?_, (h c).2⟩)
      (Cert.ReferenceMlaOutIdeal.Value.run (F := Ideal) m' ρ')
    rw [Cert.ReferenceMlaOutIdeal.Read.val_main_v14_eq]
    obtain ⟨e0, e1, e2, e3⟩ := hagree c
    rw [e0, e1, e2, e3]
    exact result_eq m c

end Cert.MlaOut

end
-- ==== Proof.UpPay.lean ====
module

public import proofs.«01_k».proof.Proof.Gen.KernelUpIdeal.Skeleton
public import proofs.«01_k».proof.Proof.Rows
public import Idealize.ShloMosaic.Lib.KernelVsHost

@[expose] public section

set_option maxRecDepth 16384

noncomputable section

namespace Cert.Up

open Idealize.ShloMosaic Cert.KernelUpIdeal Cert.KernelUpIdeal.Gen Cert.Rows

theorem pay6_apply (s : Vec Ideal S1056x2048 .bf16) (w : Vec Ideal S2048x512 .bf16) (i : Fin 1024) (j : Fin 512) :
    k0_pay6 (F := Ideal) s w (ix2 i j) = ∑ k : Fin 2048, s (ix2 ⟨i.val, by omega⟩ k) * w (ix2 k j) := by
  pointwise [k0_pay6, k0_pay5]

theorem pay7_apply (s : Vec Ideal S1056x2048 .bf16) (w : Vec Ideal S2048x512 .bf16) (i : Fin 1) (j : Fin 512) :
    k0_pay7 (F := Ideal) s w (ix2 i j) = ∑ k : Fin 2048, s (ix2 ⟨1039, by omega⟩ k) * w (ix2 k j) := by
  pointwise [k0_pay7, k0_pay5]

theorem pay8_apply (s : Vec Ideal S1056x2048 .bf16) (w : Vec Ideal S2048x512 .bf16) (i : Fin 1) (j : Fin 512) :
    k0_pay8 (F := Ideal) s w (ix2 i j) = ∑ k : Fin 2048, s (ix2 ⟨1040, by omega⟩ k) * w (ix2 k j) := by
  pointwise [k0_pay8, k0_pay5]

theorem pay9_apply (s : Vec Ideal S1024x2048 .bf16) (w : Vec Ideal S2048x512 .bf16) (i : Fin 1024) (j : Fin 512) :
    k0_pay9 (F := Ideal) s w (ix2 i j) = ∑ k : Fin 2048, s (ix2 i k) * w (ix2 k j) := by
  pointwise [k0_pay9]

theorem pay1_apply (y v : FVec Ideal S1024x512 .f32) (b : FVec Ideal S1x512 .f32) (i : Fin 1024) (j : Fin 512) :
    k0_pay1 (F := Ideal) y v b (ix2 i j)
      = (v (ix2 i j) + b (ix2 0 j)) * Ideal.logistic (v (ix2 i j) + b (ix2 0 j)) * y (ix2 i j) := by
  pointwise [k0_pay1]

/-! ### The marks of the rows where a sequence begins or ends -/

theorem eq_word (i k : Nat) (hi : i < 1024) (hk : k < 4294967296) :
    IntOp.cmpi .eq (BitVec.ofNat 32 i) (BitVec.ofNat 32 k) = 1#1 ↔ i = k := by
  unfold IntOp.cmpi
  dsimp only
  by_cases h : i = k
  · subst h; simp
  · have hn : BitVec.ofNat 32 i ≠ BitVec.ofNat 32 k := fun e => h (by
      have := congrArg BitVec.toNat e
      simp only [BitVec.toNat_ofNat] at this
      omega)
    rw [beq_eq_false_iff_ne.2 hn]
    exact ⟨fun e => absurd e (by decide), fun e => absurd e h⟩

theorem select_def {α : Type} (b : BitVec 1) (x y : α) : Scalar.select b x y = if b = 1#1 then x else y := rfl

/-- The mark of row `k`, set where `b` is. -/
def spot (b : BitVec 1) (k i : Nat) : BitVec 1 :=
  IntOp.cmpi .eq (BitVec.ofNat 32 i) (Scalar.select b (BitVec.ofNat 32 k) 4294967295#32)

theorem spot_iff (b : BitVec 1) (k i : Nat) (hi : i < 1024) (hk : k < 1024) : spot b k i = 1#1 ↔ b = 1#1 ∧ i = k := by
  unfold spot
  rw [select_def]
  by_cases h : b = 1#1
  · rw [if_pos h, eq_word i k hi (by omega)]; exact ⟨fun e => ⟨h, e⟩, fun e => e.2⟩
  · rw [if_neg h]
    have := eq_word i 4294967295 hi (by omega)
    exact ⟨fun e => absurd (this.1 e) (by omega), fun e => absurd e.1 h⟩

theorem ori_iff : ∀ x y : BitVec 1, IntOp.ori x y = 1#1 ↔ x = 1#1 ∨ y = 1#1 := by decide

theorem select_iff {α : Type} (b : BitVec 1) (x y : α) (p : Prop) [Decidable p] (h : b = 1#1 ↔ p) :
    Scalar.select b x y = if p then x else y := by
  rw [select_def]
  by_cases hp : p
  · rw [if_pos hp, if_pos (h.2 hp)]
  · rw [if_neg hp, if_neg fun e => hp (h.1 e)]

/-- The number of a stretch of 256 rows within its batch's seventeen, as the kernel works it out. -/
abbrev lowered (v : BitVec 32) : BitVec 1 :=
  Scalar.andi (Scalar.cmpi .ne (Scalar.subi (Scalar.extui (Scalar.cmpi .sgt v 0#32)) (Scalar.extui (Scalar.cmpi .slt v 0#32)))
      (Scalar.subi (Scalar.extui (Scalar.cmpi .sgt 17#32 0#32)) (Scalar.extui (Scalar.cmpi .slt 17#32 0#32))))
    (Scalar.cmpi .ne (Scalar.remsi v 17#32) 0#32)
abbrev within (v : BitVec 32) : BitVec 32 :=
  Scalar.subi v (Scalar.muli (Scalar.select (lowered v) (Scalar.subi (Scalar.divsi v 17#32) 1#32) (Scalar.divsi v 17#32)) 17#32)
abbrev begins (v : BitVec 32) : BitVec 1 := Scalar.ori (Scalar.cmpi .eq (within v) 0#32) (Scalar.cmpi .eq (within v) 1#32)
abbrev finishes (v : BitVec 32) : BitVec 1 := Scalar.ori (Scalar.cmpi .eq (within v) 0#32) (Scalar.cmpi .eq (within v) 16#32)
abbrev stretch (a s : BitVec 32) : BitVec 32 := Scalar.addi (Scalar.muli a 4#32) s

theorem begins_iff : ∀ (a : Fin 17) (s : Fin 4), begins (stretch (BitVec.ofNat 32 a.val) (BitVec.ofNat 32 s.val)) = 1#1
    ↔ (a.val * 4 + s.val) % 17 = 0 ∨ (a.val * 4 + s.val) % 17 = 1 := by decide +kernel
theorem finishes_iff : ∀ (a : Fin 17) (s : Fin 4), finishes (stretch (BitVec.ofNat 32 a.val) (BitVec.ofNat 32 s.val)) = 1#1
    ↔ (a.val * 4 + s.val) % 17 = 0 ∨ (a.val * 4 + s.val) % 17 = 16 := by decide +kernel

/-- Whether row `R` is the first, or the last, of a sequence: of a batch's 256 context rows or of its 4096 latent rows. -/
abbrev First (R : Nat) : Prop := R % 4352 = 0 ∨ R % 4352 = 256
abbrev Last (R : Nat) : Prop := R % 4352 = 255 ∨ R % 4352 = 4351

/-- The rows' own numbers. -/
abbrev rowsW : IVec S1024x1 32 := iota .tc S1024x1 32 [0] iota_S1024x1_d0_w32

/-- The kernel's marks of first rows. -/
abbrev firstW (a : BitVec 32) : IVec S1024x1 1 :=
  k0_pay17 a rowsW
    (k0_pay14 rowsW (k0_pay12 rowsW k0_pay10 (stretch a 0#32) (Scalar.divsi (stretch a 0#32) 17#32) (lowered (stretch a 0#32)) 1#32)
      (within (stretch a 1#32)) (Scalar.cmpi .eq (within (stretch a 1#32)) 0#32))
    (begins (stretch a 2#32))

/-- The kernel's marks of last rows, but for the block's very last row, and the mark of that row. -/
abbrev lastW (a : BitVec 32) : IVec S1024x1 1 :=
  k0_pay16 rowsW
    (k0_pay15 rowsW (k0_pay13 rowsW k0_pay11 (stretch a 0#32) (Scalar.divsi (stretch a 0#32) 17#32) (lowered (stretch a 0#32)) 1#32)
      (within (stretch a 1#32)))
    (Scalar.cmpi .eq (within (stretch a 2#32)) 0#32) (Scalar.cmpi .eq (within (stretch a 2#32)) 16#32)

theorem firstW_eq (a : BitVec 32) (i : Fin 1024) :
    firstW a (ix2 i 0) = IntOp.ori (IntOp.ori (IntOp.ori (IntOp.ori 0#1 (spot (begins (stretch a 0#32)) 0 i.val))
      (spot (begins (stretch a 1#32)) 256 i.val)) (spot (begins (stretch a 2#32)) 512 i.val)) (spot (begins (stretch a 3#32)) 768 i.val) := by
  pointwise [k0_pay17, k0_pay14, k0_pay12, k0_pay10]
  rfl

theorem lastW_eq (a : BitVec 32) (i : Fin 1024) :
    lastW a (ix2 i 0) = IntOp.ori (IntOp.ori (IntOp.ori 0#1 (spot (finishes (stretch a 0#32)) 255 i.val))
      (spot (finishes (stretch a 1#32)) 511 i.val)) (spot (finishes (stretch a 2#32)) 767 i.val) := by
  pointwise [k0_pay16, k0_pay15, k0_pay13, k0_pay11]
  rfl

theorem firstW_iff (a : Fin 17) (i : Fin 1024) : firstW (BitVec.ofNat 32 a.val) (ix2 i 0) = 1#1 ↔ First (a.val * 1024 + i.val) := by
  rw [firstW_eq]
  simp only [ori_iff, spot_iff _ _ _ i.isLt (show 0 < 1024 by omega), spot_iff _ _ _ i.isLt (show 256 < 1024 by omega),
    spot_iff _ _ _ i.isLt (show 512 < 1024 by omega), spot_iff _ _ _ i.isLt (show 768 < 1024 by omega)]
  have b0 := begins_iff a 0
  have b1 := begins_iff a 1
  have b2 := begins_iff a 2
  have b3 := begins_iff a 3
  have ha := a.isLt
  have hi := i.isLt
  have hz : ¬ (0#1 = 1#1) := by decide
  constructor
  · rintro ((((h | h) | h) | h) | h)
    · exact absurd h hz
    · have := b0.1 h.1; have := h.2; show _ ∨ _; simp only [Fin.val_zero] at *; omega
    · have := b1.1 h.1; have := h.2; show _ ∨ _; simp only [Fin.val_one] at *; omega
    · have := b2.1 h.1; have := h.2; show _ ∨ _; simp only [Fin.val_two] at *; omega
    · have : (a.val * 4 + 3) % 17 = 0 ∨ (a.val * 4 + 3) % 17 = 1 := b3.1 h.1
      have := h.2; show _ ∨ _; omega
  · intro h
    have h : (a.val * 1024 + i.val) % 4352 = 0 ∨ (a.val * 1024 + i.val) % 4352 = 256 := h
    have hd : i.val = 0 ∨ i.val = 256 ∨ i.val = 512 ∨ i.val = 768 := by omega
    rcases hd with e | e | e | e
    · exact Or.inl (Or.inl (Or.inl (Or.inr ⟨b0.2 (by show (a.val * 4 + 0) % 17 = 0 ∨ (a.val * 4 + 0) % 17 = 1; omega), e⟩)))
    · exact Or.inl (Or.inl (Or.inr ⟨b1.2 (by show (a.val * 4 + 1) % 17 = 0 ∨ (a.val * 4 + 1) % 17 = 1; omega), e⟩))
    · exact Or.inl (Or.inr ⟨b2.2 (by show (a.val * 4 + 2) % 17 = 0 ∨ (a.val * 4 + 2) % 17 = 1; omega), e⟩)
    · exact Or.inr ⟨b3.2 (by show (a.val * 4 + 3) % 17 = 0 ∨ (a.val * 4 + 3) % 17 = 1; omega), e⟩

theorem lastW_iff (a : Fin 17) (i : Fin 1024) :
    IntOp.ori (lastW (BitVec.ofNat 32 a.val) (ix2 i 0)) (spot (finishes (stretch (BitVec.ofNat 32 a.val) 3#32)) 1023 i.val) = 1#1
      ↔ Last (a.val * 1024 + i.val) := by
  rw [lastW_eq]
  simp only [ori_iff, spot_iff _ _ _ i.isLt (show 255 < 1024 by omega), spot_iff _ _ _ i.isLt (show 511 < 1024 by omega),
    spot_iff _ _ _ i.isLt (show 767 < 1024 by omega), spot_iff _ _ _ i.isLt (show 1023 < 1024 by omega)]
  have b0 := finishes_iff a 0
  have b1 := finishes_iff a 1
  have b2 := finishes_iff a 2
  have b3 := finishes_iff a 3
  have ha := a.isLt
  have hi := i.isLt
  have hz : ¬ (0#1 = 1#1) := by decide
  constructor
  · rintro ((((h | h) | h) | h) | h)
    · exact absurd h hz
    · have : (a.val * 4 + 0) % 17 = 0 ∨ (a.val * 4 + 0) % 17 = 16 := b0.1 h.1
      have := h.2; show _ ∨ _; omega
    · have : (a.val * 4 + 1) % 17 = 0 ∨ (a.val * 4 + 1) % 17 = 16 := b1.1 h.1
      have := h.2; show _ ∨ _; omega
    · have : (a.val * 4 + 2) % 17 = 0 ∨ (a.val * 4 + 2) % 17 = 16 := b2.1 h.1
      have := h.2; show _ ∨ _; omega
    · have : (a.val * 4 + 3) % 17 = 0 ∨ (a.val * 4 + 3) % 17 = 16 := b3.1 h.1
      have := h.2; show _ ∨ _; omega
  · intro h
    have h : (a.val * 1024 + i.val) % 4352 = 255 ∨ (a.val * 1024 + i.val) % 4352 = 4351 := h
    have hd : i.val = 255 ∨ i.val = 511 ∨ i.val = 767 ∨ i.val = 1023 := by omega
    rcases hd with e | e | e | e
    · exact Or.inl (Or.inl (Or.inl (Or.inr ⟨b0.2 (by show (a.val * 4 + 0) % 17 = 0 ∨ (a.val * 4 + 0) % 17 = 16; omega), e⟩)))
    · exact Or.inl (Or.inl (Or.inr ⟨b1.2 (by show (a.val * 4 + 1) % 17 = 0 ∨ (a.val * 4 + 1) % 17 = 16; omega), e⟩))
    · exact Or.inl (Or.inr ⟨b2.2 (by show (a.val * 4 + 2) % 17 = 0 ∨ (a.val * 4 + 2) % 17 = 16; omega), e⟩)
    · exact Or.inr ⟨b3.2 (by show (a.val * 4 + 3) % 17 = 0 ∨ (a.val * 4 + 3) % 17 = 16; omega), e⟩

/-- The row before and the row after, rolled round the block. -/
theorem rolled_back (v : FVec Ideal S1024x512 .f32) (i : Fin 1024) (hi : i.val ≠ 0) (j : Fin 512) :
    (dynamicRotate 0 1#32 none v rotates_S1024x512_d0 : FVec Ideal S1024x512 .f32) (ix2 i j) = v (ix2 ⟨i.val - 1, by omega⟩ j) :=
  dynamicRotate_apply (0 : Fin S1024x512.rank) 1#32 v rotates_S1024x512_d0 (ix2 i j) (ix2 ⟨i.val - 1, by omega⟩ j) fun b => by
    match b with
    | ⟨0, _⟩ => exact (show i.val - 1 = (i.val + 1024 - 1 % 1024) % 1024 by omega).trans (if_pos rfl).symm
    | ⟨1, _⟩ => rfl
theorem rolled_on (v : FVec Ideal S1024x512 .f32) (i : Fin 1024) (hi : i.val ≠ 1023) (j : Fin 512) :
    (dynamicRotate 0 1023#32 none v rotates_S1024x512_d0 : FVec Ideal S1024x512 .f32) (ix2 i j) = v (ix2 ⟨i.val + 1, by omega⟩ j) :=
  dynamicRotate_apply (0 : Fin S1024x512.rank) 1023#32 v rotates_S1024x512_d0 (ix2 i j) (ix2 ⟨i.val + 1, by omega⟩ j) fun b => by
    match b with
    | ⟨0, _⟩ => exact (show i.val + 1 = (i.val + 1024 - 1023 % 1024) % 1024 by omega).trans (if_pos rfl).symm
    | ⟨1, _⟩ => rfl

theorem pay18_raw (v7 : FVec Ideal S1024x512 .f32) (v8 v9 : FVec Ideal S1x512 .f32) (m1 m0 : IVec S1024x1 1) (b : BitVec 1)
    (c0 c1 c2 : Vec Ideal S1x512 .f32) (i : Fin 1024) (j : Fin 512) :
    k0_pay18 (F := Ideal) v7 v8 v9 rowsW m1 b m0 c0 c1 c2 (ix2 i j)
      = Scalar.select (m0 (ix2 i 0)) 0
          (Scalar.select (IntOp.cmpi .eq (BitVec.ofNat 32 i.val) 0#32) (v8 (ix2 0 j))
            ((dynamicRotate 0 1#32 none v7 rotates_S1024x512_d0 : FVec Ideal S1024x512 .f32) (ix2 i j))) * c0 (ix2 0 j)
        + v7 (ix2 i j) * c1 (ix2 0 j)
        + Scalar.select (IntOp.ori (m1 (ix2 i 0)) (spot b 1023 i.val)) 0
          (Scalar.select (IntOp.cmpi .eq (BitVec.ofNat 32 i.val) 1023#32) (v9 (ix2 0 j))
            ((dynamicRotate 0 1023#32 none v7 rotates_S1024x512_d0 : FVec Ideal S1024x512 .f32) (ix2 i j))) * c2 (ix2 0 j) := by
  unfold k0_pay18
  generalize dynamicRotate 0 1#32 none v7 rotates_S1024x512_d0 = p
  generalize dynamicRotate 0 1023#32 none v7 rotates_S1024x512_d0 = q
  pointwise []
  rfl

/-- The row of the kept rows that comes before, or after, row `i`. -/
def rowBefore (i : Fin 1024) : Fin 1056 := if i.val = 0 then ⟨1039, by omega⟩ else ⟨i.val - 1, by omega⟩
def rowAfter (i : Fin 1024) : Fin 1056 := if i.val = 1023 then ⟨1040, by omega⟩ else ⟨i.val + 1, by omega⟩

/-- The product of the kept rows with the weights. -/
def gateB (s : Vec Ideal S1056x2048 .bf16) (w : Vec Ideal S2048x512 .bf16) (r : Fin 1056) (j : Fin 512) : EReal :=
  ∑ k : Fin 2048, s (ix2 r k) * w (ix2 k j)

/-- Three neighbouring rows of the product, each with its tap; none across the ends of a sequence. -/
def tapsB (R : Nat) (s : Vec Ideal S1056x2048 .bf16) (w : Vec Ideal S2048x512 .bf16) (c0 c1 c2 : EReal) (i : Fin 1024) (j : Fin 512) : EReal :=
  (if First R then 0 else gateB s w (rowBefore i) j) * c0 + gateB s w ⟨i.val, by omega⟩ j * c1
    + (if Last R then 0 else gateB s w (rowAfter i) j) * c2

theorem pay18_apply (a : Fin 17) (s : Vec Ideal S1056x2048 .bf16) (w : Vec Ideal S2048x512 .bf16) (c0 c1 c2 : Vec Ideal S1x512 .f32)
    (i : Fin 1024) (j : Fin 512) :
    k0_pay18 (F := Ideal) (k0_pay6 s w) (k0_pay7 s w) (k0_pay8 s w) rowsW (lastW (BitVec.ofNat 32 a.val))
        (finishes (stretch (BitVec.ofNat 32 a.val) 3#32)) (firstW (BitVec.ofNat 32 a.val)) c0 c1 c2 (ix2 i j)
      = tapsB (a.val * 1024 + i.val) s w (c0 (ix2 0 j)) (c1 (ix2 0 j)) (c2 (ix2 0 j)) i j := by
  rw [pay18_raw, select_iff _ _ _ _ (firstW_iff a i), select_iff _ _ _ _ (lastW_iff a i),
    select_iff _ _ _ _ (eq_word i.val 0 i.isLt (by omega)), select_iff _ _ _ _ (eq_word i.val 1023 i.isLt (by omega)), pay6_apply]
  have e0 : (if i.val = 0 then k0_pay7 (F := Ideal) s w (ix2 0 j)
      else (dynamicRotate 0 1#32 none (k0_pay6 (F := Ideal) s w) rotates_S1024x512_d0 : FVec Ideal S1024x512 .f32) (ix2 i j))
      = gateB s w (rowBefore i) j := by
    unfold rowBefore
    by_cases h : i.val = 0
    · rw [if_pos h, if_pos h, pay7_apply]; rfl
    · rw [if_neg h, if_neg h, rolled_back _ i h, pay6_apply]; rfl
  have e1 : (if i.val = 1023 then k0_pay8 (F := Ideal) s w (ix2 0 j)
      else (dynamicRotate 0 1023#32 none (k0_pay6 (F := Ideal) s w) rotates_S1024x512_d0 : FVec Ideal S1024x512 .f32) (ix2 i j))
      = gateB s w (rowAfter i) j := by
    unfold rowAfter
    by_cases h : i.val = 1023
    · rw [if_pos h, if_pos h, pay8_apply]; rfl
    · rw [if_neg h, if_neg h, rolled_on _ i h, pay6_apply]; rfl
  rw [e0, e1]
  rfl

end Cert.Up

end
-- ==== Proof.UpBlock.lean ====
module

public import proofs.«01_k».proof.Proof.Gen.KernelUpIdeal.Value
public import proofs.«01_k».proof.Proof.UpPay

/-! What one grid point of the feed-forward's first projection computes: at the first point of a stretch of rows the kernel
    keeps the block of rows with the sixteen before and the sixteen after; every point multiplies the kept rows with a block
    of weights, adds up three neighbouring rows with their taps, and gates the block's own product with the result. -/

@[expose] public section

set_option maxRecDepth 16384

noncomputable section

namespace Cert.Up

open Idealize.ShloMosaic Idealize.ShloMosaic.TcCoe Idealize.SL.Sem Cert.KernelUpIdeal Cert.KernelUpIdeal.Gen Cert.Rows

/-- The rows kept: the block's own, the sixteen before, the sixteen after. -/
def kept (h : Vec Ideal S1024x2048 .bf16) (p n : Vec Ideal S16x2048 .bf16) : Vec Ideal S1056x2048 .bf16 := fun u =>
  if h0 : (u 0).val < 1024 then h (ix2 ⟨(u 0).val, h0⟩ (u 1))
  else if h1 : (u 0).val < 1040 then p (ix2 ⟨(u 0).val - 1024, by omega⟩ (u 1))
  else n (ix2 ⟨(u 0).val - 1040, by have := (u 0).isLt; have : (u 0).val < 1056 := this; omega⟩ (u 1))

/-- The result block of one grid point, entry by entry, from the kept rows and the point's blocks. -/
def outB (a : Nat) (s : Vec Ideal S1056x2048 .bf16) (h : Vec Ideal S1024x2048 .bf16) (w v : Vec Ideal S2048x512 .bf16)
    (c : Vec Ideal S8x512 .f32) (b : Vec Ideal S1x512 .f32) (i : Fin 1024) (j : Fin 512) : EReal :=
  (tapsB (a * 1024 + i.val) s w (c (ix2 0 j)) (c (ix2 1 j)) (c (ix2 2 j)) i j + b (ix2 0 j))
    * Ideal.logistic (tapsB (a * 1024 + i.val) s w (c (ix2 0 j)) (c (ix2 1 j)) (c (ix2 2 j)) i j + b (ix2 0 j))
    * ∑ k : Fin 2048, h (ix2 i k) * v (ix2 k j)

theorem stored (a : Fin 17) (s : Vec Ideal S1056x2048 .bf16) (h : Vec Ideal S1024x2048 .bf16) (w v : Vec Ideal S2048x512 .bf16)
    (c0 c1 c2 b : Vec Ideal S1x512 .f32) (c : Vec Ideal S8x512 .f32) (e0 : ∀ j, c0 (ix2 0 j) = c (ix2 0 j))
    (e1 : ∀ j, c1 (ix2 0 j) = c (ix2 1 j)) (e2 : ∀ j, c2 (ix2 0 j) = c (ix2 2 j)) (i : Fin 1024) (j : Fin 512) :
    k0_pay1 (F := Ideal) (k0_pay9 h v) (k0_pay18 (F := Ideal) (k0_pay6 s w) (k0_pay7 s w) (k0_pay8 s w) rowsW
        (lastW (BitVec.ofNat 32 a.val)) (finishes (stretch (BitVec.ofNat 32 a.val) 3#32)) (firstW (BitVec.ofNat 32 a.val)) c0 c1 c2)
        (k0_pay19 b) (ix2 i j) = outB a.val s h w v c b i j := by
  have hb : k0_pay19 (F := Ideal) b (ix2 0 j) = b (ix2 0 j) := by pointwise [k0_pay19]
  rw [pay1_apply, pay18_apply, pay9_apply, hb, e0, e1, e2]
  rfl

theorem out_B (c : Dev nD) (t : Fin cfg0.N) (hc : ¬cond0_0 (grid0.coords t)) (x0 : Vec Ideal S1024x2048 .bf16) (x1 x2 : Vec Ideal S16x2048 .bf16)
    (x3 x4 : Vec Ideal S2048x512 .bf16) (x5 : Vec Ideal S8x512 .f32) (x6 : Vec Ideal S1x512 .f32) (s : Vec Ideal S1056x2048 .bf16)
    (i : Fin 1024) (j : Fin 512) :
    out0_B_7 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) scM0_0 (Memref.isWhole_whole _) hc
      x0 x1 x2 x3 x4 x5 x6 s (ix2 i j) = outB (grid0.coords t 0).val s x0 x3 x4 x5 x6 i j := by
  unfold out0_B_7
  rw [View.read_writes_eq_canon _ _ _ (cover0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc x0 x1 x2 x3 x4 x5 x6 s)]
  unfold kernelRun0_B
  dsimp only
  sl_unfold_run_names
  rw [View.canon_unit_zero hz]
  simp only [View.readAt_eq_ld, (hs0_0 t).read_unread, (hs0_3 t).read_unread, (hs0_4 t).read_unread, (hs0_5 t).read_unread, (hs0_6 t).read_unread, (Memref.isWhole_whole _).read_unread]
  simp only [View.ld_unit_zero (S := S1024x2048) hz, View.ld_unit_zero (S := S2048x512) hz, View.ld_unit_zero (S := S1056x2048) hz, View.ld_unit_zero (S := S1x512) hz]
  exact stored (grid0.coords t 0) s x0 x3 x4 _ _ _ _ x5 (fun j => row_ld _ _ _ 0 rfl j) (fun j => row_ld _ _ _ 1 rfl j)
    (fun j => row_ld _ _ _ 2 rfl j) i j

/-- The three stretches the kept rows are stored in. -/
abbrev keptPieces (x0 : Vec Ideal S1024x2048 .bf16) (x1 x2 : Vec Ideal S16x2048 .bf16) : List (View.Piece (Elt Ideal) S1056x2048 .bf16) :=
  [⟨Rect.unit (s := S1056x2048) ![1040, 0] S16x2048.size inb_S1056x2048_S16x2048_1040_0, k0_pay4 (F := Ideal) x2⟩,
    ⟨Rect.unit (s := S1056x2048) ![1024, 0] S16x2048.size inb_S1056x2048_S16x2048_1024_0, k0_pay3 (F := Ideal) x1⟩,
    ⟨Rect.unit (s := S1056x2048) ![0, 0] S1024x2048.size inb_S1056x2048_S1024x2048_0_0, k0_pay2 (F := Ideal) x0⟩]

theorem canon_kept (x0 : Vec Ideal S1024x2048 .bf16) (x1 x2 : Vec Ideal S16x2048 .bf16) :
    View.canon (keptPieces x0 x1 x2) = kept x0 x1 x2 := by
  funext u
  have h1 : (u 1).val < 2048 := (u 1).isLt
  have h0 : (u 0).val < 1056 := (u 0).isLt
  refine View.canon_apply_of_pieces (kept x0 x1 x2) _ ?_ u ?_
  · intro p hp
    simp only [List.mem_cons, List.not_mem_nil, or_false] at hp
    rcases hp with rfl | rfl | rfl
    · intro y
      idx_vars y
      have e : k0_pay4 (F := Ideal) x2 (ix2 y0 y1) = x2 (ix2 y0 y1) := by pointwise [k0_pay4]
      refine e.trans ?_
      unfold kept
      have hv : (((Rect.unit (s := S1056x2048) ![1040, 0] S16x2048.size inb_S1056x2048_S16x2048_1040_0).emb (ix2 y0 y1)) 0).val = 1040 + y0.val := by
        show 1040 + 1 * y0.val = 1040 + y0.val; omega
      rw [dif_neg (by rw [hv]; omega), dif_neg (by rw [hv]; omega)]
      refine congrArg x2 (funext fun a => Fin.ext ?_)
      match a with
      | ⟨0, _⟩ => show y0.val = 1040 + 1 * y0.val - 1040; omega
      | ⟨1, _⟩ => show y1.val = 0 + 1 * y1.val; omega
    · intro y
      idx_vars y
      have e : k0_pay3 (F := Ideal) x1 (ix2 y0 y1) = x1 (ix2 y0 y1) := by pointwise [k0_pay3]
      refine e.trans ?_
      unfold kept
      have hv : (((Rect.unit (s := S1056x2048) ![1024, 0] S16x2048.size inb_S1056x2048_S16x2048_1024_0).emb (ix2 y0 y1)) 0).val = 1024 + y0.val := by
        show 1024 + 1 * y0.val = 1024 + y0.val; omega
      rw [dif_neg (by rw [hv]; omega), dif_pos (by rw [hv]; omega)]
      refine congrArg x1 (funext fun a => Fin.ext ?_)
      match a with
      | ⟨0, _⟩ => show y0.val = 1024 + 1 * y0.val - 1024; omega
      | ⟨1, _⟩ => show y1.val = 0 + 1 * y1.val; omega
    · intro y
      idx_vars y
      have e : k0_pay2 (F := Ideal) x0 (ix2 y0 y1) = x0 (ix2 y0 y1) := by pointwise [k0_pay2]
      refine e.trans ?_
      unfold kept
      have hv : (((Rect.unit (s := S1056x2048) ![0, 0] S1024x2048.size inb_S1056x2048_S1024x2048_0_0).emb (ix2 y0 y1)) 0).val = y0.val := by
        show 0 + 1 * y0.val = y0.val; omega
      rw [dif_pos (by rw [hv]; omega)]
      refine congrArg x0 (funext fun a => Fin.ext ?_)
      match a with
      | ⟨0, _⟩ => show y0.val = 0 + 1 * y0.val; omega
      | ⟨1, _⟩ => show y1.val = 0 + 1 * y1.val; omega
  · by_cases ha : (u 0).val < 1024
    · refine ⟨_, List.mem_cons_of_mem _ (List.mem_cons_of_mem _ List.mem_cons_self), ?_⟩
      rw [Rect.mem_set_unit]
      intro a
      match a with
      | ⟨0, _⟩ => exact ⟨Nat.zero_le _, show (u 0).val < 0 + 1024 by omega⟩
      | ⟨1, _⟩ => exact ⟨Nat.zero_le _, show (u 1).val < 0 + 2048 by omega⟩
    · by_cases hb : (u 0).val < 1040
      · refine ⟨_, List.mem_cons_of_mem _ List.mem_cons_self, ?_⟩
        rw [Rect.mem_set_unit]
        intro a
        match a with
        | ⟨0, _⟩ => exact ⟨show 1024 ≤ (u 0).val by omega, show (u 0).val < 1024 + 16 by omega⟩
        | ⟨1, _⟩ => exact ⟨Nat.zero_le _, show (u 1).val < 0 + 2048 by omega⟩
      · refine ⟨_, List.mem_cons_self, ?_⟩
        rw [Rect.mem_set_unit]
        intro a
        match a with
        | ⟨0, _⟩ => exact ⟨show 1040 ≤ (u 0).val by omega, show (u 0).val < 1040 + 16 by omega⟩
        | ⟨1, _⟩ => exact ⟨Nat.zero_le _, show (u 1).val < 0 + 2048 by omega⟩

theorem sout_A (c : Dev nD) (t : Fin cfg0.N) (hc : cond0_0 (grid0.coords t)) (x0 : Vec Ideal S1024x2048 .bf16) (x1 x2 : Vec Ideal S16x2048 .bf16)
    (x3 x4 : Vec Ideal S2048x512 .bf16) (x5 : Vec Ideal S8x512 .f32) (x6 : Vec Ideal S1x512 .f32) :
    sout0_A_0 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) scM0_0 (Memref.isWhole_whole _) hc
      x0 x1 x2 x3 x4 x5 x6 = kept x0 x1 x2 := by
  unfold sout0_A_0
  rw [View.read_writes_junk_eq_canon]
  unfold kernelRun0_A
  dsimp only
  sl_unfold_run_names
  simp only [View.readAt_eq_ld, (hs0_0 t).read_unread, (hs0_1 t).read_unread, (hs0_2 t).read_unread]
  simp only [View.ld_unit_zero (S := S1024x2048) hz, View.ld_unit_zero (S := S16x2048) hz]
  exact canon_kept x0 x1 x2

theorem out_A (c : Dev nD) (t : Fin cfg0.N) (hc : cond0_0 (grid0.coords t)) (x0 : Vec Ideal S1024x2048 .bf16) (x1 x2 : Vec Ideal S16x2048 .bf16)
    (x3 x4 : Vec Ideal S2048x512 .bf16) (x5 : Vec Ideal S8x512 .f32) (x6 : Vec Ideal S1x512 .f32)
    (i : Fin 1024) (j : Fin 512) :
    out0_A_7 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) scM0_0 (Memref.isWhole_whole _) hc
      x0 x1 x2 x3 x4 x5 x6 (ix2 i j) = outB (grid0.coords t 0).val (kept x0 x1 x2) x0 x3 x4 x5 x6 i j := by
  unfold out0_A_7
  rw [View.read_writes_eq_canon _ _ _ (cover0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc x0 x1 x2 x3 x4 x5 x6)]
  unfold kernelRun0_A
  dsimp only
  sl_unfold_run_names
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, (Memref.isWhole_whole _).read_unread]
  simp only [View.ld_unit_zero (S := S1024x2048) hz, View.ld_unit_zero (S := S16x2048) hz, View.ld_unit_zero (S := S2048x512) hz, View.ld_unit_zero (S := S1x512) hz]
  have hk : scM0_0.view.readCov (keptPieces x0 x1 x2) (Rect.unit (s := S1056x2048) ![0, 0] S1056x2048.size inb_S1056x2048_S1056x2048_0_0).toLoadRect = kept x0 x1 x2 := by
    have e : View.ld (View.canon (keptPieces x0 x1 x2)) (Rect.unit (s := S1056x2048) ![0, 0] S1056x2048.size inb_S1056x2048_S1056x2048_0_0) = kept x0 x1 x2 := by
      rw [View.ld_unit_zero (S := S1056x2048) hz]; exact canon_kept x0 x1 x2
    exact (View.readCov_eq_canon' _ _ _).trans e
  rw [hk]
  exact stored (grid0.coords t 0) _ x0 x3 x4 _ _ _ _ x5 (fun j => row_ld _ _ _ 0 rfl j) (fun j => row_ld _ _ _ 1 rfl j)
    (fun j => row_ld _ _ _ 2 rfl j) i j

end Cert.Up

end
-- ==== Proof.Top.lean ====
module

public import Idealize.ShloMosaic.Lib.Routing.OpsPair
public import Idealize.ShloMosaic.Lib.Routing.OpsSet
public import Idealize.ShloMosaic.Lib.Pointwise

/-! A small matrix set on top of a larger one: the host's scatter of whole rows at row zero, read at a row of the smaller. -/

@[expose] public section

noncomputable section

namespace Cert.Top

open Idealize.ShloMosaic Idealize.ShloMosaic.Routing

variable {R C U : Nat} (d : ScatterDims (shape2 R C) (shape1 1) (shape2 U C))

/-- Where an entry of the update goes: to the same row and lane. -/
theorem window_rows (hu : d.updateWindowDims = [0, 1]) (hi : d.insertedWindowDims = []) (j : (shape2 U C).Idx) (a : Fin 2) :
    d.window j a = (j a).val := by
  obtain ⟨uw, iw, sd, iv, wf⟩ := d
  dsimp only at hu hi
  subst hu hi
  match a with
  | ⟨0, _⟩ => rfl
  | ⟨1, _⟩ => rfl

theorem start_rows {w : Nat} (hm : d.scatterDimsToOperandDims = [0]) (idx : IVec (shape1 1) w) (h0 : ∀ k, (idx k).toInt = 0)
    (j : (shape2 U C).Idx) (a : Fin 2) : d.start j idx a = 0 := by
  unfold ScatterDims.start
  split
  · exact h0 _
  · rfl

theorem scatter_rows {α : Type} {w : Nat} (hu : d.updateWindowDims = [0, 1]) (hi : d.insertedWindowDims = [])
    (hm : d.scatterDimsToOperandDims = [0]) (x : (shape2 R C).Idx → α) (idx : IVec (shape1 1) w) (h0 : ∀ k, (idx k).toInt = 0)
    (upd : (shape2 U C).Idx → α) (r : Fin R) (r' : Fin U) (hr : r.val = r'.val) (n : Fin C) :
    Host.scatter d (fun _ b => b) x idx upd (ix2 r n) = upd (ix2 r' n) := by
  have key : ∀ j : (shape2 U C).Idx, d.resultIdx? j idx = some (ix2 r n) ↔ j = ix2 r' n := by
    intro j
    refine (resultIdx?_ix2 d j idx r n).trans ?_
    rw [start_rows d hm idx h0, start_rows d hm idx h0, window_rows d hu hi, window_rows d hu hi]
    constructor
    · rintro ⟨e0, e1⟩
      funext a; apply Fin.ext
      match a with
      | ⟨0, _⟩ => show (j 0).val = r'.val; omega
      | ⟨1, _⟩ => show (j 1).val = n.val; omega
    · rintro rfl
      exact ⟨by show (0 : Int) + (r'.val : Int) = r.val; omega, by show (0 : Int) + (n.val : Int) = n.val; omega⟩
  exact scatter_set_hit d x idx upd _ _ (fun j hj => congrArg upd ((key j).1 hj)) (ix2 r' n) ((key _).2 rfl)

end Cert.Top

end
-- ==== Proof.UpArray.lean ====
module

public import proofs.«01_k».proof.Proof.UpBlock
public import proofs.«01_k».proof.Proof.Top
public import Idealize.ShloMosaic.Lib.StableHlo.ReadAt

/-! The first projection's result array as one function of the arrays the kernel is launched on, and so of the arguments. The
    rows kept at a grid point are those of its own block, whichever point of the stretch stored them. -/

@[expose] public section

set_option maxRecDepth 16384

noncomputable section

namespace Cert.Up

open Idealize.ShloMosaic Idealize.ShloMosaic.TcCoe Idealize.SL.Sem Cert.KernelUpIdeal Cert.KernelUpIdeal.Gen Cert.Rows
open Idealize.ShloMosaic.Pipeline (Dat)

/-- Where each window's block lies at a grid point. -/
theorem index0 : ∀ t : Fin grid0.N, win0_0.index t = ![t.val / 11, 0] := by decide +kernel
theorem index1 : ∀ t : Fin grid0.N, win0_1.index t = ![t.val / 11 * 64 - 1, 0] := by decide +kernel
theorem index2 : ∀ t : Fin grid0.N, win0_2.index t = ![min ((t.val / 11 + 1) * 64) 1087, 0] := by decide +kernel
theorem index3 : ∀ t : Fin grid0.N, win0_3.index t = ![0, t.val % 11] := by decide +kernel
theorem index4 : ∀ t : Fin grid0.N, win0_4.index t = ![0, 11 + t.val % 11] := by decide +kernel
theorem index5 : ∀ t : Fin grid0.N, win0_5.index t = ![0, t.val % 11] := by decide +kernel
theorem index6 : ∀ t : Fin grid0.N, win0_6.index t = ![0, t.val % 11] := by decide +kernel
theorem index7 : ∀ t : Fin grid0.N, win0_7.index t = ![t.val / 11, t.val % 11] := by decide +kernel
theorem coord : ∀ t : Fin grid0.N, (grid0.coords t 0).val = t.val / 11 := by decide +kernel

theorem t_lt (t : Fin grid0.N) : t.val < 187 := by have h := t.isLt; simpa only [Gen.N_0] using h

/-- The array index of a block index, window by window. -/
theorem emb0 (t : Fin grid0.N) (i : Fin 1024) (k : Fin 2048) :
    (win0_0.blk t).view.emb (ix2 i k) = (ix2 ⟨t.val / 11 * 1024 + i.val, by have := t_lt t; omega⟩ k : S17408x2048.Idx) := by
  funext a; apply Fin.ext
  have h := congrFun (index0 t)
  match a with
  | ⟨0, _⟩ => show win0_0.index t 0 * 1024 + 1 * i.val = _; rw [h 0]; show t.val / 11 * 1024 + 1 * i.val = t.val / 11 * 1024 + i.val; omega
  | ⟨1, _⟩ => show win0_0.index t 1 * 2048 + 1 * k.val = _; rw [h 1]; show 0 * 2048 + 1 * k.val = k.val; omega

theorem emb1 (t : Fin grid0.N) (i : Fin 16) (k : Fin 2048) :
    (win0_1.blk t).view.emb (ix2 i k) = (ix2 ⟨(t.val / 11 * 64 - 1) * 16 + i.val, by have := t_lt t; omega⟩ k : S17408x2048.Idx) := by
  funext a; apply Fin.ext
  have h := congrFun (index1 t)
  match a with
  | ⟨0, _⟩ => show win0_1.index t 0 * 16 + 1 * i.val = _; rw [h 0]; show (t.val / 11 * 64 - 1) * 16 + 1 * i.val = (t.val / 11 * 64 - 1) * 16 + i.val; omega
  | ⟨1, _⟩ => show win0_1.index t 1 * 2048 + 1 * k.val = _; rw [h 1]; show 0 * 2048 + 1 * k.val = k.val; omega

theorem emb2 (t : Fin grid0.N) (i : Fin 16) (k : Fin 2048) :
    (win0_2.blk t).view.emb (ix2 i k) = (ix2 ⟨min ((t.val / 11 + 1) * 64) 1087 * 16 + i.val, by omega⟩ k : S17408x2048.Idx) := by
  funext a; apply Fin.ext
  have h := congrFun (index2 t)
  match a with
  | ⟨0, _⟩ => show win0_2.index t 0 * 16 + 1 * i.val = _; rw [h 0]; show min ((t.val / 11 + 1) * 64) 1087 * 16 + 1 * i.val = min ((t.val / 11 + 1) * 64) 1087 * 16 + i.val; omega
  | ⟨1, _⟩ => show win0_2.index t 1 * 2048 + 1 * k.val = _; rw [h 1]; show 0 * 2048 + 1 * k.val = k.val; omega

theorem emb3 (t : Fin grid0.N) (k : Fin 2048) (j : Fin 512) :
    (win0_3.blk t).view.emb (ix2 k j) = (ix2 k ⟨t.val % 11 * 512 + j.val, by omega⟩ : S2048x11264.Idx) := by
  funext a; apply Fin.ext
  have h := congrFun (index3 t)
  match a with
  | ⟨0, _⟩ => show win0_3.index t 0 * 2048 + 1 * k.val = _; rw [h 0]; show 0 * 2048 + 1 * k.val = k.val; omega
  | ⟨1, _⟩ => show win0_3.index t 1 * 512 + 1 * j.val = _; rw [h 1]; show t.val % 11 * 512 + 1 * j.val = t.val % 11 * 512 + j.val; omega

theorem emb4 (t : Fin grid0.N) (k : Fin 2048) (j : Fin 512) :
    (win0_4.blk t).view.emb (ix2 k j) = (ix2 k ⟨5632 + (t.val % 11 * 512 + j.val), by omega⟩ : S2048x11264.Idx) := by
  funext a; apply Fin.ext
  have h := congrFun (index4 t)
  match a with
  | ⟨0, _⟩ => show win0_4.index t 0 * 2048 + 1 * k.val = _; rw [h 0]; show 0 * 2048 + 1 * k.val = k.val; omega
  | ⟨1, _⟩ => show win0_4.index t 1 * 512 + 1 * j.val = _; rw [h 1]; show (11 + t.val % 11) * 512 + 1 * j.val = 5632 + (t.val % 11 * 512 + j.val); omega

theorem emb5 (t : Fin grid0.N) (k : Fin 8) (j : Fin 512) :
    (win0_5.blk t).view.emb (ix2 k j) = (ix2 k ⟨t.val % 11 * 512 + j.val, by omega⟩ : S8x5632.Idx) := by
  funext a; apply Fin.ext
  have h := congrFun (index5 t)
  match a with
  | ⟨0, _⟩ => show win0_5.index t 0 * 8 + 1 * k.val = _; rw [h 0]; show 0 * 8 + 1 * k.val = k.val; omega
  | ⟨1, _⟩ => show win0_5.index t 1 * 512 + 1 * j.val = _; rw [h 1]; show t.val % 11 * 512 + 1 * j.val = t.val % 11 * 512 + j.val; omega

theorem emb6 (t : Fin grid0.N) (k : Fin 1) (j : Fin 512) :
    (win0_6.blk t).view.emb (ix2 k j) = (ix2 k ⟨t.val % 11 * 512 + j.val, by omega⟩ : S1x5632.Idx) := by
  funext a; apply Fin.ext
  have h := congrFun (index6 t)
  match a with
  | ⟨0, _⟩ => show win0_6.index t 0 * 1 + 1 * k.val = _; rw [h 0]; show 0 * 1 + 1 * k.val = k.val; omega
  | ⟨1, _⟩ => show win0_6.index t 1 * 512 + 1 * j.val = _; rw [h 1]; show t.val % 11 * 512 + 1 * j.val = t.val % 11 * 512 + j.val; omega

theorem emb7 (t : Fin grid0.N) (i : Fin 1024) (j : Fin 512) :
    (win0_7.blk t).view.emb (ix2 i j)
      = (ix2 ⟨t.val / 11 * 1024 + i.val, by have := t_lt t; omega⟩ ⟨t.val % 11 * 512 + j.val, by omega⟩ : S17408x5632.Idx) := by
  funext a; apply Fin.ext
  have h := congrFun (index7 t)
  match a with
  | ⟨0, _⟩ => show win0_7.index t 0 * 1024 + 1 * i.val = _; rw [h 0]; show t.val / 11 * 1024 + 1 * i.val = t.val / 11 * 1024 + i.val; omega
  | ⟨1, _⟩ => show win0_7.index t 1 * 512 + 1 * j.val = _; rw [h 1]; show t.val % 11 * 512 + 1 * j.val = t.val % 11 * 512 + j.val; omega

/-- The rows kept while the grid point's stretch of rows is worked on. -/
def keptAt (t : Fin grid0.N) (h : Vec Ideal S17408x2048 .bf16) : Vec Ideal S1056x2048 .bf16 :=
  kept ((win0_0.blk t).view.read (Elt Ideal) h) ((win0_1.blk t).view.read (Elt Ideal) h) ((win0_2.blk t).view.read (Elt Ideal) h)

/-- They are the same all along the stretch. -/
theorem keptAt_congr (t t' : Fin grid0.N) (ht : t.val / 11 = t'.val / 11) (h : Vec Ideal S17408x2048 .bf16) :
    keptAt t h = keptAt t' h := by
  unfold keptAt
  have e0 : (win0_0.blk t).view.read (Elt Ideal) h = (win0_0.blk t').view.read (Elt Ideal) h := by
    funext y
    have k : ∀ y : S1024x2048.Idx, h ((win0_0.blk t).view.emb y) = h ((win0_0.blk t').view.emb y) := by
      intro y; idx_vars y; rw [emb0, emb0]; simp only [ht]
    exact k y
  have e1 : (win0_1.blk t).view.read (Elt Ideal) h = (win0_1.blk t').view.read (Elt Ideal) h := by
    funext y
    have k : ∀ y : S16x2048.Idx, h ((win0_1.blk t).view.emb y) = h ((win0_1.blk t').view.emb y) := by
      intro y; idx_vars y; rw [emb1, emb1]; simp only [ht]
    exact k y
  have e2 : (win0_2.blk t).view.read (Elt Ideal) h = (win0_2.blk t').view.read (Elt Ideal) h := by
    funext y
    have k : ∀ y : S16x2048.Idx, h ((win0_2.blk t).view.emb y) = h ((win0_2.blk t').view.emb y) := by
      intro y; idx_vars y; rw [emb2, emb2]; simp only [ht]
    exact k y
  rw [e0, e1, e2]

/-- A row kept, as a row of the array: the block's own, the one before it, the one after it. -/
theorem kept_own (t : Fin grid0.N) (h : Vec Ideal S17408x2048 .bf16) (i : Fin 1024) (k : Fin 2048) :
    keptAt t h (ix2 ⟨i.val, by omega⟩ k) = h (ix2 ⟨t.val / 11 * 1024 + i.val, by have := t_lt t; omega⟩ k) := by
  unfold keptAt kept
  exact (dif_pos (show i.val < 1024 from i.isLt)).trans (congrArg h (emb0 t i k))

theorem kept_before (t : Fin grid0.N) (h : Vec Ideal S17408x2048 .bf16) (k : Fin 2048) (ht : 0 < t.val / 11) :
    keptAt t h (ix2 ⟨1039, by omega⟩ k) = h (ix2 ⟨t.val / 11 * 1024 - 1, by have := t_lt t; omega⟩ k) := by
  unfold keptAt kept
  refine (dif_neg (show ¬ (1039 < 1024) by omega)).trans ((dif_pos (show 1039 < 1040 by omega)).trans ?_)
  refine congrArg h ((emb1 t ⟨15, by omega⟩ k).trans ?_)
  exact congrArg (fun r : Fin 17408 => (ix2 r k : S17408x2048.Idx))
    (Fin.ext (by show (t.val / 11 * 64 - 1) * 16 + 15 = t.val / 11 * 1024 - 1; omega))

theorem kept_after (t : Fin grid0.N) (h : Vec Ideal S17408x2048 .bf16) (k : Fin 2048) (ht : t.val / 11 < 16) :
    keptAt t h (ix2 ⟨1040, by omega⟩ k) = h (ix2 ⟨t.val / 11 * 1024 + 1024, by omega⟩ k) := by
  unfold keptAt kept
  refine (dif_neg (show ¬ (1040 < 1024) by omega)).trans ((dif_neg (show ¬ (1040 < 1040) by omega)).trans ?_)
  refine congrArg h ((emb2 t ⟨0, by omega⟩ k).trans ?_)
  exact congrArg (fun r : Fin 17408 => (ix2 r k : S17408x2048.Idx))
    (Fin.ext (by show min ((t.val / 11 + 1) * 64) 1087 * 16 + 0 = t.val / 11 * 1024 + 1024; omega))

/-- The row before and the row after, kept within the array. -/
abbrev prev (r : Fin 17408) : Fin 17408 := ⟨r.val - 1, by omega⟩
abbrev next (r : Fin 17408) : Fin 17408 := ⟨min (r.val + 1) 17407, by omega⟩

/-- The product of the rows with the first half of the weights. -/
def gateA (h : Vec Ideal S17408x2048 .bf16) (w : Vec Ideal S2048x11264 .bf16) (r : Fin 17408) (n : Fin 5632) : EReal :=
  ∑ k : Fin 2048, h (ix2 r k) * w (ix2 k ⟨n.val, by omega⟩)

/-- Three neighbouring rows of it, each with its tap, and the bias. -/
def convA (h : Vec Ideal S17408x2048 .bf16) (w : Vec Ideal S2048x11264 .bf16) (c : Vec Ideal S8x5632 .f32) (b : Vec Ideal S1x5632 .f32)
    (r : Fin 17408) (n : Fin 5632) : EReal :=
  (if First r.val then 0 else gateA h w (prev r) n) * c (ix2 0 n) + gateA h w r n * c (ix2 1 n)
    + (if Last r.val then 0 else gateA h w (next r) n) * c (ix2 2 n) + b (ix2 0 n)

/-- The result at row `r`, lane `n`. -/
def outA (h : Vec Ideal S17408x2048 .bf16) (w : Vec Ideal S2048x11264 .bf16) (c : Vec Ideal S8x5632 .f32) (b : Vec Ideal S1x5632 .f32)
    (r : Fin 17408) (n : Fin 5632) : EReal :=
  convA h w c b r n * Ideal.logistic (convA h w c b r n) * ∑ k : Fin 2048, h (ix2 r k) * w (ix2 k ⟨5632 + n.val, by omega⟩)

/-- The whole result array. -/
def whole (h : Vec Ideal S17408x2048 .bf16) (w : Vec Ideal S2048x11264 .bf16) (c : Vec Ideal S8x5632 .f32) (b : Vec Ideal S1x5632 .f32) :
    Vec Ideal S17408x5632 .bf16 := fun u => outA h w c b (u 0) (u 1)

section Block
variable (t : Fin grid0.N) (h : Vec Ideal S17408x2048 .bf16) (w : Vec Ideal S2048x11264 .bf16) (i : Fin 1024) (j : Fin 512)

/-- The row and the lane of the array that an entry of the point's block is. -/
abbrev row : Fin 17408 := ⟨t.val / 11 * 1024 + i.val, by have := t_lt t; omega⟩
abbrev lane : Fin 5632 := ⟨t.val % 11 * 512 + j.val, by omega⟩

theorem gate_of (r : Fin 1056) (R : Fin 17408) (e : ∀ k, keptAt t h (ix2 r k) = h (ix2 R k)) :
    gateB (keptAt t h) ((win0_3.blk t).view.read (Elt Ideal) w) r j = gateA h w R (lane t j) := by
  unfold gateB gateA
  exact Finset.sum_congr rfl fun k _ => congrArg₂ (· * ·) (e k) (congrArg w (emb3 t k j))

theorem taps_of (c0 c1 c2 : EReal) :
    tapsB (t.val / 11 * 1024 + i.val) (keptAt t h) ((win0_3.blk t).view.read (Elt Ideal) w) c0 c1 c2 i j
      = (if First (row t i).val then 0 else gateA h w (prev (row t i)) (lane t j)) * c0 + gateA h w (row t i) (lane t j) * c1
        + (if Last (row t i).val then 0 else gateA h w (next (row t i)) (lane t j)) * c2 := by
  unfold tapsB
  have ht := t_lt t
  have hi := i.isLt
  have a1 : gateB (keptAt t h) ((win0_3.blk t).view.read (Elt Ideal) w) ⟨i.val, by omega⟩ j = gateA h w (row t i) (lane t j) :=
    gate_of t h w j _ _ fun k => kept_own t h i k
  have a0 : (if First (row t i).val then (0 : EReal) else gateB (keptAt t h) ((win0_3.blk t).view.read (Elt Ideal) w) (rowBefore i) j)
      = if First (row t i).val then 0 else gateA h w (prev (row t i)) (lane t j) := by
    by_cases hf : First (row t i).val
    · rw [if_pos hf, if_pos hf]
    · rw [if_neg hf, if_neg hf]
      refine gate_of t h w j _ _ fun k => ?_
      unfold rowBefore
      have hf : ¬ ((t.val / 11 * 1024 + i.val) % 4352 = 0 ∨ (t.val / 11 * 1024 + i.val) % 4352 = 256) := hf
      by_cases h0 : i.val = 0
      · rw [if_pos h0, kept_before t h k (by omega)]
        exact congrArg (fun r : Fin 17408 => h (ix2 r k))
          (Fin.ext (by show t.val / 11 * 1024 - 1 = t.val / 11 * 1024 + i.val - 1; omega))
      · rw [if_neg h0]
        refine (kept_own t h ⟨i.val - 1, by omega⟩ k).trans ?_
        exact congrArg (fun r : Fin 17408 => h (ix2 r k))
          (Fin.ext (by show t.val / 11 * 1024 + (i.val - 1) = t.val / 11 * 1024 + i.val - 1; omega))
  have a2 : (if Last (row t i).val then (0 : EReal) else gateB (keptAt t h) ((win0_3.blk t).view.read (Elt Ideal) w) (rowAfter i) j)
      = if Last (row t i).val then 0 else gateA h w (next (row t i)) (lane t j) := by
    by_cases hf : Last (row t i).val
    · rw [if_pos hf, if_pos hf]
    · rw [if_neg hf, if_neg hf]
      refine gate_of t h w j _ _ fun k => ?_
      unfold rowAfter
      have hf : ¬ ((t.val / 11 * 1024 + i.val) % 4352 = 255 ∨ (t.val / 11 * 1024 + i.val) % 4352 = 4351) := hf
      by_cases h0 : i.val = 1023
      · rw [if_pos h0, kept_after t h k (by omega)]
        exact congrArg (fun r : Fin 17408 => h (ix2 r k))
          (Fin.ext (by show t.val / 11 * 1024 + 1024 = min (t.val / 11 * 1024 + i.val + 1) 17407; omega))
      · rw [if_neg h0]
        refine (kept_own t h ⟨i.val + 1, by omega⟩ k).trans ?_
        exact congrArg (fun r : Fin 17408 => h (ix2 r k))
          (Fin.ext (by show t.val / 11 * 1024 + (i.val + 1) = min (t.val / 11 * 1024 + i.val + 1) 17407; omega))
  exact congrArg₂ (· + ·) (congrArg₂ (· + ·) (congrArg (· * c0) a0) (congrArg (· * c1) a1)) (congrArg (· * c2) a2)

theorem block_of (c : Vec Ideal S8x5632 .f32) (b : Vec Ideal S1x5632 .f32) :
    outB (grid0.coords t 0).val (keptAt t h) ((win0_0.blk t).view.read (Elt Ideal) h) ((win0_3.blk t).view.read (Elt Ideal) w)
        ((win0_4.blk t).view.read (Elt Ideal) w) ((win0_5.blk t).view.read (Elt Ideal) c) ((win0_6.blk t).view.read (Elt Ideal) b) i j
      = outA h w c b (row t i) (lane t j) := by
  rw [coord]
  unfold outB outA convA
  have e0 : (win0_5.blk t).view.read (Elt Ideal) c (ix2 0 j) = c (ix2 0 (lane t j)) := congrArg c (emb5 t 0 j)
  have e1 : (win0_5.blk t).view.read (Elt Ideal) c (ix2 1 j) = c (ix2 1 (lane t j)) := congrArg c (emb5 t 1 j)
  have e2 : (win0_5.blk t).view.read (Elt Ideal) c (ix2 2 j) = c (ix2 2 (lane t j)) := congrArg c (emb5 t 2 j)
  have e3 : (win0_6.blk t).view.read (Elt Ideal) b (ix2 0 j) = b (ix2 0 (lane t j)) := congrArg b (emb6 t 0 j)
  rw [taps_of, e0, e1, e2, e3]
  refine congrArg _ ?_
  exact Finset.sum_congr rfl fun k _ => congrArg₂ (· * ·) (congrArg h (emb0 t i k)) (congrArg w (emb4 t k j))

end Block

/-- What a grid point writes back, for any four arrays, when the rows it finds kept are its own. -/
theorem read_whole (t : Fin cfg0.N) (h : Vec Ideal S17408x2048 .bf16) (w : Vec Ideal S2048x11264 .bf16) (c : Vec Ideal S8x5632 .f32)
    (b : Vec Ideal S1x5632 .f32) (o : Vec Ideal S1024x512 .bf16) (ho : ∀ (i : Fin 1024) (j : Fin 512), o (ix2 i j)
      = outB (grid0.coords t 0).val (keptAt t h) ((win0_0.blk t).view.read (Elt Ideal) h) ((win0_3.blk t).view.read (Elt Ideal) w)
        ((win0_4.blk t).view.read (Elt Ideal) w) ((win0_5.blk t).view.read (Elt Ideal) c) ((win0_6.blk t).view.read (Elt Ideal) b) i j) :
    o = (win0_7.blk t).view.read (Elt Ideal) (whole h w c b) := by
  funext y
  have key : ∀ y : S1024x512.Idx, o y = whole h w c b ((win0_7.blk t).view.emb y) := by
    intro y
    idx_vars y
    rw [ho, block_of, emb7]
    rfl
  exact key y

variable (m : (ℓ : Loc nD τ sig) → Buf (Elt Ideal) ℓ)

/-- The arrays of rows, weights, taps and bias the kernel is launched on. -/
def arrH (c : Dev nD) : Vec Ideal S17408x2048 .bf16 := V m c main_arg0
def arrW (c : Dev nD) : Vec Ideal S2048x11264 .bf16 := V m c main_v0
def arrC (c : Dev nD) : Vec Ideal S8x5632 .f32 := V m c main_v3
def arrB (c : Dev nD) : Vec Ideal S1x5632 .f32 := V m c main_v4

/-- The four arguments. -/
def argH (c : Dev nD) : Vec Ideal S17408x2048 .bf16 := m ((c.tc : Thread nD τ).loc main_arg0)
def argW (c : Dev nD) : Vec Ideal S2048x11264 .f32 := m ((c.tc : Thread nD τ).loc main_arg1)
def argC (c : Dev nD) : Vec Ideal S3x5632 .f32 := m ((c.tc : Thread nD τ).loc main_arg2)
def argB (c : Dev nD) : Vec Ideal S5632 .f32 := m ((c.tc : Thread nD τ).loc main_arg3)

/-- The weights are launched on as they are, but for their format. -/
theorem arrW_apply (c : Dev nD) (k : Fin 2048) (n : Fin 11264) : arrW m c (ix2 k n) = argW m c (ix2 k n) := by
  unfold arrW V
  after_reads_at
  rfl

/-- The taps are the first three of eight rows. -/
theorem taps_top (x : Vec Ideal S8x5632 .f32) (u : Vec Ideal S3x5632 .f32) (r : Fin 8) (r' : Fin 3) (hr : r.val = r'.val) (n : Fin 5632) :
    Host.scatter scatter_S8x5632_S1_S3x5632_01_n_0_0 (fun _ b => b) x (broadcastInDim S1 ![] bcast_S_S1 (constantI S_ 32 0#32)) u (ix2 r n)
      = u (ix2 r' n) :=
  Cert.Top.scatter_rows scatter_S8x5632_S1_S3x5632_01_n_0_0 rfl rfl rfl x _ (fun _ => rfl) u r r' hr n

theorem arrC_apply (c : Dev nD) (r : Fin 8) (r' : Fin 3) (hr : r.val = r'.val) (n : Fin 5632) :
    arrC m c (ix2 r n) = argC m c (ix2 r' n) := by
  unfold arrC V
  after_reads_at
  exact taps_top _ _ r r' hr n

theorem arrB_apply (c : Dev nD) (n : Fin 5632) : arrB m c (ix2 0 n) = argB m c (ix1 n) := by
  unfold arrB V
  after_reads_at
  rfl

/-- The rows a grid point leaves kept: at the head of a stretch its own, further on those it found. -/
theorem scratch_A (c : Dev nD) (t : Fin cfg0.N) (h0 : t.val % 11 = 0) : (outsAt0 m c t.val t.isLt).2 = keptAt t (arrH m c) := by
  rw [outsAt0_A m c t h0]
  dsimp only
  rw [sout_A c t ((hcond0_0 t).mpr h0) (iblk m c 0 t) (iblk m c 1 t) (iblk m c 2 t) (iblk m c 3 t) (iblk m c 4 t) (iblk m c 5 t) (iblk m c 6 t)]
  rfl

theorem scratch_B (c : Dev nD) (t : Fin cfg0.N) (h0 : ¬t.val % 11 = 0) :
    (outsAt0 m c t.val t.isLt).2 = (outsAt0 m c (t.val - 1) (Nat.lt_of_le_of_lt (Nat.sub_le _ _) t.isLt)).2 := by
  rw [outsAt0_B m c t h0]
  rfl

/-- The rows kept after each grid point are its own. -/
theorem kept_eq (c : Dev nD) : ∀ (n : Nat) (hn : n < cfg0.N), (outsAt0 m c n hn).2 = keptAt ⟨n, hn⟩ (arrH m c) := by
  intro n
  induction n with
  | zero =>
    intro hn
    exact scratch_A m c ⟨0, hn⟩ (Nat.zero_mod 11)
  | succ n ih =>
    intro hn
    by_cases h0 : (n + 1) % 11 = 0
    · exact scratch_A m c ⟨n + 1, hn⟩ h0
    · refine (scratch_B m c ⟨n + 1, hn⟩ h0).trans ((ih (Nat.lt_of_succ_lt hn)).trans ?_)
      exact keptAt_congr _ _ (by show n / 11 = (n + 1) / 11; omega) _

/-- The result array. -/
def G (c : Dev nD) : Buf (Elt Ideal) ((c : Thread nD τ).loc main_v5) := whole (arrH m c) (arrW m c) (arrC m c) (arrB m c)

/-- What a grid point writes back is its block of the whole array. -/
theorem flushed_eq (c : Dev nD) (t : Fin cfg0.N) :
    (dats m 0 c).flushed 7 t = (win0_7.blk t).view.read (Elt Ideal) (G m c) := by
  by_cases h0 : t.val % 11 = 0
  · rw [Value.flushed7_A m c t h0]
    exact read_whole t (arrH m c) (arrW m c) (arrC m c) (arrB m c) _ fun i j => out_A c t _ _ _ _ _ _ _ _ i j
  · rw [Value.flushed7_B m c t h0, kept_eq m c (t.val - 1),
      keptAt_congr ⟨t.val - 1, _⟩ t (by show (t.val - 1) / 11 = t.val / 11; omega)]
    exact read_whole t (arrH m c) (arrW m c) (arrC m c) (arrB m c) _ fun i j => out_B c t _ _ _ _ _ _ _ _ _ i j

/-- Every index of the result lies in the block of some grid point. -/
theorem cover (i : S17408x5632.Idx) :
    ∃ t : Fin cfg0.N, (cfg0.win 7).flush t = true ∧ i ∈ ((cfg0.win 7).blk t).view.set := by
  have h0 : (i 0 : Nat) < 17408 := (i 0).isLt
  have h1 : (i 1 : Nat) < 5632 := (i 1).isLt
  refine ⟨⟨(i 0 : Nat) / 1024 * 11 + (i 1 : Nat) / 512, by show _ < grid0.N; rw [Gen.N_0]; omega⟩, flush0_7 _, ?_⟩
  generalize ht : (⟨(i 0 : Nat) / 1024 * 11 + (i 1 : Nat) / 512, by show _ < grid0.N; rw [Gen.N_0]; omega⟩ : Fin grid0.N) = t
  have hv : t.val = (i 0 : Nat) / 1024 * 11 + (i 1 : Nat) / 512 := by rw [← ht]
  show i ∈ ((View.whole main_v5).slice (win0_7.rect t)).set
  rw [View.set_slice_whole, Rect.mem_set_unit]
  have h := congrFun (index7 t)
  intro a
  match a with
  | ⟨0, _⟩ => show win0_7.index t 0 * 1024 ≤ (i 0 : Nat) ∧ (i 0 : Nat) < win0_7.index t 0 * 1024 + 1024
              rw [h 0]; show t.val / 11 * 1024 ≤ (i 0 : Nat) ∧ (i 0 : Nat) < t.val / 11 * 1024 + 1024; omega
  | ⟨1, _⟩ => show win0_7.index t 1 * 512 ≤ (i 1 : Nat) ∧ (i 1 : Nat) < win0_7.index t 1 * 512 + 512
              rw [h 1]; show t.val % 11 * 512 ≤ (i 1 : Nat) ∧ (i 1 : Nat) < t.val % 11 * 512 + 512; omega

/-- So the result array ends as the whole function. -/
theorem final (c : Dev nD) : (dats m 0 c).arrAt 7 cfg0.N = G m c :=
  (dats m 0 c).arrAt_eq_of_cover 7 (G m c) (fun t _ => flushed_eq m c t) cover

/-- The gate half of the product, and the convolution, from the arguments. -/
def gate (h : Vec Ideal S17408x2048 .bf16) (w : Vec Ideal S2048x11264 .f32) (r : Fin 17408) (n : Fin 5632) : EReal :=
  ∑ k : Fin 2048, h (ix2 r k) * w (ix2 k ⟨n.val, by omega⟩)
def conv (h : Vec Ideal S17408x2048 .bf16) (w : Vec Ideal S2048x11264 .f32) (cw : Vec Ideal S3x5632 .f32) (b : Vec Ideal S5632 .f32)
    (r : Fin 17408) (n : Fin 5632) : EReal :=
  (if First r.val then 0 else gate h w (prev r) n) * cw (ix2 0 n) + gate h w r n * cw (ix2 1 n)
    + (if Last r.val then 0 else gate h w (next r) n) * cw (ix2 2 n) + b (ix1 n)

/-- The result at a row and a lane, from the arguments. -/
theorem G_apply (c : Dev nD) (r : Fin 17408) (n : Fin 5632) :
    G m c (ix2 r n) = conv (argH m c) (argW m c) (argC m c) (argB m c) r n
        * Ideal.logistic (conv (argH m c) (argW m c) (argC m c) (argB m c) r n)
        * ∑ k : Fin 2048, argH m c (ix2 r k) * argW m c (ix2 k ⟨5632 + n.val, by omega⟩) := by
  have hH : arrH m c = argH m c := V_main_arg0 m c
  have hg : ∀ r, gateA (arrH m c) (arrW m c) r n = gate (argH m c) (argW m c) r n := by
    intro r; unfold gateA gate; simp only [arrW_apply, hH]
  have hc : convA (arrH m c) (arrW m c) (arrC m c) (arrB m c) r n = conv (argH m c) (argW m c) (argC m c) (argB m c) r n := by
    unfold convA conv
    rw [hg, hg, hg, arrC_apply m c 0 0 rfl, arrC_apply m c 1 1 rfl, arrC_apply m c 2 2 rfl, arrB_apply]
  show outA (arrH m c) (arrW m c) (arrC m c) (arrB m c) r n = _
  unfold outA
  rw [hc]
  simp only [arrW_apply, hH]

end Cert.Up

end
-- ==== Proof.UpRef.lean ====
module

public import proofs.«01_k».proof.Proof.Gen.ReferenceUpIdeal.Read
public import Idealize.ShloMosaic.Lib.Pointwise

/-! The reference of the first projection at one element, for a context row and for a latent row of a batch. -/

@[expose] public section

set_option maxRecDepth 16384

noncomputable section

namespace Cert.Up

open Idealize.ShloMosaic Cert.ReferenceUpIdeal Cert.ReferenceUpIdeal.Gen Cert.ReferenceUpIdeal.Read

variable (x0 : Vec Ideal S17408x2048 .bf16) (x1 : Vec Ideal S2048x11264 .f32) (x2 : Vec Ideal S3x5632 .f32) (x3 : Vec Ideal S5632 .f32)

/-- The two halves of the product with the weights. -/
theorem ref_gate_ctx (b : Fin 4) (p : Fin 256) (n : Fin 5632) :
    val_main_v4 (F := Ideal) x0 x1 (ix3 b p n)
      = ∑ k : Fin 2048, x0 (ix2 ⟨b.val * 4352 + p.val, by omega⟩ k) * x1 (ix2 k ⟨n.val, by omega⟩) := by
  pointwise [val_main_v4, val_main_v3, val_main_v2, val_main_v1, val_main_v0]

theorem ref_up_ctx (b : Fin 4) (p : Fin 256) (n : Fin 5632) :
    val_main_v5 (F := Ideal) x0 x1 (ix3 b p n)
      = ∑ k : Fin 2048, x0 (ix2 ⟨b.val * 4352 + p.val, by omega⟩ k) * x1 (ix2 k ⟨5632 + n.val, by omega⟩) := by
  pointwise [val_main_v5, val_main_v3, val_main_v2, val_main_v1, val_main_v0]

theorem ref_gate_lat (b : Fin 4) (p : Fin 4096) (n : Fin 5632) :
    val_main_v36 (F := Ideal) x0 x1 (ix3 b p n)
      = ∑ k : Fin 2048, x0 (ix2 ⟨b.val * 4352 + (256 + p.val), by omega⟩ k) * x1 (ix2 k ⟨n.val, by omega⟩) := by
  pointwise [val_main_v36, val_main_v35, val_main_v34, val_main_v1, val_main_v0]

theorem ref_up_lat (b : Fin 4) (p : Fin 4096) (n : Fin 5632) :
    val_main_v37 (F := Ideal) x0 x1 (ix3 b p n)
      = ∑ k : Fin 2048, x0 (ix2 ⟨b.val * 4352 + (256 + p.val), by omega⟩ k) * x1 (ix2 k ⟨5632 + n.val, by omega⟩) := by
  pointwise [val_main_v37, val_main_v35, val_main_v34, val_main_v1, val_main_v0]

/-- The row before, and the row after, within the sequence. -/
theorem before_ctx (Z : FVec Ideal S4x1x5632 .f32) (hz : ∀ u, Z u = 0) (g : FVec Ideal S4x256x5632 .f32) (b : Fin 4) (p : Fin 256) (n : Fin 5632) :
    (concatenate S4x256x5632 1 [⟨S4x1x5632, Z⟩, ⟨S4x255x5632, extractStridedSlice S4x255x5632 ![0, 0, 0] g slices_S4x256x5632_S4x255x5632_0_0_0⟩]
        concatenates_S4x1x5632_S4x255x5632_S4x256x5632_d1 : FVec Ideal S4x256x5632 .f32) (ix3 b p n)
      = if p.val = 0 then 0 else g (ix3 b ⟨p.val - 1, by omega⟩ n) := by
  pointwise [hz]
  by_cases h : p.val < 1
  · exact (dif_pos h).trans (if_pos (show p.val = 0 by omega)).symm
  · exact (dif_neg h).trans (if_neg (show ¬ p.val = 0 by omega)).symm

theorem after_ctx (Z : FVec Ideal S4x1x5632 .f32) (hz : ∀ u, Z u = 0) (g : FVec Ideal S4x256x5632 .f32) (b : Fin 4) (p : Fin 256) (n : Fin 5632) :
    (concatenate S4x256x5632 1 [⟨S4x255x5632, extractStridedSlice S4x255x5632 ![0, 1, 0] g slices_S4x256x5632_S4x255x5632_0_1_0⟩, ⟨S4x1x5632, Z⟩]
        concatenates_S4x255x5632_S4x1x5632_S4x256x5632_d1 : FVec Ideal S4x256x5632 .f32) (ix3 b p n)
      = if p.val = 255 then 0 else g (ix3 b ⟨min (p.val + 1) 255, by omega⟩ n) := by
  pointwise [hz]
  by_cases h : p.val < 255
  · have e : (⟨1 + p.val, by omega⟩ : Fin 256) = ⟨min (p.val + 1) 255, by omega⟩ := Fin.ext (by show 1 + p.val = min (p.val + 1) 255; omega)
    exact (dif_pos h).trans ((congrArg (fun k => g (ix3 b k n)) e).trans (if_neg (show ¬ p.val = 255 by omega)).symm)
  · exact (dif_neg h).trans (if_pos (show p.val = 255 by omega)).symm

theorem conv_ctx (b : Fin 4) (p : Fin 256) (n : Fin 5632) :
    val_main_v31 (F := Ideal) x0 x1 x2 x3 (ix3 b p n)
      = val_main_v9 (F := Ideal) x0 x1 (ix3 b p n) * x2 (ix2 0 n) + val_main_v4 (F := Ideal) x0 x1 (ix3 b p n) * x2 (ix2 1 n)
        + val_main_v11 (F := Ideal) x0 x1 (ix3 b p n) * x2 (ix2 2 n) + x3 (ix1 n) := by
  pointwise [val_main_v31, val_main_v30, val_main_v29, val_main_v28, val_main_v27, val_main_v26, val_main_v25, val_main_v24, val_main_v23,
    val_main_v22, val_main_v21, val_main_v20, val_main_v19, val_main_v18, val_main_v17, val_main_v16, val_main_v15, val_main_v14,
    val_main_v13, val_main_v12]

theorem out_ctx (b : Fin 4) (p : Fin 256) (n : Fin 5632) :
    val_main_v33 (F := Ideal) x0 x1 x2 x3 (ix3 b p n)
      = val_main_v31 (F := Ideal) x0 x1 x2 x3 (ix3 b p n) * Ideal.logistic (val_main_v31 (F := Ideal) x0 x1 x2 x3 (ix3 b p n))
        * val_main_v5 (F := Ideal) x0 x1 (ix3 b p n) := by
  pointwise [val_main_v33, val_main_v32, val_main_call0_v5, val_main_call0_v4, val_main_call0_cst_0, val_main_call0_v3, val_main_call0_v2,
    val_main_call0_cst, val_main_call0_v1, val_main_call0_v0]
  rfl

theorem zero_ctx (u : S4x1x5632.Idx) : val_main_v7 (F := Ideal) u = 0 := by
  idx_vars u
  pointwise [val_main_v7, val_main_cst]

/-- The same among the latent rows. -/
theorem before_lat (Z : FVec Ideal S4x1x5632 .f32) (hz : ∀ u, Z u = 0) (g : FVec Ideal S4x4096x5632 .f32) (b : Fin 4) (p : Fin 4096) (n : Fin 5632) :
    (concatenate S4x4096x5632 1 [⟨S4x1x5632, Z⟩, ⟨S4x4095x5632, extractStridedSlice S4x4095x5632 ![0, 0, 0] g slices_S4x4096x5632_S4x4095x5632_0_0_0⟩]
        concatenates_S4x1x5632_S4x4095x5632_S4x4096x5632_d1 : FVec Ideal S4x4096x5632 .f32) (ix3 b p n)
      = if p.val = 0 then 0 else g (ix3 b ⟨p.val - 1, by omega⟩ n) := by
  pointwise [hz]
  by_cases h : p.val < 1
  · exact (dif_pos h).trans (if_pos (show p.val = 0 by omega)).symm
  · exact (dif_neg h).trans (if_neg (show ¬ p.val = 0 by omega)).symm

theorem after_lat (Z : FVec Ideal S4x1x5632 .f32) (hz : ∀ u, Z u = 0) (g : FVec Ideal S4x4096x5632 .f32) (b : Fin 4) (p : Fin 4096) (n : Fin 5632) :
    (concatenate S4x4096x5632 1 [⟨S4x4095x5632, extractStridedSlice S4x4095x5632 ![0, 1, 0] g slices_S4x4096x5632_S4x4095x5632_0_1_0⟩, ⟨S4x1x5632, Z⟩]
        concatenates_S4x4095x5632_S4x1x5632_S4x4096x5632_d1 : FVec Ideal S4x4096x5632 .f32) (ix3 b p n)
      = if p.val = 4095 then 0 else g (ix3 b ⟨min (p.val + 1) 4095, by omega⟩ n) := by
  pointwise [hz]
  by_cases h : p.val < 4095
  · have e : (⟨1 + p.val, by omega⟩ : Fin 4096) = ⟨min (p.val + 1) 4095, by omega⟩ := Fin.ext (by show 1 + p.val = min (p.val + 1) 4095; omega)
    exact (dif_pos h).trans ((congrArg (fun k => g (ix3 b k n)) e).trans (if_neg (show ¬ p.val = 4095 by omega)).symm)
  · exact (dif_neg h).trans (if_pos (show p.val = 4095 by omega)).symm

theorem conv_lat (b : Fin 4) (p : Fin 4096) (n : Fin 5632) :
    val_main_v63 (F := Ideal) x0 x1 x2 x3 (ix3 b p n)
      = val_main_v41 (F := Ideal) x0 x1 (ix3 b p n) * x2 (ix2 0 n) + val_main_v36 (F := Ideal) x0 x1 (ix3 b p n) * x2 (ix2 1 n)
        + val_main_v43 (F := Ideal) x0 x1 (ix3 b p n) * x2 (ix2 2 n) + x3 (ix1 n) := by
  pointwise [val_main_v63, val_main_v62, val_main_v61, val_main_v60, val_main_v59, val_main_v58, val_main_v57, val_main_v56, val_main_v55,
    val_main_v54, val_main_v53, val_main_v52, val_main_v51, val_main_v50, val_main_v49, val_main_v48, val_main_v47, val_main_v46,
    val_main_v45, val_main_v44]

theorem out_lat (b : Fin 4) (p : Fin 4096) (n : Fin 5632) :
    val_main_v65 (F := Ideal) x0 x1 x2 x3 (ix3 b p n)
      = val_main_v63 (F := Ideal) x0 x1 x2 x3 (ix3 b p n) * Ideal.logistic (val_main_v63 (F := Ideal) x0 x1 x2 x3 (ix3 b p n))
        * val_main_v37 (F := Ideal) x0 x1 (ix3 b p n) := by
  pointwise [val_main_v65, val_main_v64, val_main_call1_v5, val_main_call1_v4, val_main_call1_cst_0, val_main_call1_v3, val_main_call1_v2,
    val_main_call1_cst, val_main_call1_v1, val_main_call1_v0]
  rfl

theorem zero_lat (u : S4x1x5632.Idx) : val_main_v39 (F := Ideal) u = 0 := by
  idx_vars u
  pointwise [val_main_v39, val_main_cst_0]

theorem joined (X : FVec Ideal S4x256x5632 .f32) (Y : FVec Ideal S4x4096x5632 .f32) (r : Fin 17408) (n : Fin 5632) :
    (truncf .bf16 (shapeCast S17408x5632 (concatenate S4x4352x5632 1 [⟨S4x256x5632, X⟩, ⟨S4x4096x5632, Y⟩]
        concatenates_S4x256x5632_S4x4096x5632_S4x4352x5632_d1) shapeCasts_S4x4352x5632_S17408x5632 : FVec Ideal S17408x5632 .f32) bitsLt_bf16_f32 : FVec Ideal S17408x5632 .bf16) (ix2 r n)
      = if h : r.val % 4352 < 256 then X (ix3 ⟨r.val / 4352, by omega⟩ ⟨r.val % 4352, h⟩ n)
        else Y (ix3 ⟨r.val / 4352, by omega⟩ ⟨r.val % 4352 - 256, by omega⟩ n) := by
  pointwise []

end Cert.Up

end
-- ==== Proof.UpClaims.lean ====
module

public import proofs.«01_k».proof.Defs
public import proofs.«01_k».proof.Proof.Gen.KernelUp.Frame
public import proofs.«01_k».proof.Proof.UpArray
public import proofs.«01_k».proof.Proof.UpRef
public import Idealize.ShloMosaic.Adequacy
public import Idealize.ShloMosaic.Init

/-! The claims about the feed-forward's first projection. -/

@[expose] public section

set_option maxRecDepth 16384

noncomputable section

namespace Cert.Up

open Idealize.ShloMosaic Idealize.ShloMosaic.TcCoe Idealize.SL.Sem Cert.KernelUpIdeal Cert.Rows
open Cert.ReferenceUpIdeal.Read (val_main_v4 val_main_v9 val_main_v11 val_main_v31 val_main_v36 val_main_v41 val_main_v43 val_main_v63)

section Rows
variable (h : Vec Ideal S17408x2048 .bf16) (w : Vec Ideal S2048x11264 .f32) (cw : Vec Ideal S3x5632 .f32) (b : Vec Ideal S5632 .f32)
  (q : Fin 4) (n : Fin 5632)

/-- The convolution over a batch's context rows is the kernel's, whose rows stop at the ends of the context. -/
theorem conv_ctx_eq (p : Fin 256) (r : Fin 17408) (hr : r.val = q.val * 4352 + p.val) :
    val_main_v31 (F := Ideal) h w cw b (ix3 q p n) = conv h w cw b r n := by
  have e1 : val_main_v4 (F := Ideal) h w (ix3 q p n) = gate h w r n := by
    have e : (⟨q.val * 4352 + p.val, by omega⟩ : Fin 17408) = r := Fin.ext hr.symm
    rw [ref_gate_ctx]
    unfold gate
    simp only [e]
  have e0 : val_main_v9 (F := Ideal) h w (ix3 q p n) = if First r.val then 0 else gate h w (prev r) n := by
    refine (before_ctx _ zero_ctx _ q p n).trans ?_
    by_cases h0 : p.val = 0
    · rw [if_pos h0, if_pos (show First r.val from Or.inl (by omega))]
    · rw [if_neg h0, if_neg (show ¬ First r.val from fun k => by rcases k with k | k <;> omega), ref_gate_ctx]
      have e : (⟨q.val * 4352 + (p.val - 1), by omega⟩ : Fin 17408) = prev r := Fin.ext (by show q.val * 4352 + (p.val - 1) = r.val - 1; omega)
      unfold gate
      simp only [e]
  have e2 : val_main_v11 (F := Ideal) h w (ix3 q p n) = if Last r.val then 0 else gate h w (next r) n := by
    refine (after_ctx _ zero_ctx _ q p n).trans ?_
    by_cases h0 : p.val = 255
    · rw [if_pos h0, if_pos (show Last r.val from Or.inl (by omega))]
    · rw [if_neg h0, if_neg (show ¬ Last r.val from fun k => by rcases k with k | k <;> omega), ref_gate_ctx]
      have e : (⟨q.val * 4352 + min (p.val + 1) 255, by omega⟩ : Fin 17408) = next r :=
        Fin.ext (by show q.val * 4352 + min (p.val + 1) 255 = min (r.val + 1) 17407; omega)
      unfold gate
      simp only [e]
  rw [conv_ctx, e0, e1, e2]
  rfl

theorem conv_lat_eq (p : Fin 4096) (r : Fin 17408) (hr : r.val = q.val * 4352 + (256 + p.val)) :
    val_main_v63 (F := Ideal) h w cw b (ix3 q p n) = conv h w cw b r n := by
  have e1 : val_main_v36 (F := Ideal) h w (ix3 q p n) = gate h w r n := by
    have e : (⟨q.val * 4352 + (256 + p.val), by omega⟩ : Fin 17408) = r := Fin.ext hr.symm
    rw [ref_gate_lat]
    unfold gate
    simp only [e]
  have e0 : val_main_v41 (F := Ideal) h w (ix3 q p n) = if First r.val then 0 else gate h w (prev r) n := by
    refine (before_lat _ zero_lat _ q p n).trans ?_
    by_cases h0 : p.val = 0
    · rw [if_pos h0, if_pos (show First r.val from Or.inr (by omega))]
    · rw [if_neg h0, if_neg (show ¬ First r.val from fun k => by rcases k with k | k <;> omega), ref_gate_lat]
      have e : (⟨q.val * 4352 + (256 + (p.val - 1)), by omega⟩ : Fin 17408) = prev r :=
        Fin.ext (by show q.val * 4352 + (256 + (p.val - 1)) = r.val - 1; omega)
      unfold gate
      simp only [e]
  have e2 : val_main_v43 (F := Ideal) h w (ix3 q p n) = if Last r.val then 0 else gate h w (next r) n := by
    refine (after_lat _ zero_lat _ q p n).trans ?_
    by_cases h0 : p.val = 4095
    · rw [if_pos h0, if_pos (show Last r.val from Or.inr (by omega))]
    · rw [if_neg h0, if_neg (show ¬ Last r.val from fun k => by rcases k with k | k <;> omega), ref_gate_lat]
      have e : (⟨q.val * 4352 + (256 + min (p.val + 1) 4095), by omega⟩ : Fin 17408) = next r :=
        Fin.ext (by show q.val * 4352 + (256 + min (p.val + 1) 4095) = min (r.val + 1) 17407; omega)
      unfold gate
      simp only [e]
  rw [conv_lat, e0, e1, e2]
  rfl

end Rows

/-- The reference's result, on the kernel's arguments, is the kernel's result array. -/
theorem result_eq (m : (ℓ : Loc nD τ sig) → Buf (Elt Ideal) ℓ) (c : Dev nD) :
    Cert.ReferenceUpIdeal.Read.val_main_v68 (F := Ideal) (argH m c) (argW m c) (argC m c) (argB m c) = G m c := by
  funext u
  idx_vars u
  refine Eq.trans ?_ (G_apply m c u0 u1).symm
  unfold Cert.ReferenceUpIdeal.Read.val_main_v68 Cert.ReferenceUpIdeal.Read.val_main_v67 Cert.ReferenceUpIdeal.Read.val_main_v66
  refine (joined _ _ u0 u1).trans ?_
  by_cases h : u0.val % 4352 < 256
  · have hr : (⟨u0.val / 4352 * 4352 + u0.val % 4352, by omega⟩ : Fin 17408) = u0 := Fin.ext (by show u0.val / 4352 * 4352 + u0.val % 4352 = u0.val; omega)
    rw [dif_pos h, out_ctx, ref_up_ctx, conv_ctx_eq _ _ _ _ _ _ _ u0 (by show u0.val = u0.val / 4352 * 4352 + u0.val % 4352; omega)]
    simp only [hr]
  · have hr : (⟨u0.val / 4352 * 4352 + (256 + (u0.val % 4352 - 256)), by omega⟩ : Fin 17408) = u0 :=
      Fin.ext (by show u0.val / 4352 * 4352 + (256 + (u0.val % 4352 - 256)) = u0.val; omega)
    rw [dif_neg h, out_lat, ref_up_lat,
      conv_lat_eq _ _ _ _ _ _ _ u0 (by show u0.val = u0.val / 4352 * 4352 + (256 + (u0.val % 4352 - 256)); omega)]
    simp only [hr]

theorem frame_reference : Cert.quiescent_ReferenceUpIdeal := fun m ρ _ =>
  (θ_run Cert.ReferenceUpIdeal.defs _ _).mono
    (fun r h => ⟨fun c => ⟨(h c).2.1, (h c).2.2.1, (h c).2.2.2.1, (h c).2.2.2.2⟩,
      Idealize.ShloMosaic.sem_eq_zero_of_no_sems (by decide) r.2⟩)
    (Cert.ReferenceUpIdeal.Value.run (F := Ideal) m ρ)

theorem algebraic : Cert.algebraic_KernelUpIdeal_ReferenceUpIdeal := by
  intro m ρ m' ρ' _ hagree
  refine ⟨fun c => G m c, ?_, ?_⟩
  · exact (θ_run Cert.KernelUpIdeal.defs _ _).mono (fun r h c => ⟨(h c).1.trans (final m c), (h c).2⟩)
      (Cert.KernelUpIdeal.Value.run_blocks m ρ)
  · refine (θ_run Cert.ReferenceUpIdeal.defs _ _).mono (fun r h c => ⟨(h c).1.trans ?_, (h c).2⟩)
      (Cert.ReferenceUpIdeal.Value.run (F := Ideal) m' ρ')
    rw [Cert.ReferenceUpIdeal.Read.val_main_v68_eq]
    obtain ⟨e0, e1, e2, e3⟩ := hagree c
    rw [e0, e1, e2, e3]
    exact result_eq m c

end Cert.Up

end
-- ==== Proof.UpLatPay.lean ====
module

public import proofs.«01_k».proof.Proof.Gen.KernelUpLatIdeal.Skeleton
public import proofs.«01_k».proof.Proof.UpPay

/-! The values the first projection over latent rows stores, at one element: as in the other program, but that only the 4096
    latent rows of a batch make a sequence. -/

@[expose] public section

set_option maxRecDepth 16384

noncomputable section

namespace Cert.UpLat

open Idealize.ShloMosaic Cert.KernelUpLatIdeal Cert.KernelUpLatIdeal.Gen
open Cert.Up (eq_word select_def spot spot_iff ori_iff select_iff stretch rolled_back rolled_on rowBefore rowAfter gateB)

theorem pay6_apply (s : Vec Ideal S1056x2048 .bf16) (w : Vec Ideal S2048x512 .bf16) (i : Fin 1024) (j : Fin 512) :
    k0_pay6 (F := Ideal) s w (ix2 i j) = ∑ k : Fin 2048, s (ix2 ⟨i.val, by omega⟩ k) * w (ix2 k j) :=
  Cert.Up.pay6_apply s w i j
theorem pay7_apply (s : Vec Ideal S1056x2048 .bf16) (w : Vec Ideal S2048x512 .bf16) (i : Fin 1) (j : Fin 512) :
    k0_pay7 (F := Ideal) s w (ix2 i j) = ∑ k : Fin 2048, s (ix2 ⟨1039, by omega⟩ k) * w (ix2 k j) :=
  Cert.Up.pay7_apply s w i j
theorem pay8_apply (s : Vec Ideal S1056x2048 .bf16) (w : Vec Ideal S2048x512 .bf16) (i : Fin 1) (j : Fin 512) :
    k0_pay8 (F := Ideal) s w (ix2 i j) = ∑ k : Fin 2048, s (ix2 ⟨1040, by omega⟩ k) * w (ix2 k j) :=
  Cert.Up.pay8_apply s w i j
theorem pay9_apply (s : Vec Ideal S1024x2048 .bf16) (w : Vec Ideal S2048x512 .bf16) (i : Fin 1024) (j : Fin 512) :
    k0_pay9 (F := Ideal) s w (ix2 i j) = ∑ k : Fin 2048, s (ix2 i k) * w (ix2 k j) :=
  Cert.Up.pay9_apply s w i j

/-- The number of a stretch of 256 rows within its batch's sixteen, as the kernel works it out. -/
abbrev lowered (v : BitVec 32) : BitVec 1 :=
  Scalar.andi (Scalar.cmpi .ne (Scalar.subi (Scalar.extui (Scalar.cmpi .sgt v 0#32)) (Scalar.extui (Scalar.cmpi .slt v 0#32)))
      (Scalar.subi (Scalar.extui (Scalar.cmpi .sgt 16#32 0#32)) (Scalar.extui (Scalar.cmpi .slt 16#32 0#32))))
    (Scalar.cmpi .ne (Scalar.remsi v 16#32) 0#32)
abbrev within (v : BitVec 32) : BitVec 32 :=
  Scalar.subi v (Scalar.muli (Scalar.select (lowered v) (Scalar.subi (Scalar.divsi v 16#32) 1#32) (Scalar.divsi v 16#32)) 16#32)
abbrev begins (v : BitVec 32) : BitVec 1 := Scalar.cmpi .eq (within v) 0#32
abbrev finishes (v : BitVec 32) : BitVec 1 := Scalar.cmpi .eq (within v) 15#32

theorem begins_iff : ∀ (a : Fin 16) (s : Fin 4), begins (stretch (BitVec.ofNat 32 a.val) (BitVec.ofNat 32 s.val)) = 1#1
    ↔ (a.val * 4 + s.val) % 16 = 0 := by decide +kernel
theorem finishes_iff : ∀ (a : Fin 16) (s : Fin 4), finishes (stretch (BitVec.ofNat 32 a.val) (BitVec.ofNat 32 s.val)) = 1#1
    ↔ (a.val * 4 + s.val) % 16 = 15 := by decide +kernel

/-- Whether row `R` is the first, or the last, of a batch's 4096 rows. -/
abbrev First (R : Nat) : Prop := R % 4096 = 0
abbrev Last (R : Nat) : Prop := R % 4096 = 4095

/-- The rows' own numbers. -/
abbrev rowsW : IVec S1024x1 32 := iota .tc S1024x1 32 [0] iota_S1024x1_d0_w32

/-- The kernel's marks of first rows and of last rows. -/
abbrev firstW (a : BitVec 32) : IVec S1024x1 1 :=
  k0_pay17 rowsW
    (k0_pay15 a rowsW (k0_pay12 rowsW k0_pay10 (stretch a 0#32) (Scalar.divsi (stretch a 0#32) 16#32) (lowered (stretch a 0#32)) 1#32)
      (k0_pay14 a))
    (stretch a 3#32) 16#32
abbrev lastW (a : BitVec 32) : IVec S1024x1 1 :=
  k0_pay18 rowsW
    (k0_pay16 a rowsW (k0_pay13 rowsW k0_pay11 (stretch a 0#32) (Scalar.divsi (stretch a 0#32) 16#32) (lowered (stretch a 0#32)) 1#32)
      (finishes (stretch a 1#32)))
    (stretch a 3#32) 16#32

theorem firstW_eq (a : BitVec 32) (i : Fin 1024) :
    firstW a (ix2 i 0) = IntOp.ori (IntOp.ori (IntOp.ori (IntOp.ori 0#1 (spot (begins (stretch a 0#32)) 0 i.val))
      (spot (begins (stretch a 1#32)) 256 i.val)) (spot (begins (stretch a 2#32)) 512 i.val)) (spot (begins (stretch a 3#32)) 768 i.val) := by
  pointwise [k0_pay17, k0_pay15, k0_pay14, k0_pay12, k0_pay10]
  rfl

theorem lastW_eq (a : BitVec 32) (i : Fin 1024) :
    lastW a (ix2 i 0) = IntOp.ori (IntOp.ori (IntOp.ori (IntOp.ori 0#1 (spot (finishes (stretch a 0#32)) 255 i.val))
      (spot (finishes (stretch a 1#32)) 511 i.val)) (spot (finishes (stretch a 2#32)) 767 i.val)) (spot (finishes (stretch a 3#32)) 1023 i.val) := by
  pointwise [k0_pay18, k0_pay16, k0_pay13, k0_pay11]
  rfl

theorem firstW_iff (a : Fin 16) (i : Fin 1024) : firstW (BitVec.ofNat 32 a.val) (ix2 i 0) = 1#1 ↔ First (a.val * 1024 + i.val) := by
  rw [firstW_eq]
  simp only [ori_iff, spot_iff _ _ _ i.isLt (show 0 < 1024 by omega), spot_iff _ _ _ i.isLt (show 256 < 1024 by omega),
    spot_iff _ _ _ i.isLt (show 512 < 1024 by omega), spot_iff _ _ _ i.isLt (show 768 < 1024 by omega)]
  have b0 : _ ↔ (a.val * 4 + 0) % 16 = 0 := begins_iff a 0
  have b1 : _ ↔ (a.val * 4 + 1) % 16 = 0 := begins_iff a 1
  have b2 : _ ↔ (a.val * 4 + 2) % 16 = 0 := begins_iff a 2
  have b3 : _ ↔ (a.val * 4 + 3) % 16 = 0 := begins_iff a 3
  have ha := a.isLt
  have hi := i.isLt
  have hz : ¬ (0#1 = 1#1) := by decide
  constructor
  · rintro ((((h | h) | h) | h) | h)
    · exact absurd h hz
    · have := b0.1 h.1; have := h.2; show _ % _ = _; omega
    · have := b1.1 h.1; omega
    · have := b2.1 h.1; omega
    · have := b3.1 h.1; omega
  · intro h
    have h : (a.val * 1024 + i.val) % 4096 = 0 := h
    exact Or.inl (Or.inl (Or.inl (Or.inr ⟨b0.2 (by omega), by omega⟩)))

theorem lastW_iff (a : Fin 16) (i : Fin 1024) : lastW (BitVec.ofNat 32 a.val) (ix2 i 0) = 1#1 ↔ Last (a.val * 1024 + i.val) := by
  rw [lastW_eq]
  simp only [ori_iff, spot_iff _ _ _ i.isLt (show 255 < 1024 by omega), spot_iff _ _ _ i.isLt (show 511 < 1024 by omega),
    spot_iff _ _ _ i.isLt (show 767 < 1024 by omega), spot_iff _ _ _ i.isLt (show 1023 < 1024 by omega)]
  have b0 : _ ↔ (a.val * 4 + 0) % 16 = 15 := finishes_iff a 0
  have b1 : _ ↔ (a.val * 4 + 1) % 16 = 15 := finishes_iff a 1
  have b2 : _ ↔ (a.val * 4 + 2) % 16 = 15 := finishes_iff a 2
  have b3 : _ ↔ (a.val * 4 + 3) % 16 = 15 := finishes_iff a 3
  have ha := a.isLt
  have hi := i.isLt
  have hz : ¬ (0#1 = 1#1) := by decide
  constructor
  · rintro ((((h | h) | h) | h) | h)
    · exact absurd h hz
    · have := b0.1 h.1; omega
    · have := b1.1 h.1; omega
    · have := b2.1 h.1; omega
    · have := b3.1 h.1; have := h.2; show _ % _ = _; omega
  · intro h
    have h : (a.val * 1024 + i.val) % 4096 = 4095 := h
    exact Or.inr ⟨b3.2 (by omega), by omega⟩

/-- Three neighbouring rows of the product, each with its tap; none across the ends of a sequence. -/
def tapsB (R : Nat) (s : Vec Ideal S1056x2048 .bf16) (w : Vec Ideal S2048x512 .bf16) (c0 c1 c2 : EReal) (i : Fin 1024) (j : Fin 512) : EReal :=
  (if First R then 0 else gateB s w (rowBefore i) j) * c0 + gateB s w ⟨i.val, by omega⟩ j * c1
    + (if Last R then 0 else gateB s w (rowAfter i) j) * c2

/-- The same three rows as the kernel picks them: the block's rows rolled round, the two rows from outside put in. -/
def tapsW (v7 : FVec Ideal S1024x512 .f32) (v8 v9 : FVec Ideal S1x512 .f32) (m0 m1 : IVec S1024x1 1)
    (c0 c1 c2 : Vec Ideal S1x512 .f32) (i : Fin 1024) (j : Fin 512) : EReal :=
  Scalar.select (m0 (ix2 i 0)) 0
      (Scalar.select (IntOp.cmpi .eq (BitVec.ofNat 32 i.val) 0#32) (v8 (ix2 0 j))
        ((dynamicRotate 0 1#32 none v7 rotates_S1024x512_d0 : FVec Ideal S1024x512 .f32) (ix2 i j))) * c0 (ix2 0 j)
    + v7 (ix2 i j) * c1 (ix2 0 j)
    + Scalar.select (m1 (ix2 i 0)) 0
      (Scalar.select (IntOp.cmpi .eq (BitVec.ofNat 32 i.val) 1023#32) (v9 (ix2 0 j))
        ((dynamicRotate 0 1023#32 none v7 rotates_S1024x512_d0 : FVec Ideal S1024x512 .f32) (ix2 i j))) * c2 (ix2 0 j)

theorem pay1_raw (v7 v13 : FVec Ideal S1024x512 .f32) (v8 v9 : FVec Ideal S1x512 .f32) (m0 m1 : IVec S1024x1 1)
    (c0 c1 c2 b : Vec Ideal S1x512 .f32) (i : Fin 1024) (j : Fin 512) :
    k0_pay1 (F := Ideal) v7 v13 m0 m1 (k0_pay19 v7 v8 rowsW) (k0_pay20 v7) (k0_pay21 rowsW) (k0_pay22 v9) c0 c1 c2 b (ix2 i j)
      = (tapsW v7 v8 v9 m0 m1 c0 c1 c2 i j + b (ix2 0 j)) * Ideal.logistic (tapsW v7 v8 v9 m0 m1 c0 c1 c2 i j + b (ix2 0 j)) * v13 (ix2 i j) := by
  unfold k0_pay1 k0_pay19 k0_pay20 k0_pay21 k0_pay22 tapsW
  generalize dynamicRotate 0 1#32 none v7 rotates_S1024x512_d0 = p
  generalize dynamicRotate 0 1023#32 none v7 rotates_S1024x512_d0 = q
  pointwise []

theorem tapsW_apply (a : Fin 16) (s : Vec Ideal S1056x2048 .bf16) (w : Vec Ideal S2048x512 .bf16) (c0 c1 c2 : Vec Ideal S1x512 .f32)
    (i : Fin 1024) (j : Fin 512) :
    tapsW (k0_pay6 (F := Ideal) s w) (k0_pay7 (F := Ideal) s w) (k0_pay8 (F := Ideal) s w) (firstW (BitVec.ofNat 32 a.val))
        (lastW (BitVec.ofNat 32 a.val)) c0 c1 c2 i j
      = tapsB (a.val * 1024 + i.val) s w (c0 (ix2 0 j)) (c1 (ix2 0 j)) (c2 (ix2 0 j)) i j := by
  unfold tapsW
  rw [select_iff _ _ _ _ (firstW_iff a i), select_iff _ _ _ _ (lastW_iff a i),
    select_iff _ _ _ _ (eq_word i.val 0 i.isLt (by omega)), select_iff _ _ _ _ (eq_word i.val 1023 i.isLt (by omega)), pay6_apply]
  have e0 : (if i.val = 0 then k0_pay7 (F := Ideal) s w (ix2 0 j)
      else (dynamicRotate 0 1#32 none (k0_pay6 (F := Ideal) s w) rotates_S1024x512_d0 : FVec Ideal S1024x512 .f32) (ix2 i j))
      = gateB s w (rowBefore i) j := by
    unfold rowBefore
    by_cases h : i.val = 0
    · rw [if_pos h, if_pos h, pay7_apply]; rfl
    · rw [if_neg h, if_neg h, rolled_back _ i h, pay6_apply]; rfl
  have e1 : (if i.val = 1023 then k0_pay8 (F := Ideal) s w (ix2 0 j)
      else (dynamicRotate 0 1023#32 none (k0_pay6 (F := Ideal) s w) rotates_S1024x512_d0 : FVec Ideal S1024x512 .f32) (ix2 i j))
      = gateB s w (rowAfter i) j := by
    unfold rowAfter
    by_cases h : i.val = 1023
    · rw [if_pos h, if_pos h, pay8_apply]; rfl
    · rw [if_neg h, if_neg h, rolled_on _ i h, pay6_apply]; rfl
  rw [e0, e1]
  rfl

end Cert.UpLat

end
-- ==== Proof.UpLatBlock.lean ====
module

public import proofs.«01_k».proof.Proof.Gen.KernelUpLatIdeal.Value
public import proofs.«01_k».proof.Proof.UpLatPay
public import proofs.«01_k».proof.Proof.UpBlock

/-! What one grid point of the first projection over latent rows computes; the rows kept are as in the other program. -/

@[expose] public section

set_option maxRecDepth 16384

noncomputable section

namespace Cert.UpLat

open Idealize.ShloMosaic Idealize.ShloMosaic.TcCoe Idealize.SL.Sem Cert.KernelUpLatIdeal Cert.KernelUpLatIdeal.Gen Cert.Rows
open Cert.Up (kept canon_kept gateB rowBefore rowAfter stretch)

/-- The result block of one grid point, entry by entry, from the kept rows and the point's blocks. -/
def outB (a : Nat) (s : Vec Ideal S1056x2048 .bf16) (h : Vec Ideal S1024x2048 .bf16) (w v : Vec Ideal S2048x512 .bf16)
    (c : Vec Ideal S8x512 .f32) (b : Vec Ideal S1x512 .f32) (i : Fin 1024) (j : Fin 512) : EReal :=
  (tapsB (a * 1024 + i.val) s w (c (ix2 0 j)) (c (ix2 1 j)) (c (ix2 2 j)) i j + b (ix2 0 j))
    * Ideal.logistic (tapsB (a * 1024 + i.val) s w (c (ix2 0 j)) (c (ix2 1 j)) (c (ix2 2 j)) i j + b (ix2 0 j))
    * ∑ k : Fin 2048, h (ix2 i k) * v (ix2 k j)

theorem stored (a : Fin 16) (s : Vec Ideal S1056x2048 .bf16) (h : Vec Ideal S1024x2048 .bf16) (w v : Vec Ideal S2048x512 .bf16)
    (c0 c1 c2 b : Vec Ideal S1x512 .f32) (c : Vec Ideal S8x512 .f32) (e0 : ∀ j, c0 (ix2 0 j) = c (ix2 0 j))
    (e1 : ∀ j, c1 (ix2 0 j) = c (ix2 1 j)) (e2 : ∀ j, c2 (ix2 0 j) = c (ix2 2 j)) (i : Fin 1024) (j : Fin 512) :
    k0_pay1 (F := Ideal) (k0_pay6 s w) (k0_pay9 h v) (firstW (BitVec.ofNat 32 a.val)) (lastW (BitVec.ofNat 32 a.val))
        (k0_pay19 (k0_pay6 s w) (k0_pay7 s w) rowsW) (k0_pay20 (k0_pay6 s w)) (k0_pay21 rowsW) (k0_pay22 (k0_pay8 s w)) c0 c1 c2 b (ix2 i j)
      = outB a.val s h w v c b i j := by
  rw [pay1_raw, tapsW_apply, pay9_apply, e0, e1, e2]
  rfl

theorem out_B (c : Dev nD) (t : Fin cfg0.N) (hc : ¬cond0_0 (grid0.coords t)) (x0 : Vec Ideal S1024x2048 .bf16) (x1 x2 : Vec Ideal S16x2048 .bf16)
    (x3 x4 : Vec Ideal S2048x512 .bf16) (x5 : Vec Ideal S8x512 .f32) (x6 : Vec Ideal S1x512 .f32) (s : Vec Ideal S1056x2048 .bf16)
    (i : Fin 1024) (j : Fin 512) :
    out0_B_7 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) scM0_0 (Memref.isWhole_whole _) hc
      x0 x1 x2 x3 x4 x5 x6 s (ix2 i j) = outB (grid0.coords t 0).val s x0 x3 x4 x5 x6 i j := by
  unfold out0_B_7
  rw [View.read_writes_eq_canon _ _ _ (cover0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc x0 x1 x2 x3 x4 x5 x6 s)]
  unfold kernelRun0_B
  dsimp only
  sl_unfold_run_names
  rw [View.canon_unit_zero hz]
  simp only [View.readAt_eq_ld, (hs0_0 t).read_unread, (hs0_3 t).read_unread, (hs0_4 t).read_unread, (hs0_5 t).read_unread, (hs0_6 t).read_unread, (Memref.isWhole_whole _).read_unread]
  simp only [View.ld_unit_zero (S := S1024x2048) hz, View.ld_unit_zero (S := S2048x512) hz, View.ld_unit_zero (S := S1056x2048) hz, View.ld_unit_zero (S := S1x512) hz]
  exact stored (grid0.coords t 0) s x0 x3 x4 _ _ _ _ x5 (fun j => row_ld _ _ _ 0 rfl j) (fun j => row_ld _ _ _ 1 rfl j)
    (fun j => row_ld _ _ _ 2 rfl j) i j

/-- The three stretches the kept rows are stored in. -/
abbrev keptPieces (x0 : Vec Ideal S1024x2048 .bf16) (x1 x2 : Vec Ideal S16x2048 .bf16) : List (View.Piece (Elt Ideal) S1056x2048 .bf16) :=
  [⟨Rect.unit (s := S1056x2048) ![1040, 0] S16x2048.size inb_S1056x2048_S16x2048_1040_0, k0_pay4 (F := Ideal) x2⟩,
    ⟨Rect.unit (s := S1056x2048) ![1024, 0] S16x2048.size inb_S1056x2048_S16x2048_1024_0, k0_pay3 (F := Ideal) x1⟩,
    ⟨Rect.unit (s := S1056x2048) ![0, 0] S1024x2048.size inb_S1056x2048_S1024x2048_0_0, k0_pay2 (F := Ideal) x0⟩]

theorem sout_A (c : Dev nD) (t : Fin cfg0.N) (hc : cond0_0 (grid0.coords t)) (x0 : Vec Ideal S1024x2048 .bf16) (x1 x2 : Vec Ideal S16x2048 .bf16)
    (x3 x4 : Vec Ideal S2048x512 .bf16) (x5 : Vec Ideal S8x512 .f32) (x6 : Vec Ideal S1x512 .f32) :
    sout0_A_0 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) scM0_0 (Memref.isWhole_whole _) hc
      x0 x1 x2 x3 x4 x5 x6 = kept x0 x1 x2 := by
  unfold sout0_A_0
  rw [View.read_writes_junk_eq_canon]
  unfold kernelRun0_A
  dsimp only
  sl_unfold_run_names
  simp only [View.readAt_eq_ld, (hs0_0 t).read_unread, (hs0_1 t).read_unread, (hs0_2 t).read_unread]
  simp only [View.ld_unit_zero (S := S1024x2048) hz, View.ld_unit_zero (S := S16x2048) hz]
  exact canon_kept x0 x1 x2

theorem out_A (c : Dev nD) (t : Fin cfg0.N) (hc : cond0_0 (grid0.coords t)) (x0 : Vec Ideal S1024x2048 .bf16) (x1 x2 : Vec Ideal S16x2048 .bf16)
    (x3 x4 : Vec Ideal S2048x512 .bf16) (x5 : Vec Ideal S8x512 .f32) (x6 : Vec Ideal S1x512 .f32)
    (i : Fin 1024) (j : Fin 512) :
    out0_A_7 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) scM0_0 (Memref.isWhole_whole _) hc
      x0 x1 x2 x3 x4 x5 x6 (ix2 i j) = outB (grid0.coords t 0).val (kept x0 x1 x2) x0 x3 x4 x5 x6 i j := by
  unfold out0_A_7
  rw [View.read_writes_eq_canon _ _ _ (cover0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc x0 x1 x2 x3 x4 x5 x6)]
  unfold kernelRun0_A
  dsimp only
  sl_unfold_run_names
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, (Memref.isWhole_whole _).read_unread]
  simp only [View.ld_unit_zero (S := S1024x2048) hz, View.ld_unit_zero (S := S16x2048) hz, View.ld_unit_zero (S := S2048x512) hz, View.ld_unit_zero (S := S1x512) hz]
  have hk : scM0_0.view.readCov (keptPieces x0 x1 x2) (Rect.unit (s := S1056x2048) ![0, 0] S1056x2048.size inb_S1056x2048_S1056x2048_0_0).toLoadRect = kept x0 x1 x2 := by
    have e : View.ld (View.canon (keptPieces x0 x1 x2)) (Rect.unit (s := S1056x2048) ![0, 0] S1056x2048.size inb_S1056x2048_S1056x2048_0_0) = kept x0 x1 x2 := by
      rw [View.ld_unit_zero (S := S1056x2048) hz]; exact canon_kept x0 x1 x2
    exact (View.readCov_eq_canon' _ _ _).trans e
  rw [hk]
  exact stored (grid0.coords t 0) _ x0 x3 x4 _ _ _ _ x5 (fun j => row_ld _ _ _ 0 rfl j) (fun j => row_ld _ _ _ 1 rfl j)
    (fun j => row_ld _ _ _ 2 rfl j) i j

end Cert.UpLat

end
-- ==== Proof.UpLatArray.lean ====
module

public import proofs.«01_k».proof.Proof.UpLatBlock
public import proofs.«01_k».proof.Proof.Top
public import Idealize.ShloMosaic.Lib.StableHlo.ReadAt

/-! The result array of the first projection over latent rows as one function of the arrays the kernel is launched on, and so of the arguments. The
    rows kept at a grid point are those of its own block, whichever point of the stretch stored them. -/

@[expose] public section

set_option maxRecDepth 16384

noncomputable section

namespace Cert.UpLat

open Idealize.ShloMosaic Idealize.ShloMosaic.TcCoe Idealize.SL.Sem Cert.KernelUpLatIdeal Cert.KernelUpLatIdeal.Gen Cert.Rows
open Cert.Up (kept rowBefore rowAfter gateB)
open Idealize.ShloMosaic.Pipeline (Dat)

/-- Where each window's block lies at a grid point. -/
theorem index0 : ∀ t : Fin grid0.N, win0_0.index t = ![t.val / 11, 0] := by decide +kernel
theorem index1 : ∀ t : Fin grid0.N, win0_1.index t = ![t.val / 11 * 64 - 1, 0] := by decide +kernel
theorem index2 : ∀ t : Fin grid0.N, win0_2.index t = ![min ((t.val / 11 + 1) * 64) 1023, 0] := by decide +kernel
theorem index3 : ∀ t : Fin grid0.N, win0_3.index t = ![0, t.val % 11] := by decide +kernel
theorem index4 : ∀ t : Fin grid0.N, win0_4.index t = ![0, 11 + t.val % 11] := by decide +kernel
theorem index5 : ∀ t : Fin grid0.N, win0_5.index t = ![0, t.val % 11] := by decide +kernel
theorem index6 : ∀ t : Fin grid0.N, win0_6.index t = ![0, t.val % 11] := by decide +kernel
theorem index7 : ∀ t : Fin grid0.N, win0_7.index t = ![t.val / 11, t.val % 11] := by decide +kernel
theorem coord : ∀ t : Fin grid0.N, (grid0.coords t 0).val = t.val / 11 := by decide +kernel

theorem t_lt (t : Fin grid0.N) : t.val < 176 := by have h := t.isLt; simpa only [Gen.N_0] using h

/-- The array index of a block index, window by window. -/
theorem emb0 (t : Fin grid0.N) (i : Fin 1024) (k : Fin 2048) :
    (win0_0.blk t).view.emb (ix2 i k) = (ix2 ⟨t.val / 11 * 1024 + i.val, by have := t_lt t; omega⟩ k : S16384x2048.Idx) := by
  funext a; apply Fin.ext
  have h := congrFun (index0 t)
  match a with
  | ⟨0, _⟩ => show win0_0.index t 0 * 1024 + 1 * i.val = _; rw [h 0]; show t.val / 11 * 1024 + 1 * i.val = t.val / 11 * 1024 + i.val; omega
  | ⟨1, _⟩ => show win0_0.index t 1 * 2048 + 1 * k.val = _; rw [h 1]; show 0 * 2048 + 1 * k.val = k.val; omega

theorem emb1 (t : Fin grid0.N) (i : Fin 16) (k : Fin 2048) :
    (win0_1.blk t).view.emb (ix2 i k) = (ix2 ⟨(t.val / 11 * 64 - 1) * 16 + i.val, by have := t_lt t; omega⟩ k : S16384x2048.Idx) := by
  funext a; apply Fin.ext
  have h := congrFun (index1 t)
  match a with
  | ⟨0, _⟩ => show win0_1.index t 0 * 16 + 1 * i.val = _; rw [h 0]; show (t.val / 11 * 64 - 1) * 16 + 1 * i.val = (t.val / 11 * 64 - 1) * 16 + i.val; omega
  | ⟨1, _⟩ => show win0_1.index t 1 * 2048 + 1 * k.val = _; rw [h 1]; show 0 * 2048 + 1 * k.val = k.val; omega

theorem emb2 (t : Fin grid0.N) (i : Fin 16) (k : Fin 2048) :
    (win0_2.blk t).view.emb (ix2 i k) = (ix2 ⟨min ((t.val / 11 + 1) * 64) 1023 * 16 + i.val, by omega⟩ k : S16384x2048.Idx) := by
  funext a; apply Fin.ext
  have h := congrFun (index2 t)
  match a with
  | ⟨0, _⟩ => show win0_2.index t 0 * 16 + 1 * i.val = _; rw [h 0]; show min ((t.val / 11 + 1) * 64) 1023 * 16 + 1 * i.val = min ((t.val / 11 + 1) * 64) 1023 * 16 + i.val; omega
  | ⟨1, _⟩ => show win0_2.index t 1 * 2048 + 1 * k.val = _; rw [h 1]; show 0 * 2048 + 1 * k.val = k.val; omega

theorem emb3 (t : Fin grid0.N) (k : Fin 2048) (j : Fin 512) :
    (win0_3.blk t).view.emb (ix2 k j) = (ix2 k ⟨t.val % 11 * 512 + j.val, by omega⟩ : S2048x11264.Idx) := by
  funext a; apply Fin.ext
  have h := congrFun (index3 t)
  match a with
  | ⟨0, _⟩ => show win0_3.index t 0 * 2048 + 1 * k.val = _; rw [h 0]; show 0 * 2048 + 1 * k.val = k.val; omega
  | ⟨1, _⟩ => show win0_3.index t 1 * 512 + 1 * j.val = _; rw [h 1]; show t.val % 11 * 512 + 1 * j.val = t.val % 11 * 512 + j.val; omega

theorem emb4 (t : Fin grid0.N) (k : Fin 2048) (j : Fin 512) :
    (win0_4.blk t).view.emb (ix2 k j) = (ix2 k ⟨5632 + (t.val % 11 * 512 + j.val), by omega⟩ : S2048x11264.Idx) := by
  funext a; apply Fin.ext
  have h := congrFun (index4 t)
  match a with
  | ⟨0, _⟩ => show win0_4.index t 0 * 2048 + 1 * k.val = _; rw [h 0]; show 0 * 2048 + 1 * k.val = k.val; omega
  | ⟨1, _⟩ => show win0_4.index t 1 * 512 + 1 * j.val = _; rw [h 1]; show (11 + t.val % 11) * 512 + 1 * j.val = 5632 + (t.val % 11 * 512 + j.val); omega

theorem emb5 (t : Fin grid0.N) (k : Fin 8) (j : Fin 512) :
    (win0_5.blk t).view.emb (ix2 k j) = (ix2 k ⟨t.val % 11 * 512 + j.val, by omega⟩ : S8x5632.Idx) := by
  funext a; apply Fin.ext
  have h := congrFun (index5 t)
  match a with
  | ⟨0, _⟩ => show win0_5.index t 0 * 8 + 1 * k.val = _; rw [h 0]; show 0 * 8 + 1 * k.val = k.val; omega
  | ⟨1, _⟩ => show win0_5.index t 1 * 512 + 1 * j.val = _; rw [h 1]; show t.val % 11 * 512 + 1 * j.val = t.val % 11 * 512 + j.val; omega

theorem emb6 (t : Fin grid0.N) (k : Fin 1) (j : Fin 512) :
    (win0_6.blk t).view.emb (ix2 k j) = (ix2 k ⟨t.val % 11 * 512 + j.val, by omega⟩ : S1x5632.Idx) := by
  funext a; apply Fin.ext
  have h := congrFun (index6 t)
  match a with
  | ⟨0, _⟩ => show win0_6.index t 0 * 1 + 1 * k.val = _; rw [h 0]; show 0 * 1 + 1 * k.val = k.val; omega
  | ⟨1, _⟩ => show win0_6.index t 1 * 512 + 1 * j.val = _; rw [h 1]; show t.val % 11 * 512 + 1 * j.val = t.val % 11 * 512 + j.val; omega

theorem emb7 (t : Fin grid0.N) (i : Fin 1024) (j : Fin 512) :
    (win0_7.blk t).view.emb (ix2 i j)
      = (ix2 ⟨t.val / 11 * 1024 + i.val, by have := t_lt t; omega⟩ ⟨t.val % 11 * 512 + j.val, by omega⟩ : S16384x5632.Idx) := by
  funext a; apply Fin.ext
  have h := congrFun (index7 t)
  match a with
  | ⟨0, _⟩ => show win0_7.index t 0 * 1024 + 1 * i.val = _; rw [h 0]; show t.val / 11 * 1024 + 1 * i.val = t.val / 11 * 1024 + i.val; omega
  | ⟨1, _⟩ => show win0_7.index t 1 * 512 + 1 * j.val = _; rw [h 1]; show t.val % 11 * 512 + 1 * j.val = t.val % 11 * 512 + j.val; omega

/-- The rows kept while the grid point's stretch of rows is worked on. -/
def keptAt (t : Fin grid0.N) (h : Vec Ideal S16384x2048 .bf16) : Vec Ideal S1056x2048 .bf16 :=
  kept ((win0_0.blk t).view.read (Elt Ideal) h) ((win0_1.blk t).view.read (Elt Ideal) h) ((win0_2.blk t).view.read (Elt Ideal) h)

/-- They are the same all along the stretch. -/
theorem keptAt_congr (t t' : Fin grid0.N) (ht : t.val / 11 = t'.val / 11) (h : Vec Ideal S16384x2048 .bf16) :
    keptAt t h = keptAt t' h := by
  unfold keptAt
  have e0 : (win0_0.blk t).view.read (Elt Ideal) h = (win0_0.blk t').view.read (Elt Ideal) h := by
    funext y
    have k : ∀ y : S1024x2048.Idx, h ((win0_0.blk t).view.emb y) = h ((win0_0.blk t').view.emb y) := by
      intro y; idx_vars y; rw [emb0, emb0]; simp only [ht]
    exact k y
  have e1 : (win0_1.blk t).view.read (Elt Ideal) h = (win0_1.blk t').view.read (Elt Ideal) h := by
    funext y
    have k : ∀ y : S16x2048.Idx, h ((win0_1.blk t).view.emb y) = h ((win0_1.blk t').view.emb y) := by
      intro y; idx_vars y; rw [emb1, emb1]; simp only [ht]
    exact k y
  have e2 : (win0_2.blk t).view.read (Elt Ideal) h = (win0_2.blk t').view.read (Elt Ideal) h := by
    funext y
    have k : ∀ y : S16x2048.Idx, h ((win0_2.blk t).view.emb y) = h ((win0_2.blk t').view.emb y) := by
      intro y; idx_vars y; rw [emb2, emb2]; simp only [ht]
    exact k y
  rw [e0, e1, e2]

/-- A row kept, as a row of the array: the block's own, the one before it, the one after it. -/
theorem kept_own (t : Fin grid0.N) (h : Vec Ideal S16384x2048 .bf16) (i : Fin 1024) (k : Fin 2048) :
    keptAt t h (ix2 ⟨i.val, by omega⟩ k) = h (ix2 ⟨t.val / 11 * 1024 + i.val, by have := t_lt t; omega⟩ k) := by
  unfold keptAt kept
  exact (dif_pos (show i.val < 1024 from i.isLt)).trans (congrArg h (emb0 t i k))

theorem kept_before (t : Fin grid0.N) (h : Vec Ideal S16384x2048 .bf16) (k : Fin 2048) (ht : 0 < t.val / 11) :
    keptAt t h (ix2 ⟨1039, by omega⟩ k) = h (ix2 ⟨t.val / 11 * 1024 - 1, by have := t_lt t; omega⟩ k) := by
  unfold keptAt kept
  refine (dif_neg (show ¬ (1039 < 1024) by omega)).trans ((dif_pos (show 1039 < 1040 by omega)).trans ?_)
  refine congrArg h ((emb1 t ⟨15, by omega⟩ k).trans ?_)
  exact congrArg (fun r : Fin 16384 => (ix2 r k : S16384x2048.Idx))
    (Fin.ext (by show (t.val / 11 * 64 - 1) * 16 + 15 = t.val / 11 * 1024 - 1; omega))

theorem kept_after (t : Fin grid0.N) (h : Vec Ideal S16384x2048 .bf16) (k : Fin 2048) (ht : t.val / 11 < 15) :
    keptAt t h (ix2 ⟨1040, by omega⟩ k) = h (ix2 ⟨t.val / 11 * 1024 + 1024, by omega⟩ k) := by
  unfold keptAt kept
  refine (dif_neg (show ¬ (1040 < 1024) by omega)).trans ((dif_neg (show ¬ (1040 < 1040) by omega)).trans ?_)
  refine congrArg h ((emb2 t ⟨0, by omega⟩ k).trans ?_)
  exact congrArg (fun r : Fin 16384 => (ix2 r k : S16384x2048.Idx))
    (Fin.ext (by show min ((t.val / 11 + 1) * 64) 1023 * 16 + 0 = t.val / 11 * 1024 + 1024; omega))

/-- The row before and the row after, kept within the array. -/
abbrev prev (r : Fin 16384) : Fin 16384 := ⟨r.val - 1, by omega⟩
abbrev next (r : Fin 16384) : Fin 16384 := ⟨min (r.val + 1) 16383, by omega⟩

/-- The product of the rows with the first half of the weights. -/
def gateA (h : Vec Ideal S16384x2048 .bf16) (w : Vec Ideal S2048x11264 .bf16) (r : Fin 16384) (n : Fin 5632) : EReal :=
  ∑ k : Fin 2048, h (ix2 r k) * w (ix2 k ⟨n.val, by omega⟩)

/-- Three neighbouring rows of it, each with its tap, and the bias. -/
def convA (h : Vec Ideal S16384x2048 .bf16) (w : Vec Ideal S2048x11264 .bf16) (c : Vec Ideal S8x5632 .f32) (b : Vec Ideal S1x5632 .f32)
    (r : Fin 16384) (n : Fin 5632) : EReal :=
  (if First r.val then 0 else gateA h w (prev r) n) * c (ix2 0 n) + gateA h w r n * c (ix2 1 n)
    + (if Last r.val then 0 else gateA h w (next r) n) * c (ix2 2 n) + b (ix2 0 n)

/-- The result at row `r`, lane `n`. -/
def outA (h : Vec Ideal S16384x2048 .bf16) (w : Vec Ideal S2048x11264 .bf16) (c : Vec Ideal S8x5632 .f32) (b : Vec Ideal S1x5632 .f32)
    (r : Fin 16384) (n : Fin 5632) : EReal :=
  convA h w c b r n * Ideal.logistic (convA h w c b r n) * ∑ k : Fin 2048, h (ix2 r k) * w (ix2 k ⟨5632 + n.val, by omega⟩)

/-- The whole result array. -/
def whole (h : Vec Ideal S16384x2048 .bf16) (w : Vec Ideal S2048x11264 .bf16) (c : Vec Ideal S8x5632 .f32) (b : Vec Ideal S1x5632 .f32) :
    Vec Ideal S16384x5632 .bf16 := fun u => outA h w c b (u 0) (u 1)

section Block
variable (t : Fin grid0.N) (h : Vec Ideal S16384x2048 .bf16) (w : Vec Ideal S2048x11264 .bf16) (i : Fin 1024) (j : Fin 512)

/-- The row and the lane of the array that an entry of the point's block is. -/
abbrev row : Fin 16384 := ⟨t.val / 11 * 1024 + i.val, by have := t_lt t; omega⟩
abbrev lane : Fin 5632 := ⟨t.val % 11 * 512 + j.val, by omega⟩

theorem gate_of (r : Fin 1056) (R : Fin 16384) (e : ∀ k, keptAt t h (ix2 r k) = h (ix2 R k)) :
    gateB (keptAt t h) ((win0_3.blk t).view.read (Elt Ideal) w) r j = gateA h w R (lane t j) := by
  unfold gateB gateA
  exact Finset.sum_congr rfl fun k _ => congrArg₂ (· * ·) (e k) (congrArg w (emb3 t k j))

theorem taps_of (c0 c1 c2 : EReal) :
    tapsB (t.val / 11 * 1024 + i.val) (keptAt t h) ((win0_3.blk t).view.read (Elt Ideal) w) c0 c1 c2 i j
      = (if First (row t i).val then 0 else gateA h w (prev (row t i)) (lane t j)) * c0 + gateA h w (row t i) (lane t j) * c1
        + (if Last (row t i).val then 0 else gateA h w (next (row t i)) (lane t j)) * c2 := by
  unfold tapsB
  have ht := t_lt t
  have hi := i.isLt
  have a1 : gateB (keptAt t h) ((win0_3.blk t).view.read (Elt Ideal) w) ⟨i.val, by omega⟩ j = gateA h w (row t i) (lane t j) :=
    gate_of t h w j _ _ fun k => kept_own t h i k
  have a0 : (if First (row t i).val then (0 : EReal) else gateB (keptAt t h) ((win0_3.blk t).view.read (Elt Ideal) w) (rowBefore i) j)
      = if First (row t i).val then 0 else gateA h w (prev (row t i)) (lane t j) := by
    by_cases hf : First (row t i).val
    · rw [if_pos hf, if_pos hf]
    · rw [if_neg hf, if_neg hf]
      refine gate_of t h w j _ _ fun k => ?_
      unfold rowBefore
      have hf : ¬ (t.val / 11 * 1024 + i.val) % 4096 = 0 := hf
      by_cases h0 : i.val = 0
      · rw [if_pos h0, kept_before t h k (by omega)]
        exact congrArg (fun r : Fin 16384 => h (ix2 r k))
          (Fin.ext (by show t.val / 11 * 1024 - 1 = t.val / 11 * 1024 + i.val - 1; omega))
      · rw [if_neg h0]
        refine (kept_own t h ⟨i.val - 1, by omega⟩ k).trans ?_
        exact congrArg (fun r : Fin 16384 => h (ix2 r k))
          (Fin.ext (by show t.val / 11 * 1024 + (i.val - 1) = t.val / 11 * 1024 + i.val - 1; omega))
  have a2 : (if Last (row t i).val then (0 : EReal) else gateB (keptAt t h) ((win0_3.blk t).view.read (Elt Ideal) w) (rowAfter i) j)
      = if Last (row t i).val then 0 else gateA h w (next (row t i)) (lane t j) := by
    by_cases hf : Last (row t i).val
    · rw [if_pos hf, if_pos hf]
    · rw [if_neg hf, if_neg hf]
      refine gate_of t h w j _ _ fun k => ?_
      unfold rowAfter
      have hf : ¬ (t.val / 11 * 1024 + i.val) % 4096 = 4095 := hf
      by_cases h0 : i.val = 1023
      · rw [if_pos h0, kept_after t h k (by omega)]
        exact congrArg (fun r : Fin 16384 => h (ix2 r k))
          (Fin.ext (by show t.val / 11 * 1024 + 1024 = min (t.val / 11 * 1024 + i.val + 1) 16383; omega))
      · rw [if_neg h0]
        refine (kept_own t h ⟨i.val + 1, by omega⟩ k).trans ?_
        exact congrArg (fun r : Fin 16384 => h (ix2 r k))
          (Fin.ext (by show t.val / 11 * 1024 + (i.val + 1) = min (t.val / 11 * 1024 + i.val + 1) 16383; omega))
  exact congrArg₂ (· + ·) (congrArg₂ (· + ·) (congrArg (· * c0) a0) (congrArg (· * c1) a1)) (congrArg (· * c2) a2)

theorem block_of (c : Vec Ideal S8x5632 .f32) (b : Vec Ideal S1x5632 .f32) :
    outB (grid0.coords t 0).val (keptAt t h) ((win0_0.blk t).view.read (Elt Ideal) h) ((win0_3.blk t).view.read (Elt Ideal) w)
        ((win0_4.blk t).view.read (Elt Ideal) w) ((win0_5.blk t).view.read (Elt Ideal) c) ((win0_6.blk t).view.read (Elt Ideal) b) i j
      = outA h w c b (row t i) (lane t j) := by
  rw [coord]
  unfold outB outA convA
  have e0 : (win0_5.blk t).view.read (Elt Ideal) c (ix2 0 j) = c (ix2 0 (lane t j)) := congrArg c (emb5 t 0 j)
  have e1 : (win0_5.blk t).view.read (Elt Ideal) c (ix2 1 j) = c (ix2 1 (lane t j)) := congrArg c (emb5 t 1 j)
  have e2 : (win0_5.blk t).view.read (Elt Ideal) c (ix2 2 j) = c (ix2 2 (lane t j)) := congrArg c (emb5 t 2 j)
  have e3 : (win0_6.blk t).view.read (Elt Ideal) b (ix2 0 j) = b (ix2 0 (lane t j)) := congrArg b (emb6 t 0 j)
  rw [taps_of, e0, e1, e2, e3]
  refine congrArg _ ?_
  exact Finset.sum_congr rfl fun k _ => congrArg₂ (· * ·) (congrArg h (emb0 t i k)) (congrArg w (emb4 t k j))

end Block

/-- What a grid point writes back, for any four arrays, when the rows it finds kept are its own. -/
theorem read_whole (t : Fin cfg0.N) (h : Vec Ideal S16384x2048 .bf16) (w : Vec Ideal S2048x11264 .bf16) (c : Vec Ideal S8x5632 .f32)
    (b : Vec Ideal S1x5632 .f32) (o : Vec Ideal S1024x512 .bf16) (ho : ∀ (i : Fin 1024) (j : Fin 512), o (ix2 i j)
      = outB (grid0.coords t 0).val (keptAt t h) ((win0_0.blk t).view.read (Elt Ideal) h) ((win0_3.blk t).view.read (Elt Ideal) w)
        ((win0_4.blk t).view.read (Elt Ideal) w) ((win0_5.blk t).view.read (Elt Ideal) c) ((win0_6.blk t).view.read (Elt Ideal) b) i j) :
    o = (win0_7.blk t).view.read (Elt Ideal) (whole h w c b) := by
  funext y
  have key : ∀ y : S1024x512.Idx, o y = whole h w c b ((win0_7.blk t).view.emb y) := by
    intro y
    idx_vars y
    rw [ho, block_of, emb7]
    rfl
  exact key y

variable (m : (ℓ : Loc nD τ sig) → Buf (Elt Ideal) ℓ)

/-- The arrays of rows, weights, taps and bias the kernel is launched on. -/
def arrH (c : Dev nD) : Vec Ideal S16384x2048 .bf16 := V m c main_arg0
def arrW (c : Dev nD) : Vec Ideal S2048x11264 .bf16 := V m c main_v0
def arrC (c : Dev nD) : Vec Ideal S8x5632 .f32 := V m c main_v3
def arrB (c : Dev nD) : Vec Ideal S1x5632 .f32 := V m c main_v4

/-- The four arguments. -/
def argH (c : Dev nD) : Vec Ideal S16384x2048 .bf16 := m ((c.tc : Thread nD τ).loc main_arg0)
def argW (c : Dev nD) : Vec Ideal S2048x11264 .f32 := m ((c.tc : Thread nD τ).loc main_arg1)
def argC (c : Dev nD) : Vec Ideal S3x5632 .f32 := m ((c.tc : Thread nD τ).loc main_arg2)
def argB (c : Dev nD) : Vec Ideal S5632 .f32 := m ((c.tc : Thread nD τ).loc main_arg3)

/-- The weights are launched on as they are, but for their format. -/
theorem arrW_apply (c : Dev nD) (k : Fin 2048) (n : Fin 11264) : arrW m c (ix2 k n) = argW m c (ix2 k n) := by
  unfold arrW V
  after_reads_at
  rfl

/-- The taps are the first three of eight rows. -/
theorem taps_top (x : Vec Ideal S8x5632 .f32) (u : Vec Ideal S3x5632 .f32) (r : Fin 8) (r' : Fin 3) (hr : r.val = r'.val) (n : Fin 5632) :
    Host.scatter scatter_S8x5632_S1_S3x5632_01_n_0_0 (fun _ b => b) x (broadcastInDim S1 ![] bcast_S_S1 (constantI S_ 32 0#32)) u (ix2 r n)
      = u (ix2 r' n) :=
  Cert.Top.scatter_rows scatter_S8x5632_S1_S3x5632_01_n_0_0 rfl rfl rfl x _ (fun _ => rfl) u r r' hr n

theorem arrC_apply (c : Dev nD) (r : Fin 8) (r' : Fin 3) (hr : r.val = r'.val) (n : Fin 5632) :
    arrC m c (ix2 r n) = argC m c (ix2 r' n) := by
  unfold arrC V
  after_reads_at
  exact taps_top _ _ r r' hr n

theorem arrB_apply (c : Dev nD) (n : Fin 5632) : arrB m c (ix2 0 n) = argB m c (ix1 n) := by
  unfold arrB V
  after_reads_at
  rfl

/-- The rows a grid point leaves kept: at the head of a stretch its own, further on those it found. -/
theorem scratch_A (c : Dev nD) (t : Fin cfg0.N) (h0 : t.val % 11 = 0) : (outsAt0 m c t.val t.isLt).2 = keptAt t (arrH m c) := by
  rw [outsAt0_A m c t h0]
  dsimp only
  rw [sout_A c t ((hcond0_0 t).mpr h0) (iblk m c 0 t) (iblk m c 1 t) (iblk m c 2 t) (iblk m c 3 t) (iblk m c 4 t) (iblk m c 5 t) (iblk m c 6 t)]
  rfl

theorem scratch_B (c : Dev nD) (t : Fin cfg0.N) (h0 : ¬t.val % 11 = 0) :
    (outsAt0 m c t.val t.isLt).2 = (outsAt0 m c (t.val - 1) (Nat.lt_of_le_of_lt (Nat.sub_le _ _) t.isLt)).2 := by
  rw [outsAt0_B m c t h0]
  rfl

/-- The rows kept after each grid point are its own. -/
theorem kept_eq (c : Dev nD) : ∀ (n : Nat) (hn : n < cfg0.N), (outsAt0 m c n hn).2 = keptAt ⟨n, hn⟩ (arrH m c) := by
  intro n
  induction n with
  | zero =>
    intro hn
    exact scratch_A m c ⟨0, hn⟩ (Nat.zero_mod 11)
  | succ n ih =>
    intro hn
    by_cases h0 : (n + 1) % 11 = 0
    · exact scratch_A m c ⟨n + 1, hn⟩ h0
    · refine (scratch_B m c ⟨n + 1, hn⟩ h0).trans ((ih (Nat.lt_of_succ_lt hn)).trans ?_)
      exact keptAt_congr _ _ (by show n / 11 = (n + 1) / 11; omega) _

/-- The result array. -/
def G (c : Dev nD) : Buf (Elt Ideal) ((c : Thread nD τ).loc main_v5) := whole (arrH m c) (arrW m c) (arrC m c) (arrB m c)

/-- What a grid point writes back is its block of the whole array. -/
theorem flushed_eq (c : Dev nD) (t : Fin cfg0.N) :
    (dats m 0 c).flushed 7 t = (win0_7.blk t).view.read (Elt Ideal) (G m c) := by
  by_cases h0 : t.val % 11 = 0
  · rw [Value.flushed7_A m c t h0]
    exact read_whole t (arrH m c) (arrW m c) (arrC m c) (arrB m c) _ fun i j => out_A c t _ _ _ _ _ _ _ _ i j
  · rw [Value.flushed7_B m c t h0, kept_eq m c (t.val - 1),
      keptAt_congr ⟨t.val - 1, _⟩ t (by show (t.val - 1) / 11 = t.val / 11; omega)]
    exact read_whole t (arrH m c) (arrW m c) (arrC m c) (arrB m c) _ fun i j => out_B c t _ _ _ _ _ _ _ _ _ i j

/-- Every index of the result lies in the block of some grid point. -/
theorem cover (i : S16384x5632.Idx) :
    ∃ t : Fin cfg0.N, (cfg0.win 7).flush t = true ∧ i ∈ ((cfg0.win 7).blk t).view.set := by
  have h0 : (i 0 : Nat) < 16384 := (i 0).isLt
  have h1 : (i 1 : Nat) < 5632 := (i 1).isLt
  refine ⟨⟨(i 0 : Nat) / 1024 * 11 + (i 1 : Nat) / 512, by show _ < grid0.N; rw [Gen.N_0]; omega⟩, flush0_7 _, ?_⟩
  generalize ht : (⟨(i 0 : Nat) / 1024 * 11 + (i 1 : Nat) / 512, by show _ < grid0.N; rw [Gen.N_0]; omega⟩ : Fin grid0.N) = t
  have hv : t.val = (i 0 : Nat) / 1024 * 11 + (i 1 : Nat) / 512 := by rw [← ht]
  show i ∈ ((View.whole main_v5).slice (win0_7.rect t)).set
  rw [View.set_slice_whole, Rect.mem_set_unit]
  have h := congrFun (index7 t)
  intro a
  match a with
  | ⟨0, _⟩ => show win0_7.index t 0 * 1024 ≤ (i 0 : Nat) ∧ (i 0 : Nat) < win0_7.index t 0 * 1024 + 1024
              rw [h 0]; show t.val / 11 * 1024 ≤ (i 0 : Nat) ∧ (i 0 : Nat) < t.val / 11 * 1024 + 1024; omega
  | ⟨1, _⟩ => show win0_7.index t 1 * 512 ≤ (i 1 : Nat) ∧ (i 1 : Nat) < win0_7.index t 1 * 512 + 512
              rw [h 1]; show t.val % 11 * 512 ≤ (i 1 : Nat) ∧ (i 1 : Nat) < t.val % 11 * 512 + 512; omega

/-- So the result array ends as the whole function. -/
theorem final (c : Dev nD) : (dats m 0 c).arrAt 7 cfg0.N = G m c :=
  (dats m 0 c).arrAt_eq_of_cover 7 (G m c) (fun t _ => flushed_eq m c t) cover

/-- The gate half of the product, and the convolution, from the arguments. -/
def gate (h : Vec Ideal S16384x2048 .bf16) (w : Vec Ideal S2048x11264 .f32) (r : Fin 16384) (n : Fin 5632) : EReal :=
  ∑ k : Fin 2048, h (ix2 r k) * w (ix2 k ⟨n.val, by omega⟩)
def conv (h : Vec Ideal S16384x2048 .bf16) (w : Vec Ideal S2048x11264 .f32) (cw : Vec Ideal S3x5632 .f32) (b : Vec Ideal S5632 .f32)
    (r : Fin 16384) (n : Fin 5632) : EReal :=
  (if First r.val then 0 else gate h w (prev r) n) * cw (ix2 0 n) + gate h w r n * cw (ix2 1 n)
    + (if Last r.val then 0 else gate h w (next r) n) * cw (ix2 2 n) + b (ix1 n)

/-- The result at a row and a lane, from the arguments. -/
theorem G_apply (c : Dev nD) (r : Fin 16384) (n : Fin 5632) :
    G m c (ix2 r n) = conv (argH m c) (argW m c) (argC m c) (argB m c) r n
        * Ideal.logistic (conv (argH m c) (argW m c) (argC m c) (argB m c) r n)
        * ∑ k : Fin 2048, argH m c (ix2 r k) * argW m c (ix2 k ⟨5632 + n.val, by omega⟩) := by
  have hH : arrH m c = argH m c := V_main_arg0 m c
  have hg : ∀ r, gateA (arrH m c) (arrW m c) r n = gate (argH m c) (argW m c) r n := by
    intro r; unfold gateA gate; simp only [arrW_apply, hH]
  have hc : convA (arrH m c) (arrW m c) (arrC m c) (arrB m c) r n = conv (argH m c) (argW m c) (argC m c) (argB m c) r n := by
    unfold convA conv
    rw [hg, hg, hg, arrC_apply m c 0 0 rfl, arrC_apply m c 1 1 rfl, arrC_apply m c 2 2 rfl, arrB_apply]
  show outA (arrH m c) (arrW m c) (arrC m c) (arrB m c) r n = _
  unfold outA
  rw [hc]
  simp only [arrW_apply, hH]

end Cert.UpLat

end
-- ==== Proof.UpLatRef.lean ====
module

public import proofs.«01_k».proof.Proof.Gen.ReferenceUpLatIdeal.Read
public import Idealize.ShloMosaic.Lib.Pointwise

/-! The reference of the first projection over latent rows at one element. -/

@[expose] public section

set_option maxRecDepth 16384

noncomputable section

namespace Cert.UpLat

open Idealize.ShloMosaic Cert.ReferenceUpLatIdeal Cert.ReferenceUpLatIdeal.Gen Cert.ReferenceUpLatIdeal.Read

variable (x0 : Vec Ideal S16384x2048 .bf16) (x1 : Vec Ideal S2048x11264 .f32) (x2 : Vec Ideal S3x5632 .f32) (x3 : Vec Ideal S5632 .f32)

/-- The two halves of the product with the weights. -/
theorem ref_gate (b : Fin 4) (p : Fin 4096) (n : Fin 5632) :
    val_main_v3 (F := Ideal) x0 x1 (ix3 b p n)
      = ∑ k : Fin 2048, x0 (ix2 ⟨b.val * 4096 + p.val, by omega⟩ k) * x1 (ix2 k ⟨n.val, by omega⟩) := by
  pointwise [val_main_v3, val_main_v2, val_main_v1, val_main_v0]

theorem ref_up (b : Fin 4) (p : Fin 4096) (n : Fin 5632) :
    val_main_v4 (F := Ideal) x0 x1 (ix3 b p n)
      = ∑ k : Fin 2048, x0 (ix2 ⟨b.val * 4096 + p.val, by omega⟩ k) * x1 (ix2 k ⟨5632 + n.val, by omega⟩) := by
  pointwise [val_main_v4, val_main_v2, val_main_v1, val_main_v0]

/-- The row before, and the row after, within the sequence. -/
theorem ref_before (Z : FVec Ideal S4x1x5632 .f32) (hz : ∀ u, Z u = 0) (g : FVec Ideal S4x4096x5632 .f32) (b : Fin 4) (p : Fin 4096) (n : Fin 5632) :
    (concatenate S4x4096x5632 1 [⟨S4x1x5632, Z⟩, ⟨S4x4095x5632, extractStridedSlice S4x4095x5632 ![0, 0, 0] g slices_S4x4096x5632_S4x4095x5632_0_0_0⟩]
        concatenates_S4x1x5632_S4x4095x5632_S4x4096x5632_d1 : FVec Ideal S4x4096x5632 .f32) (ix3 b p n)
      = if p.val = 0 then 0 else g (ix3 b ⟨p.val - 1, by omega⟩ n) := by
  pointwise [hz]
  by_cases h : p.val < 1
  · exact (dif_pos h).trans (if_pos (show p.val = 0 by omega)).symm
  · exact (dif_neg h).trans (if_neg (show ¬ p.val = 0 by omega)).symm

theorem ref_after (Z : FVec Ideal S4x1x5632 .f32) (hz : ∀ u, Z u = 0) (g : FVec Ideal S4x4096x5632 .f32) (b : Fin 4) (p : Fin 4096) (n : Fin 5632) :
    (concatenate S4x4096x5632 1 [⟨S4x4095x5632, extractStridedSlice S4x4095x5632 ![0, 1, 0] g slices_S4x4096x5632_S4x4095x5632_0_1_0⟩, ⟨S4x1x5632, Z⟩]
        concatenates_S4x4095x5632_S4x1x5632_S4x4096x5632_d1 : FVec Ideal S4x4096x5632 .f32) (ix3 b p n)
      = if p.val = 4095 then 0 else g (ix3 b ⟨min (p.val + 1) 4095, by omega⟩ n) := by
  pointwise [hz]
  by_cases h : p.val < 4095
  · have e : (⟨1 + p.val, by omega⟩ : Fin 4096) = ⟨min (p.val + 1) 4095, by omega⟩ := Fin.ext (by show 1 + p.val = min (p.val + 1) 4095; omega)
    exact (dif_pos h).trans ((congrArg (fun k => g (ix3 b k n)) e).trans (if_neg (show ¬ p.val = 4095 by omega)).symm)
  · exact (dif_neg h).trans (if_pos (show p.val = 4095 by omega)).symm

theorem ref_conv (b : Fin 4) (p : Fin 4096) (n : Fin 5632) :
    val_main_v30 (F := Ideal) x0 x1 x2 x3 (ix3 b p n)
      = val_main_v8 (F := Ideal) x0 x1 (ix3 b p n) * x2 (ix2 0 n) + val_main_v3 (F := Ideal) x0 x1 (ix3 b p n) * x2 (ix2 1 n)
        + val_main_v10 (F := Ideal) x0 x1 (ix3 b p n) * x2 (ix2 2 n) + x3 (ix1 n) := by
  pointwise [val_main_v30, val_main_v29, val_main_v28, val_main_v27, val_main_v26, val_main_v25, val_main_v24, val_main_v23, val_main_v22,
    val_main_v21, val_main_v20, val_main_v19, val_main_v18, val_main_v17, val_main_v16, val_main_v15, val_main_v14, val_main_v13,
    val_main_v12, val_main_v11]

theorem ref_out (b : Fin 4) (p : Fin 4096) (n : Fin 5632) :
    val_main_v32 (F := Ideal) x0 x1 x2 x3 (ix3 b p n)
      = val_main_v30 (F := Ideal) x0 x1 x2 x3 (ix3 b p n) * Ideal.logistic (val_main_v30 (F := Ideal) x0 x1 x2 x3 (ix3 b p n))
        * val_main_v4 (F := Ideal) x0 x1 (ix3 b p n) := by
  pointwise [val_main_v32, val_main_v31, val_main_call0_v5, val_main_call0_v4, val_main_call0_cst_0, val_main_call0_v3, val_main_call0_v2,
    val_main_call0_cst, val_main_call0_v1, val_main_call0_v0]
  rfl

theorem ref_zero (u : S4x1x5632.Idx) : val_main_v6 (F := Ideal) u = 0 := by
  idx_vars u
  pointwise [val_main_v6, val_main_cst]

theorem laid_out (Y : FVec Ideal S4x4096x5632 .f32) (r : Fin 16384) (n : Fin 5632) :
    (truncf .bf16 (shapeCast S16384x5632 Y shapeCasts_S4x4096x5632_S16384x5632 : FVec Ideal S16384x5632 .f32) bitsLt_bf16_f32 : FVec Ideal S16384x5632 .bf16) (ix2 r n)
      = Y (ix3 ⟨r.val / 4096, by omega⟩ ⟨r.val % 4096, by omega⟩ n) := by
  pointwise []

end Cert.UpLat

end
-- ==== Proof.UpLatClaims.lean ====
module

public import proofs.«01_k».proof.Defs
public import proofs.«01_k».proof.Proof.Gen.KernelUpLat.Frame
public import proofs.«01_k».proof.Proof.UpLatArray
public import proofs.«01_k».proof.Proof.UpLatRef
public import Idealize.ShloMosaic.Adequacy
public import Idealize.ShloMosaic.Init

/-! The claims about the feed-forward's first projection over latent rows. -/

@[expose] public section

set_option maxRecDepth 16384

noncomputable section

namespace Cert.UpLat

open Idealize.ShloMosaic Idealize.ShloMosaic.TcCoe Idealize.SL.Sem Cert.KernelUpLatIdeal Cert.Rows
open Cert.ReferenceUpLatIdeal.Read (val_main_v3 val_main_v8 val_main_v10 val_main_v30)

section Rows
variable (h : Vec Ideal S16384x2048 .bf16) (w : Vec Ideal S2048x11264 .f32) (cw : Vec Ideal S3x5632 .f32) (b : Vec Ideal S5632 .f32)
  (q : Fin 4) (n : Fin 5632)

/-- The convolution over a batch's rows is the kernel's. -/
theorem conv_eq (p : Fin 4096) (r : Fin 16384) (hr : r.val = q.val * 4096 + p.val) :
    val_main_v30 (F := Ideal) h w cw b (ix3 q p n) = conv h w cw b r n := by
  have e1 : val_main_v3 (F := Ideal) h w (ix3 q p n) = gate h w r n := by
    have e : (⟨q.val * 4096 + p.val, by omega⟩ : Fin 16384) = r := Fin.ext hr.symm
    rw [ref_gate]
    unfold gate
    simp only [e]
  have e0 : val_main_v8 (F := Ideal) h w (ix3 q p n) = if First r.val then 0 else gate h w (prev r) n := by
    refine (ref_before _ ref_zero _ q p n).trans ?_
    by_cases h0 : p.val = 0
    · rw [if_pos h0, if_pos (show First r.val by show _ % _ = _; omega)]
    · rw [if_neg h0, if_neg (show ¬ First r.val by show ¬ _ % _ = _; omega), ref_gate]
      have e : (⟨q.val * 4096 + (p.val - 1), by omega⟩ : Fin 16384) = prev r :=
        Fin.ext (by show q.val * 4096 + (p.val - 1) = r.val - 1; omega)
      unfold gate
      simp only [e]
  have e2 : val_main_v10 (F := Ideal) h w (ix3 q p n) = if Last r.val then 0 else gate h w (next r) n := by
    refine (ref_after _ ref_zero _ q p n).trans ?_
    by_cases h0 : p.val = 4095
    · rw [if_pos h0, if_pos (show Last r.val by show _ % _ = _; omega)]
    · rw [if_neg h0, if_neg (show ¬ Last r.val by show ¬ _ % _ = _; omega), ref_gate]
      have e : (⟨q.val * 4096 + min (p.val + 1) 4095, by omega⟩ : Fin 16384) = next r :=
        Fin.ext (by show q.val * 4096 + min (p.val + 1) 4095 = min (r.val + 1) 16383; omega)
      unfold gate
      simp only [e]
  rw [ref_conv, e0, e1, e2]
  rfl

end Rows

/-- The reference's result, on the kernel's arguments, is the kernel's result array. -/
theorem result_eq (m : (ℓ : Loc nD τ sig) → Buf (Elt Ideal) ℓ) (c : Dev nD) :
    Cert.ReferenceUpLatIdeal.Read.val_main_v34 (F := Ideal) (argH m c) (argW m c) (argC m c) (argB m c) = G m c := by
  funext u
  idx_vars u
  refine Eq.trans ?_ (G_apply m c u0 u1).symm
  unfold Cert.ReferenceUpLatIdeal.Read.val_main_v34 Cert.ReferenceUpLatIdeal.Read.val_main_v33
  refine (laid_out _ u0 u1).trans ?_
  have hr : (⟨u0.val / 4096 * 4096 + u0.val % 4096, by omega⟩ : Fin 16384) = u0 := Fin.ext (by show u0.val / 4096 * 4096 + u0.val % 4096 = u0.val; omega)
  rw [ref_out, ref_up, conv_eq _ _ _ _ _ _ _ u0 (by show u0.val = u0.val / 4096 * 4096 + u0.val % 4096; omega)]
  simp only [hr]

theorem frame_reference : Cert.quiescent_ReferenceUpLatIdeal := fun m ρ _ =>
  (θ_run Cert.ReferenceUpLatIdeal.defs _ _).mono
    (fun r h => ⟨fun c => ⟨(h c).2.1, (h c).2.2.1, (h c).2.2.2.1, (h c).2.2.2.2⟩,
      Idealize.ShloMosaic.sem_eq_zero_of_no_sems (by decide) r.2⟩)
    (Cert.ReferenceUpLatIdeal.Value.run (F := Ideal) m ρ)

theorem algebraic : Cert.algebraic_KernelUpLatIdeal_ReferenceUpLatIdeal := by
  intro m ρ m' ρ' _ hagree
  refine ⟨fun c => G m c, ?_, ?_⟩
  · exact (θ_run Cert.KernelUpLatIdeal.defs _ _).mono (fun r h c => ⟨(h c).1.trans (final m c), (h c).2⟩)
      (Cert.KernelUpLatIdeal.Value.run_blocks m ρ)
  · refine (θ_run Cert.ReferenceUpLatIdeal.defs _ _).mono (fun r h c => ⟨(h c).1.trans ?_, (h c).2⟩)
      (Cert.ReferenceUpLatIdeal.Value.run (F := Ideal) m' ρ')
    rw [Cert.ReferenceUpLatIdeal.Read.val_main_v34_eq]
    obtain ⟨e0, e1, e2, e3⟩ := hagree c
    rw [e0, e1, e2, e3]
    exact result_eq m c

end Cert.UpLat

end
-- ==== Proof.RkvBlock.lean ====
module

public import proofs.«01_k».proof.Proof.Gen.KernelRkvIdeal.Value
public import proofs.«01_k».proof.Proof.Rows
public import Idealize.ShloMosaic.Lib.Pointwise

/-! What one grid point of the receptance, key and value projection computes: at the head of each of the three groups of lanes
    the kernel keeps the rows mixed with the group's row of factors; every point multiplies the kept rows with a block of weights. -/

@[expose] public section

set_option maxRecDepth 16384

noncomputable section

namespace Cert.Rkv

open Idealize.ShloMosaic Idealize.ShloMosaic.TcCoe Idealize.SL.Sem Cert.KernelRkvIdeal Cert.KernelRkvIdeal.Gen Cert.Rows

/-- The row of factors the kernel reads, by the group of lanes. -/
theorem mu_off : ∀ t : Fin grid0.N, k0_off1 (grid0.coords t) = ![t.val % 12 / 4, 0] := by decide +kernel

/-- The rows kept: each row with its difference, scaled by a row of factors. -/
def mix (r : Fin 8) (h x : Vec Ideal S1024x2048 .f32) (mu : Vec Ideal S8x2048 .f32) : Vec Ideal S1024x2048 .bf16 := fun u =>
  h (ix2 (u 0) (u 1)) + x (ix2 (u 0) (u 1)) * mu (ix2 r (u 1))

/-- The group of lanes of a grid point. -/
abbrev group (t : Fin grid0.N) : Fin 8 := ⟨t.val % 12 / 4, by omega⟩

/-- The result block of one grid point, entry by entry, from the kept rows and a block of weights. -/
def outB (s : Vec Ideal S1024x2048 .bf16) (w : Vec Ideal S2048x512 .bf16) (i : Fin 1024) (j : Fin 512) : EReal :=
  ∑ k : Fin 2048, s (ix2 i k) * w (ix2 k j)

theorem pay1_apply (h x : Vec Ideal S1024x2048 .f32) (mu : Vec Ideal S1x2048 .f32) (i : Fin 1024) (k : Fin 2048) :
    k0_pay1 (F := Ideal) h x mu (ix2 i k) = h (ix2 i k) + x (ix2 i k) * mu (ix2 0 k) := by
  pointwise [k0_pay1]

theorem pay2_apply (s : Vec Ideal S1024x2048 .bf16) (w : Vec Ideal S2048x512 .bf16) (i : Fin 1024) (j : Fin 512) :
    k0_pay2 (F := Ideal) s w (ix2 i j) = outB s w i j := by
  unfold outB
  pointwise [k0_pay2]

/-- A row of factors loaded at a computed offset. -/
theorem mu_ld (g : Vec Ideal S8x2048 .f32) (o : Fin 2 → Nat) (h : ∀ a, o a + S1x2048.size a ≤ S8x2048.size a)
    (r : Fin 8) (ho : o = ![r.val, 0]) (j : Fin 2048) : View.ld g (Rect.unit o S1x2048.size h) (ix2 0 j) = g (ix2 r j) := by
  subst ho
  refine congrArg g (funext fun a => Fin.ext ?_)
  match a with
  | ⟨0, _⟩ => show r.val + 1 * 0 = r.val; omega
  | ⟨1, _⟩ => show 0 + 1 * j.val = j.val; omega

theorem pay1_mix (t : Fin grid0.N) (h x : Vec Ideal S1024x2048 .f32) (mu : Vec Ideal S8x2048 .f32)
    (hb : ∀ a, k0_off1 (grid0.coords t) a + S1x2048.size a ≤ S8x2048.size a) :
    k0_pay1 (F := Ideal) h x (View.ld mu (Rect.unit (s := S8x2048) (k0_off1 (grid0.coords t)) S1x2048.size hb)) = mix (group t) h x mu := by
  funext u
  idx_vars u
  rw [pay1_apply, mu_ld mu _ hb (group t) (mu_off t)]
  rfl

theorem out_B (c : Dev nD) (t : Fin cfg0.N) (hc : ¬cond0_0 (grid0.coords t)) (x0 x1 : Vec Ideal S1024x2048 .f32)
    (x2 : Vec Ideal S8x2048 .f32) (x3 : Vec Ideal S2048x512 .bf16) (s : Vec Ideal S1024x2048 .bf16) (i : Fin 1024) (j : Fin 512) :
    out0_B_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) hc
      x0 x1 x2 x3 s (ix2 i j) = outB s x3 i j := by
  unfold out0_B_4
  rw [View.read_writes_eq_canon _ _ _ (cover0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) hc x0 x1 x2 x3 s)]
  unfold kernelRun0_B
  dsimp only
  sl_unfold_run_names
  rw [View.canon_unit_zero hz]
  simp only [View.readAt_eq_ld, (hs0_3 t).read_unread, (Memref.isWhole_whole _).read_unread]
  simp only [View.ld_unit_zero (S := S1024x2048) hz, View.ld_unit_zero (S := S2048x512) hz]
  exact pay2_apply s x3 i j

theorem sout_A (c : Dev nD) (t : Fin cfg0.N) (hc : cond0_0 (grid0.coords t)) (x0 x1 : Vec Ideal S1024x2048 .f32)
    (x2 : Vec Ideal S8x2048 .f32) (x3 : Vec Ideal S2048x512 .bf16) :
    sout0_A_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) hc
      x0 x1 x2 x3 = mix (group t) x0 x1 x2 := by
  unfold sout0_A_0
  rw [View.read_writes_junk_eq_canon]
  unfold kernelRun0_A
  dsimp only
  sl_unfold_run_names
  rw [View.canon_unit_zero hz]
  simp only [View.readAt_eq_ld, (hs0_0 t).read_unread, (hs0_1 t).read_unread, (hs0_2 t).read_unread]
  simp only [View.ld_unit_zero (S := S1024x2048) hz]
  exact pay1_mix t x0 x1 x2 _

/-- The one stretch the kept rows are stored in. -/
abbrev keptPiece (s : Vec Ideal S1024x2048 .bf16) : List (View.Piece (Elt Ideal) S1024x2048 .bf16) :=
  [⟨Rect.unit (s := S1024x2048) ![0, 0] S1024x2048.size inb_S1024x2048_S1024x2048_0_0, s⟩]

theorem out_A (c : Dev nD) (t : Fin cfg0.N) (hc : cond0_0 (grid0.coords t)) (x0 x1 : Vec Ideal S1024x2048 .f32)
    (x2 : Vec Ideal S8x2048 .f32) (x3 : Vec Ideal S2048x512 .bf16) (i : Fin 1024) (j : Fin 512) :
    out0_A_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) hc
      x0 x1 x2 x3 (ix2 i j) = outB (mix (group t) x0 x1 x2) x3 i j := by
  unfold out0_A_4
  rw [View.read_writes_eq_canon _ _ _ (cover0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) hc x0 x1 x2 x3)]
  unfold kernelRun0_A
  dsimp only
  sl_unfold_run_names
  rw [View.canon_unit_zero hz]
  simp only [View.readAt_eq_ld, (hs0_0 t).read_unread, (hs0_1 t).read_unread, (hs0_2 t).read_unread, (hs0_3 t).read_unread]
  simp only [View.ld_unit_zero (S := S1024x2048) hz, View.ld_unit_zero (S := S2048x512) hz]
  simp only [pay1_mix]
  have hk : scM0_0.view.readCov (keptPiece (mix (group t) x0 x1 x2)) (Rect.unit (s := S1024x2048) ![0, 0] S1024x2048.size inb_S1024x2048_S1024x2048_0_0).toLoadRect
      = mix (group t) x0 x1 x2 := by
    refine (View.readCov_eq_canon' _ _ _).trans ?_
    refine (View.ld_unit_zero (S := S1024x2048) hz _ _).trans ?_
    exact View.canon_unit_zero hz _ _
  rw [hk]
  exact pay2_apply _ x3 i j

end Cert.Rkv

end
-- ==== Proof.RkvRef.lean ====
module

public import proofs.«01_k».proof.Proof.Gen.ReferenceRkvIdeal.Read
public import Idealize.ShloMosaic.Lib.Pointwise

/-! The reference of the receptance, key and value projection at one element. -/

@[expose] public section

set_option maxRecDepth 16384

noncomputable section

namespace Cert.Rkv

open Idealize.ShloMosaic Cert.ReferenceRkvIdeal Cert.ReferenceRkvIdeal.Gen Cert.ReferenceRkvIdeal.Read

/-- The row of factors that each group of lanes takes. -/
abbrev muRow (g : Fin 3) : Fin 6 := match g with | 0 => 0 | 1 => 2 | 2 => 3

/-- The matrix of weights that each group of lanes takes. -/
abbrev weights (wr wk wv : Vec Ideal S2048x2048 .f32) (g : Fin 3) : Vec Ideal S2048x2048 .f32 := match g with | 0 => wr | 1 => wk | 2 => wv

variable (x0 x1 : Vec Ideal S17408x2048 .f32) (x2 : Vec Ideal S6x2048 .f32) (w : Vec Ideal S2048x2048 .f32) (r : Fin 17408) (n : Fin 2048)

/-- Each of the three products: the rows mixed with one row of factors, times one matrix of weights. -/
theorem ref_r : val_main_v18 (F := Ideal) x0 x1 x2 w (ix2 r n)
    = ∑ k : Fin 2048, (x0 (ix2 r k) + x1 (ix2 r k) * x2 (ix2 0 k)) * w (ix2 k n) := by
  pointwise [val_main_v18, val_main_v5, val_main_v4, val_main_v3, val_main_v2, val_main_v1, val_main_v0]

theorem ref_k : val_main_v19 (F := Ideal) x0 x1 x2 w (ix2 r n)
    = ∑ k : Fin 2048, (x0 (ix2 r k) + x1 (ix2 r k) * x2 (ix2 2 k)) * w (ix2 k n) := by
  pointwise [val_main_v19, val_main_v11, val_main_v10, val_main_v9, val_main_v8, val_main_v7, val_main_v6]

theorem ref_v : val_main_v20 (F := Ideal) x0 x1 x2 w (ix2 r n)
    = ∑ k : Fin 2048, (x0 (ix2 r k) + x1 (ix2 r k) * x2 (ix2 3 k)) * w (ix2 k n) := by
  pointwise [val_main_v20, val_main_v17, val_main_v16, val_main_v15, val_main_v14, val_main_v13, val_main_v12]

/-- Three arrays side by side. -/
theorem joined (A B C : FVec Ideal S17408x2048 .f32) (g : Fin 3) :
    (concatenate S17408x6144 1 [⟨S17408x2048, A⟩, ⟨S17408x2048, B⟩, ⟨S17408x2048, C⟩]
        concatenates_S17408x2048_S17408x2048_S17408x2048_S17408x6144_d1 : FVec Ideal S17408x6144 .f32) (ix2 r ⟨g.val * 2048 + n.val, by omega⟩)
      = (match g with | 0 => A | 1 => B | 2 => C) (ix2 r n) := by
  have hn := n.isLt
  match g with
  | 0 =>
    pointwise []
  | 1 =>
    pointwise []
  | 2 =>
    pointwise []
    refine (dif_neg (show ¬ 4096 + n.val < 2048 by omega)).trans ((dif_neg (show ¬ 4096 + n.val - 2048 < 2048 by omega)).trans ?_)
    exact congrArg (fun l => C (ix2 r l)) (Fin.ext (by show 4096 + n.val - 2048 - 2048 = n.val; omega))

theorem ref_apply (wr wk wv : Vec Ideal S2048x2048 .f32) (g : Fin 3) :
    val_main_v21 (F := Ideal) x0 x1 x2 wr wk wv (ix2 r ⟨g.val * 2048 + n.val, by omega⟩)
      = ∑ k : Fin 2048, (x0 (ix2 r k) + x1 (ix2 r k) * x2 (ix2 (muRow g) k)) * weights wr wk wv g (ix2 k n) := by
  unfold val_main_v21
  refine (joined r n _ _ _ g).trans ?_
  match g with
  | 0 => exact ref_r x0 x1 x2 wr r n
  | 1 => exact ref_k x0 x1 x2 wk r n
  | 2 => exact ref_v x0 x1 x2 wv r n

end Cert.Rkv

end
-- ==== Proof.RkvArray.lean ====
module

public import proofs.«01_k».proof.Proof.RkvBlock
public import proofs.«01_k».proof.Proof.RkvRef
public import proofs.«01_k».proof.Proof.Top
public import Idealize.ShloMosaic.Lib.StableHlo.ReadAt

/-! The result array of the receptance, key and value projection as one function of the arrays the kernel is launched on, and
    so of the arguments. The rows kept at a grid point are its own group's, whichever point of the group stored them. -/

@[expose] public section

set_option maxRecDepth 16384

noncomputable section

namespace Cert.Rkv

open Idealize.ShloMosaic Idealize.ShloMosaic.TcCoe Idealize.SL.Sem Cert.KernelRkvIdeal Cert.KernelRkvIdeal.Gen Cert.Rows
open Idealize.ShloMosaic.Pipeline (Dat)

/-- Where each window's block lies at a grid point. -/
theorem index0 : ∀ t : Fin grid0.N, win0_0.index t = ![t.val / 12, 0] := by decide +kernel
theorem index1 : ∀ t : Fin grid0.N, win0_1.index t = ![t.val / 12, 0] := by decide +kernel
theorem index2 : ∀ t : Fin grid0.N, win0_2.index t = ![0, 0] := by decide +kernel
theorem index3 : ∀ t : Fin grid0.N, win0_3.index t = ![0, t.val % 12] := by decide +kernel
theorem index4 : ∀ t : Fin grid0.N, win0_4.index t = ![t.val / 12, t.val % 12] := by decide +kernel

theorem t_lt (t : Fin grid0.N) : t.val < 204 := by have h := t.isLt; simpa only [Gen.N_0] using h

/-- The array index of a block index, window by window. -/
theorem emb0 (t : Fin grid0.N) (i : Fin 1024) (k : Fin 2048) :
    (win0_0.blk t).view.emb (ix2 i k) = (ix2 ⟨t.val / 12 * 1024 + i.val, by have := t_lt t; omega⟩ k : S17408x2048.Idx) := by
  funext a; apply Fin.ext
  have h := congrFun (index0 t)
  match a with
  | ⟨0, _⟩ => show win0_0.index t 0 * 1024 + 1 * i.val = _; rw [h 0]; show t.val / 12 * 1024 + 1 * i.val = t.val / 12 * 1024 + i.val; omega
  | ⟨1, _⟩ => show win0_0.index t 1 * 2048 + 1 * k.val = _; rw [h 1]; show 0 * 2048 + 1 * k.val = k.val; omega

theorem emb1 (t : Fin grid0.N) (i : Fin 1024) (k : Fin 2048) :
    (win0_1.blk t).view.emb (ix2 i k) = (ix2 ⟨t.val / 12 * 1024 + i.val, by have := t_lt t; omega⟩ k : S17408x2048.Idx) := by
  funext a; apply Fin.ext
  have h := congrFun (index1 t)
  match a with
  | ⟨0, _⟩ => show win0_1.index t 0 * 1024 + 1 * i.val = _; rw [h 0]; show t.val / 12 * 1024 + 1 * i.val = t.val / 12 * 1024 + i.val; omega
  | ⟨1, _⟩ => show win0_1.index t 1 * 2048 + 1 * k.val = _; rw [h 1]; show 0 * 2048 + 1 * k.val = k.val; omega

theorem emb2 (t : Fin grid0.N) (i : Fin 8) (k : Fin 2048) :
    (win0_2.blk t).view.emb (ix2 i k) = (ix2 i k : S8x2048.Idx) := by
  funext a; apply Fin.ext
  have h := congrFun (index2 t)
  match a with
  | ⟨0, _⟩ => show win0_2.index t 0 * 8 + 1 * i.val = _; rw [h 0]; show 0 * 8 + 1 * i.val = i.val; omega
  | ⟨1, _⟩ => show win0_2.index t 1 * 2048 + 1 * k.val = _; rw [h 1]; show 0 * 2048 + 1 * k.val = k.val; omega

theorem emb3 (t : Fin grid0.N) (k : Fin 2048) (j : Fin 512) :
    (win0_3.blk t).view.emb (ix2 k j) = (ix2 k ⟨t.val % 12 * 512 + j.val, by omega⟩ : S2048x6144.Idx) := by
  funext a; apply Fin.ext
  have h := congrFun (index3 t)
  match a with
  | ⟨0, _⟩ => show win0_3.index t 0 * 2048 + 1 * k.val = _; rw [h 0]; show 0 * 2048 + 1 * k.val = k.val; omega
  | ⟨1, _⟩ => show win0_3.index t 1 * 512 + 1 * j.val = _; rw [h 1]; show t.val % 12 * 512 + 1 * j.val = t.val % 12 * 512 + j.val; omega

theorem emb4 (t : Fin grid0.N) (i : Fin 1024) (j : Fin 512) :
    (win0_4.blk t).view.emb (ix2 i j) = (ix2 ⟨t.val / 12 * 1024 + i.val, by have := t_lt t; omega⟩ ⟨t.val % 12 * 512 + j.val, by omega⟩ : S17408x6144.Idx) := by
  funext a; apply Fin.ext
  have h := congrFun (index4 t)
  match a with
  | ⟨0, _⟩ => show win0_4.index t 0 * 1024 + 1 * i.val = _; rw [h 0]; show t.val / 12 * 1024 + 1 * i.val = t.val / 12 * 1024 + i.val; omega
  | ⟨1, _⟩ => show win0_4.index t 1 * 512 + 1 * j.val = _; rw [h 1]; show t.val % 12 * 512 + 1 * j.val = t.val % 12 * 512 + j.val; omega

/-- The rows kept while the grid point's group of lanes is worked on. -/
def keptAt (t : Fin grid0.N) (h x : Vec Ideal S17408x2048 .f32) (mu : Vec Ideal S8x2048 .f32) : Vec Ideal S1024x2048 .bf16 :=
  mix (group t) ((win0_0.blk t).view.read (Elt Ideal) h) ((win0_1.blk t).view.read (Elt Ideal) x) ((win0_2.blk t).view.read (Elt Ideal) mu)

theorem keptAt_apply (t : Fin grid0.N) (h x : Vec Ideal S17408x2048 .f32) (mu : Vec Ideal S8x2048 .f32) (i : Fin 1024) (k : Fin 2048) :
    keptAt t h x mu (ix2 i k) = h (ix2 ⟨t.val / 12 * 1024 + i.val, by have := t_lt t; omega⟩ k)
      + x (ix2 ⟨t.val / 12 * 1024 + i.val, by have := t_lt t; omega⟩ k) * mu (ix2 (group t) k) :=
  congrArg₂ (· + ·) (congrArg h (emb0 t i k)) (congrArg₂ (· * ·) (congrArg x (emb1 t i k)) (congrArg mu (emb2 t (group t) k)))

/-- They are the same all along the group. -/
theorem keptAt_congr (t t' : Fin grid0.N) (h0 : t.val / 12 = t'.val / 12) (h1 : t.val % 12 / 4 = t'.val % 12 / 4)
    (h x : Vec Ideal S17408x2048 .f32) (mu : Vec Ideal S8x2048 .f32) : keptAt t h x mu = keptAt t' h x mu := by
  funext u
  idx_vars u
  rw [keptAt_apply, keptAt_apply]
  have hg : group t = group t' := Fin.ext h1
  simp only [h0, hg]

/-- The result at row `r`, lane `n`: the row mixed with its group's factors, times the weights. -/
def outA (h x : Vec Ideal S17408x2048 .f32) (mu : Vec Ideal S8x2048 .f32) (w : Vec Ideal S2048x6144 .bf16) (r : Fin 17408) (n : Fin 6144) : EReal :=
  ∑ k : Fin 2048, (h (ix2 r k) + x (ix2 r k) * mu (ix2 ⟨n.val / 2048, by omega⟩ k)) * w (ix2 k n)

/-- The whole result array. -/
def whole (h x : Vec Ideal S17408x2048 .f32) (mu : Vec Ideal S8x2048 .f32) (w : Vec Ideal S2048x6144 .bf16) : Vec Ideal S17408x6144 .f32 :=
  fun u => outA h x mu w (u 0) (u 1)

/-- What a grid point writes back, for any four arrays, when the rows it finds kept are its own. -/
theorem read_whole (t : Fin cfg0.N) (h x : Vec Ideal S17408x2048 .f32) (mu : Vec Ideal S8x2048 .f32) (w : Vec Ideal S2048x6144 .bf16)
    (o : Vec Ideal S1024x512 .f32) (ho : ∀ (i : Fin 1024) (j : Fin 512), o (ix2 i j)
      = outB (keptAt t h x mu) ((win0_3.blk t).view.read (Elt Ideal) w) i j) :
    o = (win0_4.blk t).view.read (Elt Ideal) (whole h x mu w) := by
  funext y
  have key : ∀ y : S1024x512.Idx, o y = whole h x mu w ((win0_4.blk t).view.emb y) := by
    intro y
    idx_vars y
    rw [ho, emb4]
    show _ = outA h x mu w ⟨t.val / 12 * 1024 + y0.val, _⟩ ⟨t.val % 12 * 512 + y1.val, _⟩
    unfold outB outA
    have hq : (t.val % 12 * 512 + y1.val) / 2048 = t.val % 12 / 4 := by omega
    simp only [hq]
    exact Finset.sum_congr rfl fun k _ => congrArg₂ (· * ·) (keptAt_apply t h x mu y0 k) (congrArg w (emb3 t k y1))
  exact key y

variable (m : (ℓ : Loc nD τ sig) → Buf (Elt Ideal) ℓ)

/-- The arrays of rows, differences, factors and weights the kernel is launched on. -/
def arrH (c : Dev nD) : Vec Ideal S17408x2048 .f32 := V m c main_arg0
def arrX (c : Dev nD) : Vec Ideal S17408x2048 .f32 := V m c main_arg1
def arrM (c : Dev nD) : Vec Ideal S8x2048 .f32 := V m c main_v11
def arrW (c : Dev nD) : Vec Ideal S2048x6144 .bf16 := V m c main_v1

/-- The six arguments. -/
def argH (c : Dev nD) : Vec Ideal S17408x2048 .f32 := m ((c.tc : Thread nD τ).loc main_arg0)
def argX (c : Dev nD) : Vec Ideal S17408x2048 .f32 := m ((c.tc : Thread nD τ).loc main_arg1)
def argM (c : Dev nD) : Vec Ideal S6x2048 .f32 := m ((c.tc : Thread nD τ).loc main_arg2)
def argR (c : Dev nD) : Vec Ideal S2048x2048 .f32 := m ((c.tc : Thread nD τ).loc main_arg3)
def argK (c : Dev nD) : Vec Ideal S2048x2048 .f32 := m ((c.tc : Thread nD τ).loc main_arg4)
def argV (c : Dev nD) : Vec Ideal S2048x2048 .f32 := m ((c.tc : Thread nD τ).loc main_arg5)

/-- The rows of factors, gathered at three places. -/
theorem taken (x : Vec Ideal S6x2048 .f32) (i : IVec S3x1 32) (hi : ∀ g : Fin 3, i (ix2 g (0 : Fin 1)) = BitVec.ofNat 32 (muRow g).val)
    (g : Fin 3) (n : Fin 2048) :
    Host.gather gather_S6x2048_S3x1_S3x2048_1_0_n_n_0_1_12048 x i (ix2 g n) = x (ix2 (muRow g) n) :=
  Idealize.ShloMosaic.Routing.gather_row gather_S6x2048_S3x1_S3x2048_1_0_n_n_0_1_12048 rfl rfl rfl rfl rfl x i g n (muRow g) (hi g) (by decide)

/-- The first three of eight rows. -/
theorem mu_top (x : Vec Ideal S8x2048 .f32) (u : Vec Ideal S3x2048 .f32) (r : Fin 8) (r' : Fin 3) (hr : r.val = r'.val) (n : Fin 2048) :
    Host.scatter scatter_S8x2048_S1_S3x2048_01_n_0_0 (fun _ b => b) x (broadcastInDim S1 ![] bcast_S_S1 (constantI S_ 32 0#32)) u (ix2 r n)
      = u (ix2 r' n) :=
  Cert.Top.scatter_rows scatter_S8x2048_S1_S3x2048_01_n_0_0 rfl rfl rfl x _ (fun _ => rfl) u r r' hr n

theorem arrM_apply (c : Dev nD) (r : Fin 8) (g : Fin 3) (hr : r.val = g.val) (n : Fin 2048) :
    arrM m c (ix2 r n) = argM m c (ix2 (muRow g) n) := by
  unfold arrM V
  after_reads_at
  refine (mu_top _ _ r g hr n).trans ?_
  exact taken (argM m c) _ (fun g => by match g with | 0 => rfl | 1 => rfl | 2 => rfl) g n

/-- The three matrices of weights stand side by side. -/
theorem arrW_apply (c : Dev nD) (k : Fin 2048) (g : Fin 3) (n : Fin 2048) :
    arrW m c (ix2 k ⟨g.val * 2048 + n.val, by omega⟩) = weights (argR m c) (argK m c) (argV m c) g (ix2 k n) := by
  have hn := n.isLt
  match g with
  | 0 =>
    unfold arrW V
    after_reads_at
    after_reads_at
    rfl
  | 1 =>
    unfold arrW V
    after_reads_at
    after_reads_at
    rfl
  | 2 =>
    unfold arrW V
    after_reads_at
    rw [dif_neg (show ¬ 2 * 2048 + n.val < 2048 by omega), dif_neg (show ¬ 2 * 2048 + n.val - 2048 < 2048 by omega)]
    after_reads_at
    exact congrArg (fun l => argV m c (ix2 k l)) (Fin.ext (by show 2 * 2048 + n.val - 2048 - 2048 = n.val; omega))

/-- The rows a grid point leaves kept: at the head of a group its own, further on those it found. -/
theorem scratch_A (c : Dev nD) (t : Fin cfg0.N) (h0 : t.val % 4 = 0) :
    (outsAt0 m c t.val t.isLt).2 = keptAt t (arrH m c) (arrX m c) (arrM m c) := by
  rw [outsAt0_A m c t h0]
  dsimp only
  rw [sout_A c t ((hcond0_0 t).mpr h0) (iblk m c 0 t) (iblk m c 1 t) (iblk m c 2 t) (iblk m c 3 t)]
  rfl

theorem scratch_B (c : Dev nD) (t : Fin cfg0.N) (h0 : ¬t.val % 4 = 0) :
    (outsAt0 m c t.val t.isLt).2 = (outsAt0 m c (t.val - 1) (Nat.lt_of_le_of_lt (Nat.sub_le _ _) t.isLt)).2 := by
  rw [outsAt0_B m c t h0]
  rfl

/-- The rows kept after each grid point are its own. -/
theorem kept_eq (c : Dev nD) : ∀ (n : Nat) (hn : n < cfg0.N), (outsAt0 m c n hn).2 = keptAt ⟨n, hn⟩ (arrH m c) (arrX m c) (arrM m c) := by
  intro n
  induction n with
  | zero =>
    intro hn
    exact scratch_A m c ⟨0, hn⟩ (Nat.zero_mod 4)
  | succ n ih =>
    intro hn
    by_cases h0 : (n + 1) % 4 = 0
    · exact scratch_A m c ⟨n + 1, hn⟩ h0
    · refine (scratch_B m c ⟨n + 1, hn⟩ h0).trans ((ih (Nat.lt_of_succ_lt hn)).trans ?_)
      exact keptAt_congr _ _ (by show n / 12 = (n + 1) / 12; omega) (by show n % 12 / 4 = (n + 1) % 12 / 4; omega) _ _ _

/-- The result array. -/
def G (c : Dev nD) : Buf (Elt Ideal) ((c : Thread nD τ).loc main_v12) := whole (arrH m c) (arrX m c) (arrM m c) (arrW m c)

/-- What a grid point writes back is its block of the whole array. -/
theorem flushed_eq (c : Dev nD) (t : Fin cfg0.N) :
    (dats m 0 c).flushed 4 t = (win0_4.blk t).view.read (Elt Ideal) (G m c) := by
  by_cases h0 : t.val % 4 = 0
  · rw [Value.flushed4_A m c t h0]
    exact read_whole t (arrH m c) (arrX m c) (arrM m c) (arrW m c) _ fun i j => out_A c t _ _ _ _ _ i j
  · rw [Value.flushed4_B m c t h0, kept_eq m c (t.val - 1),
      keptAt_congr ⟨t.val - 1, _⟩ t (by show (t.val - 1) / 12 = t.val / 12; omega) (by show (t.val - 1) % 12 / 4 = t.val % 12 / 4; omega)]
    exact read_whole t (arrH m c) (arrX m c) (arrM m c) (arrW m c) _ fun i j => out_B c t _ _ _ _ _ _ i j

/-- So the result array ends as the whole function. -/
theorem final (c : Dev nD) : (dats m 0 c).arrAt 4 cfg0.N = G m c :=
  (dats m 0 c).arrAt_eq_of_cover 4 (G m c) (fun t _ => flushed_eq m c t) fun i => (Value.covered_iff4 i).2 (by
    have h0 : (i 0).val < 17408 := (i 0).isLt
    have h1 : (i 1).val < 6144 := (i 1).isLt
    omega)

/-- The result at a row and a lane of a group, from the arguments. -/
theorem G_apply (c : Dev nD) (r : Fin 17408) (g : Fin 3) (n : Fin 2048) :
    G m c (ix2 r ⟨g.val * 2048 + n.val, by omega⟩)
      = ∑ k : Fin 2048, (argH m c (ix2 r k) + argX m c (ix2 r k) * argM m c (ix2 (muRow g) k))
          * weights (argR m c) (argK m c) (argV m c) g (ix2 k n) := by
  have hH : arrH m c = argH m c := V_main_arg0 m c
  have hX : arrX m c = argX m c := V_main_arg1 m c
  show outA (arrH m c) (arrX m c) (arrM m c) (arrW m c) r ⟨g.val * 2048 + n.val, _⟩ = _
  unfold outA
  rw [hH, hX]
  exact Finset.sum_congr rfl fun k _ => congrArg₂ (· * ·)
    (congrArg (fun y => argH m c (ix2 r k) + argX m c (ix2 r k) * y)
      (arrM_apply m c _ g (by show (g.val * 2048 + n.val) / 2048 = g.val; omega) k))
    (arrW_apply m c k g n)

end Cert.Rkv

end
-- ==== Proof.RkvClaims.lean ====
module

public import proofs.«01_k».proof.Defs
public import proofs.«01_k».proof.Proof.Gen.KernelRkv.Frame
public import proofs.«01_k».proof.Proof.RkvArray
public import proofs.«01_k».proof.Proof.RkvRef
public import Idealize.ShloMosaic.Adequacy
public import Idealize.ShloMosaic.Init

/-! The claims about the receptance, key and value projection. -/

@[expose] public section

set_option maxRecDepth 16384

noncomputable section

namespace Cert.Rkv

open Idealize.ShloMosaic Idealize.ShloMosaic.TcCoe Idealize.SL.Sem Cert.KernelRkvIdeal

/-- The reference's result, on the kernel's arguments, is the kernel's result array. -/
theorem result_eq (m : (ℓ : Loc nD τ sig) → Buf (Elt Ideal) ℓ) (c : Dev nD) :
    Cert.ReferenceRkvIdeal.Read.val_main_v21 (F := Ideal) (argH m c) (argX m c) (argM m c) (argR m c) (argK m c) (argV m c) = G m c := by
  funext u
  idx_vars u
  obtain ⟨g, n, hl⟩ : ∃ (g : Fin 3) (n : Fin 2048), u1 = ⟨g.val * 2048 + n.val, by omega⟩ :=
    ⟨⟨u1.val / 2048, by omega⟩, ⟨u1.val % 2048, by omega⟩, Fin.ext (by show u1.val = u1.val / 2048 * 2048 + u1.val % 2048; omega)⟩
  rw [hl]
  refine Eq.trans ?_ (G_apply m c u0 g n).symm
  exact ref_apply (argH m c) (argX m c) (argM m c) u0 n (argR m c) (argK m c) (argV m c) g

theorem frame_reference : Cert.quiescent_ReferenceRkvIdeal := fun m ρ _ =>
  (θ_run Cert.ReferenceRkvIdeal.defs _ _).mono
    (fun r h => ⟨fun c => ⟨(h c).2.1, (h c).2.2.1, (h c).2.2.2.1, (h c).2.2.2.2.1, (h c).2.2.2.2.2.1, (h c).2.2.2.2.2.2⟩,
      Idealize.ShloMosaic.sem_eq_zero_of_no_sems (by decide) r.2⟩)
    (Cert.ReferenceRkvIdeal.Value.run (F := Ideal) m ρ)

theorem algebraic : Cert.algebraic_KernelRkvIdeal_ReferenceRkvIdeal := by
  intro m ρ m' ρ' _ hagree
  refine ⟨fun c => G m c, ?_, ?_⟩
  · exact (θ_run Cert.KernelRkvIdeal.defs _ _).mono (fun r h c => ⟨(h c).1.trans (final m c), (h c).2⟩)
      (Cert.KernelRkvIdeal.Value.run_blocks m ρ)
  · refine (θ_run Cert.ReferenceRkvIdeal.defs _ _).mono (fun r h c => ⟨(h c).1.trans ?_, (h c).2⟩)
      (Cert.ReferenceRkvIdeal.Value.run (F := Ideal) m' ρ')
    rw [Cert.ReferenceRkvIdeal.Read.val_main_v21_eq]
    obtain ⟨e0, e1, e2, e3, e4, e5⟩ := hagree c
    rw [e0, e1, e2, e3, e4, e5]
    exact result_eq m c

end Cert.Rkv

end
-- ==== Proof.KvUpBlock.lean ====
module

public import proofs.«01_k».proof.Proof.Gen.KernelKvUpIdeal.Value
public import proofs.«01_k».proof.Proof.Rows

/-! What one grid point of the keys' and values' up-projection computes. For each of four heads the block of keys holds 128
    lanes of the latent rows times the heads' weights, then the shared key's 128 lanes; the block of values is one product. -/

@[expose] public section

set_option maxRecDepth 16384

noncomputable section

namespace Cert.KvUp

open Idealize.ShloMosaic Idealize.ShloMosaic.TcCoe Idealize.SL.Sem Cert.KernelKvUpIdeal Cert.KernelKvUpIdeal.Gen Cert.Rows

/-- The block of keys of one grid point, entry by entry. -/
def keyB (a : Vec Ideal S1024x512 .bf16) (w : Vec Ideal S512x512 .bf16) (x : Vec Ideal S1024x128 .bf16) (i : Fin 1024) (j : Fin 1024) : EReal :=
  if j.val % 256 < 128 then ∑ k : Fin 512, a (ix2 i k) * w (ix2 k ⟨j.val / 256 * 128 + j.val % 128, by omega⟩)
  else x (ix2 i ⟨j.val % 128, by omega⟩)

/-- The block of values, likewise. -/
def valB (a : Vec Ideal S1024x512 .bf16) (w : Vec Ideal S512x512 .bf16) (i : Fin 1024) (j : Fin 512) : EReal :=
  ∑ k : Fin 512, a (ix2 i k) * w (ix2 k j)

theorem pay1_apply (a : Vec Ideal S1024x512 .bf16) (w : Vec Ideal S512x512 .bf16) (i : Fin 1024) (j : Fin 512) :
    k0_pay1 (F := Ideal) a w (ix2 i j) = ∑ k : Fin 512, a (ix2 i k) * w (ix2 k j) := by
  pointwise [k0_pay1]

theorem pay2_apply (a : Vec Ideal S1024x512 .bf16) (w : Vec Ideal S512x512 .bf16) (i : Fin 1024) (j : Fin 512) :
    k0_pay2 (F := Ideal) a w (ix2 i j) = valB a w i j := by
  unfold valB
  pointwise [k0_pay2]

theorem pay3_apply (a : Vec Ideal S1024x512 .bf16) (w : Vec Ideal S512x512 .bf16) (i : Fin 1024) (j : Fin 128) :
    k0_pay3 (F := Ideal) a w (ix2 i j) = ∑ k : Fin 512, a (ix2 i k) * w (ix2 k ⟨0 * 128 + j.val, by omega⟩) := by
  rw [show (⟨0 * 128 + j.val, by omega⟩ : Fin 512) = ⟨j.val, by omega⟩ from Fin.ext (by show 0 * 128 + j.val = j.val; omega)]
  refine Eq.trans ?_ (pay1_apply a w i _)
  unfold k0_pay3
  generalize k0_pay1 (F := Ideal) a w = y
  pointwise []

theorem pay4_apply (a : Vec Ideal S1024x512 .bf16) (w : Vec Ideal S512x512 .bf16) (i : Fin 1024) (j : Fin 128) :
    k0_pay4 (F := Ideal) a w (ix2 i j) = ∑ k : Fin 512, a (ix2 i k) * w (ix2 k ⟨1 * 128 + j.val, by omega⟩) := by
  rw [show (⟨1 * 128 + j.val, by omega⟩ : Fin 512) = ⟨128 + j.val, by omega⟩ from Fin.ext (by show 1 * 128 + j.val = 128 + j.val; omega)]
  refine Eq.trans ?_ (pay1_apply a w i _)
  unfold k0_pay4
  generalize k0_pay1 (F := Ideal) a w = y
  pointwise []

theorem pay5_apply (a : Vec Ideal S1024x512 .bf16) (w : Vec Ideal S512x512 .bf16) (i : Fin 1024) (j : Fin 128) :
    k0_pay5 (F := Ideal) a w (ix2 i j) = ∑ k : Fin 512, a (ix2 i k) * w (ix2 k ⟨2 * 128 + j.val, by omega⟩) := by
  rw [show (⟨2 * 128 + j.val, by omega⟩ : Fin 512) = ⟨256 + j.val, by omega⟩ from Fin.ext (by show 2 * 128 + j.val = 256 + j.val; omega)]
  refine Eq.trans ?_ (pay1_apply a w i _)
  unfold k0_pay5
  generalize k0_pay1 (F := Ideal) a w = y
  pointwise []

theorem pay6_apply (a : Vec Ideal S1024x512 .bf16) (w : Vec Ideal S512x512 .bf16) (i : Fin 1024) (j : Fin 128) :
    k0_pay6 (F := Ideal) a w (ix2 i j) = ∑ k : Fin 512, a (ix2 i k) * w (ix2 k ⟨3 * 128 + j.val, by omega⟩) := by
  rw [show (⟨3 * 128 + j.val, by omega⟩ : Fin 512) = ⟨384 + j.val, by omega⟩ from Fin.ext (by show 3 * 128 + j.val = 384 + j.val; omega)]
  refine Eq.trans ?_ (pay1_apply a w i _)
  unfold k0_pay6
  generalize k0_pay1 (F := Ideal) a w = y
  pointwise []

/-- A head's own lanes of the block. -/
theorem key_piece (a : Vec Ideal S1024x512 .bf16) (w : Vec Ideal S512x512 .bf16) (x : Vec Ideal S1024x128 .bf16) (s : Fin 4)
    (h : ∀ a, ![0, s.val * 256] a + S1024x128.size a ≤ S1024x1024.size a) (v : Vec Ideal S1024x128 .bf16)
    (hv : ∀ (i : Fin 1024) (j : Fin 128), v (ix2 i j) = ∑ k : Fin 512, a (ix2 i k) * w (ix2 k ⟨s.val * 128 + j.val, by omega⟩))
    (u : S1024x128.Idx) :
    v u = keyB a w x ((Rect.unit (s := S1024x1024) ![0, s.val * 256] S1024x128.size h).emb u 0)
      ((Rect.unit (s := S1024x1024) ![0, s.val * 256] S1024x128.size h).emb u 1) := by
  idx_vars u
  have e0 : (Rect.unit (s := S1024x1024) ![0, s.val * 256] S1024x128.size h).emb (ix2 u0 u1) 0 = u0 :=
    Fin.ext (by show 0 + 1 * u0.val = u0.val; omega)
  have e1 : (Rect.unit (s := S1024x1024) ![0, s.val * 256] S1024x128.size h).emb (ix2 u0 u1) 1 = (⟨s.val * 256 + u1.val, by omega⟩ : Fin 1024) :=
    Fin.ext (by show s.val * 256 + 1 * u1.val = s.val * 256 + u1.val; omega)
  rw [e0, e1, hv]
  unfold keyB
  rw [if_pos (show (s.val * 256 + u1.val) % 256 < 128 by omega)]
  exact Finset.sum_congr rfl fun k _ => congrArg (fun l => a (ix2 u0 k) * w (ix2 k l))
    (Fin.ext (by show s.val * 128 + u1.val = (s.val * 256 + u1.val) / 256 * 128 + (s.val * 256 + u1.val) % 128; omega))

/-- The shared key's lanes after a head's own. -/
theorem rope_piece (a : Vec Ideal S1024x512 .bf16) (w : Vec Ideal S512x512 .bf16) (x : Vec Ideal S1024x128 .bf16) (s : Fin 4)
    (h : ∀ a, ![0, s.val * 256 + 128] a + S1024x128.size a ≤ S1024x1024.size a) (u : S1024x128.Idx) :
    x u = keyB a w x ((Rect.unit (s := S1024x1024) ![0, s.val * 256 + 128] S1024x128.size h).emb u 0)
      ((Rect.unit (s := S1024x1024) ![0, s.val * 256 + 128] S1024x128.size h).emb u 1) := by
  idx_vars u
  have e0 : (Rect.unit (s := S1024x1024) ![0, s.val * 256 + 128] S1024x128.size h).emb (ix2 u0 u1) 0 = u0 :=
    Fin.ext (by show 0 + 1 * u0.val = u0.val; omega)
  have e1 : (Rect.unit (s := S1024x1024) ![0, s.val * 256 + 128] S1024x128.size h).emb (ix2 u0 u1) 1 = (⟨s.val * 256 + 128 + u1.val, by omega⟩ : Fin 1024) :=
    Fin.ext (by show s.val * 256 + 128 + 1 * u1.val = s.val * 256 + 128 + u1.val; omega)
  rw [e0, e1]
  unfold keyB
  rw [if_neg (show ¬ (s.val * 256 + 128 + u1.val) % 256 < 128 by omega)]
  exact congrArg (fun l => x (ix2 u0 l)) (Fin.ext (by show u1.val = (s.val * 256 + 128 + u1.val) % 128; omega))

theorem out4_apply (a : Vec Ideal S1024x512 .bf16) (w v : Vec Ideal S512x512 .bf16) (x : Vec Ideal S1024x128 .bf16) (i : Fin 1024) (j : Fin 1024) :
    out0_4 (F := Ideal) a w v x (ix2 i j) = keyB a w x i j := by
  unfold out0_4
  rw [View.ld_unit_zero (S := S1024x512) hz, View.ld_unit_zero (S := S512x512) hz, View.ld_unit_zero (S := S1024x128) hz]
  rw [View.canon_apply_of_pieces (fun u : S1024x1024.Idx => keyB a w x (u 0) (u 1)) _ ?_ _ (cover0_4 _ _ _ _ _ _ _ _ _)]
  · rfl
  · intro p hp
    simp only [List.mem_cons, List.not_mem_nil, or_false] at hp
    rcases hp with rfl | rfl | rfl | rfl | rfl | rfl | rfl | rfl
    · exact rope_piece a w x 3 inb_S1024x1024_S1024x128_0_896
    · exact key_piece a w x 3 inb_S1024x1024_S1024x128_0_768 _ fun i j => pay6_apply a w i j
    · exact rope_piece a w x 2 inb_S1024x1024_S1024x128_0_640
    · exact key_piece a w x 2 inb_S1024x1024_S1024x128_0_512 _ fun i j => pay5_apply a w i j
    · exact rope_piece a w x 1 inb_S1024x1024_S1024x128_0_384
    · exact key_piece a w x 1 inb_S1024x1024_S1024x128_0_256 _ fun i j => pay4_apply a w i j
    · exact rope_piece a w x 0 inb_S1024x1024_S1024x128_0_128
    · exact key_piece a w x 0 inb_S1024x1024_S1024x128_0_0 _ fun i j => pay3_apply a w i j

theorem out5_apply (a : Vec Ideal S1024x512 .bf16) (w v : Vec Ideal S512x512 .bf16) (x : Vec Ideal S1024x128 .bf16) (i : Fin 1024) (j : Fin 512) :
    out0_5 (F := Ideal) a w v x (ix2 i j) = valB a v i j := by
  unfold out0_5
  rw [View.canon_unit_zero hz, View.ld_unit_zero (S := S1024x512) hz, View.ld_unit_zero (S := S512x512) hz]
  exact pay2_apply a v i j

end Cert.KvUp

end
-- ==== Proof.KvUpArray.lean ====
module

public import proofs.«01_k».proof.Proof.KvUpBlock
public import Idealize.ShloMosaic.Lib.StableHlo.ReadAt

/-! The two result arrays of the keys' and values' up-projection as functions of the arguments. -/

@[expose] public section

set_option maxRecDepth 16384

noncomputable section

namespace Cert.KvUp

open Idealize.ShloMosaic Idealize.ShloMosaic.TcCoe Idealize.SL.Sem Cert.KernelKvUpIdeal Cert.KernelKvUpIdeal.Gen Cert.Rows

/-- Where each window's block lies at a grid point. -/
theorem index0 : ∀ t : Fin grid0.N, win0_0.index t = ![t.val / 4, 0] := by decide +kernel
theorem index1 : ∀ t : Fin grid0.N, win0_1.index t = ![0, t.val % 4] := by decide +kernel
theorem index2 : ∀ t : Fin grid0.N, win0_2.index t = ![0, t.val % 4] := by decide +kernel
theorem index3 : ∀ t : Fin grid0.N, win0_3.index t = ![t.val / 4, 0] := by decide +kernel
theorem index4 : ∀ t : Fin grid0.N, win0_4.index t = ![t.val / 4, t.val % 4] := by decide +kernel
theorem index5 : ∀ t : Fin grid0.N, win0_5.index t = ![t.val / 4, t.val % 4] := by decide +kernel

theorem t_lt (t : Fin grid0.N) : t.val < 68 := by have h := t.isLt; simpa only [Gen.N_0] using h

/-- The array index of a block index, window by window. -/
theorem emb0 (t : Fin grid0.N) (i : Fin 1024) (k : Fin 512) :
    (win0_0.blk t).view.emb (ix2 i k) = (ix2 ⟨t.val / 4 * 1024 + i.val, by have := t_lt t; omega⟩ k : S17408x512.Idx) := by
  funext a; apply Fin.ext
  have h := congrFun (index0 t)
  match a with
  | ⟨0, _⟩ => show win0_0.index t 0 * 1024 + 1 * i.val = _; rw [h 0]; show t.val / 4 * 1024 + 1 * i.val = t.val / 4 * 1024 + i.val; omega
  | ⟨1, _⟩ => show win0_0.index t 1 * 512 + 1 * k.val = _; rw [h 1]; show 0 * 512 + 1 * k.val = k.val; omega

theorem emb1 (t : Fin grid0.N) (i : Fin 512) (k : Fin 512) :
    (win0_1.blk t).view.emb (ix2 i k) = (ix2 i ⟨t.val % 4 * 512 + k.val, by have := t_lt t; omega⟩ : S512x2048.Idx) := by
  funext a; apply Fin.ext
  have h := congrFun (index1 t)
  match a with
  | ⟨0, _⟩ => show win0_1.index t 0 * 512 + 1 * i.val = _; rw [h 0]; show 0 * 512 + 1 * i.val = i.val; omega
  | ⟨1, _⟩ => show win0_1.index t 1 * 512 + 1 * k.val = _; rw [h 1]; show t.val % 4 * 512 + 1 * k.val = t.val % 4 * 512 + k.val; omega

theorem emb2 (t : Fin grid0.N) (i : Fin 512) (k : Fin 512) :
    (win0_2.blk t).view.emb (ix2 i k) = (ix2 i ⟨t.val % 4 * 512 + k.val, by have := t_lt t; omega⟩ : S512x2048.Idx) := by
  funext a; apply Fin.ext
  have h := congrFun (index2 t)
  match a with
  | ⟨0, _⟩ => show win0_2.index t 0 * 512 + 1 * i.val = _; rw [h 0]; show 0 * 512 + 1 * i.val = i.val; omega
  | ⟨1, _⟩ => show win0_2.index t 1 * 512 + 1 * k.val = _; rw [h 1]; show t.val % 4 * 512 + 1 * k.val = t.val % 4 * 512 + k.val; omega

theorem emb3 (t : Fin grid0.N) (i : Fin 1024) (k : Fin 128) :
    (win0_3.blk t).view.emb (ix2 i k) = (ix2 ⟨t.val / 4 * 1024 + i.val, by have := t_lt t; omega⟩ k : S17408x128.Idx) := by
  funext a; apply Fin.ext
  have h := congrFun (index3 t)
  match a with
  | ⟨0, _⟩ => show win0_3.index t 0 * 1024 + 1 * i.val = _; rw [h 0]; show t.val / 4 * 1024 + 1 * i.val = t.val / 4 * 1024 + i.val; omega
  | ⟨1, _⟩ => show win0_3.index t 1 * 128 + 1 * k.val = _; rw [h 1]; show 0 * 128 + 1 * k.val = k.val; omega

theorem emb4 (t : Fin grid0.N) (i : Fin 1024) (k : Fin 1024) :
    (win0_4.blk t).view.emb (ix2 i k) = (ix2 ⟨t.val / 4 * 1024 + i.val, by have := t_lt t; omega⟩ ⟨t.val % 4 * 1024 + k.val, by have := t_lt t; omega⟩ : S17408x4096.Idx) := by
  funext a; apply Fin.ext
  have h := congrFun (index4 t)
  match a with
  | ⟨0, _⟩ => show win0_4.index t 0 * 1024 + 1 * i.val = _; rw [h 0]; show t.val / 4 * 1024 + 1 * i.val = t.val / 4 * 1024 + i.val; omega
  | ⟨1, _⟩ => show win0_4.index t 1 * 1024 + 1 * k.val = _; rw [h 1]; show t.val % 4 * 1024 + 1 * k.val = t.val % 4 * 1024 + k.val; omega

theorem emb5 (t : Fin grid0.N) (i : Fin 1024) (k : Fin 512) :
    (win0_5.blk t).view.emb (ix2 i k) = (ix2 ⟨t.val / 4 * 1024 + i.val, by have := t_lt t; omega⟩ ⟨t.val % 4 * 512 + k.val, by have := t_lt t; omega⟩ : S17408x2048.Idx) := by
  funext a; apply Fin.ext
  have h := congrFun (index5 t)
  match a with
  | ⟨0, _⟩ => show win0_5.index t 0 * 1024 + 1 * i.val = _; rw [h 0]; show t.val / 4 * 1024 + 1 * i.val = t.val / 4 * 1024 + i.val; omega
  | ⟨1, _⟩ => show win0_5.index t 1 * 512 + 1 * k.val = _; rw [h 1]; show t.val % 4 * 512 + 1 * k.val = t.val % 4 * 512 + k.val; omega

/-- The keys at row `r`, lane `n`: in each head 128 lanes of latent rows times weights, then the shared key. -/
def keyA (a : Vec Ideal S17408x512 .bf16) (w : Vec Ideal S512x2048 .bf16) (x : Vec Ideal S17408x128 .bf16) (r : Fin 17408) (n : Fin 4096) : EReal :=
  if n.val % 256 < 128 then ∑ k : Fin 512, a (ix2 r k) * w (ix2 k ⟨n.val / 256 * 128 + n.val % 128, by omega⟩)
  else x (ix2 r ⟨n.val % 128, by omega⟩)

/-- The values at row `r`, lane `n`. -/
def valA (a : Vec Ideal S17408x512 .bf16) (w : Vec Ideal S512x2048 .bf16) (r : Fin 17408) (n : Fin 2048) : EReal :=
  ∑ k : Fin 512, a (ix2 r k) * w (ix2 k n)

/-- The whole result arrays. -/
def keys (a : Vec Ideal S17408x512 .bf16) (w : Vec Ideal S512x2048 .bf16) (x : Vec Ideal S17408x128 .bf16) : Vec Ideal S17408x4096 .bf16 :=
  fun u => keyA a w x (u 0) (u 1)
def vals (a : Vec Ideal S17408x512 .bf16) (w : Vec Ideal S512x2048 .bf16) : Vec Ideal S17408x2048 .bf16 := fun u => valA a w (u 0) (u 1)

/-- What a grid point writes back to each, for any arrays. -/
theorem read_keys (t : Fin cfg0.N) (a : Vec Ideal S17408x512 .bf16) (w : Vec Ideal S512x2048 .bf16) (x : Vec Ideal S17408x128 .bf16)
    (o : Vec Ideal S1024x1024 .bf16) (ho : ∀ (i : Fin 1024) (j : Fin 1024), o (ix2 i j)
      = keyB ((win0_0.blk t).view.read (Elt Ideal) a) ((win0_1.blk t).view.read (Elt Ideal) w) ((win0_3.blk t).view.read (Elt Ideal) x) i j) :
    o = (win0_4.blk t).view.read (Elt Ideal) (keys a w x) := by
  funext y
  have key : ∀ y : S1024x1024.Idx, o y = keys a w x ((win0_4.blk t).view.emb y) := by
    intro y
    idx_vars y
    rw [ho, emb4]
    show _ = keyA a w x ⟨t.val / 4 * 1024 + y0.val, _⟩ ⟨t.val % 4 * 1024 + y1.val, _⟩
    unfold keyB keyA
    by_cases hy : y1.val % 256 < 128
    · rw [if_pos hy, if_pos (show (t.val % 4 * 1024 + y1.val) % 256 < 128 by omega)]
      refine Finset.sum_congr rfl fun k _ => congrArg₂ (· * ·) (congrArg a (emb0 t y0 k)) ((congrArg w (emb1 t k _)).trans ?_)
      refine congrArg (fun l => w (ix2 k l)) (Fin.ext ?_)
      show t.val % 4 * 512 + (y1.val / 256 * 128 + y1.val % 128) = (t.val % 4 * 1024 + y1.val) / 256 * 128 + (t.val % 4 * 1024 + y1.val) % 128
      omega
    · rw [if_neg hy, if_neg (show ¬ (t.val % 4 * 1024 + y1.val) % 256 < 128 by omega)]
      refine (congrArg x (emb3 t y0 _)).trans ?_
      refine congrArg (fun l => x (ix2 _ l)) (Fin.ext ?_)
      show y1.val % 128 = (t.val % 4 * 1024 + y1.val) % 128
      omega
  exact key y

theorem read_vals (t : Fin cfg0.N) (a : Vec Ideal S17408x512 .bf16) (w : Vec Ideal S512x2048 .bf16) (o : Vec Ideal S1024x512 .bf16)
    (ho : ∀ (i : Fin 1024) (j : Fin 512), o (ix2 i j)
      = valB ((win0_0.blk t).view.read (Elt Ideal) a) ((win0_2.blk t).view.read (Elt Ideal) w) i j) :
    o = (win0_5.blk t).view.read (Elt Ideal) (vals a w) := by
  funext y
  have key : ∀ y : S1024x512.Idx, o y = vals a w ((win0_5.blk t).view.emb y) := by
    intro y
    idx_vars y
    rw [ho, emb5]
    show _ = valA a w ⟨t.val / 4 * 1024 + y0.val, _⟩ ⟨t.val % 4 * 512 + y1.val, _⟩
    unfold valB valA
    exact Finset.sum_congr rfl fun k _ => congrArg₂ (· * ·) (congrArg a (emb0 t y0 k)) (congrArg w (emb2 t k y1))
  exact key y

variable (m : (ℓ : Loc nD τ sig) → Buf (Elt Ideal) ℓ)

/-- The arrays of latent rows, keys' and values' weights and the shared key the kernel is launched on. -/
def arrA (c : Dev nD) : Vec Ideal S17408x512 .bf16 := V m c main_arg0
def arrK (c : Dev nD) : Vec Ideal S512x2048 .bf16 := V m c main_v3
def arrV (c : Dev nD) : Vec Ideal S512x2048 .bf16 := V m c main_v6
def arrX (c : Dev nD) : Vec Ideal S17408x128 .bf16 := V m c main_arg2

/-- The three arguments. -/
def argA (c : Dev nD) : Vec Ideal S17408x512 .bf16 := m ((c.tc : Thread nD τ).loc main_arg0)
def argW (c : Dev nD) : Vec Ideal S512x4096 .f32 := m ((c.tc : Thread nD τ).loc main_arg1)
def argX (c : Dev nD) : Vec Ideal S17408x128 .bf16 := m ((c.tc : Thread nD τ).loc main_arg2)

/-- A head's keys' weights are the first half of its lanes, its values' weights the second. -/
theorem arrK_apply (c : Dev nD) (k : Fin 512) (n : Fin 2048) :
    arrK m c (ix2 k n) = argW m c (ix2 k ⟨n.val / 128 * 256 + n.val % 128, by omega⟩) := by
  unfold arrK V
  after_reads_at
  refine congrArg (argW m c) ?_
  funext a; apply Fin.ext
  match a with
  | ⟨0, _⟩ => rfl
  | ⟨1, _⟩ => rfl

theorem arrV_apply (c : Dev nD) (k : Fin 512) (n : Fin 2048) :
    arrV m c (ix2 k n) = argW m c (ix2 k ⟨n.val / 128 * 256 + 128 + n.val % 128, by omega⟩) := by
  unfold arrV V
  after_reads_at
  refine congrArg (argW m c) ?_
  funext a; apply Fin.ext
  match a with
  | ⟨0, _⟩ => rfl
  | ⟨1, _⟩ => dsimp; omega

/-- The result arrays. -/
def GK (c : Dev nD) : Buf (Elt Ideal) ((c : Thread nD τ).loc main_v7_0) := keys (arrA m c) (arrK m c) (arrX m c)
def GV (c : Dev nD) : Buf (Elt Ideal) ((c : Thread nD τ).loc main_v7_1) := vals (arrA m c) (arrV m c)

/-- What a grid point writes back is its block of the whole array. -/
theorem flushed_keys (c : Dev nD) (t : Fin cfg0.N) :
    (dats m 0 c).flushed 4 t = (win0_4.blk t).view.read (Elt Ideal) (GK m c) := by
  rw [Value.flushed4 m c t]
  exact read_keys t (arrA m c) (arrK m c) (arrX m c) _ fun i j => out4_apply _ _ _ _ i j

theorem flushed_vals (c : Dev nD) (t : Fin cfg0.N) :
    (dats m 0 c).flushed 5 t = (win0_5.blk t).view.read (Elt Ideal) (GV m c) := by
  rw [Value.flushed5 m c t]
  exact read_vals t (arrA m c) (arrV m c) _ fun i j => out5_apply _ _ _ _ i j

/-- Every entry lies in some grid point's block. -/
theorem cover_keys (i : S17408x4096.Idx) :
    ∃ t : Fin cfg0.N, (cfg0.win 4).flush t = true ∧ i ∈ ((cfg0.win 4).blk t).view.set := by
  have h0 : (i 0 : Nat) < 17408 := (i 0).isLt
  have h1 : (i 1 : Nat) < 4096 := (i 1).isLt
  refine ⟨⟨(i 0 : Nat) / 1024 * 4 + (i 1 : Nat) / 1024, by show _ < grid0.N; rw [Gen.N_0]; omega⟩, flush0_4 _, ?_⟩
  generalize ht : (⟨(i 0 : Nat) / 1024 * 4 + (i 1 : Nat) / 1024, by show _ < grid0.N; rw [Gen.N_0]; omega⟩ : Fin grid0.N) = t
  have hv : t.val = (i 0 : Nat) / 1024 * 4 + (i 1 : Nat) / 1024 := by rw [← ht]
  show i ∈ ((View.whole main_v7_0).slice (win0_4.rect t)).set
  rw [View.set_slice_whole, Rect.mem_set_unit]
  have h := congrFun (index4 t)
  intro a
  match a with
  | ⟨0, _⟩ => show win0_4.index t 0 * 1024 ≤ (i 0 : Nat) ∧ (i 0 : Nat) < win0_4.index t 0 * 1024 + 1024
              rw [h 0]; show t.val / 4 * 1024 ≤ (i 0 : Nat) ∧ (i 0 : Nat) < t.val / 4 * 1024 + 1024; omega
  | ⟨1, _⟩ => show win0_4.index t 1 * 1024 ≤ (i 1 : Nat) ∧ (i 1 : Nat) < win0_4.index t 1 * 1024 + 1024
              rw [h 1]; show t.val % 4 * 1024 ≤ (i 1 : Nat) ∧ (i 1 : Nat) < t.val % 4 * 1024 + 1024; omega

/-- Every entry lies in some grid point's block. -/
theorem cover_vals (i : S17408x2048.Idx) :
    ∃ t : Fin cfg0.N, (cfg0.win 5).flush t = true ∧ i ∈ ((cfg0.win 5).blk t).view.set := by
  have h0 : (i 0 : Nat) < 17408 := (i 0).isLt
  have h1 : (i 1 : Nat) < 2048 := (i 1).isLt
  refine ⟨⟨(i 0 : Nat) / 1024 * 4 + (i 1 : Nat) / 512, by show _ < grid0.N; rw [Gen.N_0]; omega⟩, flush0_5 _, ?_⟩
  generalize ht : (⟨(i 0 : Nat) / 1024 * 4 + (i 1 : Nat) / 512, by show _ < grid0.N; rw [Gen.N_0]; omega⟩ : Fin grid0.N) = t
  have hv : t.val = (i 0 : Nat) / 1024 * 4 + (i 1 : Nat) / 512 := by rw [← ht]
  show i ∈ ((View.whole main_v7_1).slice (win0_5.rect t)).set
  rw [View.set_slice_whole, Rect.mem_set_unit]
  have h := congrFun (index5 t)
  intro a
  match a with
  | ⟨0, _⟩ => show win0_5.index t 0 * 1024 ≤ (i 0 : Nat) ∧ (i 0 : Nat) < win0_5.index t 0 * 1024 + 1024
              rw [h 0]; show t.val / 4 * 1024 ≤ (i 0 : Nat) ∧ (i 0 : Nat) < t.val / 4 * 1024 + 1024; omega
  | ⟨1, _⟩ => show win0_5.index t 1 * 512 ≤ (i 1 : Nat) ∧ (i 1 : Nat) < win0_5.index t 1 * 512 + 512
              rw [h 1]; show t.val % 4 * 512 ≤ (i 1 : Nat) ∧ (i 1 : Nat) < t.val % 4 * 512 + 512; omega

/-- So each result array ends as the whole function. -/
theorem final_keys (c : Dev nD) : (dats m 0 c).arrAt 4 cfg0.N = GK m c :=
  (dats m 0 c).arrAt_eq_of_cover 4 (GK m c) (fun t _ => flushed_keys m c t) cover_keys

theorem final_vals (c : Dev nD) : (dats m 0 c).arrAt 5 cfg0.N = GV m c :=
  (dats m 0 c).arrAt_eq_of_cover 5 (GV m c) (fun t _ => flushed_vals m c t) cover_vals

/-- The results at a row and a lane, from the arguments. -/
theorem GK_apply (c : Dev nD) (r : Fin 17408) (n : Fin 4096) :
    GK m c (ix2 r n) = if n.val % 256 < 128 then ∑ k : Fin 512, argA m c (ix2 r k) * argW m c (ix2 k n)
      else argX m c (ix2 r ⟨n.val % 128, by omega⟩) := by
  have hA : arrA m c = argA m c := V_main_arg0 m c
  have hX : arrX m c = argX m c := V_main_arg2 m c
  show keyA (arrA m c) (arrK m c) (arrX m c) r n = _
  unfold keyA
  rw [hA, hX]
  by_cases hn : n.val % 256 < 128
  · rw [if_pos hn, if_pos hn]
    refine Finset.sum_congr rfl fun k _ => congrArg (_ * ·) ((arrK_apply m c k _).trans ?_)
    refine congrArg (fun l => argW m c (ix2 k l)) (Fin.ext ?_)
    show (n.val / 256 * 128 + n.val % 128) / 128 * 256 + (n.val / 256 * 128 + n.val % 128) % 128 = n.val
    omega
  · rw [if_neg hn, if_neg hn]

theorem GV_apply (c : Dev nD) (r : Fin 17408) (n : Fin 2048) :
    GV m c (ix2 r n) = ∑ k : Fin 512, argA m c (ix2 r k) * argW m c (ix2 k ⟨n.val / 128 * 256 + 128 + n.val % 128, by omega⟩) := by
  have hA : arrA m c = argA m c := V_main_arg0 m c
  show valA (arrA m c) (arrV m c) r n = _
  unfold valA
  rw [hA]
  exact Finset.sum_congr rfl fun k _ => congrArg (_ * ·) (arrV_apply m c k n)

end Cert.KvUp

end
-- ==== Proof.KvUpRef.lean ====
module

public import proofs.«01_k».proof.Proof.Gen.ReferenceKvUpIdeal.Read
public import Idealize.ShloMosaic.Lib.Pointwise

/-! The reference of the keys' and values' up-projection at one element. -/

@[expose] public section

set_option maxRecDepth 16384

noncomputable section

namespace Cert.KvUp

open Idealize.ShloMosaic Cert.ReferenceKvUpIdeal Cert.ReferenceKvUpIdeal.Gen Cert.ReferenceKvUpIdeal.Read

variable (a : Vec Ideal S17408x512 .bf16) (w : Vec Ideal S512x4096 .f32) (x : Vec Ideal S17408x128 .bf16) (r : Fin 17408)

/-- The latent rows times the weights, by head and lane. -/
theorem ref_prod (h : Fin 16) (l : Fin 256) : val_main_v2 (F := Ideal) a w (ix3 r h l)
    = ∑ k : Fin 512, a (ix2 r k) * w (ix2 k ⟨h.val * 256 + l.val, by omega⟩) := by
  rw [val_main_v2_apply, val_main_v1_apply]
  refine Finset.sum_congr rfl fun k _ => congrArg₂ (· * ·) (congrArg a ?_) (congrArg w ?_)
  · funext b; apply Fin.ext
    match b with
    | ⟨0, _⟩ => show ((r.val * 16 + h.val) * 256 + l.val) / 4096 = r.val; omega
    | ⟨1, _⟩ => rfl
  · funext b; apply Fin.ext
    match b with
    | ⟨0, _⟩ => rfl
    | ⟨1, _⟩ => show ((r.val * 16 + h.val) * 256 + l.val) % 4096 = h.val * 256 + l.val; omega

/-- Two arrays of heads side by side within each head. -/
theorem joined (A B : FVec Ideal S17408x16x128 .f32) (h : Fin 16) (l : Fin 256) :
    (concatenate S17408x16x256 2 [⟨S17408x16x128, A⟩, ⟨S17408x16x128, B⟩]
        concatenates_S17408x16x128_S17408x16x128_S17408x16x256_d2 : FVec Ideal S17408x16x256 .f32) (ix3 r h l)
      = if hl : l.val < 128 then A (ix3 r h ⟨l.val, hl⟩) else B (ix3 r h ⟨l.val - 128, by omega⟩) := by
  pointwise []

theorem ref_keys (n : Fin 4096) : val_main_v10 (F := Ideal) a w x (ix2 r n)
    = if n.val % 256 < 128 then ∑ k : Fin 512, a (ix2 r k) * w (ix2 k n) else x (ix2 r ⟨n.val % 128, by omega⟩) := by
  have e : idx_main_v9 (ix2 r n) = ix3 r (⟨n.val / 256, by omega⟩ : Fin 16) (⟨n.val % 256, by omega⟩ : Fin 256) := by
    funext b; apply Fin.ext
    match b with
    | ⟨0, _⟩ => show (r.val * 4096 + n.val) / 4096 = r.val; omega
    | ⟨1, _⟩ => show (r.val * 4096 + n.val) / 256 % 16 = n.val / 256; omega
    | ⟨2, _⟩ => show (r.val * 4096 + n.val) % 256 = n.val % 256; omega
  refine (val_main_v9_apply a w x (ix2 r n)).trans ?_
  rw [e]
  unfold val_main_v8
  refine (joined r _ _ _ _).trans ?_
  by_cases hn : n.val % 256 < 128
  · rw [dif_pos hn, if_pos hn, val_main_v3_apply]
    refine (ref_prod a w r ⟨n.val / 256, by omega⟩ ⟨n.val % 256, by omega⟩).trans ?_
    refine Finset.sum_congr rfl fun k _ => congrArg (fun l => a (ix2 r k) * w (ix2 k l)) (Fin.ext ?_)
    show n.val / 256 * 256 + n.val % 256 = n.val
    omega
  · rw [dif_neg hn, if_neg hn, val_main_v7_apply, val_main_v6_apply]
    refine congrArg x ?_
    funext b; apply Fin.ext
    match b with
    | ⟨0, _⟩ => rfl
    | ⟨1, _⟩ => show n.val % 256 - 128 = n.val % 128; omega

theorem ref_vals (n : Fin 2048) : val_main_v12 (F := Ideal) a w (ix2 r n)
    = ∑ k : Fin 512, a (ix2 r k) * w (ix2 k ⟨n.val / 128 * 256 + 128 + n.val % 128, by omega⟩) := by
  have e : idx_main_v4 (idx_main_v11 (ix2 r n)) = ix3 r (⟨n.val / 128, by omega⟩ : Fin 16) (⟨128 + n.val % 128, by omega⟩ : Fin 256) := by
    funext b; apply Fin.ext
    match b with
    | ⟨0, _⟩ => show (r.val * 2048 + n.val) / 2048 = r.val; omega
    | ⟨1, _⟩ => show (r.val * 2048 + n.val) / 128 % 16 = n.val / 128; omega
    | ⟨2, _⟩ => show 128 + (r.val * 2048 + n.val) % 128 = 128 + n.val % 128; omega
  refine (val_main_v11_apply a w (ix2 r n)).trans ?_
  rw [val_main_v4_apply, e, ref_prod]
  refine Finset.sum_congr rfl fun k _ => congrArg (fun l => a (ix2 r k) * w (ix2 k l)) (Fin.ext ?_)
  show n.val / 128 * 256 + (128 + n.val % 128) = n.val / 128 * 256 + 128 + n.val % 128
  omega

end Cert.KvUp

end
-- ==== Proof.KvUpClaims.lean ====
module

public import proofs.«01_k».proof.Defs
public import proofs.«01_k».proof.Proof.Gen.KernelKvUp.Frame
public import proofs.«01_k».proof.Proof.KvUpArray
public import proofs.«01_k».proof.Proof.KvUpRef
public import Idealize.ShloMosaic.Adequacy
public import Idealize.ShloMosaic.Init

/-! The claims about the keys' and values' up-projection. -/

@[expose] public section

set_option maxRecDepth 16384

noncomputable section

namespace Cert.KvUp

open Idealize.ShloMosaic Idealize.ShloMosaic.TcCoe Idealize.SL.Sem Cert.KernelKvUpIdeal

/-- The reference's results, on the kernel's arguments, are the kernel's result arrays. -/
theorem keys_eq (m : (ℓ : Loc nD τ sig) → Buf (Elt Ideal) ℓ) (c : Dev nD) :
    Cert.ReferenceKvUpIdeal.Read.val_main_v10 (F := Ideal) (argA m c) (argW m c) (argX m c) = GK m c := by
  funext u
  idx_vars u
  exact (ref_keys (argA m c) (argW m c) (argX m c) u0 u1).trans (GK_apply m c u0 u1).symm

theorem vals_eq (m : (ℓ : Loc nD τ sig) → Buf (Elt Ideal) ℓ) (c : Dev nD) :
    Cert.ReferenceKvUpIdeal.Read.val_main_v12 (F := Ideal) (argA m c) (argW m c) = GV m c := by
  funext u
  idx_vars u
  exact (ref_vals (argA m c) (argW m c) u0 u1).trans (GV_apply m c u0 u1).symm

theorem frame_reference : Cert.quiescent_ReferenceKvUpIdeal := fun m ρ _ =>
  (θ_run Cert.ReferenceKvUpIdeal.defs _ _).mono
    (fun r h => ⟨fun c => ⟨(h c).2.2.1, (h c).2.2.2.1, (h c).2.2.2.2⟩,
      Idealize.ShloMosaic.sem_eq_zero_of_no_sems (by decide) r.2⟩)
    (Cert.ReferenceKvUpIdeal.Value.run (F := Ideal) m ρ)

theorem algebraic : Cert.algebraic_KernelKvUpIdeal_ReferenceKvUpIdeal := by
  intro m ρ m' ρ' _ hagree
  refine ⟨fun c => GK m c, fun c => GV m c, ?_, ?_⟩
  · exact (θ_run Cert.KernelKvUpIdeal.defs _ _).mono
      (fun r h c => ⟨(h c).1.trans (final_keys m c), (h c).2.1.trans (final_vals m c), (h c).2.2⟩)
      (Cert.KernelKvUpIdeal.Value.run_blocks m ρ)
  · refine (θ_run Cert.ReferenceKvUpIdeal.defs _ _).mono (fun r h c => ⟨(h c).1.trans ?_, (h c).2.1.trans ?_, (h c).2.2⟩)
      (Cert.ReferenceKvUpIdeal.Value.run (F := Ideal) m' ρ')
    · rw [Cert.ReferenceKvUpIdeal.Read.val_main_v10_eq]
      obtain ⟨e0, e1, e2⟩ := hagree c
      rw [e0, e1, e2]
      exact keys_eq m c
    · rw [Cert.ReferenceKvUpIdeal.Read.val_main_v12_eq]
      obtain ⟨e0, e1, e2⟩ := hagree c
      rw [e0, e1]
      exact vals_eq m c

end Cert.KvUp

end
-- ==== Proof.GateBlock.lean ====
module

public import proofs.«01_k».proof.Proof.Gen.KernelGateIdeal.Value
public import proofs.«01_k».proof.Proof.Rows

/-! What one grid point of the output gate's second projection computes: its rows' hidden lanes times a block of weights. -/

@[expose] public section

set_option maxRecDepth 16384

noncomputable section

namespace Cert.Gate

open Idealize.ShloMosaic Idealize.ShloMosaic.TcCoe Idealize.SL.Sem Cert.KernelGateIdeal Cert.KernelGateIdeal.Gen Cert.Rows

/-- The result block of one grid point, entry by entry. -/
def outB (a : Vec Ideal S1024x256 .bf16) (w : Vec Ideal S256x512 .bf16) (i : Fin 1024) (j : Fin 512) : EReal :=
  ∑ k : Fin 256, a (ix2 i k) * w (ix2 k j)

theorem pay1_apply (a : Vec Ideal S1024x256 .bf16) (w : Vec Ideal S256x512 .bf16) (i : Fin 1024) (j : Fin 512) :
    k0_pay1 (F := Ideal) a w (ix2 i j) = outB a w i j := by
  unfold outB
  pointwise [k0_pay1]

theorem out_apply (a : Vec Ideal S1024x256 .bf16) (w : Vec Ideal S256x512 .bf16) (i : Fin 1024) (j : Fin 512) :
    out0_2 (F := Ideal) a w (ix2 i j) = outB a w i j := by
  unfold out0_2
  rw [View.canon_unit_zero hz, View.ld_unit_zero (S := S1024x256) hz, View.ld_unit_zero (S := S256x512) hz]
  exact pay1_apply a w i j

end Cert.Gate

end
-- ==== Proof.GateArray.lean ====
module

public import proofs.«01_k».proof.Proof.GateBlock
public import proofs.«01_k».proof.Proof.Top
public import Idealize.ShloMosaic.Lib.StableHlo.ReadAt

/-! The result array of the output gate's second projection as one function of the arguments. -/

@[expose] public section

set_option maxRecDepth 16384

noncomputable section

namespace Cert.Gate

open Idealize.ShloMosaic Idealize.ShloMosaic.TcCoe Idealize.SL.Sem Cert.KernelGateIdeal Cert.KernelGateIdeal.Gen Cert.Rows
open Idealize.ShloMosaic.Routing

/-- Where each window's block lies at a grid point. -/
theorem index0 : ∀ t : Fin grid0.N, win0_0.index t = ![t.val / 4, 0] := by decide +kernel
theorem index1 : ∀ t : Fin grid0.N, win0_1.index t = ![0, t.val % 4] := by decide +kernel
theorem index2 : ∀ t : Fin grid0.N, win0_2.index t = ![t.val / 4, t.val % 4] := by decide +kernel

theorem t_lt (t : Fin grid0.N) : t.val < 68 := by have h := t.isLt; simpa only [Gen.N_0] using h

/-- The array index of a block index, window by window. -/
theorem emb0 (t : Fin grid0.N) (i : Fin 1024) (k : Fin 256) :
    (win0_0.blk t).view.emb (ix2 i k) = (ix2 ⟨t.val / 4 * 1024 + i.val, by have := t_lt t; omega⟩ ⟨k.val, by omega⟩ : S17408x768.Idx) := by
  funext a; apply Fin.ext
  have h := congrFun (index0 t)
  match a with
  | ⟨0, _⟩ => show win0_0.index t 0 * 1024 + 1 * i.val = _; rw [h 0]; show t.val / 4 * 1024 + 1 * i.val = t.val / 4 * 1024 + i.val; omega
  | ⟨1, _⟩ => show win0_0.index t 1 * 256 + 1 * k.val = _; rw [h 1]; show 0 * 256 + 1 * k.val = k.val; omega

theorem emb1 (t : Fin grid0.N) (i : Fin 256) (k : Fin 512) :
    (win0_1.blk t).view.emb (ix2 i k) = (ix2 i ⟨t.val % 4 * 512 + k.val, by have := t_lt t; omega⟩ : S256x2048.Idx) := by
  funext a; apply Fin.ext
  have h := congrFun (index1 t)
  match a with
  | ⟨0, _⟩ => show win0_1.index t 0 * 256 + 1 * i.val = _; rw [h 0]; show 0 * 256 + 1 * i.val = i.val; omega
  | ⟨1, _⟩ => show win0_1.index t 1 * 512 + 1 * k.val = _; rw [h 1]; show t.val % 4 * 512 + 1 * k.val = t.val % 4 * 512 + k.val; omega

theorem emb2 (t : Fin grid0.N) (i : Fin 1024) (k : Fin 512) :
    (win0_2.blk t).view.emb (ix2 i k) = (ix2 ⟨t.val / 4 * 1024 + i.val, by have := t_lt t; omega⟩ ⟨t.val % 4 * 512 + k.val, by have := t_lt t; omega⟩ : S17408x2048.Idx) := by
  funext a; apply Fin.ext
  have h := congrFun (index2 t)
  match a with
  | ⟨0, _⟩ => show win0_2.index t 0 * 1024 + 1 * i.val = _; rw [h 0]; show t.val / 4 * 1024 + 1 * i.val = t.val / 4 * 1024 + i.val; omega
  | ⟨1, _⟩ => show win0_2.index t 1 * 512 + 1 * k.val = _; rw [h 1]; show t.val % 4 * 512 + 1 * k.val = t.val % 4 * 512 + k.val; omega

/-- The result at row `r`, lane `n`: the first 256 hidden lanes times the weights. -/
def outA (h : Vec Ideal S17408x768 .bf16) (w : Vec Ideal S256x2048 .bf16) (r : Fin 17408) (n : Fin 2048) : EReal :=
  ∑ k : Fin 256, h (ix2 r ⟨k.val, by omega⟩) * w (ix2 k n)

/-- The whole result array. -/
def whole (h : Vec Ideal S17408x768 .bf16) (w : Vec Ideal S256x2048 .bf16) : Vec Ideal S17408x2048 .f32 := fun u => outA h w (u 0) (u 1)

/-- What a grid point writes back, for any two arrays. -/
theorem read_whole (t : Fin cfg0.N) (h : Vec Ideal S17408x768 .bf16) (w : Vec Ideal S256x2048 .bf16) (o : Vec Ideal S1024x512 .f32)
    (ho : ∀ (i : Fin 1024) (j : Fin 512), o (ix2 i j)
      = outB ((win0_0.blk t).view.read (Elt Ideal) h) ((win0_1.blk t).view.read (Elt Ideal) w) i j) :
    o = (win0_2.blk t).view.read (Elt Ideal) (whole h w) := by
  funext y
  have key : ∀ y : S1024x512.Idx, o y = whole h w ((win0_2.blk t).view.emb y) := by
    intro y
    idx_vars y
    rw [ho, emb2]
    show _ = outA h w ⟨t.val / 4 * 1024 + y0.val, _⟩ ⟨t.val % 4 * 512 + y1.val, _⟩
    unfold outB outA
    exact Finset.sum_congr rfl fun k _ => congrArg₂ (· * ·) (congrArg h (emb0 t y0 k)) (congrArg w (emb1 t k y1))
  exact key y

variable (m : (ℓ : Loc nD τ sig) → Buf (Elt Ideal) ℓ)

/-- The arrays of hidden lanes and weights the kernel is launched on. -/
def arrH (c : Dev nD) : Vec Ideal S17408x768 .bf16 := V m c main_arg0
def arrW (c : Dev nD) : Vec Ideal S256x2048 .bf16 := V m c main_v2

/-- The two arguments. -/
def argH (c : Dev nD) : Vec Ideal S17408x768 .bf16 := m ((c.tc : Thread nD τ).loc main_arg0)
def argW (c : Dev nD) : Vec Ideal S256x2048 .f32 := m ((c.tc : Thread nD τ).loc main_arg1)

/-- A matrix set on a matrix of the same size, at no index at all, replaces it. -/
theorem replaced {w : Nat} (x : Vec Ideal S256x2048 .f32) (i : IVec S0 w) (u : Vec Ideal S256x2048 .f32) (k : Fin 256) (n : Fin 2048) :
    Host.scatter scatter_S256x2048_S0_S256x2048_01_n_n_0 (fun _ b => b) x i u (ix2 k n) = u (ix2 k n) := by
  have hs : ∀ (j : S256x2048.Idx) (a : Fin 2), scatter_S256x2048_S0_S256x2048_01_n_n_0.start j i a = 0 := by
    intro j a
    unfold ScatterDims.start
    exact dif_neg List.not_mem_nil
  have key : ∀ j : S256x2048.Idx, scatter_S256x2048_S0_S256x2048_01_n_n_0.resultIdx? j i = some (ix2 k n) ↔ j = ix2 k n := by
    intro j
    refine (resultIdx?_ix2 scatter_S256x2048_S0_S256x2048_01_n_n_0 j i k n).trans ?_
    rw [hs, hs]
    constructor
    · rintro ⟨e0, e1⟩
      have e0' : (0 : Int) + ((j 0).val : Int) = k.val := e0
      have e1' : (0 : Int) + ((j 1).val : Int) = n.val := e1
      funext a; apply Fin.ext
      match a with
      | ⟨0, _⟩ => show (j 0).val = k.val; omega
      | ⟨1, _⟩ => show (j 1).val = n.val; omega
    · rintro rfl
      exact ⟨by show (0 : Int) + (k.val : Int) = k.val; omega, by show (0 : Int) + (n.val : Int) = n.val; omega⟩
  exact scatter_set_hit _ x i u _ _ (fun j hj => congrArg u ((key j).1 hj)) (ix2 k n) ((key _).2 rfl)

theorem arrW_apply (c : Dev nD) (k : Fin 256) (n : Fin 2048) : arrW m c (ix2 k n) = argW m c (ix2 k n) := by
  unfold arrW V
  after_reads_at
  exact replaced _ _ _ k n

/-- The result array. -/
def G (c : Dev nD) : Buf (Elt Ideal) ((c : Thread nD τ).loc main_v3) := whole (arrH m c) (arrW m c)

/-- What a grid point writes back is its block of the whole array. -/
theorem flushed_eq (c : Dev nD) (t : Fin cfg0.N) :
    (dats m 0 c).flushed 2 t = (win0_2.blk t).view.read (Elt Ideal) (G m c) := by
  rw [Value.flushed2 m c t]
  exact read_whole t (arrH m c) (arrW m c) _ fun i j => out_apply _ _ i j

/-- Every entry lies in some grid point's block. -/
theorem cover (i : S17408x2048.Idx) :
    ∃ t : Fin cfg0.N, (cfg0.win 2).flush t = true ∧ i ∈ ((cfg0.win 2).blk t).view.set := by
  have h0 : (i 0 : Nat) < 17408 := (i 0).isLt
  have h1 : (i 1 : Nat) < 2048 := (i 1).isLt
  refine ⟨⟨(i 0 : Nat) / 1024 * 4 + (i 1 : Nat) / 512, by show _ < grid0.N; rw [Gen.N_0]; omega⟩, flush0_2 _, ?_⟩
  generalize ht : (⟨(i 0 : Nat) / 1024 * 4 + (i 1 : Nat) / 512, by show _ < grid0.N; rw [Gen.N_0]; omega⟩ : Fin grid0.N) = t
  have hv : t.val = (i 0 : Nat) / 1024 * 4 + (i 1 : Nat) / 512 := by rw [← ht]
  show i ∈ ((View.whole main_v3).slice (win0_2.rect t)).set
  rw [View.set_slice_whole, Rect.mem_set_unit]
  have h := congrFun (index2 t)
  intro a
  match a with
  | ⟨0, _⟩ => show win0_2.index t 0 * 1024 ≤ (i 0 : Nat) ∧ (i 0 : Nat) < win0_2.index t 0 * 1024 + 1024
              rw [h 0]; show t.val / 4 * 1024 ≤ (i 0 : Nat) ∧ (i 0 : Nat) < t.val / 4 * 1024 + 1024; omega
  | ⟨1, _⟩ => show win0_2.index t 1 * 512 ≤ (i 1 : Nat) ∧ (i 1 : Nat) < win0_2.index t 1 * 512 + 512
              rw [h 1]; show t.val % 4 * 512 ≤ (i 1 : Nat) ∧ (i 1 : Nat) < t.val % 4 * 512 + 512; omega

/-- So the result array ends as the whole function. -/
theorem final (c : Dev nD) : (dats m 0 c).arrAt 2 cfg0.N = G m c :=
  (dats m 0 c).arrAt_eq_of_cover 2 (G m c) (fun t _ => flushed_eq m c t) cover

/-- The result at a row and a lane, from the arguments. -/
theorem G_apply (c : Dev nD) (r : Fin 17408) (n : Fin 2048) :
    G m c (ix2 r n) = ∑ k : Fin 256, argH m c (ix2 r ⟨k.val, by omega⟩) * argW m c (ix2 k n) := by
  have hH : arrH m c = argH m c := V_main_arg0 m c
  show outA (arrH m c) (arrW m c) r n = _
  unfold outA
  rw [hH]
  exact Finset.sum_congr rfl fun k _ => congrArg (_ * ·) (arrW_apply m c k n)

end Cert.Gate

end
-- ==== Proof.GateClaims.lean ====
module

public import proofs.«01_k».proof.Defs
public import proofs.«01_k».proof.Proof.Gen.KernelGate.Frame
public import proofs.«01_k».proof.Proof.Gen.ReferenceGateIdeal.Read
public import proofs.«01_k».proof.Proof.GateArray
public import Idealize.ShloMosaic.Adequacy
public import Idealize.ShloMosaic.Init

/-! The claims about the output gate's second projection. -/

@[expose] public section

set_option maxRecDepth 16384

noncomputable section

namespace Cert.Gate

open Idealize.ShloMosaic Idealize.ShloMosaic.TcCoe Idealize.SL.Sem Cert.KernelGateIdeal

/-- The reference at one element: the first 256 hidden lanes times the weights. -/
theorem ref_apply (h : Vec Ideal S17408x768 .bf16) (w : Vec Ideal S256x2048 .f32) (r : Fin 17408) (n : Fin 2048) :
    Cert.ReferenceGateIdeal.Read.val_main_v2 (F := Ideal) h w (ix2 r n)
      = ∑ k : Fin 256, h (ix2 r ⟨k.val, by omega⟩) * w (ix2 k n) := by
  pointwise [Cert.ReferenceGateIdeal.Read.val_main_v2, Cert.ReferenceGateIdeal.Read.val_main_v1, Cert.ReferenceGateIdeal.Read.val_main_v0]

/-- The reference's result, on the kernel's arguments, is the kernel's result array. -/
theorem result_eq (m : (ℓ : Loc nD τ sig) → Buf (Elt Ideal) ℓ) (c : Dev nD) :
    Cert.ReferenceGateIdeal.Read.val_main_v2 (F := Ideal) (argH m c) (argW m c) = G m c := by
  funext u
  idx_vars u
  exact (ref_apply (argH m c) (argW m c) u0 u1).trans (G_apply m c u0 u1).symm

theorem frame_reference : Cert.quiescent_ReferenceGateIdeal := fun m ρ _ =>
  (θ_run Cert.ReferenceGateIdeal.defs _ _).mono
    (fun r h => ⟨fun c => ⟨(h c).2.1, (h c).2.2⟩,
      Idealize.ShloMosaic.sem_eq_zero_of_no_sems (by decide) r.2⟩)
    (Cert.ReferenceGateIdeal.Value.run (F := Ideal) m ρ)

theorem algebraic : Cert.algebraic_KernelGateIdeal_ReferenceGateIdeal := by
  intro m ρ m' ρ' _ hagree
  refine ⟨fun c => G m c, ?_, ?_⟩
  · exact (θ_run Cert.KernelGateIdeal.defs _ _).mono (fun r h c => ⟨(h c).1.trans (final m c), (h c).2⟩)
      (Cert.KernelGateIdeal.Value.run_blocks m ρ)
  · refine (θ_run Cert.ReferenceGateIdeal.defs _ _).mono (fun r h c => ⟨(h c).1.trans ?_, (h c).2⟩)
      (Cert.ReferenceGateIdeal.Value.run (F := Ideal) m' ρ')
    rw [Cert.ReferenceGateIdeal.Read.val_main_v2_eq]
    obtain ⟨e0, e1⟩ := hagree c
    rw [e0, e1]
    exact result_eq m c

end Cert.Gate

end
-- ==== Proof.Turn.lean ====
module

public import Idealize.ShloMosaic.Lib.Pointwise
public import Idealize.ShloMosaic.Lib.KernelVsHost
public import Idealize.ShloMosaic.PureOps.Ideal.Laws

/-! The rotation of a head's 64 rotary lanes, as the kernel does it on 128 lanes and as the reference does it on 64. -/

@[expose] public section

noncomputable section

namespace Cert.Turn

open Idealize.ShloMosaic

/-- A row's 128 lanes turned: each lane times its cosine, plus its partner sixteen lanes away times its signed sine. -/
def turnK (x c s : Fin 128 → EReal) (l : Fin 128) : EReal :=
  x l * c l + (if l.val % 32 < 16 then x ⟨(l.val + 16) % 128, by omega⟩ else x ⟨(l.val + 112) % 128, by omega⟩) * s l

/-- Which lanes have their partner to the right. -/
theorem mark_iff : ∀ j : Fin 128, IntOp.cmpi .slt (IntOp.andi (BitVec.ofNat 32 j.val) 31#32) 16#32 = 1#1 ↔ j.val % 32 < 16 := by
  decide

theorem pick {α : Type} (j : Fin 128) (x y : α) :
    Scalar.select (IntOp.cmpi .slt (IntOp.andi (BitVec.ofNat 32 j.val) 31#32) 16#32) x y = if j.val % 32 < 16 then x else y := by
  show (if IntOp.cmpi .slt (IntOp.andi (BitVec.ofNat 32 j.val) 31#32) 16#32 = 1#1 then x else y) = _
  by_cases h : j.val % 32 < 16
  · rw [if_pos h, if_pos ((mark_iff j).2 h)]
  · rw [if_neg h, if_neg fun e => h ((mark_iff j).1 e)]

abbrev S : Shape := ⟨2, ![1024, 128]⟩

/-- The lanes rolled round by sixteen, one way and the other. -/
theorem rolled_on (v : FVec Ideal S .f32) (h : S.Rotates 1 none) (i : Fin 1024) (j : Fin 128) :
    (dynamicRotate 1 112#32 none v h : FVec Ideal S .f32) (ix2 i j) = v (ix2 i ⟨(j.val + 16) % 128, by omega⟩) :=
  dynamicRotate_apply (1 : Fin S.rank) 112#32 v h (ix2 i j) (ix2 i ⟨(j.val + 16) % 128, by omega⟩) fun b => by
    match b with
    | ⟨0, _⟩ => rfl
    | ⟨1, _⟩ => exact (show (j.val + 16) % 128 = (j.val + 128 - 112 % 128) % 128 by omega).trans (if_pos rfl).symm
theorem rolled_back (v : FVec Ideal S .f32) (h : S.Rotates 1 none) (i : Fin 1024) (j : Fin 128) :
    (dynamicRotate 1 16#32 none v h : FVec Ideal S .f32) (ix2 i j) = v (ix2 i ⟨(j.val + 112) % 128, by omega⟩) :=
  dynamicRotate_apply (1 : Fin S.rank) 16#32 v h (ix2 i j) (ix2 i ⟨(j.val + 112) % 128, by omega⟩) fun b => by
    match b with
    | ⟨0, _⟩ => rfl
    | ⟨1, _⟩ => exact (show (j.val + 112) % 128 = (j.val + 128 - 16 % 128) % 128 by omega).trans (if_pos rfl).symm

/-- What the kernel computes of a block of 128 lanes and the two tables' blocks, entry by entry. -/
theorem turn_apply (v c s : FVec Ideal S .f32) (h : S.Rotates 1 none) (hi : S.Iotas .tc 32 [1]) (i : Fin 1024) (j : Fin 128) :
    (addf (mulf v c) (mulf (select (cmpi .slt (andi (iota .tc S 32 [1] hi) (broadcast S 31#32)) (broadcast S 16#32))
        (dynamicRotate 1 112#32 none v h) (dynamicRotate 1 16#32 none v h)) s) : FVec Ideal S .f32) (ix2 i j)
      = turnK (fun l => v (ix2 i l)) (fun l => c (ix2 i l)) (fun l => s (ix2 i l)) j := by
  unfold turnK
  dsimp only
  rw [← rolled_on v h i j, ← rolled_back v h i j]
  generalize dynamicRotate 1 112#32 none v h = p
  generalize dynamicRotate 1 16#32 none v h = q
  rw [← pick]
  pointwise []

/-- The angle of a lane: the first 32 lanes turn by the row's angles, the others by the column's. -/
def ang (ar ac : Fin 16 → EReal) (l : Nat) : EReal := if l < 32 then ar ⟨l % 16, by omega⟩ else ac ⟨l % 16, by omega⟩

/-- A head's 64 rotary lanes turned, pair by pair, as the reference does it. -/
def turned (x : Fin 64 → EReal) (ar ac : Fin 16 → EReal) (l : Fin 64) : EReal :=
  if h : l.val % 32 < 16 then x l * Ideal.cos (ang ar ac l) - x ⟨l.val + 16, by omega⟩ * Ideal.sin (ang ar ac l)
  else x l * Ideal.cos (ang ar ac l) + x ⟨l.val - 16, by omega⟩ * Ideal.sin (ang ar ac l)

/-- A latent row's lanes of the two tables. -/
def cosL (ar ac : Fin 16 → EReal) (l : Fin 128) : EReal := if l.val < 64 then Ideal.cos (ang ar ac l) else 1
def sinL (ar ac : Fin 16 → EReal) (l : Fin 128) : EReal :=
  if l.val < 64 then (if l.val % 32 < 16 then - Ideal.sin (ang ar ac l) else Ideal.sin (ang ar ac l)) else 0

/-- In a latent row whose last 64 lanes are zero, the kernel's turn is the reference's. -/
theorem turnK_latent (x : Fin 128 → EReal) (hx : ∀ l : Fin 128, 64 ≤ l.val → x l = 0) (ar ac : Fin 16 → EReal) (l : Fin 128) :
    turnK x (cosL ar ac) (sinL ar ac) l = if h : l.val < 64 then turned (fun j => x ⟨j.val, by omega⟩) ar ac ⟨l.val, h⟩ else 0 := by
  unfold turnK cosL sinL
  by_cases h : l.val < 64
  · rw [dif_pos h, if_pos h, if_pos h]
    unfold turned
    by_cases hl : l.val % 32 < 16
    · rw [if_pos hl, if_pos hl, dif_pos hl, mul_neg, ← sub_eq_add_neg]
      exact congrArg (fun k => x l * _ - x k * _) (Fin.ext (by show (l.val + 16) % 128 = l.val + 16; omega))
    · rw [if_neg hl, if_neg hl, dif_neg hl]
      exact congrArg (fun k => x l * _ + x k * _) (Fin.ext (by show (l.val + 112) % 128 = l.val - 16; omega))
  · rw [dif_neg h, if_neg h, if_neg h, hx l (by omega), zero_mul, mul_zero, add_zero]

/-- In a context row the turn changes nothing. -/
theorem turnK_context (x : Fin 128 → EReal) (l : Fin 128) : turnK x (fun _ => 1) (fun _ => 0) l = x l := by
  unfold turnK
  rw [mul_one, mul_zero, add_zero]

/-- The reference's form: two halves of 32 lanes, each turned in two halves of sixteen. -/
theorem turned_halves (q : Fin 64 → EReal) (x y : Fin 16 → EReal) (l : Fin 64) :
    (if h1 : l.val < 32 then
      if h2 : l.val < 16 then q l * Ideal.cos (x ⟨l.val, h2⟩) - q ⟨16 + l.val, by omega⟩ * Ideal.sin (x ⟨l.val, h2⟩)
      else q ⟨16 + (l.val - 16), by omega⟩ * Ideal.cos (x ⟨l.val - 16, by omega⟩) + q ⟨l.val - 16, by omega⟩ * Ideal.sin (x ⟨l.val - 16, by omega⟩)
    else
      if h2 : l.val - 32 < 16 then q ⟨32 + (l.val - 32), by omega⟩ * Ideal.cos (y ⟨l.val - 32, h2⟩)
          - q ⟨32 + (16 + (l.val - 32)), by omega⟩ * Ideal.sin (y ⟨l.val - 32, h2⟩)
      else q ⟨32 + (16 + (l.val - 32 - 16)), by omega⟩ * Ideal.cos (y ⟨l.val - 32 - 16, by omega⟩)
          + q ⟨32 + (l.val - 32 - 16), by omega⟩ * Ideal.sin (y ⟨l.val - 32 - 16, by omega⟩))
      = turned q x y l := by
  have key : ∀ (i i' : Fin 64) (z z' : EReal), i = i' → z = z' → q i * z = q i' * z' := by
    rintro _ _ _ _ rfl rfl; rfl
  unfold turned ang
  by_cases h1 : l.val < 32
  · rw [dif_pos h1, if_pos h1]
    by_cases h2 : l.val < 16
    · rw [dif_pos h2, dif_pos (show l.val % 32 < 16 by omega)]
      refine congrArg₂ (· - ·) (key _ _ _ _ rfl (congrArg (fun t => Ideal.cos (x t)) (Fin.ext ?_))) (key _ _ _ _ (Fin.ext ?_) (congrArg (fun t => Ideal.sin (x t)) (Fin.ext ?_))) <;> dsimp only <;> omega
    · rw [dif_neg h2, dif_neg (show ¬ l.val % 32 < 16 by omega)]
      refine congrArg₂ (· + ·) (key _ _ _ _ (Fin.ext ?_) (congrArg (fun t => Ideal.cos (x t)) (Fin.ext ?_))) (key _ _ _ _ (Fin.ext ?_) (congrArg (fun t => Ideal.sin (x t)) (Fin.ext ?_))) <;> dsimp only <;> omega
  · rw [dif_neg h1, if_neg h1]
    by_cases h2 : l.val - 32 < 16
    · rw [dif_pos h2, dif_pos (show l.val % 32 < 16 by omega)]
      refine congrArg₂ (· - ·) (key _ _ _ _ (Fin.ext ?_) (congrArg (fun t => Ideal.cos (y t)) (Fin.ext ?_))) (key _ _ _ _ (Fin.ext ?_) (congrArg (fun t => Ideal.sin (y t)) (Fin.ext ?_))) <;> dsimp only <;> omega
    · rw [dif_neg h2, dif_neg (show ¬ l.val % 32 < 16 by omega)]
      refine congrArg₂ (· + ·) (key _ _ _ _ (Fin.ext ?_) (congrArg (fun t => Ideal.cos (y t)) (Fin.ext ?_))) (key _ _ _ _ (Fin.ext ?_) (congrArg (fun t => Ideal.sin (y t)) (Fin.ext ?_))) <;> dsimp only <;> omega

/-- A nonnegative real factor may be taken out of the turn. -/
theorem turned_scale (x : Fin 64 → EReal) (ar ac : Fin 16 → EReal) (q : EReal) (h0 : 0 ≤ q) (ht : q ≠ ⊤) (l : Fin 64) :
    turned (fun j => x j * q) ar ac l = turned x ar ac l * q := by
  unfold turned
  split
  · rw [EReal.sub_mul_of_nonneg_of_ne_top h0 ht]
    rw [mul_right_comm, mul_right_comm (x _) q]
  · rw [EReal.right_distrib_of_nonneg_of_ne_top h0 ht]
    rw [mul_right_comm, mul_right_comm (x _) q]

/-- The tables of cosines and signed sines: by row, ones and zeros for a batch's 256 context rows, else the latent row's. -/
def cosT (ar ac : Fin 4096 → Fin 16 → EReal) (r : Nat) (l : Fin 128) : EReal :=
  if r % 4352 < 256 then 1 else cosL (ar ⟨(r % 4352 - 256) % 4096, by omega⟩) (ac ⟨(r % 4352 - 256) % 4096, by omega⟩) l
def sinT (ar ac : Fin 4096 → Fin 16 → EReal) (r : Nat) (l : Fin 128) : EReal :=
  if r % 4352 < 256 then 0 else sinL (ar ⟨(r % 4352 - 256) % 4096, by omega⟩) (ac ⟨(r % 4352 - 256) % 4096, by omega⟩) l

/-- The shared lanes of a row, as the reference has them: untouched in a context row, turned in a latent one, then 64 zeros. -/
def lanes (x : Fin 64 → EReal) (ar ac : Fin 4096 → Fin 16 → EReal) (r : Nat) (l : Fin 128) : EReal :=
  if h : l.val < 64 then
    if r % 4352 < 256 then x ⟨l.val, h⟩
    else turned x (ar ⟨(r % 4352 - 256) % 4096, by omega⟩) (ac ⟨(r % 4352 - 256) % 4096, by omega⟩) ⟨l.val, h⟩
  else 0

/-- A row's lanes depend only on the row's place in its batch. -/
theorem lanes_mod (x : Fin 64 → EReal) (ar ac : Fin 4096 → Fin 16 → EReal) (r : Nat) (l : Fin 128) :
    lanes x ar ac (r % 4352) l = lanes x ar ac r l := by
  unfold lanes
  simp only [Nat.mod_mod]

/-- A nonnegative real factor may be taken out of these too. -/
theorem lanes_scale (x : Fin 64 → EReal) (ar ac : Fin 4096 → Fin 16 → EReal) (q : EReal) (h0 : 0 ≤ q) (ht : q ≠ ⊤) (r : Nat) (l : Fin 128) :
    lanes (fun j => x j * q) ar ac r l = lanes x ar ac r l * q := by
  unfold lanes
  split
  · split
    · rfl
    · exact turned_scale x _ _ q h0 ht _
  · rw [zero_mul]

/-- The kernel's turn by the two tables gives just these. -/
theorem turnK_lanes (x : Fin 128 → EReal) (hx : ∀ l : Fin 128, 64 ≤ l.val → x l = 0) (ar ac : Fin 4096 → Fin 16 → EReal) (r : Nat) (l : Fin 128) :
    turnK x (cosT ar ac r) (sinT ar ac r) l = lanes (fun j => x ⟨j.val, by omega⟩) ar ac r l := by
  unfold lanes
  by_cases hr : r % 4352 < 256
  · have hc : cosT ar ac r = fun _ => 1 := funext fun l => if_pos hr
    have hs : sinT ar ac r = fun _ => 0 := funext fun l => if_pos hr
    rw [hc, hs, turnK_context]
    by_cases h : l.val < 64
    · rw [dif_pos h, if_pos hr]
    · rw [dif_neg h, hx l (by omega)]
  · have hc : cosT ar ac r = cosL _ _ := funext fun l => if_neg hr
    have hs : sinT ar ac r = sinL _ _ := funext fun l => if_neg hr
    rw [hc, hs, turnK_latent x hx]
    by_cases h : l.val < 64
    · rw [dif_pos h, dif_pos h, if_neg hr]
    · rw [dif_neg h, dif_neg h]

/-- A table laid out from the angles, sixteen lanes four times and then a constant, is the table by row and lane. -/
theorem cos_table (A C : Vec Ideal ⟨2, ![4096, 16]⟩ .f32) (k : Fin 17408) (n : Fin 128) (o : EReal) (ho : o = 1) :
    (if h : (256 ≤ k.val % 4352 ∧ k.val % 4352 - 256 < 4096) ∧ n.val < 64 then
      if h1 : n.val < 16 then Ideal.cos (A (ix2 ⟨k.val % 4352 - 256, by omega⟩ ⟨n.val, by omega⟩))
      else
        if h2 : n.val - 16 < 16 then Ideal.cos (A (ix2 ⟨k.val % 4352 - 256, by omega⟩ ⟨n.val - 16, by omega⟩))
        else
          if h3 : n.val - 16 - 16 < 16 then Ideal.cos (C (ix2 ⟨k.val % 4352 - 256, by omega⟩ ⟨n.val - 16 - 16, by omega⟩))
          else Ideal.cos (C (ix2 ⟨k.val % 4352 - 256, by omega⟩ ⟨n.val - 16 - 16 - 16, by omega⟩))
    else o)
      = cosT (fun p t => A (ix2 p t)) (fun p t => C (ix2 p t)) k.val n := by
  unfold cosT cosL ang
  subst ho
  by_cases hk : k.val % 4352 < 256
  · rw [if_pos hk, dif_neg (by omega)]
  · rw [if_neg hk]
    by_cases hn : n.val < 64
    · have hr : ∀ t t' : Fin 16, t = t' → (ix2 (⟨k.val % 4352 - 256, by omega⟩ : Fin 4096) t : (⟨2, ![4096, 16]⟩ : Shape).Idx)
          = ix2 ⟨(k.val % 4352 - 256) % 4096, by omega⟩ t' := fun t t' e => by
        subst e
        exact congrArg (fun p => ix2 p t) (Fin.ext (by show k.val % 4352 - 256 = (k.val % 4352 - 256) % 4096; omega))
      rw [dif_pos ⟨⟨by omega, by omega⟩, hn⟩, if_pos hn]
      by_cases h1 : n.val < 16
      · rw [dif_pos h1, if_pos (by omega)]; exact congrArg (fun q => Ideal.cos (A q)) (hr _ _ (Fin.ext (by show n.val = n.val % 16; omega)))
      · rw [dif_neg h1]
        by_cases h2 : n.val - 16 < 16
        · rw [dif_pos h2, if_pos (by omega)]; exact congrArg (fun q => Ideal.cos (A q)) (hr _ _ (Fin.ext (by show n.val - 16 = n.val % 16; omega)))
        · rw [dif_neg h2, if_neg (by omega)]
          by_cases h3 : n.val - 16 - 16 < 16
          · rw [dif_pos h3]; exact congrArg (fun q => Ideal.cos (C q)) (hr _ _ (Fin.ext (by show n.val - 16 - 16 = n.val % 16; omega)))
          · rw [dif_neg h3]; exact congrArg (fun q => Ideal.cos (C q)) (hr _ _ (Fin.ext (by show n.val - 16 - 16 - 16 = n.val % 16; omega)))
    · rw [dif_neg (by omega), if_neg hn]

theorem sin_table (A C : Vec Ideal ⟨2, ![4096, 16]⟩ .f32) (k : Fin 17408) (n : Fin 128) (o : EReal) (ho : o = 0) :
    (if h : (256 ≤ k.val % 4352 ∧ k.val % 4352 - 256 < 4096) ∧ n.val < 64 then
      if h1 : n.val < 16 then -Ideal.sin (A (ix2 ⟨k.val % 4352 - 256, by omega⟩ ⟨n.val, by omega⟩))
      else
        if h2 : n.val - 16 < 16 then Ideal.sin (A (ix2 ⟨k.val % 4352 - 256, by omega⟩ ⟨n.val - 16, by omega⟩))
        else
          if h3 : n.val - 16 - 16 < 16 then -Ideal.sin (C (ix2 ⟨k.val % 4352 - 256, by omega⟩ ⟨n.val - 16 - 16, by omega⟩))
          else Ideal.sin (C (ix2 ⟨k.val % 4352 - 256, by omega⟩ ⟨n.val - 16 - 16 - 16, by omega⟩))
    else o)
      = sinT (fun p t => A (ix2 p t)) (fun p t => C (ix2 p t)) k.val n := by
  unfold sinT sinL ang
  subst ho
  by_cases hk : k.val % 4352 < 256
  · rw [if_pos hk, dif_neg (by omega)]
  · rw [if_neg hk]
    by_cases hn : n.val < 64
    · have hr : ∀ t t' : Fin 16, t = t' → (ix2 (⟨k.val % 4352 - 256, by omega⟩ : Fin 4096) t : (⟨2, ![4096, 16]⟩ : Shape).Idx)
          = ix2 ⟨(k.val % 4352 - 256) % 4096, by omega⟩ t' := fun t t' e => by
        subst e
        exact congrArg (fun p => ix2 p t) (Fin.ext (by show k.val % 4352 - 256 = (k.val % 4352 - 256) % 4096; omega))
      rw [dif_pos ⟨⟨by omega, by omega⟩, hn⟩, if_pos hn]
      by_cases h1 : n.val < 16
      · rw [dif_pos h1, if_pos (by omega), if_pos (by omega)]
        exact congrArg (fun q => - Ideal.sin (A q)) (hr _ _ (Fin.ext (by show n.val = n.val % 16; omega)))
      · rw [dif_neg h1]
        by_cases h2 : n.val - 16 < 16
        · rw [dif_pos h2, if_neg (by omega), if_pos (by omega)]
          exact congrArg (fun q => Ideal.sin (A q)) (hr _ _ (Fin.ext (by show n.val - 16 = n.val % 16; omega)))
        · rw [dif_neg h2]
          by_cases h3 : n.val - 16 - 16 < 16
          · rw [dif_pos h3, if_pos (by omega), if_neg (by omega)]
            exact congrArg (fun q => - Ideal.sin (C q)) (hr _ _ (Fin.ext (by show n.val - 16 - 16 = n.val % 16; omega)))
          · rw [dif_neg h3, if_neg (by omega), if_neg (by omega)]
            exact congrArg (fun q => Ideal.sin (C q)) (hr _ _ (Fin.ext (by show n.val - 16 - 16 - 16 = n.val % 16; omega)))
    · rw [dif_neg (by omega), if_neg hn]

end Cert.Turn

end
-- ==== Proof.MlaDownBlock.lean ====
module

public import proofs.«01_k».proof.Proof.Gen.KernelMlaDownIdeal.Value
public import proofs.«01_k».proof.Proof.Rows
public import proofs.«01_k».proof.Proof.Turn

/-! What one grid point of the attention's down-projection computes: one product, whose first 512 lanes and next 512 lanes are
    each normalised and weighted, and whose last 128 are turned. -/

@[expose] public section

set_option maxRecDepth 16384

noncomputable section

namespace Cert.MlaDown

open Idealize.ShloMosaic Idealize.ShloMosaic.TcCoe Idealize.SL.Sem Cert.KernelMlaDownIdeal Cert.KernelMlaDownIdeal.Gen Cert.Rows Cert.Turn

/-- The product of one grid point. -/
def prodB (a : Vec Ideal S1024x2048 .bf16) (w : Vec Ideal S2048x1152 .bf16) (i : Fin 1024) (j : Fin 1152) : EReal :=
  ∑ k : Fin 2048, a (ix2 i k) * w (ix2 k j)

/-- A row of 512 lanes over the root of its mean square, each lane weighted. -/
def normed (x : Fin 512 → EReal) (g : EReal) (j : Fin 512) : EReal :=
  x j * Ideal.rsqrt (Ideal.div (∑ k : Fin 512, x k * x k) (Ideal.ofBits .f32 0x44000000#32) + Ideal.ofBits .f32 0x358637BD#32) * g

theorem pay2_apply (a : Vec Ideal S1024x2048 .bf16) (w : Vec Ideal S2048x1152 .bf16) (i : Fin 1024) (j : Fin 1152) :
    k0_pay2 (F := Ideal) a w (ix2 i j) = prodB a w i j := by
  unfold prodB
  pointwise [k0_pay2]

theorem pay3_apply (a : Vec Ideal S1024x2048 .bf16) (w : Vec Ideal S2048x1152 .bf16) (g : Vec Ideal S1x512 .f32) (i : Fin 1024) (j : Fin 512) :
    k0_pay3 (F := Ideal) a w g (ix2 i j) = normed (fun l => prodB a w i ⟨l.val, by omega⟩) (g (ix2 0 j)) j := by
  unfold k0_pay3 normed
  simp only [← pay2_apply]
  generalize k0_pay2 (F := Ideal) a w = v
  pointwise []

theorem pay4_apply (a : Vec Ideal S1024x2048 .bf16) (w : Vec Ideal S2048x1152 .bf16) (g : Vec Ideal S1x512 .f32) (i : Fin 1024) (j : Fin 512) :
    k0_pay4 (F := Ideal) a w g (ix2 i j) = normed (fun l => prodB a w i ⟨512 + l.val, by omega⟩) (g (ix2 0 j)) j := by
  unfold k0_pay4 normed
  simp only [← pay2_apply]
  generalize k0_pay2 (F := Ideal) a w = v
  pointwise []

theorem whole_cast (v : Vec Ideal S1024x128 .f32) (h : S1024x128.ShapeCasts S1024x128) : shapeCast S1024x128 v h = v := by
  funext i; idx_vars i; pointwise []

theorem cut_apply (v : FVec Ideal S1024x1152 .f32) (h : S1024x1152.Slices ![0, 1024] S1024x128) (i : Fin 1024) (j : Fin 128) :
    (extractStridedSlice S1024x128 ![0, 1024] v h : FVec Ideal S1024x128 .f32) (ix2 i j) = v (ix2 i ⟨1024 + j.val, by omega⟩) := by
  refine congrArg v (funext fun b => Fin.ext ?_)
  match b with
  | ⟨0, _⟩ => exact Nat.zero_add _
  | ⟨1, _⟩ => rfl

theorem pay1_apply (v : FVec Ideal S1024x1152 .f32) (c s : Vec Ideal S1024x128 .f32) (i : Fin 1024) (j : Fin 128) :
    k0_pay1 (F := Ideal) v c s (ix2 i j) = turnK (fun l => v (ix2 i ⟨1024 + l.val, by omega⟩)) (fun l => c (ix2 i l)) (fun l => s (ix2 i l)) j := by
  unfold k0_pay1
  rw [whole_cast, whole_cast]
  refine (turn_apply _ c s _ _ i j).trans ?_
  simp only [cut_apply]

theorem out6_apply (a : Vec Ideal S1024x2048 .bf16) (w : Vec Ideal S2048x1152 .bf16) (g g' : Vec Ideal S1x512 .f32) (c s : Vec Ideal S1024x128 .f32)
    (i : Fin 1024) (j : Fin 512) :
    out0_6 (F := Ideal) a w g g' c s (ix2 i j) = normed (fun l => prodB a w i ⟨l.val, by omega⟩) (g (ix2 0 j)) j := by
  unfold out0_6
  rw [View.canon_unit_zero hz, View.ld_unit_zero (S := S1024x2048) hz, View.ld_unit_zero (S := S2048x1152) hz, View.ld_unit_zero (S := S1x512) hz]
  exact pay3_apply a w g i j

theorem out7_apply (a : Vec Ideal S1024x2048 .bf16) (w : Vec Ideal S2048x1152 .bf16) (g g' : Vec Ideal S1x512 .f32) (c s : Vec Ideal S1024x128 .f32)
    (i : Fin 1024) (j : Fin 512) :
    out0_7 (F := Ideal) a w g g' c s (ix2 i j) = normed (fun l => prodB a w i ⟨512 + l.val, by omega⟩) (g' (ix2 0 j)) j := by
  unfold out0_7
  rw [View.canon_unit_zero hz, View.ld_unit_zero (S := S1024x2048) hz, View.ld_unit_zero (S := S2048x1152) hz, View.ld_unit_zero (S := S1x512) hz]
  exact pay4_apply a w g' i j

theorem out8_apply (a : Vec Ideal S1024x2048 .bf16) (w : Vec Ideal S2048x1152 .bf16) (g g' : Vec Ideal S1x512 .f32) (c s : Vec Ideal S1024x128 .f32)
    (i : Fin 1024) (j : Fin 128) :
    out0_8 (F := Ideal) a w g g' c s (ix2 i j)
      = turnK (fun l => prodB a w i ⟨1024 + l.val, by omega⟩) (fun l => c (ix2 i l)) (fun l => s (ix2 i l)) j := by
  unfold out0_8
  rw [View.canon_unit_zero hz, View.ld_unit_zero (S := S1024x2048) hz, View.ld_unit_zero (S := S2048x1152) hz,
    View.ld_unit_zero (S := S1024x128) hz, View.ld_unit_zero (S := S1024x128) hz, pay1_apply]
  simp only [pay2_apply]

end Cert.MlaDown

end
-- ==== Proof.MlaDownArray.lean ====
module

public import proofs.«01_k».proof.Proof.MlaDownBlock
public import Idealize.ShloMosaic.Lib.StableHlo.ReadAt

/-! The three arrays of latent rows as functions of the arguments. -/

@[expose] public section

set_option maxRecDepth 16384

noncomputable section

namespace Cert.MlaDown

open Idealize.ShloMosaic Idealize.ShloMosaic.TcCoe Idealize.SL.Sem Cert.KernelMlaDownIdeal Cert.KernelMlaDownIdeal.Gen Cert.Rows Cert.Turn

/-- Where each window's block lies at a grid point. -/
theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![0, 0] := by decide +kernel
theorem index4 : ∀ t : Fin grid0.N, win0_4.index t = ![t.val, 0] := by decide +kernel
theorem index5 : ∀ t : Fin grid0.N, win0_5.index t = ![t.val, 0] := by decide +kernel
theorem index6 : ∀ t : Fin grid0.N, win0_6.index t = ![t.val, 0] := by decide +kernel
theorem index7 : ∀ t : Fin grid0.N, win0_7.index t = ![t.val, 0] := by decide +kernel
theorem index8 : ∀ t : Fin grid0.N, win0_8.index t = ![t.val, 0] := by decide +kernel

theorem t_lt (t : Fin grid0.N) : t.val < 17 := by have h := t.isLt; simpa only [Gen.N_0] using h

/-- The array index of a block index, window by window. -/
theorem emb0 (t : Fin grid0.N) (i : Fin 1024) (k : Fin 2048) :
    (win0_0.blk t).view.emb (ix2 i k) = (ix2 ⟨t.val * 1024 + i.val, by have := t_lt t; omega⟩ k : S17408x2048.Idx) := by
  funext a; apply Fin.ext
  have h := congrFun (index0 t)
  match a with
  | ⟨0, _⟩ => show win0_0.index t 0 * 1024 + 1 * i.val = _; rw [h 0]; show t.val * 1024 + 1 * i.val = t.val * 1024 + i.val; omega
  | ⟨1, _⟩ => show win0_0.index t 1 * 2048 + 1 * k.val = _; rw [h 1]; show 0 * 2048 + 1 * k.val = k.val; omega

theorem emb1 (t : Fin grid0.N) (i : Fin 2048) (k : Fin 1152) :
    (win0_1.blk t).view.emb (ix2 i k) = (ix2 i k : S2048x1152.Idx) := by
  funext a; apply Fin.ext
  have h := congrFun (index1 t)
  match a with
  | ⟨0, _⟩ => show win0_1.index t 0 * 2048 + 1 * i.val = _; rw [h 0]; show 0 * 2048 + 1 * i.val = i.val; omega
  | ⟨1, _⟩ => show win0_1.index t 1 * 1152 + 1 * k.val = _; rw [h 1]; show 0 * 1152 + 1 * k.val = k.val; omega

theorem emb2 (t : Fin grid0.N) (i : Fin 1) (k : Fin 512) :
    (win0_2.blk t).view.emb (ix2 i k) = (ix2 i k : S1x512.Idx) := by
  funext a; apply Fin.ext
  have h := congrFun (index2 t)
  match a with
  | ⟨0, _⟩ => show win0_2.index t 0 * 1 + 1 * i.val = _; rw [h 0]; show 0 * 1 + 1 * i.val = i.val; omega
  | ⟨1, _⟩ => show win0_2.index t 1 * 512 + 1 * k.val = _; rw [h 1]; show 0 * 512 + 1 * k.val = k.val; omega

theorem emb3 (t : Fin grid0.N) (i : Fin 1) (k : Fin 512) :
    (win0_3.blk t).view.emb (ix2 i k) = (ix2 i k : S1x512.Idx) := by
  funext a; apply Fin.ext
  have h := congrFun (index3 t)
  match a with
  | ⟨0, _⟩ => show win0_3.index t 0 * 1 + 1 * i.val = _; rw [h 0]; show 0 * 1 + 1 * i.val = i.val; omega
  | ⟨1, _⟩ => show win0_3.index t 1 * 512 + 1 * k.val = _; rw [h 1]; show 0 * 512 + 1 * k.val = k.val; omega

theorem emb4 (t : Fin grid0.N) (i : Fin 1024) (k : Fin 128) :
    (win0_4.blk t).view.emb (ix2 i k) = (ix2 ⟨t.val * 1024 + i.val, by have := t_lt t; omega⟩ k : S17408x128.Idx) := by
  funext a; apply Fin.ext
  have h := congrFun (index4 t)
  match a with
  | ⟨0, _⟩ => show win0_4.index t 0 * 1024 + 1 * i.val = _; rw [h 0]; show t.val * 1024 + 1 * i.val = t.val * 1024 + i.val; omega
  | ⟨1, _⟩ => show win0_4.index t 1 * 128 + 1 * k.val = _; rw [h 1]; show 0 * 128 + 1 * k.val = k.val; omega

theorem emb5 (t : Fin grid0.N) (i : Fin 1024) (k : Fin 128) :
    (win0_5.blk t).view.emb (ix2 i k) = (ix2 ⟨t.val * 1024 + i.val, by have := t_lt t; omega⟩ k : S17408x128.Idx) := by
  funext a; apply Fin.ext
  have h := congrFun (index5 t)
  match a with
  | ⟨0, _⟩ => show win0_5.index t 0 * 1024 + 1 * i.val = _; rw [h 0]; show t.val * 1024 + 1 * i.val = t.val * 1024 + i.val; omega
  | ⟨1, _⟩ => show win0_5.index t 1 * 128 + 1 * k.val = _; rw [h 1]; show 0 * 128 + 1 * k.val = k.val; omega

theorem emb6 (t : Fin grid0.N) (i : Fin 1024) (k : Fin 512) :
    (win0_6.blk t).view.emb (ix2 i k) = (ix2 ⟨t.val * 1024 + i.val, by have := t_lt t; omega⟩ k : S17408x512.Idx) := by
  funext a; apply Fin.ext
  have h := congrFun (index6 t)
  match a with
  | ⟨0, _⟩ => show win0_6.index t 0 * 1024 + 1 * i.val = _; rw [h 0]; show t.val * 1024 + 1 * i.val = t.val * 1024 + i.val; omega
  | ⟨1, _⟩ => show win0_6.index t 1 * 512 + 1 * k.val = _; rw [h 1]; show 0 * 512 + 1 * k.val = k.val; omega

theorem emb7 (t : Fin grid0.N) (i : Fin 1024) (k : Fin 512) :
    (win0_7.blk t).view.emb (ix2 i k) = (ix2 ⟨t.val * 1024 + i.val, by have := t_lt t; omega⟩ k : S17408x512.Idx) := by
  funext a; apply Fin.ext
  have h := congrFun (index7 t)
  match a with
  | ⟨0, _⟩ => show win0_7.index t 0 * 1024 + 1 * i.val = _; rw [h 0]; show t.val * 1024 + 1 * i.val = t.val * 1024 + i.val; omega
  | ⟨1, _⟩ => show win0_7.index t 1 * 512 + 1 * k.val = _; rw [h 1]; show 0 * 512 + 1 * k.val = k.val; omega

theorem emb8 (t : Fin grid0.N) (i : Fin 1024) (k : Fin 128) :
    (win0_8.blk t).view.emb (ix2 i k) = (ix2 ⟨t.val * 1024 + i.val, by have := t_lt t; omega⟩ k : S17408x128.Idx) := by
  funext a; apply Fin.ext
  have h := congrFun (index8 t)
  match a with
  | ⟨0, _⟩ => show win0_8.index t 0 * 1024 + 1 * i.val = _; rw [h 0]; show t.val * 1024 + 1 * i.val = t.val * 1024 + i.val; omega
  | ⟨1, _⟩ => show win0_8.index t 1 * 128 + 1 * k.val = _; rw [h 1]; show 0 * 128 + 1 * k.val = k.val; omega

/-- The product at a row and a lane. -/
def prodA (a : Vec Ideal S17408x2048 .bf16) (w : Vec Ideal S2048x1152 .bf16) (r : Fin 17408) (n : Fin 1152) : EReal :=
  ∑ k : Fin 2048, a (ix2 r k) * w (ix2 k n)

/-- The three whole arrays: two groups of 512 lanes normalized, and 128 lanes turned. -/
def wholeQ (a : Vec Ideal S17408x2048 .bf16) (w : Vec Ideal S2048x1152 .bf16) (g : Vec Ideal S1x512 .f32) : Vec Ideal S17408x512 .bf16 :=
  fun u => normed (fun l => prodA a w (u 0) ⟨l.val, by omega⟩) (g (ix2 0 (u 1))) (u 1)
def wholeK (a : Vec Ideal S17408x2048 .bf16) (w : Vec Ideal S2048x1152 .bf16) (g : Vec Ideal S1x512 .f32) : Vec Ideal S17408x512 .bf16 :=
  fun u => normed (fun l => prodA a w (u 0) ⟨512 + l.val, by omega⟩) (g (ix2 0 (u 1))) (u 1)
def wholeR (a : Vec Ideal S17408x2048 .bf16) (w : Vec Ideal S2048x1152 .bf16) (c s : Vec Ideal S17408x128 .f32) : Vec Ideal S17408x128 .bf16 :=
  fun u => turnK (fun l => prodA a w (u 0) ⟨1024 + l.val, by omega⟩) (fun l => c (ix2 (u 0) l)) (fun l => s (ix2 (u 0) l)) (u 1)

theorem prod_read (t : Fin cfg0.N) (a : Vec Ideal S17408x2048 .bf16) (w : Vec Ideal S2048x1152 .bf16) (i : Fin 1024) (j : Fin 1152) :
    prodB ((win0_0.blk t).view.read (Elt Ideal) a) ((win0_1.blk t).view.read (Elt Ideal) w) i j
      = prodA a w ⟨t.val * 1024 + i.val, by have := t_lt t; omega⟩ j := by
  unfold prodB prodA
  exact Finset.sum_congr rfl fun k _ => congrArg₂ (· * ·) (congrArg a (emb0 t i k)) (congrArg w (emb1 t k j))

/-- What a grid point writes back of window 6, for any arrays. -/
theorem read_Q (t : Fin cfg0.N) (a : Vec Ideal S17408x2048 .bf16) (w : Vec Ideal S2048x1152 .bf16) (g : Vec Ideal S1x512 .f32)
    (o : Vec Ideal S1024x512 .bf16) (ho : ∀ (i : Fin 1024) (j : Fin 512), o (ix2 i j)
      = normed (fun l => prodB ((win0_0.blk t).view.read (Elt Ideal) a) ((win0_1.blk t).view.read (Elt Ideal) w) i ⟨l.val, by omega⟩)
          (((win0_2.blk t).view.read (Elt Ideal) g : Vec Ideal S1x512 .f32) (ix2 0 j)) j) :
    o = (win0_6.blk t).view.read (Elt Ideal) (wholeQ a w g) := by
  funext y
  have key : ∀ y : S1024x512.Idx, o y = wholeQ a w g ((win0_6.blk t).view.emb y) := by
    intro y
    idx_vars y
    rw [ho, emb6]
    exact congrArg₂ (fun f z => normed f z y1) (funext fun l => prod_read t a w y0 _) (congrArg g (emb2 t 0 y1))
  exact key y

/-- What a grid point writes back of window 7, for any arrays. -/
theorem read_K (t : Fin cfg0.N) (a : Vec Ideal S17408x2048 .bf16) (w : Vec Ideal S2048x1152 .bf16) (g : Vec Ideal S1x512 .f32)
    (o : Vec Ideal S1024x512 .bf16) (ho : ∀ (i : Fin 1024) (j : Fin 512), o (ix2 i j)
      = normed (fun l => prodB ((win0_0.blk t).view.read (Elt Ideal) a) ((win0_1.blk t).view.read (Elt Ideal) w) i ⟨512 + l.val, by omega⟩)
          (((win0_3.blk t).view.read (Elt Ideal) g : Vec Ideal S1x512 .f32) (ix2 0 j)) j) :
    o = (win0_7.blk t).view.read (Elt Ideal) (wholeK a w g) := by
  funext y
  have key : ∀ y : S1024x512.Idx, o y = wholeK a w g ((win0_7.blk t).view.emb y) := by
    intro y
    idx_vars y
    rw [ho, emb7]
    exact congrArg₂ (fun f z => normed f z y1) (funext fun l => prod_read t a w y0 _) (congrArg g (emb3 t 0 y1))
  exact key y

/-- What a grid point writes back of window 8, for any arrays. -/
theorem read_R (t : Fin cfg0.N) (a : Vec Ideal S17408x2048 .bf16) (w : Vec Ideal S2048x1152 .bf16) (c s : Vec Ideal S17408x128 .f32)
    (o : Vec Ideal S1024x128 .bf16) (ho : ∀ (i : Fin 1024) (j : Fin 128), o (ix2 i j)
      = turnK (fun l => prodB ((win0_0.blk t).view.read (Elt Ideal) a) ((win0_1.blk t).view.read (Elt Ideal) w) i ⟨1024 + l.val, by omega⟩)
          (fun l => ((win0_4.blk t).view.read (Elt Ideal) c : Vec Ideal S1024x128 .f32) (ix2 i l))
          (fun l => ((win0_5.blk t).view.read (Elt Ideal) s : Vec Ideal S1024x128 .f32) (ix2 i l)) j) :
    o = (win0_8.blk t).view.read (Elt Ideal) (wholeR a w c s) := by
  funext y
  have key : ∀ y : S1024x128.Idx, o y = wholeR a w c s ((win0_8.blk t).view.emb y) := by
    intro y
    idx_vars y
    rw [ho, emb8, funext fun l : Fin 128 => prod_read t a w y0 ⟨1024 + l.val, by omega⟩]
    exact congrArg₂ (fun p q => turnK _ p q y1) (funext fun l => congrArg c (emb4 t y0 l)) (funext fun l => congrArg s (emb5 t y0 l))
  exact key y

variable (m : (ℓ : Loc nD τ sig) → Buf (Elt Ideal) ℓ)

/-- The arrays the kernel is launched on: rows, weights, the two weightings of lanes, and the two tables. -/
def arrA (c : Dev nD) : Vec Ideal S17408x2048 .bf16 := V m c main_arg0
def arrW (c : Dev nD) : Vec Ideal S2048x1152 .bf16 := V m c main_v19
def arrQ (c : Dev nD) : Vec Ideal S1x512 .f32 := V m c main_v20
def arrK (c : Dev nD) : Vec Ideal S1x512 .f32 := V m c main_v21
def arrC (c : Dev nD) : Vec Ideal S17408x128 .f32 := V m c main_v13
def arrS (c : Dev nD) : Vec Ideal S17408x128 .f32 := V m c main_v17

/-- The arguments. -/
def argA (c : Dev nD) : Vec Ideal S17408x2048 .bf16 := m ((c.tc : Thread nD τ).loc main_arg0)
def argW (c : Dev nD) : Vec Ideal S2048x1088 .f32 := m ((c.tc : Thread nD τ).loc main_arg1)
def argQ (c : Dev nD) : Vec Ideal S512 .f32 := m ((c.tc : Thread nD τ).loc main_arg2)
def argK (c : Dev nD) : Vec Ideal S512 .f32 := m ((c.tc : Thread nD τ).loc main_arg3)
def argR (c : Dev nD) : Vec Ideal S4096x16 .f32 := m ((c.tc : Thread nD τ).loc main_arg4)
def argC (c : Dev nD) : Vec Ideal S4096x16 .f32 := m ((c.tc : Thread nD τ).loc main_arg5)

theorem zero_word : (FloatOps.sitofp (F := Ideal) FTy.f32 0#32 : EReal) = 0 := by
  show (((0#32 : BitVec 32).toInt : ℝ) : EReal) = 0
  simp
theorem one_word : Ideal.ofBits .f32 0x3F800000#32 = 1 := Ideal.ofBits_one_f32

/-- The kernel's layout of the weights, for any weights: 1088 lanes and then zeros. -/
theorem laid_out (w : Vec Ideal S2048x1088 .f32) (k : Fin 2048) (n : Fin 1152) (z : EReal) (hz : z = 0) :
    (if h : n.val < 1088 then w (ix2 k ⟨n.val, h⟩) else z) = if h : n.val < 1088 then w (ix2 k ⟨n.val, h⟩) else 0 := by rw [hz]

theorem arrW_apply (c : Dev nD) (k : Fin 2048) (n : Fin 1152) :
    arrW m c (ix2 k n) = if h : n.val < 1088 then argW m c (ix2 k ⟨n.val, h⟩) else 0 := by
  unfold arrW V
  after_reads_at
  pointwise []
  exact laid_out (argW m c) k n _ zero_word

theorem arrQ_apply (c : Dev nD) (n : Fin 512) : arrQ m c (ix2 0 n) = argQ m c (ix1 n) := by
  unfold arrQ V
  after_reads_at
  pointwise []
  rfl
theorem arrK_apply (c : Dev nD) (n : Fin 512) : arrK m c (ix2 0 n) = argK m c (ix1 n) := by
  unfold arrK V
  after_reads_at
  pointwise []
  rfl

theorem arrC_apply (c : Dev nD) (k : Fin 17408) (n : Fin 128) :
    arrC m c (ix2 k n) = cosT (fun p t => argR m c (ix2 p t)) (fun p t => argC m c (ix2 p t)) k.val n := by
  unfold arrC V
  after_reads_at
  pointwise []
  after_reads_at
  pointwise []
  exact cos_table (argR m c) (argC m c) k n _ one_word

theorem arrS_apply (c : Dev nD) (k : Fin 17408) (n : Fin 128) :
    arrS m c (ix2 k n) = sinT (fun p t => argR m c (ix2 p t)) (fun p t => argC m c (ix2 p t)) k.val n := by
  unfold arrS V
  after_reads_at
  pointwise []
  after_reads_at
  pointwise []
  exact sin_table (argR m c) (argC m c) k n _ zero_word

/-- The result arrays. -/
def GQ (c : Dev nD) : Buf (Elt Ideal) ((c : Thread nD τ).loc main_v22_0) := wholeQ (arrA m c) (arrW m c) (arrQ m c)
def GK (c : Dev nD) : Buf (Elt Ideal) ((c : Thread nD τ).loc main_v22_1) := wholeK (arrA m c) (arrW m c) (arrK m c)
def GR (c : Dev nD) : Buf (Elt Ideal) ((c : Thread nD τ).loc main_v22_2) := wholeR (arrA m c) (arrW m c) (arrC m c) (arrS m c)

/-- What a grid point writes back of window 6 is its block of the whole array. -/
theorem flushed_Q (c : Dev nD) (t : Fin cfg0.N) : (dats m 0 c).flushed 6 t = (win0_6.blk t).view.read (Elt Ideal) (GQ m c) := by
  rw [Value.flushed6 m c t]
  exact read_Q t (arrA m c) (arrW m c) (arrQ m c) _ fun i j => out6_apply _ _ _ _ _ _ i j

/-- Every entry lies in some grid point's block. -/
theorem cover_Q (i : S17408x512.Idx) :
    ∃ t : Fin cfg0.N, (cfg0.win 6).flush t = true ∧ i ∈ ((cfg0.win 6).blk t).view.set := by
  have h0 : (i 0 : Nat) < 17408 := (i 0).isLt
  have h1 : (i 1 : Nat) < 512 := (i 1).isLt
  refine ⟨⟨(i 0 : Nat) / 1024, by show _ < grid0.N; rw [Gen.N_0]; omega⟩, flush0_6 _, ?_⟩
  generalize ht : (⟨(i 0 : Nat) / 1024, by show _ < grid0.N; rw [Gen.N_0]; omega⟩ : Fin grid0.N) = t
  have hv : t.val = (i 0 : Nat) / 1024 := by rw [← ht]
  show i ∈ ((View.whole main_v22_0).slice (win0_6.rect t)).set
  rw [View.set_slice_whole, Rect.mem_set_unit]
  have h := congrFun (index6 t)
  intro a
  match a with
  | ⟨0, _⟩ => show win0_6.index t 0 * 1024 ≤ (i 0 : Nat) ∧ (i 0 : Nat) < win0_6.index t 0 * 1024 + 1024
              rw [h 0]; show t.val * 1024 ≤ (i 0 : Nat) ∧ (i 0 : Nat) < t.val * 1024 + 1024; omega
  | ⟨1, _⟩ => show win0_6.index t 1 * 512 ≤ (i 1 : Nat) ∧ (i 1 : Nat) < win0_6.index t 1 * 512 + 512
              rw [h 1]; show 0 * 512 ≤ (i 1 : Nat) ∧ (i 1 : Nat) < 0 * 512 + 512; omega

/-- So the result array ends as the whole function. -/
theorem final_Q (c : Dev nD) : (dats m 0 c).arrAt 6 cfg0.N = GQ m c :=
  (dats m 0 c).arrAt_eq_of_cover 6 (GQ m c) (fun t _ => flushed_Q m c t) cover_Q

/-- What a grid point writes back of window 7 is its block of the whole array. -/
theorem flushed_K (c : Dev nD) (t : Fin cfg0.N) : (dats m 0 c).flushed 7 t = (win0_7.blk t).view.read (Elt Ideal) (GK m c) := by
  rw [Value.flushed7 m c t]
  exact read_K t (arrA m c) (arrW m c) (arrK m c) _ fun i j => out7_apply _ _ _ _ _ _ i j

/-- Every entry lies in some grid point's block. -/
theorem cover_K (i : S17408x512.Idx) :
    ∃ t : Fin cfg0.N, (cfg0.win 7).flush t = true ∧ i ∈ ((cfg0.win 7).blk t).view.set := by
  have h0 : (i 0 : Nat) < 17408 := (i 0).isLt
  have h1 : (i 1 : Nat) < 512 := (i 1).isLt
  refine ⟨⟨(i 0 : Nat) / 1024, by show _ < grid0.N; rw [Gen.N_0]; omega⟩, flush0_7 _, ?_⟩
  generalize ht : (⟨(i 0 : Nat) / 1024, by show _ < grid0.N; rw [Gen.N_0]; omega⟩ : Fin grid0.N) = t
  have hv : t.val = (i 0 : Nat) / 1024 := by rw [← ht]
  show i ∈ ((View.whole main_v22_1).slice (win0_7.rect t)).set
  rw [View.set_slice_whole, Rect.mem_set_unit]
  have h := congrFun (index7 t)
  intro a
  match a with
  | ⟨0, _⟩ => show win0_7.index t 0 * 1024 ≤ (i 0 : Nat) ∧ (i 0 : Nat) < win0_7.index t 0 * 1024 + 1024
              rw [h 0]; show t.val * 1024 ≤ (i 0 : Nat) ∧ (i 0 : Nat) < t.val * 1024 + 1024; omega
  | ⟨1, _⟩ => show win0_7.index t 1 * 512 ≤ (i 1 : Nat) ∧ (i 1 : Nat) < win0_7.index t 1 * 512 + 512
              rw [h 1]; show 0 * 512 ≤ (i 1 : Nat) ∧ (i 1 : Nat) < 0 * 512 + 512; omega

/-- So the result array ends as the whole function. -/
theorem final_K (c : Dev nD) : (dats m 0 c).arrAt 7 cfg0.N = GK m c :=
  (dats m 0 c).arrAt_eq_of_cover 7 (GK m c) (fun t _ => flushed_K m c t) cover_K

/-- What a grid point writes back of window 8 is its block of the whole array. -/
theorem flushed_R (c : Dev nD) (t : Fin cfg0.N) : (dats m 0 c).flushed 8 t = (win0_8.blk t).view.read (Elt Ideal) (GR m c) := by
  rw [Value.flushed8 m c t]
  exact read_R t (arrA m c) (arrW m c) (arrC m c) (arrS m c) _ fun i j => out8_apply _ _ _ _ _ _ i j

/-- Every entry lies in some grid point's block. -/
theorem cover_R (i : S17408x128.Idx) :
    ∃ t : Fin cfg0.N, (cfg0.win 8).flush t = true ∧ i ∈ ((cfg0.win 8).blk t).view.set := by
  have h0 : (i 0 : Nat) < 17408 := (i 0).isLt
  have h1 : (i 1 : Nat) < 128 := (i 1).isLt
  refine ⟨⟨(i 0 : Nat) / 1024, by show _ < grid0.N; rw [Gen.N_0]; omega⟩, flush0_8 _, ?_⟩
  generalize ht : (⟨(i 0 : Nat) / 1024, by show _ < grid0.N; rw [Gen.N_0]; omega⟩ : Fin grid0.N) = t
  have hv : t.val = (i 0 : Nat) / 1024 := by rw [← ht]
  show i ∈ ((View.whole main_v22_2).slice (win0_8.rect t)).set
  rw [View.set_slice_whole, Rect.mem_set_unit]
  have h := congrFun (index8 t)
  intro a
  match a with
  | ⟨0, _⟩ => show win0_8.index t 0 * 1024 ≤ (i 0 : Nat) ∧ (i 0 : Nat) < win0_8.index t 0 * 1024 + 1024
              rw [h 0]; show t.val * 1024 ≤ (i 0 : Nat) ∧ (i 0 : Nat) < t.val * 1024 + 1024; omega
  | ⟨1, _⟩ => show win0_8.index t 1 * 128 ≤ (i 1 : Nat) ∧ (i 1 : Nat) < win0_8.index t 1 * 128 + 128
              rw [h 1]; show 0 * 128 ≤ (i 1 : Nat) ∧ (i 1 : Nat) < 0 * 128 + 128; omega

/-- So the result array ends as the whole function. -/
theorem final_R (c : Dev nD) : (dats m 0 c).arrAt 8 cfg0.N = GR m c :=
  (dats m 0 c).arrAt_eq_of_cover 8 (GR m c) (fun t _ => flushed_R m c t) cover_R

/-- A row times the weights at one of the 1088 lanes. -/
def latent (a : Vec Ideal S17408x2048 .bf16) (w : Vec Ideal S2048x1088 .f32) (r : Fin 17408) (n : Fin 1088) : EReal :=
  ∑ k : Fin 2048, a (ix2 r k) * w (ix2 k n)

/-- The product the kernel forms is that, or zero in the lanes laid out with zeros. -/
theorem prod_latent (c : Dev nD) (r : Fin 17408) (n : Fin 1152) (h : n.val < 1088) :
    prodA (arrA m c) (arrW m c) r n = latent (argA m c) (argW m c) r ⟨n.val, h⟩ := by
  have hA : arrA m c = argA m c := V_main_arg0 m c
  rw [hA]
  unfold prodA latent
  refine Finset.sum_congr rfl fun k _ => congrArg (_ * ·) ?_
  rw [arrW_apply, dif_pos h]
theorem prod_zero (c : Dev nD) (r : Fin 17408) (n : Fin 1152) (h : ¬ n.val < 1088) : prodA (arrA m c) (arrW m c) r n = 0 := by
  unfold prodA
  exact Finset.sum_eq_zero fun k _ => by rw [arrW_apply, dif_neg h, mul_zero]

theorem GQ_apply (c : Dev nD) (r : Fin 17408) (n : Fin 512) :
    GQ m c (ix2 r n) = normed (fun l => latent (argA m c) (argW m c) r ⟨l.val, by omega⟩) (argQ m c (ix1 n)) n := by
  show normed (fun l => prodA (arrA m c) (arrW m c) r ⟨l.val, by omega⟩) (arrQ m c (ix2 0 n)) n = _
  rw [arrQ_apply m c n]
  exact congrArg (fun f => normed f (argQ m c (ix1 n)) n) (funext fun l => prod_latent m c r ⟨l.val, by omega⟩ (by show l.val < 1088; omega))
theorem GK_apply (c : Dev nD) (r : Fin 17408) (n : Fin 512) :
    GK m c (ix2 r n) = normed (fun l => latent (argA m c) (argW m c) r ⟨512 + l.val, by omega⟩) (argK m c (ix1 n)) n := by
  show normed (fun l => prodA (arrA m c) (arrW m c) r ⟨512 + l.val, by omega⟩) (arrK m c (ix2 0 n)) n = _
  rw [arrK_apply m c n]
  exact congrArg (fun f => normed f (argK m c (ix1 n)) n) (funext fun l => prod_latent m c r ⟨512 + l.val, by omega⟩ (by show 512 + l.val < 1088; omega))
theorem GR_apply (c : Dev nD) (r : Fin 17408) (n : Fin 128) :
    GR m c (ix2 r n) = lanes (fun l => latent (argA m c) (argW m c) r ⟨1024 + l.val, by omega⟩)
      (fun p t => argR m c (ix2 p t)) (fun p t => argC m c (ix2 p t)) r.val n := by
  show turnK (fun l => prodA (arrA m c) (arrW m c) r ⟨1024 + l.val, by omega⟩) (fun l => arrC m c (ix2 r l)) (fun l => arrS m c (ix2 r l)) n = _
  rw [funext (arrC_apply m c r), funext (arrS_apply m c r)]
  refine (turnK_lanes _ (fun l hl => prod_zero m c r _ (by show ¬ 1024 + l.val < 1088; omega)) _ _ _ _).trans ?_
  exact congrArg (fun f => lanes f _ _ _ _) (funext fun j => prod_latent m c r _ (by show 1024 + j.val < 1088; omega))

end Cert.MlaDown

end
-- ==== Proof.MlaDownRef.lean ====
module

public import proofs.«01_k».proof.Proof.Gen.ReferenceMlaDownIdeal.Read
public import proofs.«01_k».proof.Proof.MlaDownArray
public import Idealize.ShloMosaic.Lib.Pointwise

/-! The reference of the latent down-projections at one element. -/

@[expose] public section

set_option maxRecDepth 16384

noncomputable section

namespace Cert.MlaDown

open Idealize.ShloMosaic Cert.ReferenceMlaDownIdeal Cert.ReferenceMlaDownIdeal.Gen Cert.ReferenceMlaDownIdeal.Read Cert.Turn

variable (a : Vec Ideal S17408x2048 .bf16) (w : Vec Ideal S2048x1088 .f32) (g : Vec Ideal S512 .f32) (x y : Vec Ideal S4096x16 .f32)

theorem ref_prod (r : Fin 17408) (n : Fin 1088) : val_main_v1 (F := Ideal) a w (ix2 r n) = latent a w r n := by
  unfold latent
  pointwise [val_main_v1, val_main_v0]

/-- The normalized groups of lanes. -/
theorem ref_Q (r : Fin 17408) (n : Fin 512) : val_main_v79 (F := Ideal) a w g (ix2 r n)
    = normed (fun l => latent a w r ⟨l.val, by omega⟩) (g (ix1 n)) n := by
  unfold normed
  simp only [← ref_prod]
  unfold val_main_v79 val_main_v65 val_main_v62 val_main_v61 val_main_v60 val_main_v59 val_main_v57 val_main_v55 val_main_v54 val_main_v53 val_main_v2
  generalize val_main_v1 (F := Ideal) a w = v
  pointwise [val_main_v58, val_main_cst_2, val_main_v56, val_main_cst_1, val_main_cst_0, val_main_v64, val_main_v63]

theorem ref_K (r : Fin 17408) (n : Fin 512) : val_main_v80 (F := Ideal) a w g (ix2 r n)
    = normed (fun l => latent a w r ⟨512 + l.val, by omega⟩) (g (ix1 n)) n := by
  unfold normed
  simp only [← ref_prod]
  unfold val_main_v80 val_main_v78 val_main_v75 val_main_v74 val_main_v73 val_main_v72 val_main_v70 val_main_v68 val_main_v67 val_main_v66 val_main_v3
  generalize val_main_v1 (F := Ideal) a w = v
  pointwise [val_main_v71, val_main_cst_5, val_main_v69, val_main_cst_4, val_main_cst_3, val_main_v77, val_main_v76]

/-- The turned lanes of a latent row. -/
theorem ref_turned (b : Fin 4) (p : Fin 4096) (l : Fin 64) : val_main_v47 (F := Ideal) a w x y (ix3 b p l)
    = turned (fun j => val_main_v6 (F := Ideal) a w (ix3 b p j)) (fun t => x (ix2 p t)) (fun t => y (ix2 p t)) l := by
  unfold val_main_v47 val_main_v46 val_main_v29 val_main_v21 val_main_v28 val_main_v38 val_main_v45 val_main_v17 val_main_v20 val_main_v24 val_main_v27
    val_main_v34 val_main_v37 val_main_v41 val_main_v44 val_main_v13 val_main_v14 val_main_v30 val_main_v31 val_main_v11 val_main_v12
  generalize val_main_v6 (F := Ideal) a w = q
  pointwise [val_main_v16, val_main_v15, val_main_v7, val_main_v19, val_main_v18, val_main_v8, val_main_v23, val_main_v22, val_main_v26, val_main_v25,
    val_main_v33, val_main_v32, val_main_v9, val_main_v36, val_main_v35, val_main_v10, val_main_v40, val_main_v39, val_main_v43, val_main_v42]
  exact turned_halves (fun j => q (ix3 b p j)) (fun t => x (ix2 p t)) (fun t => y (ix2 p t)) l

/-- The shared lanes by batch and row. -/
theorem ref_rows (b : Fin 4) (p : Fin 4352) (l : Fin 64) : val_main_v49 (F := Ideal) a w x y (ix3 b p l)
    = if p.val < 256 then val_main_v5 (F := Ideal) a w (ix3 b p l)
      else turned (fun j => val_main_v5 (F := Ideal) a w (ix3 b p j)) (fun t => x (ix2 ⟨(p.val - 256) % 4096, by omega⟩ t))
        (fun t => y (ix2 ⟨(p.val - 256) % 4096, by omega⟩ t)) l := by
  unfold val_main_v49 val_main_v48
  have ht := ref_turned a w x y
  unfold val_main_v6 at ht
  generalize val_main_v47 (F := Ideal) a w x y = t at ht ⊢
  generalize val_main_v5 (F := Ideal) a w = q at ht ⊢
  pointwise []
  by_cases h3 : p.val < 256
  · rw [dif_pos h3, if_pos h3]
  · rw [dif_neg h3, if_neg h3, ht]
    have e : (⟨p.val - 256, by omega⟩ : Fin 4096) = ⟨(p.val - 256) % 4096, by omega⟩ :=
      Fin.ext (by show p.val - 256 = (p.val - 256) % 4096; omega)
    have e2 : ∀ j : Fin 64, extractStridedSlice S4x4096x64 ![0, 256, 0] q slices_S4x4352x64_S4x4096x64_0_256_0
        (ix3 b (⟨p.val - 256, by omega⟩ : Fin 4096) j) = q (ix3 b p j) := by
      intro j
      pointwise []
      exact congrArg (fun p => q (ix3 b p _)) (Fin.ext (by show 256 + (p.val - 256) = p.val; omega))
    rw [funext e2, e]

theorem ref_lane (r : Fin 17408) (l : Fin 64) : val_main_v5 (F := Ideal) a w (ix3 (⟨r.val / 4352, by omega⟩ : Fin 4) (⟨r.val % 4352, by omega⟩ : Fin 4352) l)
    = latent a w r ⟨1024 + l.val, by omega⟩ := by
  rw [val_main_v5_apply, val_main_v4_apply, ← ref_prod]
  refine congrArg _ (funext fun d => Fin.ext ?_)
  match d with
  | ⟨0, _⟩ => show ((r.val / 4352 * 4352 + r.val % 4352) * 64 + l.val) / 64 = r.val; omega
  | ⟨1, _⟩ => show 1024 + ((r.val / 4352 * 4352 + r.val % 4352) * 64 + l.val) % 64 = 1024 + l.val; omega

theorem ref_R (r : Fin 17408) (n : Fin 128) : val_main_v81 (F := Ideal) a w x y (ix2 r n)
    = lanes (fun l => latent a w r ⟨1024 + l.val, by omega⟩) (fun p t => x (ix2 p t)) (fun p t => y (ix2 p t)) r.val n := by
  have e : ∀ l : Fin 64, val_main_v50 (F := Ideal) a w x y (ix2 r l)
      = val_main_v49 (F := Ideal) a w x y (ix3 (⟨r.val / 4352, by omega⟩ : Fin 4) (⟨r.val % 4352, by omega⟩ : Fin 4352) l) := by
    intro l
    rw [val_main_v50_apply]
    refine congrArg _ (funext fun d => Fin.ext ?_)
    match d with
    | ⟨0, _⟩ => show (r.val * 64 + l.val) / 278528 = r.val / 4352; omega
    | ⟨1, _⟩ => show (r.val * 64 + l.val) / 64 % 4352 = r.val % 4352; omega
    | ⟨2, _⟩ => show (r.val * 64 + l.val) % 64 = l.val; omega
  unfold val_main_v81 val_main_v52
  generalize val_main_v50 (F := Ideal) a w x y = t at e ⊢
  pointwise [val_main_v51, val_main_cst]
  unfold lanes
  by_cases h : n.val < 64
  · rw [dif_pos h, dif_pos h, e, ref_rows, funext (ref_lane a w r), ref_lane]
  · rw [dif_neg h, dif_neg h]

end Cert.MlaDown

end
-- ==== Proof.MlaDownClaims.lean ====
module

public import proofs.«01_k».proof.Defs
public import proofs.«01_k».proof.Proof.Gen.KernelMlaDown.Frame
public import proofs.«01_k».proof.Proof.MlaDownRef
public import Idealize.ShloMosaic.Adequacy
public import Idealize.ShloMosaic.Init

/-! The claims about the latent down-projections. -/

@[expose] public section

set_option maxRecDepth 16384

noncomputable section

namespace Cert.MlaDown

open Idealize.ShloMosaic Idealize.ShloMosaic.TcCoe Idealize.SL.Sem Cert.KernelMlaDownIdeal

variable (m : (ℓ : Loc nD τ sig) → Buf (Elt Ideal) ℓ) (c : Dev nD)

/-- The reference's results, on the kernel's arguments, are the kernel's result arrays. -/
theorem result_Q : Cert.ReferenceMlaDownIdeal.Read.val_main_v79 (F := Ideal) (argA m c) (argW m c) (argQ m c) = GQ m c := by
  funext u
  idx_vars u
  exact (ref_Q (argA m c) (argW m c) (argQ m c) u0 u1).trans (GQ_apply m c u0 u1).symm
theorem result_K : Cert.ReferenceMlaDownIdeal.Read.val_main_v80 (F := Ideal) (argA m c) (argW m c) (argK m c) = GK m c := by
  funext u
  idx_vars u
  exact (ref_K (argA m c) (argW m c) (argK m c) u0 u1).trans (GK_apply m c u0 u1).symm
theorem result_R : Cert.ReferenceMlaDownIdeal.Read.val_main_v81 (F := Ideal) (argA m c) (argW m c) (argR m c) (argC m c) = GR m c := by
  funext u
  idx_vars u
  exact (ref_R (argA m c) (argW m c) (argR m c) (argC m c) u0 u1).trans (GR_apply m c u0 u1).symm

theorem frame_reference : Cert.quiescent_ReferenceMlaDownIdeal := fun m ρ _ =>
  (θ_run Cert.ReferenceMlaDownIdeal.defs _ _).mono
    (fun r h => ⟨fun c => (h c).2.2.2,
      Idealize.ShloMosaic.sem_eq_zero_of_no_sems (by decide) r.2⟩)
    (Cert.ReferenceMlaDownIdeal.Value.run (F := Ideal) m ρ)

theorem algebraic : Cert.algebraic_KernelMlaDownIdeal_ReferenceMlaDownIdeal := by
  intro m ρ m' ρ' _ hagree
  refine ⟨fun c => GQ m c, fun c => GK m c, fun c => GR m c, ?_, ?_⟩
  · exact (θ_run Cert.KernelMlaDownIdeal.defs _ _).mono
      (fun r h c => ⟨(h c).1.trans (final_Q m c), (h c).2.1.trans (final_K m c), (h c).2.2.1.trans (final_R m c), (h c).2.2.2⟩)
      (Cert.KernelMlaDownIdeal.Value.run_blocks m ρ)
  · refine (θ_run Cert.ReferenceMlaDownIdeal.defs _ _).mono
      (fun r h c => ⟨(h c).1.trans ?_, (h c).2.1.trans ?_, (h c).2.2.1.trans ?_, (h c).2.2.2⟩)
      (Cert.ReferenceMlaDownIdeal.Value.run (F := Ideal) m' ρ')
    · rw [Cert.ReferenceMlaDownIdeal.Read.val_main_v79_eq]
      obtain ⟨e0, e1, e2, e3, e4, e5⟩ := hagree c
      rw [e0, e1, e2]
      exact result_Q m c
    · rw [Cert.ReferenceMlaDownIdeal.Read.val_main_v80_eq]
      obtain ⟨e0, e1, e2, e3, e4, e5⟩ := hagree c
      rw [e0, e1, e3]
      exact result_K m c
    · rw [Cert.ReferenceMlaDownIdeal.Read.val_main_v81_eq]
      obtain ⟨e0, e1, e2, e3, e4, e5⟩ := hagree c
      rw [e0, e1, e4, e5]
      exact result_R m c

end Cert.MlaDown

end
-- ==== Proof.QUpRef.lean ====
module

public import proofs.«01_k».proof.Proof.Gen.ReferenceQUpIdeal.Read
public import proofs.«01_k».proof.Proof.Turn
public import Idealize.ShloMosaic.Lib.Pointwise

/-! The reference of the queries' up-projection at one element. -/

@[expose] public section

set_option maxRecDepth 16384

noncomputable section

namespace Cert.QUp

open Idealize.ShloMosaic Cert.ReferenceQUpIdeal Cert.ReferenceQUpIdeal.Gen Cert.ReferenceQUpIdeal.Read Cert.Turn

variable (a : Vec Ideal S17408x512 .bf16) (w : Vec Ideal S512x3072 .f32) (x y : Vec Ideal S4096x16 .f32)

/-- The latent rows times the weights, by batch, row, head and lane. -/
theorem ref_prod (b : Fin 4) (p : Fin 4352) (h : Fin 16) (l : Fin 192) : val_main_v2 (F := Ideal) a w (ix4 b p h l)
    = ∑ k : Fin 512, a (ix2 ⟨b.val * 4352 + p.val, by omega⟩ k) * w (ix2 k ⟨h.val * 192 + l.val, by omega⟩) := by
  rw [val_main_v2_apply, val_main_v1_apply]
  refine Finset.sum_congr rfl fun k _ => congrArg₂ (· * ·) (congrArg a ?_) (congrArg w ?_)
  · funext d; apply Fin.ext
    match d with
    | ⟨0, _⟩ => show (((b.val * 4352 + p.val) * 16 + h.val) * 192 + l.val) / 3072 = b.val * 4352 + p.val; omega
    | ⟨1, _⟩ => rfl
  · funext d; apply Fin.ext
    match d with
    | ⟨0, _⟩ => rfl
    | ⟨1, _⟩ => show (((b.val * 4352 + p.val) * 16 + h.val) * 192 + l.val) % 3072 = h.val * 192 + l.val; omega

/-- The turned lanes of a latent row. -/
theorem ref_turned (b : Fin 4) (p : Fin 4096) (h : Fin 16) (l : Fin 64) : val_main_v50 (F := Ideal) a w x y (ix4 b p h l)
    = turned (fun j => val_main_v9 (F := Ideal) a w (ix4 b p h j)) (fun t => x (ix2 p t)) (fun t => y (ix2 p t)) l := by
  unfold val_main_v50 val_main_v49 val_main_v32 val_main_v24 val_main_v31 val_main_v41 val_main_v48 val_main_v20 val_main_v23 val_main_v27 val_main_v30
    val_main_v37 val_main_v40 val_main_v44 val_main_v47
    val_main_v16 val_main_v17 val_main_v33 val_main_v34 val_main_v14 val_main_v15
  generalize val_main_v9 (F := Ideal) a w = q
  pointwise [val_main_v19, val_main_v18, val_main_v10, val_main_v5, val_main_v22, val_main_v21, val_main_v11, val_main_v6, val_main_v26, val_main_v25, val_main_v29, val_main_v28,
    val_main_v36, val_main_v35, val_main_v12, val_main_v7, val_main_v39, val_main_v38, val_main_v13, val_main_v8, val_main_v43, val_main_v42, val_main_v46, val_main_v45]
  exact turned_halves (fun j => q (ix4 b p h j)) (fun t => x (ix2 p t)) (fun t => y (ix2 p t)) l

/-- The lanes of a head side by side. -/
theorem ref_row (b : Fin 4) (p : Fin 4352) (h : Fin 16) (l : Fin 256) : val_main_v54 (F := Ideal) a w x y (ix4 b p h l)
    = if hl : l.val < 128 then val_main_v2 (F := Ideal) a w (ix4 b p h ⟨l.val, by omega⟩)
      else lanes (fun j => val_main_v2 (F := Ideal) a w (ix4 b p h ⟨128 + j.val, by omega⟩)) (fun p t => x (ix2 p t)) (fun p t => y (ix2 p t))
        p.val ⟨l.val - 128, by omega⟩ := by
  unfold val_main_v54 val_main_v52 val_main_v3 val_main_v51 val_main_v4 val_main_v53
  have ht := ref_turned a w x y
  unfold val_main_v9 val_main_v4 at ht
  generalize val_main_v50 (F := Ideal) a w x y = t at ht ⊢
  generalize val_main_v2 (F := Ideal) a w = q at ht ⊢
  pointwise [val_main_cst]
  by_cases h1 : l.val < 128
  · rw [dif_pos h1, dif_pos h1]
  · rw [dif_neg h1, dif_neg h1]
    unfold lanes
    by_cases h2 : l.val - 128 < 64
    · rw [dif_pos h2, dif_pos h2]
      by_cases h3 : p.val < 256
      · rw [dif_pos h3, if_pos (show p.val % 4352 < 256 by omega)]
      · rw [dif_neg h3, if_neg (show ¬ p.val % 4352 < 256 by omega), ht]
        have e : (⟨p.val - 256, by omega⟩ : Fin 4096) = ⟨(p.val % 4352 - 256) % 4096, by omega⟩ :=
          Fin.ext (by show p.val - 256 = (p.val % 4352 - 256) % 4096; omega)
        have e2 : ∀ j : Fin 64, extractStridedSlice S4x4096x16x64 ![0, 256, 0, 0]
            (extractStridedSlice S4x4352x16x64 ![0, 0, 0, 128] q slices_S4x4352x16x192_S4x4352x16x64_0_0_0_128)
            slices_S4x4352x16x64_S4x4096x16x64_0_256_0_0 (ix4 b (⟨p.val - 256, by omega⟩ : Fin 4096) h j) = q (ix4 b p h ⟨128 + j.val, by omega⟩) := by
          intro j
          pointwise []
          exact congrArg (fun p => q (ix4 b p h _)) (Fin.ext (by show 256 + (p.val - 256) = p.val; omega))
        rw [funext e2, e]
    · rw [dif_neg h2, dif_neg h2]

theorem word_192 : Ideal.ofBits .f32 0x43400000#32 = ((192 : ℝ) : EReal) := by
  simp [Ideal.ofBits, Ideal.ieee, -EReal.coe_mul]; norm_num
theorem word_2 : Ideal.ofBits .f32 0x40000000#32 = ((2 : ℝ) : EReal) := by
  simp [Ideal.ofBits, Ideal.ieee, -EReal.coe_mul]; norm_num

/-- The reference's result: each entry divided by the root of 192 and by the logarithm of two. -/
theorem ref_apply (r : Fin 17408) (n : Fin 4096) : val_main_v62 (F := Ideal) a w x y (ix2 r n)
    = Ideal.div (Ideal.div (val_main_v54 (F := Ideal) a w x y (ix4 (⟨r.val / 4352, by omega⟩ : Fin 4) (⟨r.val % 4352, by omega⟩ : Fin 4352)
        (⟨n.val / 256, by omega⟩ : Fin 16) (⟨n.val % 256, by omega⟩ : Fin 256))) (Ideal.sqrt ((192 : ℝ) : EReal))) (Ideal.log ((2 : ℝ) : EReal)) := by
  rw [← word_192, ← word_2]
  have e : idx_main_v61 (ix2 r n) = ix4 (⟨r.val / 4352, by omega⟩ : Fin 4) (⟨r.val % 4352, by omega⟩ : Fin 4352)
        (⟨n.val / 256, by omega⟩ : Fin 16) (⟨n.val % 256, by omega⟩ : Fin 256) := by
    funext b; apply Fin.ext
    match b with
    | ⟨0, _⟩ => show (r.val * 4096 + n.val) / 17825792 = r.val / 4352; omega
    | ⟨1, _⟩ => show (r.val * 4096 + n.val) / 4096 % 4352 = r.val % 4352; omega
    | ⟨2, _⟩ => show (r.val * 4096 + n.val) / 256 % 16 = n.val / 256; omega
    | ⟨3, _⟩ => show (r.val * 4096 + n.val) % 256 = n.val % 256; omega
  refine (val_main_v61_apply a w x y (ix2 r n)).trans ?_
  rw [e]
  rfl

end Cert.QUp

end
-- ==== Proof.QUpBlock.lean ====
module

public import proofs.«01_k».proof.Proof.Gen.KernelQUpIdeal.Value
public import proofs.«01_k».proof.Proof.Rows
public import proofs.«01_k».proof.Proof.Turn

/-! What one grid point of the queries' up-projection computes. For each of four heads the block holds 128 lanes of the latent
    rows times the heads' weights, scaled, then 128 more lanes of the same product, turned. -/

@[expose] public section

set_option maxRecDepth 16384

noncomputable section

namespace Cert.QUp

open Idealize.ShloMosaic Idealize.ShloMosaic.TcCoe Idealize.SL.Sem Cert.KernelQUpIdeal Cert.KernelQUpIdeal.Gen Cert.Rows Cert.Turn

/-- The scale that the kernel names: one over the root of 192, over the logarithm of two. -/
def scale : EReal := (((Real.sqrt 192)⁻¹ * (Real.log 2)⁻¹ : ℝ) : EReal)

theorem scale_eq : Named.named (F := Ideal) Cert.KernelQUpIdeal.κ "qscale" (φ := .f32) 0x3DD53B95#32 = scale :=
  IdealRules.named_const.ideal_named_scalar _ _ _ _ rfl

/-- The scaled product of one grid point. -/
def prodB (a : Vec Ideal S1024x512 .bf16) (w : Vec Ideal S512x1024 .bf16) (i : Fin 1024) (j : Fin 1024) : EReal :=
  (∑ k : Fin 512, a (ix2 i k) * w (ix2 k j)) * scale

/-- The block of queries of one grid point, entry by entry. -/
def outB (a : Vec Ideal S1024x512 .bf16) (w : Vec Ideal S512x1024 .bf16) (c s : Vec Ideal S1024x128 .f32) (i : Fin 1024) (j : Fin 1024) : EReal :=
  if j.val % 256 < 128 then prodB a w i j
  else turnK (fun l => prodB a w i ⟨j.val / 256 * 256 + 128 + l.val, by omega⟩) (fun l => c (ix2 i l)) (fun l => s (ix2 i l))
    ⟨j.val % 128, by omega⟩

theorem pay3_apply (a : Vec Ideal S1024x512 .bf16) (w : Vec Ideal S512x1024 .bf16) (i : Fin 1024) (j : Fin 1024) :
    k0_pay3 (F := Ideal) a w (ix2 i j) = prodB a w i j := by
  unfold prodB k0_pay3
  rw [scale_eq]
  generalize scale = q
  pointwise []

/-- 128 lanes cut out of the product. -/
theorem cut_apply (v : FVec Ideal S1024x1024 .f32) (o : Nat) (h : S1024x1024.Slices ![0, o] S1024x128) (i : Fin 1024) (j : Fin 128) (ho : o + 128 ≤ 1024) :
    (extractStridedSlice S1024x128 ![0, o] v h : FVec Ideal S1024x128 .f32) (ix2 i j) = v (ix2 i ⟨o + j.val, by omega⟩) := by
  refine congrArg v (funext fun b => Fin.ext ?_)
  match b with
  | ⟨0, _⟩ => exact Nat.zero_add _
  | ⟨1, _⟩ => rfl

theorem whole_cast (v : Vec Ideal S1024x128 .f32) (h : S1024x128.ShapeCasts S1024x128) : shapeCast S1024x128 v h = v := by
  funext i; idx_vars i; pointwise []

/-- A head's first 128 lanes. -/
theorem head_piece (a : Vec Ideal S1024x512 .bf16) (w : Vec Ideal S512x1024 .bf16) (c s : Vec Ideal S1024x128 .f32) (o : Nat)
    (ho : o % 256 = 0) (hb : o + 128 ≤ 1024)
    (h : ∀ a, ![0, o] a + S1024x128.size a ≤ S1024x1024.size a) (hs : S1024x1024.Slices ![0, o] S1024x128) (u : S1024x128.Idx) :
    (extractStridedSlice S1024x128 ![0, o] (k0_pay3 (F := Ideal) a w) hs : FVec Ideal S1024x128 .f32) u
      = outB a w c s ((Rect.unit (s := S1024x1024) ![0, o] S1024x128.size h).emb u 0)
        ((Rect.unit (s := S1024x1024) ![0, o] S1024x128.size h).emb u 1) := by
  idx_vars u
  have e0 : (Rect.unit (s := S1024x1024) ![0, o] S1024x128.size h).emb (ix2 u0 u1) 0 = u0 :=
    Fin.ext (by show 0 + 1 * u0.val = u0.val; omega)
  have e1 : (Rect.unit (s := S1024x1024) ![0, o] S1024x128.size h).emb (ix2 u0 u1) 1 = (⟨o + u1.val, by omega⟩ : Fin 1024) :=
    Fin.ext (by show o + 1 * u1.val = o + u1.val; omega)
  rw [e0, e1, cut_apply _ _ _ _ _ hb, pay3_apply]
  unfold outB
  rw [if_pos (show (o + u1.val) % 256 < 128 by omega)]

/-- A head's other 128 lanes, turned. -/
theorem turned_piece (a : Vec Ideal S1024x512 .bf16) (w : Vec Ideal S512x1024 .bf16) (c s : Vec Ideal S1024x128 .f32) (o : Nat)
    (ho : o % 256 = 128) (hb : o + 128 ≤ 1024)
    (h : ∀ a, ![0, o] a + S1024x128.size a ≤ S1024x1024.size a) (hs : S1024x1024.Slices ![0, o] S1024x128)
    (v : Vec Ideal S1024x128 .bf16)
    (hv : ∀ (i : Fin 1024) (j : Fin 128), v (ix2 i j) = turnK
      (fun l => (extractStridedSlice S1024x128 ![0, o] (k0_pay3 (F := Ideal) a w) hs : FVec Ideal S1024x128 .f32) (ix2 i l))
      (fun l => c (ix2 i l)) (fun l => s (ix2 i l)) j) (u : S1024x128.Idx) :
    v u = outB a w c s ((Rect.unit (s := S1024x1024) ![0, o] S1024x128.size h).emb u 0)
        ((Rect.unit (s := S1024x1024) ![0, o] S1024x128.size h).emb u 1) := by
  idx_vars u
  have e0 : (Rect.unit (s := S1024x1024) ![0, o] S1024x128.size h).emb (ix2 u0 u1) 0 = u0 :=
    Fin.ext (by show 0 + 1 * u0.val = u0.val; omega)
  have e1 : (Rect.unit (s := S1024x1024) ![0, o] S1024x128.size h).emb (ix2 u0 u1) 1 = (⟨o + u1.val, by omega⟩ : Fin 1024) :=
    Fin.ext (by show o + 1 * u1.val = o + u1.val; omega)
  rw [e0, e1, hv]
  unfold outB
  rw [if_neg (show ¬ (o + u1.val) % 256 < 128 by omega)]
  congr 1
  · funext l
    rw [cut_apply _ _ _ _ _ hb, pay3_apply]
    exact congrArg (prodB a w u0) (Fin.ext (by show o + l.val = (o + u1.val) / 256 * 256 + 128 + l.val; omega))
  · exact Fin.ext (by show u1.val = (o + u1.val) % 128; omega)

/-- What the kernel stores in a head's other lanes. -/
theorem turn_pay (v : FVec Ideal S1024x128 .f32) (c s : Vec Ideal S1024x128 .f32) (h : S1024x128.ShapeCasts S1024x128) (i : Fin 1024) (j : Fin 128) :
    (addf (mulf v (shapeCast S1024x128 c h)) (mulf (select (cmpi .slt (andi (iota .tc S1024x128 32 [1] iota_S1024x128_d1_w32)
        (broadcast S1024x128 31#32)) (broadcast S1024x128 16#32)) (dynamicRotate 1 112#32 none v rotates_S1024x128_d1)
        (dynamicRotate 1 16#32 none v rotates_S1024x128_d1)) (shapeCast S1024x128 s h)) : FVec Ideal S1024x128 .f32) (ix2 i j)
      = turnK (fun l => v (ix2 i l)) (fun l => c (ix2 i l)) (fun l => s (ix2 i l)) j := by
  rw [whole_cast, whole_cast]
  exact turn_apply v c s _ _ i j

theorem out_apply (a : Vec Ideal S1024x512 .bf16) (w : Vec Ideal S512x1024 .bf16) (c s : Vec Ideal S1024x128 .f32) (i : Fin 1024) (j : Fin 1024) :
    out0_4 (F := Ideal) a w c s (ix2 i j) = outB a w c s i j := by
  unfold out0_4 k0_pay13
  rw [View.ld_unit_zero (S := S1024x512) hz, View.ld_unit_zero (S := S512x1024) hz, View.ld_unit_zero (S := S1024x128) hz,
    View.ld_unit_zero (S := S1024x128) hz]
  rw [View.canon_apply_of_pieces (fun u : S1024x1024.Idx => outB a w c s (u 0) (u 1)) _ ?_ _ (cover0_4 _ _ _ _ _ _ _ _ _)]
  · rfl
  · intro p hp
    simp only [List.mem_cons, List.not_mem_nil, or_false] at hp
    rcases hp with rfl | rfl | rfl | rfl | rfl | rfl | rfl | rfl
    · exact turned_piece a w c s 896 rfl (by omega) inb_S1024x1024_S1024x128_0_896 slices_S1024x1024_o0_896_S1024x128 _ fun i j => turn_pay _ c s _ i j
    · exact head_piece a w c s 768 rfl (by omega) inb_S1024x1024_S1024x128_0_768 slices_S1024x1024_o0_768_S1024x128
    · exact turned_piece a w c s 640 rfl (by omega) inb_S1024x1024_S1024x128_0_640 slices_S1024x1024_o0_640_S1024x128 _ fun i j => turn_pay _ c s _ i j
    · exact head_piece a w c s 512 rfl (by omega) inb_S1024x1024_S1024x128_0_512 slices_S1024x1024_o0_512_S1024x128
    · exact turned_piece a w c s 384 rfl (by omega) inb_S1024x1024_S1024x128_0_384 slices_S1024x1024_o0_384_S1024x128 _ fun i j => turn_pay _ c s _ i j
    · exact head_piece a w c s 256 rfl (by omega) inb_S1024x1024_S1024x128_0_256 slices_S1024x1024_o0_256_S1024x128
    · exact turned_piece a w c s 128 rfl (by omega) inb_S1024x1024_S1024x128_0_128 slices_S1024x1024_o0_128_S1024x128 _ fun i j => turn_pay _ c s _ i j
    · exact head_piece a w c s 0 rfl (by omega) inb_S1024x1024_S1024x128_0_0 slices_S1024x1024_o0_0_S1024x128

end Cert.QUp

end
-- ==== Proof.QUpArray.lean ====
module

public import proofs.«01_k».proof.Proof.QUpBlock
public import Idealize.ShloMosaic.Lib.StableHlo.ReadAt

/-! The array of queries as one function of the arguments. -/

@[expose] public section

set_option maxRecDepth 16384

noncomputable section

namespace Cert.QUp

open Idealize.ShloMosaic Idealize.ShloMosaic.TcCoe Idealize.SL.Sem Cert.KernelQUpIdeal Cert.KernelQUpIdeal.Gen Cert.Rows Cert.Turn

/-- Where each window's block lies at a grid point. -/
theorem index0 : ∀ t : Fin grid0.N, win0_0.index t = ![t.val / 4, 0] := by decide +kernel
theorem index1 : ∀ t : Fin grid0.N, win0_1.index t = ![0, t.val % 4] := by decide +kernel
theorem index2 : ∀ t : Fin grid0.N, win0_2.index t = ![t.val / 4, 0] := by decide +kernel
theorem index3 : ∀ t : Fin grid0.N, win0_3.index t = ![t.val / 4, 0] := by decide +kernel
theorem index4 : ∀ t : Fin grid0.N, win0_4.index t = ![t.val / 4, t.val % 4] := by decide +kernel

theorem t_lt (t : Fin grid0.N) : t.val < 68 := by have h := t.isLt; simpa only [Gen.N_0] using h

/-- The array index of a block index, window by window. -/
theorem emb0 (t : Fin grid0.N) (i : Fin 1024) (k : Fin 512) :
    (win0_0.blk t).view.emb (ix2 i k) = (ix2 ⟨t.val / 4 * 1024 + i.val, by have := t_lt t; omega⟩ k : S17408x512.Idx) := by
  funext a; apply Fin.ext
  have h := congrFun (index0 t)
  match a with
  | ⟨0, _⟩ => show win0_0.index t 0 * 1024 + 1 * i.val = _; rw [h 0]; show t.val / 4 * 1024 + 1 * i.val = t.val / 4 * 1024 + i.val; omega
  | ⟨1, _⟩ => show win0_0.index t 1 * 512 + 1 * k.val = _; rw [h 1]; show 0 * 512 + 1 * k.val = k.val; omega

theorem emb1 (t : Fin grid0.N) (i : Fin 512) (k : Fin 1024) :
    (win0_1.blk t).view.emb (ix2 i k) = (ix2 i ⟨t.val % 4 * 1024 + k.val, by have := t_lt t; omega⟩ : S512x4096.Idx) := by
  funext a; apply Fin.ext
  have h := congrFun (index1 t)
  match a with
  | ⟨0, _⟩ => show win0_1.index t 0 * 512 + 1 * i.val = _; rw [h 0]; show 0 * 512 + 1 * i.val = i.val; omega
  | ⟨1, _⟩ => show win0_1.index t 1 * 1024 + 1 * k.val = _; rw [h 1]; show t.val % 4 * 1024 + 1 * k.val = t.val % 4 * 1024 + k.val; omega

theorem emb2 (t : Fin grid0.N) (i : Fin 1024) (k : Fin 128) :
    (win0_2.blk t).view.emb (ix2 i k) = (ix2 ⟨t.val / 4 * 1024 + i.val, by have := t_lt t; omega⟩ k : S17408x128.Idx) := by
  funext a; apply Fin.ext
  have h := congrFun (index2 t)
  match a with
  | ⟨0, _⟩ => show win0_2.index t 0 * 1024 + 1 * i.val = _; rw [h 0]; show t.val / 4 * 1024 + 1 * i.val = t.val / 4 * 1024 + i.val; omega
  | ⟨1, _⟩ => show win0_2.index t 1 * 128 + 1 * k.val = _; rw [h 1]; show 0 * 128 + 1 * k.val = k.val; omega

theorem emb3 (t : Fin grid0.N) (i : Fin 1024) (k : Fin 128) :
    (win0_3.blk t).view.emb (ix2 i k) = (ix2 ⟨t.val / 4 * 1024 + i.val, by have := t_lt t; omega⟩ k : S17408x128.Idx) := by
  funext a; apply Fin.ext
  have h := congrFun (index3 t)
  match a with
  | ⟨0, _⟩ => show win0_3.index t 0 * 1024 + 1 * i.val = _; rw [h 0]; show t.val / 4 * 1024 + 1 * i.val = t.val / 4 * 1024 + i.val; omega
  | ⟨1, _⟩ => show win0_3.index t 1 * 128 + 1 * k.val = _; rw [h 1]; show 0 * 128 + 1 * k.val = k.val; omega

theorem emb4 (t : Fin grid0.N) (i : Fin 1024) (k : Fin 1024) :
    (win0_4.blk t).view.emb (ix2 i k) = (ix2 ⟨t.val / 4 * 1024 + i.val, by have := t_lt t; omega⟩ ⟨t.val % 4 * 1024 + k.val, by have := t_lt t; omega⟩ : S17408x4096.Idx) := by
  funext a; apply Fin.ext
  have h := congrFun (index4 t)
  match a with
  | ⟨0, _⟩ => show win0_4.index t 0 * 1024 + 1 * i.val = _; rw [h 0]; show t.val / 4 * 1024 + 1 * i.val = t.val / 4 * 1024 + i.val; omega
  | ⟨1, _⟩ => show win0_4.index t 1 * 1024 + 1 * k.val = _; rw [h 1]; show t.val % 4 * 1024 + 1 * k.val = t.val % 4 * 1024 + k.val; omega

/-- The scaled product at a row and a lane. -/
def prodA (a : Vec Ideal S17408x512 .bf16) (w : Vec Ideal S512x4096 .bf16) (r : Fin 17408) (n : Fin 4096) : EReal :=
  (∑ k : Fin 512, a (ix2 r k) * w (ix2 k n)) * scale

/-- The queries at a row and a lane. -/
def outA (a : Vec Ideal S17408x512 .bf16) (w : Vec Ideal S512x4096 .bf16) (c s : Vec Ideal S17408x128 .f32) (r : Fin 17408) (n : Fin 4096) : EReal :=
  if n.val % 256 < 128 then prodA a w r n
  else turnK (fun l => prodA a w r ⟨n.val / 256 * 256 + 128 + l.val, by omega⟩) (fun l => c (ix2 r l)) (fun l => s (ix2 r l))
    ⟨n.val % 128, by omega⟩

/-- The whole array. -/
def whole (a : Vec Ideal S17408x512 .bf16) (w : Vec Ideal S512x4096 .bf16) (c s : Vec Ideal S17408x128 .f32) : Vec Ideal S17408x4096 .bf16 :=
  fun u => outA a w c s (u 0) (u 1)

theorem prod_read (t : Fin cfg0.N) (a : Vec Ideal S17408x512 .bf16) (w : Vec Ideal S512x4096 .bf16) (i : Fin 1024) (j : Fin 1024) :
    prodB ((win0_0.blk t).view.read (Elt Ideal) a) ((win0_1.blk t).view.read (Elt Ideal) w) i j
      = prodA a w ⟨t.val / 4 * 1024 + i.val, by have := t_lt t; omega⟩ ⟨t.val % 4 * 1024 + j.val, by omega⟩ := by
  unfold prodB prodA
  exact congrArg (· * scale) (Finset.sum_congr rfl fun k _ => congrArg₂ (· * ·) (congrArg a (emb0 t i k)) (congrArg w (emb1 t k j)))

/-- What a grid point writes back, for any four arrays. -/
theorem read_whole (t : Fin cfg0.N) (a : Vec Ideal S17408x512 .bf16) (w : Vec Ideal S512x4096 .bf16) (c s : Vec Ideal S17408x128 .f32)
    (o : Vec Ideal S1024x1024 .bf16) (ho : ∀ (i : Fin 1024) (j : Fin 1024), o (ix2 i j)
      = outB ((win0_0.blk t).view.read (Elt Ideal) a) ((win0_1.blk t).view.read (Elt Ideal) w)
        ((win0_2.blk t).view.read (Elt Ideal) c) ((win0_3.blk t).view.read (Elt Ideal) s) i j) :
    o = (win0_4.blk t).view.read (Elt Ideal) (whole a w c s) := by
  funext y
  have key : ∀ y : S1024x1024.Idx, o y = whole a w c s ((win0_4.blk t).view.emb y) := by
    intro y
    idx_vars y
    rw [ho, emb4]
    show _ = outA a w c s ⟨t.val / 4 * 1024 + y0.val, _⟩ ⟨t.val % 4 * 1024 + y1.val, _⟩
    unfold outB outA
    by_cases hy : y1.val % 256 < 128
    · rw [if_pos hy, if_pos (show (t.val % 4 * 1024 + y1.val) % 256 < 128 by omega)]
      exact prod_read t a w y0 y1
    · rw [if_neg hy, if_neg (show ¬ (t.val % 4 * 1024 + y1.val) % 256 < 128 by omega)]
      have ex : ∀ l : Fin 128, prodB ((win0_0.blk t).view.read (Elt Ideal) a) ((win0_1.blk t).view.read (Elt Ideal) w) y0
            ⟨y1.val / 256 * 256 + 128 + l.val, by omega⟩
          = prodA a w ⟨t.val / 4 * 1024 + y0.val, by have := t_lt t; omega⟩
            ⟨(t.val % 4 * 1024 + y1.val) / 256 * 256 + 128 + l.val, by omega⟩ := fun l =>
        (prod_read t a w y0 _).trans (congrArg (prodA a w _) (Fin.ext (by
          show t.val % 4 * 1024 + (y1.val / 256 * 256 + 128 + l.val) = (t.val % 4 * 1024 + y1.val) / 256 * 256 + 128 + l.val; omega)))
      have e3 : (⟨y1.val % 128, by omega⟩ : Fin 128) = ⟨(t.val % 4 * 1024 + y1.val) % 128, by omega⟩ :=
        Fin.ext (by show y1.val % 128 = (t.val % 4 * 1024 + y1.val) % 128; omega)
      rw [e3, funext ex]
      exact congrArg₂ (fun p q => turnK _ p q _) (funext fun l => congrArg c (emb2 t y0 l)) (funext fun l => congrArg s (emb3 t y0 l))
  exact key y

variable (m : (ℓ : Loc nD τ sig) → Buf (Elt Ideal) ℓ)

/-- The arrays the kernel is launched on: latent rows, weights, and the two tables. -/
def arrA (c : Dev nD) : Vec Ideal S17408x512 .bf16 := V m c main_arg0
def arrW (c : Dev nD) : Vec Ideal S512x4096 .bf16 := V m c main_v21
def arrC (c : Dev nD) : Vec Ideal S17408x128 .f32 := V m c main_v13
def arrS (c : Dev nD) : Vec Ideal S17408x128 .f32 := V m c main_v17

/-- The arguments: latent rows, weights, and the angles of a latent row's two coordinates. -/
def argA (c : Dev nD) : Vec Ideal S17408x512 .bf16 := m ((c.tc : Thread nD τ).loc main_arg0)
def argW (c : Dev nD) : Vec Ideal S512x3072 .f32 := m ((c.tc : Thread nD τ).loc main_arg1)
def argR (c : Dev nD) : Vec Ideal S4096x16 .f32 := m ((c.tc : Thread nD τ).loc main_arg2)
def argC (c : Dev nD) : Vec Ideal S4096x16 .f32 := m ((c.tc : Thread nD τ).loc main_arg3)

theorem zero_word : (FloatOps.sitofp (F := Ideal) FTy.f32 0#32 : EReal) = 0 := by
  show (((0#32 : BitVec 32).toInt : ℝ) : EReal) = 0
  simp

theorem one_word : Ideal.ofBits .f32 0x3F800000#32 = 1 := Ideal.ofBits_one_f32

/-- The kernel's layout of the weights, for any weights. -/
theorem laid_out (w : Vec Ideal S512x3072 .f32) (k : Fin 512) (n : Fin 4096) (z : EReal) (hz : z = 0) :
    (if h : n.val / 256 < 16 ∧ n.val % 256 < 192 then w (ix2 k ⟨n.val / 256 * 192 + n.val % 256, by omega⟩) else z)
      = if h : n.val % 256 < 192 then w (ix2 k ⟨n.val / 256 * 192 + n.val % 256, by omega⟩) else 0 := by
  subst hz
  by_cases h : n.val % 256 < 192
  · rw [dif_pos h, dif_pos (show n.val / 256 < 16 ∧ n.val % 256 < 192 from ⟨by omega, h⟩)]
  · rw [dif_neg h, dif_neg (show ¬ (n.val / 256 < 16 ∧ n.val % 256 < 192) from fun e => h e.2)]

/-- Each head's 192 lanes of weights are laid out in 256, the others zero. -/
theorem arrW_apply (c : Dev nD) (k : Fin 512) (n : Fin 4096) : arrW m c (ix2 k n)
    = if h : n.val % 256 < 192 then argW m c (ix2 k ⟨n.val / 256 * 192 + n.val % 256, by omega⟩) else 0 := by
  unfold arrW V
  after_reads_at
  pointwise []
  exact laid_out (argW m c) k n _ zero_word

theorem arrC_apply (c : Dev nD) (k : Fin 17408) (n : Fin 128) :
    arrC m c (ix2 k n) = cosT (fun p t => argR m c (ix2 p t)) (fun p t => argC m c (ix2 p t)) k.val n := by
  unfold arrC V
  after_reads_at
  pointwise []
  after_reads_at
  pointwise []
  exact cos_table (argR m c) (argC m c) k n _ one_word

theorem arrS_apply (c : Dev nD) (k : Fin 17408) (n : Fin 128) :
    arrS m c (ix2 k n) = sinT (fun p t => argR m c (ix2 p t)) (fun p t => argC m c (ix2 p t)) k.val n := by
  unfold arrS V
  after_reads_at
  pointwise []
  after_reads_at
  pointwise []
  exact sin_table (argR m c) (argC m c) k n _ zero_word

/-- The result array. -/
def G (c : Dev nD) : Buf (Elt Ideal) ((c : Thread nD τ).loc main_v22) := whole (arrA m c) (arrW m c) (arrC m c) (arrS m c)

/-- What a grid point writes back is its block of the whole array. -/
theorem flushed_eq (c : Dev nD) (t : Fin cfg0.N) :
    (dats m 0 c).flushed 4 t = (win0_4.blk t).view.read (Elt Ideal) (G m c) := by
  rw [Value.flushed4 m c t]
  exact read_whole t (arrA m c) (arrW m c) (arrC m c) (arrS m c) _ fun i j => out_apply _ _ _ _ i j

/-- Every entry lies in some grid point's block. -/
theorem cover (i : S17408x4096.Idx) :
    ∃ t : Fin cfg0.N, (cfg0.win 4).flush t = true ∧ i ∈ ((cfg0.win 4).blk t).view.set := by
  have h0 : (i 0 : Nat) < 17408 := (i 0).isLt
  have h1 : (i 1 : Nat) < 4096 := (i 1).isLt
  refine ⟨⟨(i 0 : Nat) / 1024 * 4 + (i 1 : Nat) / 1024, by show _ < grid0.N; rw [Gen.N_0]; omega⟩, flush0_4 _, ?_⟩
  generalize ht : (⟨(i 0 : Nat) / 1024 * 4 + (i 1 : Nat) / 1024, by show _ < grid0.N; rw [Gen.N_0]; omega⟩ : Fin grid0.N) = t
  have hv : t.val = (i 0 : Nat) / 1024 * 4 + (i 1 : Nat) / 1024 := by rw [← ht]
  show i ∈ ((View.whole main_v22).slice (win0_4.rect t)).set
  rw [View.set_slice_whole, Rect.mem_set_unit]
  have h := congrFun (index4 t)
  intro a
  match a with
  | ⟨0, _⟩ => show win0_4.index t 0 * 1024 ≤ (i 0 : Nat) ∧ (i 0 : Nat) < win0_4.index t 0 * 1024 + 1024
              rw [h 0]; show t.val / 4 * 1024 ≤ (i 0 : Nat) ∧ (i 0 : Nat) < t.val / 4 * 1024 + 1024; omega
  | ⟨1, _⟩ => show win0_4.index t 1 * 1024 ≤ (i 1 : Nat) ∧ (i 1 : Nat) < win0_4.index t 1 * 1024 + 1024
              rw [h 1]; show t.val % 4 * 1024 ≤ (i 1 : Nat) ∧ (i 1 : Nat) < t.val % 4 * 1024 + 1024; omega

/-- So the result array ends as the whole function. -/
theorem final (c : Dev nD) : (dats m 0 c).arrAt 4 cfg0.N = G m c :=
  (dats m 0 c).arrAt_eq_of_cover 4 (G m c) (fun t _ => flushed_eq m c t) cover

/-- A head's query lane before scale and turn: a latent row times the head's weights. -/
def query (a : Vec Ideal S17408x512 .bf16) (w : Vec Ideal S512x3072 .f32) (r : Fin 17408) (h : Fin 16) (l : Fin 192) : EReal :=
  ∑ k : Fin 512, a (ix2 r k) * w (ix2 k ⟨h.val * 192 + l.val, by omega⟩)

/-- The queries from the arguments: 128 lanes of each head as they are, the rotary lanes turned, all scaled. -/
def queries (a : Vec Ideal S17408x512 .bf16) (w : Vec Ideal S512x3072 .f32) (x y : Vec Ideal S4096x16 .f32) (r : Fin 17408) (h : Fin 16) (l : Fin 256) : EReal :=
  (if hl : l.val < 128 then query a w r h ⟨l.val, by omega⟩
   else lanes (fun j => query a w r h ⟨128 + j.val, by omega⟩) (fun p t => x (ix2 p t)) (fun p t => y (ix2 p t)) r.val ⟨l.val - 128, by omega⟩) * scale

theorem scale_nonneg : 0 ≤ scale := EReal.coe_nonneg.2 (mul_nonneg (inv_nonneg.2 (Real.sqrt_nonneg _)) (inv_nonneg.2 (Real.log_nonneg (by norm_num))))
theorem scale_ne_top : scale ≠ ⊤ := EReal.coe_ne_top _

/-- The product the kernel forms is the scaled query, or zero in the lanes laid out with zeros. -/
theorem prod_query (c : Dev nD) (r : Fin 17408) (n : Fin 4096) (h : n.val % 256 < 192) :
    prodA (argA m c) (arrW m c) r n = query (argA m c) (argW m c) r ⟨n.val / 256, by omega⟩ ⟨n.val % 256, h⟩ * scale := by
  unfold prodA query
  refine congrArg (· * scale) (Finset.sum_congr rfl fun k _ => congrArg (_ * ·) ?_)
  rw [arrW_apply, dif_pos h]
theorem prod_zero (c : Dev nD) (r : Fin 17408) (n : Fin 4096) (h : ¬ n.val % 256 < 192) : prodA (argA m c) (arrW m c) r n = 0 := by
  unfold prodA
  rw [Finset.sum_eq_zero fun k _ => by rw [arrW_apply, dif_neg h, mul_zero], zero_mul]

theorem G_apply (c : Dev nD) (r : Fin 17408) (n : Fin 4096) :
    G m c (ix2 r n) = queries (argA m c) (argW m c) (argR m c) (argC m c) r ⟨n.val / 256, by omega⟩ ⟨n.val % 256, by omega⟩ := by
  have hA : arrA m c = argA m c := V_main_arg0 m c
  show outA (arrA m c) (arrW m c) (arrC m c) (arrS m c) r n = _
  rw [hA]
  unfold outA queries
  by_cases h : n.val % 256 < 128
  · rw [if_pos h, dif_pos h, prod_query m c r n (by omega)]
  · rw [if_neg h, dif_neg h, ← lanes_scale _ _ _ scale scale_nonneg scale_ne_top, funext (arrC_apply m c r), funext (arrS_apply m c r)]
    refine (turnK_lanes _ (fun l hl => prod_zero m c r _ (by show ¬ (n.val / 256 * 256 + 128 + l.val) % 256 < 192; omega)) _ _ _ _).trans ?_
    have e : (⟨n.val % 128, by omega⟩ : Fin 128) = ⟨n.val % 256 - 128, by omega⟩ := Fin.ext (by show n.val % 128 = n.val % 256 - 128; omega)
    rw [e]
    refine congrArg (fun f => lanes f _ _ _ _) (funext fun j => ?_)
    refine (prod_query m c r _ (by show (n.val / 256 * 256 + 128 + j.val) % 256 < 192; omega)).trans ?_
    refine congrArg₂ (fun p q => query _ _ r p q * scale) (Fin.ext ?_) (Fin.ext ?_)
    · show (n.val / 256 * 256 + 128 + j.val) / 256 = n.val / 256; omega
    · show (n.val / 256 * 256 + 128 + j.val) % 256 = 128 + j.val; omega

end Cert.QUp

end
-- ==== Proof.QUpClaims.lean ====
module

public import proofs.«01_k».proof.Defs
public import proofs.«01_k».proof.Proof.Gen.KernelQUp.Frame
public import proofs.«01_k».proof.Proof.QUpRef
public import proofs.«01_k».proof.Proof.QUpArray
public import Idealize.ShloMosaic.Adequacy
public import Idealize.ShloMosaic.Init

/-! The claims about the queries' up-projection. -/

@[expose] public section

set_option maxRecDepth 16384

noncomputable section

namespace Cert.QUp

open Idealize.ShloMosaic Idealize.ShloMosaic.TcCoe Idealize.SL.Sem Cert.KernelQUpIdeal Cert.Turn

/-- Dividing by the root of 192 and by the logarithm of two is multiplying by the scale. -/
theorem div_scale (x : EReal) :
    Ideal.div (Ideal.div x (Ideal.sqrt ((192 : ℝ) : EReal))) (Ideal.log ((2 : ℝ) : EReal)) = x * scale := by
  have h1 : Real.sqrt 192 ≠ 0 := (Real.sqrt_pos.2 (by norm_num)).ne'
  have h2 : Real.log 2 ≠ 0 := (Real.log_pos (by norm_num)).ne'
  have e1 : Ideal.sqrt ((192 : ℝ) : EReal) = ((Real.sqrt 192 : ℝ) : EReal) := by
    rw [Ideal.sqrt_coe, if_neg (by norm_num)]
  have e2 : Ideal.log ((2 : ℝ) : EReal) = ((Real.log 2 : ℝ) : EReal) := by
    rw [Ideal.log_coe, if_neg (by norm_num)]
  rw [e1, e2, Ideal.div_coe h1, Ideal.div_coe h2, mul_assoc, ← EReal.coe_mul]
  unfold scale
  rw [one_div, one_div]

/-- The reference's result, on the kernel's arguments, is the kernel's result array. -/
theorem result_eq (m : (ℓ : Loc nD τ sig) → Buf (Elt Ideal) ℓ) (c : Dev nD) :
    Cert.ReferenceQUpIdeal.Read.val_main_v62 (F := Ideal) (argA m c) (argW m c) (argR m c) (argC m c) = G m c := by
  funext u
  idx_vars u
  refine (ref_apply (argA m c) (argW m c) (argR m c) (argC m c) u0 u1).trans ?_
  refine (div_scale _).trans ?_
  refine Eq.trans ?_ (G_apply m c u0 u1).symm
  unfold queries
  refine congrArg (· * scale) ?_
  refine (ref_row _ _ _ _ _ _ _ _).trans ?_
  have q : ∀ l : Fin 192, Cert.ReferenceQUpIdeal.Read.val_main_v2 (F := Ideal) (argA m c) (argW m c)
      (ix4 (⟨u0.val / 4352, by omega⟩ : Fin 4) (⟨u0.val % 4352, by omega⟩ : Fin 4352) (⟨u1.val / 256, by omega⟩ : Fin 16) l)
      = query (argA m c) (argW m c) u0 ⟨u1.val / 256, by omega⟩ l := by
    intro l
    refine (ref_prod _ _ _ _ _ _).trans ?_
    unfold query
    refine Finset.sum_congr rfl fun k _ => congrArg (fun r => argA m c (ix2 r k) * _) (Fin.ext ?_)
    show u0.val / 4352 * 4352 + u0.val % 4352 = u0.val
    omega
  by_cases h : u1.val % 256 < 128
  · rw [dif_pos h, dif_pos h]
    exact q _
  · rw [dif_neg h, dif_neg h]
    refine (congrArg (fun f => lanes f _ _ _ _) (funext fun j => q _)).trans ?_
    exact lanes_mod _ _ _ _ _

theorem frame_reference : Cert.quiescent_ReferenceQUpIdeal := fun m ρ _ =>
  (θ_run Cert.ReferenceQUpIdeal.defs _ _).mono
    (fun r h => ⟨fun c => ⟨(h c).2.1, (h c).2.2⟩,
      Idealize.ShloMosaic.sem_eq_zero_of_no_sems (by decide) r.2⟩)
    (Cert.ReferenceQUpIdeal.Value.run (F := Ideal) m ρ)

theorem preserves : IdealRules.named_const.Statement Cert.KernelQUpIdeal.κ "qscale" .f32 0x3DD53B95#32
    (((Real.sqrt 192)⁻¹ * (Real.log 2)⁻¹ : ℝ) : EReal) :=
  IdealRules.named_const.statement Cert.KernelQUpIdeal.κ "qscale" .f32 0x3DD53B95#32 (((Real.sqrt 192)⁻¹ * (Real.log 2)⁻¹ : ℝ) : EReal) rfl

theorem algebraic : Cert.algebraic_KernelQUpIdeal_ReferenceQUpIdeal := by
  intro m ρ m' ρ' _ hagree
  refine ⟨fun c => G m c, ?_, ?_⟩
  · exact (θ_run Cert.KernelQUpIdeal.defs _ _).mono (fun r h c => ⟨(h c).1.trans (final m c), (h c).2⟩)
      (Cert.KernelQUpIdeal.Value.run_blocks m ρ)
  · refine (θ_run Cert.ReferenceQUpIdeal.defs _ _).mono (fun r h c => ⟨(h c).1.trans ?_, (h c).2⟩)
      (Cert.ReferenceQUpIdeal.Value.run (F := Ideal) m' ρ')
    rw [Cert.ReferenceQUpIdeal.Read.val_main_v62_eq]
    obtain ⟨e0, e1, e2, e3⟩ := hagree c
    rw [e0, e1, e2, e3]
    exact result_eq m c

end Cert.QUp

end
-- ==== Proof.TwoDir.lean ====
module

public import Idealize.ShloMosaic.Lib.Routing.OpsOne
public import Idealize.ShloMosaic.Lib.Routing.OpsPair
public import Idealize.ShloMosaic.Lib.Routing.OpsSet
public import Idealize.ShloMosaic.Lib.Pointwise
public import proofs.«01_k».proof.Proof.Top

/-! Two small matrices set into a larger one of zeros, one in the first rows and lanes and one in the next rows and the other
lanes: what the larger one holds, and its product with a row. -/

@[expose] public section

set_option maxRecDepth 16384

noncomputable section

namespace Cert.TwoDir

open Idealize.ShloMosaic Idealize.ShloMosaic.Routing

variable {R C U V : Nat} (d : ScatterDims (shape2 R C) (shape1 2) (shape2 U V))

theorem window_block (hu : d.updateWindowDims = [0, 1]) (hi : d.insertedWindowDims = []) (j : (shape2 U V).Idx) (a : Fin 2) :
    d.window j a = (j a).val := by
  obtain ⟨uw, iw, sd, iv, wf⟩ := d
  dsimp only at hu hi
  subst hu hi
  match a with
  | ⟨0, _⟩ => rfl
  | ⟨1, _⟩ => rfl

/-- An update entry goes to its own place moved by the two index words. -/
theorem lands {w : Nat} (hu : d.updateWindowDims = [0, 1]) (hi : d.insertedWindowDims = []) (hm : d.scatterDimsToOperandDims = [0, 1])
    (hv : d.indexVectorDim = 0) (idx : IVec (shape1 2) w) (p q : Nat) (hp : (idx (ix1 0)).toInt = p) (hq : (idx (ix1 1)).toInt = q)
    (j : (shape2 U V).Idx) (r : Fin R) (n : Fin C) :
    d.resultIdx? j idx = some (ix2 r n) ↔ (r.val = p + (j 0).val ∧ n.val = q + (j 1).val) := by
  refine (resultIdx?_ix2 d j idx r n).trans ?_
  rw [start_pair d hm hv, start_pair d hm hv, window_block d hu hi, window_block d hu hi]
  constructor
  · rintro ⟨e0, e1⟩
    have e0' : (idx (ix1 0)).toInt + ((j 0).val : Int) = (r.val : Int) := e0
    have e1' : (idx (ix1 1)).toInt + ((j 1).val : Int) = (n.val : Int) := e1
    rw [hp] at e0'
    rw [hq] at e1'
    omega
  · rintro ⟨e0, e1⟩
    have e0' : (idx (ix1 0)).toInt + ((j 0).val : Int) = (r.val : Int) := by rw [hp]; omega
    have e1' : (idx (ix1 1)).toInt + ((j 1).val : Int) = (n.val : Int) := by rw [hq]; omega
    exact ⟨e0', e1'⟩

/-- Inside the block the update's entry is read. -/
theorem block_in {α : Type} {w : Nat} (hu : d.updateWindowDims = [0, 1]) (hi : d.insertedWindowDims = [])
    (hm : d.scatterDimsToOperandDims = [0, 1]) (hv : d.indexVectorDim = 0) (x : (shape2 R C).Idx → α) (idx : IVec (shape1 2) w) (p q : Nat)
    (hp : (idx (ix1 0)).toInt = p) (hq : (idx (ix1 1)).toInt = q) (upd : (shape2 U V).Idx → α) (r : Fin R) (n : Fin C) (a : Fin U) (b : Fin V)
    (ha : r.val = p + a.val) (hb : n.val = q + b.val) :
    Host.scatter d (fun _ b => b) x idx upd (ix2 r n) = upd (ix2 a b) := by
  refine scatter_set_hit d x idx upd _ _ (fun j hj => congrArg upd ?_) (ix2 a b) ((lands d hu hi hm hv idx p q hp hq _ r n).2 ⟨ha, hb⟩)
  obtain ⟨e0, e1⟩ := (lands d hu hi hm hv idx p q hp hq j r n).1 hj
  funext c; apply Fin.ext
  match c with
  | ⟨0, _⟩ => show (j 0).val = a.val; omega
  | ⟨1, _⟩ => show (j 1).val = b.val; omega

/-- Outside the block the larger matrix keeps its entry. -/
theorem block_out {α : Type} {w : Nat} (hu : d.updateWindowDims = [0, 1]) (hi : d.insertedWindowDims = [])
    (hm : d.scatterDimsToOperandDims = [0, 1]) (hv : d.indexVectorDim = 0) (x : (shape2 R C).Idx → α) (idx : IVec (shape1 2) w) (p q : Nat)
    (hp : (idx (ix1 0)).toInt = p) (hq : (idx (ix1 1)).toInt = q) (upd : (shape2 U V).Idx → α) (r : Fin R) (n : Fin C)
    (ho : ¬ (p ≤ r.val ∧ r.val < p + U ∧ q ≤ n.val ∧ n.val < q + V)) :
    Host.scatter d (fun _ b => b) x idx upd (ix2 r n) = x (ix2 r n) := by
  refine scatter_set_miss d x idx upd _ fun j hj => ho ?_
  obtain ⟨e0, e1⟩ := (lands d hu hi hm hv idx p q hp hq j r n).1 hj
  have h0 : (j 0).val < U := (j 0).isLt
  have h1 : (j 1).val < V := (j 1).isLt
  omega

/-- The matrix of two directions at an entry. -/
def entry (u : Fin 2 → Fin 96 → Fin 2048 → EReal) (k n : Nat) : EReal :=
  if h : n / 2048 * 96 ≤ k ∧ k < n / 2048 * 96 + 96 ∧ n < 4096 then u ⟨n / 2048, by omega⟩ ⟨k - n / 2048 * 96, by omega⟩ ⟨n % 2048, by omega⟩ else 0

theorem at_same (u : Fin 2 → Fin 96 → Fin 2048 → EReal) {a a' : Fin 2} {b b' : Fin 96} {c c' : Fin 2048} (ha : a.val = a'.val)
    (hb : b.val = b'.val) (hc : c.val = c'.val) : u a b c = u a' b' c' := by
  rw [Fin.ext ha, Fin.ext hb, Fin.ext hc]

/-- The two blocks set into zeros. -/
theorem two_blocks (d : ScatterDims (shape2 256 4096) (shape1 2) (shape2 96 2048)) (hu : d.updateWindowDims = [0, 1])
    (hi : d.insertedWindowDims = []) (hm : d.scatterDimsToOperandDims = [0, 1]) (hv : d.indexVectorDim = 0)
    (x : (shape2 256 4096).Idx → EReal) (hx : ∀ k n, x (ix2 k n) = 0) (i0 i1 : IVec (shape1 2) 32)
    (h00 : i0 (ix1 0) = 0#32) (h01 : i0 (ix1 1) = 0#32) (h10 : i1 (ix1 0) = 96#32) (h11 : i1 (ix1 1) = 2048#32)
    (u0 u1 : (shape2 96 2048).Idx → EReal) (u : Fin 2 → Fin 96 → Fin 2048 → EReal)
    (e0 : ∀ a b, u0 (ix2 a b) = u 0 a b) (e1 : ∀ a b, u1 (ix2 a b) = u 1 a b) (k : Fin 256) (n : Fin 4096) :
    Host.scatter d (fun _ b => b) (Host.scatter d (fun _ b => b) x i0 u0) i1 u1 (ix2 k n) = entry u k.val n.val := by
  have w00 : (i0 (ix1 0)).toInt = (0 : Nat) := by rw [h00]; rfl
  have w01 : (i0 (ix1 1)).toInt = (0 : Nat) := by rw [h01]; rfl
  have w10 : (i1 (ix1 0)).toInt = (96 : Nat) := by rw [h10]; rfl
  have w11 : (i1 (ix1 1)).toInt = (2048 : Nat) := by rw [h11]; rfl
  unfold entry
  by_cases hn : n.val < 2048
  · rw [block_out d hu hi hm hv _ i1 96 2048 w10 w11 u1 k n (by omega)]
    have z : n.val / 2048 = 0 := by omega
    by_cases hk : k.val < 96
    · rw [dif_pos (by omega), block_in d hu hi hm hv x i0 0 0 w00 w01 u0 k n ⟨k.val, hk⟩ ⟨n.val, hn⟩ (by simp) (by simp), e0]
      exact at_same u z.symm (by show k.val = k.val - n.val / 2048 * 96; omega) (by show n.val = n.val % 2048; omega)
    · rw [dif_neg (by omega), block_out d hu hi hm hv x i0 0 0 w00 w01 u0 k n (by omega), hx]
  · have z : n.val / 2048 = 1 := by omega
    by_cases hk : 96 ≤ k.val ∧ k.val < 192
    · rw [dif_pos (by omega), block_in d hu hi hm hv _ i1 96 2048 w10 w11 u1 k n ⟨k.val - 96, by omega⟩ ⟨n.val - 2048, by omega⟩
        (by show k.val = 96 + (k.val - 96); omega) (by show n.val = 2048 + (n.val - 2048); omega), e1]
      exact at_same u z.symm (by show k.val - 96 = k.val - n.val / 2048 * 96; omega) (by show n.val - 2048 = n.val % 2048; omega)
    · rw [dif_neg (by omega), block_out d hu hi hm hv _ i1 96 2048 w10 w11 u1 k n (by omega),
        block_out d hu hi hm hv x i0 0 0 w00 w01 u0 k n (by omega), hx]

/-- A row of 256 lanes times the matrix of two directions: only the direction's own 96 lanes count. -/
theorem sum_entry (f : Nat → EReal) (u : Fin 2 → Fin 96 → Fin 2048 → EReal) (n : Fin 4096) :
    ∑ k : Fin 256, f k.val * entry u k.val n.val
      = ∑ j : Fin 96, f (n.val / 2048 * 96 + j.val) * u ⟨n.val / 2048, by omega⟩ j ⟨n.val % 2048, by omega⟩ := by
  have hn := n.isLt
  symm
  let g : Fin 96 → Fin 256 := fun j => ⟨n.val / 2048 * 96 + j.val, by omega⟩
  have hg : Function.Injective g := by
    intro a b h
    have h' : n.val / 2048 * 96 + a.val = n.val / 2048 * 96 + b.val := congrArg Fin.val h
    exact Fin.ext (by omega)
  refine Eq.trans ?_ ((Finset.sum_map Finset.univ ⟨g, hg⟩ fun k : Fin 256 => f k.val * entry u k.val n.val).symm.trans
    (Finset.sum_subset (Finset.subset_univ _) ?_))
  · refine Finset.sum_congr rfl fun j _ => congrArg (f _ * ·) ?_
    show _ = entry u (n.val / 2048 * 96 + j.val) n.val
    unfold entry
    rw [dif_pos (by omega)]
    exact congrArg (fun a => u _ a _) (Fin.ext (by show j.val = n.val / 2048 * 96 + j.val - n.val / 2048 * 96; omega))
  · intro k _ hk
    have hz : entry u k.val n.val = 0 := by
      unfold entry
      refine dif_neg fun h => hk ?_
      refine Finset.mem_map.2 ⟨⟨k.val - n.val / 2048 * 96, by omega⟩, Finset.mem_univ _, Fin.ext ?_⟩
      show n.val / 2048 * 96 + (k.val - n.val / 2048 * 96) = k.val
      omega
    rw [hz, mul_zero]

end Cert.TwoDir

end
-- ==== Proof.DecayBlock.lean ====
module

public import proofs.«01_k».proof.Proof.Gen.KernelDecayIdeal.Value
public import proofs.«01_k».proof.Proof.Rows
public import proofs.«01_k».proof.Proof.TwoDir

/-! What one grid point of the second projection of the decay computes: its rows' hidden lanes times a block of weights, the
bias added, and the closing function. -/

@[expose] public section

set_option maxRecDepth 16384

noncomputable section

namespace Cert.Decay

open Idealize.ShloMosaic Idealize.ShloMosaic.TcCoe Idealize.SL.Sem Cert.KernelDecayIdeal Cert.KernelDecayIdeal.Gen Cert.Rows

/-- The logarithm of one plus the exponential of a number, from its larger and its smaller part. -/
def softplus (y : EReal) : EReal := max y 0 + Ideal.log (1 + Ideal.exp (-max y (-y)))

/-- One half as the programs write it. -/
def half : EReal := Ideal.ofBits .f32 0x3F000000#32

/-- The closing function: minus the exponential of minus the softplus less one half. -/
def close (x : EReal) : EReal := -Ideal.exp (-softplus (-x) - half)

/-- The result block of one grid point, entry by entry. -/
def outB (a : Vec Ideal S1024x256 .bf16) (w : Vec Ideal S256x512 .bf16) (b : Vec Ideal S1x512 .f32) (i : Fin 1024) (j : Fin 512) : EReal :=
  close (b (ix2 0 j) + ∑ k : Fin 256, a (ix2 i k) * w (ix2 k j))

theorem pay1_apply (a : Vec Ideal S1024x256 .bf16) (w : Vec Ideal S256x512 .bf16) (b : Vec Ideal S1x512 .f32) (i : Fin 1024) (j : Fin 512) :
    k0_pay1 (F := Ideal) a w b (ix2 i j) = outB a w b i j := by
  unfold outB close softplus half
  pointwise [k0_pay1]
  simp only [zero_sub]
  rfl

theorem out_apply (a : Vec Ideal S1024x256 .bf16) (w : Vec Ideal S256x512 .bf16) (b : Vec Ideal S1x512 .f32) (i : Fin 1024) (j : Fin 512) :
    out0_3 (F := Ideal) a w b (ix2 i j) = outB a w b i j := by
  unfold out0_3
  rw [View.canon_unit_zero hz, View.ld_unit_zero (S := S1024x256) hz, View.ld_unit_zero (S := S256x512) hz, View.ld_unit_zero (S := S1x512) hz]
  exact pay1_apply a w b i j

end Cert.Decay

end
-- ==== Proof.DecayArray.lean ====
module

public import proofs.«01_k».proof.Proof.DecayBlock
public import Idealize.ShloMosaic.Lib.StableHlo.ReadAt

/-! The result array of the second projection of the decay as one function of the arguments. -/

@[expose] public section

set_option maxRecDepth 16384

noncomputable section

namespace Cert.Decay

open Idealize.ShloMosaic Idealize.ShloMosaic.TcCoe Idealize.SL.Sem Cert.KernelDecayIdeal Cert.KernelDecayIdeal.Gen Cert.Rows Cert.TwoDir
open Idealize.ShloMosaic.Routing

/-- Where each window's block lies at a grid point. -/
theorem index0 : ∀ t : Fin grid0.N, win0_0.index t = ![t.val / 8, 1] := by decide +kernel
theorem index1 : ∀ t : Fin grid0.N, win0_1.index t = ![0, t.val % 8] := by decide +kernel
theorem index2 : ∀ t : Fin grid0.N, win0_2.index t = ![0, t.val % 8] := by decide +kernel
theorem index3 : ∀ t : Fin grid0.N, win0_3.index t = ![t.val / 8, t.val % 8] := by decide +kernel

theorem t_lt (t : Fin grid0.N) : t.val < 136 := by have h := t.isLt; simpa only [Gen.N_0] using h

/-- The array index of a block index, window by window. -/
theorem emb0 (t : Fin grid0.N) (i : Fin 1024) (k : Fin 256) :
    (win0_0.blk t).view.emb (ix2 i k) = (ix2 ⟨t.val / 8 * 1024 + i.val, by have := t_lt t; omega⟩ ⟨256 + k.val, by omega⟩ : S17408x768.Idx) := by
  funext a; apply Fin.ext
  have h := congrFun (index0 t)
  match a with
  | ⟨0, _⟩ => show win0_0.index t 0 * 1024 + 1 * i.val = _; rw [h 0]; show t.val / 8 * 1024 + 1 * i.val = t.val / 8 * 1024 + i.val; omega
  | ⟨1, _⟩ => show win0_0.index t 1 * 256 + 1 * k.val = _; rw [h 1]; show 1 * 256 + 1 * k.val = 256 + k.val; omega

theorem emb1 (t : Fin grid0.N) (i : Fin 256) (k : Fin 512) :
    (win0_1.blk t).view.emb (ix2 i k) = (ix2 i ⟨t.val % 8 * 512 + k.val, by have := t_lt t; omega⟩ : S256x4096.Idx) := by
  funext a; apply Fin.ext
  have h := congrFun (index1 t)
  match a with
  | ⟨0, _⟩ => show win0_1.index t 0 * 256 + 1 * i.val = _; rw [h 0]; show 0 * 256 + 1 * i.val = i.val; omega
  | ⟨1, _⟩ => show win0_1.index t 1 * 512 + 1 * k.val = _; rw [h 1]; show t.val % 8 * 512 + 1 * k.val = t.val % 8 * 512 + k.val; omega

theorem emb2 (t : Fin grid0.N) (i : Fin 1) (k : Fin 512) :
    (win0_2.blk t).view.emb (ix2 i k) = (ix2 i ⟨t.val % 8 * 512 + k.val, by have := t_lt t; omega⟩ : S1x4096.Idx) := by
  funext a; apply Fin.ext
  have h := congrFun (index2 t)
  match a with
  | ⟨0, _⟩ => show win0_2.index t 0 * 1 + 1 * i.val = _; rw [h 0]; show 0 * 1 + 1 * i.val = i.val; omega
  | ⟨1, _⟩ => show win0_2.index t 1 * 512 + 1 * k.val = _; rw [h 1]; show t.val % 8 * 512 + 1 * k.val = t.val % 8 * 512 + k.val; omega

theorem emb3 (t : Fin grid0.N) (i : Fin 1024) (k : Fin 512) :
    (win0_3.blk t).view.emb (ix2 i k) = (ix2 ⟨t.val / 8 * 1024 + i.val, by have := t_lt t; omega⟩ ⟨t.val % 8 * 512 + k.val, by have := t_lt t; omega⟩ : S17408x4096.Idx) := by
  funext a; apply Fin.ext
  have h := congrFun (index3 t)
  match a with
  | ⟨0, _⟩ => show win0_3.index t 0 * 1024 + 1 * i.val = _; rw [h 0]; show t.val / 8 * 1024 + 1 * i.val = t.val / 8 * 1024 + i.val; omega
  | ⟨1, _⟩ => show win0_3.index t 1 * 512 + 1 * k.val = _; rw [h 1]; show t.val % 8 * 512 + 1 * k.val = t.val % 8 * 512 + k.val; omega

/-- The result at row `r`, lane `n`, from the arrays the kernel is launched on. -/
def outA (h : Vec Ideal S17408x768 .bf16) (w : Vec Ideal S256x4096 .bf16) (b : Vec Ideal S1x4096 .f32) (r : Fin 17408) (n : Fin 4096) : EReal :=
  close (b (ix2 0 n) + ∑ k : Fin 256, h (ix2 r ⟨256 + k.val, by omega⟩) * w (ix2 k n))

/-- The whole result array. -/
def whole (h : Vec Ideal S17408x768 .bf16) (w : Vec Ideal S256x4096 .bf16) (b : Vec Ideal S1x4096 .f32) : Vec Ideal S17408x4096 .f32 :=
  fun u => outA h w b (u 0) (u 1)

/-- What a grid point writes back, for any three arrays. -/
theorem read_whole (t : Fin cfg0.N) (h : Vec Ideal S17408x768 .bf16) (w : Vec Ideal S256x4096 .bf16) (b : Vec Ideal S1x4096 .f32)
    (o : Vec Ideal S1024x512 .f32)
    (ho : ∀ (i : Fin 1024) (j : Fin 512), o (ix2 i j)
      = outB ((win0_0.blk t).view.read (Elt Ideal) h) ((win0_1.blk t).view.read (Elt Ideal) w) ((win0_2.blk t).view.read (Elt Ideal) b) i j) :
    o = (win0_3.blk t).view.read (Elt Ideal) (whole h w b) := by
  funext y
  have key : ∀ y : S1024x512.Idx, o y = whole h w b ((win0_3.blk t).view.emb y) := by
    intro y
    idx_vars y
    rw [ho, emb3]
    show _ = outA h w b ⟨t.val / 8 * 1024 + y0.val, _⟩ ⟨t.val % 8 * 512 + y1.val, _⟩
    unfold outB outA
    refine congrArg close (congrArg₂ (· + ·) (congrArg b (emb2 t 0 y1)) ?_)
    exact Finset.sum_congr rfl fun k _ => congrArg₂ (· * ·) (congrArg h (emb0 t y0 k)) (congrArg w (emb1 t k y1))
  exact key y

variable (m : (ℓ : Loc nD τ sig) → Buf (Elt Ideal) ℓ)

/-- The arrays of hidden lanes, weights and biases the kernel is launched on. -/
def arrH (c : Dev nD) : Vec Ideal S17408x768 .bf16 := V m c main_arg0
def arrW (c : Dev nD) : Vec Ideal S256x4096 .bf16 := V m c main_v13
def arrB (c : Dev nD) : Vec Ideal S1x4096 .f32 := V m c main_v14

/-- The three arguments. -/
def argH (c : Dev nD) : Vec Ideal S17408x768 .bf16 := m ((c.tc : Thread nD τ).loc main_arg0)
def argW (c : Dev nD) : Vec Ideal S2x96x2048 .f32 := m ((c.tc : Thread nD τ).loc main_arg1)
def argB (c : Dev nD) : Vec Ideal S2x2048 .f32 := m ((c.tc : Thread nD τ).loc main_arg2)

/-- The weights laid out for both directions, read at an entry. -/
theorem laid (W : Vec Ideal S2x96x2048 .f32) (x : Vec Ideal S256x4096 .f32) (hx : ∀ k n, x (ix2 k n) = 0) (i0 i1 : IVec S2 32)
    (h00 : i0 (ix1 0) = 0#32) (h01 : i0 (ix1 1) = 0#32) (h10 : i1 (ix1 0) = 96#32) (h11 : i1 (ix1 1) = 2048#32)
    (u0 u1 : Vec Ideal S96x2048 .f32) (e0 : ∀ a b, u0 (ix2 a b) = W (ix3 0 a b)) (e1 : ∀ a b, u1 (ix2 a b) = W (ix3 1 a b))
    (k : Fin 256) (n : Fin 4096) :
    Host.scatter scatter_S256x4096_S2_S96x2048_01_n_01_0 (fun _ b => b)
      (Host.scatter scatter_S256x4096_S2_S96x2048_01_n_01_0 (fun _ b => b) x i0 u0) i1 u1 (ix2 k n)
      = entry (fun d a b => W (ix3 d a b)) k.val n.val :=
  two_blocks scatter_S256x4096_S2_S96x2048_01_n_01_0 rfl rfl rfl rfl x hx i0 i1 h00 h01 h10 h11 u0 u1 (fun d a b => W (ix3 d a b)) e0 e1 k n

theorem arrW_apply (c : Dev nD) (k : Fin 256) (n : Fin 4096) : arrW m c (ix2 k n) = entry (fun d a b => argW m c (ix3 d a b)) k.val n.val := by
  unfold arrW V
  after_reads_at
  refine laid (argW m c) _ ?_ _ _ ?_ ?_ ?_ ?_ _ _ ?_ ?_ k n
  · intro k n
    pointwise []
  · pointwise []
    after_reads_at
  · pointwise []
    after_reads_at
  · pointwise []
    after_reads_at
  · pointwise []
    after_reads_at
  · intro a b
    pointwise []
    rfl
  · intro a b
    pointwise []
    rfl

theorem arrB_apply (c : Dev nD) (n : Fin 4096) : arrB m c (ix2 0 n) = argB m c (ix2 ⟨n.val / 2048, by omega⟩ ⟨n.val % 2048, by omega⟩) := by
  unfold arrB V
  after_reads_at
  pointwise []
  rfl

/-- The result array. -/
def G (c : Dev nD) : Buf (Elt Ideal) ((c : Thread nD τ).loc main_v15) := whole (arrH m c) (arrW m c) (arrB m c)

/-- What a grid point writes back is its block of the whole array. -/
theorem flushed_eq (c : Dev nD) (t : Fin cfg0.N) :
    (dats m 0 c).flushed 3 t = (win0_3.blk t).view.read (Elt Ideal) (G m c) := by
  rw [Value.flushed3 m c t]
  exact read_whole t (arrH m c) (arrW m c) (arrB m c) _ fun i j => out_apply _ _ _ i j

/-- Every entry lies in some grid point's block. -/
theorem cover (i : S17408x4096.Idx) :
    ∃ t : Fin cfg0.N, (cfg0.win 3).flush t = true ∧ i ∈ ((cfg0.win 3).blk t).view.set := by
  have h0 : (i 0 : Nat) < 17408 := (i 0).isLt
  have h1 : (i 1 : Nat) < 4096 := (i 1).isLt
  refine ⟨⟨(i 0 : Nat) / 1024 * 8 + (i 1 : Nat) / 512, by show _ < grid0.N; rw [Gen.N_0]; omega⟩, flush0_3 _, ?_⟩
  generalize ht : (⟨(i 0 : Nat) / 1024 * 8 + (i 1 : Nat) / 512, by show _ < grid0.N; rw [Gen.N_0]; omega⟩ : Fin grid0.N) = t
  have hv : t.val = (i 0 : Nat) / 1024 * 8 + (i 1 : Nat) / 512 := by rw [← ht]
  show i ∈ ((View.whole main_v15).slice (win0_3.rect t)).set
  rw [View.set_slice_whole, Rect.mem_set_unit]
  have h := congrFun (index3 t)
  intro a
  match a with
  | ⟨0, _⟩ => show win0_3.index t 0 * 1024 ≤ (i 0 : Nat) ∧ (i 0 : Nat) < win0_3.index t 0 * 1024 + 1024
              rw [h 0]; show t.val / 8 * 1024 ≤ (i 0 : Nat) ∧ (i 0 : Nat) < t.val / 8 * 1024 + 1024; omega
  | ⟨1, _⟩ => show win0_3.index t 1 * 512 ≤ (i 1 : Nat) ∧ (i 1 : Nat) < win0_3.index t 1 * 512 + 512
              rw [h 1]; show t.val % 8 * 512 ≤ (i 1 : Nat) ∧ (i 1 : Nat) < t.val % 8 * 512 + 512; omega

/-- So the result array ends as the whole function. -/
theorem final (c : Dev nD) : (dats m 0 c).arrAt 3 cfg0.N = G m c :=
  (dats m 0 c).arrAt_eq_of_cover 3 (G m c) (fun t _ => flushed_eq m c t) cover

/-- A direction's product: its own 96 hidden lanes times its weights. -/
def prod (h : Vec Ideal S17408x768 .bf16) (w : Vec Ideal S2x96x2048 .f32) (r : Fin 17408) (d : Fin 2) (l : Fin 2048) : EReal :=
  ∑ j : Fin 96, h (ix2 r ⟨256 + d.val * 96 + j.val, by omega⟩) * w (ix3 d j l)

/-- The result at a row and a lane, from the arguments. -/
theorem G_apply (c : Dev nD) (r : Fin 17408) (n : Fin 4096) :
    G m c (ix2 r n) = close (argB m c (ix2 ⟨n.val / 2048, by omega⟩ ⟨n.val % 2048, by omega⟩)
      + prod (argH m c) (argW m c) r ⟨n.val / 2048, by omega⟩ ⟨n.val % 2048, by omega⟩) := by
  have hH : arrH m c = argH m c := V_main_arg0 m c
  show outA (arrH m c) (arrW m c) (arrB m c) r n = _
  unfold outA prod
  rw [hH, arrB_apply]
  have hn := n.isLt
  refine congrArg (fun s => close (_ + s)) ?_
  let f : Nat → EReal := fun k => if h : 256 + k < 768 then argH m c (ix2 r ⟨256 + k, h⟩) else 0
  have e : ∀ k (h : 256 + k < 768), argH m c (ix2 r ⟨256 + k, h⟩) = f k := by
    intro k h
    show _ = if h : _ then _ else _
    rw [dif_pos h]
  refine Eq.trans (Finset.sum_congr rfl fun k _ => congrArg₂ (· * ·) (e k.val (by omega)) (arrW_apply m c k n)) ?_
  refine (sum_entry f (fun d a b => argW m c (ix3 d a b)) n).trans ?_
  refine Finset.sum_congr rfl fun j _ => congrArg (· * _) ?_
  refine (e (n.val / 2048 * 96 + j.val) (by omega)).symm.trans ?_
  exact congrArg (fun l => argH m c (ix2 r l)) (Fin.ext (by show 256 + (n.val / 2048 * 96 + j.val) = 256 + n.val / 2048 * 96 + j.val; omega))

end Cert.Decay

end
-- ==== Proof.DecayClaims.lean ====
module

public import proofs.«01_k».proof.Defs
public import proofs.«01_k».proof.Proof.Gen.KernelDecay.Frame
public import proofs.«01_k».proof.Proof.Gen.ReferenceDecayIdeal.Read
public import proofs.«01_k».proof.Proof.DecayArray
public import Idealize.ShloMosaic.Adequacy
public import Idealize.ShloMosaic.Init

/-! The claims about the second projection of the decay. -/

@[expose] public section

set_option maxRecDepth 16384

noncomputable section

namespace Cert.Decay

open Idealize.ShloMosaic Idealize.ShloMosaic.TcCoe Idealize.SL.Sem Cert.KernelDecayIdeal

/-- A direction's product in the reference. -/
theorem ref_prod0 (h : Vec Ideal S17408x768 .bf16) (w : Vec Ideal S2x96x2048 .f32) (r : Fin 17408) (l : Fin 2048) :
    Cert.ReferenceDecayIdeal.Read.val_main_v7 (F := Ideal) h w (ix2 r l) = prod h w r 0 l := by
  unfold prod
  pointwise [Cert.ReferenceDecayIdeal.Read.val_main_v7, Cert.ReferenceDecayIdeal.Read.val_main_v4, Cert.ReferenceDecayIdeal.Read.val_main_v6, Cert.ReferenceDecayIdeal.Read.val_main_v5, Cert.ReferenceDecayIdeal.Read.val_main_v1, Cert.ReferenceDecayIdeal.Read.val_main_v0]

theorem ref_prod1 (h : Vec Ideal S17408x768 .bf16) (w : Vec Ideal S2x96x2048 .f32) (r : Fin 17408) (l : Fin 2048) :
    Cert.ReferenceDecayIdeal.Read.val_main_v23 (F := Ideal) h w (ix2 r l) = prod h w r 1 l := by
  unfold prod
  pointwise [Cert.ReferenceDecayIdeal.Read.val_main_v23, Cert.ReferenceDecayIdeal.Read.val_main_v20, Cert.ReferenceDecayIdeal.Read.val_main_v22, Cert.ReferenceDecayIdeal.Read.val_main_v21, Cert.ReferenceDecayIdeal.Read.val_main_v1, Cert.ReferenceDecayIdeal.Read.val_main_v0]
  exact Finset.sum_congr rfl fun j _ => congrArg (fun l => h (ix2 r l) * w (ix3 1 j _)) (Fin.ext (by show 256 + (96 + j.val) = 352 + j.val; omega))

/-- A direction's lanes in the reference, from its product. -/
theorem ref_dir0 (h : Vec Ideal S17408x768 .bf16) (w : Vec Ideal S2x96x2048 .f32) (b : Vec Ideal S2x2048 .f32) (r : Fin 17408) (l : Fin 2048) :
    Cert.ReferenceDecayIdeal.Read.val_main_v17 (F := Ideal) h w b (ix2 r l) = close (b (ix2 0 l) + prod h w r 0 l) := by
  rw [← ref_prod0 h w]
  unfold Cert.ReferenceDecayIdeal.Read.val_main_v17 Cert.ReferenceDecayIdeal.Read.val_main_v16 Cert.ReferenceDecayIdeal.Read.val_main_v15 Cert.ReferenceDecayIdeal.Read.val_main_v14 Cert.ReferenceDecayIdeal.Read.val_main_v13 Cert.ReferenceDecayIdeal.Read.val_main_v12 Cert.ReferenceDecayIdeal.Read.val_main_call0_v11 Cert.ReferenceDecayIdeal.Read.val_main_call0_v10 Cert.ReferenceDecayIdeal.Read.val_main_call0_v9 Cert.ReferenceDecayIdeal.Read.val_main_call0_v8 Cert.ReferenceDecayIdeal.Read.val_main_call0_v7 Cert.ReferenceDecayIdeal.Read.val_main_call0_v6 Cert.ReferenceDecayIdeal.Read.val_main_call0_v5 Cert.ReferenceDecayIdeal.Read.val_main_call0_v4 Cert.ReferenceDecayIdeal.Read.val_main_call0_v3 Cert.ReferenceDecayIdeal.Read.val_main_call0_v2 Cert.ReferenceDecayIdeal.Read.val_main_call0_v1 Cert.ReferenceDecayIdeal.Read.val_main_call0_v0 Cert.ReferenceDecayIdeal.Read.val_main_v11 Cert.ReferenceDecayIdeal.Read.val_main_v10 Cert.ReferenceDecayIdeal.Read.val_main_v9 Cert.ReferenceDecayIdeal.Read.val_main_v8 Cert.ReferenceDecayIdeal.Read.val_main_v3 Cert.ReferenceDecayIdeal.Read.val_main_v2
  generalize Cert.ReferenceDecayIdeal.Read.val_main_v7 (F := Ideal) h w = q
  pointwise [Cert.ReferenceDecayIdeal.Read.val_main_call0_cst, Cert.ReferenceDecayIdeal.Read.val_main_cst]
  simp only [ne_eq, not_true_eq_false, if_false]
  rfl

/-- A direction's lanes in the reference, from its product. -/
theorem ref_dir1 (h : Vec Ideal S17408x768 .bf16) (w : Vec Ideal S2x96x2048 .f32) (b : Vec Ideal S2x2048 .f32) (r : Fin 17408) (l : Fin 2048) :
    Cert.ReferenceDecayIdeal.Read.val_main_v33 (F := Ideal) h w b (ix2 r l) = close (b (ix2 1 l) + prod h w r 1 l) := by
  rw [← ref_prod1 h w]
  unfold Cert.ReferenceDecayIdeal.Read.val_main_v33 Cert.ReferenceDecayIdeal.Read.val_main_v32 Cert.ReferenceDecayIdeal.Read.val_main_v31 Cert.ReferenceDecayIdeal.Read.val_main_v30 Cert.ReferenceDecayIdeal.Read.val_main_v29 Cert.ReferenceDecayIdeal.Read.val_main_v28 Cert.ReferenceDecayIdeal.Read.val_main_call1_v11 Cert.ReferenceDecayIdeal.Read.val_main_call1_v10 Cert.ReferenceDecayIdeal.Read.val_main_call1_v9 Cert.ReferenceDecayIdeal.Read.val_main_call1_v8 Cert.ReferenceDecayIdeal.Read.val_main_call1_v7 Cert.ReferenceDecayIdeal.Read.val_main_call1_v6 Cert.ReferenceDecayIdeal.Read.val_main_call1_v5 Cert.ReferenceDecayIdeal.Read.val_main_call1_v4 Cert.ReferenceDecayIdeal.Read.val_main_call1_v3 Cert.ReferenceDecayIdeal.Read.val_main_call1_v2 Cert.ReferenceDecayIdeal.Read.val_main_call1_v1 Cert.ReferenceDecayIdeal.Read.val_main_call1_v0 Cert.ReferenceDecayIdeal.Read.val_main_v27 Cert.ReferenceDecayIdeal.Read.val_main_v26 Cert.ReferenceDecayIdeal.Read.val_main_v25 Cert.ReferenceDecayIdeal.Read.val_main_v24 Cert.ReferenceDecayIdeal.Read.val_main_v19 Cert.ReferenceDecayIdeal.Read.val_main_v18
  generalize Cert.ReferenceDecayIdeal.Read.val_main_v23 (F := Ideal) h w = q
  pointwise [Cert.ReferenceDecayIdeal.Read.val_main_call1_cst, Cert.ReferenceDecayIdeal.Read.val_main_cst_0]
  simp only [ne_eq, not_true_eq_false, if_false]
  rfl

/-- The reference at one element. -/
theorem ref_apply (h : Vec Ideal S17408x768 .bf16) (w : Vec Ideal S2x96x2048 .f32) (b : Vec Ideal S2x2048 .f32) (r : Fin 17408) (n : Fin 4096) :
    Cert.ReferenceDecayIdeal.Read.val_main_v34 (F := Ideal) h w b (ix2 r n)
      = close (b (ix2 ⟨n.val / 2048, by omega⟩ ⟨n.val % 2048, by omega⟩)
          + prod h w r ⟨n.val / 2048, by omega⟩ ⟨n.val % 2048, by omega⟩) := by
  have h0 := ref_dir0 h w b
  have h1 := ref_dir1 h w b
  unfold Cert.ReferenceDecayIdeal.Read.val_main_v34
  generalize Cert.ReferenceDecayIdeal.Read.val_main_v17 (F := Ideal) h w b = q0 at h0 ⊢
  generalize Cert.ReferenceDecayIdeal.Read.val_main_v33 (F := Ideal) h w b = q1 at h1 ⊢
  pointwise []
  have hn' := n.isLt
  by_cases hn : n.val < 2048
  · rw [dif_pos hn, h0]
    have e : (⟨n.val / 2048, by omega⟩ : Fin 2) = 0 := Fin.ext (by show n.val / 2048 = 0; omega)
    have e' : (⟨n.val % 2048, by omega⟩ : Fin 2048) = ⟨n.val, hn⟩ := Fin.ext (by show n.val % 2048 = n.val; omega)
    rw [e, e']
  · rw [dif_neg hn, h1]
    have e : (⟨n.val / 2048, by omega⟩ : Fin 2) = 1 := Fin.ext (by show n.val / 2048 = 1; omega)
    have e' : (⟨n.val % 2048, by omega⟩ : Fin 2048) = ⟨n.val - 2048, by omega⟩ := Fin.ext (by show n.val % 2048 = n.val - 2048; omega)
    rw [e, e']

/-- The reference's result, on the kernel's arguments, is the kernel's result array. -/
theorem result_eq (m : (ℓ : Loc nD τ sig) → Buf (Elt Ideal) ℓ) (c : Dev nD) :
    Cert.ReferenceDecayIdeal.Read.val_main_v34 (F := Ideal) (argH m c) (argW m c) (argB m c) = G m c := by
  funext u
  idx_vars u
  exact (ref_apply (argH m c) (argW m c) (argB m c) u0 u1).trans (G_apply m c u0 u1).symm

theorem frame_reference : Cert.quiescent_ReferenceDecayIdeal := fun m ρ _ =>
  (θ_run Cert.ReferenceDecayIdeal.defs _ _).mono
    (fun r h => ⟨fun c => ⟨(h c).2.1, (h c).2.2⟩,
      Idealize.ShloMosaic.sem_eq_zero_of_no_sems (by decide) r.2⟩)
    (Cert.ReferenceDecayIdeal.Value.run (F := Ideal) m ρ)

theorem algebraic : Cert.algebraic_KernelDecayIdeal_ReferenceDecayIdeal := by
  intro m ρ m' ρ' _ hagree
  refine ⟨fun c => G m c, ?_, ?_⟩
  · exact (θ_run Cert.KernelDecayIdeal.defs _ _).mono (fun r h c => ⟨(h c).1.trans (final m c), (h c).2⟩)
      (Cert.KernelDecayIdeal.Value.run_blocks m ρ)
  · refine (θ_run Cert.ReferenceDecayIdeal.defs _ _).mono (fun r h c => ⟨(h c).1.trans ?_, (h c).2⟩)
      (Cert.ReferenceDecayIdeal.Value.run (F := Ideal) m' ρ')
    rw [Cert.ReferenceDecayIdeal.Read.val_main_v34_eq]
    obtain ⟨e0, e1, e2⟩ := hagree c
    rw [e0, e1, e2]
    exact result_eq m c

end Cert.Decay

end
-- ==== Proof.IclrBlock.lean ====
module

public import proofs.«01_k».proof.Proof.Gen.KernelIclrIdeal.Value
public import proofs.«01_k».proof.Proof.Rows
public import proofs.«01_k».proof.Proof.TwoDir

/-! What one grid point of the second projection of the in-context learning rate computes: its rows' hidden lanes times a block of weights, the
bias added, and the closing function. -/

@[expose] public section

set_option maxRecDepth 16384

noncomputable section

namespace Cert.Iclr

open Idealize.ShloMosaic Idealize.ShloMosaic.TcCoe Idealize.SL.Sem Cert.KernelIclrIdeal Cert.KernelIclrIdeal.Gen Cert.Rows

/-- The closing function: the logistic. -/
def close (x : EReal) : EReal := Ideal.div 1 (1 + Ideal.exp (-x))

/-- The result block of one grid point, entry by entry. -/
def outB (a : Vec Ideal S1024x256 .bf16) (w : Vec Ideal S256x512 .bf16) (b : Vec Ideal S1x512 .f32) (i : Fin 1024) (j : Fin 512) : EReal :=
  close (b (ix2 0 j) + ∑ k : Fin 256, a (ix2 i k) * w (ix2 k j))

theorem pay1_apply (a : Vec Ideal S1024x256 .bf16) (w : Vec Ideal S256x512 .bf16) (b : Vec Ideal S1x512 .f32) (i : Fin 1024) (j : Fin 512) :
    k0_pay1 (F := Ideal) a w b (ix2 i j) = outB a w b i j := by
  unfold outB close
  pointwise [k0_pay1]
  rfl

theorem out_apply (a : Vec Ideal S1024x256 .bf16) (w : Vec Ideal S256x512 .bf16) (b : Vec Ideal S1x512 .f32) (i : Fin 1024) (j : Fin 512) :
    out0_3 (F := Ideal) a w b (ix2 i j) = outB a w b i j := by
  unfold out0_3
  rw [View.canon_unit_zero hz, View.ld_unit_zero (S := S1024x256) hz, View.ld_unit_zero (S := S256x512) hz, View.ld_unit_zero (S := S1x512) hz]
  exact pay1_apply a w b i j

end Cert.Iclr

end
-- ==== Proof.IclrArray.lean ====
module

public import proofs.«01_k».proof.Proof.IclrBlock
public import Idealize.ShloMosaic.Lib.StableHlo.ReadAt

/-! The result array of the second projection of the in-context learning rate as one function of the arguments. -/

@[expose] public section

set_option maxRecDepth 16384

noncomputable section

namespace Cert.Iclr

open Idealize.ShloMosaic Idealize.ShloMosaic.TcCoe Idealize.SL.Sem Cert.KernelIclrIdeal Cert.KernelIclrIdeal.Gen Cert.Rows Cert.TwoDir
open Idealize.ShloMosaic.Routing

/-- Where each window's block lies at a grid point. -/
theorem index0 : ∀ t : Fin grid0.N, win0_0.index t = ![t.val / 8, 2] := by decide +kernel
theorem index1 : ∀ t : Fin grid0.N, win0_1.index t = ![0, t.val % 8] := by decide +kernel
theorem index2 : ∀ t : Fin grid0.N, win0_2.index t = ![0, t.val % 8] := by decide +kernel
theorem index3 : ∀ t : Fin grid0.N, win0_3.index t = ![t.val / 8, t.val % 8] := by decide +kernel

theorem t_lt (t : Fin grid0.N) : t.val < 136 := by have h := t.isLt; simpa only [Gen.N_0] using h

/-- The array index of a block index, window by window. -/
theorem emb0 (t : Fin grid0.N) (i : Fin 1024) (k : Fin 256) :
    (win0_0.blk t).view.emb (ix2 i k) = (ix2 ⟨t.val / 8 * 1024 + i.val, by have := t_lt t; omega⟩ ⟨512 + k.val, by omega⟩ : S17408x768.Idx) := by
  funext a; apply Fin.ext
  have h := congrFun (index0 t)
  match a with
  | ⟨0, _⟩ => show win0_0.index t 0 * 1024 + 1 * i.val = _; rw [h 0]; show t.val / 8 * 1024 + 1 * i.val = t.val / 8 * 1024 + i.val; omega
  | ⟨1, _⟩ => show win0_0.index t 1 * 256 + 1 * k.val = _; rw [h 1]; show 2 * 256 + 1 * k.val = 512 + k.val; omega

theorem emb1 (t : Fin grid0.N) (i : Fin 256) (k : Fin 512) :
    (win0_1.blk t).view.emb (ix2 i k) = (ix2 i ⟨t.val % 8 * 512 + k.val, by have := t_lt t; omega⟩ : S256x4096.Idx) := by
  funext a; apply Fin.ext
  have h := congrFun (index1 t)
  match a with
  | ⟨0, _⟩ => show win0_1.index t 0 * 256 + 1 * i.val = _; rw [h 0]; show 0 * 256 + 1 * i.val = i.val; omega
  | ⟨1, _⟩ => show win0_1.index t 1 * 512 + 1 * k.val = _; rw [h 1]; show t.val % 8 * 512 + 1 * k.val = t.val % 8 * 512 + k.val; omega

theorem emb2 (t : Fin grid0.N) (i : Fin 1) (k : Fin 512) :
    (win0_2.blk t).view.emb (ix2 i k) = (ix2 i ⟨t.val % 8 * 512 + k.val, by have := t_lt t; omega⟩ : S1x4096.Idx) := by
  funext a; apply Fin.ext
  have h := congrFun (index2 t)
  match a with
  | ⟨0, _⟩ => show win0_2.index t 0 * 1 + 1 * i.val = _; rw [h 0]; show 0 * 1 + 1 * i.val = i.val; omega
  | ⟨1, _⟩ => show win0_2.index t 1 * 512 + 1 * k.val = _; rw [h 1]; show t.val % 8 * 512 + 1 * k.val = t.val % 8 * 512 + k.val; omega

theorem emb3 (t : Fin grid0.N) (i : Fin 1024) (k : Fin 512) :
    (win0_3.blk t).view.emb (ix2 i k) = (ix2 ⟨t.val / 8 * 1024 + i.val, by have := t_lt t; omega⟩ ⟨t.val % 8 * 512 + k.val, by have := t_lt t; omega⟩ : S17408x4096.Idx) := by
  funext a; apply Fin.ext
  have h := congrFun (index3 t)
  match a with
  | ⟨0, _⟩ => show win0_3.index t 0 * 1024 + 1 * i.val = _; rw [h 0]; show t.val / 8 * 1024 + 1 * i.val = t.val / 8 * 1024 + i.val; omega
  | ⟨1, _⟩ => show win0_3.index t 1 * 512 + 1 * k.val = _; rw [h 1]; show t.val % 8 * 512 + 1 * k.val = t.val % 8 * 512 + k.val; omega

/-- The result at row `r`, lane `n`, from the arrays the kernel is launched on. -/
def outA (h : Vec Ideal S17408x768 .bf16) (w : Vec Ideal S256x4096 .bf16) (b : Vec Ideal S1x4096 .f32) (r : Fin 17408) (n : Fin 4096) : EReal :=
  close (b (ix2 0 n) + ∑ k : Fin 256, h (ix2 r ⟨512 + k.val, by omega⟩) * w (ix2 k n))

/-- The whole result array. -/
def whole (h : Vec Ideal S17408x768 .bf16) (w : Vec Ideal S256x4096 .bf16) (b : Vec Ideal S1x4096 .f32) : Vec Ideal S17408x4096 .f32 :=
  fun u => outA h w b (u 0) (u 1)

/-- What a grid point writes back, for any three arrays. -/
theorem read_whole (t : Fin cfg0.N) (h : Vec Ideal S17408x768 .bf16) (w : Vec Ideal S256x4096 .bf16) (b : Vec Ideal S1x4096 .f32)
    (o : Vec Ideal S1024x512 .f32)
    (ho : ∀ (i : Fin 1024) (j : Fin 512), o (ix2 i j)
      = outB ((win0_0.blk t).view.read (Elt Ideal) h) ((win0_1.blk t).view.read (Elt Ideal) w) ((win0_2.blk t).view.read (Elt Ideal) b) i j) :
    o = (win0_3.blk t).view.read (Elt Ideal) (whole h w b) := by
  funext y
  have key : ∀ y : S1024x512.Idx, o y = whole h w b ((win0_3.blk t).view.emb y) := by
    intro y
    idx_vars y
    rw [ho, emb3]
    show _ = outA h w b ⟨t.val / 8 * 1024 + y0.val, _⟩ ⟨t.val % 8 * 512 + y1.val, _⟩
    unfold outB outA
    refine congrArg close (congrArg₂ (· + ·) (congrArg b (emb2 t 0 y1)) ?_)
    exact Finset.sum_congr rfl fun k _ => congrArg₂ (· * ·) (congrArg h (emb0 t y0 k)) (congrArg w (emb1 t k y1))
  exact key y

variable (m : (ℓ : Loc nD τ sig) → Buf (Elt Ideal) ℓ)

/-- The arrays of hidden lanes, weights and biases the kernel is launched on. -/
def arrH (c : Dev nD) : Vec Ideal S17408x768 .bf16 := V m c main_arg0
def arrW (c : Dev nD) : Vec Ideal S256x4096 .bf16 := V m c main_v13
def arrB (c : Dev nD) : Vec Ideal S1x4096 .f32 := V m c main_v14

/-- The three arguments. -/
def argH (c : Dev nD) : Vec Ideal S17408x768 .bf16 := m ((c.tc : Thread nD τ).loc main_arg0)
def argW (c : Dev nD) : Vec Ideal S2x96x2048 .f32 := m ((c.tc : Thread nD τ).loc main_arg1)
def argB (c : Dev nD) : Vec Ideal S2x2048 .f32 := m ((c.tc : Thread nD τ).loc main_arg2)

/-- The weights laid out for both directions, read at an entry. -/
theorem laid (W : Vec Ideal S2x96x2048 .f32) (x : Vec Ideal S256x4096 .f32) (hx : ∀ k n, x (ix2 k n) = 0) (i0 i1 : IVec S2 32)
    (h00 : i0 (ix1 0) = 0#32) (h01 : i0 (ix1 1) = 0#32) (h10 : i1 (ix1 0) = 96#32) (h11 : i1 (ix1 1) = 2048#32)
    (u0 u1 : Vec Ideal S96x2048 .f32) (e0 : ∀ a b, u0 (ix2 a b) = W (ix3 0 a b)) (e1 : ∀ a b, u1 (ix2 a b) = W (ix3 1 a b))
    (k : Fin 256) (n : Fin 4096) :
    Host.scatter scatter_S256x4096_S2_S96x2048_01_n_01_0 (fun _ b => b)
      (Host.scatter scatter_S256x4096_S2_S96x2048_01_n_01_0 (fun _ b => b) x i0 u0) i1 u1 (ix2 k n)
      = entry (fun d a b => W (ix3 d a b)) k.val n.val :=
  two_blocks scatter_S256x4096_S2_S96x2048_01_n_01_0 rfl rfl rfl rfl x hx i0 i1 h00 h01 h10 h11 u0 u1 (fun d a b => W (ix3 d a b)) e0 e1 k n

theorem arrW_apply (c : Dev nD) (k : Fin 256) (n : Fin 4096) : arrW m c (ix2 k n) = entry (fun d a b => argW m c (ix3 d a b)) k.val n.val := by
  unfold arrW V
  after_reads_at
  refine laid (argW m c) _ ?_ _ _ ?_ ?_ ?_ ?_ _ _ ?_ ?_ k n
  · intro k n
    pointwise []
  · pointwise []
    after_reads_at
  · pointwise []
    after_reads_at
  · pointwise []
    after_reads_at
  · pointwise []
    after_reads_at
  · intro a b
    pointwise []
    rfl
  · intro a b
    pointwise []
    rfl

theorem arrB_apply (c : Dev nD) (n : Fin 4096) : arrB m c (ix2 0 n) = argB m c (ix2 ⟨n.val / 2048, by omega⟩ ⟨n.val % 2048, by omega⟩) := by
  unfold arrB V
  after_reads_at
  pointwise []
  rfl

/-- The result array. -/
def G (c : Dev nD) : Buf (Elt Ideal) ((c : Thread nD τ).loc main_v15) := whole (arrH m c) (arrW m c) (arrB m c)

/-- What a grid point writes back is its block of the whole array. -/
theorem flushed_eq (c : Dev nD) (t : Fin cfg0.N) :
    (dats m 0 c).flushed 3 t = (win0_3.blk t).view.read (Elt Ideal) (G m c) := by
  rw [Value.flushed3 m c t]
  exact read_whole t (arrH m c) (arrW m c) (arrB m c) _ fun i j => out_apply _ _ _ i j

/-- Every entry lies in some grid point's block. -/
theorem cover (i : S17408x4096.Idx) :
    ∃ t : Fin cfg0.N, (cfg0.win 3).flush t = true ∧ i ∈ ((cfg0.win 3).blk t).view.set := by
  have h0 : (i 0 : Nat) < 17408 := (i 0).isLt
  have h1 : (i 1 : Nat) < 4096 := (i 1).isLt
  refine ⟨⟨(i 0 : Nat) / 1024 * 8 + (i 1 : Nat) / 512, by show _ < grid0.N; rw [Gen.N_0]; omega⟩, flush0_3 _, ?_⟩
  generalize ht : (⟨(i 0 : Nat) / 1024 * 8 + (i 1 : Nat) / 512, by show _ < grid0.N; rw [Gen.N_0]; omega⟩ : Fin grid0.N) = t
  have hv : t.val = (i 0 : Nat) / 1024 * 8 + (i 1 : Nat) / 512 := by rw [← ht]
  show i ∈ ((View.whole main_v15).slice (win0_3.rect t)).set
  rw [View.set_slice_whole, Rect.mem_set_unit]
  have h := congrFun (index3 t)
  intro a
  match a with
  | ⟨0, _⟩ => show win0_3.index t 0 * 1024 ≤ (i 0 : Nat) ∧ (i 0 : Nat) < win0_3.index t 0 * 1024 + 1024
              rw [h 0]; show t.val / 8 * 1024 ≤ (i 0 : Nat) ∧ (i 0 : Nat) < t.val / 8 * 1024 + 1024; omega
  | ⟨1, _⟩ => show win0_3.index t 1 * 512 ≤ (i 1 : Nat) ∧ (i 1 : Nat) < win0_3.index t 1 * 512 + 512
              rw [h 1]; show t.val % 8 * 512 ≤ (i 1 : Nat) ∧ (i 1 : Nat) < t.val % 8 * 512 + 512; omega

/-- So the result array ends as the whole function. -/
theorem final (c : Dev nD) : (dats m 0 c).arrAt 3 cfg0.N = G m c :=
  (dats m 0 c).arrAt_eq_of_cover 3 (G m c) (fun t _ => flushed_eq m c t) cover

/-- A direction's product: its own 96 hidden lanes times its weights. -/
def prod (h : Vec Ideal S17408x768 .bf16) (w : Vec Ideal S2x96x2048 .f32) (r : Fin 17408) (d : Fin 2) (l : Fin 2048) : EReal :=
  ∑ j : Fin 96, h (ix2 r ⟨512 + d.val * 96 + j.val, by omega⟩) * w (ix3 d j l)

/-- The result at a row and a lane, from the arguments. -/
theorem G_apply (c : Dev nD) (r : Fin 17408) (n : Fin 4096) :
    G m c (ix2 r n) = close (argB m c (ix2 ⟨n.val / 2048, by omega⟩ ⟨n.val % 2048, by omega⟩)
      + prod (argH m c) (argW m c) r ⟨n.val / 2048, by omega⟩ ⟨n.val % 2048, by omega⟩) := by
  have hH : arrH m c = argH m c := V_main_arg0 m c
  show outA (arrH m c) (arrW m c) (arrB m c) r n = _
  unfold outA prod
  rw [hH, arrB_apply]
  have hn := n.isLt
  refine congrArg (fun s => close (_ + s)) ?_
  let f : Nat → EReal := fun k => if h : 512 + k < 768 then argH m c (ix2 r ⟨512 + k, h⟩) else 0
  have e : ∀ k (h : 512 + k < 768), argH m c (ix2 r ⟨512 + k, h⟩) = f k := by
    intro k h
    show _ = if h : _ then _ else _
    rw [dif_pos h]
  refine Eq.trans (Finset.sum_congr rfl fun k _ => congrArg₂ (· * ·) (e k.val (by omega)) (arrW_apply m c k n)) ?_
  refine (sum_entry f (fun d a b => argW m c (ix3 d a b)) n).trans ?_
  refine Finset.sum_congr rfl fun j _ => congrArg (· * _) ?_
  refine (e (n.val / 2048 * 96 + j.val) (by omega)).symm.trans ?_
  exact congrArg (fun l => argH m c (ix2 r l)) (Fin.ext (by show 512 + (n.val / 2048 * 96 + j.val) = 512 + n.val / 2048 * 96 + j.val; omega))

end Cert.Iclr

end
-- ==== Proof.IclrClaims.lean ====
module

public import proofs.«01_k».proof.Defs
public import proofs.«01_k».proof.Proof.Gen.KernelIclr.Frame
public import proofs.«01_k».proof.Proof.Gen.ReferenceIclrIdeal.Read
public import proofs.«01_k».proof.Proof.IclrArray
public import Idealize.ShloMosaic.Adequacy
public import Idealize.ShloMosaic.Init

/-! The claims about the second projection of the in-context learning rate. -/

@[expose] public section

set_option maxRecDepth 16384

noncomputable section

namespace Cert.Iclr

open Idealize.ShloMosaic Idealize.ShloMosaic.TcCoe Idealize.SL.Sem Cert.KernelIclrIdeal

/-- A direction's product in the reference. -/
theorem ref_prod0 (h : Vec Ideal S17408x768 .bf16) (w : Vec Ideal S2x96x2048 .f32) (r : Fin 17408) (l : Fin 2048) :
    Cert.ReferenceIclrIdeal.Read.val_main_v7 (F := Ideal) h w (ix2 r l) = prod h w r 0 l := by
  unfold prod
  pointwise [Cert.ReferenceIclrIdeal.Read.val_main_v7, Cert.ReferenceIclrIdeal.Read.val_main_v4, Cert.ReferenceIclrIdeal.Read.val_main_v6, Cert.ReferenceIclrIdeal.Read.val_main_v5, Cert.ReferenceIclrIdeal.Read.val_main_v1, Cert.ReferenceIclrIdeal.Read.val_main_v0]

theorem ref_prod1 (h : Vec Ideal S17408x768 .bf16) (w : Vec Ideal S2x96x2048 .f32) (r : Fin 17408) (l : Fin 2048) :
    Cert.ReferenceIclrIdeal.Read.val_main_v22 (F := Ideal) h w (ix2 r l) = prod h w r 1 l := by
  unfold prod
  pointwise [Cert.ReferenceIclrIdeal.Read.val_main_v22, Cert.ReferenceIclrIdeal.Read.val_main_v19, Cert.ReferenceIclrIdeal.Read.val_main_v21, Cert.ReferenceIclrIdeal.Read.val_main_v20, Cert.ReferenceIclrIdeal.Read.val_main_v1, Cert.ReferenceIclrIdeal.Read.val_main_v0]
  exact Finset.sum_congr rfl fun j _ => congrArg (fun l => h (ix2 r l) * w (ix3 1 j _)) (Fin.ext (by show 512 + (96 + j.val) = 608 + j.val; omega))

/-- The reference at one element. -/
theorem ref_apply (h : Vec Ideal S17408x768 .bf16) (w : Vec Ideal S2x96x2048 .f32) (b : Vec Ideal S2x2048 .f32) (r : Fin 17408) (n : Fin 4096) :
    Cert.ReferenceIclrIdeal.Read.val_main_v32 (F := Ideal) h w b (ix2 r n)
      = close (b (ix2 ⟨n.val / 2048, by omega⟩ ⟨n.val % 2048, by omega⟩)
          + prod h w r ⟨n.val / 2048, by omega⟩ ⟨n.val % 2048, by omega⟩) := by
  have h0 := ref_prod0 h w
  have h1 := ref_prod1 h w
  unfold Cert.ReferenceIclrIdeal.Read.val_main_v32 Cert.ReferenceIclrIdeal.Read.val_main_v16 Cert.ReferenceIclrIdeal.Read.val_main_v31 Cert.ReferenceIclrIdeal.Read.val_main_v14 Cert.ReferenceIclrIdeal.Read.val_main_v29 Cert.ReferenceIclrIdeal.Read.val_main_v15 Cert.ReferenceIclrIdeal.Read.val_main_v30 Cert.ReferenceIclrIdeal.Read.val_main_v13 Cert.ReferenceIclrIdeal.Read.val_main_v28 Cert.ReferenceIclrIdeal.Read.val_main_v12 Cert.ReferenceIclrIdeal.Read.val_main_v27 Cert.ReferenceIclrIdeal.Read.val_main_v11 Cert.ReferenceIclrIdeal.Read.val_main_v26 Cert.ReferenceIclrIdeal.Read.val_main_v10 Cert.ReferenceIclrIdeal.Read.val_main_v25 Cert.ReferenceIclrIdeal.Read.val_main_v9 Cert.ReferenceIclrIdeal.Read.val_main_v24 Cert.ReferenceIclrIdeal.Read.val_main_v8 Cert.ReferenceIclrIdeal.Read.val_main_v23 Cert.ReferenceIclrIdeal.Read.val_main_v3 Cert.ReferenceIclrIdeal.Read.val_main_v18 Cert.ReferenceIclrIdeal.Read.val_main_v2 Cert.ReferenceIclrIdeal.Read.val_main_v17
  generalize Cert.ReferenceIclrIdeal.Read.val_main_v7 (F := Ideal) h w = q0 at h0 ⊢
  generalize Cert.ReferenceIclrIdeal.Read.val_main_v22 (F := Ideal) h w = q1 at h1 ⊢
  pointwise [Cert.ReferenceIclrIdeal.Read.val_main_cst, Cert.ReferenceIclrIdeal.Read.val_main_cst_0, Cert.ReferenceIclrIdeal.Read.val_main_cst_1, Cert.ReferenceIclrIdeal.Read.val_main_cst_2]
  have hn' := n.isLt
  by_cases hn : n.val < 2048
  · rw [dif_pos hn, h0]
    have e : (⟨n.val / 2048, by omega⟩ : Fin 2) = 0 := Fin.ext (by show n.val / 2048 = 0; omega)
    have e' : (⟨n.val % 2048, by omega⟩ : Fin 2048) = ⟨n.val, hn⟩ := Fin.ext (by show n.val % 2048 = n.val; omega)
    rw [e, e']
    rfl
  · rw [dif_neg hn, h1]
    have e : (⟨n.val / 2048, by omega⟩ : Fin 2) = 1 := Fin.ext (by show n.val / 2048 = 1; omega)
    have e' : (⟨n.val % 2048, by omega⟩ : Fin 2048) = ⟨n.val - 2048, by omega⟩ := Fin.ext (by show n.val % 2048 = n.val - 2048; omega)
    rw [e, e']
    rfl

/-- The reference's result, on the kernel's arguments, is the kernel's result array. -/
theorem result_eq (m : (ℓ : Loc nD τ sig) → Buf (Elt Ideal) ℓ) (c : Dev nD) :
    Cert.ReferenceIclrIdeal.Read.val_main_v32 (F := Ideal) (argH m c) (argW m c) (argB m c) = G m c := by
  funext u
  idx_vars u
  exact (ref_apply (argH m c) (argW m c) (argB m c) u0 u1).trans (G_apply m c u0 u1).symm

theorem frame_reference : Cert.quiescent_ReferenceIclrIdeal := fun m ρ _ =>
  (θ_run Cert.ReferenceIclrIdeal.defs _ _).mono
    (fun r h => ⟨fun c => ⟨(h c).2.1, (h c).2.2⟩,
      Idealize.ShloMosaic.sem_eq_zero_of_no_sems (by decide) r.2⟩)
    (Cert.ReferenceIclrIdeal.Value.run (F := Ideal) m ρ)

theorem algebraic : Cert.algebraic_KernelIclrIdeal_ReferenceIclrIdeal := by
  intro m ρ m' ρ' _ hagree
  refine ⟨fun c => G m c, ?_, ?_⟩
  · exact (θ_run Cert.KernelIclrIdeal.defs _ _).mono (fun r h c => ⟨(h c).1.trans (final m c), (h c).2⟩)
      (Cert.KernelIclrIdeal.Value.run_blocks m ρ)
  · refine (θ_run Cert.ReferenceIclrIdeal.defs _ _).mono (fun r h c => ⟨(h c).1.trans ?_, (h c).2⟩)
      (Cert.ReferenceIclrIdeal.Value.run (F := Ideal) m' ρ')
    rw [Cert.ReferenceIclrIdeal.Read.val_main_v32_eq]
    obtain ⟨e0, e1, e2⟩ := hagree c
    rw [e0, e1, e2]
    exact result_eq m c

end Cert.Iclr

end
-- ==== Proof.LoraBlock.lean ====
module

public import proofs.«01_k».proof.Proof.Gen.KernelLoraIdeal.Value
public import proofs.«01_k».proof.Proof.Rows
public import Idealize.ShloMosaic.Lib.Pointwise

/-! What one grid point of the low-rank pairs' first projection computes: the rows mixed with the group's row of factors, times a
block of weights, and the group's activation. -/

@[expose] public section

set_option maxRecDepth 16384

noncomputable section

namespace Cert.Lora

open Idealize.ShloMosaic Idealize.ShloMosaic.TcCoe Idealize.SL.Sem Cert.KernelLoraIdeal Cert.KernelLoraIdeal.Gen Cert.Rows

/-- The row of factors the kernel reads, by the group of lanes. -/
theorem mu_off : ∀ t : Fin grid0.N, k0_off1 (grid0.coords t) = ![t.val % 3, 0] := by decide +kernel

/-- The group is the grid's second coordinate. -/
theorem group_coord : ∀ t : Fin grid0.N, ((grid0.coords t) 1).val = t.val % 3 := by decide +kernel

/-- The rows mixed: each row with its difference, scaled by a row of factors. -/
def mix (r : Fin 8) (h x : Vec Ideal S1024x2048 .f32) (mu : Vec Ideal S8x2048 .f32) : Vec Ideal S1024x2048 .bf16 := fun u =>
  h (ix2 (u 0) (u 1)) + x (ix2 (u 0) (u 1)) * mu (ix2 r (u 1))

/-- The group of lanes of a grid point. -/
abbrev group (t : Fin grid0.N) : Fin 8 := ⟨t.val % 3, by omega⟩

/-- The activation of a group: the logistic, the hyperbolic tangent, and none. -/
def act (g : Nat) (x : EReal) : EReal := if g = 0 then Ideal.div 1 (1 + Ideal.exp (-x)) else if g = 1 then Ideal.tanh x else x

/-- The result block of one grid point, entry by entry, from the mixed rows and a block of weights. -/
def outB (g : Nat) (s : Vec Ideal S1024x2048 .bf16) (w : Vec Ideal S2048x256 .bf16) (i : Fin 1024) (j : Fin 256) : EReal :=
  act g (∑ k : Fin 2048, s (ix2 i k) * w (ix2 k j))

theorem pay1_apply (h x : Vec Ideal S1024x2048 .f32) (mu : Vec Ideal S1x2048 .f32) (i : Fin 1024) (k : Fin 2048) :
    k0_pay1 (F := Ideal) h x mu (ix2 i k) = h (ix2 i k) + x (ix2 i k) * mu (ix2 0 k) := by
  pointwise [k0_pay1]

/-- The choice among the three activations. -/
theorem chosen (a : grid0.Coords) (g : Nat) (ha : (a 1).val = g) (hg : g < 3) (x : EReal) :
    Scalar.select (Scalar.cmpi .eq (BitVec.ofNat 32 (a 1).val) 0#32) (Ideal.logistic x)
      (Scalar.select (Scalar.cmpi .eq (BitVec.ofNat 32 (a 1).val) 1#32) (Ideal.tanh x) x) = act g x := by
  rw [ha]
  unfold act
  match g, hg with
  | 0, _ => rfl
  | 1, _ => rfl
  | 2, _ => rfl

theorem pay2_apply (a : grid0.Coords) (g : Nat) (ha : (a 1).val = g) (hg : g < 3) (s : Vec Ideal S1024x2048 .bf16) (w : Vec Ideal S2048x256 .bf16)
    (i : Fin 1024) (j : Fin 256) : k0_pay2 (F := Ideal) a s w (ix2 i j) = outB g s w i j := by
  unfold outB
  rw [← chosen a g ha hg]
  unfold k0_pay2
  dsimp only
  generalize Scalar.cmpi .eq (BitVec.ofNat 32 (a 1).val) 0#32 = p
  generalize Scalar.cmpi .eq (BitVec.ofNat 32 (a 1).val) 1#32 = q
  pointwise []

/-- A row of factors loaded at a computed offset. -/
theorem mu_ld (g : Vec Ideal S8x2048 .f32) (o : Fin 2 → Nat) (h : ∀ a, o a + S1x2048.size a ≤ S8x2048.size a)
    (r : Fin 8) (ho : o = ![r.val, 0]) (j : Fin 2048) : View.ld g (Rect.unit o S1x2048.size h) (ix2 0 j) = g (ix2 r j) := by
  subst ho
  refine congrArg g (funext fun a => Fin.ext ?_)
  match a with
  | ⟨0, _⟩ => show r.val + 1 * 0 = r.val; omega
  | ⟨1, _⟩ => show 0 + 1 * j.val = j.val; omega

theorem pay1_mix (t : Fin grid0.N) (h x : Vec Ideal S1024x2048 .f32) (mu : Vec Ideal S8x2048 .f32)
    (hb : ∀ a, k0_off1 (grid0.coords t) a + S1x2048.size a ≤ S8x2048.size a) :
    k0_pay1 (F := Ideal) h x (View.ld mu (Rect.unit (s := S8x2048) (k0_off1 (grid0.coords t)) S1x2048.size hb)) = mix (group t) h x mu := by
  funext u
  idx_vars u
  rw [pay1_apply, mu_ld mu _ hb (group t) (mu_off t)]
  rfl

/-- The one stretch the mixed rows are stored in. -/
abbrev mixedPiece (s : Vec Ideal S1024x2048 .bf16) : List (View.Piece (Elt Ideal) S1024x2048 .bf16) :=
  [⟨Rect.unit (s := S1024x2048) ![0, 0] S1024x2048.size inb_S1024x2048_S1024x2048_0_0, s⟩]

theorem out_A (c : Dev nD) (t : Fin cfg0.N) (hc : cond0_0 (grid0.coords t)) (x0 x1 : Vec Ideal S1024x2048 .f32)
    (x2 : Vec Ideal S8x2048 .f32) (x3 : Vec Ideal S2048x256 .bf16) (i : Fin 1024) (j : Fin 256) :
    out0_A_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) hc
      x0 x1 x2 x3 (ix2 i j) = outB (t.val % 3) (mix (group t) x0 x1 x2) x3 i j := by
  unfold out0_A_4
  rw [View.read_writes_eq_canon _ _ _ (cover0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) hc x0 x1 x2 x3)]
  unfold kernelRun0_A
  dsimp only
  sl_unfold_run_names
  rw [View.canon_unit_zero hz]
  simp only [View.readAt_eq_ld, (hs0_0 t).read_unread, (hs0_1 t).read_unread, (hs0_2 t).read_unread, (hs0_3 t).read_unread]
  simp only [View.ld_unit_zero (S := S1024x2048) hz, View.ld_unit_zero (S := S2048x256) hz]
  simp only [pay1_mix]
  have hk : scM0_0.view.readCov (mixedPiece (mix (group t) x0 x1 x2)) (Rect.unit (s := S1024x2048) ![0, 0] S1024x2048.size inb_S1024x2048_S1024x2048_0_0).toLoadRect
      = mix (group t) x0 x1 x2 := by
    refine (View.readCov_eq_canon' _ _ _).trans ?_
    refine (View.ld_unit_zero (S := S1024x2048) hz _ _).trans ?_
    exact View.canon_unit_zero hz _ _
  rw [hk]
  exact pay2_apply _ _ (group_coord t) (Nat.mod_lt _ (by decide)) _ x3 i j

end Cert.Lora

end
-- ==== Proof.LoraArray.lean ====
module

public import proofs.«01_k».proof.Proof.LoraBlock
public import proofs.«01_k».proof.Proof.Top
public import Idealize.ShloMosaic.Lib.StableHlo.ReadAt

/-! The result array of the low-rank pairs' first projection as one function of the arguments. -/

@[expose] public section

set_option maxRecDepth 16384

noncomputable section

namespace Cert.Lora

open Idealize.ShloMosaic Idealize.ShloMosaic.TcCoe Idealize.SL.Sem Cert.KernelLoraIdeal Cert.KernelLoraIdeal.Gen Cert.Rows

/-- Where each window's block lies at a grid point. -/
theorem index0 : ∀ t : Fin grid0.N, win0_0.index t = ![t.val / 3, 0] := by decide +kernel
theorem index1 : ∀ t : Fin grid0.N, win0_1.index t = ![t.val / 3, 0] := by decide +kernel
theorem index2 : ∀ t : Fin grid0.N, win0_2.index t = ![0, 0] := by decide +kernel
theorem index3 : ∀ t : Fin grid0.N, win0_3.index t = ![0, t.val % 3] := by decide +kernel
theorem index4 : ∀ t : Fin grid0.N, win0_4.index t = ![t.val / 3, t.val % 3] := by decide +kernel

theorem t_lt (t : Fin grid0.N) : t.val < 51 := by have h := t.isLt; simpa only [Gen.N_0] using h

/-- The array index of a block index, window by window. -/
theorem emb0 (t : Fin grid0.N) (i : Fin 1024) (k : Fin 2048) :
    (win0_0.blk t).view.emb (ix2 i k) = (ix2 ⟨t.val / 3 * 1024 + i.val, by have := t_lt t; omega⟩ k : S17408x2048.Idx) := by
  funext a; apply Fin.ext
  have h := congrFun (index0 t)
  match a with
  | ⟨0, _⟩ => show win0_0.index t 0 * 1024 + 1 * i.val = _; rw [h 0]; show t.val / 3 * 1024 + 1 * i.val = t.val / 3 * 1024 + i.val; omega
  | ⟨1, _⟩ => show win0_0.index t 1 * 2048 + 1 * k.val = _; rw [h 1]; show 0 * 2048 + 1 * k.val = k.val; omega

theorem emb1 (t : Fin grid0.N) (i : Fin 1024) (k : Fin 2048) :
    (win0_1.blk t).view.emb (ix2 i k) = (ix2 ⟨t.val / 3 * 1024 + i.val, by have := t_lt t; omega⟩ k : S17408x2048.Idx) := by
  funext a; apply Fin.ext
  have h := congrFun (index1 t)
  match a with
  | ⟨0, _⟩ => show win0_1.index t 0 * 1024 + 1 * i.val = _; rw [h 0]; show t.val / 3 * 1024 + 1 * i.val = t.val / 3 * 1024 + i.val; omega
  | ⟨1, _⟩ => show win0_1.index t 1 * 2048 + 1 * k.val = _; rw [h 1]; show 0 * 2048 + 1 * k.val = k.val; omega

theorem emb2 (t : Fin grid0.N) (i : Fin 8) (k : Fin 2048) :
    (win0_2.blk t).view.emb (ix2 i k) = (ix2 i k : S8x2048.Idx) := by
  funext a; apply Fin.ext
  have h := congrFun (index2 t)
  match a with
  | ⟨0, _⟩ => show win0_2.index t 0 * 8 + 1 * i.val = _; rw [h 0]; show 0 * 8 + 1 * i.val = i.val; omega
  | ⟨1, _⟩ => show win0_2.index t 1 * 2048 + 1 * k.val = _; rw [h 1]; show 0 * 2048 + 1 * k.val = k.val; omega

theorem emb3 (t : Fin grid0.N) (i : Fin 2048) (k : Fin 256) :
    (win0_3.blk t).view.emb (ix2 i k) = (ix2 i ⟨t.val % 3 * 256 + k.val, by have := t_lt t; omega⟩ : S2048x768.Idx) := by
  funext a; apply Fin.ext
  have h := congrFun (index3 t)
  match a with
  | ⟨0, _⟩ => show win0_3.index t 0 * 2048 + 1 * i.val = _; rw [h 0]; show 0 * 2048 + 1 * i.val = i.val; omega
  | ⟨1, _⟩ => show win0_3.index t 1 * 256 + 1 * k.val = _; rw [h 1]; show t.val % 3 * 256 + 1 * k.val = t.val % 3 * 256 + k.val; omega

theorem emb4 (t : Fin grid0.N) (i : Fin 1024) (k : Fin 256) :
    (win0_4.blk t).view.emb (ix2 i k) = (ix2 ⟨t.val / 3 * 1024 + i.val, by have := t_lt t; omega⟩ ⟨t.val % 3 * 256 + k.val, by have := t_lt t; omega⟩ : S17408x768.Idx) := by
  funext a; apply Fin.ext
  have h := congrFun (index4 t)
  match a with
  | ⟨0, _⟩ => show win0_4.index t 0 * 1024 + 1 * i.val = _; rw [h 0]; show t.val / 3 * 1024 + 1 * i.val = t.val / 3 * 1024 + i.val; omega
  | ⟨1, _⟩ => show win0_4.index t 1 * 256 + 1 * k.val = _; rw [h 1]; show t.val % 3 * 256 + 1 * k.val = t.val % 3 * 256 + k.val; omega

/-- The mixed rows of a grid point's block. -/
def mixedAt (t : Fin grid0.N) (h x : Vec Ideal S17408x2048 .f32) (mu : Vec Ideal S8x2048 .f32) : Vec Ideal S1024x2048 .bf16 :=
  mix (group t) ((win0_0.blk t).view.read (Elt Ideal) h) ((win0_1.blk t).view.read (Elt Ideal) x) ((win0_2.blk t).view.read (Elt Ideal) mu)

theorem mixedAt_apply (t : Fin grid0.N) (h x : Vec Ideal S17408x2048 .f32) (mu : Vec Ideal S8x2048 .f32) (i : Fin 1024) (k : Fin 2048) :
    mixedAt t h x mu (ix2 i k) = h (ix2 ⟨t.val / 3 * 1024 + i.val, by have := t_lt t; omega⟩ k)
      + x (ix2 ⟨t.val / 3 * 1024 + i.val, by have := t_lt t; omega⟩ k) * mu (ix2 (group t) k) :=
  congrArg₂ (· + ·) (congrArg h (emb0 t i k)) (congrArg₂ (· * ·) (congrArg x (emb1 t i k)) (congrArg mu (emb2 t (group t) k)))

/-- The result at row `r`, lane `n`: the row mixed with its group's factors, times the weights, and the group's activation. -/
def outA (h x : Vec Ideal S17408x2048 .f32) (mu : Vec Ideal S8x2048 .f32) (w : Vec Ideal S2048x768 .bf16) (r : Fin 17408) (n : Fin 768) : EReal :=
  act (n.val / 256) (∑ k : Fin 2048, (h (ix2 r k) + x (ix2 r k) * mu (ix2 ⟨n.val / 256, by omega⟩ k)) * w (ix2 k n))

/-- The whole result array. -/
def whole (h x : Vec Ideal S17408x2048 .f32) (mu : Vec Ideal S8x2048 .f32) (w : Vec Ideal S2048x768 .bf16) : Vec Ideal S17408x768 .bf16 :=
  fun u => outA h x mu w (u 0) (u 1)

/-- What a grid point writes back, for any four arrays. -/
theorem read_whole (t : Fin cfg0.N) (h x : Vec Ideal S17408x2048 .f32) (mu : Vec Ideal S8x2048 .f32) (w : Vec Ideal S2048x768 .bf16)
    (o : Vec Ideal S1024x256 .bf16) (ho : ∀ (i : Fin 1024) (j : Fin 256), o (ix2 i j)
      = outB (t.val % 3) (mixedAt t h x mu) ((win0_3.blk t).view.read (Elt Ideal) w) i j) :
    o = (win0_4.blk t).view.read (Elt Ideal) (whole h x mu w) := by
  funext y
  have key : ∀ y : S1024x256.Idx, o y = whole h x mu w ((win0_4.blk t).view.emb y) := by
    intro y
    idx_vars y
    rw [ho, emb4]
    show _ = outA h x mu w ⟨t.val / 3 * 1024 + y0.val, _⟩ ⟨t.val % 3 * 256 + y1.val, _⟩
    unfold outB outA
    have hq : (t.val % 3 * 256 + y1.val) / 256 = t.val % 3 := by omega
    simp only [hq]
    refine congrArg (act _) ?_
    exact Finset.sum_congr rfl fun k _ => congrArg₂ (· * ·) (mixedAt_apply t h x mu y0 k) (congrArg w (emb3 t k y1))
  exact key y

variable (m : (ℓ : Loc nD τ sig) → Buf (Elt Ideal) ℓ)

/-- The arrays of rows, differences, factors and weights the kernel is launched on. -/
def arrH (c : Dev nD) : Vec Ideal S17408x2048 .f32 := V m c main_arg0
def arrX (c : Dev nD) : Vec Ideal S17408x2048 .f32 := V m c main_arg1
def arrM (c : Dev nD) : Vec Ideal S8x2048 .f32 := V m c main_v24
def arrW (c : Dev nD) : Vec Ideal S2048x768 .bf16 := V m c main_v14

/-- The six arguments. -/
def argH (c : Dev nD) : Vec Ideal S17408x2048 .f32 := m ((c.tc : Thread nD τ).loc main_arg0)
def argX (c : Dev nD) : Vec Ideal S17408x2048 .f32 := m ((c.tc : Thread nD τ).loc main_arg1)
def argM (c : Dev nD) : Vec Ideal S6x2048 .f32 := m ((c.tc : Thread nD τ).loc main_arg2)
def argW (c : Dev nD) : Vec Ideal S2x2048x96 .f32 := m ((c.tc : Thread nD τ).loc main_arg3)
def argA (c : Dev nD) : Vec Ideal S2x2048x96 .f32 := m ((c.tc : Thread nD τ).loc main_arg4)
def argG (c : Dev nD) : Vec Ideal S2048x256 .f32 := m ((c.tc : Thread nD τ).loc main_arg5)

/-- The row of factors that each group of lanes takes. -/
abbrev muRow (g : Fin 3) : Fin 6 := match g with | 0 => 5 | 1 => 1 | 2 => 4

/-- The rows of factors, gathered at three places. -/
theorem taken (x : Vec Ideal S6x2048 .f32) (i : IVec S3x1 32) (hi : ∀ g : Fin 3, i (ix2 g (0 : Fin 1)) = BitVec.ofNat 32 (muRow g).val)
    (g : Fin 3) (n : Fin 2048) :
    Host.gather gather_S6x2048_S3x1_S3x2048_1_0_n_n_0_1_12048 x i (ix2 g n) = x (ix2 (muRow g) n) :=
  Idealize.ShloMosaic.Routing.gather_row gather_S6x2048_S3x1_S3x2048_1_0_n_n_0_1_12048 rfl rfl rfl rfl rfl x i g n (muRow g) (hi g) (by decide +revert)

/-- The first three of eight rows. -/
theorem mu_top (x : Vec Ideal S8x2048 .f32) (u : Vec Ideal S3x2048 .f32) (r : Fin 8) (r' : Fin 3) (hr : r.val = r'.val) (n : Fin 2048) :
    Host.scatter scatter_S8x2048_S1_S3x2048_01_n_0_0 (fun _ b => b) x (broadcastInDim S1 ![] bcast_S_S1 (constantI S_ 32 0#32)) u (ix2 r n)
      = u (ix2 r' n) :=
  Cert.Top.scatter_rows scatter_S8x2048_S1_S3x2048_01_n_0_0 rfl rfl rfl x _ (fun _ => rfl) u r r' hr n

theorem arrM_apply (c : Dev nD) (r : Fin 8) (g : Fin 3) (hr : r.val = g.val) (n : Fin 2048) :
    arrM m c (ix2 r n) = argM m c (ix2 (muRow g) n) := by
  unfold arrM V
  after_reads_at
  refine (mu_top _ _ r g hr n).trans ?_
  exact taken (argM m c) _ (fun g => by match g with | 0 => rfl | 1 => rfl | 2 => rfl) g n

/-- Two directions' matrices side by side, and 64 lanes of zeros. -/
def pairEntry (w : Vec Ideal S2x2048x96 .f32) (k : Fin 2048) (l : Nat) : EReal :=
  if h : l < 192 then if h1 : l < 96 then w (ix3 0 k ⟨l, h1⟩) else w (ix3 1 k ⟨l - 96, by omega⟩) else 0

theorem paired (w : Vec Ideal S2x2048x96 .f32) (x0 x1 : Vec Ideal S2048x96 .f32) (z : EReal) (hz : z = 0) (k : Fin 2048) (l : Fin 256)
    (h0 : ∀ j, x0 (ix2 k j) = w (ix3 0 k j)) (h1 : ∀ j, x1 (ix2 k j) = w (ix3 1 k j)) :
    (if h : l.val < 192 then if h1 : l.val < 96 then x0 (ix2 k ⟨l.val, h1⟩) else x1 (ix2 k ⟨l.val - 96, by omega⟩) else z)
      = pairEntry w k l.val := by
  unfold pairEntry
  simp only [h0, h1, hz]

theorem word_0 : FloatOps.sitofp (F := Ideal) FTy.f32 0#32 = (0 : EReal) := by
  show (((0#32 : BitVec 32).toInt : ℝ) : EReal) = 0
  simp

/-- The weights at an entry. -/
def weight (g : Vec Ideal S2048x256 .f32) (w a : Vec Ideal S2x2048x96 .f32) (k : Fin 2048) (n : Fin 768) : EReal :=
  if h : n.val < 256 then g (ix2 k ⟨n.val, h⟩) else if n.val - 256 < 256 then pairEntry w k (n.val - 256) else pairEntry a k (n.val - 256 - 256)

theorem laid (g : Vec Ideal S2048x256 .f32) (w a : Vec Ideal S2x2048x96 .f32) (x0 x1 x2 : Vec Ideal S2048x256 .f32) (k : Fin 2048) (n : Fin 768)
    (h0 : ∀ l, x0 (ix2 k l) = g (ix2 k l)) (h1 : ∀ l, x1 (ix2 k l) = pairEntry w k l.val) (h2 : ∀ l, x2 (ix2 k l) = pairEntry a k l.val) :
    (if h : n.val < 256 then x0 (ix2 k ⟨n.val, h⟩) else if h : n.val - 256 < 256 then x1 (ix2 k ⟨n.val - 256, h⟩)
      else x2 (ix2 k ⟨n.val - 256 - 256, by omega⟩)) = weight g w a k n := by
  unfold weight
  by_cases h : n.val < 256
  · rw [dif_pos h, dif_pos h, h0]
  · rw [dif_neg h, dif_neg h]
    by_cases h' : n.val - 256 < 256
    · rw [dif_pos h', if_pos h', h1]
    · rw [dif_neg h', if_neg h', h2]

theorem arrW_apply (c : Dev nD) (k : Fin 2048) (n : Fin 768) : arrW m c (ix2 k n) = weight (argG m c) (argW m c) (argA m c) k n := by
  unfold arrW V
  after_reads_at
  refine laid (argG m c) (argW m c) (argA m c) _ _ _ k n ?_ ?_ ?_
  · intro l
    after_reads_at
    pointwise []
    rfl
  · intro l
    after_reads_at
    pointwise []
    refine paired (argW m c) _ _ _ word_0 k l ?_ ?_
    · intro j
      after_reads_at
      pointwise []
      rfl
    · intro j
      after_reads_at
      pointwise []
      rfl
  · intro l
    after_reads_at
    pointwise []
    refine paired (argA m c) _ _ _ word_0 k l ?_ ?_
    · intro j
      after_reads_at
      pointwise []
      rfl
    · intro j
      after_reads_at
      pointwise []
      rfl

/-- The result array. -/
def G (c : Dev nD) : Buf (Elt Ideal) ((c : Thread nD τ).loc main_v25) := whole (arrH m c) (arrX m c) (arrM m c) (arrW m c)

/-- What a grid point writes back is its block of the whole array. -/
theorem flushed_eq (c : Dev nD) (t : Fin cfg0.N) :
    (dats m 0 c).flushed 4 t = (win0_4.blk t).view.read (Elt Ideal) (G m c) := by
  rw [Value.flushed4_A m c t]
  exact read_whole t (arrH m c) (arrX m c) (arrM m c) (arrW m c) _ fun i j => out_A c t _ _ _ _ _ i j

/-- Every entry lies in some grid point's block. -/
theorem cover (i : S17408x768.Idx) :
    ∃ t : Fin cfg0.N, (cfg0.win 4).flush t = true ∧ i ∈ ((cfg0.win 4).blk t).view.set := by
  have h0 : (i 0 : Nat) < 17408 := (i 0).isLt
  have h1 : (i 1 : Nat) < 768 := (i 1).isLt
  refine ⟨⟨(i 0 : Nat) / 1024 * 3 + (i 1 : Nat) / 256, by show _ < grid0.N; rw [Gen.N_0]; omega⟩, flush0_4 _, ?_⟩
  generalize ht : (⟨(i 0 : Nat) / 1024 * 3 + (i 1 : Nat) / 256, by show _ < grid0.N; rw [Gen.N_0]; omega⟩ : Fin grid0.N) = t
  have hv : t.val = (i 0 : Nat) / 1024 * 3 + (i 1 : Nat) / 256 := by rw [← ht]
  show i ∈ ((View.whole main_v25).slice (win0_4.rect t)).set
  rw [View.set_slice_whole, Rect.mem_set_unit]
  have h := congrFun (index4 t)
  intro a
  match a with
  | ⟨0, _⟩ => show win0_4.index t 0 * 1024 ≤ (i 0 : Nat) ∧ (i 0 : Nat) < win0_4.index t 0 * 1024 + 1024
              rw [h 0]; show t.val / 3 * 1024 ≤ (i 0 : Nat) ∧ (i 0 : Nat) < t.val / 3 * 1024 + 1024; omega
  | ⟨1, _⟩ => show win0_4.index t 1 * 256 ≤ (i 1 : Nat) ∧ (i 1 : Nat) < win0_4.index t 1 * 256 + 256
              rw [h 1]; show t.val % 3 * 256 ≤ (i 1 : Nat) ∧ (i 1 : Nat) < t.val % 3 * 256 + 256; omega

/-- So the result array ends as the whole function. -/
theorem final (c : Dev nD) : (dats m 0 c).arrAt 4 cfg0.N = G m c :=
  (dats m 0 c).arrAt_eq_of_cover 4 (G m c) (fun t _ => flushed_eq m c t) cover

/-- A row mixed with one row of factors, at a lane. -/
def mixed (h x : Vec Ideal S17408x2048 .f32) (mu : Vec Ideal S6x2048 .f32) (r : Fin 17408) (i : Fin 6) (k : Fin 2048) : EReal :=
  h (ix2 r k) + x (ix2 r k) * mu (ix2 i k)

/-- The result at a row and a lane, from the arguments. -/
theorem G_apply (c : Dev nD) (r : Fin 17408) (n : Fin 768) :
    G m c (ix2 r n) = act (n.val / 256) (∑ k : Fin 2048, mixed (argH m c) (argX m c) (argM m c) r (muRow ⟨n.val / 256, by omega⟩) k
          * weight (argG m c) (argW m c) (argA m c) k n) := by
  have hH : arrH m c = argH m c := V_main_arg0 m c
  have hX : arrX m c = argX m c := V_main_arg1 m c
  show outA (arrH m c) (arrX m c) (arrM m c) (arrW m c) r n = _
  unfold outA mixed
  rw [hH, hX]
  refine congrArg (act _) (Finset.sum_congr rfl fun k _ => congrArg₂ (· * ·)
    (congrArg (fun y => argH m c (ix2 r k) + argX m c (ix2 r k) * y)
      (arrM_apply m c _ ⟨n.val / 256, by omega⟩ rfl k))
    (arrW_apply m c k n))

end Cert.Lora

end
-- ==== Proof.LoraClaims.lean ====
module

public import proofs.«01_k».proof.Defs
public import proofs.«01_k».proof.Proof.Gen.KernelLora.Frame
public import proofs.«01_k».proof.Proof.Gen.ReferenceLoraIdeal.Read
public import proofs.«01_k».proof.Proof.LoraArray
public import Idealize.ShloMosaic.Adequacy
public import Idealize.ShloMosaic.Init

/-! The claims about the low-rank pairs' first projection. -/

@[expose] public section

set_option maxRecDepth 16384

noncomputable section

namespace Cert.Lora

open Idealize.ShloMosaic Idealize.ShloMosaic.TcCoe Idealize.SL.Sem Cert.KernelLoraIdeal

/-- The five products in the reference. -/
theorem ref_g (h x : Vec Ideal S17408x2048 .f32) (mu : Vec Ideal S6x2048 .f32) (w : Vec Ideal S2048x256 .f32) (r : Fin 17408) (l : Fin 256) :
    Cert.ReferenceLoraIdeal.Read.val_main_v19 (F := Ideal) h x mu w (ix2 r l) = ∑ k : Fin 2048, mixed h x mu r 5 k * w (ix2 k l) := by
  unfold mixed
  pointwise [Cert.ReferenceLoraIdeal.Read.val_main_v19, Cert.ReferenceLoraIdeal.Read.val_main_v17, Cert.ReferenceLoraIdeal.Read.val_main_v16, Cert.ReferenceLoraIdeal.Read.val_main_v15, Cert.ReferenceLoraIdeal.Read.val_main_v14, Cert.ReferenceLoraIdeal.Read.val_main_v13, Cert.ReferenceLoraIdeal.Read.val_main_v12]

theorem ref_w0 (h x : Vec Ideal S17408x2048 .f32) (mu : Vec Ideal S6x2048 .f32) (w : Vec Ideal S2x2048x96 .f32) (r : Fin 17408) (l : Fin 96) :
    Cert.ReferenceLoraIdeal.Read.val_main_v28 (F := Ideal) h x mu w (ix2 r l) = ∑ k : Fin 2048, mixed h x mu r 1 k * w (ix3 0 k l) := by
  unfold mixed
  pointwise [Cert.ReferenceLoraIdeal.Read.val_main_v28, Cert.ReferenceLoraIdeal.Read.val_main_v5, Cert.ReferenceLoraIdeal.Read.val_main_v4, Cert.ReferenceLoraIdeal.Read.val_main_v3, Cert.ReferenceLoraIdeal.Read.val_main_v2, Cert.ReferenceLoraIdeal.Read.val_main_v1, Cert.ReferenceLoraIdeal.Read.val_main_v0, Cert.ReferenceLoraIdeal.Read.val_main_v27, Cert.ReferenceLoraIdeal.Read.val_main_v26]

theorem ref_w1 (h x : Vec Ideal S17408x2048 .f32) (mu : Vec Ideal S6x2048 .f32) (w : Vec Ideal S2x2048x96 .f32) (r : Fin 17408) (l : Fin 96) :
    Cert.ReferenceLoraIdeal.Read.val_main_v32 (F := Ideal) h x mu w (ix2 r l) = ∑ k : Fin 2048, mixed h x mu r 1 k * w (ix3 1 k l) := by
  unfold mixed
  pointwise [Cert.ReferenceLoraIdeal.Read.val_main_v32, Cert.ReferenceLoraIdeal.Read.val_main_v5, Cert.ReferenceLoraIdeal.Read.val_main_v4, Cert.ReferenceLoraIdeal.Read.val_main_v3, Cert.ReferenceLoraIdeal.Read.val_main_v2, Cert.ReferenceLoraIdeal.Read.val_main_v1, Cert.ReferenceLoraIdeal.Read.val_main_v0, Cert.ReferenceLoraIdeal.Read.val_main_v31, Cert.ReferenceLoraIdeal.Read.val_main_v30]

theorem ref_a0 (h x : Vec Ideal S17408x2048 .f32) (mu : Vec Ideal S6x2048 .f32) (w : Vec Ideal S2x2048x96 .f32) (r : Fin 17408) (l : Fin 96) :
    Cert.ReferenceLoraIdeal.Read.val_main_v36 (F := Ideal) h x mu w (ix2 r l) = ∑ k : Fin 2048, mixed h x mu r 4 k * w (ix3 0 k l) := by
  unfold mixed
  pointwise [Cert.ReferenceLoraIdeal.Read.val_main_v36, Cert.ReferenceLoraIdeal.Read.val_main_v11, Cert.ReferenceLoraIdeal.Read.val_main_v10, Cert.ReferenceLoraIdeal.Read.val_main_v9, Cert.ReferenceLoraIdeal.Read.val_main_v8, Cert.ReferenceLoraIdeal.Read.val_main_v7, Cert.ReferenceLoraIdeal.Read.val_main_v6, Cert.ReferenceLoraIdeal.Read.val_main_v35, Cert.ReferenceLoraIdeal.Read.val_main_v34]

theorem ref_a1 (h x : Vec Ideal S17408x2048 .f32) (mu : Vec Ideal S6x2048 .f32) (w : Vec Ideal S2x2048x96 .f32) (r : Fin 17408) (l : Fin 96) :
    Cert.ReferenceLoraIdeal.Read.val_main_v39 (F := Ideal) h x mu w (ix2 r l) = ∑ k : Fin 2048, mixed h x mu r 4 k * w (ix3 1 k l) := by
  unfold mixed
  pointwise [Cert.ReferenceLoraIdeal.Read.val_main_v39, Cert.ReferenceLoraIdeal.Read.val_main_v11, Cert.ReferenceLoraIdeal.Read.val_main_v10, Cert.ReferenceLoraIdeal.Read.val_main_v9, Cert.ReferenceLoraIdeal.Read.val_main_v8, Cert.ReferenceLoraIdeal.Read.val_main_v7, Cert.ReferenceLoraIdeal.Read.val_main_v6, Cert.ReferenceLoraIdeal.Read.val_main_v38, Cert.ReferenceLoraIdeal.Read.val_main_v37]

theorem tanh_zero : Ideal.tanh 0 = 0 := by
  show ((Real.tanh 0 : ℝ) : EReal) = 0
  simp

/-- A product with a pair of matrices laid side by side. -/
theorem pair_sum (f : Fin 2048 → EReal) (w : Vec Ideal S2x2048x96 .f32) (l : Nat) :
    ∑ k, f k * pairEntry w k l = if h : l < 192 then if h1 : l < 96 then ∑ k, f k * w (ix3 0 k ⟨l, h1⟩)
      else ∑ k, f k * w (ix3 1 k ⟨l - 96, by omega⟩) else 0 := by
  unfold pairEntry
  by_cases h : l < 192
  · by_cases h1 : l < 96
    · simp only [dif_pos h, dif_pos h1]
    · simp only [dif_pos h, dif_neg h1]
  · simp only [dif_neg h, mul_zero, Finset.sum_const_zero]

/-- The reference's lanes, put together from the five products. -/
theorem assemble (s : Fin 3 → Fin 2048 → EReal) (w a : Vec Ideal S2x2048x96 .f32) (g : Vec Ideal S2048x256 .f32)
    (q : Fin 256 → EReal) (q0 q1 p0 p1 : Fin 96 → EReal)
    (hg : ∀ l, q l = ∑ k, s 0 k * g (ix2 k l)) (hw0 : ∀ l, q0 l = ∑ k, s 1 k * w (ix3 0 k l)) (hw1 : ∀ l, q1 l = ∑ k, s 1 k * w (ix3 1 k l))
    (ha0 : ∀ l, p0 l = ∑ k, s 2 k * a (ix3 0 k l)) (ha1 : ∀ l, p1 l = ∑ k, s 2 k * a (ix3 1 k l)) (n : Fin 768) :
    (if h : n.val < 256 then Ideal.div 1 (1 + Ideal.exp (-q ⟨n.val, h⟩))
      else if h : n.val - 256 < 96 then Ideal.tanh (q0 ⟨n.val - 256, h⟩)
      else if h : n.val - 256 - 96 < 96 then Ideal.tanh (q1 ⟨n.val - 256 - 96, h⟩)
      else if n.val - 256 - 96 - 96 < 64 then 0
      else if h : n.val - 256 - 96 - 96 - 64 < 96 then p0 ⟨n.val - 256 - 96 - 96 - 64, h⟩
      else if h : n.val - 256 - 96 - 96 - 64 - 96 < 96 then p1 ⟨n.val - 256 - 96 - 96 - 64 - 96, h⟩ else (0 : EReal))
      = act (n.val / 256) (∑ k, s ⟨n.val / 256, by omega⟩ k * weight g w a k n) := by
  by_cases c0 : n.val < 256
  · have e : n.val / 256 = 0 := by omega
    have hwt : ∀ k, weight g w a k n = g (ix2 k ⟨n.val, c0⟩) := fun k => dif_pos c0
    rw [dif_pos c0, hg]
    simp only [e, hwt]
    rfl
  · rw [dif_neg c0]
    by_cases c1 : n.val < 512
    · have e : n.val / 256 = 1 := by omega
      have hwt : ∀ k, weight g w a k n = pairEntry w k (n.val - 256) := fun k => (dif_neg c0).trans (if_pos (by omega))
      simp only [e, hwt]
      rw [pair_sum (s ⟨1, by omega⟩)]
      rw [show ∀ y, act 1 y = Ideal.tanh y from fun y => rfl]
      by_cases d0 : n.val - 256 < 96
      · rw [dif_pos d0, hw0, dif_pos (show n.val - 256 < 192 by omega), dif_pos d0]; rfl
      · rw [dif_neg d0]
        by_cases d1 : n.val - 256 - 96 < 96
        · rw [dif_pos d1, hw1, dif_pos (show n.val - 256 < 192 by omega), dif_neg d0]; rfl
        · rw [dif_neg d1, if_pos (show n.val - 256 - 96 - 96 < 64 by omega), dif_neg (show ¬ n.val - 256 < 192 by omega), tanh_zero]
    · have e : n.val / 256 = 2 := by omega
      have hwt : ∀ k, weight g w a k n = pairEntry a k (n.val - 256 - 256) := fun k => (dif_neg c0).trans (if_neg (by omega))
      simp only [e, hwt]
      rw [pair_sum (s ⟨2, by omega⟩)]
      rw [show ∀ y, act 2 y = y from fun y => rfl]
      have e2 : n.val - 256 - 96 - 96 - 64 = n.val - 256 - 256 := by omega
      have h0 : ¬ n.val - 256 < 96 := by omega
      have h1 : ¬ n.val - 256 - 96 < 96 := by omega
      have h2 : ¬ n.val - 256 - 96 - 96 < 64 := by omega
      simp only [dif_neg h0, dif_neg h1, if_neg h2, e2, ha0, ha1]
      by_cases d0 : n.val - 256 - 256 < 96
      · have d1 : n.val - 256 - 256 < 192 := by omega
        simp only [dif_pos d0, dif_pos d1]
        rfl
      · by_cases d1 : n.val - 256 - 256 - 96 < 96
        · have d2 : n.val - 256 - 256 < 192 := by omega
          simp only [dif_neg d0, dif_pos d1, dif_pos d2]
          rfl
        · have d2 : ¬ n.val - 256 - 256 < 192 := by omega
          simp only [dif_neg d0, dif_neg d1, dif_neg d2]

/-- The reference at one element. -/
theorem ref_apply (h x : Vec Ideal S17408x2048 .f32) (mu : Vec Ideal S6x2048 .f32) (w a : Vec Ideal S2x2048x96 .f32) (g : Vec Ideal S2048x256 .f32)
    (r : Fin 17408) (n : Fin 768) :
    Cert.ReferenceLoraIdeal.Read.val_main_v41 (F := Ideal) h x mu w a g (ix2 r n)
      = act (n.val / 256) (∑ k : Fin 2048, mixed h x mu r (muRow ⟨n.val / 256, by omega⟩) k * weight g w a k n) := by
  have hg := ref_g h x mu g
  have hw0 := ref_w0 h x mu w
  have hw1 := ref_w1 h x mu w
  have ha0 := ref_a0 h x mu a
  have ha1 := ref_a1 h x mu a
  unfold Cert.ReferenceLoraIdeal.Read.val_main_v41 Cert.ReferenceLoraIdeal.Read.val_main_v40 Cert.ReferenceLoraIdeal.Read.val_main_v25 Cert.ReferenceLoraIdeal.Read.val_main_v23 Cert.ReferenceLoraIdeal.Read.val_main_v21 Cert.ReferenceLoraIdeal.Read.val_main_v20 Cert.ReferenceLoraIdeal.Read.val_main_v29 Cert.ReferenceLoraIdeal.Read.val_main_v33 Cert.ReferenceLoraIdeal.Read.val_main_v24 Cert.ReferenceLoraIdeal.Read.val_main_v22 Cert.ReferenceLoraIdeal.Read.val_main_v18
  generalize Cert.ReferenceLoraIdeal.Read.val_main_v19 (F := Ideal) h x mu g = q at hg ⊢
  generalize Cert.ReferenceLoraIdeal.Read.val_main_v28 (F := Ideal) h x mu w = q0 at hw0 ⊢
  generalize Cert.ReferenceLoraIdeal.Read.val_main_v32 (F := Ideal) h x mu w = q1 at hw1 ⊢
  generalize Cert.ReferenceLoraIdeal.Read.val_main_v36 (F := Ideal) h x mu a = p0 at ha0 ⊢
  generalize Cert.ReferenceLoraIdeal.Read.val_main_v39 (F := Ideal) h x mu a = p1 at ha1 ⊢
  pointwise [Cert.ReferenceLoraIdeal.Read.val_main_cst, Cert.ReferenceLoraIdeal.Read.val_main_cst_0, Cert.ReferenceLoraIdeal.Read.val_main_cst_1]
  exact assemble (fun j k => mixed h x mu r (muRow j) k) w a g (fun l => q (ix2 r l)) (fun l => q0 (ix2 r l)) (fun l => q1 (ix2 r l))
    (fun l => p0 (ix2 r l)) (fun l => p1 (ix2 r l)) (hg r) (hw0 r) (hw1 r) (ha0 r) (ha1 r) n

/-- The reference's result, on the kernel's arguments, is the kernel's result array. -/
theorem result_eq (m : (ℓ : Loc nD τ sig) → Buf (Elt Ideal) ℓ) (c : Dev nD) :
    Cert.ReferenceLoraIdeal.Read.val_main_v41 (F := Ideal) (argH m c) (argX m c) (argM m c) (argW m c) (argA m c) (argG m c) = G m c := by
  funext u
  idx_vars u
  exact (ref_apply (argH m c) (argX m c) (argM m c) (argW m c) (argA m c) (argG m c) u0 u1).trans (G_apply m c u0 u1).symm

theorem frame_reference : Cert.quiescent_ReferenceLoraIdeal := fun m ρ _ =>
  (θ_run Cert.ReferenceLoraIdeal.defs _ _).mono
    (fun r h => ⟨fun c => ⟨(h c).2.1, (h c).2.2⟩,
      Idealize.ShloMosaic.sem_eq_zero_of_no_sems (by decide) r.2⟩)
    (Cert.ReferenceLoraIdeal.Value.run (F := Ideal) m ρ)

theorem algebraic : Cert.algebraic_KernelLoraIdeal_ReferenceLoraIdeal := by
  intro m ρ m' ρ' _ hagree
  refine ⟨fun c => G m c, ?_, ?_⟩
  · exact (θ_run Cert.KernelLoraIdeal.defs _ _).mono (fun r h c => ⟨(h c).1.trans (final m c), (h c).2⟩)
      (Cert.KernelLoraIdeal.Value.run_blocks m ρ)
  · refine (θ_run Cert.ReferenceLoraIdeal.defs _ _).mono (fun r h c => ⟨(h c).1.trans ?_, (h c).2⟩)
      (Cert.ReferenceLoraIdeal.Value.run (F := Ideal) m' ρ')
    rw [Cert.ReferenceLoraIdeal.Read.val_main_v41_eq]
    obtain ⟨e0, e1, e2, e3, e4, e5⟩ := hagree c
    rw [e0, e1, e2, e3, e4, e5]
    exact result_eq m c

end Cert.Lora

end
-- ==== Proof.lean ====
module

public import proofs.«01_k».proof.Proof.AttnClaims
public import proofs.«01_k».proof.Proof.DownClaims
public import proofs.«01_k».proof.Proof.DownLatClaims
public import proofs.«01_k».proof.Proof.OutClaims
public import proofs.«01_k».proof.Proof.MlaOutClaims
public import proofs.«01_k».proof.Proof.UpClaims
public import proofs.«01_k».proof.Proof.UpLatClaims
public import proofs.«01_k».proof.Proof.RkvClaims
public import proofs.«01_k».proof.Proof.KvUpClaims
public import proofs.«01_k».proof.Proof.GateClaims
public import proofs.«01_k».proof.Proof.MlaDownClaims
public import proofs.«01_k».proof.Proof.QUpClaims
public import proofs.«01_k».proof.Proof.DecayClaims
public import proofs.«01_k».proof.Proof.IclrClaims
public import proofs.«01_k».proof.Proof.LoraClaims

/-! The certificate: every claim of the programs, put together. -/

@[expose] public section

noncomputable section

namespace Cert.Proof

open Idealize.ShloMosaic Idealize.SL.Sem

theorem claim : Cert.Claim := ⟨Cert.Kernel.Gen.facts,
  Cert.KernelIdeal.Gen.facts,
  Cert.ReferenceIdeal.Gen.facts,
  Cert.KernelDown.Gen.facts,
  Cert.KernelDownIdeal.Gen.facts,
  Cert.ReferenceDownIdeal.Gen.facts,
  Cert.KernelDownLat.Gen.facts,
  Cert.KernelDownLatIdeal.Gen.facts,
  Cert.ReferenceDownLatIdeal.Gen.facts,
  Cert.KernelOut.Gen.facts,
  Cert.KernelOutIdeal.Gen.facts,
  Cert.ReferenceOutIdeal.Gen.facts,
  Cert.KernelMlaOut.Gen.facts,
  Cert.KernelMlaOutIdeal.Gen.facts,
  Cert.ReferenceMlaOutIdeal.Gen.facts,
  Cert.KernelUp.Gen.facts,
  Cert.KernelUpIdeal.Gen.facts,
  Cert.ReferenceUpIdeal.Gen.facts,
  Cert.KernelUpLat.Gen.facts,
  Cert.KernelUpLatIdeal.Gen.facts,
  Cert.ReferenceUpLatIdeal.Gen.facts,
  Cert.KernelRkv.Gen.facts,
  Cert.KernelRkvIdeal.Gen.facts,
  Cert.ReferenceRkvIdeal.Gen.facts,
  Cert.KernelKvUp.Gen.facts,
  Cert.KernelKvUpIdeal.Gen.facts,
  Cert.ReferenceKvUpIdeal.Gen.facts,
  Cert.KernelGate.Gen.facts,
  Cert.KernelGateIdeal.Gen.facts,
  Cert.ReferenceGateIdeal.Gen.facts,
  Cert.KernelMlaDown.Gen.facts,
  Cert.KernelMlaDownIdeal.Gen.facts,
  Cert.ReferenceMlaDownIdeal.Gen.facts,
  Cert.KernelQUp.Gen.facts,
  Cert.KernelQUpIdeal.Gen.facts,
  Cert.ReferenceQUpIdeal.Gen.facts,
  Cert.KernelDecay.Gen.facts,
  Cert.KernelDecayIdeal.Gen.facts,
  Cert.ReferenceDecayIdeal.Gen.facts,
  Cert.KernelIclr.Gen.facts,
  Cert.KernelIclrIdeal.Gen.facts,
  Cert.ReferenceIclrIdeal.Gen.facts,
  Cert.KernelLora.Gen.facts,
  Cert.KernelLoraIdeal.Gen.facts,
  Cert.ReferenceLoraIdeal.Gen.facts,
  Cert.Pre_finite.Gen.facts,
  fun m ρ _ => Cert.Kernel.Gen.frame m ρ,
  fun m ρ _ => Cert.KernelIdeal.Gen.frame m ρ,
  fun m ρ _ => Cert.KernelIdeal.Gen.frame m ρ,
  Cert.Attn.frame_reference,
  fun m ρ _ => Cert.Attn.frame_reference m ρ trivial,
  fun m ρ _ => Cert.KernelDown.Gen.frame m ρ,
  fun m ρ _ => Cert.KernelDownIdeal.Gen.frame m ρ,
  Cert.Down.frame_reference,
  fun m ρ _ => Cert.KernelDownLat.Gen.frame m ρ,
  fun m ρ _ => Cert.KernelDownLatIdeal.Gen.frame m ρ,
  Cert.DownLat.frame_reference,
  fun m ρ _ => Cert.KernelOut.Gen.frame m ρ,
  fun m ρ _ => Cert.KernelOutIdeal.Gen.frame m ρ,
  Cert.Out.frame_reference,
  fun m ρ _ => Cert.KernelMlaOut.Gen.frame m ρ,
  fun m ρ _ => Cert.KernelMlaOutIdeal.Gen.frame m ρ,
  Cert.MlaOut.frame_reference,
  fun m ρ _ => Cert.KernelUp.Gen.frame m ρ,
  fun m ρ _ => Cert.KernelUpIdeal.Gen.frame m ρ,
  Cert.Up.frame_reference,
  fun m ρ _ => Cert.KernelUpLat.Gen.frame m ρ,
  fun m ρ _ => Cert.KernelUpLatIdeal.Gen.frame m ρ,
  Cert.UpLat.frame_reference,
  fun m ρ _ => Cert.KernelRkv.Gen.frame m ρ,
  fun m ρ _ => Cert.KernelRkvIdeal.Gen.frame m ρ,
  Cert.Rkv.frame_reference,
  fun m ρ _ => Cert.KernelKvUp.Gen.frame m ρ,
  fun m ρ _ => Cert.KernelKvUpIdeal.Gen.frame m ρ,
  Cert.KvUp.frame_reference,
  fun m ρ _ => Cert.KernelGate.Gen.frame m ρ,
  fun m ρ _ => Cert.KernelGateIdeal.Gen.frame m ρ,
  Cert.Gate.frame_reference,
  fun m ρ _ => Cert.KernelMlaDown.Gen.frame m ρ,
  fun m ρ _ => Cert.KernelMlaDownIdeal.Gen.frame m ρ,
  Cert.MlaDown.frame_reference,
  fun m ρ _ => Cert.KernelQUp.Gen.frame m ρ,
  fun m ρ _ => Cert.KernelQUpIdeal.Gen.frame m ρ,
  Cert.QUp.frame_reference,
  fun m ρ _ => Cert.KernelDecay.Gen.frame m ρ,
  fun m ρ _ => Cert.KernelDecayIdeal.Gen.frame m ρ,
  Cert.Decay.frame_reference,
  fun m ρ _ => Cert.KernelIclr.Gen.frame m ρ,
  fun m ρ _ => Cert.KernelIclrIdeal.Gen.frame m ρ,
  Cert.Iclr.frame_reference,
  fun m ρ _ => Cert.KernelLora.Gen.frame m ρ,
  fun m ρ _ => Cert.KernelLoraIdeal.Gen.frame m ρ,
  Cert.Lora.frame_reference,
  trivial,
  Cert.Attn.algebraic,
  trivial,
  Cert.Down.algebraic,
  trivial,
  Cert.DownLat.algebraic,
  trivial,
  Cert.Out.algebraic,
  trivial,
  Cert.MlaOut.algebraic,
  trivial,
  Cert.Up.algebraic,
  trivial,
  Cert.UpLat.algebraic,
  trivial,
  Cert.Rkv.algebraic,
  trivial,
  Cert.KvUp.algebraic,
  trivial,
  Cert.Gate.algebraic,
  trivial,
  Cert.MlaDown.algebraic,
  Cert.QUp.preserves,
  Cert.QUp.algebraic,
  trivial,
  Cert.Decay.algebraic,
  trivial,
  Cert.Iclr.algebraic,
  trivial,
  Cert.Lora.algebraic⟩

end Cert.Proof

end
